-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KGWin (m : (ℓ : Loc Cert.KGWin.nD Cert.KGWin.τ Cert.KGWin.sig) → Buf (Elt Bits) ℓ) : Prop :=
  True

def Pre_KGWinIdeal (m : (ℓ : Loc Cert.KGWinIdeal.nD Cert.KGWinIdeal.τ Cert.KGWinIdeal.sig) → Buf (Elt Ideal) ℓ) : Prop :=
  True

def Pre_RGWinIdeal (m : (ℓ : Loc Cert.RGWinIdeal.nD Cert.RGWinIdeal.τ Cert.RGWinIdeal.sig) → Buf (Elt Ideal) ℓ) : Prop :=
  True

def Pre_KDMerged (m : (ℓ : Loc Cert.KDMerged.nD Cert.KDMerged.τ Cert.KDMerged.sig) → Buf (Elt Bits) ℓ) : Prop :=
  True

def Pre_KDMergedIdeal (m : (ℓ : Loc Cert.KDMergedIdeal.nD Cert.KDMergedIdeal.τ Cert.KDMergedIdeal.sig) → Buf (Elt Ideal) ℓ) : Prop :=
  True

def Pre_RDMergedIdeal (m : (ℓ : Loc Cert.RDMergedIdeal.nD Cert.RDMergedIdeal.τ Cert.RDMergedIdeal.sig) → Buf (Elt Ideal) ℓ) : Prop :=
  True

def Pre_KGWout (m : (ℓ : Loc Cert.KGWout.nD Cert.KGWout.τ Cert.KGWout.sig) → Buf (Elt Bits) ℓ) : Prop :=
  True

def Pre_KGWoutIdeal (m : (ℓ : Loc Cert.KGWoutIdeal.nD Cert.KGWoutIdeal.τ Cert.KGWoutIdeal.sig) → Buf (Elt Ideal) ℓ) : Prop :=
  True

def Pre_RGWoutIdeal (m : (ℓ : Loc Cert.RGWoutIdeal.nD Cert.RGWoutIdeal.τ Cert.RGWoutIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KDU (m : (ℓ : Loc Cert.KDU.nD Cert.KDU.τ Cert.KDU.sig) → Buf (Elt Bits) ℓ) : Prop :=
  True

def Pre_KDUIdeal (m : (ℓ : Loc Cert.KDUIdeal.nD Cert.KDUIdeal.τ Cert.KDUIdeal.sig) → Buf (Elt Ideal) ℓ) : Prop :=
  True

def Pre_RDUIdeal (m : (ℓ : Loc Cert.RDUIdeal.nD Cert.RDUIdeal.τ Cert.RDUIdeal.sig) → Buf (Elt Ideal) ℓ) : Prop :=
  True

def Pre_KBranch (m : (ℓ : Loc Cert.KBranch.nD Cert.KBranch.τ Cert.KBranch.sig) → Buf (Elt Bits) ℓ) : Prop :=
  True

def Pre_KBranchIdeal (m : (ℓ : Loc Cert.KBranchIdeal.nD Cert.KBranchIdeal.τ Cert.KBranchIdeal.sig) → Buf (Elt Ideal) ℓ) : Prop :=
  True

def Pre_RBranchIdeal (m : (ℓ : Loc Cert.RBranchIdeal.nD Cert.RBranchIdeal.τ Cert.RBranchIdeal.sig) → Buf (Elt Ideal) ℓ) : Prop :=
  True

def Pre_KBranchC (m : (ℓ : Loc Cert.KBranchC.nD Cert.KBranchC.τ Cert.KBranchC.sig) → Buf (Elt Bits) ℓ) : Prop :=
  True

def Pre_KBranchCIdeal (m : (ℓ : Loc Cert.KBranchCIdeal.nD Cert.KBranchCIdeal.τ Cert.KBranchCIdeal.sig) → Buf (Elt Ideal) ℓ) : Prop :=
  True

def Pre_RBranchCIdeal (m : (ℓ : Loc Cert.RBranchCIdeal.nD Cert.RBranchCIdeal.τ Cert.RBranchCIdeal.sig) → Buf (Elt Ideal) ℓ) : Prop :=
  True

def Pre_KGWBranch (m : (ℓ : Loc Cert.KGWBranch.nD Cert.KGWBranch.τ Cert.KGWBranch.sig) → Buf (Elt Bits) ℓ) : Prop :=
  True

def Pre_KGWBranchIdeal (m : (ℓ : Loc Cert.KGWBranchIdeal.nD Cert.KGWBranchIdeal.τ Cert.KGWBranchIdeal.sig) → Buf (Elt Ideal) ℓ) : Prop :=
  True

def Pre_RGWBranchIdeal (m : (ℓ : Loc Cert.RGWBranchIdeal.nD Cert.RGWBranchIdeal.τ Cert.RGWBranchIdeal.sig) → Buf (Elt Ideal) ℓ) : Prop :=
  True

def Pre_KGWBranchC (m : (ℓ : Loc Cert.KGWBranchC.nD Cert.KGWBranchC.τ Cert.KGWBranchC.sig) → Buf (Elt Bits) ℓ) : Prop :=
  True

def Pre_KGWBranchCIdeal (m : (ℓ : Loc Cert.KGWBranchCIdeal.nD Cert.KGWBranchCIdeal.τ Cert.KGWBranchCIdeal.sig) → Buf (Elt Ideal) ℓ) : Prop :=
  True

def Pre_RGWBranchCIdeal (m : (ℓ : Loc Cert.RGWBranchCIdeal.nD Cert.RGWBranchCIdeal.τ Cert.RGWBranchCIdeal.sig) → Buf (Elt Ideal) ℓ) : Prop :=
  True

def Pre_KDO (m : (ℓ : Loc Cert.KDO.nD Cert.KDO.τ Cert.KDO.sig) → Buf (Elt Bits) ℓ) : Prop :=
  True

def Pre_KDOIdeal (m : (ℓ : Loc Cert.KDOIdeal.nD Cert.KDOIdeal.τ Cert.KDOIdeal.sig) → Buf (Elt Ideal) ℓ) : Prop :=
  True

def Pre_RDOIdeal (m : (ℓ : Loc Cert.RDOIdeal.nD Cert.RDOIdeal.τ Cert.RDOIdeal.sig) → Buf (Elt Ideal) ℓ) : Prop :=
  True

def Pre_KDOC (m : (ℓ : Loc Cert.KDOC.nD Cert.KDOC.τ Cert.KDOC.sig) → Buf (Elt Bits) ℓ) : Prop :=
  True

def Pre_KDOCIdeal (m : (ℓ : Loc Cert.KDOCIdeal.nD Cert.KDOCIdeal.τ Cert.KDOCIdeal.sig) → Buf (Elt Ideal) ℓ) : Prop :=
  True

def Pre_RDOCIdeal (m : (ℓ : Loc Cert.RDOCIdeal.nD Cert.RDOCIdeal.τ Cert.RDOCIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KGateA (m : (ℓ : Loc Cert.KGateA.nD Cert.KGateA.τ Cert.KGateA.sig) → Buf (Elt Bits) ℓ) : Prop :=
  True

def Pre_KGateAIdeal (m : (ℓ : Loc Cert.KGateAIdeal.nD Cert.KGateAIdeal.τ Cert.KGateAIdeal.sig) → Buf (Elt Ideal) ℓ) : Prop :=
  True

def Pre_RGateAIdeal (m : (ℓ : Loc Cert.RGateAIdeal.nD Cert.RGateAIdeal.τ Cert.RGateAIdeal.sig) → Buf (Elt Ideal) ℓ) : Prop :=
  True

def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KGateB (m : (ℓ : Loc Cert.KGateB.nD Cert.KGateB.τ Cert.KGateB.sig) → Buf (Elt Bits) ℓ) : Prop :=
  True

def Pre_KGateBIdeal (m : (ℓ : Loc Cert.KGateBIdeal.nD Cert.KGateBIdeal.τ Cert.KGateBIdeal.sig) → Buf (Elt Ideal) ℓ) : Prop :=
  True

def Pre_RGateBIdeal (m : (ℓ : Loc Cert.RGateBIdeal.nD Cert.RGateBIdeal.τ Cert.RGateBIdeal.sig) → Buf (Elt Ideal) ℓ) : Prop :=
  True

def Pre_KGateC (m : (ℓ : Loc Cert.KGateC.nD Cert.KGateC.τ Cert.KGateC.sig) → Buf (Elt Bits) ℓ) : Prop :=
  True

def Pre_KGateCIdeal (m : (ℓ : Loc Cert.KGateCIdeal.nD Cert.KGateCIdeal.τ Cert.KGateCIdeal.sig) → Buf (Elt Ideal) ℓ) : Prop :=
  True

def Pre_RGateCIdeal (m : (ℓ : Loc Cert.RGateCIdeal.nD Cert.RGateCIdeal.τ Cert.RGateCIdeal.sig) → Buf (Elt Ideal) ℓ) : Prop :=
  True

def Pre_KConvC (m : (ℓ : Loc Cert.KConvC.nD Cert.KConvC.τ Cert.KConvC.sig) → Buf (Elt Bits) ℓ) : Prop :=
  True

def Pre_KConvCIdeal (m : (ℓ : Loc Cert.KConvCIdeal.nD Cert.KConvCIdeal.τ Cert.KConvCIdeal.sig) → Buf (Elt Ideal) ℓ) : Prop :=
  True

def Pre_RConvCIdeal (m : (ℓ : Loc Cert.RConvCIdeal.nD Cert.RConvCIdeal.τ Cert.RConvCIdeal.sig) → Buf (Elt Ideal) ℓ) : Prop :=
  True

def Pre_KConvB (m : (ℓ : Loc Cert.KConvB.nD Cert.KConvB.τ Cert.KConvB.sig) → Buf (Elt Bits) ℓ) : Prop :=
  True

def Pre_KConvBIdeal (m : (ℓ : Loc Cert.KConvBIdeal.nD Cert.KConvBIdeal.τ Cert.KConvBIdeal.sig) → Buf (Elt Ideal) ℓ) : Prop :=
  True

def Pre_RConvBIdeal (m : (ℓ : Loc Cert.RConvBIdeal.nD Cert.RConvBIdeal.τ Cert.RConvBIdeal.sig) → Buf (Elt Ideal) ℓ) : Prop :=
  True

def Pre_KRmsF (m : (ℓ : Loc Cert.KRmsF.nD Cert.KRmsF.τ Cert.KRmsF.sig) → Buf (Elt Bits) ℓ) : Prop :=
  True

def Pre_KRmsFIdeal (m : (ℓ : Loc Cert.KRmsFIdeal.nD Cert.KRmsFIdeal.τ Cert.KRmsFIdeal.sig) → Buf (Elt Ideal) ℓ) : Prop :=
  True

def Pre_RRmsFIdeal (m : (ℓ : Loc Cert.RRmsFIdeal.nD Cert.RRmsFIdeal.τ Cert.RRmsFIdeal.sig) → Buf (Elt Ideal) ℓ) : Prop :=
  True

def Pre_KGateAF (m : (ℓ : Loc Cert.KGateAF.nD Cert.KGateAF.τ Cert.KGateAF.sig) → Buf (Elt Bits) ℓ) : Prop :=
  True

def Pre_KGateAFIdeal (m : (ℓ : Loc Cert.KGateAFIdeal.nD Cert.KGateAFIdeal.τ Cert.KGateAFIdeal.sig) → Buf (Elt Ideal) ℓ) : Prop :=
  True

def Pre_RGateAFIdeal (m : (ℓ : Loc Cert.RGateAFIdeal.nD Cert.RGateAFIdeal.τ Cert.RGateAFIdeal.sig) → Buf (Elt Ideal) ℓ) : Prop :=
  True

def Pre_KGateBF (m : (ℓ : Loc Cert.KGateBF.nD Cert.KGateBF.τ Cert.KGateBF.sig) → Buf (Elt Bits) ℓ) : Prop :=
  True

def Pre_KGateBFIdeal (m : (ℓ : Loc Cert.KGateBFIdeal.nD Cert.KGateBFIdeal.τ Cert.KGateBFIdeal.sig) → Buf (Elt Ideal) ℓ) : Prop :=
  True

def Pre_RGateBFIdeal (m : (ℓ : Loc Cert.RGateBFIdeal.nD Cert.RGateBFIdeal.τ Cert.RGateBFIdeal.sig) → Buf (Elt Ideal) ℓ) : Prop :=
  True

def Pre_KGateCF (m : (ℓ : Loc Cert.KGateCF.nD Cert.KGateCF.τ Cert.KGateCF.sig) → Buf (Elt Bits) ℓ) : Prop :=
  True

def Pre_KGateCFIdeal (m : (ℓ : Loc Cert.KGateCFIdeal.nD Cert.KGateCFIdeal.τ Cert.KGateCFIdeal.sig) → Buf (Elt Ideal) ℓ) : Prop :=
  True

def Pre_RGateCFIdeal (m : (ℓ : Loc Cert.RGateCFIdeal.nD Cert.RGateCFIdeal.τ Cert.RGateCFIdeal.sig) → Buf (Elt Ideal) ℓ) : Prop :=
  True

def Pre_KMergeF (m : (ℓ : Loc Cert.KMergeF.nD Cert.KMergeF.τ Cert.KMergeF.sig) → Buf (Elt Bits) ℓ) : Prop :=
  True

def Pre_KMergeFIdeal (m : (ℓ : Loc Cert.KMergeFIdeal.nD Cert.KMergeFIdeal.τ Cert.KMergeFIdeal.sig) → Buf (Elt Ideal) ℓ) : Prop :=
  True

def Pre_RMergeFIdeal (m : (ℓ : Loc Cert.RMergeFIdeal.nD Cert.RMergeFIdeal.τ Cert.RMergeFIdeal.sig) → Buf (Elt Ideal) ℓ) : Prop :=
  True

def Pre_KConvCF (m : (ℓ : Loc Cert.KConvCF.nD Cert.KConvCF.τ Cert.KConvCF.sig) → Buf (Elt Bits) ℓ) : Prop :=
  True

def Pre_KConvCFIdeal (m : (ℓ : Loc Cert.KConvCFIdeal.nD Cert.KConvCFIdeal.τ Cert.KConvCFIdeal.sig) → Buf (Elt Ideal) ℓ) : Prop :=
  True

def Pre_RConvCFIdeal (m : (ℓ : Loc Cert.RConvCFIdeal.nD Cert.RConvCFIdeal.τ Cert.RConvCFIdeal.sig) → Buf (Elt Ideal) ℓ) : Prop :=
  True

def Pre_KConvBF (m : (ℓ : Loc Cert.KConvBF.nD Cert.KConvBF.τ Cert.KConvBF.sig) → Buf (Elt Bits) ℓ) : Prop :=
  True

def Pre_KConvBFIdeal (m : (ℓ : Loc Cert.KConvBFIdeal.nD Cert.KConvBFIdeal.τ Cert.KConvBFIdeal.sig) → Buf (Elt Ideal) ℓ) : Prop :=
  True

def Pre_RConvBFIdeal (m : (ℓ : Loc Cert.RConvBFIdeal.nD Cert.RConvBFIdeal.τ Cert.RConvBFIdeal.sig) → Buf (Elt Ideal) ℓ) : Prop :=
  True

def Pre_KGatesF (m : (ℓ : Loc Cert.KGatesF.nD Cert.KGatesF.τ Cert.KGatesF.sig) → Buf (Elt Bits) ℓ) : Prop :=
  True

def Pre_KGatesFIdeal (m : (ℓ : Loc Cert.KGatesFIdeal.nD Cert.KGatesFIdeal.τ Cert.KGatesFIdeal.sig) → Buf (Elt Ideal) ℓ) : Prop :=
  True

def Pre_RGatesFIdeal (m : (ℓ : Loc Cert.RGatesFIdeal.nD Cert.RGatesFIdeal.τ Cert.RGatesFIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KAdamC (m : (ℓ : Loc Cert.KAdamC.nD Cert.KAdamC.τ Cert.KAdamC.sig) → Buf (Elt Bits) ℓ) : Prop :=
  True

def Pre_KAdamCIdeal (m : (ℓ : Loc Cert.KAdamCIdeal.nD Cert.KAdamCIdeal.τ Cert.KAdamCIdeal.sig) → Buf (Elt Ideal) ℓ) : Prop :=
  True

def Pre_RAdamCIdeal (m : (ℓ : Loc Cert.RAdamCIdeal.nD Cert.RAdamCIdeal.τ Cert.RAdamCIdeal.sig) → Buf (Elt Ideal) ℓ) : Prop :=
  True

def Pre_KAdamIn (m : (ℓ : Loc Cert.KAdamIn.nD Cert.KAdamIn.τ Cert.KAdamIn.sig) → Buf (Elt Bits) ℓ) : Prop :=
  True

def Pre_KAdamInIdeal (m : (ℓ : Loc Cert.KAdamInIdeal.nD Cert.KAdamInIdeal.τ Cert.KAdamInIdeal.sig) → Buf (Elt Ideal) ℓ) : Prop :=
  True

def Pre_RAdamInIdeal (m : (ℓ : Loc Cert.RAdamInIdeal.nD Cert.RAdamInIdeal.τ Cert.RAdamInIdeal.sig) → Buf (Elt Ideal) ℓ) : Prop :=
  True

def Pre_KAdamConvB (m : (ℓ : Loc Cert.KAdamConvB.nD Cert.KAdamConvB.τ Cert.KAdamConvB.sig) → Buf (Elt Bits) ℓ) : Prop :=
  True

def Pre_KAdamConvBIdeal (m : (ℓ : Loc Cert.KAdamConvBIdeal.nD Cert.KAdamConvBIdeal.τ Cert.KAdamConvBIdeal.sig) → Buf (Elt Ideal) ℓ) : Prop :=
  True

def Pre_RAdamConvBIdeal (m : (ℓ : Loc Cert.RAdamConvBIdeal.nD Cert.RAdamConvBIdeal.τ Cert.RAdamConvBIdeal.sig) → Buf (Elt Ideal) ℓ) : Prop :=
  True

def Pre_KAdamConvC (m : (ℓ : Loc Cert.KAdamConvC.nD Cert.KAdamConvC.τ Cert.KAdamConvC.sig) → Buf (Elt Bits) ℓ) : Prop :=
  True

def Pre_KAdamConvCIdeal (m : (ℓ : Loc Cert.KAdamConvCIdeal.nD Cert.KAdamConvCIdeal.τ Cert.KAdamConvCIdeal.sig) → Buf (Elt Ideal) ℓ) : Prop :=
  True

def Pre_RAdamConvCIdeal (m : (ℓ : Loc Cert.RAdamConvCIdeal.nD Cert.RAdamConvCIdeal.τ Cert.RAdamConvCIdeal.sig) → Buf (Elt Ideal) ℓ) : Prop :=
  True

def Pre_KAdamMeta (m : (ℓ : Loc Cert.KAdamMeta.nD Cert.KAdamMeta.τ Cert.KAdamMeta.sig) → Buf (Elt Bits) ℓ) : Prop :=
  True

def Pre_KAdamMetaIdeal (m : (ℓ : Loc Cert.KAdamMetaIdeal.nD Cert.KAdamMetaIdeal.τ Cert.KAdamMetaIdeal.sig) → Buf (Elt Ideal) ℓ) : Prop :=
  True

def Pre_RAdamMetaIdeal (m : (ℓ : Loc Cert.RAdamMetaIdeal.nD Cert.RAdamMetaIdeal.τ Cert.RAdamMetaIdeal.sig) → Buf (Elt Ideal) ℓ) : Prop :=
  True

def Pre_KAdamSmall (m : (ℓ : Loc Cert.KAdamSmall.nD Cert.KAdamSmall.τ Cert.KAdamSmall.sig) → Buf (Elt Bits) ℓ) : Prop :=
  True

def Pre_KAdamSmallIdeal (m : (ℓ : Loc Cert.KAdamSmallIdeal.nD Cert.KAdamSmallIdeal.τ Cert.KAdamSmallIdeal.sig) → Buf (Elt Ideal) ℓ) : Prop :=
  True

def Pre_RAdamSmallIdeal (m : (ℓ : Loc Cert.RAdamSmallIdeal.nD Cert.RAdamSmallIdeal.τ Cert.RAdamSmallIdeal.sig) → Buf (Elt Ideal) ℓ) : Prop :=
  True

def Pre_KSsdBwd (m : (ℓ : Loc Cert.KSsdBwd.nD Cert.KSsdBwd.τ Cert.KSsdBwd.sig) → Buf (Elt Bits) ℓ) : Prop :=
  True

def Pre_KSsdBwdIdeal (m : (ℓ : Loc Cert.KSsdBwdIdeal.nD Cert.KSsdBwdIdeal.τ Cert.KSsdBwdIdeal.sig) → Buf (Elt Ideal) ℓ) : Prop :=
  True

def Pre_KGdnFwd (m : (ℓ : Loc Cert.KGdnFwd.nD Cert.KGdnFwd.τ Cert.KGdnFwd.sig) → Buf (Elt Bits) ℓ) : Prop :=
  True

def Pre_KGdnFwdIdeal (m : (ℓ : Loc Cert.KGdnFwdIdeal.nD Cert.KGdnFwdIdeal.τ Cert.KGdnFwdIdeal.sig) → Buf (Elt Ideal) ℓ) : Prop :=
  True

def Pre_KSsdFwd (m : (ℓ : Loc Cert.KSsdFwd.nD Cert.KSsdFwd.τ Cert.KSsdFwd.sig) → Buf (Elt Bits) ℓ) : Prop :=
  True

def Pre_KSsdFwdIdeal (m : (ℓ : Loc Cert.KSsdFwdIdeal.nD Cert.KSsdFwdIdeal.τ Cert.KSsdFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KGWin [hKGWin : Cert.KGWin.Facts] : Prop :=
  ∀ (m : (ℓ : Loc Cert.KGWin.nD Cert.KGWin.τ Cert.KGWin.sig) → Buf (Elt Bits) ℓ) (g : Dev Cert.KGWin.nD → PrngReg), Pre_KGWin m →
    θ_run (Cert.KGWin.defs (F := Bits)) (onTc (τ := Cert.KGWin.τ) (Cert.KGWin.main (F := Bits))) ⟨m, fun _ => 0, g⟩ (fun r => (∀ c : Dev Cert.KGWin.nD,
      r.2.mem ((c.tc : Thread Cert.KGWin.nD Cert.KGWin.τ).loc Cert.KGWin.main_arg0) = m ((c.tc : Thread Cert.KGWin.nD Cert.KGWin.τ).loc Cert.KGWin.main_arg0)
      ∧ r.2.mem ((c.tc : Thread Cert.KGWin.nD Cert.KGWin.τ).loc Cert.KGWin.main_arg1) = m ((c.tc : Thread Cert.KGWin.nD Cert.KGWin.τ).loc Cert.KGWin.main_arg1))
      ∧ r.2.sem = fun _ => 0)

def quiescent_KGWinIdeal [hKGWinIdeal : Cert.KGWinIdeal.Facts] : Prop :=
  ∀ (m : (ℓ : Loc Cert.KGWinIdeal.nD Cert.KGWinIdeal.τ Cert.KGWinIdeal.sig) → Buf (Elt Ideal) ℓ) (g : Dev Cert.KGWinIdeal.nD → PrngReg), Pre_KGWinIdeal m →
    θ_run (Cert.KGWinIdeal.defs (F := Ideal)) (onTc (τ := Cert.KGWinIdeal.τ) (Cert.KGWinIdeal.main (F := Ideal))) ⟨m, fun _ => 0, g⟩ (fun r => (∀ c : Dev Cert.KGWinIdeal.nD,
      r.2.mem ((c.tc : Thread Cert.KGWinIdeal.nD Cert.KGWinIdeal.τ).loc Cert.KGWinIdeal.main_arg0) = m ((c.tc : Thread Cert.KGWinIdeal.nD Cert.KGWinIdeal.τ).loc Cert.KGWinIdeal.main_arg0)
      ∧ r.2.mem ((c.tc : Thread Cert.KGWinIdeal.nD Cert.KGWinIdeal.τ).loc Cert.KGWinIdeal.main_arg1) = m ((c.tc : Thread Cert.KGWinIdeal.nD Cert.KGWinIdeal.τ).loc Cert.KGWinIdeal.main_arg1))
      ∧ r.2.sem = fun _ => 0)

def quiescent_RGWinIdeal [hRGWinIdeal : Cert.RGWinIdeal.Facts] : Prop :=
  ∀ (m : (ℓ : Loc Cert.RGWinIdeal.nD Cert.RGWinIdeal.τ Cert.RGWinIdeal.sig) → Buf (Elt Ideal) ℓ) (g : Dev Cert.RGWinIdeal.nD → PrngReg), Pre_RGWinIdeal m →
    θ_run (Cert.RGWinIdeal.defs (F := Ideal)) (onTc (τ := Cert.RGWinIdeal.τ) (Cert.RGWinIdeal.main (F := Ideal))) ⟨m, fun _ => 0, g⟩ (fun r => (∀ c : Dev Cert.RGWinIdeal.nD,
      r.2.mem ((c.tc : Thread Cert.RGWinIdeal.nD Cert.RGWinIdeal.τ).loc Cert.RGWinIdeal.main_arg0) = m ((c.tc : Thread Cert.RGWinIdeal.nD Cert.RGWinIdeal.τ).loc Cert.RGWinIdeal.main_arg0)
      ∧ r.2.mem ((c.tc : Thread Cert.RGWinIdeal.nD Cert.RGWinIdeal.τ).loc Cert.RGWinIdeal.main_arg1) = m ((c.tc : Thread Cert.RGWinIdeal.nD Cert.RGWinIdeal.τ).loc Cert.RGWinIdeal.main_arg1))
      ∧ r.2.sem = fun _ => 0)

def quiescent_KDMerged [hKDMerged : Cert.KDMerged.Facts] : Prop :=
  ∀ (m : (ℓ : Loc Cert.KDMerged.nD Cert.KDMerged.τ Cert.KDMerged.sig) → Buf (Elt Bits) ℓ) (g : Dev Cert.KDMerged.nD → PrngReg), Pre_KDMerged m →
    θ_run (Cert.KDMerged.defs (F := Bits)) (onTc (τ := Cert.KDMerged.τ) (Cert.KDMerged.main (F := Bits))) ⟨m, fun _ => 0, g⟩ (fun r => (∀ c : Dev Cert.KDMerged.nD,
      r.2.mem ((c.tc : Thread Cert.KDMerged.nD Cert.KDMerged.τ).loc Cert.KDMerged.main_arg0) = m ((c.tc : Thread Cert.KDMerged.nD Cert.KDMerged.τ).loc Cert.KDMerged.main_arg0)
      ∧ r.2.mem ((c.tc : Thread Cert.KDMerged.nD Cert.KDMerged.τ).loc Cert.KDMerged.main_arg1) = m ((c.tc : Thread Cert.KDMerged.nD Cert.KDMerged.τ).loc Cert.KDMerged.main_arg1))
      ∧ r.2.sem = fun _ => 0)

def quiescent_KDMergedIdeal [hKDMergedIdeal : Cert.KDMergedIdeal.Facts] : Prop :=
  ∀ (m : (ℓ : Loc Cert.KDMergedIdeal.nD Cert.KDMergedIdeal.τ Cert.KDMergedIdeal.sig) → Buf (Elt Ideal) ℓ) (g : Dev Cert.KDMergedIdeal.nD → PrngReg), Pre_KDMergedIdeal m →
    θ_run (Cert.KDMergedIdeal.defs (F := Ideal)) (onTc (τ := Cert.KDMergedIdeal.τ) (Cert.KDMergedIdeal.main (F := Ideal))) ⟨m, fun _ => 0, g⟩ (fun r => (∀ c : Dev Cert.KDMergedIdeal.nD,
      r.2.mem ((c.tc : Thread Cert.KDMergedIdeal.nD Cert.KDMergedIdeal.τ).loc Cert.KDMergedIdeal.main_arg0) = m ((c.tc : Thread Cert.KDMergedIdeal.nD Cert.KDMergedIdeal.τ).loc Cert.KDMergedIdeal.main_arg0)
      ∧ r.2.mem ((c.tc : Thread Cert.KDMergedIdeal.nD Cert.KDMergedIdeal.τ).loc Cert.KDMergedIdeal.main_arg1) = m ((c.tc : Thread Cert.KDMergedIdeal.nD Cert.KDMergedIdeal.τ).loc Cert.KDMergedIdeal.main_arg1))
      ∧ r.2.sem = fun _ => 0)

def quiescent_RDMergedIdeal [hRDMergedIdeal : Cert.RDMergedIdeal.Facts] : Prop :=
  ∀ (m : (ℓ : Loc Cert.RDMergedIdeal.nD Cert.RDMergedIdeal.τ Cert.RDMergedIdeal.sig) → Buf (Elt Ideal) ℓ) (g : Dev Cert.RDMergedIdeal.nD → PrngReg), Pre_RDMergedIdeal m →
    θ_run (Cert.RDMergedIdeal.defs (F := Ideal)) (onTc (τ := Cert.RDMergedIdeal.τ) (Cert.RDMergedIdeal.main (F := Ideal))) ⟨m, fun _ => 0, g⟩ (fun r => (∀ c : Dev Cert.RDMergedIdeal.nD,
      r.2.mem ((c.tc : Thread Cert.RDMergedIdeal.nD Cert.RDMergedIdeal.τ).loc Cert.RDMergedIdeal.main_arg0) = m ((c.tc : Thread Cert.RDMergedIdeal.nD Cert.RDMergedIdeal.τ).loc Cert.RDMergedIdeal.main_arg0)
      ∧ r.2.mem ((c.tc : Thread Cert.RDMergedIdeal.nD Cert.RDMergedIdeal.τ).loc Cert.RDMergedIdeal.main_arg1) = m ((c.tc : Thread Cert.RDMergedIdeal.nD Cert.RDMergedIdeal.τ).loc Cert.RDMergedIdeal.main_arg1))
      ∧ r.2.sem = fun _ => 0)

def quiescent_KGWout [hKGWout : Cert.KGWout.Facts] : Prop :=
  ∀ (m : (ℓ : Loc Cert.KGWout.nD Cert.KGWout.τ Cert.KGWout.sig) → Buf (Elt Bits) ℓ) (g : Dev Cert.KGWout.nD → PrngReg), Pre_KGWout m →
    θ_run (Cert.KGWout.defs (F := Bits)) (onTc (τ := Cert.KGWout.τ) (Cert.KGWout.main (F := Bits))) ⟨m, fun _ => 0, g⟩ (fun r => (∀ c : Dev Cert.KGWout.nD,
      r.2.mem ((c.tc : Thread Cert.KGWout.nD Cert.KGWout.τ).loc Cert.KGWout.main_arg0) = m ((c.tc : Thread Cert.KGWout.nD Cert.KGWout.τ).loc Cert.KGWout.main_arg0)
      ∧ r.2.mem ((c.tc : Thread Cert.KGWout.nD Cert.KGWout.τ).loc Cert.KGWout.main_arg1) = m ((c.tc : Thread Cert.KGWout.nD Cert.KGWout.τ).loc Cert.KGWout.main_arg1))
      ∧ r.2.sem = fun _ => 0)

def quiescent_KGWoutIdeal [hKGWoutIdeal : Cert.KGWoutIdeal.Facts] : Prop :=
  ∀ (m : (ℓ : Loc Cert.KGWoutIdeal.nD Cert.KGWoutIdeal.τ Cert.KGWoutIdeal.sig) → Buf (Elt Ideal) ℓ) (g : Dev Cert.KGWoutIdeal.nD → PrngReg), Pre_KGWoutIdeal m →
    θ_run (Cert.KGWoutIdeal.defs (F := Ideal)) (onTc (τ := Cert.KGWoutIdeal.τ) (Cert.KGWoutIdeal.main (F := Ideal))) ⟨m, fun _ => 0, g⟩ (fun r => (∀ c : Dev Cert.KGWoutIdeal.nD,
      r.2.mem ((c.tc : Thread Cert.KGWoutIdeal.nD Cert.KGWoutIdeal.τ).loc Cert.KGWoutIdeal.main_arg0) = m ((c.tc : Thread Cert.KGWoutIdeal.nD Cert.KGWoutIdeal.τ).loc Cert.KGWoutIdeal.main_arg0)
      ∧ r.2.mem ((c.tc : Thread Cert.KGWoutIdeal.nD Cert.KGWoutIdeal.τ).loc Cert.KGWoutIdeal.main_arg1) = m ((c.tc : Thread Cert.KGWoutIdeal.nD Cert.KGWoutIdeal.τ).loc Cert.KGWoutIdeal.main_arg1))
      ∧ r.2.sem = fun _ => 0)

def quiescent_RGWoutIdeal [hRGWoutIdeal : Cert.RGWoutIdeal.Facts] : Prop :=
  ∀ (m : (ℓ : Loc Cert.RGWoutIdeal.nD Cert.RGWoutIdeal.τ Cert.RGWoutIdeal.sig) → Buf (Elt Ideal) ℓ) (g : Dev Cert.RGWoutIdeal.nD → PrngReg), Pre_RGWoutIdeal m →
    θ_run (Cert.RGWoutIdeal.defs (F := Ideal)) (onTc (τ := Cert.RGWoutIdeal.τ) (Cert.RGWoutIdeal.main (F := Ideal))) ⟨m, fun _ => 0, g⟩ (fun r => (∀ c : Dev Cert.RGWoutIdeal.nD,
      r.2.mem ((c.tc : Thread Cert.RGWoutIdeal.nD Cert.RGWoutIdeal.τ).loc Cert.RGWoutIdeal.main_arg0) = m ((c.tc : Thread Cert.RGWoutIdeal.nD Cert.RGWoutIdeal.τ).loc Cert.RGWoutIdeal.main_arg0)
      ∧ r.2.mem ((c.tc : Thread Cert.RGWoutIdeal.nD Cert.RGWoutIdeal.τ).loc Cert.RGWoutIdeal.main_arg1) = m ((c.tc : Thread Cert.RGWoutIdeal.nD Cert.RGWoutIdeal.τ).loc Cert.RGWoutIdeal.main_arg1))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1))
      ∧ r.2.sem = fun _ => 0)

def quiescent_KDU [hKDU : Cert.KDU.Facts] : Prop :=
  ∀ (m : (ℓ : Loc Cert.KDU.nD Cert.KDU.τ Cert.KDU.sig) → Buf (Elt Bits) ℓ) (g : Dev Cert.KDU.nD → PrngReg), Pre_KDU m →
    θ_run (Cert.KDU.defs (F := Bits)) (onTc (τ := Cert.KDU.τ) (Cert.KDU.main (F := Bits))) ⟨m, fun _ => 0, g⟩ (fun r => (∀ c : Dev Cert.KDU.nD,
      r.2.mem ((c.tc : Thread Cert.KDU.nD Cert.KDU.τ).loc Cert.KDU.main_arg0) = m ((c.tc : Thread Cert.KDU.nD Cert.KDU.τ).loc Cert.KDU.main_arg0)
      ∧ r.2.mem ((c.tc : Thread Cert.KDU.nD Cert.KDU.τ).loc Cert.KDU.main_arg1) = m ((c.tc : Thread Cert.KDU.nD Cert.KDU.τ).loc Cert.KDU.main_arg1))
      ∧ r.2.sem = fun _ => 0)

def quiescent_KDUIdeal [hKDUIdeal : Cert.KDUIdeal.Facts] : Prop :=
  ∀ (m : (ℓ : Loc Cert.KDUIdeal.nD Cert.KDUIdeal.τ Cert.KDUIdeal.sig) → Buf (Elt Ideal) ℓ) (g : Dev Cert.KDUIdeal.nD → PrngReg), Pre_KDUIdeal m →
    θ_run (Cert.KDUIdeal.defs (F := Ideal)) (onTc (τ := Cert.KDUIdeal.τ) (Cert.KDUIdeal.main (F := Ideal))) ⟨m, fun _ => 0, g⟩ (fun r => (∀ c : Dev Cert.KDUIdeal.nD,
      r.2.mem ((c.tc : Thread Cert.KDUIdeal.nD Cert.KDUIdeal.τ).loc Cert.KDUIdeal.main_arg0) = m ((c.tc : Thread Cert.KDUIdeal.nD Cert.KDUIdeal.τ).loc Cert.KDUIdeal.main_arg0)
      ∧ r.2.mem ((c.tc : Thread Cert.KDUIdeal.nD Cert.KDUIdeal.τ).loc Cert.KDUIdeal.main_arg1) = m ((c.tc : Thread Cert.KDUIdeal.nD Cert.KDUIdeal.τ).loc Cert.KDUIdeal.main_arg1))
      ∧ r.2.sem = fun _ => 0)

def quiescent_RDUIdeal [hRDUIdeal : Cert.RDUIdeal.Facts] : Prop :=
  ∀ (m : (ℓ : Loc Cert.RDUIdeal.nD Cert.RDUIdeal.τ Cert.RDUIdeal.sig) → Buf (Elt Ideal) ℓ) (g : Dev Cert.RDUIdeal.nD → PrngReg), Pre_RDUIdeal m →
    θ_run (Cert.RDUIdeal.defs (F := Ideal)) (onTc (τ := Cert.RDUIdeal.τ) (Cert.RDUIdeal.main (F := Ideal))) ⟨m, fun _ => 0, g⟩ (fun r => (∀ c : Dev Cert.RDUIdeal.nD,
      r.2.mem ((c.tc : Thread Cert.RDUIdeal.nD Cert.RDUIdeal.τ).loc Cert.RDUIdeal.main_arg0) = m ((c.tc : Thread Cert.RDUIdeal.nD Cert.RDUIdeal.τ).loc Cert.RDUIdeal.main_arg0)
      ∧ r.2.mem ((c.tc : Thread Cert.RDUIdeal.nD Cert.RDUIdeal.τ).loc Cert.RDUIdeal.main_arg1) = m ((c.tc : Thread Cert.RDUIdeal.nD Cert.RDUIdeal.τ).loc Cert.RDUIdeal.main_arg1))
      ∧ r.2.sem = fun _ => 0)

def quiescent_KBranch [hKBranch : Cert.KBranch.Facts] : Prop :=
  ∀ (m : (ℓ : Loc Cert.KBranch.nD Cert.KBranch.τ Cert.KBranch.sig) → Buf (Elt Bits) ℓ) (g : Dev Cert.KBranch.nD → PrngReg), Pre_KBranch m →
    θ_run (Cert.KBranch.defs (F := Bits)) (onTc (τ := Cert.KBranch.τ) (Cert.KBranch.main (F := Bits))) ⟨m, fun _ => 0, g⟩ (fun r => (∀ c : Dev Cert.KBranch.nD,
      r.2.mem ((c.tc : Thread Cert.KBranch.nD Cert.KBranch.τ).loc Cert.KBranch.main_arg0) = m ((c.tc : Thread Cert.KBranch.nD Cert.KBranch.τ).loc Cert.KBranch.main_arg0)
      ∧ r.2.mem ((c.tc : Thread Cert.KBranch.nD Cert.KBranch.τ).loc Cert.KBranch.main_arg1) = m ((c.tc : Thread Cert.KBranch.nD Cert.KBranch.τ).loc Cert.KBranch.main_arg1))
      ∧ r.2.sem = fun _ => 0)

def quiescent_KBranchIdeal [hKBranchIdeal : Cert.KBranchIdeal.Facts] : Prop :=
  ∀ (m : (ℓ : Loc Cert.KBranchIdeal.nD Cert.KBranchIdeal.τ Cert.KBranchIdeal.sig) → Buf (Elt Ideal) ℓ) (g : Dev Cert.KBranchIdeal.nD → PrngReg), Pre_KBranchIdeal m →
    θ_run (Cert.KBranchIdeal.defs (F := Ideal)) (onTc (τ := Cert.KBranchIdeal.τ) (Cert.KBranchIdeal.main (F := Ideal))) ⟨m, fun _ => 0, g⟩ (fun r => (∀ c : Dev Cert.KBranchIdeal.nD,
      r.2.mem ((c.tc : Thread Cert.KBranchIdeal.nD Cert.KBranchIdeal.τ).loc Cert.KBranchIdeal.main_arg0) = m ((c.tc : Thread Cert.KBranchIdeal.nD Cert.KBranchIdeal.τ).loc Cert.KBranchIdeal.main_arg0)
      ∧ r.2.mem ((c.tc : Thread Cert.KBranchIdeal.nD Cert.KBranchIdeal.τ).loc Cert.KBranchIdeal.main_arg1) = m ((c.tc : Thread Cert.KBranchIdeal.nD Cert.KBranchIdeal.τ).loc Cert.KBranchIdeal.main_arg1))
      ∧ r.2.sem = fun _ => 0)

def quiescent_RBranchIdeal [hRBranchIdeal : Cert.RBranchIdeal.Facts] : Prop :=
  ∀ (m : (ℓ : Loc Cert.RBranchIdeal.nD Cert.RBranchIdeal.τ Cert.RBranchIdeal.sig) → Buf (Elt Ideal) ℓ) (g : Dev Cert.RBranchIdeal.nD → PrngReg), Pre_RBranchIdeal m →
    θ_run (Cert.RBranchIdeal.defs (F := Ideal)) (onTc (τ := Cert.RBranchIdeal.τ) (Cert.RBranchIdeal.main (F := Ideal))) ⟨m, fun _ => 0, g⟩ (fun r => (∀ c : Dev Cert.RBranchIdeal.nD,
      r.2.mem ((c.tc : Thread Cert.RBranchIdeal.nD Cert.RBranchIdeal.τ).loc Cert.RBranchIdeal.main_arg0) = m ((c.tc : Thread Cert.RBranchIdeal.nD Cert.RBranchIdeal.τ).loc Cert.RBranchIdeal.main_arg0)
      ∧ r.2.mem ((c.tc : Thread Cert.RBranchIdeal.nD Cert.RBranchIdeal.τ).loc Cert.RBranchIdeal.main_arg1) = m ((c.tc : Thread Cert.RBranchIdeal.nD Cert.RBranchIdeal.τ).loc Cert.RBranchIdeal.main_arg1))
      ∧ r.2.sem = fun _ => 0)

def quiescent_KBranchC [hKBranchC : Cert.KBranchC.Facts] : Prop :=
  ∀ (m : (ℓ : Loc Cert.KBranchC.nD Cert.KBranchC.τ Cert.KBranchC.sig) → Buf (Elt Bits) ℓ) (g : Dev Cert.KBranchC.nD → PrngReg), Pre_KBranchC m →
    θ_run (Cert.KBranchC.defs (F := Bits)) (onTc (τ := Cert.KBranchC.τ) (Cert.KBranchC.main (F := Bits))) ⟨m, fun _ => 0, g⟩ (fun r => (∀ c : Dev Cert.KBranchC.nD,
      r.2.mem ((c.tc : Thread Cert.KBranchC.nD Cert.KBranchC.τ).loc Cert.KBranchC.main_arg0) = m ((c.tc : Thread Cert.KBranchC.nD Cert.KBranchC.τ).loc Cert.KBranchC.main_arg0)
      ∧ r.2.mem ((c.tc : Thread Cert.KBranchC.nD Cert.KBranchC.τ).loc Cert.KBranchC.main_arg1) = m ((c.tc : Thread Cert.KBranchC.nD Cert.KBranchC.τ).loc Cert.KBranchC.main_arg1))
      ∧ r.2.sem = fun _ => 0)

def quiescent_KBranchCIdeal [hKBranchCIdeal : Cert.KBranchCIdeal.Facts] : Prop :=
  ∀ (m : (ℓ : Loc Cert.KBranchCIdeal.nD Cert.KBranchCIdeal.τ Cert.KBranchCIdeal.sig) → Buf (Elt Ideal) ℓ) (g : Dev Cert.KBranchCIdeal.nD → PrngReg), Pre_KBranchCIdeal m →
    θ_run (Cert.KBranchCIdeal.defs (F := Ideal)) (onTc (τ := Cert.KBranchCIdeal.τ) (Cert.KBranchCIdeal.main (F := Ideal))) ⟨m, fun _ => 0, g⟩ (fun r => (∀ c : Dev Cert.KBranchCIdeal.nD,
      r.2.mem ((c.tc : Thread Cert.KBranchCIdeal.nD Cert.KBranchCIdeal.τ).loc Cert.KBranchCIdeal.main_arg0) = m ((c.tc : Thread Cert.KBranchCIdeal.nD Cert.KBranchCIdeal.τ).loc Cert.KBranchCIdeal.main_arg0)
      ∧ r.2.mem ((c.tc : Thread Cert.KBranchCIdeal.nD Cert.KBranchCIdeal.τ).loc Cert.KBranchCIdeal.main_arg1) = m ((c.tc : Thread Cert.KBranchCIdeal.nD Cert.KBranchCIdeal.τ).loc Cert.KBranchCIdeal.main_arg1))
      ∧ r.2.sem = fun _ => 0)

def quiescent_RBranchCIdeal [hRBranchCIdeal : Cert.RBranchCIdeal.Facts] : Prop :=
  ∀ (m : (ℓ : Loc Cert.RBranchCIdeal.nD Cert.RBranchCIdeal.τ Cert.RBranchCIdeal.sig) → Buf (Elt Ideal) ℓ) (g : Dev Cert.RBranchCIdeal.nD → PrngReg), Pre_RBranchCIdeal m →
    θ_run (Cert.RBranchCIdeal.defs (F := Ideal)) (onTc (τ := Cert.RBranchCIdeal.τ) (Cert.RBranchCIdeal.main (F := Ideal))) ⟨m, fun _ => 0, g⟩ (fun r => (∀ c : Dev Cert.RBranchCIdeal.nD,
      r.2.mem ((c.tc : Thread Cert.RBranchCIdeal.nD Cert.RBranchCIdeal.τ).loc Cert.RBranchCIdeal.main_arg0) = m ((c.tc : Thread Cert.RBranchCIdeal.nD Cert.RBranchCIdeal.τ).loc Cert.RBranchCIdeal.main_arg0)
      ∧ r.2.mem ((c.tc : Thread Cert.RBranchCIdeal.nD Cert.RBranchCIdeal.τ).loc Cert.RBranchCIdeal.main_arg1) = m ((c.tc : Thread Cert.RBranchCIdeal.nD Cert.RBranchCIdeal.τ).loc Cert.RBranchCIdeal.main_arg1))
      ∧ r.2.sem = fun _ => 0)

def quiescent_KGWBranch [hKGWBranch : Cert.KGWBranch.Facts] : Prop :=
  ∀ (m : (ℓ : Loc Cert.KGWBranch.nD Cert.KGWBranch.τ Cert.KGWBranch.sig) → Buf (Elt Bits) ℓ) (g : Dev Cert.KGWBranch.nD → PrngReg), Pre_KGWBranch m →
    θ_run (Cert.KGWBranch.defs (F := Bits)) (onTc (τ := Cert.KGWBranch.τ) (Cert.KGWBranch.main (F := Bits))) ⟨m, fun _ => 0, g⟩ (fun r => (∀ c : Dev Cert.KGWBranch.nD,
      r.2.mem ((c.tc : Thread Cert.KGWBranch.nD Cert.KGWBranch.τ).loc Cert.KGWBranch.main_arg0) = m ((c.tc : Thread Cert.KGWBranch.nD Cert.KGWBranch.τ).loc Cert.KGWBranch.main_arg0)
      ∧ r.2.mem ((c.tc : Thread Cert.KGWBranch.nD Cert.KGWBranch.τ).loc Cert.KGWBranch.main_arg1) = m ((c.tc : Thread Cert.KGWBranch.nD Cert.KGWBranch.τ).loc Cert.KGWBranch.main_arg1))
      ∧ r.2.sem = fun _ => 0)

def quiescent_KGWBranchIdeal [hKGWBranchIdeal : Cert.KGWBranchIdeal.Facts] : Prop :=
  ∀ (m : (ℓ : Loc Cert.KGWBranchIdeal.nD Cert.KGWBranchIdeal.τ Cert.KGWBranchIdeal.sig) → Buf (Elt Ideal) ℓ) (g : Dev Cert.KGWBranchIdeal.nD → PrngReg), Pre_KGWBranchIdeal m →
    θ_run (Cert.KGWBranchIdeal.defs (F := Ideal)) (onTc (τ := Cert.KGWBranchIdeal.τ) (Cert.KGWBranchIdeal.main (F := Ideal))) ⟨m, fun _ => 0, g⟩ (fun r => (∀ c : Dev Cert.KGWBranchIdeal.nD,
      r.2.mem ((c.tc : Thread Cert.KGWBranchIdeal.nD Cert.KGWBranchIdeal.τ).loc Cert.KGWBranchIdeal.main_arg0) = m ((c.tc : Thread Cert.KGWBranchIdeal.nD Cert.KGWBranchIdeal.τ).loc Cert.KGWBranchIdeal.main_arg0)
      ∧ r.2.mem ((c.tc : Thread Cert.KGWBranchIdeal.nD Cert.KGWBranchIdeal.τ).loc Cert.KGWBranchIdeal.main_arg1) = m ((c.tc : Thread Cert.KGWBranchIdeal.nD Cert.KGWBranchIdeal.τ).loc Cert.KGWBranchIdeal.main_arg1))
      ∧ r.2.sem = fun _ => 0)

def quiescent_RGWBranchIdeal [hRGWBranchIdeal : Cert.RGWBranchIdeal.Facts] : Prop :=
  ∀ (m : (ℓ : Loc Cert.RGWBranchIdeal.nD Cert.RGWBranchIdeal.τ Cert.RGWBranchIdeal.sig) → Buf (Elt Ideal) ℓ) (g : Dev Cert.RGWBranchIdeal.nD → PrngReg), Pre_RGWBranchIdeal m →
    θ_run (Cert.RGWBranchIdeal.defs (F := Ideal)) (onTc (τ := Cert.RGWBranchIdeal.τ) (Cert.RGWBranchIdeal.main (F := Ideal))) ⟨m, fun _ => 0, g⟩ (fun r => (∀ c : Dev Cert.RGWBranchIdeal.nD,
      r.2.mem ((c.tc : Thread Cert.RGWBranchIdeal.nD Cert.RGWBranchIdeal.τ).loc Cert.RGWBranchIdeal.main_arg0) = m ((c.tc : Thread Cert.RGWBranchIdeal.nD Cert.RGWBranchIdeal.τ).loc Cert.RGWBranchIdeal.main_arg0)
      ∧ r.2.mem ((c.tc : Thread Cert.RGWBranchIdeal.nD Cert.RGWBranchIdeal.τ).loc Cert.RGWBranchIdeal.main_arg1) = m ((c.tc : Thread Cert.RGWBranchIdeal.nD Cert.RGWBranchIdeal.τ).loc Cert.RGWBranchIdeal.main_arg1))
      ∧ r.2.sem = fun _ => 0)

def quiescent_KGWBranchC [hKGWBranchC : Cert.KGWBranchC.Facts] : Prop :=
  ∀ (m : (ℓ : Loc Cert.KGWBranchC.nD Cert.KGWBranchC.τ Cert.KGWBranchC.sig) → Buf (Elt Bits) ℓ) (g : Dev Cert.KGWBranchC.nD → PrngReg), Pre_KGWBranchC m →
    θ_run (Cert.KGWBranchC.defs (F := Bits)) (onTc (τ := Cert.KGWBranchC.τ) (Cert.KGWBranchC.main (F := Bits))) ⟨m, fun _ => 0, g⟩ (fun r => (∀ c : Dev Cert.KGWBranchC.nD,
      r.2.mem ((c.tc : Thread Cert.KGWBranchC.nD Cert.KGWBranchC.τ).loc Cert.KGWBranchC.main_arg0) = m ((c.tc : Thread Cert.KGWBranchC.nD Cert.KGWBranchC.τ).loc Cert.KGWBranchC.main_arg0)
      ∧ r.2.mem ((c.tc : Thread Cert.KGWBranchC.nD Cert.KGWBranchC.τ).loc Cert.KGWBranchC.main_arg1) = m ((c.tc : Thread Cert.KGWBranchC.nD Cert.KGWBranchC.τ).loc Cert.KGWBranchC.main_arg1))
      ∧ r.2.sem = fun _ => 0)

def quiescent_KGWBranchCIdeal [hKGWBranchCIdeal : Cert.KGWBranchCIdeal.Facts] : Prop :=
  ∀ (m : (ℓ : Loc Cert.KGWBranchCIdeal.nD Cert.KGWBranchCIdeal.τ Cert.KGWBranchCIdeal.sig) → Buf (Elt Ideal) ℓ) (g : Dev Cert.KGWBranchCIdeal.nD → PrngReg), Pre_KGWBranchCIdeal m →
    θ_run (Cert.KGWBranchCIdeal.defs (F := Ideal)) (onTc (τ := Cert.KGWBranchCIdeal.τ) (Cert.KGWBranchCIdeal.main (F := Ideal))) ⟨m, fun _ => 0, g⟩ (fun r => (∀ c : Dev Cert.KGWBranchCIdeal.nD,
      r.2.mem ((c.tc : Thread Cert.KGWBranchCIdeal.nD Cert.KGWBranchCIdeal.τ).loc Cert.KGWBranchCIdeal.main_arg0) = m ((c.tc : Thread Cert.KGWBranchCIdeal.nD Cert.KGWBranchCIdeal.τ).loc Cert.KGWBranchCIdeal.main_arg0)
      ∧ r.2.mem ((c.tc : Thread Cert.KGWBranchCIdeal.nD Cert.KGWBranchCIdeal.τ).loc Cert.KGWBranchCIdeal.main_arg1) = m ((c.tc : Thread Cert.KGWBranchCIdeal.nD Cert.KGWBranchCIdeal.τ).loc Cert.KGWBranchCIdeal.main_arg1))
      ∧ r.2.sem = fun _ => 0)

def quiescent_RGWBranchCIdeal [hRGWBranchCIdeal : Cert.RGWBranchCIdeal.Facts] : Prop :=
  ∀ (m : (ℓ : Loc Cert.RGWBranchCIdeal.nD Cert.RGWBranchCIdeal.τ Cert.RGWBranchCIdeal.sig) → Buf (Elt Ideal) ℓ) (g : Dev Cert.RGWBranchCIdeal.nD → PrngReg), Pre_RGWBranchCIdeal m →
    θ_run (Cert.RGWBranchCIdeal.defs (F := Ideal)) (onTc (τ := Cert.RGWBranchCIdeal.τ) (Cert.RGWBranchCIdeal.main (F := Ideal))) ⟨m, fun _ => 0, g⟩ (fun r => (∀ c : Dev Cert.RGWBranchCIdeal.nD,
      r.2.mem ((c.tc : Thread Cert.RGWBranchCIdeal.nD Cert.RGWBranchCIdeal.τ).loc Cert.RGWBranchCIdeal.main_arg0) = m ((c.tc : Thread Cert.RGWBranchCIdeal.nD Cert.RGWBranchCIdeal.τ).loc Cert.RGWBranchCIdeal.main_arg0)
      ∧ r.2.mem ((c.tc : Thread Cert.RGWBranchCIdeal.nD Cert.RGWBranchCIdeal.τ).loc Cert.RGWBranchCIdeal.main_arg1) = m ((c.tc : Thread Cert.RGWBranchCIdeal.nD Cert.RGWBranchCIdeal.τ).loc Cert.RGWBranchCIdeal.main_arg1))
      ∧ r.2.sem = fun _ => 0)

def quiescent_KDO [hKDO : Cert.KDO.Facts] : Prop :=
  ∀ (m : (ℓ : Loc Cert.KDO.nD Cert.KDO.τ Cert.KDO.sig) → Buf (Elt Bits) ℓ) (g : Dev Cert.KDO.nD → PrngReg), Pre_KDO m →
    θ_run (Cert.KDO.defs (F := Bits)) (onTc (τ := Cert.KDO.τ) (Cert.KDO.main (F := Bits))) ⟨m, fun _ => 0, g⟩ (fun r => (∀ c : Dev Cert.KDO.nD,
      r.2.mem ((c.tc : Thread Cert.KDO.nD Cert.KDO.τ).loc Cert.KDO.main_arg0) = m ((c.tc : Thread Cert.KDO.nD Cert.KDO.τ).loc Cert.KDO.main_arg0)
      ∧ r.2.mem ((c.tc : Thread Cert.KDO.nD Cert.KDO.τ).loc Cert.KDO.main_arg1) = m ((c.tc : Thread Cert.KDO.nD Cert.KDO.τ).loc Cert.KDO.main_arg1))
      ∧ r.2.sem = fun _ => 0)

def quiescent_KDOIdeal [hKDOIdeal : Cert.KDOIdeal.Facts] : Prop :=
  ∀ (m : (ℓ : Loc Cert.KDOIdeal.nD Cert.KDOIdeal.τ Cert.KDOIdeal.sig) → Buf (Elt Ideal) ℓ) (g : Dev Cert.KDOIdeal.nD → PrngReg), Pre_KDOIdeal m →
    θ_run (Cert.KDOIdeal.defs (F := Ideal)) (onTc (τ := Cert.KDOIdeal.τ) (Cert.KDOIdeal.main (F := Ideal))) ⟨m, fun _ => 0, g⟩ (fun r => (∀ c : Dev Cert.KDOIdeal.nD,
      r.2.mem ((c.tc : Thread Cert.KDOIdeal.nD Cert.KDOIdeal.τ).loc Cert.KDOIdeal.main_arg0) = m ((c.tc : Thread Cert.KDOIdeal.nD Cert.KDOIdeal.τ).loc Cert.KDOIdeal.main_arg0)
      ∧ r.2.mem ((c.tc : Thread Cert.KDOIdeal.nD Cert.KDOIdeal.τ).loc Cert.KDOIdeal.main_arg1) = m ((c.tc : Thread Cert.KDOIdeal.nD Cert.KDOIdeal.τ).loc Cert.KDOIdeal.main_arg1))
      ∧ r.2.sem = fun _ => 0)

def quiescent_RDOIdeal [hRDOIdeal : Cert.RDOIdeal.Facts] : Prop :=
  ∀ (m : (ℓ : Loc Cert.RDOIdeal.nD Cert.RDOIdeal.τ Cert.RDOIdeal.sig) → Buf (Elt Ideal) ℓ) (g : Dev Cert.RDOIdeal.nD → PrngReg), Pre_RDOIdeal m →
    θ_run (Cert.RDOIdeal.defs (F := Ideal)) (onTc (τ := Cert.RDOIdeal.τ) (Cert.RDOIdeal.main (F := Ideal))) ⟨m, fun _ => 0, g⟩ (fun r => (∀ c : Dev Cert.RDOIdeal.nD,
      r.2.mem ((c.tc : Thread Cert.RDOIdeal.nD Cert.RDOIdeal.τ).loc Cert.RDOIdeal.main_arg0) = m ((c.tc : Thread Cert.RDOIdeal.nD Cert.RDOIdeal.τ).loc Cert.RDOIdeal.main_arg0)
      ∧ r.2.mem ((c.tc : Thread Cert.RDOIdeal.nD Cert.RDOIdeal.τ).loc Cert.RDOIdeal.main_arg1) = m ((c.tc : Thread Cert.RDOIdeal.nD Cert.RDOIdeal.τ).loc Cert.RDOIdeal.main_arg1))
      ∧ r.2.sem = fun _ => 0)

def quiescent_KDOC [hKDOC : Cert.KDOC.Facts] : Prop :=
  ∀ (m : (ℓ : Loc Cert.KDOC.nD Cert.KDOC.τ Cert.KDOC.sig) → Buf (Elt Bits) ℓ) (g : Dev Cert.KDOC.nD → PrngReg), Pre_KDOC m →
    θ_run (Cert.KDOC.defs (F := Bits)) (onTc (τ := Cert.KDOC.τ) (Cert.KDOC.main (F := Bits))) ⟨m, fun _ => 0, g⟩ (fun r => (∀ c : Dev Cert.KDOC.nD,
      r.2.mem ((c.tc : Thread Cert.KDOC.nD Cert.KDOC.τ).loc Cert.KDOC.main_arg0) = m ((c.tc : Thread Cert.KDOC.nD Cert.KDOC.τ).loc Cert.KDOC.main_arg0)
      ∧ r.2.mem ((c.tc : Thread Cert.KDOC.nD Cert.KDOC.τ).loc Cert.KDOC.main_arg1) = m ((c.tc : Thread Cert.KDOC.nD Cert.KDOC.τ).loc Cert.KDOC.main_arg1))
      ∧ r.2.sem = fun _ => 0)

def quiescent_KDOCIdeal [hKDOCIdeal : Cert.KDOCIdeal.Facts] : Prop :=
  ∀ (m : (ℓ : Loc Cert.KDOCIdeal.nD Cert.KDOCIdeal.τ Cert.KDOCIdeal.sig) → Buf (Elt Ideal) ℓ) (g : Dev Cert.KDOCIdeal.nD → PrngReg), Pre_KDOCIdeal m →
    θ_run (Cert.KDOCIdeal.defs (F := Ideal)) (onTc (τ := Cert.KDOCIdeal.τ) (Cert.KDOCIdeal.main (F := Ideal))) ⟨m, fun _ => 0, g⟩ (fun r => (∀ c : Dev Cert.KDOCIdeal.nD,
      r.2.mem ((c.tc : Thread Cert.KDOCIdeal.nD Cert.KDOCIdeal.τ).loc Cert.KDOCIdeal.main_arg0) = m ((c.tc : Thread Cert.KDOCIdeal.nD Cert.KDOCIdeal.τ).loc Cert.KDOCIdeal.main_arg0)
      ∧ r.2.mem ((c.tc : Thread Cert.KDOCIdeal.nD Cert.KDOCIdeal.τ).loc Cert.KDOCIdeal.main_arg1) = m ((c.tc : Thread Cert.KDOCIdeal.nD Cert.KDOCIdeal.τ).loc Cert.KDOCIdeal.main_arg1))
      ∧ r.2.sem = fun _ => 0)

def quiescent_RDOCIdeal [hRDOCIdeal : Cert.RDOCIdeal.Facts] : Prop :=
  ∀ (m : (ℓ : Loc Cert.RDOCIdeal.nD Cert.RDOCIdeal.τ Cert.RDOCIdeal.sig) → Buf (Elt Ideal) ℓ) (g : Dev Cert.RDOCIdeal.nD → PrngReg), Pre_RDOCIdeal m →
    θ_run (Cert.RDOCIdeal.defs (F := Ideal)) (onTc (τ := Cert.RDOCIdeal.τ) (Cert.RDOCIdeal.main (F := Ideal))) ⟨m, fun _ => 0, g⟩ (fun r => (∀ c : Dev Cert.RDOCIdeal.nD,
      r.2.mem ((c.tc : Thread Cert.RDOCIdeal.nD Cert.RDOCIdeal.τ).loc Cert.RDOCIdeal.main_arg0) = m ((c.tc : Thread Cert.RDOCIdeal.nD Cert.RDOCIdeal.τ).loc Cert.RDOCIdeal.main_arg0)
      ∧ r.2.mem ((c.tc : Thread Cert.RDOCIdeal.nD Cert.RDOCIdeal.τ).loc Cert.RDOCIdeal.main_arg1) = m ((c.tc : Thread Cert.RDOCIdeal.nD Cert.RDOCIdeal.τ).loc Cert.RDOCIdeal.main_arg1))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4))
      ∧ r.2.sem = fun _ => 0)

def quiescent_KGateA [hKGateA : Cert.KGateA.Facts] : Prop :=
  ∀ (m : (ℓ : Loc Cert.KGateA.nD Cert.KGateA.τ Cert.KGateA.sig) → Buf (Elt Bits) ℓ) (g : Dev Cert.KGateA.nD → PrngReg), Pre_KGateA m →
    θ_run (Cert.KGateA.defs (F := Bits)) (onTc (τ := Cert.KGateA.τ) (Cert.KGateA.main (F := Bits))) ⟨m, fun _ => 0, g⟩ (fun r => (∀ c : Dev Cert.KGateA.nD,
      r.2.mem ((c.tc : Thread Cert.KGateA.nD Cert.KGateA.τ).loc Cert.KGateA.main_arg0) = m ((c.tc : Thread Cert.KGateA.nD Cert.KGateA.τ).loc Cert.KGateA.main_arg0)
      ∧ r.2.mem ((c.tc : Thread Cert.KGateA.nD Cert.KGateA.τ).loc Cert.KGateA.main_arg1) = m ((c.tc : Thread Cert.KGateA.nD Cert.KGateA.τ).loc Cert.KGateA.main_arg1)
      ∧ r.2.mem ((c.tc : Thread Cert.KGateA.nD Cert.KGateA.τ).loc Cert.KGateA.main_arg2) = m ((c.tc : Thread Cert.KGateA.nD Cert.KGateA.τ).loc Cert.KGateA.main_arg2))
      ∧ r.2.sem = fun _ => 0)

def quiescent_KGateAIdeal [hKGateAIdeal : Cert.KGateAIdeal.Facts] : Prop :=
  ∀ (m : (ℓ : Loc Cert.KGateAIdeal.nD Cert.KGateAIdeal.τ Cert.KGateAIdeal.sig) → Buf (Elt Ideal) ℓ) (g : Dev Cert.KGateAIdeal.nD → PrngReg), Pre_KGateAIdeal m →
    θ_run (Cert.KGateAIdeal.defs (F := Ideal)) (onTc (τ := Cert.KGateAIdeal.τ) (Cert.KGateAIdeal.main (F := Ideal))) ⟨m, fun _ => 0, g⟩ (fun r => (∀ c : Dev Cert.KGateAIdeal.nD,
      r.2.mem ((c.tc : Thread Cert.KGateAIdeal.nD Cert.KGateAIdeal.τ).loc Cert.KGateAIdeal.main_arg0) = m ((c.tc : Thread Cert.KGateAIdeal.nD Cert.KGateAIdeal.τ).loc Cert.KGateAIdeal.main_arg0)
      ∧ r.2.mem ((c.tc : Thread Cert.KGateAIdeal.nD Cert.KGateAIdeal.τ).loc Cert.KGateAIdeal.main_arg1) = m ((c.tc : Thread Cert.KGateAIdeal.nD Cert.KGateAIdeal.τ).loc Cert.KGateAIdeal.main_arg1)
      ∧ r.2.mem ((c.tc : Thread Cert.KGateAIdeal.nD Cert.KGateAIdeal.τ).loc Cert.KGateAIdeal.main_arg2) = m ((c.tc : Thread Cert.KGateAIdeal.nD Cert.KGateAIdeal.τ).loc Cert.KGateAIdeal.main_arg2))
      ∧ r.2.sem = fun _ => 0)

def quiescent_RGateAIdeal [hRGateAIdeal : Cert.RGateAIdeal.Facts] : Prop :=
  ∀ (m : (ℓ : Loc Cert.RGateAIdeal.nD Cert.RGateAIdeal.τ Cert.RGateAIdeal.sig) → Buf (Elt Ideal) ℓ) (g : Dev Cert.RGateAIdeal.nD → PrngReg), Pre_RGateAIdeal m →
    θ_run (Cert.RGateAIdeal.defs (F := Ideal)) (onTc (τ := Cert.RGateAIdeal.τ) (Cert.RGateAIdeal.main (F := Ideal))) ⟨m, fun _ => 0, g⟩ (fun r => (∀ c : Dev Cert.RGateAIdeal.nD,
      r.2.mem ((c.tc : Thread Cert.RGateAIdeal.nD Cert.RGateAIdeal.τ).loc Cert.RGateAIdeal.main_arg0) = m ((c.tc : Thread Cert.RGateAIdeal.nD Cert.RGateAIdeal.τ).loc Cert.RGateAIdeal.main_arg0)
      ∧ r.2.mem ((c.tc : Thread Cert.RGateAIdeal.nD Cert.RGateAIdeal.τ).loc Cert.RGateAIdeal.main_arg1) = m ((c.tc : Thread Cert.RGateAIdeal.nD Cert.RGateAIdeal.τ).loc Cert.RGateAIdeal.main_arg1)
      ∧ r.2.mem ((c.tc : Thread Cert.RGateAIdeal.nD Cert.RGateAIdeal.τ).loc Cert.RGateAIdeal.main_arg2) = m ((c.tc : Thread Cert.RGateAIdeal.nD Cert.RGateAIdeal.τ).loc Cert.RGateAIdeal.main_arg2))
      ∧ r.2.sem = fun _ => 0)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1)
      ∧ r.2.mem ((c.tc : Thread Cert.KRms.nD Cert.KRms.τ).loc Cert.KRms.main_arg2) = m ((c.tc : Thread Cert.KRms.nD Cert.KRms.τ).loc Cert.KRms.main_arg2)
      ∧ r.2.mem ((c.tc : Thread Cert.KRms.nD Cert.KRms.τ).loc Cert.KRms.main_arg3) = m ((c.tc : Thread Cert.KRms.nD Cert.KRms.τ).loc Cert.KRms.main_arg3))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
      ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
      ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1)
      ∧ r.2.mem ((c.tc : Thread Cert.RRmsIdeal.nD Cert.RRmsIdeal.τ).loc Cert.RRmsIdeal.main_arg2) = m ((c.tc : Thread Cert.RRmsIdeal.nD Cert.RRmsIdeal.τ).loc Cert.RRmsIdeal.main_arg2)
      ∧ r.2.mem ((c.tc : Thread Cert.RRmsIdeal.nD Cert.RRmsIdeal.τ).loc Cert.RRmsIdeal.main_arg3) = m ((c.tc : Thread Cert.RRmsIdeal.nD Cert.RRmsIdeal.τ).loc Cert.RRmsIdeal.main_arg3))
      ∧ r.2.sem = fun _ => 0)

def quiescent_KGateB [hKGateB : Cert.KGateB.Facts] : Prop :=
  ∀ (m : (ℓ : Loc Cert.KGateB.nD Cert.KGateB.τ Cert.KGateB.sig) → Buf (Elt Bits) ℓ) (g : Dev Cert.KGateB.nD → PrngReg), Pre_KGateB m →
    θ_run (Cert.KGateB.defs (F := Bits)) (onTc (τ := Cert.KGateB.τ) (Cert.KGateB.main (F := Bits))) ⟨m, fun _ => 0, g⟩ (fun r => (∀ c : Dev Cert.KGateB.nD,
      r.2.mem ((c.tc : Thread Cert.KGateB.nD Cert.KGateB.τ).loc Cert.KGateB.main_arg0) = m ((c.tc : Thread Cert.KGateB.nD Cert.KGateB.τ).loc Cert.KGateB.main_arg0)
      ∧ r.2.mem ((c.tc : Thread Cert.KGateB.nD Cert.KGateB.τ).loc Cert.KGateB.main_arg1) = m ((c.tc : Thread Cert.KGateB.nD Cert.KGateB.τ).loc Cert.KGateB.main_arg1)
      ∧ r.2.mem ((c.tc : Thread Cert.KGateB.nD Cert.KGateB.τ).loc Cert.KGateB.main_arg2) = m ((c.tc : Thread Cert.KGateB.nD Cert.KGateB.τ).loc Cert.KGateB.main_arg2)
      ∧ r.2.mem ((c.tc : Thread Cert.KGateB.nD Cert.KGateB.τ).loc Cert.KGateB.main_arg3) = m ((c.tc : Thread Cert.KGateB.nD Cert.KGateB.τ).loc Cert.KGateB.main_arg3))
      ∧ r.2.sem = fun _ => 0)

def quiescent_KGateBIdeal [hKGateBIdeal : Cert.KGateBIdeal.Facts] : Prop :=
  ∀ (m : (ℓ : Loc Cert.KGateBIdeal.nD Cert.KGateBIdeal.τ Cert.KGateBIdeal.sig) → Buf (Elt Ideal) ℓ) (g : Dev Cert.KGateBIdeal.nD → PrngReg), Pre_KGateBIdeal m →
    θ_run (Cert.KGateBIdeal.defs (F := Ideal)) (onTc (τ := Cert.KGateBIdeal.τ) (Cert.KGateBIdeal.main (F := Ideal))) ⟨m, fun _ => 0, g⟩ (fun r => (∀ c : Dev Cert.KGateBIdeal.nD,
      r.2.mem ((c.tc : Thread Cert.KGateBIdeal.nD Cert.KGateBIdeal.τ).loc Cert.KGateBIdeal.main_arg0) = m ((c.tc : Thread Cert.KGateBIdeal.nD Cert.KGateBIdeal.τ).loc Cert.KGateBIdeal.main_arg0)
      ∧ r.2.mem ((c.tc : Thread Cert.KGateBIdeal.nD Cert.KGateBIdeal.τ).loc Cert.KGateBIdeal.main_arg1) = m ((c.tc : Thread Cert.KGateBIdeal.nD Cert.KGateBIdeal.τ).loc Cert.KGateBIdeal.main_arg1)
      ∧ r.2.mem ((c.tc : Thread Cert.KGateBIdeal.nD Cert.KGateBIdeal.τ).loc Cert.KGateBIdeal.main_arg2) = m ((c.tc : Thread Cert.KGateBIdeal.nD Cert.KGateBIdeal.τ).loc Cert.KGateBIdeal.main_arg2)
      ∧ r.2.mem ((c.tc : Thread Cert.KGateBIdeal.nD Cert.KGateBIdeal.τ).loc Cert.KGateBIdeal.main_arg3) = m ((c.tc : Thread Cert.KGateBIdeal.nD Cert.KGateBIdeal.τ).loc Cert.KGateBIdeal.main_arg3))
      ∧ r.2.sem = fun _ => 0)

def quiescent_RGateBIdeal [hRGateBIdeal : Cert.RGateBIdeal.Facts] : Prop :=
  ∀ (m : (ℓ : Loc Cert.RGateBIdeal.nD Cert.RGateBIdeal.τ Cert.RGateBIdeal.sig) → Buf (Elt Ideal) ℓ) (g : Dev Cert.RGateBIdeal.nD → PrngReg), Pre_RGateBIdeal m →
    θ_run (Cert.RGateBIdeal.defs (F := Ideal)) (onTc (τ := Cert.RGateBIdeal.τ) (Cert.RGateBIdeal.main (F := Ideal))) ⟨m, fun _ => 0, g⟩ (fun r => (∀ c : Dev Cert.RGateBIdeal.nD,
      r.2.mem ((c.tc : Thread Cert.RGateBIdeal.nD Cert.RGateBIdeal.τ).loc Cert.RGateBIdeal.main_arg0) = m ((c.tc : Thread Cert.RGateBIdeal.nD Cert.RGateBIdeal.τ).loc Cert.RGateBIdeal.main_arg0)
      ∧ r.2.mem ((c.tc : Thread Cert.RGateBIdeal.nD Cert.RGateBIdeal.τ).loc Cert.RGateBIdeal.main_arg1) = m ((c.tc : Thread Cert.RGateBIdeal.nD Cert.RGateBIdeal.τ).loc Cert.RGateBIdeal.main_arg1)
      ∧ r.2.mem ((c.tc : Thread Cert.RGateBIdeal.nD Cert.RGateBIdeal.τ).loc Cert.RGateBIdeal.main_arg2) = m ((c.tc : Thread Cert.RGateBIdeal.nD Cert.RGateBIdeal.τ).loc Cert.RGateBIdeal.main_arg2)
      ∧ r.2.mem ((c.tc : Thread Cert.RGateBIdeal.nD Cert.RGateBIdeal.τ).loc Cert.RGateBIdeal.main_arg3) = m ((c.tc : Thread Cert.RGateBIdeal.nD Cert.RGateBIdeal.τ).loc Cert.RGateBIdeal.main_arg3))
      ∧ r.2.sem = fun _ => 0)

def quiescent_KGateC [hKGateC : Cert.KGateC.Facts] : Prop :=
  ∀ (m : (ℓ : Loc Cert.KGateC.nD Cert.KGateC.τ Cert.KGateC.sig) → Buf (Elt Bits) ℓ) (g : Dev Cert.KGateC.nD → PrngReg), Pre_KGateC m →
    θ_run (Cert.KGateC.defs (F := Bits)) (onTc (τ := Cert.KGateC.τ) (Cert.KGateC.main (F := Bits))) ⟨m, fun _ => 0, g⟩ (fun r => (∀ c : Dev Cert.KGateC.nD,
      r.2.mem ((c.tc : Thread Cert.KGateC.nD Cert.KGateC.τ).loc Cert.KGateC.main_arg0) = m ((c.tc : Thread Cert.KGateC.nD Cert.KGateC.τ).loc Cert.KGateC.main_arg0)
      ∧ r.2.mem ((c.tc : Thread Cert.KGateC.nD Cert.KGateC.τ).loc Cert.KGateC.main_arg1) = m ((c.tc : Thread Cert.KGateC.nD Cert.KGateC.τ).loc Cert.KGateC.main_arg1)
      ∧ r.2.mem ((c.tc : Thread Cert.KGateC.nD Cert.KGateC.τ).loc Cert.KGateC.main_arg2) = m ((c.tc : Thread Cert.KGateC.nD Cert.KGateC.τ).loc Cert.KGateC.main_arg2)
      ∧ r.2.mem ((c.tc : Thread Cert.KGateC.nD Cert.KGateC.τ).loc Cert.KGateC.main_arg3) = m ((c.tc : Thread Cert.KGateC.nD Cert.KGateC.τ).loc Cert.KGateC.main_arg3)
      ∧ r.2.mem ((c.tc : Thread Cert.KGateC.nD Cert.KGateC.τ).loc Cert.KGateC.main_arg4) = m ((c.tc : Thread Cert.KGateC.nD Cert.KGateC.τ).loc Cert.KGateC.main_arg4)
      ∧ r.2.mem ((c.tc : Thread Cert.KGateC.nD Cert.KGateC.τ).loc Cert.KGateC.main_arg5) = m ((c.tc : Thread Cert.KGateC.nD Cert.KGateC.τ).loc Cert.KGateC.main_arg5))
      ∧ r.2.sem = fun _ => 0)

def quiescent_KGateCIdeal [hKGateCIdeal : Cert.KGateCIdeal.Facts] : Prop :=
  ∀ (m : (ℓ : Loc Cert.KGateCIdeal.nD Cert.KGateCIdeal.τ Cert.KGateCIdeal.sig) → Buf (Elt Ideal) ℓ) (g : Dev Cert.KGateCIdeal.nD → PrngReg), Pre_KGateCIdeal m →
    θ_run (Cert.KGateCIdeal.defs (F := Ideal)) (onTc (τ := Cert.KGateCIdeal.τ) (Cert.KGateCIdeal.main (F := Ideal))) ⟨m, fun _ => 0, g⟩ (fun r => (∀ c : Dev Cert.KGateCIdeal.nD,
      r.2.mem ((c.tc : Thread Cert.KGateCIdeal.nD Cert.KGateCIdeal.τ).loc Cert.KGateCIdeal.main_arg0) = m ((c.tc : Thread Cert.KGateCIdeal.nD Cert.KGateCIdeal.τ).loc Cert.KGateCIdeal.main_arg0)
      ∧ r.2.mem ((c.tc : Thread Cert.KGateCIdeal.nD Cert.KGateCIdeal.τ).loc Cert.KGateCIdeal.main_arg1) = m ((c.tc : Thread Cert.KGateCIdeal.nD Cert.KGateCIdeal.τ).loc Cert.KGateCIdeal.main_arg1)
      ∧ r.2.mem ((c.tc : Thread Cert.KGateCIdeal.nD Cert.KGateCIdeal.τ).loc Cert.KGateCIdeal.main_arg2) = m ((c.tc : Thread Cert.KGateCIdeal.nD Cert.KGateCIdeal.τ).loc Cert.KGateCIdeal.main_arg2)
      ∧ r.2.mem ((c.tc : Thread Cert.KGateCIdeal.nD Cert.KGateCIdeal.τ).loc Cert.KGateCIdeal.main_arg3) = m ((c.tc : Thread Cert.KGateCIdeal.nD Cert.KGateCIdeal.τ).loc Cert.KGateCIdeal.main_arg3)
      ∧ r.2.mem ((c.tc : Thread Cert.KGateCIdeal.nD Cert.KGateCIdeal.τ).loc Cert.KGateCIdeal.main_arg4) = m ((c.tc : Thread Cert.KGateCIdeal.nD Cert.KGateCIdeal.τ).loc Cert.KGateCIdeal.main_arg4)
      ∧ r.2.mem ((c.tc : Thread Cert.KGateCIdeal.nD Cert.KGateCIdeal.τ).loc Cert.KGateCIdeal.main_arg5) = m ((c.tc : Thread Cert.KGateCIdeal.nD Cert.KGateCIdeal.τ).loc Cert.KGateCIdeal.main_arg5))
      ∧ r.2.sem = fun _ => 0)

def quiescent_RGateCIdeal [hRGateCIdeal : Cert.RGateCIdeal.Facts] : Prop :=
  ∀ (m : (ℓ : Loc Cert.RGateCIdeal.nD Cert.RGateCIdeal.τ Cert.RGateCIdeal.sig) → Buf (Elt Ideal) ℓ) (g : Dev Cert.RGateCIdeal.nD → PrngReg), Pre_RGateCIdeal m →
    θ_run (Cert.RGateCIdeal.defs (F := Ideal)) (onTc (τ := Cert.RGateCIdeal.τ) (Cert.RGateCIdeal.main (F := Ideal))) ⟨m, fun _ => 0, g⟩ (fun r => (∀ c : Dev Cert.RGateCIdeal.nD,
      r.2.mem ((c.tc : Thread Cert.RGateCIdeal.nD Cert.RGateCIdeal.τ).loc Cert.RGateCIdeal.main_arg0) = m ((c.tc : Thread Cert.RGateCIdeal.nD Cert.RGateCIdeal.τ).loc Cert.RGateCIdeal.main_arg0)
      ∧ r.2.mem ((c.tc : Thread Cert.RGateCIdeal.nD Cert.RGateCIdeal.τ).loc Cert.RGateCIdeal.main_arg1) = m ((c.tc : Thread Cert.RGateCIdeal.nD Cert.RGateCIdeal.τ).loc Cert.RGateCIdeal.main_arg1)
      ∧ r.2.mem ((c.tc : Thread Cert.RGateCIdeal.nD Cert.RGateCIdeal.τ).loc Cert.RGateCIdeal.main_arg2) = m ((c.tc : Thread Cert.RGateCIdeal.nD Cert.RGateCIdeal.τ).loc Cert.RGateCIdeal.main_arg2)
      ∧ r.2.mem ((c.tc : Thread Cert.RGateCIdeal.nD Cert.RGateCIdeal.τ).loc Cert.RGateCIdeal.main_arg3) = m ((c.tc : Thread Cert.RGateCIdeal.nD Cert.RGateCIdeal.τ).loc Cert.RGateCIdeal.main_arg3)
      ∧ r.2.mem ((c.tc : Thread Cert.RGateCIdeal.nD Cert.RGateCIdeal.τ).loc Cert.RGateCIdeal.main_arg4) = m ((c.tc : Thread Cert.RGateCIdeal.nD Cert.RGateCIdeal.τ).loc Cert.RGateCIdeal.main_arg4)
      ∧ r.2.mem ((c.tc : Thread Cert.RGateCIdeal.nD Cert.RGateCIdeal.τ).loc Cert.RGateCIdeal.main_arg5) = m ((c.tc : Thread Cert.RGateCIdeal.nD Cert.RGateCIdeal.τ).loc Cert.RGateCIdeal.main_arg5))
      ∧ r.2.sem = fun _ => 0)

def quiescent_KConvC [hKConvC : Cert.KConvC.Facts] : Prop :=
  ∀ (m : (ℓ : Loc Cert.KConvC.nD Cert.KConvC.τ Cert.KConvC.sig) → Buf (Elt Bits) ℓ) (g : Dev Cert.KConvC.nD → PrngReg), Pre_KConvC m →
    θ_run (Cert.KConvC.defs (F := Bits)) (onTc (τ := Cert.KConvC.τ) (Cert.KConvC.main (F := Bits))) ⟨m, fun _ => 0, g⟩ (fun r => (∀ c : Dev Cert.KConvC.nD,
      r.2.mem ((c.tc : Thread Cert.KConvC.nD Cert.KConvC.τ).loc Cert.KConvC.main_arg0) = m ((c.tc : Thread Cert.KConvC.nD Cert.KConvC.τ).loc Cert.KConvC.main_arg0)
      ∧ r.2.mem ((c.tc : Thread Cert.KConvC.nD Cert.KConvC.τ).loc Cert.KConvC.main_arg1) = m ((c.tc : Thread Cert.KConvC.nD Cert.KConvC.τ).loc Cert.KConvC.main_arg1)
      ∧ r.2.mem ((c.tc : Thread Cert.KConvC.nD Cert.KConvC.τ).loc Cert.KConvC.main_arg2) = m ((c.tc : Thread Cert.KConvC.nD Cert.KConvC.τ).loc Cert.KConvC.main_arg2)
      ∧ r.2.mem ((c.tc : Thread Cert.KConvC.nD Cert.KConvC.τ).loc Cert.KConvC.main_arg3) = m ((c.tc : Thread Cert.KConvC.nD Cert.KConvC.τ).loc Cert.KConvC.main_arg3))
      ∧ r.2.sem = fun _ => 0)

def quiescent_KConvCIdeal [hKConvCIdeal : Cert.KConvCIdeal.Facts] : Prop :=
  ∀ (m : (ℓ : Loc Cert.KConvCIdeal.nD Cert.KConvCIdeal.τ Cert.KConvCIdeal.sig) → Buf (Elt Ideal) ℓ) (g : Dev Cert.KConvCIdeal.nD → PrngReg), Pre_KConvCIdeal m →
    θ_run (Cert.KConvCIdeal.defs (F := Ideal)) (onTc (τ := Cert.KConvCIdeal.τ) (Cert.KConvCIdeal.main (F := Ideal))) ⟨m, fun _ => 0, g⟩ (fun r => (∀ c : Dev Cert.KConvCIdeal.nD,
      r.2.mem ((c.tc : Thread Cert.KConvCIdeal.nD Cert.KConvCIdeal.τ).loc Cert.KConvCIdeal.main_arg0) = m ((c.tc : Thread Cert.KConvCIdeal.nD Cert.KConvCIdeal.τ).loc Cert.KConvCIdeal.main_arg0)
      ∧ r.2.mem ((c.tc : Thread Cert.KConvCIdeal.nD Cert.KConvCIdeal.τ).loc Cert.KConvCIdeal.main_arg1) = m ((c.tc : Thread Cert.KConvCIdeal.nD Cert.KConvCIdeal.τ).loc Cert.KConvCIdeal.main_arg1)
      ∧ r.2.mem ((c.tc : Thread Cert.KConvCIdeal.nD Cert.KConvCIdeal.τ).loc Cert.KConvCIdeal.main_arg2) = m ((c.tc : Thread Cert.KConvCIdeal.nD Cert.KConvCIdeal.τ).loc Cert.KConvCIdeal.main_arg2)
      ∧ r.2.mem ((c.tc : Thread Cert.KConvCIdeal.nD Cert.KConvCIdeal.τ).loc Cert.KConvCIdeal.main_arg3) = m ((c.tc : Thread Cert.KConvCIdeal.nD Cert.KConvCIdeal.τ).loc Cert.KConvCIdeal.main_arg3))
      ∧ r.2.sem = fun _ => 0)

def quiescent_RConvCIdeal [hRConvCIdeal : Cert.RConvCIdeal.Facts] : Prop :=
  ∀ (m : (ℓ : Loc Cert.RConvCIdeal.nD Cert.RConvCIdeal.τ Cert.RConvCIdeal.sig) → Buf (Elt Ideal) ℓ) (g : Dev Cert.RConvCIdeal.nD → PrngReg), Pre_RConvCIdeal m →
    θ_run (Cert.RConvCIdeal.defs (F := Ideal)) (onTc (τ := Cert.RConvCIdeal.τ) (Cert.RConvCIdeal.main (F := Ideal))) ⟨m, fun _ => 0, g⟩ (fun r => (∀ c : Dev Cert.RConvCIdeal.nD,
      r.2.mem ((c.tc : Thread Cert.RConvCIdeal.nD Cert.RConvCIdeal.τ).loc Cert.RConvCIdeal.main_arg0) = m ((c.tc : Thread Cert.RConvCIdeal.nD Cert.RConvCIdeal.τ).loc Cert.RConvCIdeal.main_arg0)
      ∧ r.2.mem ((c.tc : Thread Cert.RConvCIdeal.nD Cert.RConvCIdeal.τ).loc Cert.RConvCIdeal.main_arg1) = m ((c.tc : Thread Cert.RConvCIdeal.nD Cert.RConvCIdeal.τ).loc Cert.RConvCIdeal.main_arg1)
      ∧ r.2.mem ((c.tc : Thread Cert.RConvCIdeal.nD Cert.RConvCIdeal.τ).loc Cert.RConvCIdeal.main_arg2) = m ((c.tc : Thread Cert.RConvCIdeal.nD Cert.RConvCIdeal.τ).loc Cert.RConvCIdeal.main_arg2)
      ∧ r.2.mem ((c.tc : Thread Cert.RConvCIdeal.nD Cert.RConvCIdeal.τ).loc Cert.RConvCIdeal.main_arg3) = m ((c.tc : Thread Cert.RConvCIdeal.nD Cert.RConvCIdeal.τ).loc Cert.RConvCIdeal.main_arg3))
      ∧ r.2.sem = fun _ => 0)

def quiescent_KConvB [hKConvB : Cert.KConvB.Facts] : Prop :=
  ∀ (m : (ℓ : Loc Cert.KConvB.nD Cert.KConvB.τ Cert.KConvB.sig) → Buf (Elt Bits) ℓ) (g : Dev Cert.KConvB.nD → PrngReg), Pre_KConvB m →
    θ_run (Cert.KConvB.defs (F := Bits)) (onTc (τ := Cert.KConvB.τ) (Cert.KConvB.main (F := Bits))) ⟨m, fun _ => 0, g⟩ (fun r => (∀ c : Dev Cert.KConvB.nD,
      r.2.mem ((c.tc : Thread Cert.KConvB.nD Cert.KConvB.τ).loc Cert.KConvB.main_arg0) = m ((c.tc : Thread Cert.KConvB.nD Cert.KConvB.τ).loc Cert.KConvB.main_arg0)
      ∧ r.2.mem ((c.tc : Thread Cert.KConvB.nD Cert.KConvB.τ).loc Cert.KConvB.main_arg1) = m ((c.tc : Thread Cert.KConvB.nD Cert.KConvB.τ).loc Cert.KConvB.main_arg1)
      ∧ r.2.mem ((c.tc : Thread Cert.KConvB.nD Cert.KConvB.τ).loc Cert.KConvB.main_arg2) = m ((c.tc : Thread Cert.KConvB.nD Cert.KConvB.τ).loc Cert.KConvB.main_arg2))
      ∧ r.2.sem = fun _ => 0)

def quiescent_KConvBIdeal [hKConvBIdeal : Cert.KConvBIdeal.Facts] : Prop :=
  ∀ (m : (ℓ : Loc Cert.KConvBIdeal.nD Cert.KConvBIdeal.τ Cert.KConvBIdeal.sig) → Buf (Elt Ideal) ℓ) (g : Dev Cert.KConvBIdeal.nD → PrngReg), Pre_KConvBIdeal m →
    θ_run (Cert.KConvBIdeal.defs (F := Ideal)) (onTc (τ := Cert.KConvBIdeal.τ) (Cert.KConvBIdeal.main (F := Ideal))) ⟨m, fun _ => 0, g⟩ (fun r => (∀ c : Dev Cert.KConvBIdeal.nD,
      r.2.mem ((c.tc : Thread Cert.KConvBIdeal.nD Cert.KConvBIdeal.τ).loc Cert.KConvBIdeal.main_arg0) = m ((c.tc : Thread Cert.KConvBIdeal.nD Cert.KConvBIdeal.τ).loc Cert.KConvBIdeal.main_arg0)
      ∧ r.2.mem ((c.tc : Thread Cert.KConvBIdeal.nD Cert.KConvBIdeal.τ).loc Cert.KConvBIdeal.main_arg1) = m ((c.tc : Thread Cert.KConvBIdeal.nD Cert.KConvBIdeal.τ).loc Cert.KConvBIdeal.main_arg1)
      ∧ r.2.mem ((c.tc : Thread Cert.KConvBIdeal.nD Cert.KConvBIdeal.τ).loc Cert.KConvBIdeal.main_arg2) = m ((c.tc : Thread Cert.KConvBIdeal.nD Cert.KConvBIdeal.τ).loc Cert.KConvBIdeal.main_arg2))
      ∧ r.2.sem = fun _ => 0)

def quiescent_RConvBIdeal [hRConvBIdeal : Cert.RConvBIdeal.Facts] : Prop :=
  ∀ (m : (ℓ : Loc Cert.RConvBIdeal.nD Cert.RConvBIdeal.τ Cert.RConvBIdeal.sig) → Buf (Elt Ideal) ℓ) (g : Dev Cert.RConvBIdeal.nD → PrngReg), Pre_RConvBIdeal m →
    θ_run (Cert.RConvBIdeal.defs (F := Ideal)) (onTc (τ := Cert.RConvBIdeal.τ) (Cert.RConvBIdeal.main (F := Ideal))) ⟨m, fun _ => 0, g⟩ (fun r => (∀ c : Dev Cert.RConvBIdeal.nD,
      r.2.mem ((c.tc : Thread Cert.RConvBIdeal.nD Cert.RConvBIdeal.τ).loc Cert.RConvBIdeal.main_arg0) = m ((c.tc : Thread Cert.RConvBIdeal.nD Cert.RConvBIdeal.τ).loc Cert.RConvBIdeal.main_arg0)
      ∧ r.2.mem ((c.tc : Thread Cert.RConvBIdeal.nD Cert.RConvBIdeal.τ).loc Cert.RConvBIdeal.main_arg1) = m ((c.tc : Thread Cert.RConvBIdeal.nD Cert.RConvBIdeal.τ).loc Cert.RConvBIdeal.main_arg1)
      ∧ r.2.mem ((c.tc : Thread Cert.RConvBIdeal.nD Cert.RConvBIdeal.τ).loc Cert.RConvBIdeal.main_arg2) = m ((c.tc : Thread Cert.RConvBIdeal.nD Cert.RConvBIdeal.τ).loc Cert.RConvBIdeal.main_arg2))
      ∧ r.2.sem = fun _ => 0)

def quiescent_KRmsF [hKRmsF : Cert.KRmsF.Facts] : Prop :=
  ∀ (m : (ℓ : Loc Cert.KRmsF.nD Cert.KRmsF.τ Cert.KRmsF.sig) → Buf (Elt Bits) ℓ) (g : Dev Cert.KRmsF.nD → PrngReg), Pre_KRmsF m →
    θ_run (Cert.KRmsF.defs (F := Bits)) (onTc (τ := Cert.KRmsF.τ) (Cert.KRmsF.main (F := Bits))) ⟨m, fun _ => 0, g⟩ (fun r => (∀ c : Dev Cert.KRmsF.nD,
      r.2.mem ((c.tc : Thread Cert.KRmsF.nD Cert.KRmsF.τ).loc Cert.KRmsF.main_arg0) = m ((c.tc : Thread Cert.KRmsF.nD Cert.KRmsF.τ).loc Cert.KRmsF.main_arg0)
      ∧ r.2.mem ((c.tc : Thread Cert.KRmsF.nD Cert.KRmsF.τ).loc Cert.KRmsF.main_arg1) = m ((c.tc : Thread Cert.KRmsF.nD Cert.KRmsF.τ).loc Cert.KRmsF.main_arg1))
      ∧ r.2.sem = fun _ => 0)

def quiescent_KRmsFIdeal [hKRmsFIdeal : Cert.KRmsFIdeal.Facts] : Prop :=
  ∀ (m : (ℓ : Loc Cert.KRmsFIdeal.nD Cert.KRmsFIdeal.τ Cert.KRmsFIdeal.sig) → Buf (Elt Ideal) ℓ) (g : Dev Cert.KRmsFIdeal.nD → PrngReg), Pre_KRmsFIdeal m →
    θ_run (Cert.KRmsFIdeal.defs (F := Ideal)) (onTc (τ := Cert.KRmsFIdeal.τ) (Cert.KRmsFIdeal.main (F := Ideal))) ⟨m, fun _ => 0, g⟩ (fun r => (∀ c : Dev Cert.KRmsFIdeal.nD,
      r.2.mem ((c.tc : Thread Cert.KRmsFIdeal.nD Cert.KRmsFIdeal.τ).loc Cert.KRmsFIdeal.main_arg0) = m ((c.tc : Thread Cert.KRmsFIdeal.nD Cert.KRmsFIdeal.τ).loc Cert.KRmsFIdeal.main_arg0)
      ∧ r.2.mem ((c.tc : Thread Cert.KRmsFIdeal.nD Cert.KRmsFIdeal.τ).loc Cert.KRmsFIdeal.main_arg1) = m ((c.tc : Thread Cert.KRmsFIdeal.nD Cert.KRmsFIdeal.τ).loc Cert.KRmsFIdeal.main_arg1))
      ∧ r.2.sem = fun _ => 0)

def quiescent_RRmsFIdeal [hRRmsFIdeal : Cert.RRmsFIdeal.Facts] : Prop :=
  ∀ (m : (ℓ : Loc Cert.RRmsFIdeal.nD Cert.RRmsFIdeal.τ Cert.RRmsFIdeal.sig) → Buf (Elt Ideal) ℓ) (g : Dev Cert.RRmsFIdeal.nD → PrngReg), Pre_RRmsFIdeal m →
    θ_run (Cert.RRmsFIdeal.defs (F := Ideal)) (onTc (τ := Cert.RRmsFIdeal.τ) (Cert.RRmsFIdeal.main (F := Ideal))) ⟨m, fun _ => 0, g⟩ (fun r => (∀ c : Dev Cert.RRmsFIdeal.nD,
      r.2.mem ((c.tc : Thread Cert.RRmsFIdeal.nD Cert.RRmsFIdeal.τ).loc Cert.RRmsFIdeal.main_arg0) = m ((c.tc : Thread Cert.RRmsFIdeal.nD Cert.RRmsFIdeal.τ).loc Cert.RRmsFIdeal.main_arg0)
      ∧ r.2.mem ((c.tc : Thread Cert.RRmsFIdeal.nD Cert.RRmsFIdeal.τ).loc Cert.RRmsFIdeal.main_arg1) = m ((c.tc : Thread Cert.RRmsFIdeal.nD Cert.RRmsFIdeal.τ).loc Cert.RRmsFIdeal.main_arg1))
      ∧ r.2.sem = fun _ => 0)

def quiescent_KGateAF [hKGateAF : Cert.KGateAF.Facts] : Prop :=
  ∀ (m : (ℓ : Loc Cert.KGateAF.nD Cert.KGateAF.τ Cert.KGateAF.sig) → Buf (Elt Bits) ℓ) (g : Dev Cert.KGateAF.nD → PrngReg), Pre_KGateAF m →
    θ_run (Cert.KGateAF.defs (F := Bits)) (onTc (τ := Cert.KGateAF.τ) (Cert.KGateAF.main (F := Bits))) ⟨m, fun _ => 0, g⟩ (fun r => (∀ c : Dev Cert.KGateAF.nD,
      r.2.mem ((c.tc : Thread Cert.KGateAF.nD Cert.KGateAF.τ).loc Cert.KGateAF.main_arg0) = m ((c.tc : Thread Cert.KGateAF.nD Cert.KGateAF.τ).loc Cert.KGateAF.main_arg0)
      ∧ r.2.mem ((c.tc : Thread Cert.KGateAF.nD Cert.KGateAF.τ).loc Cert.KGateAF.main_arg1) = m ((c.tc : Thread Cert.KGateAF.nD Cert.KGateAF.τ).loc Cert.KGateAF.main_arg1))
      ∧ r.2.sem = fun _ => 0)

def quiescent_KGateAFIdeal [hKGateAFIdeal : Cert.KGateAFIdeal.Facts] : Prop :=
  ∀ (m : (ℓ : Loc Cert.KGateAFIdeal.nD Cert.KGateAFIdeal.τ Cert.KGateAFIdeal.sig) → Buf (Elt Ideal) ℓ) (g : Dev Cert.KGateAFIdeal.nD → PrngReg), Pre_KGateAFIdeal m →
    θ_run (Cert.KGateAFIdeal.defs (F := Ideal)) (onTc (τ := Cert.KGateAFIdeal.τ) (Cert.KGateAFIdeal.main (F := Ideal))) ⟨m, fun _ => 0, g⟩ (fun r => (∀ c : Dev Cert.KGateAFIdeal.nD,
      r.2.mem ((c.tc : Thread Cert.KGateAFIdeal.nD Cert.KGateAFIdeal.τ).loc Cert.KGateAFIdeal.main_arg0) = m ((c.tc : Thread Cert.KGateAFIdeal.nD Cert.KGateAFIdeal.τ).loc Cert.KGateAFIdeal.main_arg0)
      ∧ r.2.mem ((c.tc : Thread Cert.KGateAFIdeal.nD Cert.KGateAFIdeal.τ).loc Cert.KGateAFIdeal.main_arg1) = m ((c.tc : Thread Cert.KGateAFIdeal.nD Cert.KGateAFIdeal.τ).loc Cert.KGateAFIdeal.main_arg1))
      ∧ r.2.sem = fun _ => 0)

def quiescent_RGateAFIdeal [hRGateAFIdeal : Cert.RGateAFIdeal.Facts] : Prop :=
  ∀ (m : (ℓ : Loc Cert.RGateAFIdeal.nD Cert.RGateAFIdeal.τ Cert.RGateAFIdeal.sig) → Buf (Elt Ideal) ℓ) (g : Dev Cert.RGateAFIdeal.nD → PrngReg), Pre_RGateAFIdeal m →
    θ_run (Cert.RGateAFIdeal.defs (F := Ideal)) (onTc (τ := Cert.RGateAFIdeal.τ) (Cert.RGateAFIdeal.main (F := Ideal))) ⟨m, fun _ => 0, g⟩ (fun r => (∀ c : Dev Cert.RGateAFIdeal.nD,
      r.2.mem ((c.tc : Thread Cert.RGateAFIdeal.nD Cert.RGateAFIdeal.τ).loc Cert.RGateAFIdeal.main_arg0) = m ((c.tc : Thread Cert.RGateAFIdeal.nD Cert.RGateAFIdeal.τ).loc Cert.RGateAFIdeal.main_arg0)
      ∧ r.2.mem ((c.tc : Thread Cert.RGateAFIdeal.nD Cert.RGateAFIdeal.τ).loc Cert.RGateAFIdeal.main_arg1) = m ((c.tc : Thread Cert.RGateAFIdeal.nD Cert.RGateAFIdeal.τ).loc Cert.RGateAFIdeal.main_arg1))
      ∧ r.2.sem = fun _ => 0)

def quiescent_KGateBF [hKGateBF : Cert.KGateBF.Facts] : Prop :=
  ∀ (m : (ℓ : Loc Cert.KGateBF.nD Cert.KGateBF.τ Cert.KGateBF.sig) → Buf (Elt Bits) ℓ) (g : Dev Cert.KGateBF.nD → PrngReg), Pre_KGateBF m →
    θ_run (Cert.KGateBF.defs (F := Bits)) (onTc (τ := Cert.KGateBF.τ) (Cert.KGateBF.main (F := Bits))) ⟨m, fun _ => 0, g⟩ (fun r => (∀ c : Dev Cert.KGateBF.nD,
      r.2.mem ((c.tc : Thread Cert.KGateBF.nD Cert.KGateBF.τ).loc Cert.KGateBF.main_arg0) = m ((c.tc : Thread Cert.KGateBF.nD Cert.KGateBF.τ).loc Cert.KGateBF.main_arg0)
      ∧ r.2.mem ((c.tc : Thread Cert.KGateBF.nD Cert.KGateBF.τ).loc Cert.KGateBF.main_arg1) = m ((c.tc : Thread Cert.KGateBF.nD Cert.KGateBF.τ).loc Cert.KGateBF.main_arg1)
      ∧ r.2.mem ((c.tc : Thread Cert.KGateBF.nD Cert.KGateBF.τ).loc Cert.KGateBF.main_arg2) = m ((c.tc : Thread Cert.KGateBF.nD Cert.KGateBF.τ).loc Cert.KGateBF.main_arg2))
      ∧ r.2.sem = fun _ => 0)

def quiescent_KGateBFIdeal [hKGateBFIdeal : Cert.KGateBFIdeal.Facts] : Prop :=
  ∀ (m : (ℓ : Loc Cert.KGateBFIdeal.nD Cert.KGateBFIdeal.τ Cert.KGateBFIdeal.sig) → Buf (Elt Ideal) ℓ) (g : Dev Cert.KGateBFIdeal.nD → PrngReg), Pre_KGateBFIdeal m →
    θ_run (Cert.KGateBFIdeal.defs (F := Ideal)) (onTc (τ := Cert.KGateBFIdeal.τ) (Cert.KGateBFIdeal.main (F := Ideal))) ⟨m, fun _ => 0, g⟩ (fun r => (∀ c : Dev Cert.KGateBFIdeal.nD,
      r.2.mem ((c.tc : Thread Cert.KGateBFIdeal.nD Cert.KGateBFIdeal.τ).loc Cert.KGateBFIdeal.main_arg0) = m ((c.tc : Thread Cert.KGateBFIdeal.nD Cert.KGateBFIdeal.τ).loc Cert.KGateBFIdeal.main_arg0)
      ∧ r.2.mem ((c.tc : Thread Cert.KGateBFIdeal.nD Cert.KGateBFIdeal.τ).loc Cert.KGateBFIdeal.main_arg1) = m ((c.tc : Thread Cert.KGateBFIdeal.nD Cert.KGateBFIdeal.τ).loc Cert.KGateBFIdeal.main_arg1)
      ∧ r.2.mem ((c.tc : Thread Cert.KGateBFIdeal.nD Cert.KGateBFIdeal.τ).loc Cert.KGateBFIdeal.main_arg2) = m ((c.tc : Thread Cert.KGateBFIdeal.nD Cert.KGateBFIdeal.τ).loc Cert.KGateBFIdeal.main_arg2))
      ∧ r.2.sem = fun _ => 0)

def quiescent_RGateBFIdeal [hRGateBFIdeal : Cert.RGateBFIdeal.Facts] : Prop :=
  ∀ (m : (ℓ : Loc Cert.RGateBFIdeal.nD Cert.RGateBFIdeal.τ Cert.RGateBFIdeal.sig) → Buf (Elt Ideal) ℓ) (g : Dev Cert.RGateBFIdeal.nD → PrngReg), Pre_RGateBFIdeal m →
    θ_run (Cert.RGateBFIdeal.defs (F := Ideal)) (onTc (τ := Cert.RGateBFIdeal.τ) (Cert.RGateBFIdeal.main (F := Ideal))) ⟨m, fun _ => 0, g⟩ (fun r => (∀ c : Dev Cert.RGateBFIdeal.nD,
      r.2.mem ((c.tc : Thread Cert.RGateBFIdeal.nD Cert.RGateBFIdeal.τ).loc Cert.RGateBFIdeal.main_arg0) = m ((c.tc : Thread Cert.RGateBFIdeal.nD Cert.RGateBFIdeal.τ).loc Cert.RGateBFIdeal.main_arg0)
      ∧ r.2.mem ((c.tc : Thread Cert.RGateBFIdeal.nD Cert.RGateBFIdeal.τ).loc Cert.RGateBFIdeal.main_arg1) = m ((c.tc : Thread Cert.RGateBFIdeal.nD Cert.RGateBFIdeal.τ).loc Cert.RGateBFIdeal.main_arg1)
      ∧ r.2.mem ((c.tc : Thread Cert.RGateBFIdeal.nD Cert.RGateBFIdeal.τ).loc Cert.RGateBFIdeal.main_arg2) = m ((c.tc : Thread Cert.RGateBFIdeal.nD Cert.RGateBFIdeal.τ).loc Cert.RGateBFIdeal.main_arg2))
      ∧ r.2.sem = fun _ => 0)

def quiescent_KGateCF [hKGateCF : Cert.KGateCF.Facts] : Prop :=
  ∀ (m : (ℓ : Loc Cert.KGateCF.nD Cert.KGateCF.τ Cert.KGateCF.sig) → Buf (Elt Bits) ℓ) (g : Dev Cert.KGateCF.nD → PrngReg), Pre_KGateCF m →
    θ_run (Cert.KGateCF.defs (F := Bits)) (onTc (τ := Cert.KGateCF.τ) (Cert.KGateCF.main (F := Bits))) ⟨m, fun _ => 0, g⟩ (fun r => (∀ c : Dev Cert.KGateCF.nD,
      r.2.mem ((c.tc : Thread Cert.KGateCF.nD Cert.KGateCF.τ).loc Cert.KGateCF.main_arg0) = m ((c.tc : Thread Cert.KGateCF.nD Cert.KGateCF.τ).loc Cert.KGateCF.main_arg0)
      ∧ r.2.mem ((c.tc : Thread Cert.KGateCF.nD Cert.KGateCF.τ).loc Cert.KGateCF.main_arg1) = m ((c.tc : Thread Cert.KGateCF.nD Cert.KGateCF.τ).loc Cert.KGateCF.main_arg1)
      ∧ r.2.mem ((c.tc : Thread Cert.KGateCF.nD Cert.KGateCF.τ).loc Cert.KGateCF.main_arg2) = m ((c.tc : Thread Cert.KGateCF.nD Cert.KGateCF.τ).loc Cert.KGateCF.main_arg2)
      ∧ r.2.mem ((c.tc : Thread Cert.KGateCF.nD Cert.KGateCF.τ).loc Cert.KGateCF.main_arg3) = m ((c.tc : Thread Cert.KGateCF.nD Cert.KGateCF.τ).loc Cert.KGateCF.main_arg3)
      ∧ r.2.mem ((c.tc : Thread Cert.KGateCF.nD Cert.KGateCF.τ).loc Cert.KGateCF.main_arg4) = m ((c.tc : Thread Cert.KGateCF.nD Cert.KGateCF.τ).loc Cert.KGateCF.main_arg4))
      ∧ r.2.sem = fun _ => 0)

def quiescent_KGateCFIdeal [hKGateCFIdeal : Cert.KGateCFIdeal.Facts] : Prop :=
  ∀ (m : (ℓ : Loc Cert.KGateCFIdeal.nD Cert.KGateCFIdeal.τ Cert.KGateCFIdeal.sig) → Buf (Elt Ideal) ℓ) (g : Dev Cert.KGateCFIdeal.nD → PrngReg), Pre_KGateCFIdeal m →
    θ_run (Cert.KGateCFIdeal.defs (F := Ideal)) (onTc (τ := Cert.KGateCFIdeal.τ) (Cert.KGateCFIdeal.main (F := Ideal))) ⟨m, fun _ => 0, g⟩ (fun r => (∀ c : Dev Cert.KGateCFIdeal.nD,
      r.2.mem ((c.tc : Thread Cert.KGateCFIdeal.nD Cert.KGateCFIdeal.τ).loc Cert.KGateCFIdeal.main_arg0) = m ((c.tc : Thread Cert.KGateCFIdeal.nD Cert.KGateCFIdeal.τ).loc Cert.KGateCFIdeal.main_arg0)
      ∧ r.2.mem ((c.tc : Thread Cert.KGateCFIdeal.nD Cert.KGateCFIdeal.τ).loc Cert.KGateCFIdeal.main_arg1) = m ((c.tc : Thread Cert.KGateCFIdeal.nD Cert.KGateCFIdeal.τ).loc Cert.KGateCFIdeal.main_arg1)
      ∧ r.2.mem ((c.tc : Thread Cert.KGateCFIdeal.nD Cert.KGateCFIdeal.τ).loc Cert.KGateCFIdeal.main_arg2) = m ((c.tc : Thread Cert.KGateCFIdeal.nD Cert.KGateCFIdeal.τ).loc Cert.KGateCFIdeal.main_arg2)
      ∧ r.2.mem ((c.tc : Thread Cert.KGateCFIdeal.nD Cert.KGateCFIdeal.τ).loc Cert.KGateCFIdeal.main_arg3) = m ((c.tc : Thread Cert.KGateCFIdeal.nD Cert.KGateCFIdeal.τ).loc Cert.KGateCFIdeal.main_arg3)
      ∧ r.2.mem ((c.tc : Thread Cert.KGateCFIdeal.nD Cert.KGateCFIdeal.τ).loc Cert.KGateCFIdeal.main_arg4) = m ((c.tc : Thread Cert.KGateCFIdeal.nD Cert.KGateCFIdeal.τ).loc Cert.KGateCFIdeal.main_arg4))
      ∧ r.2.sem = fun _ => 0)

def quiescent_RGateCFIdeal [hRGateCFIdeal : Cert.RGateCFIdeal.Facts] : Prop :=
  ∀ (m : (ℓ : Loc Cert.RGateCFIdeal.nD Cert.RGateCFIdeal.τ Cert.RGateCFIdeal.sig) → Buf (Elt Ideal) ℓ) (g : Dev Cert.RGateCFIdeal.nD → PrngReg), Pre_RGateCFIdeal m →
    θ_run (Cert.RGateCFIdeal.defs (F := Ideal)) (onTc (τ := Cert.RGateCFIdeal.τ) (Cert.RGateCFIdeal.main (F := Ideal))) ⟨m, fun _ => 0, g⟩ (fun r => (∀ c : Dev Cert.RGateCFIdeal.nD,
      r.2.mem ((c.tc : Thread Cert.RGateCFIdeal.nD Cert.RGateCFIdeal.τ).loc Cert.RGateCFIdeal.main_arg0) = m ((c.tc : Thread Cert.RGateCFIdeal.nD Cert.RGateCFIdeal.τ).loc Cert.RGateCFIdeal.main_arg0)
      ∧ r.2.mem ((c.tc : Thread Cert.RGateCFIdeal.nD Cert.RGateCFIdeal.τ).loc Cert.RGateCFIdeal.main_arg1) = m ((c.tc : Thread Cert.RGateCFIdeal.nD Cert.RGateCFIdeal.τ).loc Cert.RGateCFIdeal.main_arg1)
      ∧ r.2.mem ((c.tc : Thread Cert.RGateCFIdeal.nD Cert.RGateCFIdeal.τ).loc Cert.RGateCFIdeal.main_arg2) = m ((c.tc : Thread Cert.RGateCFIdeal.nD Cert.RGateCFIdeal.τ).loc Cert.RGateCFIdeal.main_arg2)
      ∧ r.2.mem ((c.tc : Thread Cert.RGateCFIdeal.nD Cert.RGateCFIdeal.τ).loc Cert.RGateCFIdeal.main_arg3) = m ((c.tc : Thread Cert.RGateCFIdeal.nD Cert.RGateCFIdeal.τ).loc Cert.RGateCFIdeal.main_arg3)
      ∧ r.2.mem ((c.tc : Thread Cert.RGateCFIdeal.nD Cert.RGateCFIdeal.τ).loc Cert.RGateCFIdeal.main_arg4) = m ((c.tc : Thread Cert.RGateCFIdeal.nD Cert.RGateCFIdeal.τ).loc Cert.RGateCFIdeal.main_arg4))
      ∧ r.2.sem = fun _ => 0)

def quiescent_KMergeF [hKMergeF : Cert.KMergeF.Facts] : Prop :=
  ∀ (m : (ℓ : Loc Cert.KMergeF.nD Cert.KMergeF.τ Cert.KMergeF.sig) → Buf (Elt Bits) ℓ) (g : Dev Cert.KMergeF.nD → PrngReg), Pre_KMergeF m →
    θ_run (Cert.KMergeF.defs (F := Bits)) (onTc (τ := Cert.KMergeF.τ) (Cert.KMergeF.main (F := Bits))) ⟨m, fun _ => 0, g⟩ (fun r => (∀ c : Dev Cert.KMergeF.nD,
      r.2.mem ((c.tc : Thread Cert.KMergeF.nD Cert.KMergeF.τ).loc Cert.KMergeF.main_arg0) = m ((c.tc : Thread Cert.KMergeF.nD Cert.KMergeF.τ).loc Cert.KMergeF.main_arg0)
      ∧ r.2.mem ((c.tc : Thread Cert.KMergeF.nD Cert.KMergeF.τ).loc Cert.KMergeF.main_arg1) = m ((c.tc : Thread Cert.KMergeF.nD Cert.KMergeF.τ).loc Cert.KMergeF.main_arg1)
      ∧ r.2.mem ((c.tc : Thread Cert.KMergeF.nD Cert.KMergeF.τ).loc Cert.KMergeF.main_arg2) = m ((c.tc : Thread Cert.KMergeF.nD Cert.KMergeF.τ).loc Cert.KMergeF.main_arg2)
      ∧ r.2.mem ((c.tc : Thread Cert.KMergeF.nD Cert.KMergeF.τ).loc Cert.KMergeF.main_arg3) = m ((c.tc : Thread Cert.KMergeF.nD Cert.KMergeF.τ).loc Cert.KMergeF.main_arg3))
      ∧ r.2.sem = fun _ => 0)

def quiescent_KMergeFIdeal [hKMergeFIdeal : Cert.KMergeFIdeal.Facts] : Prop :=
  ∀ (m : (ℓ : Loc Cert.KMergeFIdeal.nD Cert.KMergeFIdeal.τ Cert.KMergeFIdeal.sig) → Buf (Elt Ideal) ℓ) (g : Dev Cert.KMergeFIdeal.nD → PrngReg), Pre_KMergeFIdeal m →
    θ_run (Cert.KMergeFIdeal.defs (F := Ideal)) (onTc (τ := Cert.KMergeFIdeal.τ) (Cert.KMergeFIdeal.main (F := Ideal))) ⟨m, fun _ => 0, g⟩ (fun r => (∀ c : Dev Cert.KMergeFIdeal.nD,
      r.2.mem ((c.tc : Thread Cert.KMergeFIdeal.nD Cert.KMergeFIdeal.τ).loc Cert.KMergeFIdeal.main_arg0) = m ((c.tc : Thread Cert.KMergeFIdeal.nD Cert.KMergeFIdeal.τ).loc Cert.KMergeFIdeal.main_arg0)
      ∧ r.2.mem ((c.tc : Thread Cert.KMergeFIdeal.nD Cert.KMergeFIdeal.τ).loc Cert.KMergeFIdeal.main_arg1) = m ((c.tc : Thread Cert.KMergeFIdeal.nD Cert.KMergeFIdeal.τ).loc Cert.KMergeFIdeal.main_arg1)
      ∧ r.2.mem ((c.tc : Thread Cert.KMergeFIdeal.nD Cert.KMergeFIdeal.τ).loc Cert.KMergeFIdeal.main_arg2) = m ((c.tc : Thread Cert.KMergeFIdeal.nD Cert.KMergeFIdeal.τ).loc Cert.KMergeFIdeal.main_arg2)
      ∧ r.2.mem ((c.tc : Thread Cert.KMergeFIdeal.nD Cert.KMergeFIdeal.τ).loc Cert.KMergeFIdeal.main_arg3) = m ((c.tc : Thread Cert.KMergeFIdeal.nD Cert.KMergeFIdeal.τ).loc Cert.KMergeFIdeal.main_arg3))
      ∧ r.2.sem = fun _ => 0)

def quiescent_RMergeFIdeal [hRMergeFIdeal : Cert.RMergeFIdeal.Facts] : Prop :=
  ∀ (m : (ℓ : Loc Cert.RMergeFIdeal.nD Cert.RMergeFIdeal.τ Cert.RMergeFIdeal.sig) → Buf (Elt Ideal) ℓ) (g : Dev Cert.RMergeFIdeal.nD → PrngReg), Pre_RMergeFIdeal m →
    θ_run (Cert.RMergeFIdeal.defs (F := Ideal)) (onTc (τ := Cert.RMergeFIdeal.τ) (Cert.RMergeFIdeal.main (F := Ideal))) ⟨m, fun _ => 0, g⟩ (fun r => (∀ c : Dev Cert.RMergeFIdeal.nD,
      r.2.mem ((c.tc : Thread Cert.RMergeFIdeal.nD Cert.RMergeFIdeal.τ).loc Cert.RMergeFIdeal.main_arg0) = m ((c.tc : Thread Cert.RMergeFIdeal.nD Cert.RMergeFIdeal.τ).loc Cert.RMergeFIdeal.main_arg0)
      ∧ r.2.mem ((c.tc : Thread Cert.RMergeFIdeal.nD Cert.RMergeFIdeal.τ).loc Cert.RMergeFIdeal.main_arg1) = m ((c.tc : Thread Cert.RMergeFIdeal.nD Cert.RMergeFIdeal.τ).loc Cert.RMergeFIdeal.main_arg1)
      ∧ r.2.mem ((c.tc : Thread Cert.RMergeFIdeal.nD Cert.RMergeFIdeal.τ).loc Cert.RMergeFIdeal.main_arg2) = m ((c.tc : Thread Cert.RMergeFIdeal.nD Cert.RMergeFIdeal.τ).loc Cert.RMergeFIdeal.main_arg2)
      ∧ r.2.mem ((c.tc : Thread Cert.RMergeFIdeal.nD Cert.RMergeFIdeal.τ).loc Cert.RMergeFIdeal.main_arg3) = m ((c.tc : Thread Cert.RMergeFIdeal.nD Cert.RMergeFIdeal.τ).loc Cert.RMergeFIdeal.main_arg3))
      ∧ r.2.sem = fun _ => 0)

def quiescent_KConvCF [hKConvCF : Cert.KConvCF.Facts] : Prop :=
  ∀ (m : (ℓ : Loc Cert.KConvCF.nD Cert.KConvCF.τ Cert.KConvCF.sig) → Buf (Elt Bits) ℓ) (g : Dev Cert.KConvCF.nD → PrngReg), Pre_KConvCF m →
    θ_run (Cert.KConvCF.defs (F := Bits)) (onTc (τ := Cert.KConvCF.τ) (Cert.KConvCF.main (F := Bits))) ⟨m, fun _ => 0, g⟩ (fun r => (∀ c : Dev Cert.KConvCF.nD,
      r.2.mem ((c.tc : Thread Cert.KConvCF.nD Cert.KConvCF.τ).loc Cert.KConvCF.main_arg0) = m ((c.tc : Thread Cert.KConvCF.nD Cert.KConvCF.τ).loc Cert.KConvCF.main_arg0)
      ∧ r.2.mem ((c.tc : Thread Cert.KConvCF.nD Cert.KConvCF.τ).loc Cert.KConvCF.main_arg1) = m ((c.tc : Thread Cert.KConvCF.nD Cert.KConvCF.τ).loc Cert.KConvCF.main_arg1)
      ∧ r.2.mem ((c.tc : Thread Cert.KConvCF.nD Cert.KConvCF.τ).loc Cert.KConvCF.main_arg2) = m ((c.tc : Thread Cert.KConvCF.nD Cert.KConvCF.τ).loc Cert.KConvCF.main_arg2))
      ∧ r.2.sem = fun _ => 0)

def quiescent_KConvCFIdeal [hKConvCFIdeal : Cert.KConvCFIdeal.Facts] : Prop :=
  ∀ (m : (ℓ : Loc Cert.KConvCFIdeal.nD Cert.KConvCFIdeal.τ Cert.KConvCFIdeal.sig) → Buf (Elt Ideal) ℓ) (g : Dev Cert.KConvCFIdeal.nD → PrngReg), Pre_KConvCFIdeal m →
    θ_run (Cert.KConvCFIdeal.defs (F := Ideal)) (onTc (τ := Cert.KConvCFIdeal.τ) (Cert.KConvCFIdeal.main (F := Ideal))) ⟨m, fun _ => 0, g⟩ (fun r => (∀ c : Dev Cert.KConvCFIdeal.nD,
      r.2.mem ((c.tc : Thread Cert.KConvCFIdeal.nD Cert.KConvCFIdeal.τ).loc Cert.KConvCFIdeal.main_arg0) = m ((c.tc : Thread Cert.KConvCFIdeal.nD Cert.KConvCFIdeal.τ).loc Cert.KConvCFIdeal.main_arg0)
      ∧ r.2.mem ((c.tc : Thread Cert.KConvCFIdeal.nD Cert.KConvCFIdeal.τ).loc Cert.KConvCFIdeal.main_arg1) = m ((c.tc : Thread Cert.KConvCFIdeal.nD Cert.KConvCFIdeal.τ).loc Cert.KConvCFIdeal.main_arg1)
      ∧ r.2.mem ((c.tc : Thread Cert.KConvCFIdeal.nD Cert.KConvCFIdeal.τ).loc Cert.KConvCFIdeal.main_arg2) = m ((c.tc : Thread Cert.KConvCFIdeal.nD Cert.KConvCFIdeal.τ).loc Cert.KConvCFIdeal.main_arg2))
      ∧ r.2.sem = fun _ => 0)

def quiescent_RConvCFIdeal [hRConvCFIdeal : Cert.RConvCFIdeal.Facts] : Prop :=
  ∀ (m : (ℓ : Loc Cert.RConvCFIdeal.nD Cert.RConvCFIdeal.τ Cert.RConvCFIdeal.sig) → Buf (Elt Ideal) ℓ) (g : Dev Cert.RConvCFIdeal.nD → PrngReg), Pre_RConvCFIdeal m →
    θ_run (Cert.RConvCFIdeal.defs (F := Ideal)) (onTc (τ := Cert.RConvCFIdeal.τ) (Cert.RConvCFIdeal.main (F := Ideal))) ⟨m, fun _ => 0, g⟩ (fun r => (∀ c : Dev Cert.RConvCFIdeal.nD,
      r.2.mem ((c.tc : Thread Cert.RConvCFIdeal.nD Cert.RConvCFIdeal.τ).loc Cert.RConvCFIdeal.main_arg0) = m ((c.tc : Thread Cert.RConvCFIdeal.nD Cert.RConvCFIdeal.τ).loc Cert.RConvCFIdeal.main_arg0)
      ∧ r.2.mem ((c.tc : Thread Cert.RConvCFIdeal.nD Cert.RConvCFIdeal.τ).loc Cert.RConvCFIdeal.main_arg1) = m ((c.tc : Thread Cert.RConvCFIdeal.nD Cert.RConvCFIdeal.τ).loc Cert.RConvCFIdeal.main_arg1)
      ∧ r.2.mem ((c.tc : Thread Cert.RConvCFIdeal.nD Cert.RConvCFIdeal.τ).loc Cert.RConvCFIdeal.main_arg2) = m ((c.tc : Thread Cert.RConvCFIdeal.nD Cert.RConvCFIdeal.τ).loc Cert.RConvCFIdeal.main_arg2))
      ∧ r.2.sem = fun _ => 0)

def quiescent_KConvBF [hKConvBF : Cert.KConvBF.Facts] : Prop :=
  ∀ (m : (ℓ : Loc Cert.KConvBF.nD Cert.KConvBF.τ Cert.KConvBF.sig) → Buf (Elt Bits) ℓ) (g : Dev Cert.KConvBF.nD → PrngReg), Pre_KConvBF m →
    θ_run (Cert.KConvBF.defs (F := Bits)) (onTc (τ := Cert.KConvBF.τ) (Cert.KConvBF.main (F := Bits))) ⟨m, fun _ => 0, g⟩ (fun r => (∀ c : Dev Cert.KConvBF.nD,
      r.2.mem ((c.tc : Thread Cert.KConvBF.nD Cert.KConvBF.τ).loc Cert.KConvBF.main_arg0) = m ((c.tc : Thread Cert.KConvBF.nD Cert.KConvBF.τ).loc Cert.KConvBF.main_arg0)
      ∧ r.2.mem ((c.tc : Thread Cert.KConvBF.nD Cert.KConvBF.τ).loc Cert.KConvBF.main_arg1) = m ((c.tc : Thread Cert.KConvBF.nD Cert.KConvBF.τ).loc Cert.KConvBF.main_arg1))
      ∧ r.2.sem = fun _ => 0)

def quiescent_KConvBFIdeal [hKConvBFIdeal : Cert.KConvBFIdeal.Facts] : Prop :=
  ∀ (m : (ℓ : Loc Cert.KConvBFIdeal.nD Cert.KConvBFIdeal.τ Cert.KConvBFIdeal.sig) → Buf (Elt Ideal) ℓ) (g : Dev Cert.KConvBFIdeal.nD → PrngReg), Pre_KConvBFIdeal m →
    θ_run (Cert.KConvBFIdeal.defs (F := Ideal)) (onTc (τ := Cert.KConvBFIdeal.τ) (Cert.KConvBFIdeal.main (F := Ideal))) ⟨m, fun _ => 0, g⟩ (fun r => (∀ c : Dev Cert.KConvBFIdeal.nD,
      r.2.mem ((c.tc : Thread Cert.KConvBFIdeal.nD Cert.KConvBFIdeal.τ).loc Cert.KConvBFIdeal.main_arg0) = m ((c.tc : Thread Cert.KConvBFIdeal.nD Cert.KConvBFIdeal.τ).loc Cert.KConvBFIdeal.main_arg0)
      ∧ r.2.mem ((c.tc : Thread Cert.KConvBFIdeal.nD Cert.KConvBFIdeal.τ).loc Cert.KConvBFIdeal.main_arg1) = m ((c.tc : Thread Cert.KConvBFIdeal.nD Cert.KConvBFIdeal.τ).loc Cert.KConvBFIdeal.main_arg1))
      ∧ r.2.sem = fun _ => 0)

def quiescent_RConvBFIdeal [hRConvBFIdeal : Cert.RConvBFIdeal.Facts] : Prop :=
  ∀ (m : (ℓ : Loc Cert.RConvBFIdeal.nD Cert.RConvBFIdeal.τ Cert.RConvBFIdeal.sig) → Buf (Elt Ideal) ℓ) (g : Dev Cert.RConvBFIdeal.nD → PrngReg), Pre_RConvBFIdeal m →
    θ_run (Cert.RConvBFIdeal.defs (F := Ideal)) (onTc (τ := Cert.RConvBFIdeal.τ) (Cert.RConvBFIdeal.main (F := Ideal))) ⟨m, fun _ => 0, g⟩ (fun r => (∀ c : Dev Cert.RConvBFIdeal.nD,
      r.2.mem ((c.tc : Thread Cert.RConvBFIdeal.nD Cert.RConvBFIdeal.τ).loc Cert.RConvBFIdeal.main_arg0) = m ((c.tc : Thread Cert.RConvBFIdeal.nD Cert.RConvBFIdeal.τ).loc Cert.RConvBFIdeal.main_arg0)
      ∧ r.2.mem ((c.tc : Thread Cert.RConvBFIdeal.nD Cert.RConvBFIdeal.τ).loc Cert.RConvBFIdeal.main_arg1) = m ((c.tc : Thread Cert.RConvBFIdeal.nD Cert.RConvBFIdeal.τ).loc Cert.RConvBFIdeal.main_arg1))
      ∧ r.2.sem = fun _ => 0)

def quiescent_KGatesF [hKGatesF : Cert.KGatesF.Facts] : Prop :=
  ∀ (m : (ℓ : Loc Cert.KGatesF.nD Cert.KGatesF.τ Cert.KGatesF.sig) → Buf (Elt Bits) ℓ) (g : Dev Cert.KGatesF.nD → PrngReg), Pre_KGatesF m →
    θ_run (Cert.KGatesF.defs (F := Bits)) (onTc (τ := Cert.KGatesF.τ) (Cert.KGatesF.main (F := Bits))) ⟨m, fun _ => 0, g⟩ (fun r => (∀ c : Dev Cert.KGatesF.nD,
      r.2.mem ((c.tc : Thread Cert.KGatesF.nD Cert.KGatesF.τ).loc Cert.KGatesF.main_arg0) = m ((c.tc : Thread Cert.KGatesF.nD Cert.KGatesF.τ).loc Cert.KGatesF.main_arg0)
      ∧ r.2.mem ((c.tc : Thread Cert.KGatesF.nD Cert.KGatesF.τ).loc Cert.KGatesF.main_arg1) = m ((c.tc : Thread Cert.KGatesF.nD Cert.KGatesF.τ).loc Cert.KGatesF.main_arg1)
      ∧ r.2.mem ((c.tc : Thread Cert.KGatesF.nD Cert.KGatesF.τ).loc Cert.KGatesF.main_arg2) = m ((c.tc : Thread Cert.KGatesF.nD Cert.KGatesF.τ).loc Cert.KGatesF.main_arg2)
      ∧ r.2.mem ((c.tc : Thread Cert.KGatesF.nD Cert.KGatesF.τ).loc Cert.KGatesF.main_arg3) = m ((c.tc : Thread Cert.KGatesF.nD Cert.KGatesF.τ).loc Cert.KGatesF.main_arg3)
      ∧ r.2.mem ((c.tc : Thread Cert.KGatesF.nD Cert.KGatesF.τ).loc Cert.KGatesF.main_arg4) = m ((c.tc : Thread Cert.KGatesF.nD Cert.KGatesF.τ).loc Cert.KGatesF.main_arg4))
      ∧ r.2.sem = fun _ => 0)

def quiescent_KGatesFIdeal [hKGatesFIdeal : Cert.KGatesFIdeal.Facts] : Prop :=
  ∀ (m : (ℓ : Loc Cert.KGatesFIdeal.nD Cert.KGatesFIdeal.τ Cert.KGatesFIdeal.sig) → Buf (Elt Ideal) ℓ) (g : Dev Cert.KGatesFIdeal.nD → PrngReg), Pre_KGatesFIdeal m →
    θ_run (Cert.KGatesFIdeal.defs (F := Ideal)) (onTc (τ := Cert.KGatesFIdeal.τ) (Cert.KGatesFIdeal.main (F := Ideal))) ⟨m, fun _ => 0, g⟩ (fun r => (∀ c : Dev Cert.KGatesFIdeal.nD,
      r.2.mem ((c.tc : Thread Cert.KGatesFIdeal.nD Cert.KGatesFIdeal.τ).loc Cert.KGatesFIdeal.main_arg0) = m ((c.tc : Thread Cert.KGatesFIdeal.nD Cert.KGatesFIdeal.τ).loc Cert.KGatesFIdeal.main_arg0)
      ∧ r.2.mem ((c.tc : Thread Cert.KGatesFIdeal.nD Cert.KGatesFIdeal.τ).loc Cert.KGatesFIdeal.main_arg1) = m ((c.tc : Thread Cert.KGatesFIdeal.nD Cert.KGatesFIdeal.τ).loc Cert.KGatesFIdeal.main_arg1)
      ∧ r.2.mem ((c.tc : Thread Cert.KGatesFIdeal.nD Cert.KGatesFIdeal.τ).loc Cert.KGatesFIdeal.main_arg2) = m ((c.tc : Thread Cert.KGatesFIdeal.nD Cert.KGatesFIdeal.τ).loc Cert.KGatesFIdeal.main_arg2)
      ∧ r.2.mem ((c.tc : Thread Cert.KGatesFIdeal.nD Cert.KGatesFIdeal.τ).loc Cert.KGatesFIdeal.main_arg3) = m ((c.tc : Thread Cert.KGatesFIdeal.nD Cert.KGatesFIdeal.τ).loc Cert.KGatesFIdeal.main_arg3)
      ∧ r.2.mem ((c.tc : Thread Cert.KGatesFIdeal.nD Cert.KGatesFIdeal.τ).loc Cert.KGatesFIdeal.main_arg4) = m ((c.tc : Thread Cert.KGatesFIdeal.nD Cert.KGatesFIdeal.τ).loc Cert.KGatesFIdeal.main_arg4))
      ∧ r.2.sem = fun _ => 0)

def quiescent_RGatesFIdeal [hRGatesFIdeal : Cert.RGatesFIdeal.Facts] : Prop :=
  ∀ (m : (ℓ : Loc Cert.RGatesFIdeal.nD Cert.RGatesFIdeal.τ Cert.RGatesFIdeal.sig) → Buf (Elt Ideal) ℓ) (g : Dev Cert.RGatesFIdeal.nD → PrngReg), Pre_RGatesFIdeal m →
    θ_run (Cert.RGatesFIdeal.defs (F := Ideal)) (onTc (τ := Cert.RGatesFIdeal.τ) (Cert.RGatesFIdeal.main (F := Ideal))) ⟨m, fun _ => 0, g⟩ (fun r => (∀ c : Dev Cert.RGatesFIdeal.nD,
      r.2.mem ((c.tc : Thread Cert.RGatesFIdeal.nD Cert.RGatesFIdeal.τ).loc Cert.RGatesFIdeal.main_arg0) = m ((c.tc : Thread Cert.RGatesFIdeal.nD Cert.RGatesFIdeal.τ).loc Cert.RGatesFIdeal.main_arg0)
      ∧ r.2.mem ((c.tc : Thread Cert.RGatesFIdeal.nD Cert.RGatesFIdeal.τ).loc Cert.RGatesFIdeal.main_arg1) = m ((c.tc : Thread Cert.RGatesFIdeal.nD Cert.RGatesFIdeal.τ).loc Cert.RGatesFIdeal.main_arg1)
      ∧ r.2.mem ((c.tc : Thread Cert.RGatesFIdeal.nD Cert.RGatesFIdeal.τ).loc Cert.RGatesFIdeal.main_arg2) = m ((c.tc : Thread Cert.RGatesFIdeal.nD Cert.RGatesFIdeal.τ).loc Cert.RGatesFIdeal.main_arg2)
      ∧ r.2.mem ((c.tc : Thread Cert.RGatesFIdeal.nD Cert.RGatesFIdeal.τ).loc Cert.RGatesFIdeal.main_arg3) = m ((c.tc : Thread Cert.RGatesFIdeal.nD Cert.RGatesFIdeal.τ).loc Cert.RGatesFIdeal.main_arg3)
      ∧ r.2.mem ((c.tc : Thread Cert.RGatesFIdeal.nD Cert.RGatesFIdeal.τ).loc Cert.RGatesFIdeal.main_arg4) = m ((c.tc : Thread Cert.RGatesFIdeal.nD Cert.RGatesFIdeal.τ).loc Cert.RGatesFIdeal.main_arg4))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KAdamC [hKAdamC : Cert.KAdamC.Facts] : Prop :=
  ∀ (m : (ℓ : Loc Cert.KAdamC.nD Cert.KAdamC.τ Cert.KAdamC.sig) → Buf (Elt Bits) ℓ) (g : Dev Cert.KAdamC.nD → PrngReg), Pre_KAdamC m →
    θ_run (Cert.KAdamC.defs (F := Bits)) (onTc (τ := Cert.KAdamC.τ) (Cert.KAdamC.main (F := Bits))) ⟨m, fun _ => 0, g⟩ (fun r => (∀ c : Dev Cert.KAdamC.nD,
      r.2.mem ((c.tc : Thread Cert.KAdamC.nD Cert.KAdamC.τ).loc Cert.KAdamC.main_arg0) = m ((c.tc : Thread Cert.KAdamC.nD Cert.KAdamC.τ).loc Cert.KAdamC.main_arg0)
      ∧ r.2.mem ((c.tc : Thread Cert.KAdamC.nD Cert.KAdamC.τ).loc Cert.KAdamC.main_arg1) = m ((c.tc : Thread Cert.KAdamC.nD Cert.KAdamC.τ).loc Cert.KAdamC.main_arg1)
      ∧ r.2.mem ((c.tc : Thread Cert.KAdamC.nD Cert.KAdamC.τ).loc Cert.KAdamC.main_arg2) = m ((c.tc : Thread Cert.KAdamC.nD Cert.KAdamC.τ).loc Cert.KAdamC.main_arg2)
      ∧ r.2.mem ((c.tc : Thread Cert.KAdamC.nD Cert.KAdamC.τ).loc Cert.KAdamC.main_arg3) = m ((c.tc : Thread Cert.KAdamC.nD Cert.KAdamC.τ).loc Cert.KAdamC.main_arg3))
      ∧ r.2.sem = fun _ => 0)

def quiescent_KAdamCIdeal [hKAdamCIdeal : Cert.KAdamCIdeal.Facts] : Prop :=
  ∀ (m : (ℓ : Loc Cert.KAdamCIdeal.nD Cert.KAdamCIdeal.τ Cert.KAdamCIdeal.sig) → Buf (Elt Ideal) ℓ) (g : Dev Cert.KAdamCIdeal.nD → PrngReg), Pre_KAdamCIdeal m →
    θ_run (Cert.KAdamCIdeal.defs (F := Ideal)) (onTc (τ := Cert.KAdamCIdeal.τ) (Cert.KAdamCIdeal.main (F := Ideal))) ⟨m, fun _ => 0, g⟩ (fun r => (∀ c : Dev Cert.KAdamCIdeal.nD,
      r.2.mem ((c.tc : Thread Cert.KAdamCIdeal.nD Cert.KAdamCIdeal.τ).loc Cert.KAdamCIdeal.main_arg0) = m ((c.tc : Thread Cert.KAdamCIdeal.nD Cert.KAdamCIdeal.τ).loc Cert.KAdamCIdeal.main_arg0)
      ∧ r.2.mem ((c.tc : Thread Cert.KAdamCIdeal.nD Cert.KAdamCIdeal.τ).loc Cert.KAdamCIdeal.main_arg1) = m ((c.tc : Thread Cert.KAdamCIdeal.nD Cert.KAdamCIdeal.τ).loc Cert.KAdamCIdeal.main_arg1)
      ∧ r.2.mem ((c.tc : Thread Cert.KAdamCIdeal.nD Cert.KAdamCIdeal.τ).loc Cert.KAdamCIdeal.main_arg2) = m ((c.tc : Thread Cert.KAdamCIdeal.nD Cert.KAdamCIdeal.τ).loc Cert.KAdamCIdeal.main_arg2)
      ∧ r.2.mem ((c.tc : Thread Cert.KAdamCIdeal.nD Cert.KAdamCIdeal.τ).loc Cert.KAdamCIdeal.main_arg3) = m ((c.tc : Thread Cert.KAdamCIdeal.nD Cert.KAdamCIdeal.τ).loc Cert.KAdamCIdeal.main_arg3))
      ∧ r.2.sem = fun _ => 0)

def quiescent_RAdamCIdeal [hRAdamCIdeal : Cert.RAdamCIdeal.Facts] : Prop :=
  ∀ (m : (ℓ : Loc Cert.RAdamCIdeal.nD Cert.RAdamCIdeal.τ Cert.RAdamCIdeal.sig) → Buf (Elt Ideal) ℓ) (g : Dev Cert.RAdamCIdeal.nD → PrngReg), Pre_RAdamCIdeal m →
    θ_run (Cert.RAdamCIdeal.defs (F := Ideal)) (onTc (τ := Cert.RAdamCIdeal.τ) (Cert.RAdamCIdeal.main (F := Ideal))) ⟨m, fun _ => 0, g⟩ (fun r => (∀ c : Dev Cert.RAdamCIdeal.nD,
      r.2.mem ((c.tc : Thread Cert.RAdamCIdeal.nD Cert.RAdamCIdeal.τ).loc Cert.RAdamCIdeal.main_arg0) = m ((c.tc : Thread Cert.RAdamCIdeal.nD Cert.RAdamCIdeal.τ).loc Cert.RAdamCIdeal.main_arg0)
      ∧ r.2.mem ((c.tc : Thread Cert.RAdamCIdeal.nD Cert.RAdamCIdeal.τ).loc Cert.RAdamCIdeal.main_arg1) = m ((c.tc : Thread Cert.RAdamCIdeal.nD Cert.RAdamCIdeal.τ).loc Cert.RAdamCIdeal.main_arg1)
      ∧ r.2.mem ((c.tc : Thread Cert.RAdamCIdeal.nD Cert.RAdamCIdeal.τ).loc Cert.RAdamCIdeal.main_arg2) = m ((c.tc : Thread Cert.RAdamCIdeal.nD Cert.RAdamCIdeal.τ).loc Cert.RAdamCIdeal.main_arg2)
      ∧ r.2.mem ((c.tc : Thread Cert.RAdamCIdeal.nD Cert.RAdamCIdeal.τ).loc Cert.RAdamCIdeal.main_arg3) = m ((c.tc : Thread Cert.RAdamCIdeal.nD Cert.RAdamCIdeal.τ).loc Cert.RAdamCIdeal.main_arg3))
      ∧ r.2.sem = fun _ => 0)

def quiescent_KAdamIn [hKAdamIn : Cert.KAdamIn.Facts] : Prop :=
  ∀ (m : (ℓ : Loc Cert.KAdamIn.nD Cert.KAdamIn.τ Cert.KAdamIn.sig) → Buf (Elt Bits) ℓ) (g : Dev Cert.KAdamIn.nD → PrngReg), Pre_KAdamIn m →
    θ_run (Cert.KAdamIn.defs (F := Bits)) (onTc (τ := Cert.KAdamIn.τ) (Cert.KAdamIn.main (F := Bits))) ⟨m, fun _ => 0, g⟩ (fun r => (∀ c : Dev Cert.KAdamIn.nD,
      r.2.mem ((c.tc : Thread Cert.KAdamIn.nD Cert.KAdamIn.τ).loc Cert.KAdamIn.main_arg0) = m ((c.tc : Thread Cert.KAdamIn.nD Cert.KAdamIn.τ).loc Cert.KAdamIn.main_arg0)
      ∧ r.2.mem ((c.tc : Thread Cert.KAdamIn.nD Cert.KAdamIn.τ).loc Cert.KAdamIn.main_arg1) = m ((c.tc : Thread Cert.KAdamIn.nD Cert.KAdamIn.τ).loc Cert.KAdamIn.main_arg1)
      ∧ r.2.mem ((c.tc : Thread Cert.KAdamIn.nD Cert.KAdamIn.τ).loc Cert.KAdamIn.main_arg2) = m ((c.tc : Thread Cert.KAdamIn.nD Cert.KAdamIn.τ).loc Cert.KAdamIn.main_arg2)
      ∧ r.2.mem ((c.tc : Thread Cert.KAdamIn.nD Cert.KAdamIn.τ).loc Cert.KAdamIn.main_arg3) = m ((c.tc : Thread Cert.KAdamIn.nD Cert.KAdamIn.τ).loc Cert.KAdamIn.main_arg3))
      ∧ r.2.sem = fun _ => 0)

def quiescent_KAdamInIdeal [hKAdamInIdeal : Cert.KAdamInIdeal.Facts] : Prop :=
  ∀ (m : (ℓ : Loc Cert.KAdamInIdeal.nD Cert.KAdamInIdeal.τ Cert.KAdamInIdeal.sig) → Buf (Elt Ideal) ℓ) (g : Dev Cert.KAdamInIdeal.nD → PrngReg), Pre_KAdamInIdeal m →
    θ_run (Cert.KAdamInIdeal.defs (F := Ideal)) (onTc (τ := Cert.KAdamInIdeal.τ) (Cert.KAdamInIdeal.main (F := Ideal))) ⟨m, fun _ => 0, g⟩ (fun r => (∀ c : Dev Cert.KAdamInIdeal.nD,
      r.2.mem ((c.tc : Thread Cert.KAdamInIdeal.nD Cert.KAdamInIdeal.τ).loc Cert.KAdamInIdeal.main_arg0) = m ((c.tc : Thread Cert.KAdamInIdeal.nD Cert.KAdamInIdeal.τ).loc Cert.KAdamInIdeal.main_arg0)
      ∧ r.2.mem ((c.tc : Thread Cert.KAdamInIdeal.nD Cert.KAdamInIdeal.τ).loc Cert.KAdamInIdeal.main_arg1) = m ((c.tc : Thread Cert.KAdamInIdeal.nD Cert.KAdamInIdeal.τ).loc Cert.KAdamInIdeal.main_arg1)
      ∧ r.2.mem ((c.tc : Thread Cert.KAdamInIdeal.nD Cert.KAdamInIdeal.τ).loc Cert.KAdamInIdeal.main_arg2) = m ((c.tc : Thread Cert.KAdamInIdeal.nD Cert.KAdamInIdeal.τ).loc Cert.KAdamInIdeal.main_arg2)
      ∧ r.2.mem ((c.tc : Thread Cert.KAdamInIdeal.nD Cert.KAdamInIdeal.τ).loc Cert.KAdamInIdeal.main_arg3) = m ((c.tc : Thread Cert.KAdamInIdeal.nD Cert.KAdamInIdeal.τ).loc Cert.KAdamInIdeal.main_arg3))
      ∧ r.2.sem = fun _ => 0)

def quiescent_RAdamInIdeal [hRAdamInIdeal : Cert.RAdamInIdeal.Facts] : Prop :=
  ∀ (m : (ℓ : Loc Cert.RAdamInIdeal.nD Cert.RAdamInIdeal.τ Cert.RAdamInIdeal.sig) → Buf (Elt Ideal) ℓ) (g : Dev Cert.RAdamInIdeal.nD → PrngReg), Pre_RAdamInIdeal m →
    θ_run (Cert.RAdamInIdeal.defs (F := Ideal)) (onTc (τ := Cert.RAdamInIdeal.τ) (Cert.RAdamInIdeal.main (F := Ideal))) ⟨m, fun _ => 0, g⟩ (fun r => (∀ c : Dev Cert.RAdamInIdeal.nD,
      r.2.mem ((c.tc : Thread Cert.RAdamInIdeal.nD Cert.RAdamInIdeal.τ).loc Cert.RAdamInIdeal.main_arg0) = m ((c.tc : Thread Cert.RAdamInIdeal.nD Cert.RAdamInIdeal.τ).loc Cert.RAdamInIdeal.main_arg0)
      ∧ r.2.mem ((c.tc : Thread Cert.RAdamInIdeal.nD Cert.RAdamInIdeal.τ).loc Cert.RAdamInIdeal.main_arg1) = m ((c.tc : Thread Cert.RAdamInIdeal.nD Cert.RAdamInIdeal.τ).loc Cert.RAdamInIdeal.main_arg1)
      ∧ r.2.mem ((c.tc : Thread Cert.RAdamInIdeal.nD Cert.RAdamInIdeal.τ).loc Cert.RAdamInIdeal.main_arg2) = m ((c.tc : Thread Cert.RAdamInIdeal.nD Cert.RAdamInIdeal.τ).loc Cert.RAdamInIdeal.main_arg2)
      ∧ r.2.mem ((c.tc : Thread Cert.RAdamInIdeal.nD Cert.RAdamInIdeal.τ).loc Cert.RAdamInIdeal.main_arg3) = m ((c.tc : Thread Cert.RAdamInIdeal.nD Cert.RAdamInIdeal.τ).loc Cert.RAdamInIdeal.main_arg3))
      ∧ r.2.sem = fun _ => 0)

def quiescent_KAdamConvB [hKAdamConvB : Cert.KAdamConvB.Facts] : Prop :=
  ∀ (m : (ℓ : Loc Cert.KAdamConvB.nD Cert.KAdamConvB.τ Cert.KAdamConvB.sig) → Buf (Elt Bits) ℓ) (g : Dev Cert.KAdamConvB.nD → PrngReg), Pre_KAdamConvB m →
    θ_run (Cert.KAdamConvB.defs (F := Bits)) (onTc (τ := Cert.KAdamConvB.τ) (Cert.KAdamConvB.main (F := Bits))) ⟨m, fun _ => 0, g⟩ (fun r => (∀ c : Dev Cert.KAdamConvB.nD,
      r.2.mem ((c.tc : Thread Cert.KAdamConvB.nD Cert.KAdamConvB.τ).loc Cert.KAdamConvB.main_arg0) = m ((c.tc : Thread Cert.KAdamConvB.nD Cert.KAdamConvB.τ).loc Cert.KAdamConvB.main_arg0)
      ∧ r.2.mem ((c.tc : Thread Cert.KAdamConvB.nD Cert.KAdamConvB.τ).loc Cert.KAdamConvB.main_arg1) = m ((c.tc : Thread Cert.KAdamConvB.nD Cert.KAdamConvB.τ).loc Cert.KAdamConvB.main_arg1)
      ∧ r.2.mem ((c.tc : Thread Cert.KAdamConvB.nD Cert.KAdamConvB.τ).loc Cert.KAdamConvB.main_arg2) = m ((c.tc : Thread Cert.KAdamConvB.nD Cert.KAdamConvB.τ).loc Cert.KAdamConvB.main_arg2)
      ∧ r.2.mem ((c.tc : Thread Cert.KAdamConvB.nD Cert.KAdamConvB.τ).loc Cert.KAdamConvB.main_arg3) = m ((c.tc : Thread Cert.KAdamConvB.nD Cert.KAdamConvB.τ).loc Cert.KAdamConvB.main_arg3))
      ∧ r.2.sem = fun _ => 0)

def quiescent_KAdamConvBIdeal [hKAdamConvBIdeal : Cert.KAdamConvBIdeal.Facts] : Prop :=
  ∀ (m : (ℓ : Loc Cert.KAdamConvBIdeal.nD Cert.KAdamConvBIdeal.τ Cert.KAdamConvBIdeal.sig) → Buf (Elt Ideal) ℓ) (g : Dev Cert.KAdamConvBIdeal.nD → PrngReg), Pre_KAdamConvBIdeal m →
    θ_run (Cert.KAdamConvBIdeal.defs (F := Ideal)) (onTc (τ := Cert.KAdamConvBIdeal.τ) (Cert.KAdamConvBIdeal.main (F := Ideal))) ⟨m, fun _ => 0, g⟩ (fun r => (∀ c : Dev Cert.KAdamConvBIdeal.nD,
      r.2.mem ((c.tc : Thread Cert.KAdamConvBIdeal.nD Cert.KAdamConvBIdeal.τ).loc Cert.KAdamConvBIdeal.main_arg0) = m ((c.tc : Thread Cert.KAdamConvBIdeal.nD Cert.KAdamConvBIdeal.τ).loc Cert.KAdamConvBIdeal.main_arg0)
      ∧ r.2.mem ((c.tc : Thread Cert.KAdamConvBIdeal.nD Cert.KAdamConvBIdeal.τ).loc Cert.KAdamConvBIdeal.main_arg1) = m ((c.tc : Thread Cert.KAdamConvBIdeal.nD Cert.KAdamConvBIdeal.τ).loc Cert.KAdamConvBIdeal.main_arg1)
      ∧ r.2.mem ((c.tc : Thread Cert.KAdamConvBIdeal.nD Cert.KAdamConvBIdeal.τ).loc Cert.KAdamConvBIdeal.main_arg2) = m ((c.tc : Thread Cert.KAdamConvBIdeal.nD Cert.KAdamConvBIdeal.τ).loc Cert.KAdamConvBIdeal.main_arg2)
      ∧ r.2.mem ((c.tc : Thread Cert.KAdamConvBIdeal.nD Cert.KAdamConvBIdeal.τ).loc Cert.KAdamConvBIdeal.main_arg3) = m ((c.tc : Thread Cert.KAdamConvBIdeal.nD Cert.KAdamConvBIdeal.τ).loc Cert.KAdamConvBIdeal.main_arg3))
      ∧ r.2.sem = fun _ => 0)

def quiescent_RAdamConvBIdeal [hRAdamConvBIdeal : Cert.RAdamConvBIdeal.Facts] : Prop :=
  ∀ (m : (ℓ : Loc Cert.RAdamConvBIdeal.nD Cert.RAdamConvBIdeal.τ Cert.RAdamConvBIdeal.sig) → Buf (Elt Ideal) ℓ) (g : Dev Cert.RAdamConvBIdeal.nD → PrngReg), Pre_RAdamConvBIdeal m →
    θ_run (Cert.RAdamConvBIdeal.defs (F := Ideal)) (onTc (τ := Cert.RAdamConvBIdeal.τ) (Cert.RAdamConvBIdeal.main (F := Ideal))) ⟨m, fun _ => 0, g⟩ (fun r => (∀ c : Dev Cert.RAdamConvBIdeal.nD,
      r.2.mem ((c.tc : Thread Cert.RAdamConvBIdeal.nD Cert.RAdamConvBIdeal.τ).loc Cert.RAdamConvBIdeal.main_arg0) = m ((c.tc : Thread Cert.RAdamConvBIdeal.nD Cert.RAdamConvBIdeal.τ).loc Cert.RAdamConvBIdeal.main_arg0)
      ∧ r.2.mem ((c.tc : Thread Cert.RAdamConvBIdeal.nD Cert.RAdamConvBIdeal.τ).loc Cert.RAdamConvBIdeal.main_arg1) = m ((c.tc : Thread Cert.RAdamConvBIdeal.nD Cert.RAdamConvBIdeal.τ).loc Cert.RAdamConvBIdeal.main_arg1)
      ∧ r.2.mem ((c.tc : Thread Cert.RAdamConvBIdeal.nD Cert.RAdamConvBIdeal.τ).loc Cert.RAdamConvBIdeal.main_arg2) = m ((c.tc : Thread Cert.RAdamConvBIdeal.nD Cert.RAdamConvBIdeal.τ).loc Cert.RAdamConvBIdeal.main_arg2)
      ∧ r.2.mem ((c.tc : Thread Cert.RAdamConvBIdeal.nD Cert.RAdamConvBIdeal.τ).loc Cert.RAdamConvBIdeal.main_arg3) = m ((c.tc : Thread Cert.RAdamConvBIdeal.nD Cert.RAdamConvBIdeal.τ).loc Cert.RAdamConvBIdeal.main_arg3))
      ∧ r.2.sem = fun _ => 0)

def quiescent_KAdamConvC [hKAdamConvC : Cert.KAdamConvC.Facts] : Prop :=
  ∀ (m : (ℓ : Loc Cert.KAdamConvC.nD Cert.KAdamConvC.τ Cert.KAdamConvC.sig) → Buf (Elt Bits) ℓ) (g : Dev Cert.KAdamConvC.nD → PrngReg), Pre_KAdamConvC m →
    θ_run (Cert.KAdamConvC.defs (F := Bits)) (onTc (τ := Cert.KAdamConvC.τ) (Cert.KAdamConvC.main (F := Bits))) ⟨m, fun _ => 0, g⟩ (fun r => (∀ c : Dev Cert.KAdamConvC.nD,
      r.2.mem ((c.tc : Thread Cert.KAdamConvC.nD Cert.KAdamConvC.τ).loc Cert.KAdamConvC.main_arg0) = m ((c.tc : Thread Cert.KAdamConvC.nD Cert.KAdamConvC.τ).loc Cert.KAdamConvC.main_arg0)
      ∧ r.2.mem ((c.tc : Thread Cert.KAdamConvC.nD Cert.KAdamConvC.τ).loc Cert.KAdamConvC.main_arg1) = m ((c.tc : Thread Cert.KAdamConvC.nD Cert.KAdamConvC.τ).loc Cert.KAdamConvC.main_arg1)
      ∧ r.2.mem ((c.tc : Thread Cert.KAdamConvC.nD Cert.KAdamConvC.τ).loc Cert.KAdamConvC.main_arg2) = m ((c.tc : Thread Cert.KAdamConvC.nD Cert.KAdamConvC.τ).loc Cert.KAdamConvC.main_arg2)
      ∧ r.2.mem ((c.tc : Thread Cert.KAdamConvC.nD Cert.KAdamConvC.τ).loc Cert.KAdamConvC.main_arg3) = m ((c.tc : Thread Cert.KAdamConvC.nD Cert.KAdamConvC.τ).loc Cert.KAdamConvC.main_arg3))
      ∧ r.2.sem = fun _ => 0)

def quiescent_KAdamConvCIdeal [hKAdamConvCIdeal : Cert.KAdamConvCIdeal.Facts] : Prop :=
  ∀ (m : (ℓ : Loc Cert.KAdamConvCIdeal.nD Cert.KAdamConvCIdeal.τ Cert.KAdamConvCIdeal.sig) → Buf (Elt Ideal) ℓ) (g : Dev Cert.KAdamConvCIdeal.nD → PrngReg), Pre_KAdamConvCIdeal m →
    θ_run (Cert.KAdamConvCIdeal.defs (F := Ideal)) (onTc (τ := Cert.KAdamConvCIdeal.τ) (Cert.KAdamConvCIdeal.main (F := Ideal))) ⟨m, fun _ => 0, g⟩ (fun r => (∀ c : Dev Cert.KAdamConvCIdeal.nD,
      r.2.mem ((c.tc : Thread Cert.KAdamConvCIdeal.nD Cert.KAdamConvCIdeal.τ).loc Cert.KAdamConvCIdeal.main_arg0) = m ((c.tc : Thread Cert.KAdamConvCIdeal.nD Cert.KAdamConvCIdeal.τ).loc Cert.KAdamConvCIdeal.main_arg0)
      ∧ r.2.mem ((c.tc : Thread Cert.KAdamConvCIdeal.nD Cert.KAdamConvCIdeal.τ).loc Cert.KAdamConvCIdeal.main_arg1) = m ((c.tc : Thread Cert.KAdamConvCIdeal.nD Cert.KAdamConvCIdeal.τ).loc Cert.KAdamConvCIdeal.main_arg1)
      ∧ r.2.mem ((c.tc : Thread Cert.KAdamConvCIdeal.nD Cert.KAdamConvCIdeal.τ).loc Cert.KAdamConvCIdeal.main_arg2) = m ((c.tc : Thread Cert.KAdamConvCIdeal.nD Cert.KAdamConvCIdeal.τ).loc Cert.KAdamConvCIdeal.main_arg2)
      ∧ r.2.mem ((c.tc : Thread Cert.KAdamConvCIdeal.nD Cert.KAdamConvCIdeal.τ).loc Cert.KAdamConvCIdeal.main_arg3) = m ((c.tc : Thread Cert.KAdamConvCIdeal.nD Cert.KAdamConvCIdeal.τ).loc Cert.KAdamConvCIdeal.main_arg3))
      ∧ r.2.sem = fun _ => 0)

def quiescent_RAdamConvCIdeal [hRAdamConvCIdeal : Cert.RAdamConvCIdeal.Facts] : Prop :=
  ∀ (m : (ℓ : Loc Cert.RAdamConvCIdeal.nD Cert.RAdamConvCIdeal.τ Cert.RAdamConvCIdeal.sig) → Buf (Elt Ideal) ℓ) (g : Dev Cert.RAdamConvCIdeal.nD → PrngReg), Pre_RAdamConvCIdeal m →
    θ_run (Cert.RAdamConvCIdeal.defs (F := Ideal)) (onTc (τ := Cert.RAdamConvCIdeal.τ) (Cert.RAdamConvCIdeal.main (F := Ideal))) ⟨m, fun _ => 0, g⟩ (fun r => (∀ c : Dev Cert.RAdamConvCIdeal.nD,
      r.2.mem ((c.tc : Thread Cert.RAdamConvCIdeal.nD Cert.RAdamConvCIdeal.τ).loc Cert.RAdamConvCIdeal.main_arg0) = m ((c.tc : Thread Cert.RAdamConvCIdeal.nD Cert.RAdamConvCIdeal.τ).loc Cert.RAdamConvCIdeal.main_arg0)
      ∧ r.2.mem ((c.tc : Thread Cert.RAdamConvCIdeal.nD Cert.RAdamConvCIdeal.τ).loc Cert.RAdamConvCIdeal.main_arg1) = m ((c.tc : Thread Cert.RAdamConvCIdeal.nD Cert.RAdamConvCIdeal.τ).loc Cert.RAdamConvCIdeal.main_arg1)
      ∧ r.2.mem ((c.tc : Thread Cert.RAdamConvCIdeal.nD Cert.RAdamConvCIdeal.τ).loc Cert.RAdamConvCIdeal.main_arg2) = m ((c.tc : Thread Cert.RAdamConvCIdeal.nD Cert.RAdamConvCIdeal.τ).loc Cert.RAdamConvCIdeal.main_arg2)
      ∧ r.2.mem ((c.tc : Thread Cert.RAdamConvCIdeal.nD Cert.RAdamConvCIdeal.τ).loc Cert.RAdamConvCIdeal.main_arg3) = m ((c.tc : Thread Cert.RAdamConvCIdeal.nD Cert.RAdamConvCIdeal.τ).loc Cert.RAdamConvCIdeal.main_arg3))
      ∧ r.2.sem = fun _ => 0)

def quiescent_KAdamMeta [hKAdamMeta : Cert.KAdamMeta.Facts] : Prop :=
  ∀ (m : (ℓ : Loc Cert.KAdamMeta.nD Cert.KAdamMeta.τ Cert.KAdamMeta.sig) → Buf (Elt Bits) ℓ) (g : Dev Cert.KAdamMeta.nD → PrngReg), Pre_KAdamMeta m →
    θ_run (Cert.KAdamMeta.defs (F := Bits)) (onTc (τ := Cert.KAdamMeta.τ) (Cert.KAdamMeta.main (F := Bits))) ⟨m, fun _ => 0, g⟩ (fun r => (∀ c : Dev Cert.KAdamMeta.nD,
      r.2.mem ((c.tc : Thread Cert.KAdamMeta.nD Cert.KAdamMeta.τ).loc Cert.KAdamMeta.main_arg0) = m ((c.tc : Thread Cert.KAdamMeta.nD Cert.KAdamMeta.τ).loc Cert.KAdamMeta.main_arg0)
      ∧ r.2.mem ((c.tc : Thread Cert.KAdamMeta.nD Cert.KAdamMeta.τ).loc Cert.KAdamMeta.main_arg1) = m ((c.tc : Thread Cert.KAdamMeta.nD Cert.KAdamMeta.τ).loc Cert.KAdamMeta.main_arg1)
      ∧ r.2.mem ((c.tc : Thread Cert.KAdamMeta.nD Cert.KAdamMeta.τ).loc Cert.KAdamMeta.main_arg2) = m ((c.tc : Thread Cert.KAdamMeta.nD Cert.KAdamMeta.τ).loc Cert.KAdamMeta.main_arg2)
      ∧ r.2.mem ((c.tc : Thread Cert.KAdamMeta.nD Cert.KAdamMeta.τ).loc Cert.KAdamMeta.main_arg3) = m ((c.tc : Thread Cert.KAdamMeta.nD Cert.KAdamMeta.τ).loc Cert.KAdamMeta.main_arg3))
      ∧ r.2.sem = fun _ => 0)

def quiescent_KAdamMetaIdeal [hKAdamMetaIdeal : Cert.KAdamMetaIdeal.Facts] : Prop :=
  ∀ (m : (ℓ : Loc Cert.KAdamMetaIdeal.nD Cert.KAdamMetaIdeal.τ Cert.KAdamMetaIdeal.sig) → Buf (Elt Ideal) ℓ) (g : Dev Cert.KAdamMetaIdeal.nD → PrngReg), Pre_KAdamMetaIdeal m →
    θ_run (Cert.KAdamMetaIdeal.defs (F := Ideal)) (onTc (τ := Cert.KAdamMetaIdeal.τ) (Cert.KAdamMetaIdeal.main (F := Ideal))) ⟨m, fun _ => 0, g⟩ (fun r => (∀ c : Dev Cert.KAdamMetaIdeal.nD,
      r.2.mem ((c.tc : Thread Cert.KAdamMetaIdeal.nD Cert.KAdamMetaIdeal.τ).loc Cert.KAdamMetaIdeal.main_arg0) = m ((c.tc : Thread Cert.KAdamMetaIdeal.nD Cert.KAdamMetaIdeal.τ).loc Cert.KAdamMetaIdeal.main_arg0)
      ∧ r.2.mem ((c.tc : Thread Cert.KAdamMetaIdeal.nD Cert.KAdamMetaIdeal.τ).loc Cert.KAdamMetaIdeal.main_arg1) = m ((c.tc : Thread Cert.KAdamMetaIdeal.nD Cert.KAdamMetaIdeal.τ).loc Cert.KAdamMetaIdeal.main_arg1)
      ∧ r.2.mem ((c.tc : Thread Cert.KAdamMetaIdeal.nD Cert.KAdamMetaIdeal.τ).loc Cert.KAdamMetaIdeal.main_arg2) = m ((c.tc : Thread Cert.KAdamMetaIdeal.nD Cert.KAdamMetaIdeal.τ).loc Cert.KAdamMetaIdeal.main_arg2)
      ∧ r.2.mem ((c.tc : Thread Cert.KAdamMetaIdeal.nD Cert.KAdamMetaIdeal.τ).loc Cert.KAdamMetaIdeal.main_arg3) = m ((c.tc : Thread Cert.KAdamMetaIdeal.nD Cert.KAdamMetaIdeal.τ).loc Cert.KAdamMetaIdeal.main_arg3))
      ∧ r.2.sem = fun _ => 0)

def quiescent_RAdamMetaIdeal [hRAdamMetaIdeal : Cert.RAdamMetaIdeal.Facts] : Prop :=
  ∀ (m : (ℓ : Loc Cert.RAdamMetaIdeal.nD Cert.RAdamMetaIdeal.τ Cert.RAdamMetaIdeal.sig) → Buf (Elt Ideal) ℓ) (g : Dev Cert.RAdamMetaIdeal.nD → PrngReg), Pre_RAdamMetaIdeal m →
    θ_run (Cert.RAdamMetaIdeal.defs (F := Ideal)) (onTc (τ := Cert.RAdamMetaIdeal.τ) (Cert.RAdamMetaIdeal.main (F := Ideal))) ⟨m, fun _ => 0, g⟩ (fun r => (∀ c : Dev Cert.RAdamMetaIdeal.nD,
      r.2.mem ((c.tc : Thread Cert.RAdamMetaIdeal.nD Cert.RAdamMetaIdeal.τ).loc Cert.RAdamMetaIdeal.main_arg0) = m ((c.tc : Thread Cert.RAdamMetaIdeal.nD Cert.RAdamMetaIdeal.τ).loc Cert.RAdamMetaIdeal.main_arg0)
      ∧ r.2.mem ((c.tc : Thread Cert.RAdamMetaIdeal.nD Cert.RAdamMetaIdeal.τ).loc Cert.RAdamMetaIdeal.main_arg1) = m ((c.tc : Thread Cert.RAdamMetaIdeal.nD Cert.RAdamMetaIdeal.τ).loc Cert.RAdamMetaIdeal.main_arg1)
      ∧ r.2.mem ((c.tc : Thread Cert.RAdamMetaIdeal.nD Cert.RAdamMetaIdeal.τ).loc Cert.RAdamMetaIdeal.main_arg2) = m ((c.tc : Thread Cert.RAdamMetaIdeal.nD Cert.RAdamMetaIdeal.τ).loc Cert.RAdamMetaIdeal.main_arg2)
      ∧ r.2.mem ((c.tc : Thread Cert.RAdamMetaIdeal.nD Cert.RAdamMetaIdeal.τ).loc Cert.RAdamMetaIdeal.main_arg3) = m ((c.tc : Thread Cert.RAdamMetaIdeal.nD Cert.RAdamMetaIdeal.τ).loc Cert.RAdamMetaIdeal.main_arg3))
      ∧ r.2.sem = fun _ => 0)

def quiescent_KAdamSmall [hKAdamSmall : Cert.KAdamSmall.Facts] : Prop :=
  ∀ (m : (ℓ : Loc Cert.KAdamSmall.nD Cert.KAdamSmall.τ Cert.KAdamSmall.sig) → Buf (Elt Bits) ℓ) (g : Dev Cert.KAdamSmall.nD → PrngReg), Pre_KAdamSmall m →
    θ_run (Cert.KAdamSmall.defs (F := Bits)) (onTc (τ := Cert.KAdamSmall.τ) (Cert.KAdamSmall.main (F := Bits))) ⟨m, fun _ => 0, g⟩ (fun r => (∀ c : Dev Cert.KAdamSmall.nD,
      r.2.mem ((c.tc : Thread Cert.KAdamSmall.nD Cert.KAdamSmall.τ).loc Cert.KAdamSmall.main_arg0) = m ((c.tc : Thread Cert.KAdamSmall.nD Cert.KAdamSmall.τ).loc Cert.KAdamSmall.main_arg0)
      ∧ r.2.mem ((c.tc : Thread Cert.KAdamSmall.nD Cert.KAdamSmall.τ).loc Cert.KAdamSmall.main_arg1) = m ((c.tc : Thread Cert.KAdamSmall.nD Cert.KAdamSmall.τ).loc Cert.KAdamSmall.main_arg1)
      ∧ r.2.mem ((c.tc : Thread Cert.KAdamSmall.nD Cert.KAdamSmall.τ).loc Cert.KAdamSmall.main_arg2) = m ((c.tc : Thread Cert.KAdamSmall.nD Cert.KAdamSmall.τ).loc Cert.KAdamSmall.main_arg2)
      ∧ r.2.mem ((c.tc : Thread Cert.KAdamSmall.nD Cert.KAdamSmall.τ).loc Cert.KAdamSmall.main_arg3) = m ((c.tc : Thread Cert.KAdamSmall.nD Cert.KAdamSmall.τ).loc Cert.KAdamSmall.main_arg3))
      ∧ r.2.sem = fun _ => 0)

def quiescent_KAdamSmallIdeal [hKAdamSmallIdeal : Cert.KAdamSmallIdeal.Facts] : Prop :=
  ∀ (m : (ℓ : Loc Cert.KAdamSmallIdeal.nD Cert.KAdamSmallIdeal.τ Cert.KAdamSmallIdeal.sig) → Buf (Elt Ideal) ℓ) (g : Dev Cert.KAdamSmallIdeal.nD → PrngReg), Pre_KAdamSmallIdeal m →
    θ_run (Cert.KAdamSmallIdeal.defs (F := Ideal)) (onTc (τ := Cert.KAdamSmallIdeal.τ) (Cert.KAdamSmallIdeal.main (F := Ideal))) ⟨m, fun _ => 0, g⟩ (fun r => (∀ c : Dev Cert.KAdamSmallIdeal.nD,
      r.2.mem ((c.tc : Thread Cert.KAdamSmallIdeal.nD Cert.KAdamSmallIdeal.τ).loc Cert.KAdamSmallIdeal.main_arg0) = m ((c.tc : Thread Cert.KAdamSmallIdeal.nD Cert.KAdamSmallIdeal.τ).loc Cert.KAdamSmallIdeal.main_arg0)
      ∧ r.2.mem ((c.tc : Thread Cert.KAdamSmallIdeal.nD Cert.KAdamSmallIdeal.τ).loc Cert.KAdamSmallIdeal.main_arg1) = m ((c.tc : Thread Cert.KAdamSmallIdeal.nD Cert.KAdamSmallIdeal.τ).loc Cert.KAdamSmallIdeal.main_arg1)
      ∧ r.2.mem ((c.tc : Thread Cert.KAdamSmallIdeal.nD Cert.KAdamSmallIdeal.τ).loc Cert.KAdamSmallIdeal.main_arg2) = m ((c.tc : Thread Cert.KAdamSmallIdeal.nD Cert.KAdamSmallIdeal.τ).loc Cert.KAdamSmallIdeal.main_arg2)
      ∧ r.2.mem ((c.tc : Thread Cert.KAdamSmallIdeal.nD Cert.KAdamSmallIdeal.τ).loc Cert.KAdamSmallIdeal.main_arg3) = m ((c.tc : Thread Cert.KAdamSmallIdeal.nD Cert.KAdamSmallIdeal.τ).loc Cert.KAdamSmallIdeal.main_arg3))
      ∧ r.2.sem = fun _ => 0)

def quiescent_RAdamSmallIdeal [hRAdamSmallIdeal : Cert.RAdamSmallIdeal.Facts] : Prop :=
  ∀ (m : (ℓ : Loc Cert.RAdamSmallIdeal.nD Cert.RAdamSmallIdeal.τ Cert.RAdamSmallIdeal.sig) → Buf (Elt Ideal) ℓ) (g : Dev Cert.RAdamSmallIdeal.nD → PrngReg), Pre_RAdamSmallIdeal m →
    θ_run (Cert.RAdamSmallIdeal.defs (F := Ideal)) (onTc (τ := Cert.RAdamSmallIdeal.τ) (Cert.RAdamSmallIdeal.main (F := Ideal))) ⟨m, fun _ => 0, g⟩ (fun r => (∀ c : Dev Cert.RAdamSmallIdeal.nD,
      r.2.mem ((c.tc : Thread Cert.RAdamSmallIdeal.nD Cert.RAdamSmallIdeal.τ).loc Cert.RAdamSmallIdeal.main_arg0) = m ((c.tc : Thread Cert.RAdamSmallIdeal.nD Cert.RAdamSmallIdeal.τ).loc Cert.RAdamSmallIdeal.main_arg0)
      ∧ r.2.mem ((c.tc : Thread Cert.RAdamSmallIdeal.nD Cert.RAdamSmallIdeal.τ).loc Cert.RAdamSmallIdeal.main_arg1) = m ((c.tc : Thread Cert.RAdamSmallIdeal.nD Cert.RAdamSmallIdeal.τ).loc Cert.RAdamSmallIdeal.main_arg1)
      ∧ r.2.mem ((c.tc : Thread Cert.RAdamSmallIdeal.nD Cert.RAdamSmallIdeal.τ).loc Cert.RAdamSmallIdeal.main_arg2) = m ((c.tc : Thread Cert.RAdamSmallIdeal.nD Cert.RAdamSmallIdeal.τ).loc Cert.RAdamSmallIdeal.main_arg2)
      ∧ r.2.mem ((c.tc : Thread Cert.RAdamSmallIdeal.nD Cert.RAdamSmallIdeal.τ).loc Cert.RAdamSmallIdeal.main_arg3) = m ((c.tc : Thread Cert.RAdamSmallIdeal.nD Cert.RAdamSmallIdeal.τ).loc Cert.RAdamSmallIdeal.main_arg3))
      ∧ r.2.sem = fun _ => 0)

def quiescent_KSsdBwd [hKSsdBwd : Cert.KSsdBwd.Facts] : Prop :=
  ∀ (m : (ℓ : Loc Cert.KSsdBwd.nD Cert.KSsdBwd.τ Cert.KSsdBwd.sig) → Buf (Elt Bits) ℓ) (g : Dev Cert.KSsdBwd.nD → PrngReg), Pre_KSsdBwd m →
    θ_run (Cert.KSsdBwd.defs (F := Bits)) (onTc (τ := Cert.KSsdBwd.τ) (Cert.KSsdBwd.main (F := Bits))) ⟨m, fun _ => 0, g⟩ (fun r => (∀ c : Dev Cert.KSsdBwd.nD,
      r.2.mem ((c.tc : Thread Cert.KSsdBwd.nD Cert.KSsdBwd.τ).loc Cert.KSsdBwd.main_arg0) = m ((c.tc : Thread Cert.KSsdBwd.nD Cert.KSsdBwd.τ).loc Cert.KSsdBwd.main_arg0)
      ∧ r.2.mem ((c.tc : Thread Cert.KSsdBwd.nD Cert.KSsdBwd.τ).loc Cert.KSsdBwd.main_arg1) = m ((c.tc : Thread Cert.KSsdBwd.nD Cert.KSsdBwd.τ).loc Cert.KSsdBwd.main_arg1)
      ∧ r.2.mem ((c.tc : Thread Cert.KSsdBwd.nD Cert.KSsdBwd.τ).loc Cert.KSsdBwd.main_arg2) = m ((c.tc : Thread Cert.KSsdBwd.nD Cert.KSsdBwd.τ).loc Cert.KSsdBwd.main_arg2)
      ∧ r.2.mem ((c.tc : Thread Cert.KSsdBwd.nD Cert.KSsdBwd.τ).loc Cert.KSsdBwd.main_arg3) = m ((c.tc : Thread Cert.KSsdBwd.nD Cert.KSsdBwd.τ).loc Cert.KSsdBwd.main_arg3)
      ∧ r.2.mem ((c.tc : Thread Cert.KSsdBwd.nD Cert.KSsdBwd.τ).loc Cert.KSsdBwd.main_arg4) = m ((c.tc : Thread Cert.KSsdBwd.nD Cert.KSsdBwd.τ).loc Cert.KSsdBwd.main_arg4)
      ∧ r.2.mem ((c.tc : Thread Cert.KSsdBwd.nD Cert.KSsdBwd.τ).loc Cert.KSsdBwd.main_arg5) = m ((c.tc : Thread Cert.KSsdBwd.nD Cert.KSsdBwd.τ).loc Cert.KSsdBwd.main_arg5))
      ∧ r.2.sem = fun _ => 0)

def quiescent_KSsdBwdIdeal [hKSsdBwdIdeal : Cert.KSsdBwdIdeal.Facts] : Prop :=
  ∀ (m : (ℓ : Loc Cert.KSsdBwdIdeal.nD Cert.KSsdBwdIdeal.τ Cert.KSsdBwdIdeal.sig) → Buf (Elt Ideal) ℓ) (g : Dev Cert.KSsdBwdIdeal.nD → PrngReg), Pre_KSsdBwdIdeal m →
    θ_run (Cert.KSsdBwdIdeal.defs (F := Ideal)) (onTc (τ := Cert.KSsdBwdIdeal.τ) (Cert.KSsdBwdIdeal.main (F := Ideal))) ⟨m, fun _ => 0, g⟩ (fun r => (∀ c : Dev Cert.KSsdBwdIdeal.nD,
      r.2.mem ((c.tc : Thread Cert.KSsdBwdIdeal.nD Cert.KSsdBwdIdeal.τ).loc Cert.KSsdBwdIdeal.main_arg0) = m ((c.tc : Thread Cert.KSsdBwdIdeal.nD Cert.KSsdBwdIdeal.τ).loc Cert.KSsdBwdIdeal.main_arg0)
      ∧ r.2.mem ((c.tc : Thread Cert.KSsdBwdIdeal.nD Cert.KSsdBwdIdeal.τ).loc Cert.KSsdBwdIdeal.main_arg1) = m ((c.tc : Thread Cert.KSsdBwdIdeal.nD Cert.KSsdBwdIdeal.τ).loc Cert.KSsdBwdIdeal.main_arg1)
      ∧ r.2.mem ((c.tc : Thread Cert.KSsdBwdIdeal.nD Cert.KSsdBwdIdeal.τ).loc Cert.KSsdBwdIdeal.main_arg2) = m ((c.tc : Thread Cert.KSsdBwdIdeal.nD Cert.KSsdBwdIdeal.τ).loc Cert.KSsdBwdIdeal.main_arg2)
      ∧ r.2.mem ((c.tc : Thread Cert.KSsdBwdIdeal.nD Cert.KSsdBwdIdeal.τ).loc Cert.KSsdBwdIdeal.main_arg3) = m ((c.tc : Thread Cert.KSsdBwdIdeal.nD Cert.KSsdBwdIdeal.τ).loc Cert.KSsdBwdIdeal.main_arg3)
      ∧ r.2.mem ((c.tc : Thread Cert.KSsdBwdIdeal.nD Cert.KSsdBwdIdeal.τ).loc Cert.KSsdBwdIdeal.main_arg4) = m ((c.tc : Thread Cert.KSsdBwdIdeal.nD Cert.KSsdBwdIdeal.τ).loc Cert.KSsdBwdIdeal.main_arg4)
      ∧ r.2.mem ((c.tc : Thread Cert.KSsdBwdIdeal.nD Cert.KSsdBwdIdeal.τ).loc Cert.KSsdBwdIdeal.main_arg5) = m ((c.tc : Thread Cert.KSsdBwdIdeal.nD Cert.KSsdBwdIdeal.τ).loc Cert.KSsdBwdIdeal.main_arg5))
      ∧ r.2.sem = fun _ => 0)

def quiescent_KGdnFwd [hKGdnFwd : Cert.KGdnFwd.Facts] : Prop :=
  ∀ (m : (ℓ : Loc Cert.KGdnFwd.nD Cert.KGdnFwd.τ Cert.KGdnFwd.sig) → Buf (Elt Bits) ℓ) (g : Dev Cert.KGdnFwd.nD → PrngReg), Pre_KGdnFwd m →
    θ_run (Cert.KGdnFwd.defs (F := Bits)) (onTc (τ := Cert.KGdnFwd.τ) (Cert.KGdnFwd.main (F := Bits))) ⟨m, fun _ => 0, g⟩ (fun r => (∀ c : Dev Cert.KGdnFwd.nD,
      r.2.mem ((c.tc : Thread Cert.KGdnFwd.nD Cert.KGdnFwd.τ).loc Cert.KGdnFwd.main_arg0) = m ((c.tc : Thread Cert.KGdnFwd.nD Cert.KGdnFwd.τ).loc Cert.KGdnFwd.main_arg0)
      ∧ r.2.mem ((c.tc : Thread Cert.KGdnFwd.nD Cert.KGdnFwd.τ).loc Cert.KGdnFwd.main_arg1) = m ((c.tc : Thread Cert.KGdnFwd.nD Cert.KGdnFwd.τ).loc Cert.KGdnFwd.main_arg1))
      ∧ r.2.sem = fun _ => 0)

def quiescent_KGdnFwdIdeal [hKGdnFwdIdeal : Cert.KGdnFwdIdeal.Facts] : Prop :=
  ∀ (m : (ℓ : Loc Cert.KGdnFwdIdeal.nD Cert.KGdnFwdIdeal.τ Cert.KGdnFwdIdeal.sig) → Buf (Elt Ideal) ℓ) (g : Dev Cert.KGdnFwdIdeal.nD → PrngReg), Pre_KGdnFwdIdeal m →
    θ_run (Cert.KGdnFwdIdeal.defs (F := Ideal)) (onTc (τ := Cert.KGdnFwdIdeal.τ) (Cert.KGdnFwdIdeal.main (F := Ideal))) ⟨m, fun _ => 0, g⟩ (fun r => (∀ c : Dev Cert.KGdnFwdIdeal.nD,
      r.2.mem ((c.tc : Thread Cert.KGdnFwdIdeal.nD Cert.KGdnFwdIdeal.τ).loc Cert.KGdnFwdIdeal.main_arg0) = m ((c.tc : Thread Cert.KGdnFwdIdeal.nD Cert.KGdnFwdIdeal.τ).loc Cert.KGdnFwdIdeal.main_arg0)
      ∧ r.2.mem ((c.tc : Thread Cert.KGdnFwdIdeal.nD Cert.KGdnFwdIdeal.τ).loc Cert.KGdnFwdIdeal.main_arg1) = m ((c.tc : Thread Cert.KGdnFwdIdeal.nD Cert.KGdnFwdIdeal.τ).loc Cert.KGdnFwdIdeal.main_arg1))
      ∧ r.2.sem = fun _ => 0)

def quiescent_KSsdFwd [hKSsdFwd : Cert.KSsdFwd.Facts] : Prop :=
  ∀ (m : (ℓ : Loc Cert.KSsdFwd.nD Cert.KSsdFwd.τ Cert.KSsdFwd.sig) → Buf (Elt Bits) ℓ) (g : Dev Cert.KSsdFwd.nD → PrngReg), Pre_KSsdFwd m →
    θ_run (Cert.KSsdFwd.defs (F := Bits)) (onTc (τ := Cert.KSsdFwd.τ) (Cert.KSsdFwd.main (F := Bits))) ⟨m, fun _ => 0, g⟩ (fun r => (∀ c : Dev Cert.KSsdFwd.nD,
      r.2.mem ((c.tc : Thread Cert.KSsdFwd.nD Cert.KSsdFwd.τ).loc Cert.KSsdFwd.main_arg0) = m ((c.tc : Thread Cert.KSsdFwd.nD Cert.KSsdFwd.τ).loc Cert.KSsdFwd.main_arg0)
      ∧ r.2.mem ((c.tc : Thread Cert.KSsdFwd.nD Cert.KSsdFwd.τ).loc Cert.KSsdFwd.main_arg1) = m ((c.tc : Thread Cert.KSsdFwd.nD Cert.KSsdFwd.τ).loc Cert.KSsdFwd.main_arg1)
      ∧ r.2.mem ((c.tc : Thread Cert.KSsdFwd.nD Cert.KSsdFwd.τ).loc Cert.KSsdFwd.main_arg2) = m ((c.tc : Thread Cert.KSsdFwd.nD Cert.KSsdFwd.τ).loc Cert.KSsdFwd.main_arg2))
      ∧ r.2.sem = fun _ => 0)

def quiescent_KSsdFwdIdeal [hKSsdFwdIdeal : Cert.KSsdFwdIdeal.Facts] : Prop :=
  ∀ (m : (ℓ : Loc Cert.KSsdFwdIdeal.nD Cert.KSsdFwdIdeal.τ Cert.KSsdFwdIdeal.sig) → Buf (Elt Ideal) ℓ) (g : Dev Cert.KSsdFwdIdeal.nD → PrngReg), Pre_KSsdFwdIdeal m →
    θ_run (Cert.KSsdFwdIdeal.defs (F := Ideal)) (onTc (τ := Cert.KSsdFwdIdeal.τ) (Cert.KSsdFwdIdeal.main (F := Ideal))) ⟨m, fun _ => 0, g⟩ (fun r => (∀ c : Dev Cert.KSsdFwdIdeal.nD,
      r.2.mem ((c.tc : Thread Cert.KSsdFwdIdeal.nD Cert.KSsdFwdIdeal.τ).loc Cert.KSsdFwdIdeal.main_arg0) = m ((c.tc : Thread Cert.KSsdFwdIdeal.nD Cert.KSsdFwdIdeal.τ).loc Cert.KSsdFwdIdeal.main_arg0)
      ∧ r.2.mem ((c.tc : Thread Cert.KSsdFwdIdeal.nD Cert.KSsdFwdIdeal.τ).loc Cert.KSsdFwdIdeal.main_arg1) = m ((c.tc : Thread Cert.KSsdFwdIdeal.nD Cert.KSsdFwdIdeal.τ).loc Cert.KSsdFwdIdeal.main_arg1)
      ∧ r.2.mem ((c.tc : Thread Cert.KSsdFwdIdeal.nD Cert.KSsdFwdIdeal.τ).loc Cert.KSsdFwdIdeal.main_arg2) = m ((c.tc : Thread Cert.KSsdFwdIdeal.nD Cert.KSsdFwdIdeal.τ).loc Cert.KSsdFwdIdeal.main_arg2))
      ∧ r.2.sem = fun _ => 0)

def preserves_Kernel_KernelIdeal : Prop :=
  True

def preserves_KGWin_KGWinIdeal : Prop :=
  True

def algebraic_KGWinIdeal_RGWinIdeal [hKGWinIdeal : Cert.KGWinIdeal.Facts] [hRGWinIdeal : Cert.RGWinIdeal.Facts] : Prop :=
  ∀ (m : (ℓ : Loc Cert.KGWinIdeal.nD Cert.KGWinIdeal.τ Cert.KGWinIdeal.sig) → Buf (Elt Ideal) ℓ) (g : Dev Cert.KGWinIdeal.nD → PrngReg)
    (m' : (ℓ : Loc Cert.RGWinIdeal.nD Cert.RGWinIdeal.τ Cert.RGWinIdeal.sig) → Buf (Elt Ideal) ℓ) (g' : Dev Cert.RGWinIdeal.nD → PrngReg), Pre_KGWinIdeal m →
    (∀ c : Dev Cert.KGWinIdeal.nD,
      m' ((c.tc : Thread Cert.RGWinIdeal.nD Cert.RGWinIdeal.τ).loc Cert.RGWinIdeal.main_arg0) = m ((c.tc : Thread Cert.KGWinIdeal.nD Cert.KGWinIdeal.τ).loc Cert.KGWinIdeal.main_arg0)
      ∧ m' ((c.tc : Thread Cert.RGWinIdeal.nD Cert.RGWinIdeal.τ).loc Cert.RGWinIdeal.main_arg1) = m ((c.tc : Thread Cert.KGWinIdeal.nD Cert.KGWinIdeal.τ).loc Cert.KGWinIdeal.main_arg1)) →
    ∃ (v0 : (c : Dev Cert.KGWinIdeal.nD) → Buf (Elt Ideal) ((c.tc : Thread Cert.KGWinIdeal.nD Cert.KGWinIdeal.τ).loc Cert.KGWinIdeal.main_v0)),
      θ_run (Cert.KGWinIdeal.defs (F := Ideal)) (onTc (τ := Cert.KGWinIdeal.τ) (Cert.KGWinIdeal.main (F := Ideal))) ⟨m, fun _ => 0, g⟩ (fun r => ∀ c : Dev Cert.KGWinIdeal.nD,
          r.2.mem ((c.tc : Thread Cert.KGWinIdeal.nD Cert.KGWinIdeal.τ).loc Cert.KGWinIdeal.main_v0) = v0 c
          ∧ r.2.mem ((c.tc : Thread Cert.KGWinIdeal.nD Cert.KGWinIdeal.τ).loc Cert.KGWinIdeal.main_arg0) = m ((c.tc : Thread Cert.KGWinIdeal.nD Cert.KGWinIdeal.τ).loc Cert.KGWinIdeal.main_arg0)
          ∧ r.2.mem ((c.tc : Thread Cert.KGWinIdeal.nD Cert.KGWinIdeal.τ).loc Cert.KGWinIdeal.main_arg1) = m ((c.tc : Thread Cert.KGWinIdeal.nD Cert.KGWinIdeal.τ).loc Cert.KGWinIdeal.main_arg1))
      ∧ θ_run (Cert.RGWinIdeal.defs (F := Ideal)) (onTc (τ := Cert.RGWinIdeal.τ) (Cert.RGWinIdeal.main (F := Ideal))) ⟨m', fun _ => 0, g'⟩ (fun r => ∀ c : Dev Cert.RGWinIdeal.nD,
          r.2.mem ((c.tc : Thread Cert.RGWinIdeal.nD Cert.RGWinIdeal.τ).loc Cert.RGWinIdeal.main_v6) = v0 c
          ∧ r.2.mem ((c.tc : Thread Cert.RGWinIdeal.nD Cert.RGWinIdeal.τ).loc Cert.RGWinIdeal.main_arg0) = m' ((c.tc : Thread Cert.RGWinIdeal.nD Cert.RGWinIdeal.τ).loc Cert.RGWinIdeal.main_arg0)
          ∧ r.2.mem ((c.tc : Thread Cert.RGWinIdeal.nD Cert.RGWinIdeal.τ).loc Cert.RGWinIdeal.main_arg1) = m' ((c.tc : Thread Cert.RGWinIdeal.nD Cert.RGWinIdeal.τ).loc Cert.RGWinIdeal.main_arg1))

def preserves_KDMerged_KDMergedIdeal : Prop :=
  True

def algebraic_KDMergedIdeal_RDMergedIdeal [hKDMergedIdeal : Cert.KDMergedIdeal.Facts] [hRDMergedIdeal : Cert.RDMergedIdeal.Facts] : Prop :=
  ∀ (m : (ℓ : Loc Cert.KDMergedIdeal.nD Cert.KDMergedIdeal.τ Cert.KDMergedIdeal.sig) → Buf (Elt Ideal) ℓ) (g : Dev Cert.KDMergedIdeal.nD → PrngReg)
    (m' : (ℓ : Loc Cert.RDMergedIdeal.nD Cert.RDMergedIdeal.τ Cert.RDMergedIdeal.sig) → Buf (Elt Ideal) ℓ) (g' : Dev Cert.RDMergedIdeal.nD → PrngReg), Pre_KDMergedIdeal m →
    (∀ c : Dev Cert.KDMergedIdeal.nD,
      m' ((c.tc : Thread Cert.RDMergedIdeal.nD Cert.RDMergedIdeal.τ).loc Cert.RDMergedIdeal.main_arg0) = m ((c.tc : Thread Cert.KDMergedIdeal.nD Cert.KDMergedIdeal.τ).loc Cert.KDMergedIdeal.main_arg0)
      ∧ m' ((c.tc : Thread Cert.RDMergedIdeal.nD Cert.RDMergedIdeal.τ).loc Cert.RDMergedIdeal.main_arg1) = m ((c.tc : Thread Cert.KDMergedIdeal.nD Cert.KDMergedIdeal.τ).loc Cert.KDMergedIdeal.main_arg1)) →
    ∃ (v0 : (c : Dev Cert.KDMergedIdeal.nD) → Buf (Elt Ideal) ((c.tc : Thread Cert.KDMergedIdeal.nD Cert.KDMergedIdeal.τ).loc Cert.KDMergedIdeal.main_v0)),
      θ_run (Cert.KDMergedIdeal.defs (F := Ideal)) (onTc (τ := Cert.KDMergedIdeal.τ) (Cert.KDMergedIdeal.main (F := Ideal))) ⟨m, fun _ => 0, g⟩ (fun r => ∀ c : Dev Cert.KDMergedIdeal.nD,
          r.2.mem ((c.tc : Thread Cert.KDMergedIdeal.nD Cert.KDMergedIdeal.τ).loc Cert.KDMergedIdeal.main_v0) = v0 c
          ∧ r.2.mem ((c.tc : Thread Cert.KDMergedIdeal.nD Cert.KDMergedIdeal.τ).loc Cert.KDMergedIdeal.main_arg0) = m ((c.tc : Thread Cert.KDMergedIdeal.nD Cert.KDMergedIdeal.τ).loc Cert.KDMergedIdeal.main_arg0)
          ∧ r.2.mem ((c.tc : Thread Cert.KDMergedIdeal.nD Cert.KDMergedIdeal.τ).loc Cert.KDMergedIdeal.main_arg1) = m ((c.tc : Thread Cert.KDMergedIdeal.nD Cert.KDMergedIdeal.τ).loc Cert.KDMergedIdeal.main_arg1))
      ∧ θ_run (Cert.RDMergedIdeal.defs (F := Ideal)) (onTc (τ := Cert.RDMergedIdeal.τ) (Cert.RDMergedIdeal.main (F := Ideal))) ⟨m', fun _ => 0, g'⟩ (fun r => ∀ c : Dev Cert.RDMergedIdeal.nD,
          r.2.mem ((c.tc : Thread Cert.RDMergedIdeal.nD Cert.RDMergedIdeal.τ).loc Cert.RDMergedIdeal.main_v3) = v0 c
          ∧ r.2.mem ((c.tc : Thread Cert.RDMergedIdeal.nD Cert.RDMergedIdeal.τ).loc Cert.RDMergedIdeal.main_arg0) = m' ((c.tc : Thread Cert.RDMergedIdeal.nD Cert.RDMergedIdeal.τ).loc Cert.RDMergedIdeal.main_arg0)
          ∧ r.2.mem ((c.tc : Thread Cert.RDMergedIdeal.nD Cert.RDMergedIdeal.τ).loc Cert.RDMergedIdeal.main_arg1) = m' ((c.tc : Thread Cert.RDMergedIdeal.nD Cert.RDMergedIdeal.τ).loc Cert.RDMergedIdeal.main_arg1))

def preserves_KGWout_KGWoutIdeal : Prop :=
  True

def algebraic_KGWoutIdeal_RGWoutIdeal [hKGWoutIdeal : Cert.KGWoutIdeal.Facts] [hRGWoutIdeal : Cert.RGWoutIdeal.Facts] : Prop :=
  ∀ (m : (ℓ : Loc Cert.KGWoutIdeal.nD Cert.KGWoutIdeal.τ Cert.KGWoutIdeal.sig) → Buf (Elt Ideal) ℓ) (g : Dev Cert.KGWoutIdeal.nD → PrngReg)
    (m' : (ℓ : Loc Cert.RGWoutIdeal.nD Cert.RGWoutIdeal.τ Cert.RGWoutIdeal.sig) → Buf (Elt Ideal) ℓ) (g' : Dev Cert.RGWoutIdeal.nD → PrngReg), Pre_KGWoutIdeal m →
    (∀ c : Dev Cert.KGWoutIdeal.nD,
      m' ((c.tc : Thread Cert.RGWoutIdeal.nD Cert.RGWoutIdeal.τ).loc Cert.RGWoutIdeal.main_arg0) = m ((c.tc : Thread Cert.KGWoutIdeal.nD Cert.KGWoutIdeal.τ).loc Cert.KGWoutIdeal.main_arg0)
      ∧ m' ((c.tc : Thread Cert.RGWoutIdeal.nD Cert.RGWoutIdeal.τ).loc Cert.RGWoutIdeal.main_arg1) = m ((c.tc : Thread Cert.KGWoutIdeal.nD Cert.KGWoutIdeal.τ).loc Cert.KGWoutIdeal.main_arg1)) →
    ∃ (v0 : (c : Dev Cert.KGWoutIdeal.nD) → Buf (Elt Ideal) ((c.tc : Thread Cert.KGWoutIdeal.nD Cert.KGWoutIdeal.τ).loc Cert.KGWoutIdeal.main_v0)),
      θ_run (Cert.KGWoutIdeal.defs (F := Ideal)) (onTc (τ := Cert.KGWoutIdeal.τ) (Cert.KGWoutIdeal.main (F := Ideal))) ⟨m, fun _ => 0, g⟩ (fun r => ∀ c : Dev Cert.KGWoutIdeal.nD,
          r.2.mem ((c.tc : Thread Cert.KGWoutIdeal.nD Cert.KGWoutIdeal.τ).loc Cert.KGWoutIdeal.main_v0) = v0 c
          ∧ r.2.mem ((c.tc : Thread Cert.KGWoutIdeal.nD Cert.KGWoutIdeal.τ).loc Cert.KGWoutIdeal.main_arg0) = m ((c.tc : Thread Cert.KGWoutIdeal.nD Cert.KGWoutIdeal.τ).loc Cert.KGWoutIdeal.main_arg0)
          ∧ r.2.mem ((c.tc : Thread Cert.KGWoutIdeal.nD Cert.KGWoutIdeal.τ).loc Cert.KGWoutIdeal.main_arg1) = m ((c.tc : Thread Cert.KGWoutIdeal.nD Cert.KGWoutIdeal.τ).loc Cert.KGWoutIdeal.main_arg1))
      ∧ θ_run (Cert.RGWoutIdeal.defs (F := Ideal)) (onTc (τ := Cert.RGWoutIdeal.τ) (Cert.RGWoutIdeal.main (F := Ideal))) ⟨m', fun _ => 0, g'⟩ (fun r => ∀ c : Dev Cert.RGWoutIdeal.nD,
          r.2.mem ((c.tc : Thread Cert.RGWoutIdeal.nD Cert.RGWoutIdeal.τ).loc Cert.RGWoutIdeal.main_v4) = v0 c
          ∧ r.2.mem ((c.tc : Thread Cert.RGWoutIdeal.nD Cert.RGWoutIdeal.τ).loc Cert.RGWoutIdeal.main_arg0) = m' ((c.tc : Thread Cert.RGWoutIdeal.nD Cert.RGWoutIdeal.τ).loc Cert.RGWoutIdeal.main_arg0)
          ∧ r.2.mem ((c.tc : Thread Cert.RGWoutIdeal.nD Cert.RGWoutIdeal.τ).loc Cert.RGWoutIdeal.main_arg1) = m' ((c.tc : Thread Cert.RGWoutIdeal.nD Cert.RGWoutIdeal.τ).loc Cert.RGWoutIdeal.main_arg1))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)) →
    ∃ (v0 : (c : Dev Cert.KProjIdeal.nD) → Buf (Elt Ideal) ((c.tc : Thread Cert.KProjIdeal.nD Cert.KProjIdeal.τ).loc Cert.KProjIdeal.main_v0)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v0) = v0 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v2) = v0 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1))

def preserves_KDU_KDUIdeal : Prop :=
  True

def algebraic_KDUIdeal_RDUIdeal [hKDUIdeal : Cert.KDUIdeal.Facts] [hRDUIdeal : Cert.RDUIdeal.Facts] : Prop :=
  ∀ (m : (ℓ : Loc Cert.KDUIdeal.nD Cert.KDUIdeal.τ Cert.KDUIdeal.sig) → Buf (Elt Ideal) ℓ) (g : Dev Cert.KDUIdeal.nD → PrngReg)
    (m' : (ℓ : Loc Cert.RDUIdeal.nD Cert.RDUIdeal.τ Cert.RDUIdeal.sig) → Buf (Elt Ideal) ℓ) (g' : Dev Cert.RDUIdeal.nD → PrngReg), Pre_KDUIdeal m →
    (∀ c : Dev Cert.KDUIdeal.nD,
      m' ((c.tc : Thread Cert.RDUIdeal.nD Cert.RDUIdeal.τ).loc Cert.RDUIdeal.main_arg0) = m ((c.tc : Thread Cert.KDUIdeal.nD Cert.KDUIdeal.τ).loc Cert.KDUIdeal.main_arg0)
      ∧ m' ((c.tc : Thread Cert.RDUIdeal.nD Cert.RDUIdeal.τ).loc Cert.RDUIdeal.main_arg1) = m ((c.tc : Thread Cert.KDUIdeal.nD Cert.KDUIdeal.τ).loc Cert.KDUIdeal.main_arg1)) →
    ∃ (v0 : (c : Dev Cert.KDUIdeal.nD) → Buf (Elt Ideal) ((c.tc : Thread Cert.KDUIdeal.nD Cert.KDUIdeal.τ).loc Cert.KDUIdeal.main_v0)),
      θ_run (Cert.KDUIdeal.defs (F := Ideal)) (onTc (τ := Cert.KDUIdeal.τ) (Cert.KDUIdeal.main (F := Ideal))) ⟨m, fun _ => 0, g⟩ (fun r => ∀ c : Dev Cert.KDUIdeal.nD,
          r.2.mem ((c.tc : Thread Cert.KDUIdeal.nD Cert.KDUIdeal.τ).loc Cert.KDUIdeal.main_v0) = v0 c
          ∧ r.2.mem ((c.tc : Thread Cert.KDUIdeal.nD Cert.KDUIdeal.τ).loc Cert.KDUIdeal.main_arg0) = m ((c.tc : Thread Cert.KDUIdeal.nD Cert.KDUIdeal.τ).loc Cert.KDUIdeal.main_arg0)
          ∧ r.2.mem ((c.tc : Thread Cert.KDUIdeal.nD Cert.KDUIdeal.τ).loc Cert.KDUIdeal.main_arg1) = m ((c.tc : Thread Cert.KDUIdeal.nD Cert.KDUIdeal.τ).loc Cert.KDUIdeal.main_arg1))
      ∧ θ_run (Cert.RDUIdeal.defs (F := Ideal)) (onTc (τ := Cert.RDUIdeal.τ) (Cert.RDUIdeal.main (F := Ideal))) ⟨m', fun _ => 0, g'⟩ (fun r => ∀ c : Dev Cert.RDUIdeal.nD,
          r.2.mem ((c.tc : Thread Cert.RDUIdeal.nD Cert.RDUIdeal.τ).loc Cert.RDUIdeal.main_v4) = v0 c
          ∧ r.2.mem ((c.tc : Thread Cert.RDUIdeal.nD Cert.RDUIdeal.τ).loc Cert.RDUIdeal.main_arg0) = m' ((c.tc : Thread Cert.RDUIdeal.nD Cert.RDUIdeal.τ).loc Cert.RDUIdeal.main_arg0)
          ∧ r.2.mem ((c.tc : Thread Cert.RDUIdeal.nD Cert.RDUIdeal.τ).loc Cert.RDUIdeal.main_arg1) = m' ((c.tc : Thread Cert.RDUIdeal.nD Cert.RDUIdeal.τ).loc Cert.RDUIdeal.main_arg1))

def preserves_KBranch_KBranchIdeal : Prop :=
  True

def algebraic_KBranchIdeal_RBranchIdeal [hKBranchIdeal : Cert.KBranchIdeal.Facts] [hRBranchIdeal : Cert.RBranchIdeal.Facts] : Prop :=
  ∀ (m : (ℓ : Loc Cert.KBranchIdeal.nD Cert.KBranchIdeal.τ Cert.KBranchIdeal.sig) → Buf (Elt Ideal) ℓ) (g : Dev Cert.KBranchIdeal.nD → PrngReg)
    (m' : (ℓ : Loc Cert.RBranchIdeal.nD Cert.RBranchIdeal.τ Cert.RBranchIdeal.sig) → Buf (Elt Ideal) ℓ) (g' : Dev Cert.RBranchIdeal.nD → PrngReg), Pre_KBranchIdeal m →
    (∀ c : Dev Cert.KBranchIdeal.nD,
      m' ((c.tc : Thread Cert.RBranchIdeal.nD Cert.RBranchIdeal.τ).loc Cert.RBranchIdeal.main_arg0) = m ((c.tc : Thread Cert.KBranchIdeal.nD Cert.KBranchIdeal.τ).loc Cert.KBranchIdeal.main_arg0)
      ∧ m' ((c.tc : Thread Cert.RBranchIdeal.nD Cert.RBranchIdeal.τ).loc Cert.RBranchIdeal.main_arg1) = m ((c.tc : Thread Cert.KBranchIdeal.nD Cert.KBranchIdeal.τ).loc Cert.KBranchIdeal.main_arg1)) →
    ∃ (v0 : (c : Dev Cert.KBranchIdeal.nD) → Buf (Elt Ideal) ((c.tc : Thread Cert.KBranchIdeal.nD Cert.KBranchIdeal.τ).loc Cert.KBranchIdeal.main_v0)),
      θ_run (Cert.KBranchIdeal.defs (F := Ideal)) (onTc (τ := Cert.KBranchIdeal.τ) (Cert.KBranchIdeal.main (F := Ideal))) ⟨m, fun _ => 0, g⟩ (fun r => ∀ c : Dev Cert.KBranchIdeal.nD,
          r.2.mem ((c.tc : Thread Cert.KBranchIdeal.nD Cert.KBranchIdeal.τ).loc Cert.KBranchIdeal.main_v0) = v0 c
          ∧ r.2.mem ((c.tc : Thread Cert.KBranchIdeal.nD Cert.KBranchIdeal.τ).loc Cert.KBranchIdeal.main_arg0) = m ((c.tc : Thread Cert.KBranchIdeal.nD Cert.KBranchIdeal.τ).loc Cert.KBranchIdeal.main_arg0)
          ∧ r.2.mem ((c.tc : Thread Cert.KBranchIdeal.nD Cert.KBranchIdeal.τ).loc Cert.KBranchIdeal.main_arg1) = m ((c.tc : Thread Cert.KBranchIdeal.nD Cert.KBranchIdeal.τ).loc Cert.KBranchIdeal.main_arg1))
      ∧ θ_run (Cert.RBranchIdeal.defs (F := Ideal)) (onTc (τ := Cert.RBranchIdeal.τ) (Cert.RBranchIdeal.main (F := Ideal))) ⟨m', fun _ => 0, g'⟩ (fun r => ∀ c : Dev Cert.RBranchIdeal.nD,
          r.2.mem ((c.tc : Thread Cert.RBranchIdeal.nD Cert.RBranchIdeal.τ).loc Cert.RBranchIdeal.main_v2) = v0 c
          ∧ r.2.mem ((c.tc : Thread Cert.RBranchIdeal.nD Cert.RBranchIdeal.τ).loc Cert.RBranchIdeal.main_arg0) = m' ((c.tc : Thread Cert.RBranchIdeal.nD Cert.RBranchIdeal.τ).loc Cert.RBranchIdeal.main_arg0)
          ∧ r.2.mem ((c.tc : Thread Cert.RBranchIdeal.nD Cert.RBranchIdeal.τ).loc Cert.RBranchIdeal.main_arg1) = m' ((c.tc : Thread Cert.RBranchIdeal.nD Cert.RBranchIdeal.τ).loc Cert.RBranchIdeal.main_arg1))

def preserves_KBranchC_KBranchCIdeal : Prop :=
  True

def algebraic_KBranchCIdeal_RBranchCIdeal [hKBranchCIdeal : Cert.KBranchCIdeal.Facts] [hRBranchCIdeal : Cert.RBranchCIdeal.Facts] : Prop :=
  ∀ (m : (ℓ : Loc Cert.KBranchCIdeal.nD Cert.KBranchCIdeal.τ Cert.KBranchCIdeal.sig) → Buf (Elt Ideal) ℓ) (g : Dev Cert.KBranchCIdeal.nD → PrngReg)
    (m' : (ℓ : Loc Cert.RBranchCIdeal.nD Cert.RBranchCIdeal.τ Cert.RBranchCIdeal.sig) → Buf (Elt Ideal) ℓ) (g' : Dev Cert.RBranchCIdeal.nD → PrngReg), Pre_KBranchCIdeal m →
    (∀ c : Dev Cert.KBranchCIdeal.nD,
      m' ((c.tc : Thread Cert.RBranchCIdeal.nD Cert.RBranchCIdeal.τ).loc Cert.RBranchCIdeal.main_arg0) = m ((c.tc : Thread Cert.KBranchCIdeal.nD Cert.KBranchCIdeal.τ).loc Cert.KBranchCIdeal.main_arg0)
      ∧ m' ((c.tc : Thread Cert.RBranchCIdeal.nD Cert.RBranchCIdeal.τ).loc Cert.RBranchCIdeal.main_arg1) = m ((c.tc : Thread Cert.KBranchCIdeal.nD Cert.KBranchCIdeal.τ).loc Cert.KBranchCIdeal.main_arg1)) →
    ∃ (v0 : (c : Dev Cert.KBranchCIdeal.nD) → Buf (Elt Ideal) ((c.tc : Thread Cert.KBranchCIdeal.nD Cert.KBranchCIdeal.τ).loc Cert.KBranchCIdeal.main_v0)),
      θ_run (Cert.KBranchCIdeal.defs (F := Ideal)) (onTc (τ := Cert.KBranchCIdeal.τ) (Cert.KBranchCIdeal.main (F := Ideal))) ⟨m, fun _ => 0, g⟩ (fun r => ∀ c : Dev Cert.KBranchCIdeal.nD,
          r.2.mem ((c.tc : Thread Cert.KBranchCIdeal.nD Cert.KBranchCIdeal.τ).loc Cert.KBranchCIdeal.main_v0) = v0 c
          ∧ r.2.mem ((c.tc : Thread Cert.KBranchCIdeal.nD Cert.KBranchCIdeal.τ).loc Cert.KBranchCIdeal.main_arg0) = m ((c.tc : Thread Cert.KBranchCIdeal.nD Cert.KBranchCIdeal.τ).loc Cert.KBranchCIdeal.main_arg0)
          ∧ r.2.mem ((c.tc : Thread Cert.KBranchCIdeal.nD Cert.KBranchCIdeal.τ).loc Cert.KBranchCIdeal.main_arg1) = m ((c.tc : Thread Cert.KBranchCIdeal.nD Cert.KBranchCIdeal.τ).loc Cert.KBranchCIdeal.main_arg1))
      ∧ θ_run (Cert.RBranchCIdeal.defs (F := Ideal)) (onTc (τ := Cert.RBranchCIdeal.τ) (Cert.RBranchCIdeal.main (F := Ideal))) ⟨m', fun _ => 0, g'⟩ (fun r => ∀ c : Dev Cert.RBranchCIdeal.nD,
          r.2.mem ((c.tc : Thread Cert.RBranchCIdeal.nD Cert.RBranchCIdeal.τ).loc Cert.RBranchCIdeal.main_v2) = v0 c
          ∧ r.2.mem ((c.tc : Thread Cert.RBranchCIdeal.nD Cert.RBranchCIdeal.τ).loc Cert.RBranchCIdeal.main_arg0) = m' ((c.tc : Thread Cert.RBranchCIdeal.nD Cert.RBranchCIdeal.τ).loc Cert.RBranchCIdeal.main_arg0)
          ∧ r.2.mem ((c.tc : Thread Cert.RBranchCIdeal.nD Cert.RBranchCIdeal.τ).loc Cert.RBranchCIdeal.main_arg1) = m' ((c.tc : Thread Cert.RBranchCIdeal.nD Cert.RBranchCIdeal.τ).loc Cert.RBranchCIdeal.main_arg1))

def preserves_KGWBranch_KGWBranchIdeal : Prop :=
  True

def algebraic_KGWBranchIdeal_RGWBranchIdeal [hKGWBranchIdeal : Cert.KGWBranchIdeal.Facts] [hRGWBranchIdeal : Cert.RGWBranchIdeal.Facts] : Prop :=
  ∀ (m : (ℓ : Loc Cert.KGWBranchIdeal.nD Cert.KGWBranchIdeal.τ Cert.KGWBranchIdeal.sig) → Buf (Elt Ideal) ℓ) (g : Dev Cert.KGWBranchIdeal.nD → PrngReg)
    (m' : (ℓ : Loc Cert.RGWBranchIdeal.nD Cert.RGWBranchIdeal.τ Cert.RGWBranchIdeal.sig) → Buf (Elt Ideal) ℓ) (g' : Dev Cert.RGWBranchIdeal.nD → PrngReg), Pre_KGWBranchIdeal m →
    (∀ c : Dev Cert.KGWBranchIdeal.nD,
      m' ((c.tc : Thread Cert.RGWBranchIdeal.nD Cert.RGWBranchIdeal.τ).loc Cert.RGWBranchIdeal.main_arg0) = m ((c.tc : Thread Cert.KGWBranchIdeal.nD Cert.KGWBranchIdeal.τ).loc Cert.KGWBranchIdeal.main_arg0)
      ∧ m' ((c.tc : Thread Cert.RGWBranchIdeal.nD Cert.RGWBranchIdeal.τ).loc Cert.RGWBranchIdeal.main_arg1) = m ((c.tc : Thread Cert.KGWBranchIdeal.nD Cert.KGWBranchIdeal.τ).loc Cert.KGWBranchIdeal.main_arg1)) →
    ∃ (v0 : (c : Dev Cert.KGWBranchIdeal.nD) → Buf (Elt Ideal) ((c.tc : Thread Cert.KGWBranchIdeal.nD Cert.KGWBranchIdeal.τ).loc Cert.KGWBranchIdeal.main_v0)),
      θ_run (Cert.KGWBranchIdeal.defs (F := Ideal)) (onTc (τ := Cert.KGWBranchIdeal.τ) (Cert.KGWBranchIdeal.main (F := Ideal))) ⟨m, fun _ => 0, g⟩ (fun r => ∀ c : Dev Cert.KGWBranchIdeal.nD,
          r.2.mem ((c.tc : Thread Cert.KGWBranchIdeal.nD Cert.KGWBranchIdeal.τ).loc Cert.KGWBranchIdeal.main_v0) = v0 c
          ∧ r.2.mem ((c.tc : Thread Cert.KGWBranchIdeal.nD Cert.KGWBranchIdeal.τ).loc Cert.KGWBranchIdeal.main_arg0) = m ((c.tc : Thread Cert.KGWBranchIdeal.nD Cert.KGWBranchIdeal.τ).loc Cert.KGWBranchIdeal.main_arg0)
          ∧ r.2.mem ((c.tc : Thread Cert.KGWBranchIdeal.nD Cert.KGWBranchIdeal.τ).loc Cert.KGWBranchIdeal.main_arg1) = m ((c.tc : Thread Cert.KGWBranchIdeal.nD Cert.KGWBranchIdeal.τ).loc Cert.KGWBranchIdeal.main_arg1))
      ∧ θ_run (Cert.RGWBranchIdeal.defs (F := Ideal)) (onTc (τ := Cert.RGWBranchIdeal.τ) (Cert.RGWBranchIdeal.main (F := Ideal))) ⟨m', fun _ => 0, g'⟩ (fun r => ∀ c : Dev Cert.RGWBranchIdeal.nD,
          r.2.mem ((c.tc : Thread Cert.RGWBranchIdeal.nD Cert.RGWBranchIdeal.τ).loc Cert.RGWBranchIdeal.main_v5) = v0 c
          ∧ r.2.mem ((c.tc : Thread Cert.RGWBranchIdeal.nD Cert.RGWBranchIdeal.τ).loc Cert.RGWBranchIdeal.main_arg0) = m' ((c.tc : Thread Cert.RGWBranchIdeal.nD Cert.RGWBranchIdeal.τ).loc Cert.RGWBranchIdeal.main_arg0)
          ∧ r.2.mem ((c.tc : Thread Cert.RGWBranchIdeal.nD Cert.RGWBranchIdeal.τ).loc Cert.RGWBranchIdeal.main_arg1) = m' ((c.tc : Thread Cert.RGWBranchIdeal.nD Cert.RGWBranchIdeal.τ).loc Cert.RGWBranchIdeal.main_arg1))

def preserves_KGWBranchC_KGWBranchCIdeal : Prop :=
  True

def algebraic_KGWBranchCIdeal_RGWBranchCIdeal [hKGWBranchCIdeal : Cert.KGWBranchCIdeal.Facts] [hRGWBranchCIdeal : Cert.RGWBranchCIdeal.Facts] : Prop :=
  ∀ (m : (ℓ : Loc Cert.KGWBranchCIdeal.nD Cert.KGWBranchCIdeal.τ Cert.KGWBranchCIdeal.sig) → Buf (Elt Ideal) ℓ) (g : Dev Cert.KGWBranchCIdeal.nD → PrngReg)
    (m' : (ℓ : Loc Cert.RGWBranchCIdeal.nD Cert.RGWBranchCIdeal.τ Cert.RGWBranchCIdeal.sig) → Buf (Elt Ideal) ℓ) (g' : Dev Cert.RGWBranchCIdeal.nD → PrngReg), Pre_KGWBranchCIdeal m →
    (∀ c : Dev Cert.KGWBranchCIdeal.nD,
      m' ((c.tc : Thread Cert.RGWBranchCIdeal.nD Cert.RGWBranchCIdeal.τ).loc Cert.RGWBranchCIdeal.main_arg0) = m ((c.tc : Thread Cert.KGWBranchCIdeal.nD Cert.KGWBranchCIdeal.τ).loc Cert.KGWBranchCIdeal.main_arg0)
      ∧ m' ((c.tc : Thread Cert.RGWBranchCIdeal.nD Cert.RGWBranchCIdeal.τ).loc Cert.RGWBranchCIdeal.main_arg1) = m ((c.tc : Thread Cert.KGWBranchCIdeal.nD Cert.KGWBranchCIdeal.τ).loc Cert.KGWBranchCIdeal.main_arg1)) →
    ∃ (v0 : (c : Dev Cert.KGWBranchCIdeal.nD) → Buf (Elt Ideal) ((c.tc : Thread Cert.KGWBranchCIdeal.nD Cert.KGWBranchCIdeal.τ).loc Cert.KGWBranchCIdeal.main_v0)),
      θ_run (Cert.KGWBranchCIdeal.defs (F := Ideal)) (onTc (τ := Cert.KGWBranchCIdeal.τ) (Cert.KGWBranchCIdeal.main (F := Ideal))) ⟨m, fun _ => 0, g⟩ (fun r => ∀ c : Dev Cert.KGWBranchCIdeal.nD,
          r.2.mem ((c.tc : Thread Cert.KGWBranchCIdeal.nD Cert.KGWBranchCIdeal.τ).loc Cert.KGWBranchCIdeal.main_v0) = v0 c
          ∧ r.2.mem ((c.tc : Thread Cert.KGWBranchCIdeal.nD Cert.KGWBranchCIdeal.τ).loc Cert.KGWBranchCIdeal.main_arg0) = m ((c.tc : Thread Cert.KGWBranchCIdeal.nD Cert.KGWBranchCIdeal.τ).loc Cert.KGWBranchCIdeal.main_arg0)
          ∧ r.2.mem ((c.tc : Thread Cert.KGWBranchCIdeal.nD Cert.KGWBranchCIdeal.τ).loc Cert.KGWBranchCIdeal.main_arg1) = m ((c.tc : Thread Cert.KGWBranchCIdeal.nD Cert.KGWBranchCIdeal.τ).loc Cert.KGWBranchCIdeal.main_arg1))
      ∧ θ_run (Cert.RGWBranchCIdeal.defs (F := Ideal)) (onTc (τ := Cert.RGWBranchCIdeal.τ) (Cert.RGWBranchCIdeal.main (F := Ideal))) ⟨m', fun _ => 0, g'⟩ (fun r => ∀ c : Dev Cert.RGWBranchCIdeal.nD,
          r.2.mem ((c.tc : Thread Cert.RGWBranchCIdeal.nD Cert.RGWBranchCIdeal.τ).loc Cert.RGWBranchCIdeal.main_v5) = v0 c
          ∧ r.2.mem ((c.tc : Thread Cert.RGWBranchCIdeal.nD Cert.RGWBranchCIdeal.τ).loc Cert.RGWBranchCIdeal.main_arg0) = m' ((c.tc : Thread Cert.RGWBranchCIdeal.nD Cert.RGWBranchCIdeal.τ).loc Cert.RGWBranchCIdeal.main_arg0)
          ∧ r.2.mem ((c.tc : Thread Cert.RGWBranchCIdeal.nD Cert.RGWBranchCIdeal.τ).loc Cert.RGWBranchCIdeal.main_arg1) = m' ((c.tc : Thread Cert.RGWBranchCIdeal.nD Cert.RGWBranchCIdeal.τ).loc Cert.RGWBranchCIdeal.main_arg1))

def preserves_KDO_KDOIdeal : Prop :=
  True

def algebraic_KDOIdeal_RDOIdeal [hKDOIdeal : Cert.KDOIdeal.Facts] [hRDOIdeal : Cert.RDOIdeal.Facts] : Prop :=
  ∀ (m : (ℓ : Loc Cert.KDOIdeal.nD Cert.KDOIdeal.τ Cert.KDOIdeal.sig) → Buf (Elt Ideal) ℓ) (g : Dev Cert.KDOIdeal.nD → PrngReg)
    (m' : (ℓ : Loc Cert.RDOIdeal.nD Cert.RDOIdeal.τ Cert.RDOIdeal.sig) → Buf (Elt Ideal) ℓ) (g' : Dev Cert.RDOIdeal.nD → PrngReg), Pre_KDOIdeal m →
    (∀ c : Dev Cert.KDOIdeal.nD,
      m' ((c.tc : Thread Cert.RDOIdeal.nD Cert.RDOIdeal.τ).loc Cert.RDOIdeal.main_arg0) = m ((c.tc : Thread Cert.KDOIdeal.nD Cert.KDOIdeal.τ).loc Cert.KDOIdeal.main_arg0)
      ∧ m' ((c.tc : Thread Cert.RDOIdeal.nD Cert.RDOIdeal.τ).loc Cert.RDOIdeal.main_arg1) = m ((c.tc : Thread Cert.KDOIdeal.nD Cert.KDOIdeal.τ).loc Cert.KDOIdeal.main_arg1)) →
    ∃ (v0 : (c : Dev Cert.KDOIdeal.nD) → Buf (Elt Ideal) ((c.tc : Thread Cert.KDOIdeal.nD Cert.KDOIdeal.τ).loc Cert.KDOIdeal.main_v0)),
      θ_run (Cert.KDOIdeal.defs (F := Ideal)) (onTc (τ := Cert.KDOIdeal.τ) (Cert.KDOIdeal.main (F := Ideal))) ⟨m, fun _ => 0, g⟩ (fun r => ∀ c : Dev Cert.KDOIdeal.nD,
          r.2.mem ((c.tc : Thread Cert.KDOIdeal.nD Cert.KDOIdeal.τ).loc Cert.KDOIdeal.main_v0) = v0 c
          ∧ r.2.mem ((c.tc : Thread Cert.KDOIdeal.nD Cert.KDOIdeal.τ).loc Cert.KDOIdeal.main_arg0) = m ((c.tc : Thread Cert.KDOIdeal.nD Cert.KDOIdeal.τ).loc Cert.KDOIdeal.main_arg0)
          ∧ r.2.mem ((c.tc : Thread Cert.KDOIdeal.nD Cert.KDOIdeal.τ).loc Cert.KDOIdeal.main_arg1) = m ((c.tc : Thread Cert.KDOIdeal.nD Cert.KDOIdeal.τ).loc Cert.KDOIdeal.main_arg1))
      ∧ θ_run (Cert.RDOIdeal.defs (F := Ideal)) (onTc (τ := Cert.RDOIdeal.τ) (Cert.RDOIdeal.main (F := Ideal))) ⟨m', fun _ => 0, g'⟩ (fun r => ∀ c : Dev Cert.RDOIdeal.nD,
          r.2.mem ((c.tc : Thread Cert.RDOIdeal.nD Cert.RDOIdeal.τ).loc Cert.RDOIdeal.main_v4) = v0 c
          ∧ r.2.mem ((c.tc : Thread Cert.RDOIdeal.nD Cert.RDOIdeal.τ).loc Cert.RDOIdeal.main_arg0) = m' ((c.tc : Thread Cert.RDOIdeal.nD Cert.RDOIdeal.τ).loc Cert.RDOIdeal.main_arg0)
          ∧ r.2.mem ((c.tc : Thread Cert.RDOIdeal.nD Cert.RDOIdeal.τ).loc Cert.RDOIdeal.main_arg1) = m' ((c.tc : Thread Cert.RDOIdeal.nD Cert.RDOIdeal.τ).loc Cert.RDOIdeal.main_arg1))

def preserves_KDOC_KDOCIdeal : Prop :=
  True

def algebraic_KDOCIdeal_RDOCIdeal [hKDOCIdeal : Cert.KDOCIdeal.Facts] [hRDOCIdeal : Cert.RDOCIdeal.Facts] : Prop :=
  ∀ (m : (ℓ : Loc Cert.KDOCIdeal.nD Cert.KDOCIdeal.τ Cert.KDOCIdeal.sig) → Buf (Elt Ideal) ℓ) (g : Dev Cert.KDOCIdeal.nD → PrngReg)
    (m' : (ℓ : Loc Cert.RDOCIdeal.nD Cert.RDOCIdeal.τ Cert.RDOCIdeal.sig) → Buf (Elt Ideal) ℓ) (g' : Dev Cert.RDOCIdeal.nD → PrngReg), Pre_KDOCIdeal m →
    (∀ c : Dev Cert.KDOCIdeal.nD,
      m' ((c.tc : Thread Cert.RDOCIdeal.nD Cert.RDOCIdeal.τ).loc Cert.RDOCIdeal.main_arg0) = m ((c.tc : Thread Cert.KDOCIdeal.nD Cert.KDOCIdeal.τ).loc Cert.KDOCIdeal.main_arg0)
      ∧ m' ((c.tc : Thread Cert.RDOCIdeal.nD Cert.RDOCIdeal.τ).loc Cert.RDOCIdeal.main_arg1) = m ((c.tc : Thread Cert.KDOCIdeal.nD Cert.KDOCIdeal.τ).loc Cert.KDOCIdeal.main_arg1)) →
    ∃ (v0 : (c : Dev Cert.KDOCIdeal.nD) → Buf (Elt Ideal) ((c.tc : Thread Cert.KDOCIdeal.nD Cert.KDOCIdeal.τ).loc Cert.KDOCIdeal.main_v0)),
      θ_run (Cert.KDOCIdeal.defs (F := Ideal)) (onTc (τ := Cert.KDOCIdeal.τ) (Cert.KDOCIdeal.main (F := Ideal))) ⟨m, fun _ => 0, g⟩ (fun r => ∀ c : Dev Cert.KDOCIdeal.nD,
          r.2.mem ((c.tc : Thread Cert.KDOCIdeal.nD Cert.KDOCIdeal.τ).loc Cert.KDOCIdeal.main_v0) = v0 c
          ∧ r.2.mem ((c.tc : Thread Cert.KDOCIdeal.nD Cert.KDOCIdeal.τ).loc Cert.KDOCIdeal.main_arg0) = m ((c.tc : Thread Cert.KDOCIdeal.nD Cert.KDOCIdeal.τ).loc Cert.KDOCIdeal.main_arg0)
          ∧ r.2.mem ((c.tc : Thread Cert.KDOCIdeal.nD Cert.KDOCIdeal.τ).loc Cert.KDOCIdeal.main_arg1) = m ((c.tc : Thread Cert.KDOCIdeal.nD Cert.KDOCIdeal.τ).loc Cert.KDOCIdeal.main_arg1))
      ∧ θ_run (Cert.RDOCIdeal.defs (F := Ideal)) (onTc (τ := Cert.RDOCIdeal.τ) (Cert.RDOCIdeal.main (F := Ideal))) ⟨m', fun _ => 0, g'⟩ (fun r => ∀ c : Dev Cert.RDOCIdeal.nD,
          r.2.mem ((c.tc : Thread Cert.RDOCIdeal.nD Cert.RDOCIdeal.τ).loc Cert.RDOCIdeal.main_v4) = v0 c
          ∧ r.2.mem ((c.tc : Thread Cert.RDOCIdeal.nD Cert.RDOCIdeal.τ).loc Cert.RDOCIdeal.main_arg0) = m' ((c.tc : Thread Cert.RDOCIdeal.nD Cert.RDOCIdeal.τ).loc Cert.RDOCIdeal.main_arg0)
          ∧ r.2.mem ((c.tc : Thread Cert.RDOCIdeal.nD Cert.RDOCIdeal.τ).loc Cert.RDOCIdeal.main_arg1) = m' ((c.tc : Thread Cert.RDOCIdeal.nD Cert.RDOCIdeal.τ).loc Cert.RDOCIdeal.main_arg1))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)) →
    ∃ (v0 : (c : Dev Cert.KOutIdeal.nD) → Buf (Elt Ideal) ((c.tc : Thread Cert.KOutIdeal.nD Cert.KOutIdeal.τ).loc Cert.KOutIdeal.main_v0)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v0) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v3) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)) →
    ∃ (v0 : (c : Dev Cert.KMergeIdeal.nD) → Buf (Elt Ideal) ((c.tc : Thread Cert.KMergeIdeal.nD Cert.KMergeIdeal.τ).loc Cert.KMergeIdeal.main_v0_0)) (v1 : (c : Dev Cert.KMergeIdeal.nD) → Buf (Elt Ideal) ((c.tc : Thread Cert.KMergeIdeal.nD Cert.KMergeIdeal.τ).loc Cert.KMergeIdeal.main_v0_1)) (v2 : (c : Dev Cert.KMergeIdeal.nD) → Buf (Elt Ideal) ((c.tc : Thread Cert.KMergeIdeal.nD Cert.KMergeIdeal.τ).loc Cert.KMergeIdeal.main_v0_2)) (v3 : (c : Dev Cert.KMergeIdeal.nD) → Buf (Elt Ideal) ((c.tc : Thread Cert.KMergeIdeal.nD Cert.KMergeIdeal.τ).loc Cert.KMergeIdeal.main_v0_3)) (v4 : (c : Dev Cert.KMergeIdeal.nD) → Buf (Elt Ideal) ((c.tc : Thread Cert.KMergeIdeal.nD Cert.KMergeIdeal.τ).loc Cert.KMergeIdeal.main_v0_4)) (v5 : (c : Dev Cert.KMergeIdeal.nD) → Buf (Elt Ideal) ((c.tc : Thread Cert.KMergeIdeal.nD Cert.KMergeIdeal.τ).loc Cert.KMergeIdeal.main_v0_5)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v0_0) = v0 c
          ∧ r.2.mem ((c.tc : Thread Cert.KMergeIdeal.nD Cert.KMergeIdeal.τ).loc Cert.KMergeIdeal.main_v0_1) = v1 c
          ∧ r.2.mem ((c.tc : Thread Cert.KMergeIdeal.nD Cert.KMergeIdeal.τ).loc Cert.KMergeIdeal.main_v0_2) = v2 c
          ∧ r.2.mem ((c.tc : Thread Cert.KMergeIdeal.nD Cert.KMergeIdeal.τ).loc Cert.KMergeIdeal.main_v0_3) = v3 c
          ∧ r.2.mem ((c.tc : Thread Cert.KMergeIdeal.nD Cert.KMergeIdeal.τ).loc Cert.KMergeIdeal.main_v0_4) = v4 c
          ∧ r.2.mem ((c.tc : Thread Cert.KMergeIdeal.nD Cert.KMergeIdeal.τ).loc Cert.KMergeIdeal.main_v0_5) = v5 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v46) = v0 c
          ∧ r.2.mem ((c.tc : Thread Cert.RMergeIdeal.nD Cert.RMergeIdeal.τ).loc Cert.RMergeIdeal.main_v47) = v1 c
          ∧ r.2.mem ((c.tc : Thread Cert.RMergeIdeal.nD Cert.RMergeIdeal.τ).loc Cert.RMergeIdeal.main_v48) = v2 c
          ∧ r.2.mem ((c.tc : Thread Cert.RMergeIdeal.nD Cert.RMergeIdeal.τ).loc Cert.RMergeIdeal.main_v49) = v3 c
          ∧ r.2.mem ((c.tc : Thread Cert.RMergeIdeal.nD Cert.RMergeIdeal.τ).loc Cert.RMergeIdeal.main_v50) = v4 c
          ∧ r.2.mem ((c.tc : Thread Cert.RMergeIdeal.nD Cert.RMergeIdeal.τ).loc Cert.RMergeIdeal.main_v51) = v5 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4))

def preserves_KGateA_KGateAIdeal : Prop :=
  True

def algebraic_KGateAIdeal_RGateAIdeal [hKGateAIdeal : Cert.KGateAIdeal.Facts] [hRGateAIdeal : Cert.RGateAIdeal.Facts] : Prop :=
  ∀ (m : (ℓ : Loc Cert.KGateAIdeal.nD Cert.KGateAIdeal.τ Cert.KGateAIdeal.sig) → Buf (Elt Ideal) ℓ) (g : Dev Cert.KGateAIdeal.nD → PrngReg)
    (m' : (ℓ : Loc Cert.RGateAIdeal.nD Cert.RGateAIdeal.τ Cert.RGateAIdeal.sig) → Buf (Elt Ideal) ℓ) (g' : Dev Cert.RGateAIdeal.nD → PrngReg), Pre_KGateAIdeal m →
    (∀ c : Dev Cert.KGateAIdeal.nD,
      m' ((c.tc : Thread Cert.RGateAIdeal.nD Cert.RGateAIdeal.τ).loc Cert.RGateAIdeal.main_arg0) = m ((c.tc : Thread Cert.KGateAIdeal.nD Cert.KGateAIdeal.τ).loc Cert.KGateAIdeal.main_arg0)
      ∧ m' ((c.tc : Thread Cert.RGateAIdeal.nD Cert.RGateAIdeal.τ).loc Cert.RGateAIdeal.main_arg1) = m ((c.tc : Thread Cert.KGateAIdeal.nD Cert.KGateAIdeal.τ).loc Cert.KGateAIdeal.main_arg1)
      ∧ m' ((c.tc : Thread Cert.RGateAIdeal.nD Cert.RGateAIdeal.τ).loc Cert.RGateAIdeal.main_arg2) = m ((c.tc : Thread Cert.KGateAIdeal.nD Cert.KGateAIdeal.τ).loc Cert.KGateAIdeal.main_arg2)) →
    ∃ (v0 : (c : Dev Cert.KGateAIdeal.nD) → Buf (Elt Ideal) ((c.tc : Thread Cert.KGateAIdeal.nD Cert.KGateAIdeal.τ).loc Cert.KGateAIdeal.main_v0_0)) (v1 : (c : Dev Cert.KGateAIdeal.nD) → Buf (Elt Ideal) ((c.tc : Thread Cert.KGateAIdeal.nD Cert.KGateAIdeal.τ).loc Cert.KGateAIdeal.main_v0_1)),
      θ_run (Cert.KGateAIdeal.defs (F := Ideal)) (onTc (τ := Cert.KGateAIdeal.τ) (Cert.KGateAIdeal.main (F := Ideal))) ⟨m, fun _ => 0, g⟩ (fun r => ∀ c : Dev Cert.KGateAIdeal.nD,
          r.2.mem ((c.tc : Thread Cert.KGateAIdeal.nD Cert.KGateAIdeal.τ).loc Cert.KGateAIdeal.main_v0_0) = v0 c
          ∧ r.2.mem ((c.tc : Thread Cert.KGateAIdeal.nD Cert.KGateAIdeal.τ).loc Cert.KGateAIdeal.main_v0_1) = v1 c
          ∧ r.2.mem ((c.tc : Thread Cert.KGateAIdeal.nD Cert.KGateAIdeal.τ).loc Cert.KGateAIdeal.main_arg0) = m ((c.tc : Thread Cert.KGateAIdeal.nD Cert.KGateAIdeal.τ).loc Cert.KGateAIdeal.main_arg0)
          ∧ r.2.mem ((c.tc : Thread Cert.KGateAIdeal.nD Cert.KGateAIdeal.τ).loc Cert.KGateAIdeal.main_arg1) = m ((c.tc : Thread Cert.KGateAIdeal.nD Cert.KGateAIdeal.τ).loc Cert.KGateAIdeal.main_arg1)
          ∧ r.2.mem ((c.tc : Thread Cert.KGateAIdeal.nD Cert.KGateAIdeal.τ).loc Cert.KGateAIdeal.main_arg2) = m ((c.tc : Thread Cert.KGateAIdeal.nD Cert.KGateAIdeal.τ).loc Cert.KGateAIdeal.main_arg2))
      ∧ θ_run (Cert.RGateAIdeal.defs (F := Ideal)) (onTc (τ := Cert.RGateAIdeal.τ) (Cert.RGateAIdeal.main (F := Ideal))) ⟨m', fun _ => 0, g'⟩ (fun r => ∀ c : Dev Cert.RGateAIdeal.nD,
          r.2.mem ((c.tc : Thread Cert.RGateAIdeal.nD Cert.RGateAIdeal.τ).loc Cert.RGateAIdeal.main_v4) = v0 c
          ∧ r.2.mem ((c.tc : Thread Cert.RGateAIdeal.nD Cert.RGateAIdeal.τ).loc Cert.RGateAIdeal.main_v6) = v1 c
          ∧ r.2.mem ((c.tc : Thread Cert.RGateAIdeal.nD Cert.RGateAIdeal.τ).loc Cert.RGateAIdeal.main_arg0) = m' ((c.tc : Thread Cert.RGateAIdeal.nD Cert.RGateAIdeal.τ).loc Cert.RGateAIdeal.main_arg0)
          ∧ r.2.mem ((c.tc : Thread Cert.RGateAIdeal.nD Cert.RGateAIdeal.τ).loc Cert.RGateAIdeal.main_arg1) = m' ((c.tc : Thread Cert.RGateAIdeal.nD Cert.RGateAIdeal.τ).loc Cert.RGateAIdeal.main_arg1)
          ∧ r.2.mem ((c.tc : Thread Cert.RGateAIdeal.nD Cert.RGateAIdeal.τ).loc Cert.RGateAIdeal.main_arg2) = m' ((c.tc : Thread Cert.RGateAIdeal.nD Cert.RGateAIdeal.τ).loc Cert.RGateAIdeal.main_arg2))

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)
      ∧ m' ((c.tc : Thread Cert.RRmsIdeal.nD Cert.RRmsIdeal.τ).loc Cert.RRmsIdeal.main_arg2) = m ((c.tc : Thread Cert.KRmsIdeal.nD Cert.KRmsIdeal.τ).loc Cert.KRmsIdeal.main_arg2)
      ∧ m' ((c.tc : Thread Cert.RRmsIdeal.nD Cert.RRmsIdeal.τ).loc Cert.RRmsIdeal.main_arg3) = m ((c.tc : Thread Cert.KRmsIdeal.nD Cert.KRmsIdeal.τ).loc Cert.KRmsIdeal.main_arg3)) →
    ∃ (v0 : (c : Dev Cert.KRmsIdeal.nD) → Buf (Elt Ideal) ((c.tc : Thread Cert.KRmsIdeal.nD Cert.KRmsIdeal.τ).loc Cert.KRmsIdeal.main_v1_0)) (v1 : (c : Dev Cert.KRmsIdeal.nD) → Buf (Elt Ideal) ((c.tc : Thread Cert.KRmsIdeal.nD Cert.KRmsIdeal.τ).loc Cert.KRmsIdeal.main_v1_1)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v1_0) = v0 c
          ∧ r.2.mem ((c.tc : Thread Cert.KRmsIdeal.nD Cert.KRmsIdeal.τ).loc Cert.KRmsIdeal.main_v1_1) = v1 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
          ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
          ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v36) = v0 c
          ∧ r.2.mem ((c.tc : Thread Cert.RRmsIdeal.nD Cert.RRmsIdeal.τ).loc Cert.RRmsIdeal.main_v37) = v1 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1)
          ∧ r.2.mem ((c.tc : Thread Cert.RRmsIdeal.nD Cert.RRmsIdeal.τ).loc Cert.RRmsIdeal.main_arg2) = m' ((c.tc : Thread Cert.RRmsIdeal.nD Cert.RRmsIdeal.τ).loc Cert.RRmsIdeal.main_arg2)
          ∧ r.2.mem ((c.tc : Thread Cert.RRmsIdeal.nD Cert.RRmsIdeal.τ).loc Cert.RRmsIdeal.main_arg3) = m' ((c.tc : Thread Cert.RRmsIdeal.nD Cert.RRmsIdeal.τ).loc Cert.RRmsIdeal.main_arg3))

def preserves_KGateB_KGateBIdeal : Prop :=
  True

def algebraic_KGateBIdeal_RGateBIdeal [hKGateBIdeal : Cert.KGateBIdeal.Facts] [hRGateBIdeal : Cert.RGateBIdeal.Facts] : Prop :=
  ∀ (m : (ℓ : Loc Cert.KGateBIdeal.nD Cert.KGateBIdeal.τ Cert.KGateBIdeal.sig) → Buf (Elt Ideal) ℓ) (g : Dev Cert.KGateBIdeal.nD → PrngReg)
    (m' : (ℓ : Loc Cert.RGateBIdeal.nD Cert.RGateBIdeal.τ Cert.RGateBIdeal.sig) → Buf (Elt Ideal) ℓ) (g' : Dev Cert.RGateBIdeal.nD → PrngReg), Pre_KGateBIdeal m →
    (∀ c : Dev Cert.KGateBIdeal.nD,
      m' ((c.tc : Thread Cert.RGateBIdeal.nD Cert.RGateBIdeal.τ).loc Cert.RGateBIdeal.main_arg0) = m ((c.tc : Thread Cert.KGateBIdeal.nD Cert.KGateBIdeal.τ).loc Cert.KGateBIdeal.main_arg0)
      ∧ m' ((c.tc : Thread Cert.RGateBIdeal.nD Cert.RGateBIdeal.τ).loc Cert.RGateBIdeal.main_arg1) = m ((c.tc : Thread Cert.KGateBIdeal.nD Cert.KGateBIdeal.τ).loc Cert.KGateBIdeal.main_arg1)
      ∧ m' ((c.tc : Thread Cert.RGateBIdeal.nD Cert.RGateBIdeal.τ).loc Cert.RGateBIdeal.main_arg2) = m ((c.tc : Thread Cert.KGateBIdeal.nD Cert.KGateBIdeal.τ).loc Cert.KGateBIdeal.main_arg2)
      ∧ m' ((c.tc : Thread Cert.RGateBIdeal.nD Cert.RGateBIdeal.τ).loc Cert.RGateBIdeal.main_arg3) = m ((c.tc : Thread Cert.KGateBIdeal.nD Cert.KGateBIdeal.τ).loc Cert.KGateBIdeal.main_arg3)) →
    ∃ (v0 : (c : Dev Cert.KGateBIdeal.nD) → Buf (Elt Ideal) ((c.tc : Thread Cert.KGateBIdeal.nD Cert.KGateBIdeal.τ).loc Cert.KGateBIdeal.main_v1_0)) (v1 : (c : Dev Cert.KGateBIdeal.nD) → Buf (Elt Ideal) ((c.tc : Thread Cert.KGateBIdeal.nD Cert.KGateBIdeal.τ).loc Cert.KGateBIdeal.main_v1_1)) (v2 : (c : Dev Cert.KGateBIdeal.nD) → Buf (Elt Ideal) ((c.tc : Thread Cert.KGateBIdeal.nD Cert.KGateBIdeal.τ).loc Cert.KGateBIdeal.main_v1_2)),
      θ_run (Cert.KGateBIdeal.defs (F := Ideal)) (onTc (τ := Cert.KGateBIdeal.τ) (Cert.KGateBIdeal.main (F := Ideal))) ⟨m, fun _ => 0, g⟩ (fun r => ∀ c : Dev Cert.KGateBIdeal.nD,
          r.2.mem ((c.tc : Thread Cert.KGateBIdeal.nD Cert.KGateBIdeal.τ).loc Cert.KGateBIdeal.main_v1_0) = v0 c
          ∧ r.2.mem ((c.tc : Thread Cert.KGateBIdeal.nD Cert.KGateBIdeal.τ).loc Cert.KGateBIdeal.main_v1_1) = v1 c
          ∧ r.2.mem ((c.tc : Thread Cert.KGateBIdeal.nD Cert.KGateBIdeal.τ).loc Cert.KGateBIdeal.main_v1_2) = v2 c
          ∧ r.2.mem ((c.tc : Thread Cert.KGateBIdeal.nD Cert.KGateBIdeal.τ).loc Cert.KGateBIdeal.main_arg0) = m ((c.tc : Thread Cert.KGateBIdeal.nD Cert.KGateBIdeal.τ).loc Cert.KGateBIdeal.main_arg0)
          ∧ r.2.mem ((c.tc : Thread Cert.KGateBIdeal.nD Cert.KGateBIdeal.τ).loc Cert.KGateBIdeal.main_arg1) = m ((c.tc : Thread Cert.KGateBIdeal.nD Cert.KGateBIdeal.τ).loc Cert.KGateBIdeal.main_arg1)
          ∧ r.2.mem ((c.tc : Thread Cert.KGateBIdeal.nD Cert.KGateBIdeal.τ).loc Cert.KGateBIdeal.main_arg2) = m ((c.tc : Thread Cert.KGateBIdeal.nD Cert.KGateBIdeal.τ).loc Cert.KGateBIdeal.main_arg2)
          ∧ r.2.mem ((c.tc : Thread Cert.KGateBIdeal.nD Cert.KGateBIdeal.τ).loc Cert.KGateBIdeal.main_arg3) = m ((c.tc : Thread Cert.KGateBIdeal.nD Cert.KGateBIdeal.τ).loc Cert.KGateBIdeal.main_arg3))
      ∧ θ_run (Cert.RGateBIdeal.defs (F := Ideal)) (onTc (τ := Cert.RGateBIdeal.τ) (Cert.RGateBIdeal.main (F := Ideal))) ⟨m', fun _ => 0, g'⟩ (fun r => ∀ c : Dev Cert.RGateBIdeal.nD,
          r.2.mem ((c.tc : Thread Cert.RGateBIdeal.nD Cert.RGateBIdeal.τ).loc Cert.RGateBIdeal.main_v45) = v0 c
          ∧ r.2.mem ((c.tc : Thread Cert.RGateBIdeal.nD Cert.RGateBIdeal.τ).loc Cert.RGateBIdeal.main_v46) = v1 c
          ∧ r.2.mem ((c.tc : Thread Cert.RGateBIdeal.nD Cert.RGateBIdeal.τ).loc Cert.RGateBIdeal.main_v47) = v2 c
          ∧ r.2.mem ((c.tc : Thread Cert.RGateBIdeal.nD Cert.RGateBIdeal.τ).loc Cert.RGateBIdeal.main_arg0) = m' ((c.tc : Thread Cert.RGateBIdeal.nD Cert.RGateBIdeal.τ).loc Cert.RGateBIdeal.main_arg0)
          ∧ r.2.mem ((c.tc : Thread Cert.RGateBIdeal.nD Cert.RGateBIdeal.τ).loc Cert.RGateBIdeal.main_arg1) = m' ((c.tc : Thread Cert.RGateBIdeal.nD Cert.RGateBIdeal.τ).loc Cert.RGateBIdeal.main_arg1)
          ∧ r.2.mem ((c.tc : Thread Cert.RGateBIdeal.nD Cert.RGateBIdeal.τ).loc Cert.RGateBIdeal.main_arg2) = m' ((c.tc : Thread Cert.RGateBIdeal.nD Cert.RGateBIdeal.τ).loc Cert.RGateBIdeal.main_arg2)
          ∧ r.2.mem ((c.tc : Thread Cert.RGateBIdeal.nD Cert.RGateBIdeal.τ).loc Cert.RGateBIdeal.main_arg3) = m' ((c.tc : Thread Cert.RGateBIdeal.nD Cert.RGateBIdeal.τ).loc Cert.RGateBIdeal.main_arg3))

def preserves_KGateC_KGateCIdeal : Prop :=
  True

def algebraic_KGateCIdeal_RGateCIdeal [hKGateCIdeal : Cert.KGateCIdeal.Facts] [hRGateCIdeal : Cert.RGateCIdeal.Facts] : Prop :=
  ∀ (m : (ℓ : Loc Cert.KGateCIdeal.nD Cert.KGateCIdeal.τ Cert.KGateCIdeal.sig) → Buf (Elt Ideal) ℓ) (g : Dev Cert.KGateCIdeal.nD → PrngReg)
    (m' : (ℓ : Loc Cert.RGateCIdeal.nD Cert.RGateCIdeal.τ Cert.RGateCIdeal.sig) → Buf (Elt Ideal) ℓ) (g' : Dev Cert.RGateCIdeal.nD → PrngReg), Pre_KGateCIdeal m →
    (∀ c : Dev Cert.KGateCIdeal.nD,
      m' ((c.tc : Thread Cert.RGateCIdeal.nD Cert.RGateCIdeal.τ).loc Cert.RGateCIdeal.main_arg0) = m ((c.tc : Thread Cert.KGateCIdeal.nD Cert.KGateCIdeal.τ).loc Cert.KGateCIdeal.main_arg0)
      ∧ m' ((c.tc : Thread Cert.RGateCIdeal.nD Cert.RGateCIdeal.τ).loc Cert.RGateCIdeal.main_arg1) = m ((c.tc : Thread Cert.KGateCIdeal.nD Cert.KGateCIdeal.τ).loc Cert.KGateCIdeal.main_arg1)
      ∧ m' ((c.tc : Thread Cert.RGateCIdeal.nD Cert.RGateCIdeal.τ).loc Cert.RGateCIdeal.main_arg2) = m ((c.tc : Thread Cert.KGateCIdeal.nD Cert.KGateCIdeal.τ).loc Cert.KGateCIdeal.main_arg2)
      ∧ m' ((c.tc : Thread Cert.RGateCIdeal.nD Cert.RGateCIdeal.τ).loc Cert.RGateCIdeal.main_arg3) = m ((c.tc : Thread Cert.KGateCIdeal.nD Cert.KGateCIdeal.τ).loc Cert.KGateCIdeal.main_arg3)
      ∧ m' ((c.tc : Thread Cert.RGateCIdeal.nD Cert.RGateCIdeal.τ).loc Cert.RGateCIdeal.main_arg4) = m ((c.tc : Thread Cert.KGateCIdeal.nD Cert.KGateCIdeal.τ).loc Cert.KGateCIdeal.main_arg4)
      ∧ m' ((c.tc : Thread Cert.RGateCIdeal.nD Cert.RGateCIdeal.τ).loc Cert.RGateCIdeal.main_arg5) = m ((c.tc : Thread Cert.KGateCIdeal.nD Cert.KGateCIdeal.τ).loc Cert.KGateCIdeal.main_arg5)) →
    ∃ (v0 : (c : Dev Cert.KGateCIdeal.nD) → Buf (Elt Ideal) ((c.tc : Thread Cert.KGateCIdeal.nD Cert.KGateCIdeal.τ).loc Cert.KGateCIdeal.main_v2_0)) (v1 : (c : Dev Cert.KGateCIdeal.nD) → Buf (Elt Ideal) ((c.tc : Thread Cert.KGateCIdeal.nD Cert.KGateCIdeal.τ).loc Cert.KGateCIdeal.main_v2_1)) (v2 : (c : Dev Cert.KGateCIdeal.nD) → Buf (Elt Ideal) ((c.tc : Thread Cert.KGateCIdeal.nD Cert.KGateCIdeal.τ).loc Cert.KGateCIdeal.main_v2_2)) (v3 : (c : Dev Cert.KGateCIdeal.nD) → Buf (Elt Ideal) ((c.tc : Thread Cert.KGateCIdeal.nD Cert.KGateCIdeal.τ).loc Cert.KGateCIdeal.main_v2_3)) (v4 : (c : Dev Cert.KGateCIdeal.nD) → Buf (Elt Ideal) ((c.tc : Thread Cert.KGateCIdeal.nD Cert.KGateCIdeal.τ).loc Cert.KGateCIdeal.main_v2_4)),
      θ_run (Cert.KGateCIdeal.defs (F := Ideal)) (onTc (τ := Cert.KGateCIdeal.τ) (Cert.KGateCIdeal.main (F := Ideal))) ⟨m, fun _ => 0, g⟩ (fun r => ∀ c : Dev Cert.KGateCIdeal.nD,
          r.2.mem ((c.tc : Thread Cert.KGateCIdeal.nD Cert.KGateCIdeal.τ).loc Cert.KGateCIdeal.main_v2_0) = v0 c
          ∧ r.2.mem ((c.tc : Thread Cert.KGateCIdeal.nD Cert.KGateCIdeal.τ).loc Cert.KGateCIdeal.main_v2_1) = v1 c
          ∧ r.2.mem ((c.tc : Thread Cert.KGateCIdeal.nD Cert.KGateCIdeal.τ).loc Cert.KGateCIdeal.main_v2_2) = v2 c
          ∧ r.2.mem ((c.tc : Thread Cert.KGateCIdeal.nD Cert.KGateCIdeal.τ).loc Cert.KGateCIdeal.main_v2_3) = v3 c
          ∧ r.2.mem ((c.tc : Thread Cert.KGateCIdeal.nD Cert.KGateCIdeal.τ).loc Cert.KGateCIdeal.main_v2_4) = v4 c
          ∧ r.2.mem ((c.tc : Thread Cert.KGateCIdeal.nD Cert.KGateCIdeal.τ).loc Cert.KGateCIdeal.main_arg0) = m ((c.tc : Thread Cert.KGateCIdeal.nD Cert.KGateCIdeal.τ).loc Cert.KGateCIdeal.main_arg0)
          ∧ r.2.mem ((c.tc : Thread Cert.KGateCIdeal.nD Cert.KGateCIdeal.τ).loc Cert.KGateCIdeal.main_arg1) = m ((c.tc : Thread Cert.KGateCIdeal.nD Cert.KGateCIdeal.τ).loc Cert.KGateCIdeal.main_arg1)
          ∧ r.2.mem ((c.tc : Thread Cert.KGateCIdeal.nD Cert.KGateCIdeal.τ).loc Cert.KGateCIdeal.main_arg2) = m ((c.tc : Thread Cert.KGateCIdeal.nD Cert.KGateCIdeal.τ).loc Cert.KGateCIdeal.main_arg2)
          ∧ r.2.mem ((c.tc : Thread Cert.KGateCIdeal.nD Cert.KGateCIdeal.τ).loc Cert.KGateCIdeal.main_arg3) = m ((c.tc : Thread Cert.KGateCIdeal.nD Cert.KGateCIdeal.τ).loc Cert.KGateCIdeal.main_arg3)
          ∧ r.2.mem ((c.tc : Thread Cert.KGateCIdeal.nD Cert.KGateCIdeal.τ).loc Cert.KGateCIdeal.main_arg4) = m ((c.tc : Thread Cert.KGateCIdeal.nD Cert.KGateCIdeal.τ).loc Cert.KGateCIdeal.main_arg4)
          ∧ r.2.mem ((c.tc : Thread Cert.KGateCIdeal.nD Cert.KGateCIdeal.τ).loc Cert.KGateCIdeal.main_arg5) = m ((c.tc : Thread Cert.KGateCIdeal.nD Cert.KGateCIdeal.τ).loc Cert.KGateCIdeal.main_arg5))
      ∧ θ_run (Cert.RGateCIdeal.defs (F := Ideal)) (onTc (τ := Cert.RGateCIdeal.τ) (Cert.RGateCIdeal.main (F := Ideal))) ⟨m', fun _ => 0, g'⟩ (fun r => ∀ c : Dev Cert.RGateCIdeal.nD,
          r.2.mem ((c.tc : Thread Cert.RGateCIdeal.nD Cert.RGateCIdeal.τ).loc Cert.RGateCIdeal.main_v51) = v0 c
          ∧ r.2.mem ((c.tc : Thread Cert.RGateCIdeal.nD Cert.RGateCIdeal.τ).loc Cert.RGateCIdeal.main_v54) = v1 c
          ∧ r.2.mem ((c.tc : Thread Cert.RGateCIdeal.nD Cert.RGateCIdeal.τ).loc Cert.RGateCIdeal.main_v59) = v2 c
          ∧ r.2.mem ((c.tc : Thread Cert.RGateCIdeal.nD Cert.RGateCIdeal.τ).loc Cert.RGateCIdeal.main_v60) = v3 c
          ∧ r.2.mem ((c.tc : Thread Cert.RGateCIdeal.nD Cert.RGateCIdeal.τ).loc Cert.RGateCIdeal.main_v61) = v4 c
          ∧ r.2.mem ((c.tc : Thread Cert.RGateCIdeal.nD Cert.RGateCIdeal.τ).loc Cert.RGateCIdeal.main_arg0) = m' ((c.tc : Thread Cert.RGateCIdeal.nD Cert.RGateCIdeal.τ).loc Cert.RGateCIdeal.main_arg0)
          ∧ r.2.mem ((c.tc : Thread Cert.RGateCIdeal.nD Cert.RGateCIdeal.τ).loc Cert.RGateCIdeal.main_arg1) = m' ((c.tc : Thread Cert.RGateCIdeal.nD Cert.RGateCIdeal.τ).loc Cert.RGateCIdeal.main_arg1)
          ∧ r.2.mem ((c.tc : Thread Cert.RGateCIdeal.nD Cert.RGateCIdeal.τ).loc Cert.RGateCIdeal.main_arg2) = m' ((c.tc : Thread Cert.RGateCIdeal.nD Cert.RGateCIdeal.τ).loc Cert.RGateCIdeal.main_arg2)
          ∧ r.2.mem ((c.tc : Thread Cert.RGateCIdeal.nD Cert.RGateCIdeal.τ).loc Cert.RGateCIdeal.main_arg3) = m' ((c.tc : Thread Cert.RGateCIdeal.nD Cert.RGateCIdeal.τ).loc Cert.RGateCIdeal.main_arg3)
          ∧ r.2.mem ((c.tc : Thread Cert.RGateCIdeal.nD Cert.RGateCIdeal.τ).loc Cert.RGateCIdeal.main_arg4) = m' ((c.tc : Thread Cert.RGateCIdeal.nD Cert.RGateCIdeal.τ).loc Cert.RGateCIdeal.main_arg4)
          ∧ r.2.mem ((c.tc : Thread Cert.RGateCIdeal.nD Cert.RGateCIdeal.τ).loc Cert.RGateCIdeal.main_arg5) = m' ((c.tc : Thread Cert.RGateCIdeal.nD Cert.RGateCIdeal.τ).loc Cert.RGateCIdeal.main_arg5))

def preserves_KConvC_KConvCIdeal : Prop :=
  True

def algebraic_KConvCIdeal_RConvCIdeal [hKConvCIdeal : Cert.KConvCIdeal.Facts] [hRConvCIdeal : Cert.RConvCIdeal.Facts] : Prop :=
  ∀ (m : (ℓ : Loc Cert.KConvCIdeal.nD Cert.KConvCIdeal.τ Cert.KConvCIdeal.sig) → Buf (Elt Ideal) ℓ) (g : Dev Cert.KConvCIdeal.nD → PrngReg)
    (m' : (ℓ : Loc Cert.RConvCIdeal.nD Cert.RConvCIdeal.τ Cert.RConvCIdeal.sig) → Buf (Elt Ideal) ℓ) (g' : Dev Cert.RConvCIdeal.nD → PrngReg), Pre_KConvCIdeal m →
    (∀ c : Dev Cert.KConvCIdeal.nD,
      m' ((c.tc : Thread Cert.RConvCIdeal.nD Cert.RConvCIdeal.τ).loc Cert.RConvCIdeal.main_arg0) = m ((c.tc : Thread Cert.KConvCIdeal.nD Cert.KConvCIdeal.τ).loc Cert.KConvCIdeal.main_arg0)
      ∧ m' ((c.tc : Thread Cert.RConvCIdeal.nD Cert.RConvCIdeal.τ).loc Cert.RConvCIdeal.main_arg1) = m ((c.tc : Thread Cert.KConvCIdeal.nD Cert.KConvCIdeal.τ).loc Cert.KConvCIdeal.main_arg1)
      ∧ m' ((c.tc : Thread Cert.RConvCIdeal.nD Cert.RConvCIdeal.τ).loc Cert.RConvCIdeal.main_arg2) = m ((c.tc : Thread Cert.KConvCIdeal.nD Cert.KConvCIdeal.τ).loc Cert.KConvCIdeal.main_arg2)
      ∧ m' ((c.tc : Thread Cert.RConvCIdeal.nD Cert.RConvCIdeal.τ).loc Cert.RConvCIdeal.main_arg3) = m ((c.tc : Thread Cert.KConvCIdeal.nD Cert.KConvCIdeal.τ).loc Cert.KConvCIdeal.main_arg3)) →
    ∃ (v0 : (c : Dev Cert.KConvCIdeal.nD) → Buf (Elt Ideal) ((c.tc : Thread Cert.KConvCIdeal.nD Cert.KConvCIdeal.τ).loc Cert.KConvCIdeal.main_v2_0)) (v1 : (c : Dev Cert.KConvCIdeal.nD) → Buf (Elt Ideal) ((c.tc : Thread Cert.KConvCIdeal.nD Cert.KConvCIdeal.τ).loc Cert.KConvCIdeal.main_v2_1)) (v2 : (c : Dev Cert.KConvCIdeal.nD) → Buf (Elt Ideal) ((c.tc : Thread Cert.KConvCIdeal.nD Cert.KConvCIdeal.τ).loc Cert.KConvCIdeal.main_v2_2)),
      θ_run (Cert.KConvCIdeal.defs (F := Ideal)) (onTc (τ := Cert.KConvCIdeal.τ) (Cert.KConvCIdeal.main (F := Ideal))) ⟨m, fun _ => 0, g⟩ (fun r => ∀ c : Dev Cert.KConvCIdeal.nD,
          r.2.mem ((c.tc : Thread Cert.KConvCIdeal.nD Cert.KConvCIdeal.τ).loc Cert.KConvCIdeal.main_v2_0) = v0 c
          ∧ r.2.mem ((c.tc : Thread Cert.KConvCIdeal.nD Cert.KConvCIdeal.τ).loc Cert.KConvCIdeal.main_v2_1) = v1 c
          ∧ r.2.mem ((c.tc : Thread Cert.KConvCIdeal.nD Cert.KConvCIdeal.τ).loc Cert.KConvCIdeal.main_v2_2) = v2 c
          ∧ r.2.mem ((c.tc : Thread Cert.KConvCIdeal.nD Cert.KConvCIdeal.τ).loc Cert.KConvCIdeal.main_arg0) = m ((c.tc : Thread Cert.KConvCIdeal.nD Cert.KConvCIdeal.τ).loc Cert.KConvCIdeal.main_arg0)
          ∧ r.2.mem ((c.tc : Thread Cert.KConvCIdeal.nD Cert.KConvCIdeal.τ).loc Cert.KConvCIdeal.main_arg1) = m ((c.tc : Thread Cert.KConvCIdeal.nD Cert.KConvCIdeal.τ).loc Cert.KConvCIdeal.main_arg1)
          ∧ r.2.mem ((c.tc : Thread Cert.KConvCIdeal.nD Cert.KConvCIdeal.τ).loc Cert.KConvCIdeal.main_arg2) = m ((c.tc : Thread Cert.KConvCIdeal.nD Cert.KConvCIdeal.τ).loc Cert.KConvCIdeal.main_arg2)
          ∧ r.2.mem ((c.tc : Thread Cert.KConvCIdeal.nD Cert.KConvCIdeal.τ).loc Cert.KConvCIdeal.main_arg3) = m ((c.tc : Thread Cert.KConvCIdeal.nD Cert.KConvCIdeal.τ).loc Cert.KConvCIdeal.main_arg3))
      ∧ θ_run (Cert.RConvCIdeal.defs (F := Ideal)) (onTc (τ := Cert.RConvCIdeal.τ) (Cert.RConvCIdeal.main (F := Ideal))) ⟨m', fun _ => 0, g'⟩ (fun r => ∀ c : Dev Cert.RConvCIdeal.nD,
          r.2.mem ((c.tc : Thread Cert.RConvCIdeal.nD Cert.RConvCIdeal.τ).loc Cert.RConvCIdeal.main_v87) = v0 c
          ∧ r.2.mem ((c.tc : Thread Cert.RConvCIdeal.nD Cert.RConvCIdeal.τ).loc Cert.RConvCIdeal.main_v83) = v1 c
          ∧ r.2.mem ((c.tc : Thread Cert.RConvCIdeal.nD Cert.RConvCIdeal.τ).loc Cert.RConvCIdeal.main_v88) = v2 c
          ∧ r.2.mem ((c.tc : Thread Cert.RConvCIdeal.nD Cert.RConvCIdeal.τ).loc Cert.RConvCIdeal.main_arg0) = m' ((c.tc : Thread Cert.RConvCIdeal.nD Cert.RConvCIdeal.τ).loc Cert.RConvCIdeal.main_arg0)
          ∧ r.2.mem ((c.tc : Thread Cert.RConvCIdeal.nD Cert.RConvCIdeal.τ).loc Cert.RConvCIdeal.main_arg1) = m' ((c.tc : Thread Cert.RConvCIdeal.nD Cert.RConvCIdeal.τ).loc Cert.RConvCIdeal.main_arg1)
          ∧ r.2.mem ((c.tc : Thread Cert.RConvCIdeal.nD Cert.RConvCIdeal.τ).loc Cert.RConvCIdeal.main_arg2) = m' ((c.tc : Thread Cert.RConvCIdeal.nD Cert.RConvCIdeal.τ).loc Cert.RConvCIdeal.main_arg2)
          ∧ r.2.mem ((c.tc : Thread Cert.RConvCIdeal.nD Cert.RConvCIdeal.τ).loc Cert.RConvCIdeal.main_arg3) = m' ((c.tc : Thread Cert.RConvCIdeal.nD Cert.RConvCIdeal.τ).loc Cert.RConvCIdeal.main_arg3))

def preserves_KConvB_KConvBIdeal : Prop :=
  True

def algebraic_KConvBIdeal_RConvBIdeal [hKConvBIdeal : Cert.KConvBIdeal.Facts] [hRConvBIdeal : Cert.RConvBIdeal.Facts] : Prop :=
  ∀ (m : (ℓ : Loc Cert.KConvBIdeal.nD Cert.KConvBIdeal.τ Cert.KConvBIdeal.sig) → Buf (Elt Ideal) ℓ) (g : Dev Cert.KConvBIdeal.nD → PrngReg)
    (m' : (ℓ : Loc Cert.RConvBIdeal.nD Cert.RConvBIdeal.τ Cert.RConvBIdeal.sig) → Buf (Elt Ideal) ℓ) (g' : Dev Cert.RConvBIdeal.nD → PrngReg), Pre_KConvBIdeal m →
    (∀ c : Dev Cert.KConvBIdeal.nD,
      m' ((c.tc : Thread Cert.RConvBIdeal.nD Cert.RConvBIdeal.τ).loc Cert.RConvBIdeal.main_arg0) = m ((c.tc : Thread Cert.KConvBIdeal.nD Cert.KConvBIdeal.τ).loc Cert.KConvBIdeal.main_arg0)
      ∧ m' ((c.tc : Thread Cert.RConvBIdeal.nD Cert.RConvBIdeal.τ).loc Cert.RConvBIdeal.main_arg1) = m ((c.tc : Thread Cert.KConvBIdeal.nD Cert.KConvBIdeal.τ).loc Cert.KConvBIdeal.main_arg1)
      ∧ m' ((c.tc : Thread Cert.RConvBIdeal.nD Cert.RConvBIdeal.τ).loc Cert.RConvBIdeal.main_arg2) = m ((c.tc : Thread Cert.KConvBIdeal.nD Cert.KConvBIdeal.τ).loc Cert.KConvBIdeal.main_arg2)) →
    ∃ (v0 : (c : Dev Cert.KConvBIdeal.nD) → Buf (Elt Ideal) ((c.tc : Thread Cert.KConvBIdeal.nD Cert.KConvBIdeal.τ).loc Cert.KConvBIdeal.main_v2_0)) (v1 : (c : Dev Cert.KConvBIdeal.nD) → Buf (Elt Ideal) ((c.tc : Thread Cert.KConvBIdeal.nD Cert.KConvBIdeal.τ).loc Cert.KConvBIdeal.main_v2_1)),
      θ_run (Cert.KConvBIdeal.defs (F := Ideal)) (onTc (τ := Cert.KConvBIdeal.τ) (Cert.KConvBIdeal.main (F := Ideal))) ⟨m, fun _ => 0, g⟩ (fun r => ∀ c : Dev Cert.KConvBIdeal.nD,
          r.2.mem ((c.tc : Thread Cert.KConvBIdeal.nD Cert.KConvBIdeal.τ).loc Cert.KConvBIdeal.main_v2_0) = v0 c
          ∧ r.2.mem ((c.tc : Thread Cert.KConvBIdeal.nD Cert.KConvBIdeal.τ).loc Cert.KConvBIdeal.main_v2_1) = v1 c
          ∧ r.2.mem ((c.tc : Thread Cert.KConvBIdeal.nD Cert.KConvBIdeal.τ).loc Cert.KConvBIdeal.main_arg0) = m ((c.tc : Thread Cert.KConvBIdeal.nD Cert.KConvBIdeal.τ).loc Cert.KConvBIdeal.main_arg0)
          ∧ r.2.mem ((c.tc : Thread Cert.KConvBIdeal.nD Cert.KConvBIdeal.τ).loc Cert.KConvBIdeal.main_arg1) = m ((c.tc : Thread Cert.KConvBIdeal.nD Cert.KConvBIdeal.τ).loc Cert.KConvBIdeal.main_arg1)
          ∧ r.2.mem ((c.tc : Thread Cert.KConvBIdeal.nD Cert.KConvBIdeal.τ).loc Cert.KConvBIdeal.main_arg2) = m ((c.tc : Thread Cert.KConvBIdeal.nD Cert.KConvBIdeal.τ).loc Cert.KConvBIdeal.main_arg2))
      ∧ θ_run (Cert.RConvBIdeal.defs (F := Ideal)) (onTc (τ := Cert.RConvBIdeal.τ) (Cert.RConvBIdeal.main (F := Ideal))) ⟨m', fun _ => 0, g'⟩ (fun r => ∀ c : Dev Cert.RConvBIdeal.nD,
          r.2.mem ((c.tc : Thread Cert.RConvBIdeal.nD Cert.RConvBIdeal.τ).loc Cert.RConvBIdeal.main_v147) = v0 c
          ∧ r.2.mem ((c.tc : Thread Cert.RConvBIdeal.nD Cert.RConvBIdeal.τ).loc Cert.RConvBIdeal.main_v143) = v1 c
          ∧ r.2.mem ((c.tc : Thread Cert.RConvBIdeal.nD Cert.RConvBIdeal.τ).loc Cert.RConvBIdeal.main_arg0) = m' ((c.tc : Thread Cert.RConvBIdeal.nD Cert.RConvBIdeal.τ).loc Cert.RConvBIdeal.main_arg0)
          ∧ r.2.mem ((c.tc : Thread Cert.RConvBIdeal.nD Cert.RConvBIdeal.τ).loc Cert.RConvBIdeal.main_arg1) = m' ((c.tc : Thread Cert.RConvBIdeal.nD Cert.RConvBIdeal.τ).loc Cert.RConvBIdeal.main_arg1)
          ∧ r.2.mem ((c.tc : Thread Cert.RConvBIdeal.nD Cert.RConvBIdeal.τ).loc Cert.RConvBIdeal.main_arg2) = m' ((c.tc : Thread Cert.RConvBIdeal.nD Cert.RConvBIdeal.τ).loc Cert.RConvBIdeal.main_arg2))

def preserves_KRmsF_KRmsFIdeal : Prop :=
  True

def algebraic_KRmsFIdeal_RRmsFIdeal [hKRmsFIdeal : Cert.KRmsFIdeal.Facts] [hRRmsFIdeal : Cert.RRmsFIdeal.Facts] : Prop :=
  ∀ (m : (ℓ : Loc Cert.KRmsFIdeal.nD Cert.KRmsFIdeal.τ Cert.KRmsFIdeal.sig) → Buf (Elt Ideal) ℓ) (g : Dev Cert.KRmsFIdeal.nD → PrngReg)
    (m' : (ℓ : Loc Cert.RRmsFIdeal.nD Cert.RRmsFIdeal.τ Cert.RRmsFIdeal.sig) → Buf (Elt Ideal) ℓ) (g' : Dev Cert.RRmsFIdeal.nD → PrngReg), Pre_KRmsFIdeal m →
    (∀ c : Dev Cert.KRmsFIdeal.nD,
      m' ((c.tc : Thread Cert.RRmsFIdeal.nD Cert.RRmsFIdeal.τ).loc Cert.RRmsFIdeal.main_arg0) = m ((c.tc : Thread Cert.KRmsFIdeal.nD Cert.KRmsFIdeal.τ).loc Cert.KRmsFIdeal.main_arg0)
      ∧ m' ((c.tc : Thread Cert.RRmsFIdeal.nD Cert.RRmsFIdeal.τ).loc Cert.RRmsFIdeal.main_arg1) = m ((c.tc : Thread Cert.KRmsFIdeal.nD Cert.KRmsFIdeal.τ).loc Cert.KRmsFIdeal.main_arg1)) →
    ∃ (v0 : (c : Dev Cert.KRmsFIdeal.nD) → Buf (Elt Ideal) ((c.tc : Thread Cert.KRmsFIdeal.nD Cert.KRmsFIdeal.τ).loc Cert.KRmsFIdeal.main_v1)),
      θ_run (Cert.KRmsFIdeal.defs (F := Ideal)) (onTc (τ := Cert.KRmsFIdeal.τ) (Cert.KRmsFIdeal.main (F := Ideal))) ⟨m, fun _ => 0, g⟩ (fun r => ∀ c : Dev Cert.KRmsFIdeal.nD,
          r.2.mem ((c.tc : Thread Cert.KRmsFIdeal.nD Cert.KRmsFIdeal.τ).loc Cert.KRmsFIdeal.main_v1) = v0 c
          ∧ r.2.mem ((c.tc : Thread Cert.KRmsFIdeal.nD Cert.KRmsFIdeal.τ).loc Cert.KRmsFIdeal.main_arg0) = m ((c.tc : Thread Cert.KRmsFIdeal.nD Cert.KRmsFIdeal.τ).loc Cert.KRmsFIdeal.main_arg0)
          ∧ r.2.mem ((c.tc : Thread Cert.KRmsFIdeal.nD Cert.KRmsFIdeal.τ).loc Cert.KRmsFIdeal.main_arg1) = m ((c.tc : Thread Cert.KRmsFIdeal.nD Cert.KRmsFIdeal.τ).loc Cert.KRmsFIdeal.main_arg1))
      ∧ θ_run (Cert.RRmsFIdeal.defs (F := Ideal)) (onTc (τ := Cert.RRmsFIdeal.τ) (Cert.RRmsFIdeal.main (F := Ideal))) ⟨m', fun _ => 0, g'⟩ (fun r => ∀ c : Dev Cert.RRmsFIdeal.nD,
          r.2.mem ((c.tc : Thread Cert.RRmsFIdeal.nD Cert.RRmsFIdeal.τ).loc Cert.RRmsFIdeal.main_v13) = v0 c
          ∧ r.2.mem ((c.tc : Thread Cert.RRmsFIdeal.nD Cert.RRmsFIdeal.τ).loc Cert.RRmsFIdeal.main_arg0) = m' ((c.tc : Thread Cert.RRmsFIdeal.nD Cert.RRmsFIdeal.τ).loc Cert.RRmsFIdeal.main_arg0)
          ∧ r.2.mem ((c.tc : Thread Cert.RRmsFIdeal.nD Cert.RRmsFIdeal.τ).loc Cert.RRmsFIdeal.main_arg1) = m' ((c.tc : Thread Cert.RRmsFIdeal.nD Cert.RRmsFIdeal.τ).loc Cert.RRmsFIdeal.main_arg1))

def preserves_KGateAF_KGateAFIdeal : Prop :=
  True

def algebraic_KGateAFIdeal_RGateAFIdeal [hKGateAFIdeal : Cert.KGateAFIdeal.Facts] [hRGateAFIdeal : Cert.RGateAFIdeal.Facts] : Prop :=
  ∀ (m : (ℓ : Loc Cert.KGateAFIdeal.nD Cert.KGateAFIdeal.τ Cert.KGateAFIdeal.sig) → Buf (Elt Ideal) ℓ) (g : Dev Cert.KGateAFIdeal.nD → PrngReg)
    (m' : (ℓ : Loc Cert.RGateAFIdeal.nD Cert.RGateAFIdeal.τ Cert.RGateAFIdeal.sig) → Buf (Elt Ideal) ℓ) (g' : Dev Cert.RGateAFIdeal.nD → PrngReg), Pre_KGateAFIdeal m →
    (∀ c : Dev Cert.KGateAFIdeal.nD,
      m' ((c.tc : Thread Cert.RGateAFIdeal.nD Cert.RGateAFIdeal.τ).loc Cert.RGateAFIdeal.main_arg0) = m ((c.tc : Thread Cert.KGateAFIdeal.nD Cert.KGateAFIdeal.τ).loc Cert.KGateAFIdeal.main_arg0)
      ∧ m' ((c.tc : Thread Cert.RGateAFIdeal.nD Cert.RGateAFIdeal.τ).loc Cert.RGateAFIdeal.main_arg1) = m ((c.tc : Thread Cert.KGateAFIdeal.nD Cert.KGateAFIdeal.τ).loc Cert.KGateAFIdeal.main_arg1)) →
    ∃ (v0 : (c : Dev Cert.KGateAFIdeal.nD) → Buf (Elt Ideal) ((c.tc : Thread Cert.KGateAFIdeal.nD Cert.KGateAFIdeal.τ).loc Cert.KGateAFIdeal.main_v0)),
      θ_run (Cert.KGateAFIdeal.defs (F := Ideal)) (onTc (τ := Cert.KGateAFIdeal.τ) (Cert.KGateAFIdeal.main (F := Ideal))) ⟨m, fun _ => 0, g⟩ (fun r => ∀ c : Dev Cert.KGateAFIdeal.nD,
          r.2.mem ((c.tc : Thread Cert.KGateAFIdeal.nD Cert.KGateAFIdeal.τ).loc Cert.KGateAFIdeal.main_v0) = v0 c
          ∧ r.2.mem ((c.tc : Thread Cert.KGateAFIdeal.nD Cert.KGateAFIdeal.τ).loc Cert.KGateAFIdeal.main_arg0) = m ((c.tc : Thread Cert.KGateAFIdeal.nD Cert.KGateAFIdeal.τ).loc Cert.KGateAFIdeal.main_arg0)
          ∧ r.2.mem ((c.tc : Thread Cert.KGateAFIdeal.nD Cert.KGateAFIdeal.τ).loc Cert.KGateAFIdeal.main_arg1) = m ((c.tc : Thread Cert.KGateAFIdeal.nD Cert.KGateAFIdeal.τ).loc Cert.KGateAFIdeal.main_arg1))
      ∧ θ_run (Cert.RGateAFIdeal.defs (F := Ideal)) (onTc (τ := Cert.RGateAFIdeal.τ) (Cert.RGateAFIdeal.main (F := Ideal))) ⟨m', fun _ => 0, g'⟩ (fun r => ∀ c : Dev Cert.RGateAFIdeal.nD,
          r.2.mem ((c.tc : Thread Cert.RGateAFIdeal.nD Cert.RGateAFIdeal.τ).loc Cert.RGateAFIdeal.main_v3) = v0 c
          ∧ r.2.mem ((c.tc : Thread Cert.RGateAFIdeal.nD Cert.RGateAFIdeal.τ).loc Cert.RGateAFIdeal.main_arg0) = m' ((c.tc : Thread Cert.RGateAFIdeal.nD Cert.RGateAFIdeal.τ).loc Cert.RGateAFIdeal.main_arg0)
          ∧ r.2.mem ((c.tc : Thread Cert.RGateAFIdeal.nD Cert.RGateAFIdeal.τ).loc Cert.RGateAFIdeal.main_arg1) = m' ((c.tc : Thread Cert.RGateAFIdeal.nD Cert.RGateAFIdeal.τ).loc Cert.RGateAFIdeal.main_arg1))

def preserves_KGateBF_KGateBFIdeal : Prop :=
  True

def algebraic_KGateBFIdeal_RGateBFIdeal [hKGateBFIdeal : Cert.KGateBFIdeal.Facts] [hRGateBFIdeal : Cert.RGateBFIdeal.Facts] : Prop :=
  ∀ (m : (ℓ : Loc Cert.KGateBFIdeal.nD Cert.KGateBFIdeal.τ Cert.KGateBFIdeal.sig) → Buf (Elt Ideal) ℓ) (g : Dev Cert.KGateBFIdeal.nD → PrngReg)
    (m' : (ℓ : Loc Cert.RGateBFIdeal.nD Cert.RGateBFIdeal.τ Cert.RGateBFIdeal.sig) → Buf (Elt Ideal) ℓ) (g' : Dev Cert.RGateBFIdeal.nD → PrngReg), Pre_KGateBFIdeal m →
    (∀ c : Dev Cert.KGateBFIdeal.nD,
      m' ((c.tc : Thread Cert.RGateBFIdeal.nD Cert.RGateBFIdeal.τ).loc Cert.RGateBFIdeal.main_arg0) = m ((c.tc : Thread Cert.KGateBFIdeal.nD Cert.KGateBFIdeal.τ).loc Cert.KGateBFIdeal.main_arg0)
      ∧ m' ((c.tc : Thread Cert.RGateBFIdeal.nD Cert.RGateBFIdeal.τ).loc Cert.RGateBFIdeal.main_arg1) = m ((c.tc : Thread Cert.KGateBFIdeal.nD Cert.KGateBFIdeal.τ).loc Cert.KGateBFIdeal.main_arg1)
      ∧ m' ((c.tc : Thread Cert.RGateBFIdeal.nD Cert.RGateBFIdeal.τ).loc Cert.RGateBFIdeal.main_arg2) = m ((c.tc : Thread Cert.KGateBFIdeal.nD Cert.KGateBFIdeal.τ).loc Cert.KGateBFIdeal.main_arg2)) →
    ∃ (v0 : (c : Dev Cert.KGateBFIdeal.nD) → Buf (Elt Ideal) ((c.tc : Thread Cert.KGateBFIdeal.nD Cert.KGateBFIdeal.τ).loc Cert.KGateBFIdeal.main_v1)),
      θ_run (Cert.KGateBFIdeal.defs (F := Ideal)) (onTc (τ := Cert.KGateBFIdeal.τ) (Cert.KGateBFIdeal.main (F := Ideal))) ⟨m, fun _ => 0, g⟩ (fun r => ∀ c : Dev Cert.KGateBFIdeal.nD,
          r.2.mem ((c.tc : Thread Cert.KGateBFIdeal.nD Cert.KGateBFIdeal.τ).loc Cert.KGateBFIdeal.main_v1) = v0 c
          ∧ r.2.mem ((c.tc : Thread Cert.KGateBFIdeal.nD Cert.KGateBFIdeal.τ).loc Cert.KGateBFIdeal.main_arg0) = m ((c.tc : Thread Cert.KGateBFIdeal.nD Cert.KGateBFIdeal.τ).loc Cert.KGateBFIdeal.main_arg0)
          ∧ r.2.mem ((c.tc : Thread Cert.KGateBFIdeal.nD Cert.KGateBFIdeal.τ).loc Cert.KGateBFIdeal.main_arg1) = m ((c.tc : Thread Cert.KGateBFIdeal.nD Cert.KGateBFIdeal.τ).loc Cert.KGateBFIdeal.main_arg1)
          ∧ r.2.mem ((c.tc : Thread Cert.KGateBFIdeal.nD Cert.KGateBFIdeal.τ).loc Cert.KGateBFIdeal.main_arg2) = m ((c.tc : Thread Cert.KGateBFIdeal.nD Cert.KGateBFIdeal.τ).loc Cert.KGateBFIdeal.main_arg2))
      ∧ θ_run (Cert.RGateBFIdeal.defs (F := Ideal)) (onTc (τ := Cert.RGateBFIdeal.τ) (Cert.RGateBFIdeal.main (F := Ideal))) ⟨m', fun _ => 0, g'⟩ (fun r => ∀ c : Dev Cert.RGateBFIdeal.nD,
          r.2.mem ((c.tc : Thread Cert.RGateBFIdeal.nD Cert.RGateBFIdeal.τ).loc Cert.RGateBFIdeal.main_v18) = v0 c
          ∧ r.2.mem ((c.tc : Thread Cert.RGateBFIdeal.nD Cert.RGateBFIdeal.τ).loc Cert.RGateBFIdeal.main_arg0) = m' ((c.tc : Thread Cert.RGateBFIdeal.nD Cert.RGateBFIdeal.τ).loc Cert.RGateBFIdeal.main_arg0)
          ∧ r.2.mem ((c.tc : Thread Cert.RGateBFIdeal.nD Cert.RGateBFIdeal.τ).loc Cert.RGateBFIdeal.main_arg1) = m' ((c.tc : Thread Cert.RGateBFIdeal.nD Cert.RGateBFIdeal.τ).loc Cert.RGateBFIdeal.main_arg1)
          ∧ r.2.mem ((c.tc : Thread Cert.RGateBFIdeal.nD Cert.RGateBFIdeal.τ).loc Cert.RGateBFIdeal.main_arg2) = m' ((c.tc : Thread Cert.RGateBFIdeal.nD Cert.RGateBFIdeal.τ).loc Cert.RGateBFIdeal.main_arg2))

def preserves_KGateCF_KGateCFIdeal : Prop :=
  True

def algebraic_KGateCFIdeal_RGateCFIdeal [hKGateCFIdeal : Cert.KGateCFIdeal.Facts] [hRGateCFIdeal : Cert.RGateCFIdeal.Facts] : Prop :=
  ∀ (m : (ℓ : Loc Cert.KGateCFIdeal.nD Cert.KGateCFIdeal.τ Cert.KGateCFIdeal.sig) → Buf (Elt Ideal) ℓ) (g : Dev Cert.KGateCFIdeal.nD → PrngReg)
    (m' : (ℓ : Loc Cert.RGateCFIdeal.nD Cert.RGateCFIdeal.τ Cert.RGateCFIdeal.sig) → Buf (Elt Ideal) ℓ) (g' : Dev Cert.RGateCFIdeal.nD → PrngReg), Pre_KGateCFIdeal m →
    (∀ c : Dev Cert.KGateCFIdeal.nD,
      m' ((c.tc : Thread Cert.RGateCFIdeal.nD Cert.RGateCFIdeal.τ).loc Cert.RGateCFIdeal.main_arg0) = m ((c.tc : Thread Cert.KGateCFIdeal.nD Cert.KGateCFIdeal.τ).loc Cert.KGateCFIdeal.main_arg0)
      ∧ m' ((c.tc : Thread Cert.RGateCFIdeal.nD Cert.RGateCFIdeal.τ).loc Cert.RGateCFIdeal.main_arg1) = m ((c.tc : Thread Cert.KGateCFIdeal.nD Cert.KGateCFIdeal.τ).loc Cert.KGateCFIdeal.main_arg1)
      ∧ m' ((c.tc : Thread Cert.RGateCFIdeal.nD Cert.RGateCFIdeal.τ).loc Cert.RGateCFIdeal.main_arg2) = m ((c.tc : Thread Cert.KGateCFIdeal.nD Cert.KGateCFIdeal.τ).loc Cert.KGateCFIdeal.main_arg2)
      ∧ m' ((c.tc : Thread Cert.RGateCFIdeal.nD Cert.RGateCFIdeal.τ).loc Cert.RGateCFIdeal.main_arg3) = m ((c.tc : Thread Cert.KGateCFIdeal.nD Cert.KGateCFIdeal.τ).loc Cert.KGateCFIdeal.main_arg3)
      ∧ m' ((c.tc : Thread Cert.RGateCFIdeal.nD Cert.RGateCFIdeal.τ).loc Cert.RGateCFIdeal.main_arg4) = m ((c.tc : Thread Cert.KGateCFIdeal.nD Cert.KGateCFIdeal.τ).loc Cert.KGateCFIdeal.main_arg4)) →
    ∃ (v0 : (c : Dev Cert.KGateCFIdeal.nD) → Buf (Elt Ideal) ((c.tc : Thread Cert.KGateCFIdeal.nD Cert.KGateCFIdeal.τ).loc Cert.KGateCFIdeal.main_v2)),
      θ_run (Cert.KGateCFIdeal.defs (F := Ideal)) (onTc (τ := Cert.KGateCFIdeal.τ) (Cert.KGateCFIdeal.main (F := Ideal))) ⟨m, fun _ => 0, g⟩ (fun r => ∀ c : Dev Cert.KGateCFIdeal.nD,
          r.2.mem ((c.tc : Thread Cert.KGateCFIdeal.nD Cert.KGateCFIdeal.τ).loc Cert.KGateCFIdeal.main_v2) = v0 c
          ∧ r.2.mem ((c.tc : Thread Cert.KGateCFIdeal.nD Cert.KGateCFIdeal.τ).loc Cert.KGateCFIdeal.main_arg0) = m ((c.tc : Thread Cert.KGateCFIdeal.nD Cert.KGateCFIdeal.τ).loc Cert.KGateCFIdeal.main_arg0)
          ∧ r.2.mem ((c.tc : Thread Cert.KGateCFIdeal.nD Cert.KGateCFIdeal.τ).loc Cert.KGateCFIdeal.main_arg1) = m ((c.tc : Thread Cert.KGateCFIdeal.nD Cert.KGateCFIdeal.τ).loc Cert.KGateCFIdeal.main_arg1)
          ∧ r.2.mem ((c.tc : Thread Cert.KGateCFIdeal.nD Cert.KGateCFIdeal.τ).loc Cert.KGateCFIdeal.main_arg2) = m ((c.tc : Thread Cert.KGateCFIdeal.nD Cert.KGateCFIdeal.τ).loc Cert.KGateCFIdeal.main_arg2)
          ∧ r.2.mem ((c.tc : Thread Cert.KGateCFIdeal.nD Cert.KGateCFIdeal.τ).loc Cert.KGateCFIdeal.main_arg3) = m ((c.tc : Thread Cert.KGateCFIdeal.nD Cert.KGateCFIdeal.τ).loc Cert.KGateCFIdeal.main_arg3)
          ∧ r.2.mem ((c.tc : Thread Cert.KGateCFIdeal.nD Cert.KGateCFIdeal.τ).loc Cert.KGateCFIdeal.main_arg4) = m ((c.tc : Thread Cert.KGateCFIdeal.nD Cert.KGateCFIdeal.τ).loc Cert.KGateCFIdeal.main_arg4))
      ∧ θ_run (Cert.RGateCFIdeal.defs (F := Ideal)) (onTc (τ := Cert.RGateCFIdeal.τ) (Cert.RGateCFIdeal.main (F := Ideal))) ⟨m', fun _ => 0, g'⟩ (fun r => ∀ c : Dev Cert.RGateCFIdeal.nD,
          r.2.mem ((c.tc : Thread Cert.RGateCFIdeal.nD Cert.RGateCFIdeal.τ).loc Cert.RGateCFIdeal.main_v24) = v0 c
          ∧ r.2.mem ((c.tc : Thread Cert.RGateCFIdeal.nD Cert.RGateCFIdeal.τ).loc Cert.RGateCFIdeal.main_arg0) = m' ((c.tc : Thread Cert.RGateCFIdeal.nD Cert.RGateCFIdeal.τ).loc Cert.RGateCFIdeal.main_arg0)
          ∧ r.2.mem ((c.tc : Thread Cert.RGateCFIdeal.nD Cert.RGateCFIdeal.τ).loc Cert.RGateCFIdeal.main_arg1) = m' ((c.tc : Thread Cert.RGateCFIdeal.nD Cert.RGateCFIdeal.τ).loc Cert.RGateCFIdeal.main_arg1)
          ∧ r.2.mem ((c.tc : Thread Cert.RGateCFIdeal.nD Cert.RGateCFIdeal.τ).loc Cert.RGateCFIdeal.main_arg2) = m' ((c.tc : Thread Cert.RGateCFIdeal.nD Cert.RGateCFIdeal.τ).loc Cert.RGateCFIdeal.main_arg2)
          ∧ r.2.mem ((c.tc : Thread Cert.RGateCFIdeal.nD Cert.RGateCFIdeal.τ).loc Cert.RGateCFIdeal.main_arg3) = m' ((c.tc : Thread Cert.RGateCFIdeal.nD Cert.RGateCFIdeal.τ).loc Cert.RGateCFIdeal.main_arg3)
          ∧ r.2.mem ((c.tc : Thread Cert.RGateCFIdeal.nD Cert.RGateCFIdeal.τ).loc Cert.RGateCFIdeal.main_arg4) = m' ((c.tc : Thread Cert.RGateCFIdeal.nD Cert.RGateCFIdeal.τ).loc Cert.RGateCFIdeal.main_arg4))

def preserves_KMergeF_KMergeFIdeal : Prop :=
  True

def algebraic_KMergeFIdeal_RMergeFIdeal [hKMergeFIdeal : Cert.KMergeFIdeal.Facts] [hRMergeFIdeal : Cert.RMergeFIdeal.Facts] : Prop :=
  ∀ (m : (ℓ : Loc Cert.KMergeFIdeal.nD Cert.KMergeFIdeal.τ Cert.KMergeFIdeal.sig) → Buf (Elt Ideal) ℓ) (g : Dev Cert.KMergeFIdeal.nD → PrngReg)
    (m' : (ℓ : Loc Cert.RMergeFIdeal.nD Cert.RMergeFIdeal.τ Cert.RMergeFIdeal.sig) → Buf (Elt Ideal) ℓ) (g' : Dev Cert.RMergeFIdeal.nD → PrngReg), Pre_KMergeFIdeal m →
    (∀ c : Dev Cert.KMergeFIdeal.nD,
      m' ((c.tc : Thread Cert.RMergeFIdeal.nD Cert.RMergeFIdeal.τ).loc Cert.RMergeFIdeal.main_arg0) = m ((c.tc : Thread Cert.KMergeFIdeal.nD Cert.KMergeFIdeal.τ).loc Cert.KMergeFIdeal.main_arg0)
      ∧ m' ((c.tc : Thread Cert.RMergeFIdeal.nD Cert.RMergeFIdeal.τ).loc Cert.RMergeFIdeal.main_arg1) = m ((c.tc : Thread Cert.KMergeFIdeal.nD Cert.KMergeFIdeal.τ).loc Cert.KMergeFIdeal.main_arg1)
      ∧ m' ((c.tc : Thread Cert.RMergeFIdeal.nD Cert.RMergeFIdeal.τ).loc Cert.RMergeFIdeal.main_arg2) = m ((c.tc : Thread Cert.KMergeFIdeal.nD Cert.KMergeFIdeal.τ).loc Cert.KMergeFIdeal.main_arg2)
      ∧ m' ((c.tc : Thread Cert.RMergeFIdeal.nD Cert.RMergeFIdeal.τ).loc Cert.RMergeFIdeal.main_arg3) = m ((c.tc : Thread Cert.KMergeFIdeal.nD Cert.KMergeFIdeal.τ).loc Cert.KMergeFIdeal.main_arg3)) →
    ∃ (v0 : (c : Dev Cert.KMergeFIdeal.nD) → Buf (Elt Ideal) ((c.tc : Thread Cert.KMergeFIdeal.nD Cert.KMergeFIdeal.τ).loc Cert.KMergeFIdeal.main_v0)),
      θ_run (Cert.KMergeFIdeal.defs (F := Ideal)) (onTc (τ := Cert.KMergeFIdeal.τ) (Cert.KMergeFIdeal.main (F := Ideal))) ⟨m, fun _ => 0, g⟩ (fun r => ∀ c : Dev Cert.KMergeFIdeal.nD,
          r.2.mem ((c.tc : Thread Cert.KMergeFIdeal.nD Cert.KMergeFIdeal.τ).loc Cert.KMergeFIdeal.main_v0) = v0 c
          ∧ r.2.mem ((c.tc : Thread Cert.KMergeFIdeal.nD Cert.KMergeFIdeal.τ).loc Cert.KMergeFIdeal.main_arg0) = m ((c.tc : Thread Cert.KMergeFIdeal.nD Cert.KMergeFIdeal.τ).loc Cert.KMergeFIdeal.main_arg0)
          ∧ r.2.mem ((c.tc : Thread Cert.KMergeFIdeal.nD Cert.KMergeFIdeal.τ).loc Cert.KMergeFIdeal.main_arg1) = m ((c.tc : Thread Cert.KMergeFIdeal.nD Cert.KMergeFIdeal.τ).loc Cert.KMergeFIdeal.main_arg1)
          ∧ r.2.mem ((c.tc : Thread Cert.KMergeFIdeal.nD Cert.KMergeFIdeal.τ).loc Cert.KMergeFIdeal.main_arg2) = m ((c.tc : Thread Cert.KMergeFIdeal.nD Cert.KMergeFIdeal.τ).loc Cert.KMergeFIdeal.main_arg2)
          ∧ r.2.mem ((c.tc : Thread Cert.KMergeFIdeal.nD Cert.KMergeFIdeal.τ).loc Cert.KMergeFIdeal.main_arg3) = m ((c.tc : Thread Cert.KMergeFIdeal.nD Cert.KMergeFIdeal.τ).loc Cert.KMergeFIdeal.main_arg3))
      ∧ θ_run (Cert.RMergeFIdeal.defs (F := Ideal)) (onTc (τ := Cert.RMergeFIdeal.τ) (Cert.RMergeFIdeal.main (F := Ideal))) ⟨m', fun _ => 0, g'⟩ (fun r => ∀ c : Dev Cert.RMergeFIdeal.nD,
          r.2.mem ((c.tc : Thread Cert.RMergeFIdeal.nD Cert.RMergeFIdeal.τ).loc Cert.RMergeFIdeal.main_v26) = v0 c
          ∧ r.2.mem ((c.tc : Thread Cert.RMergeFIdeal.nD Cert.RMergeFIdeal.τ).loc Cert.RMergeFIdeal.main_arg0) = m' ((c.tc : Thread Cert.RMergeFIdeal.nD Cert.RMergeFIdeal.τ).loc Cert.RMergeFIdeal.main_arg0)
          ∧ r.2.mem ((c.tc : Thread Cert.RMergeFIdeal.nD Cert.RMergeFIdeal.τ).loc Cert.RMergeFIdeal.main_arg1) = m' ((c.tc : Thread Cert.RMergeFIdeal.nD Cert.RMergeFIdeal.τ).loc Cert.RMergeFIdeal.main_arg1)
          ∧ r.2.mem ((c.tc : Thread Cert.RMergeFIdeal.nD Cert.RMergeFIdeal.τ).loc Cert.RMergeFIdeal.main_arg2) = m' ((c.tc : Thread Cert.RMergeFIdeal.nD Cert.RMergeFIdeal.τ).loc Cert.RMergeFIdeal.main_arg2)
          ∧ r.2.mem ((c.tc : Thread Cert.RMergeFIdeal.nD Cert.RMergeFIdeal.τ).loc Cert.RMergeFIdeal.main_arg3) = m' ((c.tc : Thread Cert.RMergeFIdeal.nD Cert.RMergeFIdeal.τ).loc Cert.RMergeFIdeal.main_arg3))

def preserves_KConvCF_KConvCFIdeal : Prop :=
  True

def algebraic_KConvCFIdeal_RConvCFIdeal [hKConvCFIdeal : Cert.KConvCFIdeal.Facts] [hRConvCFIdeal : Cert.RConvCFIdeal.Facts] : Prop :=
  ∀ (m : (ℓ : Loc Cert.KConvCFIdeal.nD Cert.KConvCFIdeal.τ Cert.KConvCFIdeal.sig) → Buf (Elt Ideal) ℓ) (g : Dev Cert.KConvCFIdeal.nD → PrngReg)
    (m' : (ℓ : Loc Cert.RConvCFIdeal.nD Cert.RConvCFIdeal.τ Cert.RConvCFIdeal.sig) → Buf (Elt Ideal) ℓ) (g' : Dev Cert.RConvCFIdeal.nD → PrngReg), Pre_KConvCFIdeal m →
    (∀ c : Dev Cert.KConvCFIdeal.nD,
      m' ((c.tc : Thread Cert.RConvCFIdeal.nD Cert.RConvCFIdeal.τ).loc Cert.RConvCFIdeal.main_arg0) = m ((c.tc : Thread Cert.KConvCFIdeal.nD Cert.KConvCFIdeal.τ).loc Cert.KConvCFIdeal.main_arg0)
      ∧ m' ((c.tc : Thread Cert.RConvCFIdeal.nD Cert.RConvCFIdeal.τ).loc Cert.RConvCFIdeal.main_arg1) = m ((c.tc : Thread Cert.KConvCFIdeal.nD Cert.KConvCFIdeal.τ).loc Cert.KConvCFIdeal.main_arg1)
      ∧ m' ((c.tc : Thread Cert.RConvCFIdeal.nD Cert.RConvCFIdeal.τ).loc Cert.RConvCFIdeal.main_arg2) = m ((c.tc : Thread Cert.KConvCFIdeal.nD Cert.KConvCFIdeal.τ).loc Cert.KConvCFIdeal.main_arg2)) →
    ∃ (v0 : (c : Dev Cert.KConvCFIdeal.nD) → Buf (Elt Ideal) ((c.tc : Thread Cert.KConvCFIdeal.nD Cert.KConvCFIdeal.τ).loc Cert.KConvCFIdeal.main_v2)),
      θ_run (Cert.KConvCFIdeal.defs (F := Ideal)) (onTc (τ := Cert.KConvCFIdeal.τ) (Cert.KConvCFIdeal.main (F := Ideal))) ⟨m, fun _ => 0, g⟩ (fun r => ∀ c : Dev Cert.KConvCFIdeal.nD,
          r.2.mem ((c.tc : Thread Cert.KConvCFIdeal.nD Cert.KConvCFIdeal.τ).loc Cert.KConvCFIdeal.main_v2) = v0 c
          ∧ r.2.mem ((c.tc : Thread Cert.KConvCFIdeal.nD Cert.KConvCFIdeal.τ).loc Cert.KConvCFIdeal.main_arg0) = m ((c.tc : Thread Cert.KConvCFIdeal.nD Cert.KConvCFIdeal.τ).loc Cert.KConvCFIdeal.main_arg0)
          ∧ r.2.mem ((c.tc : Thread Cert.KConvCFIdeal.nD Cert.KConvCFIdeal.τ).loc Cert.KConvCFIdeal.main_arg1) = m ((c.tc : Thread Cert.KConvCFIdeal.nD Cert.KConvCFIdeal.τ).loc Cert.KConvCFIdeal.main_arg1)
          ∧ r.2.mem ((c.tc : Thread Cert.KConvCFIdeal.nD Cert.KConvCFIdeal.τ).loc Cert.KConvCFIdeal.main_arg2) = m ((c.tc : Thread Cert.KConvCFIdeal.nD Cert.KConvCFIdeal.τ).loc Cert.KConvCFIdeal.main_arg2))
      ∧ θ_run (Cert.RConvCFIdeal.defs (F := Ideal)) (onTc (τ := Cert.RConvCFIdeal.τ) (Cert.RConvCFIdeal.main (F := Ideal))) ⟨m', fun _ => 0, g'⟩ (fun r => ∀ c : Dev Cert.RConvCFIdeal.nD,
          r.2.mem ((c.tc : Thread Cert.RConvCFIdeal.nD Cert.RConvCFIdeal.τ).loc Cert.RConvCFIdeal.main_v36) = v0 c
          ∧ r.2.mem ((c.tc : Thread Cert.RConvCFIdeal.nD Cert.RConvCFIdeal.τ).loc Cert.RConvCFIdeal.main_arg0) = m' ((c.tc : Thread Cert.RConvCFIdeal.nD Cert.RConvCFIdeal.τ).loc Cert.RConvCFIdeal.main_arg0)
          ∧ r.2.mem ((c.tc : Thread Cert.RConvCFIdeal.nD Cert.RConvCFIdeal.τ).loc Cert.RConvCFIdeal.main_arg1) = m' ((c.tc : Thread Cert.RConvCFIdeal.nD Cert.RConvCFIdeal.τ).loc Cert.RConvCFIdeal.main_arg1)
          ∧ r.2.mem ((c.tc : Thread Cert.RConvCFIdeal.nD Cert.RConvCFIdeal.τ).loc Cert.RConvCFIdeal.main_arg2) = m' ((c.tc : Thread Cert.RConvCFIdeal.nD Cert.RConvCFIdeal.τ).loc Cert.RConvCFIdeal.main_arg2))

def preserves_KConvBF_KConvBFIdeal : Prop :=
  True

def algebraic_KConvBFIdeal_RConvBFIdeal [hKConvBFIdeal : Cert.KConvBFIdeal.Facts] [hRConvBFIdeal : Cert.RConvBFIdeal.Facts] : Prop :=
  ∀ (m : (ℓ : Loc Cert.KConvBFIdeal.nD Cert.KConvBFIdeal.τ Cert.KConvBFIdeal.sig) → Buf (Elt Ideal) ℓ) (g : Dev Cert.KConvBFIdeal.nD → PrngReg)
    (m' : (ℓ : Loc Cert.RConvBFIdeal.nD Cert.RConvBFIdeal.τ Cert.RConvBFIdeal.sig) → Buf (Elt Ideal) ℓ) (g' : Dev Cert.RConvBFIdeal.nD → PrngReg), Pre_KConvBFIdeal m →
    (∀ c : Dev Cert.KConvBFIdeal.nD,
      m' ((c.tc : Thread Cert.RConvBFIdeal.nD Cert.RConvBFIdeal.τ).loc Cert.RConvBFIdeal.main_arg0) = m ((c.tc : Thread Cert.KConvBFIdeal.nD Cert.KConvBFIdeal.τ).loc Cert.KConvBFIdeal.main_arg0)
      ∧ m' ((c.tc : Thread Cert.RConvBFIdeal.nD Cert.RConvBFIdeal.τ).loc Cert.RConvBFIdeal.main_arg1) = m ((c.tc : Thread Cert.KConvBFIdeal.nD Cert.KConvBFIdeal.τ).loc Cert.KConvBFIdeal.main_arg1)) →
    ∃ (v0 : (c : Dev Cert.KConvBFIdeal.nD) → Buf (Elt Ideal) ((c.tc : Thread Cert.KConvBFIdeal.nD Cert.KConvBFIdeal.τ).loc Cert.KConvBFIdeal.main_v2)),
      θ_run (Cert.KConvBFIdeal.defs (F := Ideal)) (onTc (τ := Cert.KConvBFIdeal.τ) (Cert.KConvBFIdeal.main (F := Ideal))) ⟨m, fun _ => 0, g⟩ (fun r => ∀ c : Dev Cert.KConvBFIdeal.nD,
          r.2.mem ((c.tc : Thread Cert.KConvBFIdeal.nD Cert.KConvBFIdeal.τ).loc Cert.KConvBFIdeal.main_v2) = v0 c
          ∧ r.2.mem ((c.tc : Thread Cert.KConvBFIdeal.nD Cert.KConvBFIdeal.τ).loc Cert.KConvBFIdeal.main_arg0) = m ((c.tc : Thread Cert.KConvBFIdeal.nD Cert.KConvBFIdeal.τ).loc Cert.KConvBFIdeal.main_arg0)
          ∧ r.2.mem ((c.tc : Thread Cert.KConvBFIdeal.nD Cert.KConvBFIdeal.τ).loc Cert.KConvBFIdeal.main_arg1) = m ((c.tc : Thread Cert.KConvBFIdeal.nD Cert.KConvBFIdeal.τ).loc Cert.KConvBFIdeal.main_arg1))
      ∧ θ_run (Cert.RConvBFIdeal.defs (F := Ideal)) (onTc (τ := Cert.RConvBFIdeal.τ) (Cert.RConvBFIdeal.main (F := Ideal))) ⟨m', fun _ => 0, g'⟩ (fun r => ∀ c : Dev Cert.RConvBFIdeal.nD,
          r.2.mem ((c.tc : Thread Cert.RConvBFIdeal.nD Cert.RConvBFIdeal.τ).loc Cert.RConvBFIdeal.main_v57) = v0 c
          ∧ r.2.mem ((c.tc : Thread Cert.RConvBFIdeal.nD Cert.RConvBFIdeal.τ).loc Cert.RConvBFIdeal.main_arg0) = m' ((c.tc : Thread Cert.RConvBFIdeal.nD Cert.RConvBFIdeal.τ).loc Cert.RConvBFIdeal.main_arg0)
          ∧ r.2.mem ((c.tc : Thread Cert.RConvBFIdeal.nD Cert.RConvBFIdeal.τ).loc Cert.RConvBFIdeal.main_arg1) = m' ((c.tc : Thread Cert.RConvBFIdeal.nD Cert.RConvBFIdeal.τ).loc Cert.RConvBFIdeal.main_arg1))

def preserves_KGatesF_KGatesFIdeal : Prop :=
  True

def algebraic_KGatesFIdeal_RGatesFIdeal [hKGatesFIdeal : Cert.KGatesFIdeal.Facts] [hRGatesFIdeal : Cert.RGatesFIdeal.Facts] : Prop :=
  ∀ (m : (ℓ : Loc Cert.KGatesFIdeal.nD Cert.KGatesFIdeal.τ Cert.KGatesFIdeal.sig) → Buf (Elt Ideal) ℓ) (g : Dev Cert.KGatesFIdeal.nD → PrngReg)
    (m' : (ℓ : Loc Cert.RGatesFIdeal.nD Cert.RGatesFIdeal.τ Cert.RGatesFIdeal.sig) → Buf (Elt Ideal) ℓ) (g' : Dev Cert.RGatesFIdeal.nD → PrngReg), Pre_KGatesFIdeal m →
    (∀ c : Dev Cert.KGatesFIdeal.nD,
      m' ((c.tc : Thread Cert.RGatesFIdeal.nD Cert.RGatesFIdeal.τ).loc Cert.RGatesFIdeal.main_arg0) = m ((c.tc : Thread Cert.KGatesFIdeal.nD Cert.KGatesFIdeal.τ).loc Cert.KGatesFIdeal.main_arg0)
      ∧ m' ((c.tc : Thread Cert.RGatesFIdeal.nD Cert.RGatesFIdeal.τ).loc Cert.RGatesFIdeal.main_arg1) = m ((c.tc : Thread Cert.KGatesFIdeal.nD Cert.KGatesFIdeal.τ).loc Cert.KGatesFIdeal.main_arg1)
      ∧ m' ((c.tc : Thread Cert.RGatesFIdeal.nD Cert.RGatesFIdeal.τ).loc Cert.RGatesFIdeal.main_arg2) = m ((c.tc : Thread Cert.KGatesFIdeal.nD Cert.KGatesFIdeal.τ).loc Cert.KGatesFIdeal.main_arg2)
      ∧ m' ((c.tc : Thread Cert.RGatesFIdeal.nD Cert.RGatesFIdeal.τ).loc Cert.RGatesFIdeal.main_arg3) = m ((c.tc : Thread Cert.KGatesFIdeal.nD Cert.KGatesFIdeal.τ).loc Cert.KGatesFIdeal.main_arg3)
      ∧ m' ((c.tc : Thread Cert.RGatesFIdeal.nD Cert.RGatesFIdeal.τ).loc Cert.RGatesFIdeal.main_arg4) = m ((c.tc : Thread Cert.KGatesFIdeal.nD Cert.KGatesFIdeal.τ).loc Cert.KGatesFIdeal.main_arg4)) →
    ∃ (v0 : (c : Dev Cert.KGatesFIdeal.nD) → Buf (Elt Ideal) ((c.tc : Thread Cert.KGatesFIdeal.nD Cert.KGatesFIdeal.τ).loc Cert.KGatesFIdeal.main_v10_0)) (v1 : (c : Dev Cert.KGatesFIdeal.nD) → Buf (Elt Ideal) ((c.tc : Thread Cert.KGatesFIdeal.nD Cert.KGatesFIdeal.τ).loc Cert.KGatesFIdeal.main_v10_1)),
      θ_run (Cert.KGatesFIdeal.defs (F := Ideal)) (onTc (τ := Cert.KGatesFIdeal.τ) (Cert.KGatesFIdeal.main (F := Ideal))) ⟨m, fun _ => 0, g⟩ (fun r => ∀ c : Dev Cert.KGatesFIdeal.nD,
          r.2.mem ((c.tc : Thread Cert.KGatesFIdeal.nD Cert.KGatesFIdeal.τ).loc Cert.KGatesFIdeal.main_v10_0) = v0 c
          ∧ r.2.mem ((c.tc : Thread Cert.KGatesFIdeal.nD Cert.KGatesFIdeal.τ).loc Cert.KGatesFIdeal.main_v10_1) = v1 c
          ∧ r.2.mem ((c.tc : Thread Cert.KGatesFIdeal.nD Cert.KGatesFIdeal.τ).loc Cert.KGatesFIdeal.main_arg0) = m ((c.tc : Thread Cert.KGatesFIdeal.nD Cert.KGatesFIdeal.τ).loc Cert.KGatesFIdeal.main_arg0)
          ∧ r.2.mem ((c.tc : Thread Cert.KGatesFIdeal.nD Cert.KGatesFIdeal.τ).loc Cert.KGatesFIdeal.main_arg1) = m ((c.tc : Thread Cert.KGatesFIdeal.nD Cert.KGatesFIdeal.τ).loc Cert.KGatesFIdeal.main_arg1)
          ∧ r.2.mem ((c.tc : Thread Cert.KGatesFIdeal.nD Cert.KGatesFIdeal.τ).loc Cert.KGatesFIdeal.main_arg2) = m ((c.tc : Thread Cert.KGatesFIdeal.nD Cert.KGatesFIdeal.τ).loc Cert.KGatesFIdeal.main_arg2)
          ∧ r.2.mem ((c.tc : Thread Cert.KGatesFIdeal.nD Cert.KGatesFIdeal.τ).loc Cert.KGatesFIdeal.main_arg3) = m ((c.tc : Thread Cert.KGatesFIdeal.nD Cert.KGatesFIdeal.τ).loc Cert.KGatesFIdeal.main_arg3)
          ∧ r.2.mem ((c.tc : Thread Cert.KGatesFIdeal.nD Cert.KGatesFIdeal.τ).loc Cert.KGatesFIdeal.main_arg4) = m ((c.tc : Thread Cert.KGatesFIdeal.nD Cert.KGatesFIdeal.τ).loc Cert.KGatesFIdeal.main_arg4))
      ∧ θ_run (Cert.RGatesFIdeal.defs (F := Ideal)) (onTc (τ := Cert.RGatesFIdeal.τ) (Cert.RGatesFIdeal.main (F := Ideal))) ⟨m', fun _ => 0, g'⟩ (fun r => ∀ c : Dev Cert.RGatesFIdeal.nD,
          r.2.mem ((c.tc : Thread Cert.RGatesFIdeal.nD Cert.RGatesFIdeal.τ).loc Cert.RGatesFIdeal.main_v32) = v0 c
          ∧ r.2.mem ((c.tc : Thread Cert.RGatesFIdeal.nD Cert.RGatesFIdeal.τ).loc Cert.RGatesFIdeal.main_v33) = v1 c
          ∧ r.2.mem ((c.tc : Thread Cert.RGatesFIdeal.nD Cert.RGatesFIdeal.τ).loc Cert.RGatesFIdeal.main_arg0) = m' ((c.tc : Thread Cert.RGatesFIdeal.nD Cert.RGatesFIdeal.τ).loc Cert.RGatesFIdeal.main_arg0)
          ∧ r.2.mem ((c.tc : Thread Cert.RGatesFIdeal.nD Cert.RGatesFIdeal.τ).loc Cert.RGatesFIdeal.main_arg1) = m' ((c.tc : Thread Cert.RGatesFIdeal.nD Cert.RGatesFIdeal.τ).loc Cert.RGatesFIdeal.main_arg1)
          ∧ r.2.mem ((c.tc : Thread Cert.RGatesFIdeal.nD Cert.RGatesFIdeal.τ).loc Cert.RGatesFIdeal.main_arg2) = m' ((c.tc : Thread Cert.RGatesFIdeal.nD Cert.RGatesFIdeal.τ).loc Cert.RGatesFIdeal.main_arg2)
          ∧ r.2.mem ((c.tc : Thread Cert.RGatesFIdeal.nD Cert.RGatesFIdeal.τ).loc Cert.RGatesFIdeal.main_arg3) = m' ((c.tc : Thread Cert.RGatesFIdeal.nD Cert.RGatesFIdeal.τ).loc Cert.RGatesFIdeal.main_arg3)
          ∧ r.2.mem ((c.tc : Thread Cert.RGatesFIdeal.nD Cert.RGatesFIdeal.τ).loc Cert.RGatesFIdeal.main_arg4) = m' ((c.tc : Thread Cert.RGatesFIdeal.nD Cert.RGatesFIdeal.τ).loc Cert.RGatesFIdeal.main_arg4))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)) →
    ∃ (v0 : (c : Dev Cert.KLossIdeal.nD) → Buf (Elt Ideal) ((c.tc : Thread Cert.KLossIdeal.nD Cert.KLossIdeal.τ).loc Cert.KLossIdeal.main_v1_0)) (v1 : (c : Dev Cert.KLossIdeal.nD) → Buf (Elt Ideal) ((c.tc : Thread Cert.KLossIdeal.nD Cert.KLossIdeal.τ).loc Cert.KLossIdeal.main_v1_1)) (v2 : (c : Dev Cert.KLossIdeal.nD) → Buf (Elt Ideal) ((c.tc : Thread Cert.KLossIdeal.nD Cert.KLossIdeal.τ).loc Cert.KLossIdeal.main_v1_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v1_0) = v0 c
          ∧ r.2.mem ((c.tc : Thread Cert.KLossIdeal.nD Cert.KLossIdeal.τ).loc Cert.KLossIdeal.main_v1_1) = v1 c
          ∧ r.2.mem ((c.tc : Thread Cert.KLossIdeal.nD Cert.KLossIdeal.τ).loc Cert.KLossIdeal.main_v1_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v53) = v0 c
          ∧ r.2.mem ((c.tc : Thread Cert.RLossIdeal.nD Cert.RLossIdeal.τ).loc Cert.RLossIdeal.main_v52) = v1 c
          ∧ r.2.mem ((c.tc : Thread Cert.RLossIdeal.nD Cert.RLossIdeal.τ).loc Cert.RLossIdeal.main_v54) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v23) = v0 c
          ∧ r.2.mem ((c.tc : Thread Cert.RAdamIdeal.nD Cert.RAdamIdeal.τ).loc Cert.RAdamIdeal.main_v4) = v1 c
          ∧ r.2.mem ((c.tc : Thread Cert.RAdamIdeal.nD Cert.RAdamIdeal.τ).loc Cert.RAdamIdeal.main_v10) = v2 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KAdamC_KAdamCIdeal : Prop :=
  True

def algebraic_KAdamCIdeal_RAdamCIdeal [hKAdamCIdeal : Cert.KAdamCIdeal.Facts] [hRAdamCIdeal : Cert.RAdamCIdeal.Facts] : Prop :=
  ∀ (m : (ℓ : Loc Cert.KAdamCIdeal.nD Cert.KAdamCIdeal.τ Cert.KAdamCIdeal.sig) → Buf (Elt Ideal) ℓ) (g : Dev Cert.KAdamCIdeal.nD → PrngReg)
    (m' : (ℓ : Loc Cert.RAdamCIdeal.nD Cert.RAdamCIdeal.τ Cert.RAdamCIdeal.sig) → Buf (Elt Ideal) ℓ) (g' : Dev Cert.RAdamCIdeal.nD → PrngReg), Pre_KAdamCIdeal m →
    (∀ c : Dev Cert.KAdamCIdeal.nD,
      m' ((c.tc : Thread Cert.RAdamCIdeal.nD Cert.RAdamCIdeal.τ).loc Cert.RAdamCIdeal.main_arg0) = m ((c.tc : Thread Cert.KAdamCIdeal.nD Cert.KAdamCIdeal.τ).loc Cert.KAdamCIdeal.main_arg0)
      ∧ m' ((c.tc : Thread Cert.RAdamCIdeal.nD Cert.RAdamCIdeal.τ).loc Cert.RAdamCIdeal.main_arg1) = m ((c.tc : Thread Cert.KAdamCIdeal.nD Cert.KAdamCIdeal.τ).loc Cert.KAdamCIdeal.main_arg1)
      ∧ m' ((c.tc : Thread Cert.RAdamCIdeal.nD Cert.RAdamCIdeal.τ).loc Cert.RAdamCIdeal.main_arg2) = m ((c.tc : Thread Cert.KAdamCIdeal.nD Cert.KAdamCIdeal.τ).loc Cert.KAdamCIdeal.main_arg2)
      ∧ m' ((c.tc : Thread Cert.RAdamCIdeal.nD Cert.RAdamCIdeal.τ).loc Cert.RAdamCIdeal.main_arg3) = m ((c.tc : Thread Cert.KAdamCIdeal.nD Cert.KAdamCIdeal.τ).loc Cert.KAdamCIdeal.main_arg3)) →
    ∃ (v0 : (c : Dev Cert.KAdamCIdeal.nD) → Buf (Elt Ideal) ((c.tc : Thread Cert.KAdamCIdeal.nD Cert.KAdamCIdeal.τ).loc Cert.KAdamCIdeal.main_v0_0)) (v1 : (c : Dev Cert.KAdamCIdeal.nD) → Buf (Elt Ideal) ((c.tc : Thread Cert.KAdamCIdeal.nD Cert.KAdamCIdeal.τ).loc Cert.KAdamCIdeal.main_v0_1)) (v2 : (c : Dev Cert.KAdamCIdeal.nD) → Buf (Elt Ideal) ((c.tc : Thread Cert.KAdamCIdeal.nD Cert.KAdamCIdeal.τ).loc Cert.KAdamCIdeal.main_v0_2)),
      θ_run (Cert.KAdamCIdeal.defs (F := Ideal)) (onTc (τ := Cert.KAdamCIdeal.τ) (Cert.KAdamCIdeal.main (F := Ideal))) ⟨m, fun _ => 0, g⟩ (fun r => ∀ c : Dev Cert.KAdamCIdeal.nD,
          r.2.mem ((c.tc : Thread Cert.KAdamCIdeal.nD Cert.KAdamCIdeal.τ).loc Cert.KAdamCIdeal.main_v0_0) = v0 c
          ∧ r.2.mem ((c.tc : Thread Cert.KAdamCIdeal.nD Cert.KAdamCIdeal.τ).loc Cert.KAdamCIdeal.main_v0_1) = v1 c
          ∧ r.2.mem ((c.tc : Thread Cert.KAdamCIdeal.nD Cert.KAdamCIdeal.τ).loc Cert.KAdamCIdeal.main_v0_2) = v2 c
          ∧ r.2.mem ((c.tc : Thread Cert.KAdamCIdeal.nD Cert.KAdamCIdeal.τ).loc Cert.KAdamCIdeal.main_arg0) = m ((c.tc : Thread Cert.KAdamCIdeal.nD Cert.KAdamCIdeal.τ).loc Cert.KAdamCIdeal.main_arg0)
          ∧ r.2.mem ((c.tc : Thread Cert.KAdamCIdeal.nD Cert.KAdamCIdeal.τ).loc Cert.KAdamCIdeal.main_arg1) = m ((c.tc : Thread Cert.KAdamCIdeal.nD Cert.KAdamCIdeal.τ).loc Cert.KAdamCIdeal.main_arg1)
          ∧ r.2.mem ((c.tc : Thread Cert.KAdamCIdeal.nD Cert.KAdamCIdeal.τ).loc Cert.KAdamCIdeal.main_arg2) = m ((c.tc : Thread Cert.KAdamCIdeal.nD Cert.KAdamCIdeal.τ).loc Cert.KAdamCIdeal.main_arg2)
          ∧ r.2.mem ((c.tc : Thread Cert.KAdamCIdeal.nD Cert.KAdamCIdeal.τ).loc Cert.KAdamCIdeal.main_arg3) = m ((c.tc : Thread Cert.KAdamCIdeal.nD Cert.KAdamCIdeal.τ).loc Cert.KAdamCIdeal.main_arg3))
      ∧ θ_run (Cert.RAdamCIdeal.defs (F := Ideal)) (onTc (τ := Cert.RAdamCIdeal.τ) (Cert.RAdamCIdeal.main (F := Ideal))) ⟨m', fun _ => 0, g'⟩ (fun r => ∀ c : Dev Cert.RAdamCIdeal.nD,
          r.2.mem ((c.tc : Thread Cert.RAdamCIdeal.nD Cert.RAdamCIdeal.τ).loc Cert.RAdamCIdeal.main_v23) = v0 c
          ∧ r.2.mem ((c.tc : Thread Cert.RAdamCIdeal.nD Cert.RAdamCIdeal.τ).loc Cert.RAdamCIdeal.main_v4) = v1 c
          ∧ r.2.mem ((c.tc : Thread Cert.RAdamCIdeal.nD Cert.RAdamCIdeal.τ).loc Cert.RAdamCIdeal.main_v10) = v2 c
          ∧ r.2.mem ((c.tc : Thread Cert.RAdamCIdeal.nD Cert.RAdamCIdeal.τ).loc Cert.RAdamCIdeal.main_arg0) = m' ((c.tc : Thread Cert.RAdamCIdeal.nD Cert.RAdamCIdeal.τ).loc Cert.RAdamCIdeal.main_arg0)
          ∧ r.2.mem ((c.tc : Thread Cert.RAdamCIdeal.nD Cert.RAdamCIdeal.τ).loc Cert.RAdamCIdeal.main_arg1) = m' ((c.tc : Thread Cert.RAdamCIdeal.nD Cert.RAdamCIdeal.τ).loc Cert.RAdamCIdeal.main_arg1)
          ∧ r.2.mem ((c.tc : Thread Cert.RAdamCIdeal.nD Cert.RAdamCIdeal.τ).loc Cert.RAdamCIdeal.main_arg2) = m' ((c.tc : Thread Cert.RAdamCIdeal.nD Cert.RAdamCIdeal.τ).loc Cert.RAdamCIdeal.main_arg2)
          ∧ r.2.mem ((c.tc : Thread Cert.RAdamCIdeal.nD Cert.RAdamCIdeal.τ).loc Cert.RAdamCIdeal.main_arg3) = m' ((c.tc : Thread Cert.RAdamCIdeal.nD Cert.RAdamCIdeal.τ).loc Cert.RAdamCIdeal.main_arg3))

def preserves_KAdamIn_KAdamInIdeal : Prop :=
  True

def algebraic_KAdamInIdeal_RAdamInIdeal [hKAdamInIdeal : Cert.KAdamInIdeal.Facts] [hRAdamInIdeal : Cert.RAdamInIdeal.Facts] : Prop :=
  ∀ (m : (ℓ : Loc Cert.KAdamInIdeal.nD Cert.KAdamInIdeal.τ Cert.KAdamInIdeal.sig) → Buf (Elt Ideal) ℓ) (g : Dev Cert.KAdamInIdeal.nD → PrngReg)
    (m' : (ℓ : Loc Cert.RAdamInIdeal.nD Cert.RAdamInIdeal.τ Cert.RAdamInIdeal.sig) → Buf (Elt Ideal) ℓ) (g' : Dev Cert.RAdamInIdeal.nD → PrngReg), Pre_KAdamInIdeal m →
    (∀ c : Dev Cert.KAdamInIdeal.nD,
      m' ((c.tc : Thread Cert.RAdamInIdeal.nD Cert.RAdamInIdeal.τ).loc Cert.RAdamInIdeal.main_arg0) = m ((c.tc : Thread Cert.KAdamInIdeal.nD Cert.KAdamInIdeal.τ).loc Cert.KAdamInIdeal.main_arg0)
      ∧ m' ((c.tc : Thread Cert.RAdamInIdeal.nD Cert.RAdamInIdeal.τ).loc Cert.RAdamInIdeal.main_arg1) = m ((c.tc : Thread Cert.KAdamInIdeal.nD Cert.KAdamInIdeal.τ).loc Cert.KAdamInIdeal.main_arg1)
      ∧ m' ((c.tc : Thread Cert.RAdamInIdeal.nD Cert.RAdamInIdeal.τ).loc Cert.RAdamInIdeal.main_arg2) = m ((c.tc : Thread Cert.KAdamInIdeal.nD Cert.KAdamInIdeal.τ).loc Cert.KAdamInIdeal.main_arg2)
      ∧ m' ((c.tc : Thread Cert.RAdamInIdeal.nD Cert.RAdamInIdeal.τ).loc Cert.RAdamInIdeal.main_arg3) = m ((c.tc : Thread Cert.KAdamInIdeal.nD Cert.KAdamInIdeal.τ).loc Cert.KAdamInIdeal.main_arg3)) →
    ∃ (v0 : (c : Dev Cert.KAdamInIdeal.nD) → Buf (Elt Ideal) ((c.tc : Thread Cert.KAdamInIdeal.nD Cert.KAdamInIdeal.τ).loc Cert.KAdamInIdeal.main_v4_0)) (v1 : (c : Dev Cert.KAdamInIdeal.nD) → Buf (Elt Ideal) ((c.tc : Thread Cert.KAdamInIdeal.nD Cert.KAdamInIdeal.τ).loc Cert.KAdamInIdeal.main_v4_1)) (v2 : (c : Dev Cert.KAdamInIdeal.nD) → Buf (Elt Ideal) ((c.tc : Thread Cert.KAdamInIdeal.nD Cert.KAdamInIdeal.τ).loc Cert.KAdamInIdeal.main_v4_2)) (v3 : (c : Dev Cert.KAdamInIdeal.nD) → Buf (Elt Ideal) ((c.tc : Thread Cert.KAdamInIdeal.nD Cert.KAdamInIdeal.τ).loc Cert.KAdamInIdeal.main_v4_3)),
      θ_run (Cert.KAdamInIdeal.defs (F := Ideal)) (onTc (τ := Cert.KAdamInIdeal.τ) (Cert.KAdamInIdeal.main (F := Ideal))) ⟨m, fun _ => 0, g⟩ (fun r => ∀ c : Dev Cert.KAdamInIdeal.nD,
          r.2.mem ((c.tc : Thread Cert.KAdamInIdeal.nD Cert.KAdamInIdeal.τ).loc Cert.KAdamInIdeal.main_v4_0) = v0 c
          ∧ r.2.mem ((c.tc : Thread Cert.KAdamInIdeal.nD Cert.KAdamInIdeal.τ).loc Cert.KAdamInIdeal.main_v4_1) = v1 c
          ∧ r.2.mem ((c.tc : Thread Cert.KAdamInIdeal.nD Cert.KAdamInIdeal.τ).loc Cert.KAdamInIdeal.main_v4_2) = v2 c
          ∧ r.2.mem ((c.tc : Thread Cert.KAdamInIdeal.nD Cert.KAdamInIdeal.τ).loc Cert.KAdamInIdeal.main_v4_3) = v3 c
          ∧ r.2.mem ((c.tc : Thread Cert.KAdamInIdeal.nD Cert.KAdamInIdeal.τ).loc Cert.KAdamInIdeal.main_arg0) = m ((c.tc : Thread Cert.KAdamInIdeal.nD Cert.KAdamInIdeal.τ).loc Cert.KAdamInIdeal.main_arg0)
          ∧ r.2.mem ((c.tc : Thread Cert.KAdamInIdeal.nD Cert.KAdamInIdeal.τ).loc Cert.KAdamInIdeal.main_arg1) = m ((c.tc : Thread Cert.KAdamInIdeal.nD Cert.KAdamInIdeal.τ).loc Cert.KAdamInIdeal.main_arg1)
          ∧ r.2.mem ((c.tc : Thread Cert.KAdamInIdeal.nD Cert.KAdamInIdeal.τ).loc Cert.KAdamInIdeal.main_arg2) = m ((c.tc : Thread Cert.KAdamInIdeal.nD Cert.KAdamInIdeal.τ).loc Cert.KAdamInIdeal.main_arg2)
          ∧ r.2.mem ((c.tc : Thread Cert.KAdamInIdeal.nD Cert.KAdamInIdeal.τ).loc Cert.KAdamInIdeal.main_arg3) = m ((c.tc : Thread Cert.KAdamInIdeal.nD Cert.KAdamInIdeal.τ).loc Cert.KAdamInIdeal.main_arg3))
      ∧ θ_run (Cert.RAdamInIdeal.defs (F := Ideal)) (onTc (τ := Cert.RAdamInIdeal.τ) (Cert.RAdamInIdeal.main (F := Ideal))) ⟨m', fun _ => 0, g'⟩ (fun r => ∀ c : Dev Cert.RAdamInIdeal.nD,
          r.2.mem ((c.tc : Thread Cert.RAdamInIdeal.nD Cert.RAdamInIdeal.τ).loc Cert.RAdamInIdeal.main_v24) = v0 c
          ∧ r.2.mem ((c.tc : Thread Cert.RAdamInIdeal.nD Cert.RAdamInIdeal.τ).loc Cert.RAdamInIdeal.main_v25) = v1 c
          ∧ r.2.mem ((c.tc : Thread Cert.RAdamInIdeal.nD Cert.RAdamInIdeal.τ).loc Cert.RAdamInIdeal.main_v26) = v2 c
          ∧ r.2.mem ((c.tc : Thread Cert.RAdamInIdeal.nD Cert.RAdamInIdeal.τ).loc Cert.RAdamInIdeal.main_v27) = v3 c
          ∧ r.2.mem ((c.tc : Thread Cert.RAdamInIdeal.nD Cert.RAdamInIdeal.τ).loc Cert.RAdamInIdeal.main_arg0) = m' ((c.tc : Thread Cert.RAdamInIdeal.nD Cert.RAdamInIdeal.τ).loc Cert.RAdamInIdeal.main_arg0)
          ∧ r.2.mem ((c.tc : Thread Cert.RAdamInIdeal.nD Cert.RAdamInIdeal.τ).loc Cert.RAdamInIdeal.main_arg1) = m' ((c.tc : Thread Cert.RAdamInIdeal.nD Cert.RAdamInIdeal.τ).loc Cert.RAdamInIdeal.main_arg1)
          ∧ r.2.mem ((c.tc : Thread Cert.RAdamInIdeal.nD Cert.RAdamInIdeal.τ).loc Cert.RAdamInIdeal.main_arg2) = m' ((c.tc : Thread Cert.RAdamInIdeal.nD Cert.RAdamInIdeal.τ).loc Cert.RAdamInIdeal.main_arg2)
          ∧ r.2.mem ((c.tc : Thread Cert.RAdamInIdeal.nD Cert.RAdamInIdeal.τ).loc Cert.RAdamInIdeal.main_arg3) = m' ((c.tc : Thread Cert.RAdamInIdeal.nD Cert.RAdamInIdeal.τ).loc Cert.RAdamInIdeal.main_arg3))

def preserves_KAdamConvB_KAdamConvBIdeal : Prop :=
  True

def algebraic_KAdamConvBIdeal_RAdamConvBIdeal [hKAdamConvBIdeal : Cert.KAdamConvBIdeal.Facts] [hRAdamConvBIdeal : Cert.RAdamConvBIdeal.Facts] : Prop :=
  ∀ (m : (ℓ : Loc Cert.KAdamConvBIdeal.nD Cert.KAdamConvBIdeal.τ Cert.KAdamConvBIdeal.sig) → Buf (Elt Ideal) ℓ) (g : Dev Cert.KAdamConvBIdeal.nD → PrngReg)
    (m' : (ℓ : Loc Cert.RAdamConvBIdeal.nD Cert.RAdamConvBIdeal.τ Cert.RAdamConvBIdeal.sig) → Buf (Elt Ideal) ℓ) (g' : Dev Cert.RAdamConvBIdeal.nD → PrngReg), Pre_KAdamConvBIdeal m →
    (∀ c : Dev Cert.KAdamConvBIdeal.nD,
      m' ((c.tc : Thread Cert.RAdamConvBIdeal.nD Cert.RAdamConvBIdeal.τ).loc Cert.RAdamConvBIdeal.main_arg0) = m ((c.tc : Thread Cert.KAdamConvBIdeal.nD Cert.KAdamConvBIdeal.τ).loc Cert.KAdamConvBIdeal.main_arg0)
      ∧ m' ((c.tc : Thread Cert.RAdamConvBIdeal.nD Cert.RAdamConvBIdeal.τ).loc Cert.RAdamConvBIdeal.main_arg1) = m ((c.tc : Thread Cert.KAdamConvBIdeal.nD Cert.KAdamConvBIdeal.τ).loc Cert.KAdamConvBIdeal.main_arg1)
      ∧ m' ((c.tc : Thread Cert.RAdamConvBIdeal.nD Cert.RAdamConvBIdeal.τ).loc Cert.RAdamConvBIdeal.main_arg2) = m ((c.tc : Thread Cert.KAdamConvBIdeal.nD Cert.KAdamConvBIdeal.τ).loc Cert.KAdamConvBIdeal.main_arg2)
      ∧ m' ((c.tc : Thread Cert.RAdamConvBIdeal.nD Cert.RAdamConvBIdeal.τ).loc Cert.RAdamConvBIdeal.main_arg3) = m ((c.tc : Thread Cert.KAdamConvBIdeal.nD Cert.KAdamConvBIdeal.τ).loc Cert.KAdamConvBIdeal.main_arg3)) →
    ∃ (v0 : (c : Dev Cert.KAdamConvBIdeal.nD) → Buf (Elt Ideal) ((c.tc : Thread Cert.KAdamConvBIdeal.nD Cert.KAdamConvBIdeal.τ).loc Cert.KAdamConvBIdeal.main_v0_0)) (v1 : (c : Dev Cert.KAdamConvBIdeal.nD) → Buf (Elt Ideal) ((c.tc : Thread Cert.KAdamConvBIdeal.nD Cert.KAdamConvBIdeal.τ).loc Cert.KAdamConvBIdeal.main_v0_1)) (v2 : (c : Dev Cert.KAdamConvBIdeal.nD) → Buf (Elt Ideal) ((c.tc : Thread Cert.KAdamConvBIdeal.nD Cert.KAdamConvBIdeal.τ).loc Cert.KAdamConvBIdeal.main_v0_2)),
      θ_run (Cert.KAdamConvBIdeal.defs (F := Ideal)) (onTc (τ := Cert.KAdamConvBIdeal.τ) (Cert.KAdamConvBIdeal.main (F := Ideal))) ⟨m, fun _ => 0, g⟩ (fun r => ∀ c : Dev Cert.KAdamConvBIdeal.nD,
          r.2.mem ((c.tc : Thread Cert.KAdamConvBIdeal.nD Cert.KAdamConvBIdeal.τ).loc Cert.KAdamConvBIdeal.main_v0_0) = v0 c
          ∧ r.2.mem ((c.tc : Thread Cert.KAdamConvBIdeal.nD Cert.KAdamConvBIdeal.τ).loc Cert.KAdamConvBIdeal.main_v0_1) = v1 c
          ∧ r.2.mem ((c.tc : Thread Cert.KAdamConvBIdeal.nD Cert.KAdamConvBIdeal.τ).loc Cert.KAdamConvBIdeal.main_v0_2) = v2 c
          ∧ r.2.mem ((c.tc : Thread Cert.KAdamConvBIdeal.nD Cert.KAdamConvBIdeal.τ).loc Cert.KAdamConvBIdeal.main_arg0) = m ((c.tc : Thread Cert.KAdamConvBIdeal.nD Cert.KAdamConvBIdeal.τ).loc Cert.KAdamConvBIdeal.main_arg0)
          ∧ r.2.mem ((c.tc : Thread Cert.KAdamConvBIdeal.nD Cert.KAdamConvBIdeal.τ).loc Cert.KAdamConvBIdeal.main_arg1) = m ((c.tc : Thread Cert.KAdamConvBIdeal.nD Cert.KAdamConvBIdeal.τ).loc Cert.KAdamConvBIdeal.main_arg1)
          ∧ r.2.mem ((c.tc : Thread Cert.KAdamConvBIdeal.nD Cert.KAdamConvBIdeal.τ).loc Cert.KAdamConvBIdeal.main_arg2) = m ((c.tc : Thread Cert.KAdamConvBIdeal.nD Cert.KAdamConvBIdeal.τ).loc Cert.KAdamConvBIdeal.main_arg2)
          ∧ r.2.mem ((c.tc : Thread Cert.KAdamConvBIdeal.nD Cert.KAdamConvBIdeal.τ).loc Cert.KAdamConvBIdeal.main_arg3) = m ((c.tc : Thread Cert.KAdamConvBIdeal.nD Cert.KAdamConvBIdeal.τ).loc Cert.KAdamConvBIdeal.main_arg3))
      ∧ θ_run (Cert.RAdamConvBIdeal.defs (F := Ideal)) (onTc (τ := Cert.RAdamConvBIdeal.τ) (Cert.RAdamConvBIdeal.main (F := Ideal))) ⟨m', fun _ => 0, g'⟩ (fun r => ∀ c : Dev Cert.RAdamConvBIdeal.nD,
          r.2.mem ((c.tc : Thread Cert.RAdamConvBIdeal.nD Cert.RAdamConvBIdeal.τ).loc Cert.RAdamConvBIdeal.main_v23) = v0 c
          ∧ r.2.mem ((c.tc : Thread Cert.RAdamConvBIdeal.nD Cert.RAdamConvBIdeal.τ).loc Cert.RAdamConvBIdeal.main_v4) = v1 c
          ∧ r.2.mem ((c.tc : Thread Cert.RAdamConvBIdeal.nD Cert.RAdamConvBIdeal.τ).loc Cert.RAdamConvBIdeal.main_v10) = v2 c
          ∧ r.2.mem ((c.tc : Thread Cert.RAdamConvBIdeal.nD Cert.RAdamConvBIdeal.τ).loc Cert.RAdamConvBIdeal.main_arg0) = m' ((c.tc : Thread Cert.RAdamConvBIdeal.nD Cert.RAdamConvBIdeal.τ).loc Cert.RAdamConvBIdeal.main_arg0)
          ∧ r.2.mem ((c.tc : Thread Cert.RAdamConvBIdeal.nD Cert.RAdamConvBIdeal.τ).loc Cert.RAdamConvBIdeal.main_arg1) = m' ((c.tc : Thread Cert.RAdamConvBIdeal.nD Cert.RAdamConvBIdeal.τ).loc Cert.RAdamConvBIdeal.main_arg1)
          ∧ r.2.mem ((c.tc : Thread Cert.RAdamConvBIdeal.nD Cert.RAdamConvBIdeal.τ).loc Cert.RAdamConvBIdeal.main_arg2) = m' ((c.tc : Thread Cert.RAdamConvBIdeal.nD Cert.RAdamConvBIdeal.τ).loc Cert.RAdamConvBIdeal.main_arg2)
          ∧ r.2.mem ((c.tc : Thread Cert.RAdamConvBIdeal.nD Cert.RAdamConvBIdeal.τ).loc Cert.RAdamConvBIdeal.main_arg3) = m' ((c.tc : Thread Cert.RAdamConvBIdeal.nD Cert.RAdamConvBIdeal.τ).loc Cert.RAdamConvBIdeal.main_arg3))

def preserves_KAdamConvC_KAdamConvCIdeal : Prop :=
  True

def algebraic_KAdamConvCIdeal_RAdamConvCIdeal [hKAdamConvCIdeal : Cert.KAdamConvCIdeal.Facts] [hRAdamConvCIdeal : Cert.RAdamConvCIdeal.Facts] : Prop :=
  ∀ (m : (ℓ : Loc Cert.KAdamConvCIdeal.nD Cert.KAdamConvCIdeal.τ Cert.KAdamConvCIdeal.sig) → Buf (Elt Ideal) ℓ) (g : Dev Cert.KAdamConvCIdeal.nD → PrngReg)
    (m' : (ℓ : Loc Cert.RAdamConvCIdeal.nD Cert.RAdamConvCIdeal.τ Cert.RAdamConvCIdeal.sig) → Buf (Elt Ideal) ℓ) (g' : Dev Cert.RAdamConvCIdeal.nD → PrngReg), Pre_KAdamConvCIdeal m →
    (∀ c : Dev Cert.KAdamConvCIdeal.nD,
      m' ((c.tc : Thread Cert.RAdamConvCIdeal.nD Cert.RAdamConvCIdeal.τ).loc Cert.RAdamConvCIdeal.main_arg0) = m ((c.tc : Thread Cert.KAdamConvCIdeal.nD Cert.KAdamConvCIdeal.τ).loc Cert.KAdamConvCIdeal.main_arg0)
      ∧ m' ((c.tc : Thread Cert.RAdamConvCIdeal.nD Cert.RAdamConvCIdeal.τ).loc Cert.RAdamConvCIdeal.main_arg1) = m ((c.tc : Thread Cert.KAdamConvCIdeal.nD Cert.KAdamConvCIdeal.τ).loc Cert.KAdamConvCIdeal.main_arg1)
      ∧ m' ((c.tc : Thread Cert.RAdamConvCIdeal.nD Cert.RAdamConvCIdeal.τ).loc Cert.RAdamConvCIdeal.main_arg2) = m ((c.tc : Thread Cert.KAdamConvCIdeal.nD Cert.KAdamConvCIdeal.τ).loc Cert.KAdamConvCIdeal.main_arg2)
      ∧ m' ((c.tc : Thread Cert.RAdamConvCIdeal.nD Cert.RAdamConvCIdeal.τ).loc Cert.RAdamConvCIdeal.main_arg3) = m ((c.tc : Thread Cert.KAdamConvCIdeal.nD Cert.KAdamConvCIdeal.τ).loc Cert.KAdamConvCIdeal.main_arg3)) →
    ∃ (v0 : (c : Dev Cert.KAdamConvCIdeal.nD) → Buf (Elt Ideal) ((c.tc : Thread Cert.KAdamConvCIdeal.nD Cert.KAdamConvCIdeal.τ).loc Cert.KAdamConvCIdeal.main_v0_0)) (v1 : (c : Dev Cert.KAdamConvCIdeal.nD) → Buf (Elt Ideal) ((c.tc : Thread Cert.KAdamConvCIdeal.nD Cert.KAdamConvCIdeal.τ).loc Cert.KAdamConvCIdeal.main_v0_1)) (v2 : (c : Dev Cert.KAdamConvCIdeal.nD) → Buf (Elt Ideal) ((c.tc : Thread Cert.KAdamConvCIdeal.nD Cert.KAdamConvCIdeal.τ).loc Cert.KAdamConvCIdeal.main_v0_2)),
      θ_run (Cert.KAdamConvCIdeal.defs (F := Ideal)) (onTc (τ := Cert.KAdamConvCIdeal.τ) (Cert.KAdamConvCIdeal.main (F := Ideal))) ⟨m, fun _ => 0, g⟩ (fun r => ∀ c : Dev Cert.KAdamConvCIdeal.nD,
          r.2.mem ((c.tc : Thread Cert.KAdamConvCIdeal.nD Cert.KAdamConvCIdeal.τ).loc Cert.KAdamConvCIdeal.main_v0_0) = v0 c
          ∧ r.2.mem ((c.tc : Thread Cert.KAdamConvCIdeal.nD Cert.KAdamConvCIdeal.τ).loc Cert.KAdamConvCIdeal.main_v0_1) = v1 c
          ∧ r.2.mem ((c.tc : Thread Cert.KAdamConvCIdeal.nD Cert.KAdamConvCIdeal.τ).loc Cert.KAdamConvCIdeal.main_v0_2) = v2 c
          ∧ r.2.mem ((c.tc : Thread Cert.KAdamConvCIdeal.nD Cert.KAdamConvCIdeal.τ).loc Cert.KAdamConvCIdeal.main_arg0) = m ((c.tc : Thread Cert.KAdamConvCIdeal.nD Cert.KAdamConvCIdeal.τ).loc Cert.KAdamConvCIdeal.main_arg0)
          ∧ r.2.mem ((c.tc : Thread Cert.KAdamConvCIdeal.nD Cert.KAdamConvCIdeal.τ).loc Cert.KAdamConvCIdeal.main_arg1) = m ((c.tc : Thread Cert.KAdamConvCIdeal.nD Cert.KAdamConvCIdeal.τ).loc Cert.KAdamConvCIdeal.main_arg1)
          ∧ r.2.mem ((c.tc : Thread Cert.KAdamConvCIdeal.nD Cert.KAdamConvCIdeal.τ).loc Cert.KAdamConvCIdeal.main_arg2) = m ((c.tc : Thread Cert.KAdamConvCIdeal.nD Cert.KAdamConvCIdeal.τ).loc Cert.KAdamConvCIdeal.main_arg2)
          ∧ r.2.mem ((c.tc : Thread Cert.KAdamConvCIdeal.nD Cert.KAdamConvCIdeal.τ).loc Cert.KAdamConvCIdeal.main_arg3) = m ((c.tc : Thread Cert.KAdamConvCIdeal.nD Cert.KAdamConvCIdeal.τ).loc Cert.KAdamConvCIdeal.main_arg3))
      ∧ θ_run (Cert.RAdamConvCIdeal.defs (F := Ideal)) (onTc (τ := Cert.RAdamConvCIdeal.τ) (Cert.RAdamConvCIdeal.main (F := Ideal))) ⟨m', fun _ => 0, g'⟩ (fun r => ∀ c : Dev Cert.RAdamConvCIdeal.nD,
          r.2.mem ((c.tc : Thread Cert.RAdamConvCIdeal.nD Cert.RAdamConvCIdeal.τ).loc Cert.RAdamConvCIdeal.main_v23) = v0 c
          ∧ r.2.mem ((c.tc : Thread Cert.RAdamConvCIdeal.nD Cert.RAdamConvCIdeal.τ).loc Cert.RAdamConvCIdeal.main_v4) = v1 c
          ∧ r.2.mem ((c.tc : Thread Cert.RAdamConvCIdeal.nD Cert.RAdamConvCIdeal.τ).loc Cert.RAdamConvCIdeal.main_v10) = v2 c
          ∧ r.2.mem ((c.tc : Thread Cert.RAdamConvCIdeal.nD Cert.RAdamConvCIdeal.τ).loc Cert.RAdamConvCIdeal.main_arg0) = m' ((c.tc : Thread Cert.RAdamConvCIdeal.nD Cert.RAdamConvCIdeal.τ).loc Cert.RAdamConvCIdeal.main_arg0)
          ∧ r.2.mem ((c.tc : Thread Cert.RAdamConvCIdeal.nD Cert.RAdamConvCIdeal.τ).loc Cert.RAdamConvCIdeal.main_arg1) = m' ((c.tc : Thread Cert.RAdamConvCIdeal.nD Cert.RAdamConvCIdeal.τ).loc Cert.RAdamConvCIdeal.main_arg1)
          ∧ r.2.mem ((c.tc : Thread Cert.RAdamConvCIdeal.nD Cert.RAdamConvCIdeal.τ).loc Cert.RAdamConvCIdeal.main_arg2) = m' ((c.tc : Thread Cert.RAdamConvCIdeal.nD Cert.RAdamConvCIdeal.τ).loc Cert.RAdamConvCIdeal.main_arg2)
          ∧ r.2.mem ((c.tc : Thread Cert.RAdamConvCIdeal.nD Cert.RAdamConvCIdeal.τ).loc Cert.RAdamConvCIdeal.main_arg3) = m' ((c.tc : Thread Cert.RAdamConvCIdeal.nD Cert.RAdamConvCIdeal.τ).loc Cert.RAdamConvCIdeal.main_arg3))

def preserves_KAdamMeta_KAdamMetaIdeal : Prop :=
  True

def algebraic_KAdamMetaIdeal_RAdamMetaIdeal [hKAdamMetaIdeal : Cert.KAdamMetaIdeal.Facts] [hRAdamMetaIdeal : Cert.RAdamMetaIdeal.Facts] : Prop :=
  ∀ (m : (ℓ : Loc Cert.KAdamMetaIdeal.nD Cert.KAdamMetaIdeal.τ Cert.KAdamMetaIdeal.sig) → Buf (Elt Ideal) ℓ) (g : Dev Cert.KAdamMetaIdeal.nD → PrngReg)
    (m' : (ℓ : Loc Cert.RAdamMetaIdeal.nD Cert.RAdamMetaIdeal.τ Cert.RAdamMetaIdeal.sig) → Buf (Elt Ideal) ℓ) (g' : Dev Cert.RAdamMetaIdeal.nD → PrngReg), Pre_KAdamMetaIdeal m →
    (∀ c : Dev Cert.KAdamMetaIdeal.nD,
      m' ((c.tc : Thread Cert.RAdamMetaIdeal.nD Cert.RAdamMetaIdeal.τ).loc Cert.RAdamMetaIdeal.main_arg0) = m ((c.tc : Thread Cert.KAdamMetaIdeal.nD Cert.KAdamMetaIdeal.τ).loc Cert.KAdamMetaIdeal.main_arg0)
      ∧ m' ((c.tc : Thread Cert.RAdamMetaIdeal.nD Cert.RAdamMetaIdeal.τ).loc Cert.RAdamMetaIdeal.main_arg1) = m ((c.tc : Thread Cert.KAdamMetaIdeal.nD Cert.KAdamMetaIdeal.τ).loc Cert.KAdamMetaIdeal.main_arg1)
      ∧ m' ((c.tc : Thread Cert.RAdamMetaIdeal.nD Cert.RAdamMetaIdeal.τ).loc Cert.RAdamMetaIdeal.main_arg2) = m ((c.tc : Thread Cert.KAdamMetaIdeal.nD Cert.KAdamMetaIdeal.τ).loc Cert.KAdamMetaIdeal.main_arg2)
      ∧ m' ((c.tc : Thread Cert.RAdamMetaIdeal.nD Cert.RAdamMetaIdeal.τ).loc Cert.RAdamMetaIdeal.main_arg3) = m ((c.tc : Thread Cert.KAdamMetaIdeal.nD Cert.KAdamMetaIdeal.τ).loc Cert.KAdamMetaIdeal.main_arg3)) →
    ∃ (v0 : (c : Dev Cert.KAdamMetaIdeal.nD) → Buf (Elt Ideal) ((c.tc : Thread Cert.KAdamMetaIdeal.nD Cert.KAdamMetaIdeal.τ).loc Cert.KAdamMetaIdeal.main_v0_0)) (v1 : (c : Dev Cert.KAdamMetaIdeal.nD) → Buf (Elt Ideal) ((c.tc : Thread Cert.KAdamMetaIdeal.nD Cert.KAdamMetaIdeal.τ).loc Cert.KAdamMetaIdeal.main_v0_1)) (v2 : (c : Dev Cert.KAdamMetaIdeal.nD) → Buf (Elt Ideal) ((c.tc : Thread Cert.KAdamMetaIdeal.nD Cert.KAdamMetaIdeal.τ).loc Cert.KAdamMetaIdeal.main_v0_2)),
      θ_run (Cert.KAdamMetaIdeal.defs (F := Ideal)) (onTc (τ := Cert.KAdamMetaIdeal.τ) (Cert.KAdamMetaIdeal.main (F := Ideal))) ⟨m, fun _ => 0, g⟩ (fun r => ∀ c : Dev Cert.KAdamMetaIdeal.nD,
          r.2.mem ((c.tc : Thread Cert.KAdamMetaIdeal.nD Cert.KAdamMetaIdeal.τ).loc Cert.KAdamMetaIdeal.main_v0_0) = v0 c
          ∧ r.2.mem ((c.tc : Thread Cert.KAdamMetaIdeal.nD Cert.KAdamMetaIdeal.τ).loc Cert.KAdamMetaIdeal.main_v0_1) = v1 c
          ∧ r.2.mem ((c.tc : Thread Cert.KAdamMetaIdeal.nD Cert.KAdamMetaIdeal.τ).loc Cert.KAdamMetaIdeal.main_v0_2) = v2 c
          ∧ r.2.mem ((c.tc : Thread Cert.KAdamMetaIdeal.nD Cert.KAdamMetaIdeal.τ).loc Cert.KAdamMetaIdeal.main_arg0) = m ((c.tc : Thread Cert.KAdamMetaIdeal.nD Cert.KAdamMetaIdeal.τ).loc Cert.KAdamMetaIdeal.main_arg0)
          ∧ r.2.mem ((c.tc : Thread Cert.KAdamMetaIdeal.nD Cert.KAdamMetaIdeal.τ).loc Cert.KAdamMetaIdeal.main_arg1) = m ((c.tc : Thread Cert.KAdamMetaIdeal.nD Cert.KAdamMetaIdeal.τ).loc Cert.KAdamMetaIdeal.main_arg1)
          ∧ r.2.mem ((c.tc : Thread Cert.KAdamMetaIdeal.nD Cert.KAdamMetaIdeal.τ).loc Cert.KAdamMetaIdeal.main_arg2) = m ((c.tc : Thread Cert.KAdamMetaIdeal.nD Cert.KAdamMetaIdeal.τ).loc Cert.KAdamMetaIdeal.main_arg2)
          ∧ r.2.mem ((c.tc : Thread Cert.KAdamMetaIdeal.nD Cert.KAdamMetaIdeal.τ).loc Cert.KAdamMetaIdeal.main_arg3) = m ((c.tc : Thread Cert.KAdamMetaIdeal.nD Cert.KAdamMetaIdeal.τ).loc Cert.KAdamMetaIdeal.main_arg3))
      ∧ θ_run (Cert.RAdamMetaIdeal.defs (F := Ideal)) (onTc (τ := Cert.RAdamMetaIdeal.τ) (Cert.RAdamMetaIdeal.main (F := Ideal))) ⟨m', fun _ => 0, g'⟩ (fun r => ∀ c : Dev Cert.RAdamMetaIdeal.nD,
          r.2.mem ((c.tc : Thread Cert.RAdamMetaIdeal.nD Cert.RAdamMetaIdeal.τ).loc Cert.RAdamMetaIdeal.main_v23) = v0 c
          ∧ r.2.mem ((c.tc : Thread Cert.RAdamMetaIdeal.nD Cert.RAdamMetaIdeal.τ).loc Cert.RAdamMetaIdeal.main_v4) = v1 c
          ∧ r.2.mem ((c.tc : Thread Cert.RAdamMetaIdeal.nD Cert.RAdamMetaIdeal.τ).loc Cert.RAdamMetaIdeal.main_v10) = v2 c
          ∧ r.2.mem ((c.tc : Thread Cert.RAdamMetaIdeal.nD Cert.RAdamMetaIdeal.τ).loc Cert.RAdamMetaIdeal.main_arg0) = m' ((c.tc : Thread Cert.RAdamMetaIdeal.nD Cert.RAdamMetaIdeal.τ).loc Cert.RAdamMetaIdeal.main_arg0)
          ∧ r.2.mem ((c.tc : Thread Cert.RAdamMetaIdeal.nD Cert.RAdamMetaIdeal.τ).loc Cert.RAdamMetaIdeal.main_arg1) = m' ((c.tc : Thread Cert.RAdamMetaIdeal.nD Cert.RAdamMetaIdeal.τ).loc Cert.RAdamMetaIdeal.main_arg1)
          ∧ r.2.mem ((c.tc : Thread Cert.RAdamMetaIdeal.nD Cert.RAdamMetaIdeal.τ).loc Cert.RAdamMetaIdeal.main_arg2) = m' ((c.tc : Thread Cert.RAdamMetaIdeal.nD Cert.RAdamMetaIdeal.τ).loc Cert.RAdamMetaIdeal.main_arg2)
          ∧ r.2.mem ((c.tc : Thread Cert.RAdamMetaIdeal.nD Cert.RAdamMetaIdeal.τ).loc Cert.RAdamMetaIdeal.main_arg3) = m' ((c.tc : Thread Cert.RAdamMetaIdeal.nD Cert.RAdamMetaIdeal.τ).loc Cert.RAdamMetaIdeal.main_arg3))

def preserves_KAdamSmall_KAdamSmallIdeal : Prop :=
  True

def algebraic_KAdamSmallIdeal_RAdamSmallIdeal [hKAdamSmallIdeal : Cert.KAdamSmallIdeal.Facts] [hRAdamSmallIdeal : Cert.RAdamSmallIdeal.Facts] : Prop :=
  ∀ (m : (ℓ : Loc Cert.KAdamSmallIdeal.nD Cert.KAdamSmallIdeal.τ Cert.KAdamSmallIdeal.sig) → Buf (Elt Ideal) ℓ) (g : Dev Cert.KAdamSmallIdeal.nD → PrngReg)
    (m' : (ℓ : Loc Cert.RAdamSmallIdeal.nD Cert.RAdamSmallIdeal.τ Cert.RAdamSmallIdeal.sig) → Buf (Elt Ideal) ℓ) (g' : Dev Cert.RAdamSmallIdeal.nD → PrngReg), Pre_KAdamSmallIdeal m →
    (∀ c : Dev Cert.KAdamSmallIdeal.nD,
      m' ((c.tc : Thread Cert.RAdamSmallIdeal.nD Cert.RAdamSmallIdeal.τ).loc Cert.RAdamSmallIdeal.main_arg0) = m ((c.tc : Thread Cert.KAdamSmallIdeal.nD Cert.KAdamSmallIdeal.τ).loc Cert.KAdamSmallIdeal.main_arg0)
      ∧ m' ((c.tc : Thread Cert.RAdamSmallIdeal.nD Cert.RAdamSmallIdeal.τ).loc Cert.RAdamSmallIdeal.main_arg1) = m ((c.tc : Thread Cert.KAdamSmallIdeal.nD Cert.KAdamSmallIdeal.τ).loc Cert.KAdamSmallIdeal.main_arg1)
      ∧ m' ((c.tc : Thread Cert.RAdamSmallIdeal.nD Cert.RAdamSmallIdeal.τ).loc Cert.RAdamSmallIdeal.main_arg2) = m ((c.tc : Thread Cert.KAdamSmallIdeal.nD Cert.KAdamSmallIdeal.τ).loc Cert.KAdamSmallIdeal.main_arg2)
      ∧ m' ((c.tc : Thread Cert.RAdamSmallIdeal.nD Cert.RAdamSmallIdeal.τ).loc Cert.RAdamSmallIdeal.main_arg3) = m ((c.tc : Thread Cert.KAdamSmallIdeal.nD Cert.KAdamSmallIdeal.τ).loc Cert.KAdamSmallIdeal.main_arg3)) →
    ∃ (v0 : (c : Dev Cert.KAdamSmallIdeal.nD) → Buf (Elt Ideal) ((c.tc : Thread Cert.KAdamSmallIdeal.nD Cert.KAdamSmallIdeal.τ).loc Cert.KAdamSmallIdeal.main_v0_0)) (v1 : (c : Dev Cert.KAdamSmallIdeal.nD) → Buf (Elt Ideal) ((c.tc : Thread Cert.KAdamSmallIdeal.nD Cert.KAdamSmallIdeal.τ).loc Cert.KAdamSmallIdeal.main_v0_1)) (v2 : (c : Dev Cert.KAdamSmallIdeal.nD) → Buf (Elt Ideal) ((c.tc : Thread Cert.KAdamSmallIdeal.nD Cert.KAdamSmallIdeal.τ).loc Cert.KAdamSmallIdeal.main_v0_2)),
      θ_run (Cert.KAdamSmallIdeal.defs (F := Ideal)) (onTc (τ := Cert.KAdamSmallIdeal.τ) (Cert.KAdamSmallIdeal.main (F := Ideal))) ⟨m, fun _ => 0, g⟩ (fun r => ∀ c : Dev Cert.KAdamSmallIdeal.nD,
          r.2.mem ((c.tc : Thread Cert.KAdamSmallIdeal.nD Cert.KAdamSmallIdeal.τ).loc Cert.KAdamSmallIdeal.main_v0_0) = v0 c
          ∧ r.2.mem ((c.tc : Thread Cert.KAdamSmallIdeal.nD Cert.KAdamSmallIdeal.τ).loc Cert.KAdamSmallIdeal.main_v0_1) = v1 c
          ∧ r.2.mem ((c.tc : Thread Cert.KAdamSmallIdeal.nD Cert.KAdamSmallIdeal.τ).loc Cert.KAdamSmallIdeal.main_v0_2) = v2 c
          ∧ r.2.mem ((c.tc : Thread Cert.KAdamSmallIdeal.nD Cert.KAdamSmallIdeal.τ).loc Cert.KAdamSmallIdeal.main_arg0) = m ((c.tc : Thread Cert.KAdamSmallIdeal.nD Cert.KAdamSmallIdeal.τ).loc Cert.KAdamSmallIdeal.main_arg0)
          ∧ r.2.mem ((c.tc : Thread Cert.KAdamSmallIdeal.nD Cert.KAdamSmallIdeal.τ).loc Cert.KAdamSmallIdeal.main_arg1) = m ((c.tc : Thread Cert.KAdamSmallIdeal.nD Cert.KAdamSmallIdeal.τ).loc Cert.KAdamSmallIdeal.main_arg1)
          ∧ r.2.mem ((c.tc : Thread Cert.KAdamSmallIdeal.nD Cert.KAdamSmallIdeal.τ).loc Cert.KAdamSmallIdeal.main_arg2) = m ((c.tc : Thread Cert.KAdamSmallIdeal.nD Cert.KAdamSmallIdeal.τ).loc Cert.KAdamSmallIdeal.main_arg2)
          ∧ r.2.mem ((c.tc : Thread Cert.KAdamSmallIdeal.nD Cert.KAdamSmallIdeal.τ).loc Cert.KAdamSmallIdeal.main_arg3) = m ((c.tc : Thread Cert.KAdamSmallIdeal.nD Cert.KAdamSmallIdeal.τ).loc Cert.KAdamSmallIdeal.main_arg3))
      ∧ θ_run (Cert.RAdamSmallIdeal.defs (F := Ideal)) (onTc (τ := Cert.RAdamSmallIdeal.τ) (Cert.RAdamSmallIdeal.main (F := Ideal))) ⟨m', fun _ => 0, g'⟩ (fun r => ∀ c : Dev Cert.RAdamSmallIdeal.nD,
          r.2.mem ((c.tc : Thread Cert.RAdamSmallIdeal.nD Cert.RAdamSmallIdeal.τ).loc Cert.RAdamSmallIdeal.main_v23) = v0 c
          ∧ r.2.mem ((c.tc : Thread Cert.RAdamSmallIdeal.nD Cert.RAdamSmallIdeal.τ).loc Cert.RAdamSmallIdeal.main_v4) = v1 c
          ∧ r.2.mem ((c.tc : Thread Cert.RAdamSmallIdeal.nD Cert.RAdamSmallIdeal.τ).loc Cert.RAdamSmallIdeal.main_v10) = v2 c
          ∧ r.2.mem ((c.tc : Thread Cert.RAdamSmallIdeal.nD Cert.RAdamSmallIdeal.τ).loc Cert.RAdamSmallIdeal.main_arg0) = m' ((c.tc : Thread Cert.RAdamSmallIdeal.nD Cert.RAdamSmallIdeal.τ).loc Cert.RAdamSmallIdeal.main_arg0)
          ∧ r.2.mem ((c.tc : Thread Cert.RAdamSmallIdeal.nD Cert.RAdamSmallIdeal.τ).loc Cert.RAdamSmallIdeal.main_arg1) = m' ((c.tc : Thread Cert.RAdamSmallIdeal.nD Cert.RAdamSmallIdeal.τ).loc Cert.RAdamSmallIdeal.main_arg1)
          ∧ r.2.mem ((c.tc : Thread Cert.RAdamSmallIdeal.nD Cert.RAdamSmallIdeal.τ).loc Cert.RAdamSmallIdeal.main_arg2) = m' ((c.tc : Thread Cert.RAdamSmallIdeal.nD Cert.RAdamSmallIdeal.τ).loc Cert.RAdamSmallIdeal.main_arg2)
          ∧ r.2.mem ((c.tc : Thread Cert.RAdamSmallIdeal.nD Cert.RAdamSmallIdeal.τ).loc Cert.RAdamSmallIdeal.main_arg3) = m' ((c.tc : Thread Cert.RAdamSmallIdeal.nD Cert.RAdamSmallIdeal.τ).loc Cert.RAdamSmallIdeal.main_arg3))

def preserves_KSsdBwd_KSsdBwdIdeal : Prop :=
  True

def preserves_KGdnFwd_KGdnFwdIdeal : Prop :=
  True

def preserves_KSsdFwd_KSsdFwdIdeal : Prop :=
  True

def Claim : Prop :=
  ∃ (hKernel : Cert.Kernel.Facts) (hKernelIdeal : Cert.KernelIdeal.Facts) (hKGWin : Cert.KGWin.Facts) (hKGWinIdeal : Cert.KGWinIdeal.Facts) (hRGWinIdeal : Cert.RGWinIdeal.Facts) (hKDMerged : Cert.KDMerged.Facts) (hKDMergedIdeal : Cert.KDMergedIdeal.Facts) (hRDMergedIdeal : Cert.RDMergedIdeal.Facts) (hKGWout : Cert.KGWout.Facts) (hKGWoutIdeal : Cert.KGWoutIdeal.Facts) (hRGWoutIdeal : Cert.RGWoutIdeal.Facts) (hKProj : Cert.KProj.Facts) (hKProjIdeal : Cert.KProjIdeal.Facts) (hRProjIdeal : Cert.RProjIdeal.Facts) (hKDU : Cert.KDU.Facts) (hKDUIdeal : Cert.KDUIdeal.Facts) (hRDUIdeal : Cert.RDUIdeal.Facts) (hKBranch : Cert.KBranch.Facts) (hKBranchIdeal : Cert.KBranchIdeal.Facts) (hRBranchIdeal : Cert.RBranchIdeal.Facts) (hKBranchC : Cert.KBranchC.Facts) (hKBranchCIdeal : Cert.KBranchCIdeal.Facts) (hRBranchCIdeal : Cert.RBranchCIdeal.Facts) (hKGWBranch : Cert.KGWBranch.Facts) (hKGWBranchIdeal : Cert.KGWBranchIdeal.Facts) (hRGWBranchIdeal : Cert.RGWBranchIdeal.Facts) (hKGWBranchC : Cert.KGWBranchC.Facts) (hKGWBranchCIdeal : Cert.KGWBranchCIdeal.Facts) (hRGWBranchCIdeal : Cert.RGWBranchCIdeal.Facts) (hKDO : Cert.KDO.Facts) (hKDOIdeal : Cert.KDOIdeal.Facts) (hRDOIdeal : Cert.RDOIdeal.Facts) (hKDOC : Cert.KDOC.Facts) (hKDOCIdeal : Cert.KDOCIdeal.Facts) (hRDOCIdeal : Cert.RDOCIdeal.Facts) (hKOut : Cert.KOut.Facts) (hKOutIdeal : Cert.KOutIdeal.Facts) (hROutIdeal : Cert.ROutIdeal.Facts) (hKMerge : Cert.KMerge.Facts) (hKMergeIdeal : Cert.KMergeIdeal.Facts) (hRMergeIdeal : Cert.RMergeIdeal.Facts) (hKGateA : Cert.KGateA.Facts) (hKGateAIdeal : Cert.KGateAIdeal.Facts) (hRGateAIdeal : Cert.RGateAIdeal.Facts) (hKRms : Cert.KRms.Facts) (hKRmsIdeal : Cert.KRmsIdeal.Facts) (hRRmsIdeal : Cert.RRmsIdeal.Facts) (hKGateB : Cert.KGateB.Facts) (hKGateBIdeal : Cert.KGateBIdeal.Facts) (hRGateBIdeal : Cert.RGateBIdeal.Facts) (hKGateC : Cert.KGateC.Facts) (hKGateCIdeal : Cert.KGateCIdeal.Facts) (hRGateCIdeal : Cert.RGateCIdeal.Facts) (hKConvC : Cert.KConvC.Facts) (hKConvCIdeal : Cert.KConvCIdeal.Facts) (hRConvCIdeal : Cert.RConvCIdeal.Facts) (hKConvB : Cert.KConvB.Facts) (hKConvBIdeal : Cert.KConvBIdeal.Facts) (hRConvBIdeal : Cert.RConvBIdeal.Facts) (hKRmsF : Cert.KRmsF.Facts) (hKRmsFIdeal : Cert.KRmsFIdeal.Facts) (hRRmsFIdeal : Cert.RRmsFIdeal.Facts) (hKGateAF : Cert.KGateAF.Facts) (hKGateAFIdeal : Cert.KGateAFIdeal.Facts) (hRGateAFIdeal : Cert.RGateAFIdeal.Facts) (hKGateBF : Cert.KGateBF.Facts) (hKGateBFIdeal : Cert.KGateBFIdeal.Facts) (hRGateBFIdeal : Cert.RGateBFIdeal.Facts) (hKGateCF : Cert.KGateCF.Facts) (hKGateCFIdeal : Cert.KGateCFIdeal.Facts) (hRGateCFIdeal : Cert.RGateCFIdeal.Facts) (hKMergeF : Cert.KMergeF.Facts) (hKMergeFIdeal : Cert.KMergeFIdeal.Facts) (hRMergeFIdeal : Cert.RMergeFIdeal.Facts) (hKConvCF : Cert.KConvCF.Facts) (hKConvCFIdeal : Cert.KConvCFIdeal.Facts) (hRConvCFIdeal : Cert.RConvCFIdeal.Facts) (hKConvBF : Cert.KConvBF.Facts) (hKConvBFIdeal : Cert.KConvBFIdeal.Facts) (hRConvBFIdeal : Cert.RConvBFIdeal.Facts) (hKGatesF : Cert.KGatesF.Facts) (hKGatesFIdeal : Cert.KGatesFIdeal.Facts) (hRGatesFIdeal : Cert.RGatesFIdeal.Facts) (hKLoss : Cert.KLoss.Facts) (hKLossIdeal : Cert.KLossIdeal.Facts) (hRLossIdeal : Cert.RLossIdeal.Facts) (hKAdam : Cert.KAdam.Facts) (hKAdamIdeal : Cert.KAdamIdeal.Facts) (hRAdamIdeal : Cert.RAdamIdeal.Facts) (hKAdamC : Cert.KAdamC.Facts) (hKAdamCIdeal : Cert.KAdamCIdeal.Facts) (hRAdamCIdeal : Cert.RAdamCIdeal.Facts) (hKAdamIn : Cert.KAdamIn.Facts) (hKAdamInIdeal : Cert.KAdamInIdeal.Facts) (hRAdamInIdeal : Cert.RAdamInIdeal.Facts) (hKAdamConvB : Cert.KAdamConvB.Facts) (hKAdamConvBIdeal : Cert.KAdamConvBIdeal.Facts) (hRAdamConvBIdeal : Cert.RAdamConvBIdeal.Facts) (hKAdamConvC : Cert.KAdamConvC.Facts) (hKAdamConvCIdeal : Cert.KAdamConvCIdeal.Facts) (hRAdamConvCIdeal : Cert.RAdamConvCIdeal.Facts) (hKAdamMeta : Cert.KAdamMeta.Facts) (hKAdamMetaIdeal : Cert.KAdamMetaIdeal.Facts) (hRAdamMetaIdeal : Cert.RAdamMetaIdeal.Facts) (hKAdamSmall : Cert.KAdamSmall.Facts) (hKAdamSmallIdeal : Cert.KAdamSmallIdeal.Facts) (hRAdamSmallIdeal : Cert.RAdamSmallIdeal.Facts) (hKSsdBwd : Cert.KSsdBwd.Facts) (hKSsdBwdIdeal : Cert.KSsdBwdIdeal.Facts) (hKGdnFwd : Cert.KGdnFwd.Facts) (hKGdnFwdIdeal : Cert.KGdnFwdIdeal.Facts) (hKSsdFwd : Cert.KSsdFwd.Facts) (hKSsdFwdIdeal : Cert.KSsdFwdIdeal.Facts),
    quiescent_Kernel (hKernel := hKernel)
    ∧ quiescent_KernelIdeal (hKernelIdeal := hKernelIdeal)
    ∧ quiescent_KGWin (hKGWin := hKGWin)
    ∧ quiescent_KGWinIdeal (hKGWinIdeal := hKGWinIdeal)
    ∧ quiescent_RGWinIdeal (hRGWinIdeal := hRGWinIdeal)
    ∧ quiescent_KDMerged (hKDMerged := hKDMerged)
    ∧ quiescent_KDMergedIdeal (hKDMergedIdeal := hKDMergedIdeal)
    ∧ quiescent_RDMergedIdeal (hRDMergedIdeal := hRDMergedIdeal)
    ∧ quiescent_KGWout (hKGWout := hKGWout)
    ∧ quiescent_KGWoutIdeal (hKGWoutIdeal := hKGWoutIdeal)
    ∧ quiescent_RGWoutIdeal (hRGWoutIdeal := hRGWoutIdeal)
    ∧ quiescent_KProj (hKProj := hKProj)
    ∧ quiescent_KProjIdeal (hKProjIdeal := hKProjIdeal)
    ∧ quiescent_RProjIdeal (hRProjIdeal := hRProjIdeal)
    ∧ quiescent_KDU (hKDU := hKDU)
    ∧ quiescent_KDUIdeal (hKDUIdeal := hKDUIdeal)
    ∧ quiescent_RDUIdeal (hRDUIdeal := hRDUIdeal)
    ∧ quiescent_KBranch (hKBranch := hKBranch)
    ∧ quiescent_KBranchIdeal (hKBranchIdeal := hKBranchIdeal)
    ∧ quiescent_RBranchIdeal (hRBranchIdeal := hRBranchIdeal)
    ∧ quiescent_KBranchC (hKBranchC := hKBranchC)
    ∧ quiescent_KBranchCIdeal (hKBranchCIdeal := hKBranchCIdeal)
    ∧ quiescent_RBranchCIdeal (hRBranchCIdeal := hRBranchCIdeal)
    ∧ quiescent_KGWBranch (hKGWBranch := hKGWBranch)
    ∧ quiescent_KGWBranchIdeal (hKGWBranchIdeal := hKGWBranchIdeal)
    ∧ quiescent_RGWBranchIdeal (hRGWBranchIdeal := hRGWBranchIdeal)
    ∧ quiescent_KGWBranchC (hKGWBranchC := hKGWBranchC)
    ∧ quiescent_KGWBranchCIdeal (hKGWBranchCIdeal := hKGWBranchCIdeal)
    ∧ quiescent_RGWBranchCIdeal (hRGWBranchCIdeal := hRGWBranchCIdeal)
    ∧ quiescent_KDO (hKDO := hKDO)
    ∧ quiescent_KDOIdeal (hKDOIdeal := hKDOIdeal)
    ∧ quiescent_RDOIdeal (hRDOIdeal := hRDOIdeal)
    ∧ quiescent_KDOC (hKDOC := hKDOC)
    ∧ quiescent_KDOCIdeal (hKDOCIdeal := hKDOCIdeal)
    ∧ quiescent_RDOCIdeal (hRDOCIdeal := hRDOCIdeal)
    ∧ quiescent_KOut (hKOut := hKOut)
    ∧ quiescent_KOutIdeal (hKOutIdeal := hKOutIdeal)
    ∧ quiescent_ROutIdeal (hROutIdeal := hROutIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KGateA (hKGateA := hKGateA)
    ∧ quiescent_KGateAIdeal (hKGateAIdeal := hKGateAIdeal)
    ∧ quiescent_RGateAIdeal (hRGateAIdeal := hRGateAIdeal)
    ∧ quiescent_KRms (hKRms := hKRms)
    ∧ quiescent_KRmsIdeal (hKRmsIdeal := hKRmsIdeal)
    ∧ quiescent_RRmsIdeal (hRRmsIdeal := hRRmsIdeal)
    ∧ quiescent_KGateB (hKGateB := hKGateB)
    ∧ quiescent_KGateBIdeal (hKGateBIdeal := hKGateBIdeal)
    ∧ quiescent_RGateBIdeal (hRGateBIdeal := hRGateBIdeal)
    ∧ quiescent_KGateC (hKGateC := hKGateC)
    ∧ quiescent_KGateCIdeal (hKGateCIdeal := hKGateCIdeal)
    ∧ quiescent_RGateCIdeal (hRGateCIdeal := hRGateCIdeal)
    ∧ quiescent_KConvC (hKConvC := hKConvC)
    ∧ quiescent_KConvCIdeal (hKConvCIdeal := hKConvCIdeal)
    ∧ quiescent_RConvCIdeal (hRConvCIdeal := hRConvCIdeal)
    ∧ quiescent_KConvB (hKConvB := hKConvB)
    ∧ quiescent_KConvBIdeal (hKConvBIdeal := hKConvBIdeal)
    ∧ quiescent_RConvBIdeal (hRConvBIdeal := hRConvBIdeal)
    ∧ quiescent_KRmsF (hKRmsF := hKRmsF)
    ∧ quiescent_KRmsFIdeal (hKRmsFIdeal := hKRmsFIdeal)
    ∧ quiescent_RRmsFIdeal (hRRmsFIdeal := hRRmsFIdeal)
    ∧ quiescent_KGateAF (hKGateAF := hKGateAF)
    ∧ quiescent_KGateAFIdeal (hKGateAFIdeal := hKGateAFIdeal)
    ∧ quiescent_RGateAFIdeal (hRGateAFIdeal := hRGateAFIdeal)
    ∧ quiescent_KGateBF (hKGateBF := hKGateBF)
    ∧ quiescent_KGateBFIdeal (hKGateBFIdeal := hKGateBFIdeal)
    ∧ quiescent_RGateBFIdeal (hRGateBFIdeal := hRGateBFIdeal)
    ∧ quiescent_KGateCF (hKGateCF := hKGateCF)
    ∧ quiescent_KGateCFIdeal (hKGateCFIdeal := hKGateCFIdeal)
    ∧ quiescent_RGateCFIdeal (hRGateCFIdeal := hRGateCFIdeal)
    ∧ quiescent_KMergeF (hKMergeF := hKMergeF)
    ∧ quiescent_KMergeFIdeal (hKMergeFIdeal := hKMergeFIdeal)
    ∧ quiescent_RMergeFIdeal (hRMergeFIdeal := hRMergeFIdeal)
    ∧ quiescent_KConvCF (hKConvCF := hKConvCF)
    ∧ quiescent_KConvCFIdeal (hKConvCFIdeal := hKConvCFIdeal)
    ∧ quiescent_RConvCFIdeal (hRConvCFIdeal := hRConvCFIdeal)
    ∧ quiescent_KConvBF (hKConvBF := hKConvBF)
    ∧ quiescent_KConvBFIdeal (hKConvBFIdeal := hKConvBFIdeal)
    ∧ quiescent_RConvBFIdeal (hRConvBFIdeal := hRConvBFIdeal)
    ∧ quiescent_KGatesF (hKGatesF := hKGatesF)
    ∧ quiescent_KGatesFIdeal (hKGatesFIdeal := hKGatesFIdeal)
    ∧ quiescent_RGatesFIdeal (hRGatesFIdeal := hRGatesFIdeal)
    ∧ quiescent_KLoss (hKLoss := hKLoss)
    ∧ quiescent_KLossIdeal (hKLossIdeal := hKLossIdeal)
    ∧ quiescent_RLossIdeal (hRLossIdeal := hRLossIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KAdamC (hKAdamC := hKAdamC)
    ∧ quiescent_KAdamCIdeal (hKAdamCIdeal := hKAdamCIdeal)
    ∧ quiescent_RAdamCIdeal (hRAdamCIdeal := hRAdamCIdeal)
    ∧ quiescent_KAdamIn (hKAdamIn := hKAdamIn)
    ∧ quiescent_KAdamInIdeal (hKAdamInIdeal := hKAdamInIdeal)
    ∧ quiescent_RAdamInIdeal (hRAdamInIdeal := hRAdamInIdeal)
    ∧ quiescent_KAdamConvB (hKAdamConvB := hKAdamConvB)
    ∧ quiescent_KAdamConvBIdeal (hKAdamConvBIdeal := hKAdamConvBIdeal)
    ∧ quiescent_RAdamConvBIdeal (hRAdamConvBIdeal := hRAdamConvBIdeal)
    ∧ quiescent_KAdamConvC (hKAdamConvC := hKAdamConvC)
    ∧ quiescent_KAdamConvCIdeal (hKAdamConvCIdeal := hKAdamConvCIdeal)
    ∧ quiescent_RAdamConvCIdeal (hRAdamConvCIdeal := hRAdamConvCIdeal)
    ∧ quiescent_KAdamMeta (hKAdamMeta := hKAdamMeta)
    ∧ quiescent_KAdamMetaIdeal (hKAdamMetaIdeal := hKAdamMetaIdeal)
    ∧ quiescent_RAdamMetaIdeal (hRAdamMetaIdeal := hRAdamMetaIdeal)
    ∧ quiescent_KAdamSmall (hKAdamSmall := hKAdamSmall)
    ∧ quiescent_KAdamSmallIdeal (hKAdamSmallIdeal := hKAdamSmallIdeal)
    ∧ quiescent_RAdamSmallIdeal (hRAdamSmallIdeal := hRAdamSmallIdeal)
    ∧ quiescent_KSsdBwd (hKSsdBwd := hKSsdBwd)
    ∧ quiescent_KSsdBwdIdeal (hKSsdBwdIdeal := hKSsdBwdIdeal)
    ∧ quiescent_KGdnFwd (hKGdnFwd := hKGdnFwd)
    ∧ quiescent_KGdnFwdIdeal (hKGdnFwdIdeal := hKGdnFwdIdeal)
    ∧ quiescent_KSsdFwd (hKSsdFwd := hKSsdFwd)
    ∧ quiescent_KSsdFwdIdeal (hKSsdFwdIdeal := hKSsdFwdIdeal)
    ∧ preserves_Kernel_KernelIdeal
    ∧ preserves_KGWin_KGWinIdeal
    ∧ algebraic_KGWinIdeal_RGWinIdeal (hKGWinIdeal := hKGWinIdeal) (hRGWinIdeal := hRGWinIdeal)
    ∧ preserves_KDMerged_KDMergedIdeal
    ∧ algebraic_KDMergedIdeal_RDMergedIdeal (hKDMergedIdeal := hKDMergedIdeal) (hRDMergedIdeal := hRDMergedIdeal)
    ∧ preserves_KGWout_KGWoutIdeal
    ∧ algebraic_KGWoutIdeal_RGWoutIdeal (hKGWoutIdeal := hKGWoutIdeal) (hRGWoutIdeal := hRGWoutIdeal)
    ∧ preserves_KProj_KProjIdeal
    ∧ algebraic_KProjIdeal_RProjIdeal (hKProjIdeal := hKProjIdeal) (hRProjIdeal := hRProjIdeal)
    ∧ preserves_KDU_KDUIdeal
    ∧ algebraic_KDUIdeal_RDUIdeal (hKDUIdeal := hKDUIdeal) (hRDUIdeal := hRDUIdeal)
    ∧ preserves_KBranch_KBranchIdeal
    ∧ algebraic_KBranchIdeal_RBranchIdeal (hKBranchIdeal := hKBranchIdeal) (hRBranchIdeal := hRBranchIdeal)
    ∧ preserves_KBranchC_KBranchCIdeal
    ∧ algebraic_KBranchCIdeal_RBranchCIdeal (hKBranchCIdeal := hKBranchCIdeal) (hRBranchCIdeal := hRBranchCIdeal)
    ∧ preserves_KGWBranch_KGWBranchIdeal
    ∧ algebraic_KGWBranchIdeal_RGWBranchIdeal (hKGWBranchIdeal := hKGWBranchIdeal) (hRGWBranchIdeal := hRGWBranchIdeal)
    ∧ preserves_KGWBranchC_KGWBranchCIdeal
    ∧ algebraic_KGWBranchCIdeal_RGWBranchCIdeal (hKGWBranchCIdeal := hKGWBranchCIdeal) (hRGWBranchCIdeal := hRGWBranchCIdeal)
    ∧ preserves_KDO_KDOIdeal
    ∧ algebraic_KDOIdeal_RDOIdeal (hKDOIdeal := hKDOIdeal) (hRDOIdeal := hRDOIdeal)
    ∧ preserves_KDOC_KDOCIdeal
    ∧ algebraic_KDOCIdeal_RDOCIdeal (hKDOCIdeal := hKDOCIdeal) (hRDOCIdeal := hRDOCIdeal)
    ∧ preserves_KOut_KOutIdeal
    ∧ algebraic_KOutIdeal_ROutIdeal (hKOutIdeal := hKOutIdeal) (hROutIdeal := hROutIdeal)
    ∧ preserves_KMerge_KMergeIdeal
    ∧ algebraic_KMergeIdeal_RMergeIdeal (hKMergeIdeal := hKMergeIdeal) (hRMergeIdeal := hRMergeIdeal)
    ∧ preserves_KGateA_KGateAIdeal
    ∧ algebraic_KGateAIdeal_RGateAIdeal (hKGateAIdeal := hKGateAIdeal) (hRGateAIdeal := hRGateAIdeal)
    ∧ preserves_KRms_KRmsIdeal
    ∧ algebraic_KRmsIdeal_RRmsIdeal (hKRmsIdeal := hKRmsIdeal) (hRRmsIdeal := hRRmsIdeal)
    ∧ preserves_KGateB_KGateBIdeal
    ∧ algebraic_KGateBIdeal_RGateBIdeal (hKGateBIdeal := hKGateBIdeal) (hRGateBIdeal := hRGateBIdeal)
    ∧ preserves_KGateC_KGateCIdeal
    ∧ algebraic_KGateCIdeal_RGateCIdeal (hKGateCIdeal := hKGateCIdeal) (hRGateCIdeal := hRGateCIdeal)
    ∧ preserves_KConvC_KConvCIdeal
    ∧ algebraic_KConvCIdeal_RConvCIdeal (hKConvCIdeal := hKConvCIdeal) (hRConvCIdeal := hRConvCIdeal)
    ∧ preserves_KConvB_KConvBIdeal
    ∧ algebraic_KConvBIdeal_RConvBIdeal (hKConvBIdeal := hKConvBIdeal) (hRConvBIdeal := hRConvBIdeal)
    ∧ preserves_KRmsF_KRmsFIdeal
    ∧ algebraic_KRmsFIdeal_RRmsFIdeal (hKRmsFIdeal := hKRmsFIdeal) (hRRmsFIdeal := hRRmsFIdeal)
    ∧ preserves_KGateAF_KGateAFIdeal
    ∧ algebraic_KGateAFIdeal_RGateAFIdeal (hKGateAFIdeal := hKGateAFIdeal) (hRGateAFIdeal := hRGateAFIdeal)
    ∧ preserves_KGateBF_KGateBFIdeal
    ∧ algebraic_KGateBFIdeal_RGateBFIdeal (hKGateBFIdeal := hKGateBFIdeal) (hRGateBFIdeal := hRGateBFIdeal)
    ∧ preserves_KGateCF_KGateCFIdeal
    ∧ algebraic_KGateCFIdeal_RGateCFIdeal (hKGateCFIdeal := hKGateCFIdeal) (hRGateCFIdeal := hRGateCFIdeal)
    ∧ preserves_KMergeF_KMergeFIdeal
    ∧ algebraic_KMergeFIdeal_RMergeFIdeal (hKMergeFIdeal := hKMergeFIdeal) (hRMergeFIdeal := hRMergeFIdeal)
    ∧ preserves_KConvCF_KConvCFIdeal
    ∧ algebraic_KConvCFIdeal_RConvCFIdeal (hKConvCFIdeal := hKConvCFIdeal) (hRConvCFIdeal := hRConvCFIdeal)
    ∧ preserves_KConvBF_KConvBFIdeal
    ∧ algebraic_KConvBFIdeal_RConvBFIdeal (hKConvBFIdeal := hKConvBFIdeal) (hRConvBFIdeal := hRConvBFIdeal)
    ∧ preserves_KGatesF_KGatesFIdeal
    ∧ algebraic_KGatesFIdeal_RGatesFIdeal (hKGatesFIdeal := hKGatesFIdeal) (hRGatesFIdeal := hRGatesFIdeal)
    ∧ preserves_KLoss_KLossIdeal
    ∧ algebraic_KLossIdeal_RLossIdeal (hKLossIdeal := hKLossIdeal) (hRLossIdeal := hRLossIdeal)
    ∧ preserves_KAdam_KAdamIdeal
    ∧ algebraic_KAdamIdeal_RAdamIdeal (hKAdamIdeal := hKAdamIdeal) (hRAdamIdeal := hRAdamIdeal)
    ∧ preserves_KAdamC_KAdamCIdeal
    ∧ algebraic_KAdamCIdeal_RAdamCIdeal (hKAdamCIdeal := hKAdamCIdeal) (hRAdamCIdeal := hRAdamCIdeal)
    ∧ preserves_KAdamIn_KAdamInIdeal
    ∧ algebraic_KAdamInIdeal_RAdamInIdeal (hKAdamInIdeal := hKAdamInIdeal) (hRAdamInIdeal := hRAdamInIdeal)
    ∧ preserves_KAdamConvB_KAdamConvBIdeal
    ∧ algebraic_KAdamConvBIdeal_RAdamConvBIdeal (hKAdamConvBIdeal := hKAdamConvBIdeal) (hRAdamConvBIdeal := hRAdamConvBIdeal)
    ∧ preserves_KAdamConvC_KAdamConvCIdeal
    ∧ algebraic_KAdamConvCIdeal_RAdamConvCIdeal (hKAdamConvCIdeal := hKAdamConvCIdeal) (hRAdamConvCIdeal := hRAdamConvCIdeal)
    ∧ preserves_KAdamMeta_KAdamMetaIdeal
    ∧ algebraic_KAdamMetaIdeal_RAdamMetaIdeal (hKAdamMetaIdeal := hKAdamMetaIdeal) (hRAdamMetaIdeal := hRAdamMetaIdeal)
    ∧ preserves_KAdamSmall_KAdamSmallIdeal
    ∧ algebraic_KAdamSmallIdeal_RAdamSmallIdeal (hKAdamSmallIdeal := hKAdamSmallIdeal) (hRAdamSmallIdeal := hRAdamSmallIdeal)
    ∧ preserves_KSsdBwd_KSsdBwdIdeal
    ∧ preserves_KGdnFwd_KGdnFwdIdeal
    ∧ preserves_KSsdFwd_KSsdFwdIdeal
-- ==== Kernel.lean ====
abbrev S2176x3072 : Shape := ⟨2, ![2176, 3072]⟩
abbrev S2176x128 : Shape := ⟨2, ![2176, 128]⟩
abbrev S34x8x128x128 : Shape := ⟨4, ![34, 8, 128, 128]⟩
abbrev S34x8x64x64 : Shape := ⟨4, ![34, 8, 64, 64]⟩
abbrev S2176x1024 : Shape := ⟨2, ![2176, 1024]⟩
abbrev S64x3072 : Shape := ⟨2, ![64, 3072]⟩
abbrev S64x128 : Shape := ⟨2, ![64, 128]⟩
abbrev S1x8x128x128 : Shape := ⟨4, ![1, 8, 128, 128]⟩
abbrev S1x8x64x64 : Shape := ⟨4, ![1, 8, 64, 64]⟩
abbrev S64x1024 : Shape := ⟨2, ![64, 1024]⟩
abbrev S8x128x128 : Shape := ⟨3, ![8, 128, 128]⟩
abbrev S8x64x64 : Shape := ⟨3, ![8, 64, 64]⟩
abbrev S1x64x128 : Shape := ⟨3, ![1, 64, 128]⟩
abbrev S8x64x128 : Shape := ⟨3, ![8, 64, 128]⟩
abbrev S64x1 : Shape := ⟨2, ![64, 1]⟩
abbrev S1x64x1 : Shape := ⟨3, ![1, 64, 1]⟩
abbrev S8x64x1 : Shape := ⟨3, ![8, 64, 1]⟩
abbrev S64x64 : Shape := ⟨2, ![64, 64]⟩
abbrev S1x64x64 : Shape := ⟨3, ![1, 64, 64]⟩
abbrev S8x64 : Shape := ⟨2, ![8, 64]⟩
abbrev S8x1x64 : Shape := ⟨3, ![8, 1, 64]⟩
abbrev S8x1 : Shape := ⟨2, ![8, 1]⟩
abbrev S8x1x1 : Shape := ⟨3, ![8, 1, 1]⟩
abbrev S8 : Shape := ⟨1, ![8]⟩

abbrev nBuf : Space → Nat
  | .hbm => 7
  | .vmem => 15
  | .smem => 0
  | _ => 0

abbrev bufTy : (tb : Table) → Fin (tcTables nBuf tb) → BufTy
  | .hbm, ⟨0, _⟩ => ⟨S2176x3072, .f32⟩
  | .hbm, ⟨1, _⟩ => ⟨S2176x128, .f32⟩
  | .hbm, ⟨2, _⟩ => ⟨S34x8x128x128, .f32⟩
  | .hbm, ⟨3, _⟩ => ⟨S34x8x64x64, .f32⟩
  | .hbm, ⟨4, _⟩ => ⟨S2176x1024, .f32⟩
  | .hbm, ⟨5, _⟩ => ⟨S2176x3072, .f32⟩
  | .hbm, ⟨6, _⟩ => ⟨S2176x128, .f32⟩
  | .local _ .vmem, ⟨0, _⟩ => ⟨S64x3072, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x64x64, .f32⟩
  | .local _ .vmem, ⟨7, _⟩ => ⟨S1x8x64x64, .f32⟩
  | .local _ .vmem, ⟨8, _⟩ => ⟨S64x1024, .f32⟩
  | .local _ .vmem, ⟨9, _⟩ => ⟨S64x1024, .f32⟩
  | .local _ .vmem, ⟨10, _⟩ => ⟨S64x3072, .f32⟩
  | .local _ .vmem, ⟨11, _⟩ => ⟨S64x3072, .f32⟩
  | .local _ .vmem, ⟨12, _⟩ => ⟨S64x128, .f32⟩
  | .local _ .vmem, ⟨13, _⟩ => ⟨S64x128, .f32⟩
  | .local _ .vmem, ⟨14, _⟩ => ⟨S8x128x128, .f32⟩
  | _, _ => ⟨S2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KGWin.lean ====
abbrev S2176x1024 : Shape := ⟨2, ![2176, 1024]⟩
abbrev S2176x16000 : Shape := ⟨2, ![2176, 16000]⟩
abbrev S1024x16000 : Shape := ⟨2, ![1024, 16000]⟩
abbrev S2176x640 : Shape := ⟨2, ![2176, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x16000, .bf16⟩
  | .hbm, ⟨2, _⟩ => ⟨S1024x16000, .bf16⟩
  | .local _ .vmem, ⟨0, _⟩ => ⟨S2176x1024, .bf16⟩
  | .local _ .vmem, ⟨1, _⟩ => ⟨S2176x640, .bf16⟩
  | .local _ .vmem, ⟨2, _⟩ => ⟨S2176x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 25, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGWinIdeal.lean ====
abbrev S2176x1024 : Shape := ⟨2, ![2176, 1024]⟩
abbrev S2176x16000 : Shape := ⟨2, ![2176, 16000]⟩
abbrev S_ : Shape := ⟨0, ![]⟩
abbrev S1024x16000 : Shape := ⟨2, ![1024, 16000]⟩
abbrev S16000x1024 : Shape := ⟨2, ![16000, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x16000, .bf16⟩
  | .hbm, ⟨2, _⟩ => ⟨S_, .f32⟩
  | .hbm, ⟨3, _⟩ => ⟨S1024x16000, .f32⟩
  | .hbm, ⟨4, _⟩ => ⟨S2176x1024, .f32⟩
  | .hbm, ⟨5, _⟩ => ⟨S2176x16000, .f32⟩
  | .hbm, ⟨6, _⟩ => ⟨S2176x16000, .f32⟩
  | .hbm, ⟨7, _⟩ => ⟨S16000x1024, .f32⟩
  | .hbm, ⟨8, _⟩ => ⟨S1024x16000, .f32⟩
  | .hbm, ⟨9, _⟩ => ⟨S1024x16000, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDMerged.lean ====
abbrev S2176x1024 : Shape := ⟨2, ![2176, 1024]⟩
abbrev S1024x1024 : Shape := ⟨2, ![1024, 1024]⟩
abbrev S512x1024 : Shape := ⟨2, ![512, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x1024, .bf16⟩
  | .hbm, ⟨2, _⟩ => ⟨S2176x1024, .f32⟩
  | .local _ .vmem, ⟨0, _⟩ => ⟨S2176x1024, .f32⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDMergedIdeal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x1024, .bf16⟩
  | .hbm, ⟨2, _⟩ => ⟨S_, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KGWout.lean ====
abbrev S2176x1024 : Shape := ⟨2, ![2176, 1024]⟩
abbrev S1024x1024 : Shape := ⟨2, ![1024, 1024]⟩
abbrev S2176x512 : Shape := ⟨2, ![2176, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .f32⟩
  | .hbm, ⟨2, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGWoutIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .f32⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S1024x1024, .f32⟩
  | .hbm, ⟨7, _⟩ => ⟨S1024x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KProj.lean ====
abbrev S2176x1024 : Shape := ⟨2, ![2176, 1024]⟩
abbrev S1024x16000 : Shape := ⟨2, ![1024, 16000]⟩
abbrev S2176x16000 : Shape := ⟨2, ![2176, 16000]⟩
abbrev S1024x640 : Shape := ⟨2, ![1024, 640]⟩
abbrev S2176x640 : Shape := ⟨2, ![2176, 640]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S1024x16000, .bf16⟩
  | .hbm, ⟨2, _⟩ => ⟨S2176x16000, .f32⟩
  | .local _ .vmem, ⟨0, _⟩ => ⟨S2176x1024, .bf16⟩
  | .local _ .vmem, ⟨1, _⟩ => ⟨S1024x640, .bf16⟩
  | .local _ .vmem, ⟨2, _⟩ => ⟨S1024x640, .bf16⟩
  | .local _ .vmem, ⟨3, _⟩ => ⟨S2176x640, .f32⟩
  | .local _ .vmem, ⟨4, _⟩ => ⟨S2176x640, .f32⟩
  | .local _ .vmem, ⟨5, _⟩ => ⟨S2176x640, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 25, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RProjIdeal.lean ====
abbrev S2176x1024 : Shape := ⟨2, ![2176, 1024]⟩
abbrev S1024x16000 : Shape := ⟨2, ![1024, 16000]⟩
abbrev S2176x16000 : Shape := ⟨2, ![2176, 16000]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x16000, .bf16⟩
  | .hbm, ⟨2, _⟩ => ⟨S2176x1024, .f32⟩
  | .hbm, ⟨3, _⟩ => ⟨S1024x16000, .f32⟩
  | .hbm, ⟨4, _⟩ => ⟨S2176x16000, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KDU.lean ====
abbrev S2176x16000 : Shape := ⟨2, ![2176, 16000]⟩
abbrev S1024x16000 : Shape := ⟨2, ![1024, 16000]⟩
abbrev S2176x1024 : Shape := ⟨2, ![2176, 1024]⟩
abbrev S2176x640 : Shape := ⟨2, ![2176, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2176x16000, .bf16⟩
  | .hbm, ⟨1, _⟩ => ⟨S1024x16000, .bf16⟩
  | .hbm, ⟨2, _⟩ => ⟨S2176x1024, .f32⟩
  | .local _ .vmem, ⟨0, _⟩ => ⟨S2176x640, .bf16⟩
  | .local _ .vmem, ⟨1, _⟩ => ⟨S2176x640, .bf16⟩
  | .local _ .vmem, ⟨2, _⟩ => ⟨S1024x640, .bf16⟩
  | .local _ .vmem, ⟨3, _⟩ => ⟨S1024x640, .bf16⟩
  | .local _ .vmem, ⟨4, _⟩ => ⟨S2176x1024, .f32⟩
  | .local _ .vmem, ⟨5, _⟩ => ⟨S2176x1024, .f32⟩
  | _, _ => ⟨S2176x16000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 25], ![false, false, false]⟩

def k0_cond3 (i : grid0.Coords) : BitVec 1 :=
  let arg2 : BitVec 32 := BitVec.ofNat 32 (i 2).val
  let c24_i32 : BitVec 32 := 24#32
  let v9 : BitVec 1 := Scalar.cmpi .eq arg2 c24_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RDUIdeal.lean ====
abbrev S2176x16000 : Shape := ⟨2, ![2176, 16000]⟩
abbrev S1024x16000 : Shape := ⟨2, ![1024, 16000]⟩
abbrev S_ : Shape := ⟨0, ![]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2176x16000, .bf16⟩
  | .hbm, ⟨1, _⟩ => ⟨S1024x16000, .bf16⟩
  | .hbm, ⟨2, _⟩ => ⟨S_, .f32⟩
  | .hbm, ⟨3, _⟩ => ⟨S2176x1024, .f32⟩
  | .hbm, ⟨4, _⟩ => ⟨S1024x16000, .f32⟩
  | .hbm, ⟨5, _⟩ => ⟨S2176x16000, .f32⟩
  | .hbm, ⟨6, _⟩ => ⟨S2176x16000, .f32⟩
  | .hbm, ⟨7, _⟩ => ⟨S2176x1024, .f32⟩
  | _, _ => ⟨S2176x16000, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KBranch.lean ====
abbrev S2176x1024 : Shape := ⟨2, ![2176, 1024]⟩
abbrev S1024x1024 : Shape := ⟨2, ![1024, 1024]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KBranchIdeal.lean ====
abbrev S2176x1024 : Shape := ⟨2, ![2176, 1024]⟩
abbrev S1024x1024 : Shape := ⟨2, ![1024, 1024]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RBranchIdeal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1024x1024, .f32⟩
  | .hbm, ⟨4, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KBranchC.lean ====
abbrev S2176x2048 : Shape := ⟨2, ![2176, 2048]⟩
abbrev S2048x1024 : Shape := ⟨2, ![2048, 1024]⟩
abbrev S2176x1024 : Shape := ⟨2, ![2176, 1024]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2048x1024, .bf16⟩
  | .hbm, ⟨2, _⟩ => ⟨S2176x1024, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RBranchCIdeal.lean ====
abbrev S2176x2048 : Shape := ⟨2, ![2176, 2048]⟩
abbrev S2048x1024 : Shape := ⟨2, ![2048, 1024]⟩
abbrev S2176x1024 : Shape := ⟨2, ![2176, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x1024, .bf16⟩
  | .hbm, ⟨2, _⟩ => ⟨S2176x2048, .f32⟩
  | .hbm, ⟨3, _⟩ => ⟨S2048x1024, .f32⟩
  | .hbm, ⟨4, _⟩ => ⟨S2176x1024, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KGWBranch.lean ====
abbrev S2176x1024 : Shape := ⟨2, ![2176, 1024]⟩
abbrev S1024x1024 : Shape := ⟨2, ![1024, 1024]⟩
abbrev S2176x512 : Shape := ⟨2, ![2176, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KGWBranchIdeal.lean ====
abbrev S2176x1024 : Shape := ⟨2, ![2176, 1024]⟩
abbrev S1024x1024 : Shape := ⟨2, ![1024, 1024]⟩
abbrev S2176x512 : Shape := ⟨2, ![2176, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGWBranchIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KGWBranchC.lean ====
abbrev S2176x2048 : Shape := ⟨2, ![2176, 2048]⟩
abbrev S2176x1024 : Shape := ⟨2, ![2176, 1024]⟩
abbrev S2048x1024 : Shape := ⟨2, ![2048, 1024]⟩
abbrev S2176x512 : Shape := ⟨2, ![2176, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x1024, .bf16⟩
  | .hbm, ⟨2, _⟩ => ⟨S2048x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RGWBranchCIdeal.lean ====
abbrev S2176x2048 : Shape := ⟨2, ![2176, 2048]⟩
abbrev S2176x1024 : Shape := ⟨2, ![2176, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x1024, .bf16⟩
  | .hbm, ⟨2, _⟩ => ⟨S_, .f32⟩
  | .hbm, ⟨3, _⟩ => ⟨S2048x1024, .f32⟩
  | .hbm, ⟨4, _⟩ => ⟨S2176x2048, .f32⟩
  | .hbm, ⟨5, _⟩ => ⟨S2176x1024, .f32⟩
  | .hbm, ⟨6, _⟩ => ⟨S2176x1024, .f32⟩
  | .hbm, ⟨7, _⟩ => ⟨S1024x2048, .f32⟩
  | .hbm, ⟨8, _⟩ => ⟨S2048x1024, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDO.lean ====
abbrev S2176x1024 : Shape := ⟨2, ![2176, 1024]⟩
abbrev S1024x1024 : Shape := ⟨2, ![1024, 1024]⟩
abbrev S512x1024 : Shape := ⟨2, ![512, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KDOIdeal.lean ====
abbrev S2176x1024 : Shape := ⟨2, ![2176, 1024]⟩
abbrev S1024x1024 : Shape := ⟨2, ![1024, 1024]⟩
abbrev S512x1024 : Shape := ⟨2, ![512, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDOIdeal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S_, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | .hbm, ⟨7, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDOC.lean ====
abbrev S2176x1024 : Shape := ⟨2, ![2176, 1024]⟩
abbrev S2048x1024 : Shape := ⟨2, ![2048, 1024]⟩
abbrev S2176x2048 : Shape := ⟨2, ![2176, 2048]⟩
abbrev S512x1024 : Shape := ⟨2, ![512, 1024]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2048x1024, .bf16⟩
  | .hbm, ⟨2, _⟩ => ⟨S2176x2048, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDOCIdeal.lean ====
abbrev S2176x1024 : Shape := ⟨2, ![2176, 1024]⟩
abbrev S2048x1024 : Shape := ⟨2, ![2048, 1024]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2048x1024, .bf16⟩
  | .hbm, ⟨2, _⟩ => ⟨S_, .f32⟩
  | .hbm, ⟨3, _⟩ => ⟨S2176x2048, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x2048, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KOut.lean ====
abbrev S2176x1024 : Shape := ⟨2, ![2176, 1024]⟩
abbrev S1024x1024 : Shape := ⟨2, ![1024, 1024]⟩
abbrev S1024x512 : Shape := ⟨2, ![1024, 512]⟩
abbrev S2176x512 : Shape := ⟨2, ![2176, 512]⟩

abbrev nBuf : Space → Nat
  | .hbm => 4
  | .vmem => 8
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S2176x1024, .f32⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ROutIdeal.lean ====
abbrev S2176x1024 : Shape := ⟨2, ![2176, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KMerge.lean ====
abbrev S2176x1024 : Shape := ⟨2, ![2176, 1024]⟩
abbrev S2176x16000 : Shape := ⟨2, ![2176, 16000]⟩
abbrev S544x512 : Shape := ⟨2, ![544, 512]⟩

abbrev nBuf : Space → Nat
  | .hbm => 11
  | .vmem => 26
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x16000, .f32⟩
  | .hbm, ⟨4, _⟩ => ⟨S2176x1024, .f32⟩
  | .hbm, ⟨5, _⟩ => ⟨S2176x1024, .bf16⟩
  | .hbm, ⟨6, _⟩ => ⟨S2176x1024, .bf16⟩
  | .hbm, ⟨7, _⟩ => ⟨S2176x1024, .bf16⟩
  | .hbm, ⟨8, _⟩ => ⟨S2176x1024, .bf16⟩
  | .hbm, ⟨9, _⟩ => ⟨S2176x1024, .bf16⟩
  | .hbm, ⟨10, _⟩ => ⟨S2176x1024, .bf16⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .bf16⟩
  | .local _ .vmem, ⟨15, _⟩ => ⟨S544x512, .bf16⟩
  | .local _ .vmem, ⟨16, _⟩ => ⟨S544x512, .bf16⟩
  | .local _ .vmem, ⟨17, _⟩ => ⟨S544x512, .bf16⟩
  | .local _ .vmem, ⟨18, _⟩ => ⟨S544x512, .bf16⟩
  | .local _ .vmem, ⟨19, _⟩ => ⟨S544x512, .bf16⟩
  | .local _ .vmem, ⟨20, _⟩ => ⟨S544x512, .bf16⟩
  | .local _ .vmem, ⟨21, _⟩ => ⟨S544x512, .bf16⟩
  | .local _ .vmem, ⟨22, _⟩ => ⟨S544x512, .bf16⟩
  | .local _ .vmem, ⟨23, _⟩ => ⟨S544x512, .bf16⟩
  | .local _ .vmem, ⟨24, _⟩ => ⟨S544x512, .bf16⟩
  | .local _ .vmem, ⟨25, _⟩ => ⟨S544x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S544x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S544x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RMergeIdeal.lean ====
abbrev S2176x1024 : Shape := ⟨2, ![2176, 1024]⟩
abbrev S2176x16000 : Shape := ⟨2, ![2176, 16000]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x16000, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S2176x1024, .f32⟩
  | .hbm, ⟨9, _⟩ => ⟨S2176x1024, .f32⟩
  | .hbm, ⟨10, _⟩ => ⟨S_, .f32⟩
  | .hbm, ⟨11, _⟩ => ⟨S2176x1024, .f32⟩
  | .hbm, ⟨12, _⟩ => ⟨S2176x1024, .f32⟩
  | .hbm, ⟨13, _⟩ => ⟨S_, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176x1024, .f32⟩
  | .hbm, ⟨25, _⟩ => ⟨S2176x1024, .f32⟩
  | .hbm, ⟨26, _⟩ => ⟨S_, .f32⟩
  | .hbm, ⟨27, _⟩ => ⟨S2176x1024, .f32⟩
  | .hbm, ⟨28, _⟩ => ⟨S2176x1024, .f32⟩
  | .hbm, ⟨29, _⟩ => ⟨S_, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1024, .f32⟩
  | .hbm, ⟨37, _⟩ => ⟨S_, .f32⟩
  | .hbm, ⟨38, _⟩ => ⟨S2176x1024, .f32⟩
  | .hbm, ⟨39, _⟩ => ⟨S2176x1024, .f32⟩
  | .hbm, ⟨40, _⟩ => ⟨S_, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1024, .bf16⟩
  | .hbm, ⟨61, _⟩ => ⟨S2176x1024, .bf16⟩
  | .hbm, ⟨62, _⟩ => ⟨S2176x1024, .bf16⟩
  | .hbm, ⟨63, _⟩ => ⟨S2176x1024, .bf16⟩
  | .hbm, ⟨64, _⟩ => ⟨S2176x1024, .bf16⟩
  | .hbm, ⟨65, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== KGateA.lean ====
abbrev S2176x1024 : Shape := ⟨2, ![2176, 1024]⟩
abbrev S2176x16000 : Shape := ⟨2, ![2176, 16000]⟩
abbrev S544x1024 : Shape := ⟨2, ![544, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S2176x1024, .f32⟩
  | .hbm, ⟨3, _⟩ => ⟨S2176x1024, .f32⟩
  | .hbm, ⟨4, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RGateAIdeal.lean ====
abbrev S2176x1024 : Shape := ⟨2, ![2176, 1024]⟩
abbrev S2176x16000 : Shape := ⟨2, ![2176, 16000]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S_, .f32⟩
  | .hbm, ⟨7, _⟩ => ⟨S2176x1024, .f32⟩
  | .hbm, ⟨8, _⟩ => ⟨S2176x1024, .f32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== KRms.lean ====
abbrev S2176x1024 : Shape := ⟨2, ![2176, 1024]⟩
abbrev S1024 : Shape := ⟨1, ![1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 7
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S2176x1024, .f32⟩
  | .hbm, ⟨6, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v43 : BitVec 32 := Scalar.extui v42
  let c0_i32_17 : BitVec 32 := 0#32
  let v44 : BitVec 1 := Scalar.cmpi .ne v43 c0_i32_17
  v44

def k0_cond2 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v_true : BitVec 1 := 1#1
  let v45 : BitVec 1 := Scalar.xori v42 v_true
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RRmsIdeal.lean ====
abbrev S2176x1024 : Shape := ⟨2, ![2176, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S1x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S1024, .f32⟩
  | .hbm, ⟨32, _⟩ => ⟨S2176x1024, .f32⟩
  | .hbm, ⟨33, _⟩ => ⟨S_, .f32⟩
  | .hbm, ⟨34, _⟩ => ⟨S2176, .f32⟩
  | .hbm, ⟨35, _⟩ => ⟨S2176x1, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1, .f32⟩
  | .hbm, ⟨40, _⟩ => ⟨S_, .f32⟩
  | .hbm, ⟨41, _⟩ => ⟨S2176x1, .f32⟩
  | .hbm, ⟨42, _⟩ => ⟨S2176x1, .f32⟩
  | .hbm, ⟨43, _⟩ => ⟨S_, .f32⟩
  | .hbm, ⟨44, _⟩ => ⟨S2176, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KGateB.lean ====
abbrev S2176x1024 : Shape := ⟨2, ![2176, 1024]⟩
abbrev S2176x16000 : Shape := ⟨2, ![2176, 16000]⟩
abbrev S128 : Shape := ⟨1, ![128]⟩
abbrev S1x128 : Shape := ⟨2, ![1, 128]⟩
abbrev S544x1024 : Shape := ⟨2, ![544, 1024]⟩
abbrev S544x128 : Shape := ⟨2, ![544, 128]⟩
abbrev S544 : Shape := ⟨1, ![544]⟩
abbrev S544x1 : Shape := ⟨2, ![544, 1]⟩
abbrev S544x896 : Shape := ⟨2, ![544, 896]⟩
abbrev S544x768 : Shape := ⟨2, ![544, 768]⟩
abbrev S544x640 : Shape := ⟨2, ![544, 640]⟩
abbrev S544x256 : Shape := ⟨2, ![544, 256]⟩
abbrev S544x512 : Shape := ⟨2, ![544, 512]⟩
abbrev S544x384 : Shape := ⟨2, ![544, 384]⟩

abbrev nBuf : Space → Nat
  | .hbm => 8
  | .vmem => 12
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S128, .f32⟩
  | .hbm, ⟨3, _⟩ => ⟨S2176x1024, .f32⟩
  | .hbm, ⟨4, _⟩ => ⟨S1x128, .f32⟩
  | .hbm, ⟨5, _⟩ => ⟨S2176x1024, .f32⟩
  | .hbm, ⟨6, _⟩ => ⟨S2176x1024, .bf16⟩
  | .hbm, ⟨7, _⟩ => ⟨S1x128, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x128, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .bf16⟩
  | .local _ .vmem, ⟨10, _⟩ => ⟨S544x1024, .bf16⟩
  | .local _ .vmem, ⟨11, _⟩ => ⟨S1x128, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v358 : BitVec 1 := Scalar.cmpi .eq arg1 c0_i32
  let arg0 : BitVec 32 := BitVec.ofNat 32 (i 0).val
  let c0_i32_83 : BitVec 32 := 0#32
  let v359 : BitVec 1 := Scalar.cmpi .eq arg0 c0_i32_83
  let v360 : BitVec 1 := Scalar.andi v358 v359
  let v361 : BitVec 32 := Scalar.extui v360
  let c0_i32_84 : BitVec 32 := 0#32
  let v362 : BitVec 1 := Scalar.cmpi .ne v361 c0_i32_84
  v362

def k0_cond2 (i : grid0.Coords) : BitVec 1 :=
  let arg1 : BitVec 32 := BitVec.ofNat 32 (i 1).val
  let c0_i32 : BitVec 32 := 0#32
  let v358 : BitVec 1 := Scalar.cmpi .eq arg1 c0_i32
  let arg0 : BitVec 32 := BitVec.ofNat 32 (i 0).val
  let c0_i32_83 : BitVec 32 := 0#32
  let v359 : BitVec 1 := Scalar.cmpi .eq arg0 c0_i32_83
  let v360 : BitVec 1 := Scalar.andi v358 v359
  let v_true : BitVec 1 := 1#1
  let v363 : BitVec 1 := Scalar.xori v360 v_true
  let v364 : BitVec 32 := Scalar.extui v363
  let c0_i32_85 : BitVec 32 := 0#32
  let v365 : BitVec 1 := Scalar.cmpi .ne v364 c0_i32_85
  v365

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RGateBIdeal.lean ====
abbrev S2176x1024 : Shape := ⟨2, ![2176, 1024]⟩
abbrev S2176x16000 : Shape := ⟨2, ![2176, 16000]⟩
abbrev S128 : Shape := ⟨1, ![128]⟩
abbrev S2176x8x128 : Shape := ⟨3, ![2176, 8, 128]⟩
abbrev S_ : Shape := ⟨0, ![]⟩
abbrev S2176x8 : Shape := ⟨2, ![2176, 8]⟩
abbrev S2176x8x1 : Shape := ⟨3, ![2176, 8, 1]⟩
abbrev S1x1x128 : Shape := ⟨3, ![1, 1, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S128, .f32⟩
  | .hbm, ⟨3, _⟩ => ⟨S2176x1024, .f32⟩
  | .hbm, ⟨4, _⟩ => ⟨S2176x1024, .f32⟩
  | .hbm, ⟨5, _⟩ => ⟨S2176x8x128, .f32⟩
  | .hbm, ⟨6, _⟩ => ⟨S2176x8x128, .f32⟩
  | .hbm, ⟨7, _⟩ => ⟨S_, .f32⟩
  | .hbm, ⟨8, _⟩ => ⟨S2176x8, .f32⟩
  | .hbm, ⟨9, _⟩ => ⟨S2176x8x1, .f32⟩
  | .hbm, ⟨10, _⟩ => ⟨S_, .f32⟩
  | .hbm, ⟨11, _⟩ => ⟨S2176x8x1, .f32⟩
  | .hbm, ⟨12, _⟩ => ⟨S2176x8x1, .f32⟩
  | .hbm, ⟨13, _⟩ => ⟨S_, .f32⟩
  | .hbm, ⟨14, _⟩ => ⟨S2176x8x1, .f32⟩
  | .hbm, ⟨15, _⟩ => ⟨S2176x8x1, .f32⟩
  | .hbm, ⟨16, _⟩ => ⟨S2176x8x1, .f32⟩
  | .hbm, ⟨17, _⟩ => ⟨S2176x8x1, .f32⟩
  | .hbm, ⟨18, _⟩ => ⟨S_, .f32⟩
  | .hbm, ⟨19, _⟩ => ⟨S2176x8x1, .f32⟩
  | .hbm, ⟨20, _⟩ => ⟨S2176x8x1, .f32⟩
  | .hbm, ⟨21, _⟩ => ⟨S2176x8x128, .f32⟩
  | .hbm, ⟨22, _⟩ => ⟨S2176x8x128, .f32⟩
  | .hbm, ⟨23, _⟩ => ⟨S1x1x128, .f32⟩
  | .hbm, ⟨24, _⟩ => ⟨S2176x8x128, .f32⟩
  | .hbm, ⟨25, _⟩ => ⟨S2176x8x128, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S_, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x8x128, .f32⟩
  | .hbm, ⟨48, _⟩ => ⟨S2176x8x128, .f32⟩
  | .hbm, ⟨49, _⟩ => ⟨S_, .f32⟩
  | .hbm, ⟨50, _⟩ => ⟨S128, .f32⟩
  | .hbm, ⟨51, _⟩ => ⟨S1x1x128, .f32⟩
  | .hbm, ⟨52, _⟩ => ⟨S2176x8x128, .f32⟩
  | .hbm, ⟨53, _⟩ => ⟨S2176x8x128, .f32⟩
  | .hbm, ⟨54, _⟩ => ⟨S_, .f32⟩
  | .hbm, ⟨55, _⟩ => ⟨S128, .f32⟩
  | .hbm, ⟨56, _⟩ => ⟨S2176x8x128, .f32⟩
  | .hbm, ⟨57, _⟩ => ⟨S_, .f32⟩
  | .hbm, ⟨58, _⟩ => ⟨S2176x8, .f32⟩
  | .hbm, ⟨59, _⟩ => ⟨S2176x8x1, .f32⟩
  | .hbm, ⟨60, _⟩ => ⟨S2176x8x128, .f32⟩
  | .hbm, ⟨61, _⟩ => ⟨S2176x8x128, .f32⟩
  | .hbm, ⟨62, _⟩ => ⟨S2176x8x1, .f32⟩
  | .hbm, ⟨63, _⟩ => ⟨S_, .f32⟩
  | .hbm, ⟨64, _⟩ => ⟨S2176x8x1, .f32⟩
  | .hbm, ⟨65, _⟩ => ⟨S2176x8x1, .f32⟩
  | .hbm, ⟨66, _⟩ => ⟨S_, .f32⟩
  | .hbm, ⟨67, _⟩ => ⟨S2176x8, .f32⟩
  | .hbm, ⟨68, _⟩ => ⟨S2176x8x128, .f32⟩
  | .hbm, ⟨69, _⟩ => ⟨S2176x8x128, .f32⟩
  | .hbm, ⟨70, _⟩ => ⟨S2176x8x128, .f32⟩
  | .hbm, ⟨71, _⟩ => ⟨S2176x8x128, .f32⟩
  | .hbm, ⟨72, _⟩ => ⟨S2176x8x128, .f32⟩
  | .hbm, ⟨73, _⟩ => ⟨S2176x1024, .f32⟩
  | .hbm, ⟨74, _⟩ => ⟨S2176x1024, .bf16⟩
  | .hbm, ⟨75, _⟩ => ⟨S1x128, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== KGateC.lean ====
abbrev S2176x2048 : Shape := ⟨2, ![2176, 2048]⟩
abbrev S2176x2560 : Shape := ⟨2, ![2176, 2560]⟩
abbrev S2176x16000 : Shape := ⟨2, ![2176, 16000]⟩
abbrev S2048 : Shape := ⟨1, ![2048]⟩
abbrev S1x2048 : Shape := ⟨2, ![1, 2048]⟩
abbrev S544x1024 : Shape := ⟨2, ![544, 1024]⟩
abbrev S1x1024 : Shape := ⟨2, ![1, 1024]⟩
abbrev S544 : Shape := ⟨1, ![544]⟩
abbrev S544x1 : Shape := ⟨2, ![544, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S2176x2048, .f32⟩
  | .hbm, ⟨1, _⟩ => ⟨S2176x2560, .f32⟩
  | .hbm, ⟨2, _⟩ => ⟨S2176x16000, .f32⟩
  | .hbm, ⟨3, _⟩ => ⟨S2048, .f32⟩
  | .hbm, ⟨4, _⟩ => ⟨S2048, .f32⟩
  | .hbm, ⟨5, _⟩ => ⟨S2176x2048, .f32⟩
  | .hbm, ⟨6, _⟩ => ⟨S1x2048, .f32⟩
  | .hbm, ⟨7, _⟩ => ⟨S1x2048, .f32⟩
  | .hbm, ⟨8, _⟩ => ⟨S2176x2048, .f32⟩
  | .hbm, ⟨9, _⟩ => ⟨S2176x2048, .f32⟩
  | .hbm, ⟨10, _⟩ => ⟨S2176x2048, .bf16⟩
  | .hbm, ⟨11, _⟩ => ⟨S1x2048, .f32⟩
  | .hbm, ⟨12, _⟩ => ⟨S1x2048, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_26 : BitVec 32 := 0#32
  let v67 : BitVec 1 := Scalar.cmpi .ne v66 c0_i32_26
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_27 : BitVec 32 := 0#32
  let v70 : BitVec 1 := Scalar.cmpi .ne v69 c0_i32_27
  v70

def k0_cond3 (i : grid0.Coords) : BitVec 1 :=
  let arg1 : BitVec 32 := BitVec.ofNat 32 (i 1).val
  let c0_i32_28 : BitVec 32 := 0#32
  let v71 : BitVec 1 := Scalar.cmpi .eq arg1 c0_i32_28
  let v72 : BitVec 32 := Scalar.extui v71
  let c0_i32_29 : BitVec 32 := 0#32
  let v73 : BitVec 1 := Scalar.cmpi .ne v72 c0_i32_29
  v73

def k0_cond4 (i : grid0.Coords) : BitVec 1 :=
  let arg1 : BitVec 32 := BitVec.ofNat 32 (i 1).val
  let c0_i32_28 : BitVec 32 := 0#32
  let v71 : BitVec 1 := Scalar.cmpi .eq arg1 c0_i32_28
  let true_30 : BitVec 1 := 1#1
  let v74 : BitVec 1 := Scalar.xori v71 true_30
  let v75 : BitVec 32 := Scalar.extui v74
  let c0_i32_31 : BitVec 32 := 0#32
  let v76 : BitVec 1 := Scalar.cmpi .ne v75 c0_i32_31
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RGateCIdeal.lean ====
abbrev S2176x2048 : Shape := ⟨2, ![2176, 2048]⟩
abbrev S2176x2560 : Shape := ⟨2, ![2176, 2560]⟩
abbrev S2176x16000 : Shape := ⟨2, ![2176, 16000]⟩
abbrev S2048 : Shape := ⟨1, ![2048]⟩
abbrev S1x2048 : Shape := ⟨2, ![1, 2048]⟩
abbrev S_ : Shape := ⟨0, ![]⟩
abbrev S2176x2x1024 : Shape := ⟨3, ![2176, 2, 1024]⟩
abbrev S2x1024 : Shape := ⟨2, ![2, 1024]⟩
abbrev S2176x2 : Shape := ⟨2, ![2176, 2]⟩
abbrev S2176x2x1 : Shape := ⟨3, ![2176, 2, 1]⟩
abbrev S1x2x1024 : Shape := ⟨3, ![1, 2, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2560, .f32⟩
  | .hbm, ⟨2, _⟩ => ⟨S2176x16000, .f32⟩
  | .hbm, ⟨3, _⟩ => ⟨S2048, .f32⟩
  | .hbm, ⟨4, _⟩ => ⟨S2048, .f32⟩
  | .hbm, ⟨5, _⟩ => ⟨S2176x2048, .f32⟩
  | .hbm, ⟨6, _⟩ => ⟨S2176x2048, .f32⟩
  | .hbm, ⟨7, _⟩ => ⟨S2176x2048, .f32⟩
  | .hbm, ⟨8, _⟩ => ⟨S1x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S2176x2048, .f32⟩
  | .hbm, ⟨13, _⟩ => ⟨S2176x2048, .f32⟩
  | .hbm, ⟨14, _⟩ => ⟨S_, .f32⟩
  | .hbm, ⟨15, _⟩ => ⟨S2176x2048, .f32⟩
  | .hbm, ⟨16, _⟩ => ⟨S2176x2048, .f32⟩
  | .hbm, ⟨17, _⟩ => ⟨S_, .f32⟩
  | .hbm, ⟨18, _⟩ => ⟨S2176x2048, .f32⟩
  | .hbm, ⟨19, _⟩ => ⟨S2176x2048, .f32⟩
  | .hbm, ⟨20, _⟩ => ⟨S_, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x2x1024, .f32⟩
  | .hbm, ⟨27, _⟩ => ⟨S2x1024, .f32⟩
  | .hbm, ⟨28, _⟩ => ⟨S2176x2x1024, .f32⟩
  | .hbm, ⟨29, _⟩ => ⟨S_, .f32⟩
  | .hbm, ⟨30, _⟩ => ⟨S2176x2, .f32⟩
  | .hbm, ⟨31, _⟩ => ⟨S2176x2x1, .f32⟩
  | .hbm, ⟨32, _⟩ => ⟨S_, .f32⟩
  | .hbm, ⟨33, _⟩ => ⟨S2176x2x1, .f32⟩
  | .hbm, ⟨34, _⟩ => ⟨S2176x2x1, .f32⟩
  | .hbm, ⟨35, _⟩ => ⟨S_, .f32⟩
  | .hbm, ⟨36, _⟩ => ⟨S2176x2x1, .f32⟩
  | .hbm, ⟨37, _⟩ => ⟨S2176x2x1, .f32⟩
  | .hbm, ⟨38, _⟩ => ⟨S2176x2x1, .f32⟩
  | .hbm, ⟨39, _⟩ => ⟨S2176x2x1, .f32⟩
  | .hbm, ⟨40, _⟩ => ⟨S_, .f32⟩
  | .hbm, ⟨41, _⟩ => ⟨S2176x2x1, .f32⟩
  | .hbm, ⟨42, _⟩ => ⟨S2176x2x1, .f32⟩
  | .hbm, ⟨43, _⟩ => ⟨S2176x2x1024, .f32⟩
  | .hbm, ⟨44, _⟩ => ⟨S2176x2x1024, .f32⟩
  | .hbm, ⟨45, _⟩ => ⟨S1x2x1024, .f32⟩
  | .hbm, ⟨46, _⟩ => ⟨S2176x2x1024, .f32⟩
  | .hbm, ⟨47, _⟩ => ⟨S2176x2x1024, .f32⟩
  | .hbm, ⟨48, _⟩ => ⟨S2176x2048, .f32⟩
  | .hbm, ⟨49, _⟩ => ⟨S2176x2x1024, .f32⟩
  | .hbm, ⟨50, _⟩ => ⟨S2176x2x1024, .f32⟩
  | .hbm, ⟨51, _⟩ => ⟨S_, .f32⟩
  | .hbm, ⟨52, _⟩ => ⟨S2x1024, .f32⟩
  | .hbm, ⟨53, _⟩ => ⟨S1x2x1024, .f32⟩
  | .hbm, ⟨54, _⟩ => ⟨S2176x2x1024, .f32⟩
  | .hbm, ⟨55, _⟩ => ⟨S2176x2x1024, .f32⟩
  | .hbm, ⟨56, _⟩ => ⟨S_, .f32⟩
  | .hbm, ⟨57, _⟩ => ⟨S2x1024, .f32⟩
  | .hbm, ⟨58, _⟩ => ⟨S2176x2x1024, .f32⟩
  | .hbm, ⟨59, _⟩ => ⟨S_, .f32⟩
  | .hbm, ⟨60, _⟩ => ⟨S2176x2, .f32⟩
  | .hbm, ⟨61, _⟩ => ⟨S2176x2x1, .f32⟩
  | .hbm, ⟨62, _⟩ => ⟨S2176x2x1024, .f32⟩
  | .hbm, ⟨63, _⟩ => ⟨S2176x2x1024, .f32⟩
  | .hbm, ⟨64, _⟩ => ⟨S2176x2x1, .f32⟩
  | .hbm, ⟨65, _⟩ => ⟨S_, .f32⟩
  | .hbm, ⟨66, _⟩ => ⟨S2176x2x1, .f32⟩
  | .hbm, ⟨67, _⟩ => ⟨S2176x2x1, .f32⟩
  | .hbm, ⟨68, _⟩ => ⟨S_, .f32⟩
  | .hbm, ⟨69, _⟩ => ⟨S2176x2, .f32⟩
  | .hbm, ⟨70, _⟩ => ⟨S2176x2x1024, .f32⟩
  | .hbm, ⟨71, _⟩ => ⟨S2176x2x1024, .f32⟩
  | .hbm, ⟨72, _⟩ => ⟨S2176x2x1024, .f32⟩
  | .hbm, ⟨73, _⟩ => ⟨S2176x2x1024, .f32⟩
  | .hbm, ⟨74, _⟩ => ⟨S2176x2x1024, .f32⟩
  | .hbm, ⟨75, _⟩ => ⟨S2048, .f32⟩
  | .hbm, ⟨76, _⟩ => ⟨S2176x2048, .f32⟩
  | .hbm, ⟨77, _⟩ => ⟨S2176x2048, .f32⟩
  | .hbm, ⟨78, _⟩ => ⟨S2176x2048, .f32⟩
  | .hbm, ⟨79, _⟩ => ⟨S2176x2048, .f32⟩
  | .hbm, ⟨80, _⟩ => ⟨S2176x2048, .f32⟩
  | .hbm, ⟨81, _⟩ => ⟨S2176x2048, .f32⟩
  | .hbm, ⟨82, _⟩ => ⟨S2176x2048, .f32⟩
  | .hbm, ⟨83, _⟩ => ⟨S2176x2048, .f32⟩
  | .hbm, ⟨84, _⟩ => ⟨S2176x2048, .f32⟩
  | .hbm, ⟨85, _⟩ => ⟨S2176x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S_, .f32⟩
  | .hbm, ⟨90, _⟩ => ⟨S2048, .f32⟩
  | .hbm, ⟨91, _⟩ => ⟨S2176x2048, .bf16⟩
  | .hbm, ⟨92, _⟩ => ⟨S1x2048, .f32⟩
  | .hbm, ⟨93, _⟩ => ⟨S1x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== KConvC.lean ====
abbrev S2064x16000 : Shape := ⟨2, ![2064, 16000]⟩
abbrev S4x2560 : Shape := ⟨2, ![4, 2560]⟩
abbrev S2560 : Shape := ⟨1, ![2560]⟩
abbrev S2176x2560 : Shape := ⟨2, ![2176, 2560]⟩
abbrev S_ : Shape := ⟨0, ![]⟩
abbrev S2176x16000 : Shape := ⟨2, ![2176, 16000]⟩
abbrev S1x2560 : Shape := ⟨2, ![1, 2560]⟩
abbrev S2176x128 : Shape := ⟨2, ![2176, 128]⟩
abbrev S4x128 : Shape := ⟨2, ![4, 128]⟩
abbrev S1x128 : Shape := ⟨2, ![1, 128]⟩
abbrev S2176x1 : Shape := ⟨2, ![2176, 1]⟩
abbrev S2176 : Shape := ⟨1, ![2176]⟩
abbrev S128 : Shape := ⟨1, ![128]⟩

abbrev nBuf : Space → Nat
  | .hbm => 11
  | .vmem => 14
  | .smem => 0
  | _ => 0

abbrev bufTy : (tb : Table) → Fin (tcTables nBuf tb) → BufTy
  | .hbm, ⟨0, _⟩ => ⟨S2064x16000, .f32⟩
  | .hbm, ⟨1, _⟩ => ⟨S4x2560, .f32⟩
  | .hbm, ⟨2, _⟩ => ⟨S2560, .f32⟩
  | .hbm, ⟨3, _⟩ => ⟨S2176x2560, .f32⟩
  | .hbm, ⟨4, _⟩ => ⟨S_, .i32⟩
  | .hbm, ⟨5, _⟩ => ⟨S_, .f32⟩
  | .hbm, ⟨6, _⟩ => ⟨S2176x16000, .f32⟩
  | .hbm, ⟨7, _⟩ => ⟨S1x2560, .f32⟩
  | .hbm, ⟨8, _⟩ => ⟨S2176x2560, .bf16⟩
  | .hbm, ⟨9, _⟩ => ⟨S4x2560, .f32⟩
  | .hbm, ⟨10, _⟩ => ⟨S1x2560, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | .local _ .vmem, ⟨8, _⟩ => ⟨S2176x128, .bf16⟩
  | .local _ .vmem, ⟨9, _⟩ => ⟨S2176x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S2064x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RConvCIdeal.lean ====
abbrev S2064x16000 : Shape := ⟨2, ![2064, 16000]⟩
abbrev S4x2560 : Shape := ⟨2, ![4, 2560]⟩
abbrev S2560 : Shape := ⟨1, ![2560]⟩
abbrev S2176x2560 : Shape := ⟨2, ![2176, 2560]⟩
abbrev S2064x2560 : Shape := ⟨2, ![2064, 2560]⟩
abbrev S_ : Shape := ⟨0, ![]⟩
abbrev S3x2560 : Shape := ⟨2, ![3, 2560]⟩
abbrev S2067x2560 : Shape := ⟨2, ![2067, 2560]⟩
abbrev S1x2560 : Shape := ⟨2, ![1, 2560]⟩

abbrev nBuf : Space → Nat
  | .hbm => 131
  | .vmem => 0
  | .smem => 0
  | _ => 0

abbrev hbmTy0_0 (i : Nat) : BufTy := match i % 128 with
  | 0 => ⟨S2064x16000, .f32⟩
  | 1 => ⟨S4x2560, .f32⟩
  | 2 => ⟨S2560, .f32⟩
  | 3 => ⟨S2176x2560, .f32⟩
  | 4 => ⟨S2064x2560, .f32⟩
  | 5 => ⟨S_, .f32⟩
  | 6 => ⟨S3x2560, .f32⟩
  | 7 => ⟨S2067x2560, .f32⟩
  | 8 => ⟨S_, .f32⟩
  | 9 => ⟨S3x2560, .f32⟩
  | 10 => ⟨S1x2560, .f32⟩
  | 11 => ⟨S2560, .f32⟩
  | 12 => ⟨S2064x2560, .f32⟩
  | 13 => ⟨S1x2560, .f32⟩
  | 14 => ⟨S2064x2560, .f32⟩
  | 15 => ⟨S2064x2560, .f32⟩
  | 16 => ⟨S_, .f32⟩
  | 17 => ⟨S2064x2560, .f32⟩
  | 18 => ⟨S2064x2560, .f32⟩
  | 19 => ⟨S1x2560, .f32⟩
  | 20 => ⟨S2560, .f32⟩
  | 21 => ⟨S2064x2560, .f32⟩
  | 22 => ⟨S1x2560, .f32⟩
  | 23 => ⟨S2064x2560, .f32⟩
  | 24 => ⟨S2064x2560, .f32⟩
  | 25 => ⟨S2064x2560, .f32⟩
  | 26 => ⟨S1x2560, .f32⟩
  | 27 => ⟨S2560, .f32⟩
  | 28 => ⟨S2064x2560, .f32⟩
  | 29 => ⟨S1x2560, .f32⟩
  | 30 => ⟨S2064x2560, .f32⟩
  | 31 => ⟨S2064x2560, .f32⟩
  | 32 => ⟨S2064x2560, .f32⟩
  | 33 => ⟨S1x2560, .f32⟩
  | 34 => ⟨S2560, .f32⟩
  | 35 => ⟨S2064x2560, .f32⟩
  | 36 => ⟨S1x2560, .f32⟩
  | 37 => ⟨S2064x2560, .f32⟩
  | 38 => ⟨S2064x2560, .f32⟩
  | 39 => ⟨S2064x2560, .f32⟩
  | 40 => ⟨S1x2560, .f32⟩
  | 41 => ⟨S2064x2560, .f32⟩
  | 42 => ⟨S2064x2560, .f32⟩
  | 43 => ⟨S2064x2560, .f32⟩
  | 44 => ⟨S2064x2560, .f32⟩
  | 45 => ⟨S_, .f32⟩
  | 46 => ⟨S2064x2560, .f32⟩
  | 47 => ⟨S2064x2560, .f32⟩
  | 48 => ⟨S_, .f32⟩
  | 49 => ⟨S2064x2560, .f32⟩
  | 50 => ⟨S2064x2560, .f32⟩
  | 51 => ⟨S_, .f32⟩
  | 52 => ⟨S2064x2560, .f32⟩
  | 53 => ⟨S2064x2560, .f32⟩
  | 54 => ⟨S2064x2560, .f32⟩
  | 55 => ⟨S2064x2560, .f32⟩
  | 56 => ⟨S2064x2560, .f32⟩
  | 57 => ⟨S2064x2560, .f32⟩
  | 58 => ⟨S2064x2560, .f32⟩
  | 59 => ⟨S2064x2560, .f32⟩
  | 60 => ⟨S2064x2560, .f32⟩
  | 61 => ⟨S_, .f32⟩
  | 62 => ⟨S2560, .f32⟩
  | 63 => ⟨S1x2560, .f32⟩
  | 64 => ⟨S_, .f32⟩
  | 65 => ⟨S2560, .f32⟩
  | 66 => ⟨S2064x2560, .f32⟩
  | 67 => ⟨S2064x2560, .f32⟩
  | 68 => ⟨S2064x2560, .f32⟩
  | 69 => ⟨S_, .f32⟩
  | 70 => ⟨S2560, .f32⟩
  | 71 => ⟨S1x2560, .f32⟩
  | 72 => ⟨S_, .f32⟩
  | 73 => ⟨S2560, .f32⟩
  | 74 => ⟨S_, .f32⟩
  | 75 => ⟨S2067x2560, .f32⟩
  | 76 => ⟨S1x2560, .f32⟩
  | 77 => ⟨S_, .f32⟩
  | 78 => ⟨S4x2560, .f32⟩
  | 79 => ⟨S2064x2560, .f32⟩
  | 80 => ⟨S2064x2560, .f32⟩
  | 81 => ⟨S2064x2560, .f32⟩
  | 82 => ⟨S_, .f32⟩
  | 83 => ⟨S2560, .f32⟩
  | 84 => ⟨S1x2560, .f32⟩
  | 85 => ⟨S_, .f32⟩
  | 86 => ⟨S2560, .f32⟩
  | 87 => ⟨S_, .f32⟩
  | 88 => ⟨S2067x2560, .f32⟩
  | 89 => ⟨S2067x2560, .f32⟩
  | 90 => ⟨S1x2560, .f32⟩
  | 91 => ⟨S_, .f32⟩
  | 92 => ⟨S4x2560, .f32⟩
  | 93 => ⟨S4x2560, .f32⟩
  | 94 => ⟨S2064x2560, .f32⟩
  | 95 => ⟨S2064x2560, .f32⟩
  | 96 => ⟨S2064x2560, .f32⟩
  | 97 => ⟨S_, .f32⟩
  | 98 => ⟨S2560, .f32⟩
  | 99 => ⟨S1x2560, .f32⟩
  | 100 => ⟨S_, .f32⟩
  | 101 => ⟨S2560, .f32⟩
  | 102 => ⟨S_, .f32⟩
  | 103 => ⟨S2067x2560, .f32⟩
  | 104 => ⟨S2067x2560, .f32⟩
  | 105 => ⟨S1x2560, .f32⟩
  | 106 => ⟨S_, .f32⟩
  | 107 => ⟨S4x2560, .f32⟩
  | 108 => ⟨S4x2560, .f32⟩
  | 109 => ⟨S2064x2560, .f32⟩
  | 110 => ⟨S2064x2560, .f32⟩
  | 111 => ⟨S2064x2560, .f32⟩
  | 112 => ⟨S_, .f32⟩
  | 113 => ⟨S2560, .f32⟩
  | 114 => ⟨S1x2560, .f32⟩
  | 115 => ⟨S_, .f32⟩
  | 116 => ⟨S2560, .f32⟩
  | 117 => ⟨S_, .f32⟩
  | 118 => ⟨S2067x2560, .f32⟩
  | 119 => ⟨S2067x2560, .f32⟩
  | 120 => ⟨S1x2560, .f32⟩
  | 121 => ⟨S_, .f32⟩
  | 122 => ⟨S4x2560, .f32⟩
  | 123 => ⟨S4x2560, .f32⟩
  | 124 => ⟨S3x2560, .f32⟩
  | 125 => ⟨S2064x2560, .f32⟩
  | 126 => ⟨S_, .i32⟩
  | 127 => ⟨S_, .f32⟩
  | _ => ⟨S2064x16000, .f32⟩

abbrev hbmTy0_1 (i : Nat) : BufTy := match i % 128 with
  | 0 => ⟨S2176x2560, .f32⟩
  | 1 => ⟨S2176x2560, .bf16⟩
  | 2 => ⟨S1x2560, .f32⟩
  | _ => ⟨S2064x16000, .f32⟩

abbrev hbmTy (i : Nat) : BufTy := match i / 128 with
  | 0 => hbmTy0_0 i
  | 1 => hbmTy0_1 i
  | _ => ⟨S2064x16000, .f32⟩

abbrev bufTy : (tb : Table) → Fin (tcTables nBuf tb) → BufTy
  | .hbm, ⟨i, _⟩ => hbmTy i
  | _, _ => ⟨S2064x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c : Ref sig .tc := ⟨.hbm, 126, rfl⟩
abbrev main_call2_v0 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]
-- ==== KConvB.lean ====
abbrev S2064x16000 : Shape := ⟨2, ![2064, 16000]⟩
abbrev S4x3072 : Shape := ⟨2, ![4, 3072]⟩
abbrev S2176x3072 : Shape := ⟨2, ![2176, 3072]⟩
abbrev S_ : Shape := ⟨0, ![]⟩
abbrev S2176x16000 : Shape := ⟨2, ![2176, 16000]⟩
abbrev S1x3072 : Shape := ⟨2, ![1, 3072]⟩
abbrev S2176x128 : Shape := ⟨2, ![2176, 128]⟩
abbrev S4x128 : Shape := ⟨2, ![4, 128]⟩
abbrev S1x128 : Shape := ⟨2, ![1, 128]⟩
abbrev S2176x1 : Shape := ⟨2, ![2176, 1]⟩
abbrev S2176 : Shape := ⟨1, ![2176]⟩
abbrev S128 : Shape := ⟨1, ![128]⟩

abbrev nBuf : Space → Nat
  | .hbm => 11
  | .vmem => 14
  | .smem => 0
  | _ => 0

abbrev bufTy : (tb : Table) → Fin (tcTables nBuf tb) → BufTy
  | .hbm, ⟨0, _⟩ => ⟨S2064x16000, .f32⟩
  | .hbm, ⟨1, _⟩ => ⟨S4x3072, .f32⟩
  | .hbm, ⟨2, _⟩ => ⟨S2176x3072, .f32⟩
  | .hbm, ⟨3, _⟩ => ⟨S_, .i32⟩
  | .hbm, ⟨4, _⟩ => ⟨S_, .f32⟩
  | .hbm, ⟨5, _⟩ => ⟨S2176x16000, .f32⟩
  | .hbm, ⟨6, _⟩ => ⟨S_, .f32⟩
  | .hbm, ⟨7, _⟩ => ⟨S1x3072, .f32⟩
  | .hbm, ⟨8, _⟩ => ⟨S2176x3072, .bf16⟩
  | .hbm, ⟨9, _⟩ => ⟨S4x3072, .f32⟩
  | .hbm, ⟨10, _⟩ => ⟨S1x3072, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | .local _ .vmem, ⟨8, _⟩ => ⟨S2176x128, .bf16⟩
  | .local _ .vmem, ⟨9, _⟩ => ⟨S2176x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S2064x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RConvBIdeal.lean ====
abbrev S2064x16000 : Shape := ⟨2, ![2064, 16000]⟩
abbrev S4x3072 : Shape := ⟨2, ![4, 3072]⟩
abbrev S2176x3072 : Shape := ⟨2, ![2176, 3072]⟩
abbrev S2064x3072 : Shape := ⟨2, ![2064, 3072]⟩
abbrev S_ : Shape := ⟨0, ![]⟩
abbrev S3x3072 : Shape := ⟨2, ![3, 3072]⟩
abbrev S2067x3072 : Shape := ⟨2, ![2067, 3072]⟩
abbrev S1x3072 : Shape := ⟨2, ![1, 3072]⟩
abbrev S3072 : Shape := ⟨1, ![3072]⟩
abbrev S2064x1024 : Shape := ⟨2, ![2064, 1024]⟩
abbrev S2064x8x128 : Shape := ⟨3, ![2064, 8, 128]⟩
abbrev S2064x8 : Shape := ⟨2, ![2064, 8]⟩
abbrev S2064x8x1 : Shape := ⟨3, ![2064, 8, 1]⟩

abbrev nBuf : Space → Nat
  | .hbm => 200
  | .vmem => 0
  | .smem => 0
  | _ => 0

abbrev hbmTy0_0 (i : Nat) : BufTy := match i % 128 with
  | 0 => ⟨S2064x16000, .f32⟩
  | 1 => ⟨S4x3072, .f32⟩
  | 2 => ⟨S2176x3072, .f32⟩
  | 3 => ⟨S2064x3072, .f32⟩
  | 4 => ⟨S_, .f32⟩
  | 5 => ⟨S3x3072, .f32⟩
  | 6 => ⟨S2067x3072, .f32⟩
  | 7 => ⟨S_, .f32⟩
  | 8 => ⟨S3x3072, .f32⟩
  | 9 => ⟨S1x3072, .f32⟩
  | 10 => ⟨S3072, .f32⟩
  | 11 => ⟨S2064x3072, .f32⟩
  | 12 => ⟨S1x3072, .f32⟩
  | 13 => ⟨S2064x3072, .f32⟩
  | 14 => ⟨S2064x3072, .f32⟩
  | 15 => ⟨S_, .f32⟩
  | 16 => ⟨S2064x3072, .f32⟩
  | 17 => ⟨S2064x3072, .f32⟩
  | 18 => ⟨S1x3072, .f32⟩
  | 19 => ⟨S3072, .f32⟩
  | 20 => ⟨S2064x3072, .f32⟩
  | 21 => ⟨S1x3072, .f32⟩
  | 22 => ⟨S2064x3072, .f32⟩
  | 23 => ⟨S2064x3072, .f32⟩
  | 24 => ⟨S2064x3072, .f32⟩
  | 25 => ⟨S1x3072, .f32⟩
  | 26 => ⟨S3072, .f32⟩
  | 27 => ⟨S2064x3072, .f32⟩
  | 28 => ⟨S1x3072, .f32⟩
  | 29 => ⟨S2064x3072, .f32⟩
  | 30 => ⟨S2064x3072, .f32⟩
  | 31 => ⟨S2064x3072, .f32⟩
  | 32 => ⟨S1x3072, .f32⟩
  | 33 => ⟨S3072, .f32⟩
  | 34 => ⟨S2064x3072, .f32⟩
  | 35 => ⟨S1x3072, .f32⟩
  | 36 => ⟨S2064x3072, .f32⟩
  | 37 => ⟨S2064x3072, .f32⟩
  | 38 => ⟨S2064x3072, .f32⟩
  | 39 => ⟨S2064x3072, .f32⟩
  | 40 => ⟨S2064x3072, .f32⟩
  | 41 => ⟨S_, .f32⟩
  | 42 => ⟨S2064x3072, .f32⟩
  | 43 => ⟨S2064x3072, .f32⟩
  | 44 => ⟨S_, .f32⟩
  | 45 => ⟨S2064x3072, .f32⟩
  | 46 => ⟨S2064x3072, .f32⟩
  | 47 => ⟨S_, .f32⟩
  | 48 => ⟨S2064x3072, .f32⟩
  | 49 => ⟨S2064x3072, .f32⟩
  | 50 => ⟨S2064x3072, .f32⟩
  | 51 => ⟨S2064x3072, .f32⟩
  | 52 => ⟨S2064x1024, .f32⟩
  | 53 => ⟨S2064x8x128, .f32⟩
  | 54 => ⟨S2064x1024, .f32⟩
  | 55 => ⟨S2064x8x128, .f32⟩
  | 56 => ⟨S2064x1024, .f32⟩
  | 57 => ⟨S2064x8x128, .f32⟩
  | 58 => ⟨S_, .f32⟩
  | 59 => ⟨S2064x8, .f32⟩
  | 60 => ⟨S2064x8x1, .f32⟩
  | 61 => ⟨S_, .f32⟩
  | 62 => ⟨S2064x8x1, .f32⟩
  | 63 => ⟨S2064x8x1, .f32⟩
  | 64 => ⟨S2064x8x1, .f32⟩
  | 65 => ⟨S2064x8x1, .f32⟩
  | 66 => ⟨S_, .f32⟩
  | 67 => ⟨S2064x8x1, .f32⟩
  | 68 => ⟨S2064x8x1, .f32⟩
  | 69 => ⟨S2064x8x128, .f32⟩
  | 70 => ⟨S2064x8x128, .f32⟩
  | 71 => ⟨S2064x1024, .f32⟩
  | 72 => ⟨S2064x8x128, .f32⟩
  | 73 => ⟨S_, .f32⟩
  | 74 => ⟨S2064x8, .f32⟩
  | 75 => ⟨S2064x8x1, .f32⟩
  | 76 => ⟨S_, .f32⟩
  | 77 => ⟨S2064x8x1, .f32⟩
  | 78 => ⟨S2064x8x1, .f32⟩
  | 79 => ⟨S2064x8x1, .f32⟩
  | 80 => ⟨S2064x8x1, .f32⟩
  | 81 => ⟨S_, .f32⟩
  | 82 => ⟨S2064x8x1, .f32⟩
  | 83 => ⟨S2064x8x1, .f32⟩
  | 84 => ⟨S2064x8x128, .f32⟩
  | 85 => ⟨S2064x8x128, .f32⟩
  | 86 => ⟨S2064x1024, .f32⟩
  | 87 => ⟨S2064x3072, .f32⟩
  | 88 => ⟨S2064x3072, .f32⟩
  | 89 => ⟨S2064x1024, .f32⟩
  | 90 => ⟨S2064x1024, .f32⟩
  | 91 => ⟨S2064x1024, .f32⟩
  | 92 => ⟨S2064x8x128, .f32⟩
  | 93 => ⟨S2064x8x128, .f32⟩
  | 94 => ⟨S_, .f32⟩
  | 95 => ⟨S2064x8, .f32⟩
  | 96 => ⟨S2064x8x1, .f32⟩
  | 97 => ⟨S2064x8x128, .f32⟩
  | 98 => ⟨S2064x8x128, .f32⟩
  | 99 => ⟨S2064x8x1, .f32⟩
  | 100 => ⟨S_, .f32⟩
  | 101 => ⟨S2064x8, .f32⟩
  | 102 => ⟨S2064x8x128, .f32⟩
  | 103 => ⟨S2064x8x128, .f32⟩
  | 104 => ⟨S2064x8x128, .f32⟩
  | 105 => ⟨S2064x8x128, .f32⟩
  | 106 => ⟨S2064x8x128, .f32⟩
  | 107 => ⟨S2064x8x128, .f32⟩
  | 108 => ⟨S2064x8x128, .f32⟩
  | 109 => ⟨S_, .f32⟩
  | 110 => ⟨S2064x8, .f32⟩
  | 111 => ⟨S2064x8x1, .f32⟩
  | 112 => ⟨S2064x8x128, .f32⟩
  | 113 => ⟨S2064x8x128, .f32⟩
  | 114 => ⟨S2064x8x1, .f32⟩
  | 115 => ⟨S_, .f32⟩
  | 116 => ⟨S2064x8, .f32⟩
  | 117 => ⟨S2064x8x128, .f32⟩
  | 118 => ⟨S2064x8x128, .f32⟩
  | 119 => ⟨S2064x8x128, .f32⟩
  | 120 => ⟨S2064x8x128, .f32⟩
  | 121 => ⟨S2064x8x128, .f32⟩
  | 122 => ⟨S_, .f32⟩
  | 123 => ⟨S2064x3072, .f32⟩
  | 124 => ⟨S2064x1024, .f32⟩
  | 125 => ⟨S_, .f32⟩
  | 126 => ⟨S2064x3072, .f32⟩
  | 127 => ⟨S2064x3072, .f32⟩
  | _ => ⟨S2064x16000, .f32⟩

abbrev hbmTy0_1 (i : Nat) : BufTy := match i % 128 with
  | 0 => ⟨S2064x1024, .f32⟩
  | 1 => ⟨S_, .f32⟩
  | 2 => ⟨S2064x3072, .f32⟩
  | 3 => ⟨S2064x3072, .f32⟩
  | 4 => ⟨S2064x3072, .f32⟩
  | 5 => ⟨S2064x3072, .f32⟩
  | 6 => ⟨S2064x3072, .f32⟩
  | 7 => ⟨S2064x3072, .f32⟩
  | 8 => ⟨S2064x3072, .f32⟩
  | 9 => ⟨S2064x3072, .f32⟩
  | 10 => ⟨S2064x3072, .f32⟩
  | 11 => ⟨S_, .f32⟩
  | 12 => ⟨S3072, .f32⟩
  | 13 => ⟨S1x3072, .f32⟩
  | 14 => ⟨S_, .f32⟩
  | 15 => ⟨S3072, .f32⟩
  | 16 => ⟨S_, .f32⟩
  | 17 => ⟨S2067x3072, .f32⟩
  | 18 => ⟨S1x3072, .f32⟩
  | 19 => ⟨S_, .f32⟩
  | 20 => ⟨S4x3072, .f32⟩
  | 21 => ⟨S2064x3072, .f32⟩
  | 22 => ⟨S2064x3072, .f32⟩
  | 23 => ⟨S2064x3072, .f32⟩
  | 24 => ⟨S_, .f32⟩
  | 25 => ⟨S3072, .f32⟩
  | 26 => ⟨S1x3072, .f32⟩
  | 27 => ⟨S_, .f32⟩
  | 28 => ⟨S3072, .f32⟩
  | 29 => ⟨S_, .f32⟩
  | 30 => ⟨S2067x3072, .f32⟩
  | 31 => ⟨S2067x3072, .f32⟩
  | 32 => ⟨S1x3072, .f32⟩
  | 33 => ⟨S_, .f32⟩
  | 34 => ⟨S4x3072, .f32⟩
  | 35 => ⟨S4x3072, .f32⟩
  | 36 => ⟨S2064x3072, .f32⟩
  | 37 => ⟨S2064x3072, .f32⟩
  | 38 => ⟨S2064x3072, .f32⟩
  | 39 => ⟨S_, .f32⟩
  | 40 => ⟨S3072, .f32⟩
  | 41 => ⟨S1x3072, .f32⟩
  | 42 => ⟨S_, .f32⟩
  | 43 => ⟨S3072, .f32⟩
  | 44 => ⟨S_, .f32⟩
  | 45 => ⟨S2067x3072, .f32⟩
  | 46 => ⟨S2067x3072, .f32⟩
  | 47 => ⟨S1x3072, .f32⟩
  | 48 => ⟨S_, .f32⟩
  | 49 => ⟨S4x3072, .f32⟩
  | 50 => ⟨S4x3072, .f32⟩
  | 51 => ⟨S2064x3072, .f32⟩
  | 52 => ⟨S2064x3072, .f32⟩
  | 53 => ⟨S2064x3072, .f32⟩
  | 54 => ⟨S_, .f32⟩
  | 55 => ⟨S3072, .f32⟩
  | 56 => ⟨S1x3072, .f32⟩
  | 57 => ⟨S_, .f32⟩
  | 58 => ⟨S3072, .f32⟩
  | 59 => ⟨S_, .f32⟩
  | 60 => ⟨S2067x3072, .f32⟩
  | 61 => ⟨S2067x3072, .f32⟩
  | 62 => ⟨S1x3072, .f32⟩
  | 63 => ⟨S_, .f32⟩
  | 64 => ⟨S4x3072, .f32⟩
  | 65 => ⟨S4x3072, .f32⟩
  | 66 => ⟨S3x3072, .f32⟩
  | 67 => ⟨S2064x3072, .f32⟩
  | 68 => ⟨S_, .i32⟩
  | 69 => ⟨S_, .f32⟩
  | 70 => ⟨S2176x3072, .f32⟩
  | 71 => ⟨S2176x3072, .bf16⟩
  | _ => ⟨S2064x16000, .f32⟩

abbrev hbmTy (i : Nat) : BufTy := match i / 128 with
  | 0 => hbmTy0_0 i
  | 1 => hbmTy0_1 i
  | _ => ⟨S2064x16000, .f32⟩

abbrev bufTy : (tb : Table) → Fin (tcTables nBuf tb) → BufTy
  | .hbm, ⟨i, _⟩ => hbmTy i
  | _, _ => ⟨S2064x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_10 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_11 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_14 : Ref sig .tc := ⟨.hbm, 129, rfl⟩
abbrev main_v99 : Ref sig .tc := ⟨.hbm, 130, rfl⟩
abbrev main_v100 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_15 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_cst_17 : Ref sig .tc := ⟨.hbm, 144, rfl⟩
abbrev main_v108 : Ref sig .tc := ⟨.hbm, 145, rfl⟩
abbrev main_v109 : Ref sig .tc := ⟨.hbm, 146, rfl⟩
abbrev main_cst_18 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_19 : Ref sig .tc := ⟨.hbm, 152, rfl⟩
abbrev main_v114 : Ref sig .tc := ⟨.hbm, 153, rfl⟩
abbrev main_v115 : Ref sig .tc := ⟨.hbm, 154, rfl⟩
abbrev main_cst_20 : Ref sig .tc := ⟨.hbm, 155, rfl⟩
abbrev main_v116 : Ref sig .tc := ⟨.hbm, 156, rfl⟩
abbrev main_cst_21 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_22 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_23 : Ref sig .tc := ⟨.hbm, 167, rfl⟩
abbrev main_v125 : Ref sig .tc := ⟨.hbm, 168, rfl⟩
abbrev main_v126 : Ref sig .tc := ⟨.hbm, 169, rfl⟩
abbrev main_cst_24 : Ref sig .tc := ⟨.hbm, 170, rfl⟩
abbrev main_v127 : Ref sig .tc := ⟨.hbm, 171, rfl⟩
abbrev main_cst_25 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_26 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_27 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_cst_29 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_30 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c : Ref sig .tc := ⟨.hbm, 196, rfl⟩
abbrev main_call2_v0 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]
-- ==== KRmsF.lean ====
abbrev S2176x1024 : Shape := ⟨2, ![2176, 1024]⟩
abbrev S1024 : Shape := ⟨1, ![1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 4
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1x1024, .f32⟩
  | .hbm, ⟨3, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .bf16⟩
  | .local _ .vmem, ⟨4, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RRmsFIdeal.lean ====
abbrev S2176x1024 : Shape := ⟨2, ![2176, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S2176x1024, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1, .f32⟩
  | .hbm, ⟨13, _⟩ => ⟨S2176x1024, .f32⟩
  | .hbm, ⟨14, _⟩ => ⟨S2176x1024, .f32⟩
  | .hbm, ⟨15, _⟩ => ⟨S1x1024, .f32⟩
  | .hbm, ⟨16, _⟩ => ⟨S2176x1024, .f32⟩
  | .hbm, ⟨17, _⟩ => ⟨S2176x1024, .f32⟩
  | .hbm, ⟨18, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KGateAF.lean ====
abbrev S2176x1024 : Shape := ⟨2, ![2176, 1024]⟩
abbrev S2176x16000 : Shape := ⟨2, ![2176, 16000]⟩
abbrev S544x1024 : Shape := ⟨2, ![544, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .bf16⟩
  | .local _ .vmem, ⟨5, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RGateAFIdeal.lean ====
abbrev S2176x1024 : Shape := ⟨2, ![2176, 1024]⟩
abbrev S2176x16000 : Shape := ⟨2, ![2176, 16000]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S_, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== KGateBF.lean ====
abbrev S2176x1024 : Shape := ⟨2, ![2176, 1024]⟩
abbrev S2176x16000 : Shape := ⟨2, ![2176, 16000]⟩
abbrev S128 : Shape := ⟨1, ![128]⟩
abbrev S1x128 : Shape := ⟨2, ![1, 128]⟩
abbrev S544x1024 : Shape := ⟨2, ![544, 1024]⟩
abbrev S544x128 : Shape := ⟨2, ![544, 128]⟩
abbrev S544 : Shape := ⟨1, ![544]⟩
abbrev S544x1 : Shape := ⟨2, ![544, 1]⟩

abbrev nBuf : Space → Nat
  | .hbm => 5
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S128, .f32⟩
  | .hbm, ⟨3, _⟩ => ⟨S1x128, .f32⟩
  | .hbm, ⟨4, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x128, .f32⟩
  | .local _ .vmem, ⟨5, _⟩ => ⟨S544x1024, .bf16⟩
  | .local _ .vmem, ⟨6, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RGateBFIdeal.lean ====
abbrev S2176x1024 : Shape := ⟨2, ![2176, 1024]⟩
abbrev S2176x16000 : Shape := ⟨2, ![2176, 16000]⟩
abbrev S128 : Shape := ⟨1, ![128]⟩
abbrev S2176x8x128 : Shape := ⟨3, ![2176, 8, 128]⟩
abbrev S_ : Shape := ⟨0, ![]⟩
abbrev S2176x8 : Shape := ⟨2, ![2176, 8]⟩
abbrev S2176x8x1 : Shape := ⟨3, ![2176, 8, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x16000, .f32⟩
  | .hbm, ⟨2, _⟩ => ⟨S128, .f32⟩
  | .hbm, ⟨3, _⟩ => ⟨S2176x1024, .f32⟩
  | .hbm, ⟨4, _⟩ => ⟨S2176x8x128, .f32⟩
  | .hbm, ⟨5, _⟩ => ⟨S2176x8x128, .f32⟩
  | .hbm, ⟨6, _⟩ => ⟨S_, .f32⟩
  | .hbm, ⟨7, _⟩ => ⟨S2176x8, .f32⟩
  | .hbm, ⟨8, _⟩ => ⟨S2176x8x1, .f32⟩
  | .hbm, ⟨9, _⟩ => ⟨S_, .f32⟩
  | .hbm, ⟨10, _⟩ => ⟨S2176x8x1, .f32⟩
  | .hbm, ⟨11, _⟩ => ⟨S2176x8x1, .f32⟩
  | .hbm, ⟨12, _⟩ => ⟨S_, .f32⟩
  | .hbm, ⟨13, _⟩ => ⟨S2176x8x1, .f32⟩
  | .hbm, ⟨14, _⟩ => ⟨S2176x8x1, .f32⟩
  | .hbm, ⟨15, _⟩ => ⟨S2176x8x1, .f32⟩
  | .hbm, ⟨16, _⟩ => ⟨S2176x8x128, .f32⟩
  | .hbm, ⟨17, _⟩ => ⟨S2176x8x128, .f32⟩
  | .hbm, ⟨18, _⟩ => ⟨S1x1x128, .f32⟩
  | .hbm, ⟨19, _⟩ => ⟨S2176x8x128, .f32⟩
  | .hbm, ⟨20, _⟩ => ⟨S2176x8x128, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S2176x1024, .f32⟩
  | .hbm, ⟨26, _⟩ => ⟨S2176x1024, .f32⟩
  | .hbm, ⟨27, _⟩ => ⟨S_, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== KGateCF.lean ====
abbrev S2176x2048 : Shape := ⟨2, ![2176, 2048]⟩
abbrev S2176x2560 : Shape := ⟨2, ![2176, 2560]⟩
abbrev S2176x16000 : Shape := ⟨2, ![2176, 16000]⟩
abbrev S2048 : Shape := ⟨1, ![2048]⟩
abbrev S1x2048 : Shape := ⟨2, ![1, 2048]⟩
abbrev S544x1024 : Shape := ⟨2, ![544, 1024]⟩
abbrev S1x1024 : Shape := ⟨2, ![1, 1024]⟩
abbrev S544 : Shape := ⟨1, ![544]⟩
abbrev S544x1 : Shape := ⟨2, ![544, 1]⟩

abbrev nBuf : Space → Nat
  | .hbm => 8
  | .vmem => 12
  | .smem => 0
  | _ => 0

abbrev bufTy : (tb : Table) → Fin (tcTables nBuf tb) → BufTy
  | .hbm, ⟨0, _⟩ => ⟨S2176x2048, .f32⟩
  | .hbm, ⟨1, _⟩ => ⟨S2176x2560, .f32⟩
  | .hbm, ⟨2, _⟩ => ⟨S2176x16000, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2176x2048, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S544x1024, .bf16⟩
  | .local _ .vmem, ⟨11, _⟩ => ⟨S544x1024, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RGateCFIdeal.lean ====
abbrev S2176x2048 : Shape := ⟨2, ![2176, 2048]⟩
abbrev S2176x2560 : Shape := ⟨2, ![2176, 2560]⟩
abbrev S2176x16000 : Shape := ⟨2, ![2176, 16000]⟩
abbrev S2048 : Shape := ⟨1, ![2048]⟩
abbrev S1x2048 : Shape := ⟨2, ![1, 2048]⟩
abbrev S_ : Shape := ⟨0, ![]⟩
abbrev S2176x2x1024 : Shape := ⟨3, ![2176, 2, 1024]⟩
abbrev S2x1024 : Shape := ⟨2, ![2, 1024]⟩
abbrev S2176x2 : Shape := ⟨2, ![2176, 2]⟩
abbrev S2176x2x1 : Shape := ⟨3, ![2176, 2, 1]⟩
abbrev S1x2x1024 : Shape := ⟨3, ![1, 2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2560, .f32⟩
  | .hbm, ⟨2, _⟩ => ⟨S2176x16000, .f32⟩
  | .hbm, ⟨3, _⟩ => ⟨S2048, .f32⟩
  | .hbm, ⟨4, _⟩ => ⟨S2048, .f32⟩
  | .hbm, ⟨5, _⟩ => ⟨S2176x2048, .f32⟩
  | .hbm, ⟨6, _⟩ => ⟨S1x2048, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S2176x2048, .f32⟩
  | .hbm, ⟨13, _⟩ => ⟨S_, .f32⟩
  | .hbm, ⟨14, _⟩ => ⟨S2176x2048, .f32⟩
  | .hbm, ⟨15, _⟩ => ⟨S2176x2048, .f32⟩
  | .hbm, ⟨16, _⟩ => ⟨S_, .f32⟩
  | .hbm, ⟨17, _⟩ => ⟨S2176x2048, .f32⟩
  | .hbm, ⟨18, _⟩ => ⟨S2176x2048, .f32⟩
  | .hbm, ⟨19, _⟩ => ⟨S2176x2048, .f32⟩
  | .hbm, ⟨20, _⟩ => ⟨S2176x2048, .f32⟩
  | .hbm, ⟨21, _⟩ => ⟨S2176x2x1024, .f32⟩
  | .hbm, ⟨22, _⟩ => ⟨S2x1024, .f32⟩
  | .hbm, ⟨23, _⟩ => ⟨S2176x2x1024, .f32⟩
  | .hbm, ⟨24, _⟩ => ⟨S_, .f32⟩
  | .hbm, ⟨25, _⟩ => ⟨S2176x2, .f32⟩
  | .hbm, ⟨26, _⟩ => ⟨S2176x2x1, .f32⟩
  | .hbm, ⟨27, _⟩ => ⟨S_, .f32⟩
  | .hbm, ⟨28, _⟩ => ⟨S2176x2x1, .f32⟩
  | .hbm, ⟨29, _⟩ => ⟨S2176x2x1, .f32⟩
  | .hbm, ⟨30, _⟩ => ⟨S_, .f32⟩
  | .hbm, ⟨31, _⟩ => ⟨S2176x2x1, .f32⟩
  | .hbm, ⟨32, _⟩ => ⟨S2176x2x1, .f32⟩
  | .hbm, ⟨33, _⟩ => ⟨S2176x2x1, .f32⟩
  | .hbm, ⟨34, _⟩ => ⟨S2176x2x1024, .f32⟩
  | .hbm, ⟨35, _⟩ => ⟨S2176x2x1024, .f32⟩
  | .hbm, ⟨36, _⟩ => ⟨S1x2x1024, .f32⟩
  | .hbm, ⟨37, _⟩ => ⟨S2176x2x1024, .f32⟩
  | .hbm, ⟨38, _⟩ => ⟨S2176x2x1024, .f32⟩
  | .hbm, ⟨39, _⟩ => ⟨S2176x2048, .f32⟩
  | .hbm, ⟨40, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== KMergeF.lean ====
abbrev S2176x1024 : Shape := ⟨2, ![2176, 1024]⟩
abbrev S2176x16000 : Shape := ⟨2, ![2176, 16000]⟩
abbrev S544x512 : Shape := ⟨2, ![544, 512]⟩

abbrev nBuf : Space → Nat
  | .hbm => 5
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x16000, .f32⟩
  | .hbm, ⟨4, _⟩ => ⟨S2176x1024, .bf16⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .bf16⟩
  | .local _ .vmem, ⟨13, _⟩ => ⟨S544x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RMergeFIdeal.lean ====
abbrev S2176x1024 : Shape := ⟨2, ![2176, 1024]⟩
abbrev S2176x16000 : Shape := ⟨2, ![2176, 16000]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x16000, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S2176x1024, .f32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S_, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S_, .f32⟩
  | .hbm, ⟨29, _⟩ => ⟨S2176x1024, .f32⟩
  | .hbm, ⟨30, _⟩ => ⟨S2176x1024, .f32⟩
  | .hbm, ⟨31, _⟩ => ⟨S_, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KConvCF.lean ====
abbrev S2064x16000 : Shape := ⟨2, ![2064, 16000]⟩
abbrev S4x2560 : Shape := ⟨2, ![4, 2560]⟩
abbrev S2560 : Shape := ⟨1, ![2560]⟩
abbrev S_ : Shape := ⟨0, ![]⟩
abbrev S2176x16000 : Shape := ⟨2, ![2176, 16000]⟩
abbrev S1x2560 : Shape := ⟨2, ![1, 2560]⟩
abbrev S2176x2560 : Shape := ⟨2, ![2176, 2560]⟩
abbrev S2176x128 : Shape := ⟨2, ![2176, 128]⟩
abbrev S4x128 : Shape := ⟨2, ![4, 128]⟩
abbrev S1x128 : Shape := ⟨2, ![1, 128]⟩
abbrev S2176x1 : Shape := ⟨2, ![2176, 1]⟩
abbrev S2176 : Shape := ⟨1, ![2176]⟩

abbrev nBuf : Space → Nat
  | .hbm => 8
  | .vmem => 8
  | .smem => 0
  | _ => 0

abbrev bufTy : (tb : Table) → Fin (tcTables nBuf tb) → BufTy
  | .hbm, ⟨0, _⟩ => ⟨S2064x16000, .f32⟩
  | .hbm, ⟨1, _⟩ => ⟨S4x2560, .f32⟩
  | .hbm, ⟨2, _⟩ => ⟨S2560, .f32⟩
  | .hbm, ⟨3, _⟩ => ⟨S_, .i32⟩
  | .hbm, ⟨4, _⟩ => ⟨S_, .f32⟩
  | .hbm, ⟨5, _⟩ => ⟨S2176x16000, .f32⟩
  | .hbm, ⟨6, _⟩ => ⟨S1x2560, .f32⟩
  | .hbm, ⟨7, _⟩ => ⟨S2176x2560, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | _, _ => ⟨S2064x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RConvCFIdeal.lean ====
abbrev S2064x16000 : Shape := ⟨2, ![2064, 16000]⟩
abbrev S4x2560 : Shape := ⟨2, ![4, 2560]⟩
abbrev S2560 : Shape := ⟨1, ![2560]⟩
abbrev S2064x2560 : Shape := ⟨2, ![2064, 2560]⟩
abbrev S_ : Shape := ⟨0, ![]⟩
abbrev S3x2560 : Shape := ⟨2, ![3, 2560]⟩
abbrev S2067x2560 : Shape := ⟨2, ![2067, 2560]⟩
abbrev S1x2560 : Shape := ⟨2, ![1, 2560]⟩
abbrev S2176x2560 : Shape := ⟨2, ![2176, 2560]⟩

abbrev nBuf : Space → Nat
  | .hbm => 52
  | .vmem => 0
  | .smem => 0
  | _ => 0

abbrev bufTy : (tb : Table) → Fin (tcTables nBuf tb) → BufTy
  | .hbm, ⟨0, _⟩ => ⟨S2064x16000, .f32⟩
  | .hbm, ⟨1, _⟩ => ⟨S4x2560, .f32⟩
  | .hbm, ⟨2, _⟩ => ⟨S2560, .f32⟩
  | .hbm, ⟨3, _⟩ => ⟨S2064x2560, .f32⟩
  | .hbm, ⟨4, _⟩ => ⟨S_, .f32⟩
  | .hbm, ⟨5, _⟩ => ⟨S3x2560, .f32⟩
  | .hbm, ⟨6, _⟩ => ⟨S2067x2560, .f32⟩
  | .hbm, ⟨7, _⟩ => ⟨S1x2560, .f32⟩
  | .hbm, ⟨8, _⟩ => ⟨S2560, .f32⟩
  | .hbm, ⟨9, _⟩ => ⟨S2064x2560, .f32⟩
  | .hbm, ⟨10, _⟩ => ⟨S1x2560, .f32⟩
  | .hbm, ⟨11, _⟩ => ⟨S2064x2560, .f32⟩
  | .hbm, ⟨12, _⟩ => ⟨S2064x2560, .f32⟩
  | .hbm, ⟨13, _⟩ => ⟨S_, .f32⟩
  | .hbm, ⟨14, _⟩ => ⟨S2064x2560, .f32⟩
  | .hbm, ⟨15, _⟩ => ⟨S2064x2560, .f32⟩
  | .hbm, ⟨16, _⟩ => ⟨S1x2560, .f32⟩
  | .hbm, ⟨17, _⟩ => ⟨S2560, .f32⟩
  | .hbm, ⟨18, _⟩ => ⟨S2064x2560, .f32⟩
  | .hbm, ⟨19, _⟩ => ⟨S1x2560, .f32⟩
  | .hbm, ⟨20, _⟩ => ⟨S2064x2560, .f32⟩
  | .hbm, ⟨21, _⟩ => ⟨S2064x2560, .f32⟩
  | .hbm, ⟨22, _⟩ => ⟨S2064x2560, .f32⟩
  | .hbm, ⟨23, _⟩ => ⟨S1x2560, .f32⟩
  | .hbm, ⟨24, _⟩ => ⟨S2560, .f32⟩
  | .hbm, ⟨25, _⟩ => ⟨S2064x2560, .f32⟩
  | .hbm, ⟨26, _⟩ => ⟨S1x2560, .f32⟩
  | .hbm, ⟨27, _⟩ => ⟨S2064x2560, .f32⟩
  | .hbm, ⟨28, _⟩ => ⟨S2064x2560, .f32⟩
  | .hbm, ⟨29, _⟩ => ⟨S2064x2560, .f32⟩
  | .hbm, ⟨30, _⟩ => ⟨S1x2560, .f32⟩
  | .hbm, ⟨31, _⟩ => ⟨S2560, .f32⟩
  | .hbm, ⟨32, _⟩ => ⟨S2064x2560, .f32⟩
  | .hbm, ⟨33, _⟩ => ⟨S1x2560, .f32⟩
  | .hbm, ⟨34, _⟩ => ⟨S2064x2560, .f32⟩
  | .hbm, ⟨35, _⟩ => ⟨S2064x2560, .f32⟩
  | .hbm, ⟨36, _⟩ => ⟨S2064x2560, .f32⟩
  | .hbm, ⟨37, _⟩ => ⟨S1x2560, .f32⟩
  | .hbm, ⟨38, _⟩ => ⟨S2064x2560, .f32⟩
  | .hbm, ⟨39, _⟩ => ⟨S2064x2560, .f32⟩
  | .hbm, ⟨40, _⟩ => ⟨S2064x2560, .f32⟩
  | .hbm, ⟨41, _⟩ => ⟨S2064x2560, .f32⟩
  | .hbm, ⟨42, _⟩ => ⟨S_, .f32⟩
  | .hbm, ⟨43, _⟩ => ⟨S2064x2560, .f32⟩
  | .hbm, ⟨44, _⟩ => ⟨S2064x2560, .f32⟩
  | .hbm, ⟨45, _⟩ => ⟨S_, .f32⟩
  | .hbm, ⟨46, _⟩ => ⟨S2064x2560, .f32⟩
  | .hbm, ⟨47, _⟩ => ⟨S2064x2560, .f32⟩
  | .hbm, ⟨48, _⟩ => ⟨S2064x2560, .f32⟩
  | .hbm, ⟨49, _⟩ => ⟨S_, .i32⟩
  | .hbm, ⟨50, _⟩ => ⟨S_, .f32⟩
  | .hbm, ⟨51, _⟩ => ⟨S2176x2560, .f32⟩
  | _, _ => ⟨S2064x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_c : Ref sig .tc := ⟨.hbm, 49, rfl⟩
abbrev main_call1_v0 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== KConvBF.lean ====
abbrev S2064x16000 : Shape := ⟨2, ![2064, 16000]⟩
abbrev S4x3072 : Shape := ⟨2, ![4, 3072]⟩
abbrev S_ : Shape := ⟨0, ![]⟩
abbrev S2176x16000 : Shape := ⟨2, ![2176, 16000]⟩
abbrev S1x3072 : Shape := ⟨2, ![1, 3072]⟩
abbrev S2176x3072 : Shape := ⟨2, ![2176, 3072]⟩
abbrev S2176x128 : Shape := ⟨2, ![2176, 128]⟩
abbrev S4x128 : Shape := ⟨2, ![4, 128]⟩
abbrev S1x128 : Shape := ⟨2, ![1, 128]⟩
abbrev S2176x1 : Shape := ⟨2, ![2176, 1]⟩
abbrev S2176 : Shape := ⟨1, ![2176]⟩

abbrev nBuf : Space → Nat
  | .hbm => 8
  | .vmem => 8
  | .smem => 0
  | _ => 0

abbrev bufTy : (tb : Table) → Fin (tcTables nBuf tb) → BufTy
  | .hbm, ⟨0, _⟩ => ⟨S2064x16000, .f32⟩
  | .hbm, ⟨1, _⟩ => ⟨S4x3072, .f32⟩
  | .hbm, ⟨2, _⟩ => ⟨S_, .i32⟩
  | .hbm, ⟨3, _⟩ => ⟨S_, .f32⟩
  | .hbm, ⟨4, _⟩ => ⟨S2176x16000, .f32⟩
  | .hbm, ⟨5, _⟩ => ⟨S_, .f32⟩
  | .hbm, ⟨6, _⟩ => ⟨S1x3072, .f32⟩
  | .hbm, ⟨7, _⟩ => ⟨S2176x3072, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | _, _ => ⟨S2064x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RConvBFIdeal.lean ====
abbrev S2064x16000 : Shape := ⟨2, ![2064, 16000]⟩
abbrev S4x3072 : Shape := ⟨2, ![4, 3072]⟩
abbrev S2064x3072 : Shape := ⟨2, ![2064, 3072]⟩
abbrev S_ : Shape := ⟨0, ![]⟩
abbrev S3x3072 : Shape := ⟨2, ![3, 3072]⟩
abbrev S2067x3072 : Shape := ⟨2, ![2067, 3072]⟩
abbrev S1x3072 : Shape := ⟨2, ![1, 3072]⟩
abbrev S3072 : Shape := ⟨1, ![3072]⟩
abbrev S2064x1024 : Shape := ⟨2, ![2064, 1024]⟩
abbrev S2064x8x128 : Shape := ⟨3, ![2064, 8, 128]⟩
abbrev S2064x8 : Shape := ⟨2, ![2064, 8]⟩
abbrev S2064x8x1 : Shape := ⟨3, ![2064, 8, 1]⟩
abbrev S2176x3072 : Shape := ⟨2, ![2176, 3072]⟩

abbrev nBuf : Space → Nat
  | .hbm => 76
  | .vmem => 0
  | .smem => 0
  | _ => 0

abbrev bufTy : (tb : Table) → Fin (tcTables nBuf tb) → BufTy
  | .hbm, ⟨0, _⟩ => ⟨S2064x16000, .f32⟩
  | .hbm, ⟨1, _⟩ => ⟨S4x3072, .f32⟩
  | .hbm, ⟨2, _⟩ => ⟨S2064x3072, .f32⟩
  | .hbm, ⟨3, _⟩ => ⟨S_, .f32⟩
  | .hbm, ⟨4, _⟩ => ⟨S3x3072, .f32⟩
  | .hbm, ⟨5, _⟩ => ⟨S2067x3072, .f32⟩
  | .hbm, ⟨6, _⟩ => ⟨S1x3072, .f32⟩
  | .hbm, ⟨7, _⟩ => ⟨S3072, .f32⟩
  | .hbm, ⟨8, _⟩ => ⟨S2064x3072, .f32⟩
  | .hbm, ⟨9, _⟩ => ⟨S1x3072, .f32⟩
  | .hbm, ⟨10, _⟩ => ⟨S2064x3072, .f32⟩
  | .hbm, ⟨11, _⟩ => ⟨S2064x3072, .f32⟩
  | .hbm, ⟨12, _⟩ => ⟨S_, .f32⟩
  | .hbm, ⟨13, _⟩ => ⟨S2064x3072, .f32⟩
  | .hbm, ⟨14, _⟩ => ⟨S2064x3072, .f32⟩
  | .hbm, ⟨15, _⟩ => ⟨S1x3072, .f32⟩
  | .hbm, ⟨16, _⟩ => ⟨S3072, .f32⟩
  | .hbm, ⟨17, _⟩ => ⟨S2064x3072, .f32⟩
  | .hbm, ⟨18, _⟩ => ⟨S1x3072, .f32⟩
  | .hbm, ⟨19, _⟩ => ⟨S2064x3072, .f32⟩
  | .hbm, ⟨20, _⟩ => ⟨S2064x3072, .f32⟩
  | .hbm, ⟨21, _⟩ => ⟨S2064x3072, .f32⟩
  | .hbm, ⟨22, _⟩ => ⟨S1x3072, .f32⟩
  | .hbm, ⟨23, _⟩ => ⟨S3072, .f32⟩
  | .hbm, ⟨24, _⟩ => ⟨S2064x3072, .f32⟩
  | .hbm, ⟨25, _⟩ => ⟨S1x3072, .f32⟩
  | .hbm, ⟨26, _⟩ => ⟨S2064x3072, .f32⟩
  | .hbm, ⟨27, _⟩ => ⟨S2064x3072, .f32⟩
  | .hbm, ⟨28, _⟩ => ⟨S2064x3072, .f32⟩
  | .hbm, ⟨29, _⟩ => ⟨S1x3072, .f32⟩
  | .hbm, ⟨30, _⟩ => ⟨S3072, .f32⟩
  | .hbm, ⟨31, _⟩ => ⟨S2064x3072, .f32⟩
  | .hbm, ⟨32, _⟩ => ⟨S1x3072, .f32⟩
  | .hbm, ⟨33, _⟩ => ⟨S2064x3072, .f32⟩
  | .hbm, ⟨34, _⟩ => ⟨S2064x3072, .f32⟩
  | .hbm, ⟨35, _⟩ => ⟨S2064x3072, .f32⟩
  | .hbm, ⟨36, _⟩ => ⟨S2064x3072, .f32⟩
  | .hbm, ⟨37, _⟩ => ⟨S2064x3072, .f32⟩
  | .hbm, ⟨38, _⟩ => ⟨S_, .f32⟩
  | .hbm, ⟨39, _⟩ => ⟨S2064x3072, .f32⟩
  | .hbm, ⟨40, _⟩ => ⟨S2064x3072, .f32⟩
  | .hbm, ⟨41, _⟩ => ⟨S_, .f32⟩
  | .hbm, ⟨42, _⟩ => ⟨S2064x3072, .f32⟩
  | .hbm, ⟨43, _⟩ => ⟨S2064x3072, .f32⟩
  | .hbm, ⟨44, _⟩ => ⟨S2064x3072, .f32⟩
  | .hbm, ⟨45, _⟩ => ⟨S2064x1024, .f32⟩
  | .hbm, ⟨46, _⟩ => ⟨S2064x8x128, .f32⟩
  | .hbm, ⟨47, _⟩ => ⟨S2064x1024, .f32⟩
  | .hbm, ⟨48, _⟩ => ⟨S2064x8x128, .f32⟩
  | .hbm, ⟨49, _⟩ => ⟨S2064x1024, .f32⟩
  | .hbm, ⟨50, _⟩ => ⟨S2064x8x128, .f32⟩
  | .hbm, ⟨51, _⟩ => ⟨S_, .f32⟩
  | .hbm, ⟨52, _⟩ => ⟨S2064x8, .f32⟩
  | .hbm, ⟨53, _⟩ => ⟨S2064x8x1, .f32⟩
  | .hbm, ⟨54, _⟩ => ⟨S_, .f32⟩
  | .hbm, ⟨55, _⟩ => ⟨S2064x8x1, .f32⟩
  | .hbm, ⟨56, _⟩ => ⟨S2064x8x1, .f32⟩
  | .hbm, ⟨57, _⟩ => ⟨S2064x8x1, .f32⟩
  | .hbm, ⟨58, _⟩ => ⟨S2064x8x128, .f32⟩
  | .hbm, ⟨59, _⟩ => ⟨S2064x8x128, .f32⟩
  | .hbm, ⟨60, _⟩ => ⟨S2064x1024, .f32⟩
  | .hbm, ⟨61, _⟩ => ⟨S2064x8x128, .f32⟩
  | .hbm, ⟨62, _⟩ => ⟨S_, .f32⟩
  | .hbm, ⟨63, _⟩ => ⟨S2064x8, .f32⟩
  | .hbm, ⟨64, _⟩ => ⟨S2064x8x1, .f32⟩
  | .hbm, ⟨65, _⟩ => ⟨S_, .f32⟩
  | .hbm, ⟨66, _⟩ => ⟨S2064x8x1, .f32⟩
  | .hbm, ⟨67, _⟩ => ⟨S2064x8x1, .f32⟩
  | .hbm, ⟨68, _⟩ => ⟨S2064x8x1, .f32⟩
  | .hbm, ⟨69, _⟩ => ⟨S2064x8x128, .f32⟩
  | .hbm, ⟨70, _⟩ => ⟨S2064x8x128, .f32⟩
  | .hbm, ⟨71, _⟩ => ⟨S2064x1024, .f32⟩
  | .hbm, ⟨72, _⟩ => ⟨S2064x3072, .f32⟩
  | .hbm, ⟨73, _⟩ => ⟨S_, .i32⟩
  | .hbm, ⟨74, _⟩ => ⟨S_, .f32⟩
  | .hbm, ⟨75, _⟩ => ⟨S2176x3072, .f32⟩
  | _, _ => ⟨S2064x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c : Ref sig .tc := ⟨.hbm, 73, rfl⟩
abbrev main_call1_v0 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KGatesF.lean ====
abbrev S2176x16000 : Shape := ⟨2, ![2176, 16000]⟩
abbrev S8 : Shape := ⟨1, ![8]⟩
abbrev S32 : Shape := ⟨1, ![32]⟩
abbrev S_ : Shape := ⟨0, ![]⟩
abbrev S128 : Shape := ⟨1, ![128]⟩
abbrev S1x128 : Shape := ⟨2, ![1, 128]⟩
abbrev S2176x128 : Shape := ⟨2, ![2176, 128]⟩
abbrev S544x128 : Shape := ⟨2, ![544, 128]⟩
abbrev S544x1 : Shape := ⟨2, ![544, 1]⟩

abbrev nBuf : Space → Nat
  | .hbm => 25
  | .vmem => 8
  | .smem => 0
  | _ => 0

abbrev bufTy : (tb : Table) → Fin (tcTables nBuf tb) → BufTy
  | .hbm, ⟨0, _⟩ => ⟨S2176x16000, .f32⟩
  | .hbm, ⟨1, _⟩ => ⟨S8, .f32⟩
  | .hbm, ⟨2, _⟩ => ⟨S32, .f32⟩
  | .hbm, ⟨3, _⟩ => ⟨S8, .f32⟩
  | .hbm, ⟨4, _⟩ => ⟨S32, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S2176x128, .f32⟩
  | .hbm, ⟨24, _⟩ => ⟨S2176x128, .f32⟩
  | .local _ .vmem, ⟨0, _⟩ => ⟨S544x128, .f32⟩
  | .local _ .vmem, ⟨1, _⟩ => ⟨S544x128, .f32⟩
  | .local _ .vmem, ⟨2, _⟩ => ⟨S1x128, .f32⟩
  | .local _ .vmem, ⟨3, _⟩ => ⟨S1x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | _, _ => ⟨S2176x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c124_i32 : BitVec 32 := 124#32
  let v0 : BitVec 32 := Scalar.addi c124_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RGatesFIdeal.lean ====
abbrev S2176x16000 : Shape := ⟨2, ![2176, 16000]⟩
abbrev S8 : Shape := ⟨1, ![8]⟩
abbrev S32 : Shape := ⟨1, ![32]⟩
abbrev S2064x8 : Shape := ⟨2, ![2064, 8]⟩
abbrev S2064x32 : Shape := ⟨2, ![2064, 32]⟩
abbrev S_ : Shape := ⟨0, ![]⟩
abbrev S1x8 : Shape := ⟨2, ![1, 8]⟩
abbrev S1x32 : Shape := ⟨2, ![1, 32]⟩
abbrev S2064x80 : Shape := ⟨2, ![2064, 80]⟩
abbrev S2064x128 : Shape := ⟨2, ![2064, 128]⟩
abbrev S2176x128 : Shape := ⟨2, ![2176, 128]⟩

abbrev nBuf : Space → Nat
  | .hbm => 74
  | .vmem => 0
  | .smem => 0
  | _ => 0

abbrev bufTy : (tb : Table) → Fin (tcTables nBuf tb) → BufTy
  | .hbm, ⟨0, _⟩ => ⟨S2176x16000, .f32⟩
  | .hbm, ⟨1, _⟩ => ⟨S8, .f32⟩
  | .hbm, ⟨2, _⟩ => ⟨S32, .f32⟩
  | .hbm, ⟨3, _⟩ => ⟨S8, .f32⟩
  | .hbm, ⟨4, _⟩ => ⟨S32, .f32⟩
  | .hbm, ⟨5, _⟩ => ⟨S2064x8, .f32⟩
  | .hbm, ⟨6, _⟩ => ⟨S2064x8, .f32⟩
  | .hbm, ⟨7, _⟩ => ⟨S2064x32, .f32⟩
  | .hbm, ⟨8, _⟩ => ⟨S2064x8, .f32⟩
  | .hbm, ⟨9, _⟩ => ⟨S2064x8, .f32⟩
  | .hbm, ⟨10, _⟩ => ⟨S_, .f32⟩
  | .hbm, ⟨11, _⟩ => ⟨S2064x8, .f32⟩
  | .hbm, ⟨12, _⟩ => ⟨S2064x8, .f32⟩
  | .hbm, ⟨13, _⟩ => ⟨S_, .f32⟩
  | .hbm, ⟨14, _⟩ => ⟨S2064x8, .f32⟩
  | .hbm, ⟨15, _⟩ => ⟨S2064x8, .f32⟩
  | .hbm, ⟨16, _⟩ => ⟨S8, .f32⟩
  | .hbm, ⟨17, _⟩ => ⟨S8, .f32⟩
  | .hbm, ⟨18, _⟩ => ⟨S1x8, .f32⟩
  | .hbm, ⟨19, _⟩ => ⟨S2064x8, .f32⟩
  | .hbm, ⟨20, _⟩ => ⟨S2064x8, .f32⟩
  | .hbm, ⟨21, _⟩ => ⟨S_, .f32⟩
  | .hbm, ⟨22, _⟩ => ⟨S2064x8, .f32⟩
  | .hbm, ⟨23, _⟩ => ⟨S2064x8, .f32⟩
  | .hbm, ⟨24, _⟩ => ⟨S2064x8, .f32⟩
  | .hbm, ⟨25, _⟩ => ⟨S2064x8, .f32⟩
  | .hbm, ⟨26, _⟩ => ⟨S2064x8, .i1⟩
  | .hbm, ⟨27, _⟩ => ⟨S2064x8, .f32⟩
  | .hbm, ⟨28, _⟩ => ⟨S2064x8, .f32⟩
  | .hbm, ⟨29, _⟩ => ⟨S2064x8, .f32⟩
  | .hbm, ⟨30, _⟩ => ⟨S2064x8, .f32⟩
  | .hbm, ⟨31, _⟩ => ⟨S2064x8, .f32⟩
  | .hbm, ⟨32, _⟩ => ⟨S2064x8, .f32⟩
  | .hbm, ⟨33, _⟩ => ⟨S2064x8, .f32⟩
  | .hbm, ⟨34, _⟩ => ⟨S2064x8, .f32⟩
  | .hbm, ⟨35, _⟩ => ⟨S1x8, .f32⟩
  | .hbm, ⟨36, _⟩ => ⟨S2064x8, .f32⟩
  | .hbm, ⟨37, _⟩ => ⟨S2064x8, .f32⟩
  | .hbm, ⟨38, _⟩ => ⟨S1x32, .f32⟩
  | .hbm, ⟨39, _⟩ => ⟨S2064x32, .f32⟩
  | .hbm, ⟨40, _⟩ => ⟨S2064x32, .f32⟩
  | .hbm, ⟨41, _⟩ => ⟨S_, .f32⟩
  | .hbm, ⟨42, _⟩ => ⟨S2064x32, .f32⟩
  | .hbm, ⟨43, _⟩ => ⟨S2064x32, .f32⟩
  | .hbm, ⟨44, _⟩ => ⟨S2064x32, .f32⟩
  | .hbm, ⟨45, _⟩ => ⟨S2064x32, .f32⟩
  | .hbm, ⟨46, _⟩ => ⟨S2064x32, .i1⟩
  | .hbm, ⟨47, _⟩ => ⟨S2064x32, .f32⟩
  | .hbm, ⟨48, _⟩ => ⟨S2064x32, .f32⟩
  | .hbm, ⟨49, _⟩ => ⟨S2064x32, .f32⟩
  | .hbm, ⟨50, _⟩ => ⟨S2064x32, .f32⟩
  | .hbm, ⟨51, _⟩ => ⟨S2064x32, .f32⟩
  | .hbm, ⟨52, _⟩ => ⟨S2064x32, .f32⟩
  | .hbm, ⟨53, _⟩ => ⟨S2064x32, .f32⟩
  | .hbm, ⟨54, _⟩ => ⟨S2064x32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S2064x80, .f32⟩
  | .hbm, ⟨59, _⟩ => ⟨S2064x128, .f32⟩
  | .hbm, ⟨60, _⟩ => ⟨S_, .f32⟩
  | .hbm, ⟨61, _⟩ => ⟨S2064x8, .f32⟩
  | .hbm, ⟨62, _⟩ => ⟨S1x32, .f32⟩
  | .hbm, ⟨63, _⟩ => ⟨S2064x32, .f32⟩
  | .hbm, ⟨64, _⟩ => ⟨S2064x32, .f32⟩
  | .hbm, ⟨65, _⟩ => ⟨S_, .f32⟩
  | .hbm, ⟨66, _⟩ => ⟨S2064x80, .f32⟩
  | .hbm, ⟨67, _⟩ => ⟨S2064x128, .f32⟩
  | .hbm, ⟨68, _⟩ => ⟨S_, .i32⟩
  | .hbm, ⟨69, _⟩ => ⟨S_, .f32⟩
  | .hbm, ⟨70, _⟩ => ⟨S2176x128, .f32⟩
  | .hbm, ⟨71, _⟩ => ⟨S_, .i32⟩
  | .hbm, ⟨72, _⟩ => ⟨S_, .f32⟩
  | .hbm, ⟨73, _⟩ => ⟨S2176x128, .f32⟩
  | _, _ => ⟨S2176x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_cst_2 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_v31 : Ref sig .tc := ⟨.hbm, 67, rfl⟩
abbrev main_c : Ref sig .tc := ⟨.hbm, 68, rfl⟩
abbrev main_call2_v0 : Ref sig .tc := ⟨.hbm, 69, rfl⟩
abbrev main_v32 : Ref sig .tc := ⟨.hbm, 70, rfl⟩
abbrev main_c_4 : Ref sig .tc := ⟨.hbm, 71, rfl⟩
abbrev main_call3_v0 : Ref sig .tc := ⟨.hbm, 72, rfl⟩
abbrev main_v33 : Ref sig .tc := ⟨.hbm, 73, rfl⟩

abbrev nD : Nat := 1
abbrev τ : Topo := Topo.v7x

variable {F : FTy → Type} [FloatOps F]
-- ==== KLoss.lean ====
abbrev S2176x1024 : Shape := ⟨2, ![2176, 1024]⟩
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2176x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S1x1, .f32⟩
  | .hbm, ⟨5, _⟩ => ⟨S2176x1024, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_23 : BitVec 32 := 0#32
  let v77 : BitVec 1 := Scalar.cmpi .ne v76 c0_i32_23
  v77

def k0_cond2 (i : grid0.Coords) : BitVec 1 :=
  let arg0 : BitVec 32 := BitVec.ofNat 32 (i 0).val
  let c0_i32_24 : BitVec 32 := 0#32
  let v78 : BitVec 1 := Scalar.cmpi .sgt arg0 c0_i32_24
  let v79 : BitVec 32 := Scalar.extui v78
  let c0_i32_25 : BitVec 32 := 0#32
  let v80 : BitVec 1 := Scalar.cmpi .ne v79 c0_i32_25
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RLossIdeal.lean ====
abbrev S2176x1024 : Shape := ⟨2, ![2176, 1024]⟩
abbrev S2048x1024 : Shape := ⟨2, ![2048, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1x1024 : Shape := ⟨2, ![1, 1024]⟩
abbrev S2048 : Shape := ⟨1, ![2048]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2048x1024, .f32⟩
  | .hbm, ⟨2, _⟩ => ⟨S1024, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S1x1024, .f32⟩
  | .hbm, ⟨21, _⟩ => ⟨S2176x1024, .f32⟩
  | .hbm, ⟨22, _⟩ => ⟨S2176x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2176x1024, .f32⟩
  | .hbm, ⟨49, _⟩ => ⟨S2176x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2176x1024, .f32⟩
  | .hbm, ⟨54, _⟩ => ⟨S2176x1024, .f32⟩
  | .hbm, ⟨55, _⟩ => ⟨S_, .f32⟩
  | .hbm, ⟨56, _⟩ => ⟨S1024, .f32⟩
  | .hbm, ⟨57, _⟩ => ⟨S2176x1024, .f32⟩
  | .hbm, ⟨58, _⟩ => ⟨S_, .f32⟩
  | .hbm, ⟨59, _⟩ => ⟨S2176, .f32⟩
  | .hbm, ⟨60, _⟩ => ⟨S2176x1, .f32⟩
  | .hbm, ⟨61, _⟩ => ⟨S2176x1024, .f32⟩
  | .hbm, ⟨62, _⟩ => ⟨S2176x1024, .f32⟩
  | .hbm, ⟨63, _⟩ => ⟨S2176x1, .f32⟩
  | .hbm, ⟨64, _⟩ => ⟨S_, .f32⟩
  | .hbm, ⟨65, _⟩ => ⟨S2176x1, .f32⟩
  | .hbm, ⟨66, _⟩ => ⟨S2176x1, .f32⟩
  | .hbm, ⟨67, _⟩ => ⟨S_, .f32⟩
  | .hbm, ⟨68, _⟩ => ⟨S2176, .f32⟩
  | .hbm, ⟨69, _⟩ => ⟨S2176x1024, .f32⟩
  | .hbm, ⟨70, _⟩ => ⟨S2176x1024, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S1x1, .f32⟩
  | .hbm, ⟨75, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== KAdam.lean ====
abbrev S4x256x1024 : Shape := ⟨3, ![4, 256, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAdamIdeal.lean ====
abbrev S4x256x1024 : Shape := ⟨3, ![4, 256, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAdamIdeal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAdamC.lean ====
abbrev S4x512x1024 : Shape := ⟨3, ![4, 512, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAdamCIdeal.lean ====
abbrev S4x512x1024 : Shape := ⟨3, ![4, 512, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAdamCIdeal.lean ====
abbrev S4x512x1024 : Shape := ⟨3, ![4, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAdamIn.lean ====
abbrev S4x1024x3980 : Shape := ⟨3, ![4, 1024, 3980]⟩
abbrev S3980x4x1024 : Shape := ⟨3, ![3980, 4, 1024]⟩
abbrev S20x4x1024 : Shape := ⟨3, ![20, 4, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x3980, .f32⟩
  | .hbm, ⟨1, _⟩ => ⟨S4x1024x3980, .f32⟩
  | .hbm, ⟨2, _⟩ => ⟨S4x1024x3980, .f32⟩
  | .hbm, ⟨3, _⟩ => ⟨S4x1024x3980, .f32⟩
  | .hbm, ⟨4, _⟩ => ⟨S3980x4x1024, .f32⟩
  | .hbm, ⟨5, _⟩ => ⟨S3980x4x1024, .f32⟩
  | .hbm, ⟨6, _⟩ => ⟨S3980x4x1024, .f32⟩
  | .hbm, ⟨7, _⟩ => ⟨S3980x4x1024, .f32⟩
  | .hbm, ⟨8, _⟩ => ⟨S3980x4x1024, .f32⟩
  | .hbm, ⟨9, _⟩ => ⟨S3980x4x1024, .f32⟩
  | .hbm, ⟨10, _⟩ => ⟨S3980x4x1024, .f32⟩
  | .hbm, ⟨11, _⟩ => ⟨S3980x4x1024, .f32⟩
  | .local _ .vmem, ⟨0, _⟩ => ⟨S20x4x1024, .f32⟩
  | .local _ .vmem, ⟨1, _⟩ => ⟨S20x4x1024, .f32⟩
  | .local _ .vmem, ⟨2, _⟩ => ⟨S20x4x1024, .f32⟩
  | .local _ .vmem, ⟨3, _⟩ => ⟨S20x4x1024, .f32⟩
  | .local _ .vmem, ⟨4, _⟩ => ⟨S20x4x1024, .f32⟩
  | .local _ .vmem, ⟨5, _⟩ => ⟨S20x4x1024, .f32⟩
  | .local _ .vmem, ⟨6, _⟩ => ⟨S20x4x1024, .f32⟩
  | .local _ .vmem, ⟨7, _⟩ => ⟨S20x4x1024, .f32⟩
  | .local _ .vmem, ⟨8, _⟩ => ⟨S20x4x1024, .f32⟩
  | .local _ .vmem, ⟨9, _⟩ => ⟨S20x4x1024, .f32⟩
  | .local _ .vmem, ⟨10, _⟩ => ⟨S20x4x1024, .f32⟩
  | .local _ .vmem, ⟨11, _⟩ => ⟨S20x4x1024, .f32⟩
  | .local _ .vmem, ⟨12, _⟩ => ⟨S20x4x1024, .f32⟩
  | .local _ .vmem, ⟨13, _⟩ => ⟨S20x4x1024, .f32⟩
  | .local _ .vmem, ⟨14, _⟩ => ⟨S20x4x1024, .f32⟩
  | .local _ .vmem, ⟨15, _⟩ => ⟨S20x4x1024, .f32⟩
  | _, _ => ⟨S4x1024x3980, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![199], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S20x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RAdamInIdeal.lean ====
abbrev S4x1024x3980 : Shape := ⟨3, ![4, 1024, 3980]⟩
abbrev S_ : Shape := ⟨0, ![]⟩
abbrev S3980x4x1024 : Shape := ⟨3, ![3980, 4, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x3980, .f32⟩
  | .hbm, ⟨1, _⟩ => ⟨S4x1024x3980, .f32⟩
  | .hbm, ⟨2, _⟩ => ⟨S4x1024x3980, .f32⟩
  | .hbm, ⟨3, _⟩ => ⟨S4x1024x3980, .f32⟩
  | .hbm, ⟨4, _⟩ => ⟨S_, .f32⟩
  | .hbm, ⟨5, _⟩ => ⟨S4x1024x3980, .f32⟩
  | .hbm, ⟨6, _⟩ => ⟨S4x1024x3980, .f32⟩
  | .hbm, ⟨7, _⟩ => ⟨S_, .f32⟩
  | .hbm, ⟨8, _⟩ => ⟨S4x1024x3980, .f32⟩
  | .hbm, ⟨9, _⟩ => ⟨S4x1024x3980, .f32⟩
  | .hbm, ⟨10, _⟩ => ⟨S4x1024x3980, .f32⟩
  | .hbm, ⟨11, _⟩ => ⟨S_, .f32⟩
  | .hbm, ⟨12, _⟩ => ⟨S4x1024x3980, .f32⟩
  | .hbm, ⟨13, _⟩ => ⟨S4x1024x3980, .f32⟩
  | .hbm, ⟨14, _⟩ => ⟨S4x1024x3980, .f32⟩
  | .hbm, ⟨15, _⟩ => ⟨S_, .f32⟩
  | .hbm, ⟨16, _⟩ => ⟨S4x1024x3980, .f32⟩
  | .hbm, ⟨17, _⟩ => ⟨S4x1024x3980, .f32⟩
  | .hbm, ⟨18, _⟩ => ⟨S4x1024x3980, .f32⟩
  | .hbm, ⟨19, _⟩ => ⟨S_, .f32⟩
  | .hbm, ⟨20, _⟩ => ⟨S4x1024x3980, .f32⟩
  | .hbm, ⟨21, _⟩ => ⟨S4x1024x3980, .f32⟩
  | .hbm, ⟨22, _⟩ => ⟨S_, .f32⟩
  | .hbm, ⟨23, _⟩ => ⟨S4x1024x3980, .f32⟩
  | .hbm, ⟨24, _⟩ => ⟨S4x1024x3980, .f32⟩
  | .hbm, ⟨25, _⟩ => ⟨S4x1024x3980, .f32⟩
  | .hbm, ⟨26, _⟩ => ⟨S_, .f32⟩
  | .hbm, ⟨27, _⟩ => ⟨S4x1024x3980, .f32⟩
  | .hbm, ⟨28, _⟩ => ⟨S4x1024x3980, .f32⟩
  | .hbm, ⟨29, _⟩ => ⟨S4x1024x3980, .f32⟩
  | .hbm, ⟨30, _⟩ => ⟨S_, .f32⟩
  | .hbm, ⟨31, _⟩ => ⟨S4x1024x3980, .f32⟩
  | .hbm, ⟨32, _⟩ => ⟨S4x1024x3980, .f32⟩
  | .hbm, ⟨33, _⟩ => ⟨S4x1024x3980, .f32⟩
  | .hbm, ⟨34, _⟩ => ⟨S_, .f32⟩
  | .hbm, ⟨35, _⟩ => ⟨S4x1024x3980, .f32⟩
  | .hbm, ⟨36, _⟩ => ⟨S4x1024x3980, .f32⟩
  | .hbm, ⟨37, _⟩ => ⟨S3980x4x1024, .f32⟩
  | .hbm, ⟨38, _⟩ => ⟨S3980x4x1024, .f32⟩
  | .hbm, ⟨39, _⟩ => ⟨S3980x4x1024, .f32⟩
  | .hbm, ⟨40, _⟩ => ⟨S3980x4x1024, .f32⟩
  | _, _ => ⟨S4x1024x3980, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KAdamConvB.lean ====
abbrev S4x4x768 : Shape := ⟨3, ![4, 4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x4x768, .f32⟩
  | .hbm, ⟨1, _⟩ => ⟨S4x4x768, .f32⟩
  | .hbm, ⟨2, _⟩ => ⟨S4x4x768, .f32⟩
  | .hbm, ⟨3, _⟩ => ⟨S4x4x768, .f32⟩
  | .hbm, ⟨4, _⟩ => ⟨S4x4x768, .f32⟩
  | .hbm, ⟨5, _⟩ => ⟨S4x4x768, .f32⟩
  | .hbm, ⟨6, _⟩ => ⟨S4x4x768, .f32⟩
  | .local _ .vmem, ⟨0, _⟩ => ⟨S4x4x768, .f32⟩
  | .local _ .vmem, ⟨1, _⟩ => ⟨S4x4x768, .f32⟩
  | .local _ .vmem, ⟨2, _⟩ => ⟨S4x4x768, .f32⟩
  | .local _ .vmem, ⟨3, _⟩ => ⟨S4x4x768, .f32⟩
  | .local _ .vmem, ⟨4, _⟩ => ⟨S4x4x768, .f32⟩
  | .local _ .vmem, ⟨5, _⟩ => ⟨S4x4x768, .f32⟩
  | .local _ .vmem, ⟨6, _⟩ => ⟨S4x4x768, .f32⟩
  | _, _ => ⟨S4x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KAdamConvBIdeal.lean ====
abbrev S4x4x768 : Shape := ⟨3, ![4, 4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x4x768, .f32⟩
  | .hbm, ⟨1, _⟩ => ⟨S4x4x768, .f32⟩
  | .hbm, ⟨2, _⟩ => ⟨S4x4x768, .f32⟩
  | .hbm, ⟨3, _⟩ => ⟨S4x4x768, .f32⟩
  | .hbm, ⟨4, _⟩ => ⟨S4x4x768, .f32⟩
  | .hbm, ⟨5, _⟩ => ⟨S4x4x768, .f32⟩
  | .hbm, ⟨6, _⟩ => ⟨S4x4x768, .f32⟩
  | .local _ .vmem, ⟨0, _⟩ => ⟨S4x4x768, .f32⟩
  | .local _ .vmem, ⟨1, _⟩ => ⟨S4x4x768, .f32⟩
  | .local _ .vmem, ⟨2, _⟩ => ⟨S4x4x768, .f32⟩
  | .local _ .vmem, ⟨3, _⟩ => ⟨S4x4x768, .f32⟩
  | .local _ .vmem, ⟨4, _⟩ => ⟨S4x4x768, .f32⟩
  | .local _ .vmem, ⟨5, _⟩ => ⟨S4x4x768, .f32⟩
  | .local _ .vmem, ⟨6, _⟩ => ⟨S4x4x768, .f32⟩
  | _, _ => ⟨S4x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAdamConvBIdeal.lean ====
abbrev S4x4x768 : Shape := ⟨3, ![4, 4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x768, .f32⟩
  | .hbm, ⟨1, _⟩ => ⟨S4x4x768, .f32⟩
  | .hbm, ⟨2, _⟩ => ⟨S4x4x768, .f32⟩
  | .hbm, ⟨3, _⟩ => ⟨S4x4x768, .f32⟩
  | .hbm, ⟨4, _⟩ => ⟨S_, .f32⟩
  | .hbm, ⟨5, _⟩ => ⟨S4x4x768, .f32⟩
  | .hbm, ⟨6, _⟩ => ⟨S4x4x768, .f32⟩
  | .hbm, ⟨7, _⟩ => ⟨S_, .f32⟩
  | .hbm, ⟨8, _⟩ => ⟨S4x4x768, .f32⟩
  | .hbm, ⟨9, _⟩ => ⟨S4x4x768, .f32⟩
  | .hbm, ⟨10, _⟩ => ⟨S4x4x768, .f32⟩
  | .hbm, ⟨11, _⟩ => ⟨S_, .f32⟩
  | .hbm, ⟨12, _⟩ => ⟨S4x4x768, .f32⟩
  | .hbm, ⟨13, _⟩ => ⟨S4x4x768, .f32⟩
  | .hbm, ⟨14, _⟩ => ⟨S4x4x768, .f32⟩
  | .hbm, ⟨15, _⟩ => ⟨S_, .f32⟩
  | .hbm, ⟨16, _⟩ => ⟨S4x4x768, .f32⟩
  | .hbm, ⟨17, _⟩ => ⟨S4x4x768, .f32⟩
  | .hbm, ⟨18, _⟩ => ⟨S4x4x768, .f32⟩
  | .hbm, ⟨19, _⟩ => ⟨S_, .f32⟩
  | .hbm, ⟨20, _⟩ => ⟨S4x4x768, .f32⟩
  | .hbm, ⟨21, _⟩ => ⟨S4x4x768, .f32⟩
  | .hbm, ⟨22, _⟩ => ⟨S_, .f32⟩
  | .hbm, ⟨23, _⟩ => ⟨S4x4x768, .f32⟩
  | .hbm, ⟨24, _⟩ => ⟨S4x4x768, .f32⟩
  | .hbm, ⟨25, _⟩ => ⟨S4x4x768, .f32⟩
  | .hbm, ⟨26, _⟩ => ⟨S_, .f32⟩
  | .hbm, ⟨27, _⟩ => ⟨S4x4x768, .f32⟩
  | .hbm, ⟨28, _⟩ => ⟨S4x4x768, .f32⟩
  | .hbm, ⟨29, _⟩ => ⟨S4x4x768, .f32⟩
  | .hbm, ⟨30, _⟩ => ⟨S_, .f32⟩
  | .hbm, ⟨31, _⟩ => ⟨S4x4x768, .f32⟩
  | .hbm, ⟨32, _⟩ => ⟨S4x4x768, .f32⟩
  | .hbm, ⟨33, _⟩ => ⟨S4x4x768, .f32⟩
  | .hbm, ⟨34, _⟩ => ⟨S_, .f32⟩
  | .hbm, ⟨35, _⟩ => ⟨S4x4x768, .f32⟩
  | .hbm, ⟨36, _⟩ => ⟨S4x4x768, .f32⟩
  | _, _ => ⟨S4x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAdamConvC.lean ====
abbrev S4x4x640 : Shape := ⟨3, ![4, 4, 640]⟩

abbrev nBuf : Space → Nat
  | .hbm => 7
  | .vmem => 7
  | .smem => 0
  | _ => 0

abbrev bufTy : (tb : Table) → Fin (tcTables nBuf tb) → BufTy
  | .hbm, ⟨0, _⟩ => ⟨S4x4x640, .f32⟩
  | .hbm, ⟨1, _⟩ => ⟨S4x4x640, .f32⟩
  | .hbm, ⟨2, _⟩ => ⟨S4x4x640, .f32⟩
  | .hbm, ⟨3, _⟩ => ⟨S4x4x640, .f32⟩
  | .hbm, ⟨4, _⟩ => ⟨S4x4x640, .f32⟩
  | .hbm, ⟨5, _⟩ => ⟨S4x4x640, .f32⟩
  | .hbm, ⟨6, _⟩ => ⟨S4x4x640, .f32⟩
  | .local _ .vmem, ⟨0, _⟩ => ⟨S4x4x640, .f32⟩
  | .local _ .vmem, ⟨1, _⟩ => ⟨S4x4x640, .f32⟩
  | .local _ .vmem, ⟨2, _⟩ => ⟨S4x4x640, .f32⟩
  | .local _ .vmem, ⟨3, _⟩ => ⟨S4x4x640, .f32⟩
  | .local _ .vmem, ⟨4, _⟩ => ⟨S4x4x640, .f32⟩
  | .local _ .vmem, ⟨5, _⟩ => ⟨S4x4x640, .f32⟩
  | .local _ .vmem, ⟨6, _⟩ => ⟨S4x4x640, .f32⟩
  | _, _ => ⟨S4x4x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x4x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KAdamConvCIdeal.lean ====
abbrev S4x4x640 : Shape := ⟨3, ![4, 4, 640]⟩

abbrev nBuf : Space → Nat
  | .hbm => 7
  | .vmem => 7
  | .smem => 0
  | _ => 0

abbrev bufTy : (tb : Table) → Fin (tcTables nBuf tb) → BufTy
  | .hbm, ⟨0, _⟩ => ⟨S4x4x640, .f32⟩
  | .hbm, ⟨1, _⟩ => ⟨S4x4x640, .f32⟩
  | .hbm, ⟨2, _⟩ => ⟨S4x4x640, .f32⟩
  | .hbm, ⟨3, _⟩ => ⟨S4x4x640, .f32⟩
  | .hbm, ⟨4, _⟩ => ⟨S4x4x640, .f32⟩
  | .hbm, ⟨5, _⟩ => ⟨S4x4x640, .f32⟩
  | .hbm, ⟨6, _⟩ => ⟨S4x4x640, .f32⟩
  | .local _ .vmem, ⟨0, _⟩ => ⟨S4x4x640, .f32⟩
  | .local _ .vmem, ⟨1, _⟩ => ⟨S4x4x640, .f32⟩
  | .local _ .vmem, ⟨2, _⟩ => ⟨S4x4x640, .f32⟩
  | .local _ .vmem, ⟨3, _⟩ => ⟨S4x4x640, .f32⟩
  | .local _ .vmem, ⟨4, _⟩ => ⟨S4x4x640, .f32⟩
  | .local _ .vmem, ⟨5, _⟩ => ⟨S4x4x640, .f32⟩
  | .local _ .vmem, ⟨6, _⟩ => ⟨S4x4x640, .f32⟩
  | _, _ => ⟨S4x4x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x4x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAdamConvCIdeal.lean ====
abbrev S4x4x640 : Shape := ⟨3, ![4, 4, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x640, .f32⟩
  | .hbm, ⟨1, _⟩ => ⟨S4x4x640, .f32⟩
  | .hbm, ⟨2, _⟩ => ⟨S4x4x640, .f32⟩
  | .hbm, ⟨3, _⟩ => ⟨S4x4x640, .f32⟩
  | .hbm, ⟨4, _⟩ => ⟨S_, .f32⟩
  | .hbm, ⟨5, _⟩ => ⟨S4x4x640, .f32⟩
  | .hbm, ⟨6, _⟩ => ⟨S4x4x640, .f32⟩
  | .hbm, ⟨7, _⟩ => ⟨S_, .f32⟩
  | .hbm, ⟨8, _⟩ => ⟨S4x4x640, .f32⟩
  | .hbm, ⟨9, _⟩ => ⟨S4x4x640, .f32⟩
  | .hbm, ⟨10, _⟩ => ⟨S4x4x640, .f32⟩
  | .hbm, ⟨11, _⟩ => ⟨S_, .f32⟩
  | .hbm, ⟨12, _⟩ => ⟨S4x4x640, .f32⟩
  | .hbm, ⟨13, _⟩ => ⟨S4x4x640, .f32⟩
  | .hbm, ⟨14, _⟩ => ⟨S4x4x640, .f32⟩
  | .hbm, ⟨15, _⟩ => ⟨S_, .f32⟩
  | .hbm, ⟨16, _⟩ => ⟨S4x4x640, .f32⟩
  | .hbm, ⟨17, _⟩ => ⟨S4x4x640, .f32⟩
  | .hbm, ⟨18, _⟩ => ⟨S4x4x640, .f32⟩
  | .hbm, ⟨19, _⟩ => ⟨S_, .f32⟩
  | .hbm, ⟨20, _⟩ => ⟨S4x4x640, .f32⟩
  | .hbm, ⟨21, _⟩ => ⟨S4x4x640, .f32⟩
  | .hbm, ⟨22, _⟩ => ⟨S_, .f32⟩
  | .hbm, ⟨23, _⟩ => ⟨S4x4x640, .f32⟩
  | .hbm, ⟨24, _⟩ => ⟨S4x4x640, .f32⟩
  | .hbm, ⟨25, _⟩ => ⟨S4x4x640, .f32⟩
  | .hbm, ⟨26, _⟩ => ⟨S_, .f32⟩
  | .hbm, ⟨27, _⟩ => ⟨S4x4x640, .f32⟩
  | .hbm, ⟨28, _⟩ => ⟨S4x4x640, .f32⟩
  | .hbm, ⟨29, _⟩ => ⟨S4x4x640, .f32⟩
  | .hbm, ⟨30, _⟩ => ⟨S_, .f32⟩
  | .hbm, ⟨31, _⟩ => ⟨S4x4x640, .f32⟩
  | .hbm, ⟨32, _⟩ => ⟨S4x4x640, .f32⟩
  | .hbm, ⟨33, _⟩ => ⟨S4x4x640, .f32⟩
  | .hbm, ⟨34, _⟩ => ⟨S_, .f32⟩
  | .hbm, ⟨35, _⟩ => ⟨S4x4x640, .f32⟩
  | .hbm, ⟨36, _⟩ => ⟨S4x4x640, .f32⟩
  | _, _ => ⟨S4x4x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAdamMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KAdamMetaIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAdamMetaIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAdamSmall.lean ====
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAdamSmallIdeal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KSsdBwd.lean ====
abbrev S2176x2560 : Shape := ⟨2, ![2176, 2560]⟩
abbrev S2176x128 : Shape := ⟨2, ![2176, 128]⟩
abbrev S34x2x128x1024 : Shape := ⟨4, ![34, 2, 128, 1024]⟩
abbrev S2176x2048 : Shape := ⟨2, ![2176, 2048]⟩
abbrev S64x2560 : Shape := ⟨2, ![64, 2560]⟩
abbrev S64x128 : Shape := ⟨2, ![64, 128]⟩
abbrev S1x2x128x1024 : Shape := ⟨4, ![1, 2, 128, 1024]⟩
abbrev S64x2048 : Shape := ⟨2, ![64, 2048]⟩
abbrev S2x128x1024 : Shape := ⟨3, ![2, 128, 1024]⟩
abbrev S64x1024 : Shape := ⟨2, ![64, 1024]⟩
abbrev S64x16 : Shape := ⟨2, ![64, 16]⟩
abbrev S1x1x128x1024 : Shape := ⟨4, ![1, 1, 128, 1024]⟩
abbrev S128x1024 : Shape := ⟨2, ![128, 1024]⟩
abbrev S64x64 : Shape := ⟨2, ![64, 64]⟩
abbrev S16x1024 : Shape := ⟨2, ![16, 1024]⟩
abbrev S1024 : Shape := ⟨1, ![1024]⟩
abbrev S1x1024 : Shape := ⟨2, ![1, 1024]⟩
abbrev S1x16 : Shape := ⟨2, ![1, 16]⟩
abbrev S1x128 : Shape := ⟨2, ![1, 128]⟩
abbrev S64 : Shape := ⟨1, ![64]⟩
abbrev S64x1 : Shape := ⟨2, ![64, 1]⟩
abbrev S1x64 : Shape := ⟨2, ![1, 64]⟩
abbrev S1x128x1024 : Shape := ⟨3, ![1, 128, 1024]⟩
abbrev S64x896 : Shape := ⟨2, ![64, 896]⟩
abbrev S64x768 : Shape := ⟨2, ![64, 768]⟩
abbrev S64x640 : Shape := ⟨2, ![64, 640]⟩
abbrev S64x256 : Shape := ⟨2, ![64, 256]⟩
abbrev S64x512 : Shape := ⟨2, ![64, 512]⟩
abbrev S64x384 : Shape := ⟨2, ![64, 384]⟩
abbrev S16x128 : Shape := ⟨2, ![16, 128]⟩

abbrev nBuf : Space → Nat
  | .hbm => 9
  | .vmem => 19
  | .smem => 0
  | _ => 0

abbrev bufTy : (tb : Table) → Fin (tcTables nBuf tb) → BufTy
  | .hbm, ⟨0, _⟩ => ⟨S2176x2560, .f32⟩
  | .hbm, ⟨1, _⟩ => ⟨S2176x128, .f32⟩
  | .hbm, ⟨2, _⟩ => ⟨S2176x128, .f32⟩
  | .hbm, ⟨3, _⟩ => ⟨S34x2x128x1024, .f32⟩
  | .hbm, ⟨4, _⟩ => ⟨S2176x2048, .f32⟩
  | .hbm, ⟨5, _⟩ => ⟨S2176x2048, .f32⟩
  | .hbm, ⟨6, _⟩ => ⟨S2176x2560, .f32⟩
  | .hbm, ⟨7, _⟩ => ⟨S2176x128, .f32⟩
  | .hbm, ⟨8, _⟩ => ⟨S2176x128, .f32⟩
  | .local _ .vmem, ⟨0, _⟩ => ⟨S64x2560, .f32⟩
  | .local _ .vmem, ⟨1, _⟩ => ⟨S64x2560, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x2x128x1024, .f32⟩
  | .local _ .vmem, ⟨7, _⟩ => ⟨S1x2x128x1024, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2560, .f32⟩
  | .local _ .vmem, ⟨13, _⟩ => ⟨S64x2560, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S2x128x1024, .f32⟩
  | _, _ => ⟨S2176x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KGdnFwd.lean ====
abbrev S2176x3072 : Shape := ⟨2, ![2176, 3072]⟩
abbrev S2176x128 : Shape := ⟨2, ![2176, 128]⟩
abbrev S2176x1024 : Shape := ⟨2, ![2176, 1024]⟩
abbrev S34x8x128x128 : Shape := ⟨4, ![34, 8, 128, 128]⟩
abbrev S34x8x64x64 : Shape := ⟨4, ![34, 8, 64, 64]⟩
abbrev S64x3072 : Shape := ⟨2, ![64, 3072]⟩
abbrev S64x128 : Shape := ⟨2, ![64, 128]⟩
abbrev S64x1024 : Shape := ⟨2, ![64, 1024]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S1x64x128 : Shape := ⟨3, ![1, 64, 128]⟩
abbrev S8x64x128 : Shape := ⟨3, ![8, 64, 128]⟩
abbrev S64x1 : Shape := ⟨2, ![64, 1]⟩
abbrev S1x64x1 : Shape := ⟨3, ![1, 64, 1]⟩
abbrev S8x64x1 : Shape := ⟨3, ![8, 64, 1]⟩
abbrev S64x64 : Shape := ⟨2, ![64, 64]⟩
abbrev S1x64x64 : Shape := ⟨3, ![1, 64, 64]⟩
abbrev S8x64x64 : Shape := ⟨3, ![8, 64, 64]⟩
abbrev S8x64 : Shape := ⟨2, ![8, 64]⟩
abbrev S8x1x64 : Shape := ⟨3, ![8, 1, 64]⟩
abbrev S8x1 : Shape := ⟨2, ![8, 1]⟩
abbrev S8x1x1 : Shape := ⟨3, ![8, 1, 1]⟩

abbrev nBuf : Space → Nat
  | .hbm => 5
  | .vmem => 11
  | .smem => 0
  | _ => 0

abbrev bufTy : (tb : Table) → Fin (tcTables nBuf tb) → BufTy
  | .hbm, ⟨0, _⟩ => ⟨S2176x3072, .f32⟩
  | .hbm, ⟨1, _⟩ => ⟨S2176x128, .f32⟩
  | .hbm, ⟨2, _⟩ => ⟨S2176x1024, .f32⟩
  | .hbm, ⟨3, _⟩ => ⟨S34x8x128x128, .f32⟩
  | .hbm, ⟨4, _⟩ => ⟨S34x8x64x64, .f32⟩
  | .local _ .vmem, ⟨0, _⟩ => ⟨S64x3072, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S64x1024, .f32⟩
  | .local _ .vmem, ⟨5, _⟩ => ⟨S64x1024, .f32⟩
  | .local _ .vmem, ⟨6, _⟩ => ⟨S1x8x128x128, .f32⟩
  | .local _ .vmem, ⟨7, _⟩ => ⟨S1x8x128x128, .f32⟩
  | .local _ .vmem, ⟨8, _⟩ => ⟨S1x8x64x64, .f32⟩
  | .local _ .vmem, ⟨9, _⟩ => ⟨S1x8x64x64, .f32⟩
  | .local _ .vmem, ⟨10, _⟩ => ⟨S8x128x128, .f32⟩
  | _, _ => ⟨S2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KSsdFwd.lean ====
abbrev S2176x2560 : Shape := ⟨2, ![2176, 2560]⟩
abbrev S2176x128 : Shape := ⟨2, ![2176, 128]⟩
abbrev S2176x2048 : Shape := ⟨2, ![2176, 2048]⟩
abbrev S34x2x128x1024 : Shape := ⟨4, ![34, 2, 128, 1024]⟩
abbrev S64x2560 : Shape := ⟨2, ![64, 2560]⟩
abbrev S64x128 : Shape := ⟨2, ![64, 128]⟩
abbrev S64x2048 : Shape := ⟨2, ![64, 2048]⟩
abbrev S1x2x128x1024 : Shape := ⟨4, ![1, 2, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S1x1x128x1024 : Shape := ⟨4, ![1, 1, 128, 1024]⟩
abbrev S64x1024 : Shape := ⟨2, ![64, 1024]⟩
abbrev S64x16 : Shape := ⟨2, ![64, 16]⟩
abbrev S64x64 : Shape := ⟨2, ![64, 64]⟩
abbrev S16x1024 : Shape := ⟨2, ![16, 1024]⟩
abbrev S1024 : Shape := ⟨1, ![1024]⟩
abbrev S1x1024 : Shape := ⟨2, ![1, 1024]⟩
abbrev S1x16 : Shape := ⟨2, ![1, 16]⟩
abbrev S1x128 : Shape := ⟨2, ![1, 128]⟩
abbrev S64 : Shape := ⟨1, ![64]⟩
abbrev S64x1 : Shape := ⟨2, ![64, 1]⟩
abbrev S1x64 : Shape := ⟨2, ![1, 64]⟩

abbrev nBuf : Space → Nat
  | .hbm => 5
  | .vmem => 11
  | .smem => 0
  | _ => 0

abbrev bufTy : (tb : Table) → Fin (tcTables nBuf tb) → BufTy
  | .hbm, ⟨0, _⟩ => ⟨S2176x2560, .f32⟩
  | .hbm, ⟨1, _⟩ => ⟨S2176x128, .f32⟩
  | .hbm, ⟨2, _⟩ => ⟨S2176x128, .f32⟩
  | .hbm, ⟨3, _⟩ => ⟨S2176x2048, .f32⟩
  | .hbm, ⟨4, _⟩ => ⟨S34x2x128x1024, .f32⟩
  | .local _ .vmem, ⟨0, _⟩ => ⟨S64x2560, .f32⟩
  | .local _ .vmem, ⟨1, _⟩ => ⟨S64x2560, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x2048, .f32⟩
  | .local _ .vmem, ⟨7, _⟩ => ⟨S64x2048, .f32⟩
  | .local _ .vmem, ⟨8, _⟩ => ⟨S1x2x128x1024, .f32⟩
  | .local _ .vmem, ⟨9, _⟩ => ⟨S1x2x128x1024, .f32⟩
  | .local _ .vmem, ⟨10, _⟩ => ⟨S2x128x1024, .f32⟩
  | _, _ => ⟨S2176x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.GWin.lean ====
/-
  Hand-written, untrusted. The gradient of the input projection's weight, `KGWinIdeal`, over the extended reals: the array
  its twenty-five column blocks leave is the reference's `val_main_v6` of the two arguments.
-/
module

public import proofs.«01_k».proof.Defs
public import proofs.«01_k».proof.Proof.Gen.KGWinIdeal.Value
public import proofs.«01_k».proof.Proof.Gen.RGWinIdeal.Run
public import proofs.«01_k».proof.Proof.Gen.RGWinIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GWin

open Idealize.ShloMosaic Idealize.SL.Sem Cert.KGWinIdeal
open Cert.KGWinIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x1024 .bf16) (h3 : a3.IsWhole)
    (a4 : Memref sig .tc .vmem S2176x640 .bf16) (h4 : a4.IsWhole) (a5 : Memref sig .tc .vmem S1024x640 .bf16) (h5 : a5.IsWhole)
    (a6 : Memref sig .tc .vmem S1024x640 .f32) (h6 : a6.IsWhole) (hc0 : cond0_0 i) (hc1 : ¬cond0_1 i) (hc2 : cond0_2 i)
    (x0 : Vec Ideal S2176x1024 .bf16) (x1 : Vec Ideal S2176x640 .bf16) :
    out0_A_2 c i a3 h3 a4 h4 a5 h5 a6 h6 hc0 hc1 hc2 x0 x1 = k0_pay4 (k0_pay2 x0 x1) := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S1024x640) hz, View.readCov_unit_zero (S := S1024x640) _ hz]
  simp only [View.readAt_eq_ld, h3.read_unread, h4.read_unread, View.ld_unit_zero (S := S2176x1024) hz, View.ld_unit_zero (S := S2176x640) hz]

theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S2176x640.Idx) (j : S2176x16000.Idx)
    (h0 : (j 0).val = (y 0).val) (h1 : (j 1).val = t.val * 640 + (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RGWinIdeal.Read.val_main_v6 (F := Ideal) (m ((c : Thread nD τ).loc main_arg0)) (m ((c : Thread nD τ).loc main_arg1))

theorem pay_apply (x0 : Vec Ideal S2176x1024 .bf16) (x1 : Vec Ideal S2176x640 .bf16) (r : Fin 1024) (l : Fin 640) :
    k0_pay4 (k0_pay2 x0 x1) (ix2 r l) = ∑ k : Fin 2176, x0 (ix2 k r) * x1 (ix2 k l) := by
  pointwise [k0_pay4, k0_pay2, k0_pay1]

theorem result_apply (x0 : Vec Ideal S2176x1024 .bf16) (x1 : Vec Ideal S2176x16000 .bf16) (r : Fin 1024) (l : Fin 16000) :
    Cert.RGWinIdeal.Read.val_main_v6 (F := Ideal) x0 x1 (ix2 r l) = ∑ k : Fin 2176, x1 (ix2 k l) * x0 (ix2 k r) := by
  pointwise [Cert.RGWinIdeal.Read.val_main_v6, Cert.RGWinIdeal.Read.val_main_v5, Cert.RGWinIdeal.Read.val_main_v4, Cert.RGWinIdeal.Read.val_main_v3, Cert.RGWinIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 1024) (l : Fin 640), y = ix2 r l := ⟨y 0, y 1, by pointwise⟩
  show k0_pay4 (k0_pay2 (iblk m c 0 t) (iblk m c 1 t)) (ix2 r l) = result m c ((win0_2.rect t).emb (ix2 r l))
  have ht : t.val < 25 := t.isLt
  have e : ((win0_2.rect t).emb (ix2 r l) : S1024x16000.Idx) = ix2 r ⟨t.val * 640 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply, iblk1_apply m c t _ (ix2 k ⟨t.val * 640 + l.val, by omega⟩) rfl rfl, mul_comm]

theorem final (c : Dev nD) : (dats m 0 c).arrAt 2 cfg0.N = result m c :=
  (dats m 0 c).arrAt_eq_of_cover 2 (result m c) (flushed_eq m c) fun i => by
    change S1024x16000.Idx at i
    have h0 : (i 0).val < 1024 := (i 0).isLt
    have h1 : (i 1).val < 16000 := (i 1).isLt
    have hN : cfg0.N = 25 := by decide
    obtain ⟨t, ht⟩ : ∃ t : Fin cfg0.N, t.val = (i 1).val / 640 := ⟨⟨(i 1).val / 640, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show 0 * 1024 ≤ (i 0).val ∧ (i 0).val < 0 * 1024 + 1024
      omega
    | ⟨1, _⟩ =>
      show t.val * 640 ≤ (i 1).val ∧ (i 1).val < t.val * 640 + 640
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RGWinIdeal := fun m ρ _ =>
  (θ_run _ _ _).mono (fun r h => ⟨fun c => (h c).2, sem_eq_zero_of_no_sems (by decide) r.2⟩) (Cert.RGWinIdeal.Value.run m ρ)

theorem algebraic : Cert.algebraic_KGWinIdeal_RGWinIdeal := by
  intro m g m' g' _ hm
  refine ⟨fun c => result m c, run m g, ?_⟩
  refine (θ_run _ _ _).mono (fun r h c => ⟨?_, (h c).2⟩) (Cert.RGWinIdeal.Value.run m' g')
  rw [(h c).1, (hm c).1, (hm c).2]
  rfl

end Cert.Proof.GWin

end
-- ==== Proof.DMerged.lean ====
/-
  Hand-written, untrusted. The gradient of the merged branch output, `KDMergedIdeal`, over the extended reals: the array its two
  column blocks leave is the reference's `val_main_v3` of the two arguments.
-/
module

public import proofs.«01_k».proof.Defs
public import proofs.«01_k».proof.Proof.Gen.KDMergedIdeal.Value
public import proofs.«01_k».proof.Proof.Gen.RDMergedIdeal.Run
public import proofs.«01_k».proof.Proof.Gen.RDMergedIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.DMerged

open Idealize.ShloMosaic Idealize.SL.Sem Cert.KDMergedIdeal
open Cert.KDMergedIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x1024 .f32) (h3 : a3.IsWhole)
    (a4 : Memref sig .tc .vmem S512x1024 .bf16) (h4 : a4.IsWhole) (a5 : Memref sig .tc .vmem S2176x512 .f32) (h5 : a5.IsWhole)
    (a6 : Memref sig .tc .vmem S2176x512 .f32) (h6 : a6.IsWhole) (hc0 : cond0_0 i) (hc1 : ¬cond0_1 i) (hc2 : cond0_2 i)
    (x0 : Vec Ideal S2176x1024 .f32) (x1 : Vec Ideal S512x1024 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S2176x512) hz, View.readCov_unit_zero (S := S2176x512) _ hz]
  simp only [View.readAt_eq_ld, h3.read_unread, h4.read_unread, View.ld_unit_zero (S := S2176x1024) hz, View.ld_unit_zero (S := S512x1024) hz]

theorem index0 : ∀ t : Fin cfg0.N, win0_0.index t = ![0, 0] :=
  (by decide +kernel : ∀ t : Fin grid0.N, win0_0.index t = ![0, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val] :=
  (by decide +kernel : ∀ t : Fin grid0.N, win0_2.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S512x1024.Idx) (j : S1024x1024.Idx)
    (h0 : (j 0).val = t.val * 512 + (y 0).val) (h1 : (j 1).val = (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; rfl
  | ⟨1, _⟩ => rw [show (j ⟨1, _⟩).val = _ from h1]; simp

/-- The array the run leaves. -/
abbrev result (c : Dev nD) : Buf (Elt Ideal) ((c : Thread nD τ).loc main_v0) :=
  Cert.RDMergedIdeal.Read.val_main_v3 (F := Ideal) (m ((c : Thread nD τ).loc main_arg0)) (m ((c : Thread nD τ).loc main_arg1))

theorem pay_apply (x0 : Vec Ideal S2176x1024 .f32) (x1 : Vec Ideal S512x1024 .bf16) (r : Fin 2176) (l : Fin 512) :
    k0_pay2 x0 x1 (ix2 r l) = ∑ k : Fin 1024, x0 (ix2 r k) * x1 (ix2 l k) := by
  pointwise [k0_pay2, k0_pay1]

theorem result_apply (x0 : Vec Ideal S2176x1024 .f32) (x1 : Vec Ideal S1024x1024 .bf16) (r : Fin 2176) (l : Fin 1024) :
    Cert.RDMergedIdeal.Read.val_main_v3 (F := Ideal) x0 x1 (ix2 r l) = ∑ k : Fin 1024, x0 (ix2 r k) * x1 (ix2 l k) := by
  pointwise [Cert.RDMergedIdeal.Read.val_main_v3, Cert.RDMergedIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 2176) (l : Fin 512), y = ix2 r l := ⟨y 0, y 1, by pointwise⟩
  show k0_pay2 (iblk m c 0 t) (iblk m c 1 t) (ix2 r l) = result m c ((win0_2.rect t).emb (ix2 r l))
  have ht : t.val < 2 := t.isLt
  have e : ((win0_2.rect t).emb (ix2 r l) : S2176x1024.Idx) = ix2 r ⟨t.val * 512 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply, iblk1_apply m c t _ (ix2 ⟨t.val * 512 + l.val, by omega⟩ k) rfl rfl]

theorem final (c : Dev nD) : (dats m 0 c).arrAt 2 cfg0.N = result m c :=
  (dats m 0 c).arrAt_eq_of_cover 2 (result m c) (flushed_eq m c) fun i => by
    change S2176x1024.Idx at i
    have h0 : (i 0).val < 2176 := (i 0).isLt
    have h1 : (i 1).val < 1024 := (i 1).isLt
    have hN : cfg0.N = 2 := by decide
    obtain ⟨t, ht⟩ : ∃ t : Fin cfg0.N, t.val = (i 1).val / 512 := ⟨⟨(i 1).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show 0 * 2176 ≤ (i 0).val ∧ (i 0).val < 0 * 2176 + 2176
      omega
    | ⟨1, _⟩ =>
      show t.val * 512 ≤ (i 1).val ∧ (i 1).val < t.val * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RDMergedIdeal := fun m ρ _ =>
  (θ_run _ _ _).mono (fun r h => ⟨fun c => (h c).2, sem_eq_zero_of_no_sems (by decide) r.2⟩) (Cert.RDMergedIdeal.Value.run m ρ)

theorem algebraic : Cert.algebraic_KDMergedIdeal_RDMergedIdeal := by
  intro m g m' g' _ hm
  refine ⟨fun c => result m c, run m g, ?_⟩
  refine (θ_run _ _ _).mono (fun r h c => ⟨?_, (h c).2⟩) (Cert.RDMergedIdeal.Value.run m' g')
  rw [(h c).1, (hm c).1, (hm c).2]
  rfl

end Cert.Proof.DMerged

end
-- ==== Proof.GWout.lean ====
/-
  Hand-written, untrusted. The gradient of the output projection's weight, `KGWoutIdeal`, over the extended reals: the array its two
  row blocks leave is the reference's `val_main_v4` of the two arguments.
-/
module

public import proofs.«01_k».proof.Defs
public import proofs.«01_k».proof.Proof.Gen.KGWoutIdeal.Value
public import proofs.«01_k».proof.Proof.Gen.RGWoutIdeal.Run
public import proofs.«01_k».proof.Proof.Gen.RGWoutIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GWout

open Idealize.ShloMosaic Idealize.SL.Sem Cert.KGWoutIdeal
open Cert.KGWoutIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x512 .bf16) (h3 : a3.IsWhole)
    (a4 : Memref sig .tc .vmem S2176x1024 .f32) (h4 : a4.IsWhole) (a5 : Memref sig .tc .vmem S512x1024 .f32) (h5 : a5.IsWhole)
    (a6 : Memref sig .tc .vmem S512x1024 .f32) (h6 : a6.IsWhole) (hc0 : cond0_0 i) (hc1 : ¬cond0_1 i) (hc2 : cond0_2 i)
    (x0 : Vec Ideal S2176x512 .bf16) (x1 : Vec Ideal S2176x1024 .f32) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S2176x1024) hz, View.ld_unit_zero (S := S2176x512) hz]

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem iblk1_apply (c : Dev nD) (t : Fin cfg0.N) (y : S2176x1024.Idx) :
    iblk m c 1 t y = m ((c : Thread nD τ).loc main_arg1) y := by
  show m ((c : Thread nD τ).loc main_arg1) ((win0_1.rect t).emb y) = _
  congr 1
  funext a; apply Fin.ext
  rw [Pipeline.Window.rect_emb_val win0_1 t _ a rfl, index1]
  fin_cases a <;> simp

theorem iblk0_apply (c : Dev nD) (t : Fin cfg0.N) (y : S2176x512.Idx) (j : S2176x1024.Idx)
    (h0 : (j 0).val = (y 0).val) (h1 : (j 1).val = t.val * 512 + (y 1).val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RGWoutIdeal.Read.val_main_v4 (F := Ideal) (m ((c : Thread nD τ).loc main_arg0)) (m ((c : Thread nD τ).loc main_arg1))

theorem pay_apply (x0 : Vec Ideal S2176x512 .bf16) (x1 : Vec Ideal S2176x1024 .f32) (r : Fin 512) (l : Fin 1024) :
    k0_pay2 x0 x1 (ix2 r l) = ∑ k : Fin 2176, x0 (ix2 k r) * x1 (ix2 k l) := by
  pointwise [k0_pay2, k0_pay1]

theorem result_apply (x0 : Vec Ideal S2176x1024 .bf16) (x1 : Vec Ideal S2176x1024 .f32) (r : Fin 1024) (l : Fin 1024) :
    Cert.RGWoutIdeal.Read.val_main_v4 (F := Ideal) x0 x1 (ix2 r l) = ∑ k : Fin 2176, x1 (ix2 k l) * x0 (ix2 k r) := by
  pointwise [ Cert.RGWoutIdeal.Read.val_main_v4, Cert.RGWoutIdeal.Read.val_main_v3, Cert.RGWoutIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 512) (l : Fin 1024), y = ix2 r l := ⟨y 0, y 1, by pointwise⟩
  show k0_pay2 (iblk m c 0 t) (iblk m c 1 t) (ix2 r l) = result m c ((win0_2.rect t).emb (ix2 r l))
  have ht : t.val < 2 := t.isLt
  have e : ((win0_2.rect t).emb (ix2 r l) : S1024x1024.Idx) = ix2 ⟨t.val * 512 + r.val, by omega⟩ l := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply m c t _ (ix2 k ⟨t.val * 512 + r.val, by omega⟩) rfl rfl, iblk1_apply, mul_comm]

theorem final (c : Dev nD) : (dats m 0 c).arrAt 2 cfg0.N = result m c :=
  (dats m 0 c).arrAt_eq_of_cover 2 (result m c) (flushed_eq m c) fun i => by
    change S1024x1024.Idx at i
    have h0 : (i 0).val < 1024 := (i 0).isLt
    have h1 : (i 1).val < 1024 := (i 1).isLt
    have hN : cfg0.N = 2 := by decide
    obtain ⟨t, ht⟩ : ∃ t : Fin cfg0.N, t.val = (i 0).val / 512 := ⟨⟨(i 0).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RGWoutIdeal := fun m ρ _ =>
  (θ_run _ _ _).mono (fun r h => ⟨fun c => (h c).2, sem_eq_zero_of_no_sems (by decide) r.2⟩) (Cert.RGWoutIdeal.Value.run m ρ)

theorem algebraic : Cert.algebraic_KGWoutIdeal_RGWoutIdeal := by
  intro m g m' g' _ hm
  refine ⟨fun c => result m c, run m g, ?_⟩
  refine (θ_run _ _ _).mono (fun r h c => ⟨?_, (h c).2⟩) (Cert.RGWoutIdeal.Value.run m' g')
  rw [(h c).1, (hm c).1, (hm c).2]
  rfl

end Cert.Proof.GWout

end
-- ==== Proof.Projection.lean ====
/-
  Hand-written, untrusted. The input projection, `KProjIdeal`, over the extended reals: the array its twenty-five column blocks
  leave is the reference's `val_main_v2` of the two arguments.
-/
module

public import proofs.«01_k».proof.Defs
public import proofs.«01_k».proof.Proof.Gen.KProjIdeal.Value
public import proofs.«01_k».proof.Proof.Gen.RProjIdeal.Run
public import proofs.«01_k».proof.Proof.Gen.RProjIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Projection

open Idealize.ShloMosaic Idealize.SL.Sem Cert.KProjIdeal
open Cert.KProjIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x1024 .bf16) (h3 : a3.IsWhole)
    (a4 : Memref sig .tc .vmem S1024x640 .bf16) (h4 : a4.IsWhole) (a5 : Memref sig .tc .vmem S2176x640 .f32) (h5 : a5.IsWhole)
    (a6 : Memref sig .tc .vmem S2176x640 .f32) (h6 : a6.IsWhole) (hc0 : cond0_0 i) (hc1 : ¬cond0_1 i) (hc2 : cond0_2 i)
    (x0 : Vec Ideal S2176x1024 .bf16) (x1 : Vec Ideal S1024x640 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S2176x640) hz, View.readCov_unit_zero (S := S2176x640) _ hz]
  simp only [View.readAt_eq_ld, h3.read_unread, h4.read_unread, View.ld_unit_zero (S := S2176x1024) hz, View.ld_unit_zero (S := S1024x640) hz]

theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S1024x640.Idx) (j : S1024x16000.Idx)
    (h0 : (j 0).val = (y 0).val) (h1 : (j 1).val = t.val * 640 + (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RProjIdeal.Read.val_main_v2 (F := Ideal) (m ((c : Thread nD τ).loc main_arg0)) (m ((c : Thread nD τ).loc main_arg1))

theorem pay_apply (x0 : Vec Ideal S2176x1024 .bf16) (x1 : Vec Ideal S1024x640 .bf16) (r : Fin 2176) (l : Fin 640) :
    k0_pay2 x0 x1 (ix2 r l) = ∑ k : Fin 1024, x0 (ix2 r k) * x1 (ix2 k l) := by
  pointwise [k0_pay2, k0_pay1]

theorem result_apply (x0 : Vec Ideal S2176x1024 .bf16) (x1 : Vec Ideal S1024x16000 .bf16) (r : Fin 2176) (l : Fin 16000) :
    Cert.RProjIdeal.Read.val_main_v2 (F := Ideal) x0 x1 (ix2 r l) = ∑ k : Fin 1024, x0 (ix2 r k) * x1 (ix2 k l) := by
  pointwise [Cert.RProjIdeal.Read.val_main_v2, Cert.RProjIdeal.Read.val_main_v1, Cert.RProjIdeal.Read.val_main_v0]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 2176) (l : Fin 640), y = ix2 r l := ⟨y 0, y 1, by pointwise⟩
  show k0_pay2 (iblk m c 0 t) (iblk m c 1 t) (ix2 r l) = result m c ((win0_2.rect t).emb (ix2 r l))
  have ht : t.val < 25 := t.isLt
  have e : ((win0_2.rect t).emb (ix2 r l) : S2176x16000.Idx) = ix2 r ⟨t.val * 640 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply, iblk1_apply m c t _ (ix2 k ⟨t.val * 640 + l.val, by omega⟩) rfl rfl]

theorem final (c : Dev nD) : (dats m 0 c).arrAt 2 cfg0.N = result m c :=
  (dats m 0 c).arrAt_eq_of_cover 2 (result m c) (flushed_eq m c) fun i => by
    change S2176x16000.Idx at i
    have h0 : (i 0).val < 2176 := (i 0).isLt
    have h1 : (i 1).val < 16000 := (i 1).isLt
    have hN : cfg0.N = 25 := by decide
    obtain ⟨t, ht⟩ : ∃ t : Fin cfg0.N, t.val = (i 1).val / 640 := ⟨⟨(i 1).val / 640, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show 0 * 2176 ≤ (i 0).val ∧ (i 0).val < 0 * 2176 + 2176
      omega
    | ⟨1, _⟩ =>
      show t.val * 640 ≤ (i 1).val ∧ (i 1).val < t.val * 640 + 640
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RProjIdeal := fun m ρ _ =>
  (θ_run _ _ _).mono (fun r h => ⟨fun c => (h c).2, sem_eq_zero_of_no_sems (by decide) r.2⟩) (Cert.RProjIdeal.Value.run m ρ)

theorem algebraic : Cert.algebraic_KProjIdeal_RProjIdeal := by
  intro m g m' g' _ hm
  refine ⟨fun c => result m c, run m g, ?_⟩
  refine (θ_run _ _ _).mono (fun r h c => ⟨?_, (h c).2⟩) (Cert.RProjIdeal.Value.run m' g')
  rw [(h c).1, (hm c).1, (hm c).2]
  rfl

end Cert.Proof.Projection

end
-- ==== Proof.DU.lean ====
/-
  Hand-written, untrusted. The gradient of the input projection's rows, `KDUIdeal`, over the extended reals: the twenty-five
  partial products its points add up in the scratch are, after the last, the reference's `val_main_v4` of the two arguments.
-/
module

public import proofs.«01_k».proof.Defs
public import proofs.«01_k».proof.Proof.Gen.KDUIdeal.Value
public import proofs.«01_k».proof.Proof.Gen.RDUIdeal.Run
public import proofs.«01_k».proof.Proof.Gen.RDUIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.DU

open Idealize.ShloMosaic Idealize.SL.Sem Cert.KDUIdeal
open Cert.KDUIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords) (a3 : Memref sig .tc .vmem S2176x640 .bf16) (h3 : a3.IsWhole)
    (a4 : Memref sig .tc .vmem S1024x640 .bf16) (h4 : a4.IsWhole) (a5 : Memref sig .tc .vmem S2176x1024 .f32) (h5 : a5.IsWhole)
    (a6 : Memref sig .tc .vmem S2176x1024 .f32) (h6 : a6.IsWhole) (x0 : Vec Ideal S2176x640 .bf16) (x1 : Vec Ideal S1024x640 .bf16)

/-- The first point leaves the product of its two blocks in the scratch. -/
theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S2176x1024) hz]
  simp only [View.readAt_eq_ld, h3.read_unread, h4.read_unread, View.ld_unit_zero (S := S2176x640) hz, View.ld_unit_zero (S := S1024x640) hz]

/-- A later point adds the product of its two blocks to the scratch. -/
theorem sout_B (hc0 : ¬cond0_0 i) (hc1 : cond0_1 i) (hc2 : ¬cond0_2 i) (xs : Vec Ideal S2176x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_cons_unit_zero (S := S2176x1024) hz]
  simp only [View.readAt_eq_ld, h3.read_unread, h4.read_unread, h6.read_unread, View.ld_unit_zero (S := S2176x640) hz, View.ld_unit_zero (S := S1024x640) hz,
    View.ld_unit_zero (S := S2176x1024) hz]

/-- The last point leaves in the result's staging buffer the scratch with its own product added. -/
theorem out_C (hc0 : ¬cond0_0 i) (hc1 : cond0_1 i) (hc2 : cond0_2 i) (xs : Vec Ideal S2176x1024 .f32) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_cons_unit_zero (S := S2176x1024) hz, View.readCov_unit_zero (S := S2176x1024) _ hz]
  simp only [View.readAt_eq_ld, h3.read_unread, h4.read_unread, h6.read_unread, View.ld_unit_zero (S := S2176x640) hz, View.ld_unit_zero (S := S1024x640) hz,
    View.ld_unit_zero (S := S2176x1024) hz]

end Body

theorem index0 : ∀ t : Fin cfg0.N, win0_0.index t = ![0, t.val] :=
  (by decide +kernel : ∀ t : Fin grid0.N, win0_0.index t = ![0, t.val])
theorem index1 : ∀ t : Fin cfg0.N, win0_1.index t = ![0, t.val] :=
  (by decide +kernel : ∀ t : Fin grid0.N, win0_1.index t = ![0, t.val])
theorem index2 : ∀ t : Fin cfg0.N, win0_2.index t = ![0, 0] :=
  (by decide +kernel : ∀ t : Fin grid0.N, win0_2.index t = ![0, 0])

theorem iblk0_apply (c : Dev nD) (t : Fin cfg0.N) (y : S2176x640.Idx) (j : S2176x16000.Idx)
    (h0 : (j 0).val = (y 0).val) (h1 : (j 1).val = (y 1).val + 640 * t.val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; simp
  | ⟨1, _⟩ => rw [show (j ⟨1, _⟩).val = _ from h1, add_comm, mul_comm]; rfl

theorem iblk1_apply (c : Dev nD) (t : Fin cfg0.N) (y : S1024x640.Idx) (j : S1024x16000.Idx)
    (h0 : (j 0).val = (y 0).val) (h1 : (j 1).val = (y 1).val + 640 * t.val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1, add_comm, mul_comm]; rfl

/-- The array the run leaves. -/
abbrev result (c : Dev nD) : Buf (Elt Ideal) ((c : Thread nD τ).loc main_v0) :=
  Cert.RDUIdeal.Read.val_main_v4 (F := Ideal) (m ((c : Thread nD τ).loc main_arg0)) (m ((c : Thread nD τ).loc main_arg1))

theorem pay2_apply (x0 : Vec Ideal S2176x640 .bf16) (x1 : Vec Ideal S1024x640 .bf16) (r : Fin 2176) (l : Fin 1024) :
    k0_pay2 x0 x1 (ix2 r l) = ∑ k : Fin 640, x0 (ix2 r k) * x1 (ix2 l k) := by
  pointwise [k0_pay2, k0_pay1]

theorem pay3_apply (x0 : Vec Ideal S2176x640 .bf16) (x1 : Vec Ideal S1024x640 .bf16) (x2 : Vec Ideal S2176x1024 .f32) (r : Fin 2176) (l : Fin 1024) :
    k0_pay3 x0 x1 x2 (ix2 r l) = x2 (ix2 r l) + ∑ k : Fin 640, x0 (ix2 r k) * x1 (ix2 l k) := by
  pointwise [k0_pay3, k0_pay1]

theorem result_apply (x0 : Vec Ideal S2176x16000 .bf16) (x1 : Vec Ideal S1024x16000 .bf16) (r : Fin 2176) (l : Fin 1024) :
    Cert.RDUIdeal.Read.val_main_v4 (F := Ideal) x0 x1 (ix2 r l) = ∑ k : Fin 16000, x0 (ix2 r k) * x1 (ix2 l k) := by
  pointwise [Cert.RDUIdeal.Read.val_main_v4, Cert.RDUIdeal.Read.val_main_v3, Cert.RDUIdeal.Read.val_main_v1]

/-- The product of point `n`'s two blocks, at an index. -/
def part (c : Dev nD) (r : Fin 2176) (l : Fin 1024) (t : Fin cfg0.N) : EReal :=
  k0_pay2 (iblk m c 0 t) (iblk m c 1 t) (ix2 r l)

/-- What the scratch holds after point `n`, short of the last: the sum of the products so far. -/
theorem scratch_eq (c : Dev nD) (r : Fin 2176) (l : Fin 1024) : ∀ (n : ℕ) (hn : n < cfg0.N), n < 24 →
    (outsAt0 m c n hn).2 (ix2 r l) = ∑ t : Fin (n + 1), part m c r l ⟨t.val, lt_of_lt_of_le t.isLt hn⟩
  | 0, hn, _ => by
    rw [outsAt0_A m c ⟨0, hn⟩ (by simp) (by simp) (by simp)]
    dsimp only
    rw [sout_A]
    simp [part]
  | n + 1, hn, h => by
    rw [outsAt0_B m c ⟨n + 1, hn⟩ (by simp only; omega) (by simp) (by simp only; omega)]
    dsimp only
    rw [sout_B, pay3_apply, ← pay2_apply, Fin.sum_univ_castSucc]
    exact congrArg (· + _) (scratch_eq c r l n (Nat.lt_of_succ_lt hn) (by omega))

theorem flushed_eq (c : Dev nD) (t : Fin cfg0.N) (hf : (cfg0.win 2).flush t = true) :
    (dats m 0 c).flushed 2 t = ((cfg0.win 2).blk t).view.read (Elt Ideal) (result m c) := by
  have ht : t.val = 24 := (by decide +kernel : ∀ t : Fin grid0.N, win0_2.flush t = true → t.val = 24) t hf
  obtain rfl : t = ⟨24, by decide⟩ := Fin.ext ht
  rw [Value.flushed2_C m c _ (by simp) (by simp) (by simp), out_C]
  funext y
  obtain ⟨r, l, rfl⟩ : ∃ (r : Fin 2176) (l : Fin 1024), y = ix2 r l := ⟨y 0, y 1, by pointwise⟩
  show k0_pay3 (iblk m c 0 ⟨24, _⟩) (iblk m c 1 ⟨24, _⟩) (outsAt0 m c 23 _).2 (ix2 r l) = result m c ((win0_2.rect ⟨24, _⟩).emb (ix2 r l))
  have e : ((win0_2.rect ⟨24, by decide⟩).emb (ix2 r l) : S2176x1024.Idx) = ix2 r l := by
    funext a; apply Fin.ext
    rw [Pipeline.Window.rect_emb_val win0_2 _ _ a rfl, index2]
    fin_cases a <;> simp <;> rfl
  rw [e, pay3_apply, ← pay2_apply, scratch_eq m c r l 23 (by decide) (by decide), show result m c _ = _ from result_apply _ _ _ _]
  have hs := Fin.sum_univ_castSucc (n := 24) fun t : Fin 25 => part m c r l ⟨t.val, lt_of_lt_of_eq t.isLt (by decide)⟩
  refine Eq.trans hs.symm ?_
  rw [← Equiv.sum_comp (finProdFinEquiv (m := 25) (n := 640)), Fintype.sum_prod_type]
  refine Finset.sum_congr rfl fun t _ => (pay2_apply _ _ r l).trans (Finset.sum_congr rfl fun k _ => ?_)
  rw [iblk0_apply m c _ _ (ix2 r (finProdFinEquiv (t, k))) rfl rfl, iblk1_apply m c _ _ (ix2 l (finProdFinEquiv (t, k))) rfl rfl]

theorem final (c : Dev nD) : (dats m 0 c).arrAt 2 cfg0.N = result m c :=
  (dats m 0 c).arrAt_eq_of_cover 2 (result m c) (flushed_eq m c) fun i => by
    change S2176x1024.Idx at i
    have h0 : (i 0).val < 2176 := (i 0).isLt
    have h1 : (i 1).val < 1024 := (i 1).isLt
    obtain ⟨t, ht⟩ : ∃ t : Fin cfg0.N, t = ⟨24, by decide⟩ := ⟨_, rfl⟩
    refine ⟨t, ht ▸ (by decide +kernel : win0_2.flush ⟨24, by decide⟩ = true), ?_⟩
    show i ∈ ((View.whole main_v0).slice (win0_2.rect t)).set
    rw [View.set_slice_whole, Rect.mem_set_unit]
    intro a
    rw [index2]
    match a with
    | ⟨0, _⟩ =>
      show 0 * 2176 ≤ (i 0).val ∧ (i 0).val < 0 * 2176 + 2176
      omega
    | ⟨1, _⟩ =>
      show 0 * 1024 ≤ (i 1).val ∧ (i 1).val < 0 * 1024 + 1024
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RDUIdeal := fun m ρ _ =>
  (θ_run _ _ _).mono (fun r h => ⟨fun c => (h c).2, sem_eq_zero_of_no_sems (by decide) r.2⟩) (Cert.RDUIdeal.Value.run m ρ)

theorem algebraic : Cert.algebraic_KDUIdeal_RDUIdeal := by
  intro m g m' g' _ hm
  refine ⟨fun c => result m c, run m g, ?_⟩
  refine (θ_run _ _ _).mono (fun r h c => ⟨?_, (h c).2⟩) (Cert.RDUIdeal.Value.run m' g')
  rw [(h c).1, (hm c).1, (hm c).2]
  rfl

end Cert.Proof.DU

end
-- ==== Proof.Branch.lean ====
/-
  Hand-written, untrusted. A branch's product, `KBranchIdeal`, over the extended reals: the array its four blocks
  leave is the reference's `val_main_v2` of the two arguments.
-/
module

public import proofs.«01_k».proof.Defs
public import proofs.«01_k».proof.Proof.Gen.KBranchIdeal.Value
public import proofs.«01_k».proof.Proof.Gen.RBranchIdeal.Run
public import proofs.«01_k».proof.Proof.Gen.RBranchIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Branch

open Idealize.ShloMosaic Idealize.SL.Sem Cert.KBranchIdeal
open Cert.KBranchIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S1088x1024 .bf16) (h3 : a3.IsWhole)
    (a4 : Memref sig .tc .vmem S1024x512 .bf16) (h4 : a4.IsWhole) (a5 : Memref sig .tc .vmem S1088x512 .f32) (h5 : a5.IsWhole)
    (a6 : Memref sig .tc .vmem S1088x512 .f32) (h6 : a6.IsWhole) (hc0 : cond0_0 i) (hc1 : ¬cond0_1 i) (hc2 : cond0_2 i)
    (x0 : Vec Ideal S1088x1024 .bf16) (x1 : Vec Ideal S1024x512 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S1088x512) hz, View.readCov_unit_zero (S := S1088x512) _ hz]
  simp only [View.readAt_eq_ld, h3.read_unread, h4.read_unread, View.ld_unit_zero (S := S1088x1024) hz, View.ld_unit_zero (S := S1024x512) hz]

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])

theorem iblk0_apply (c : Dev nD) (t : Fin cfg0.N) (y : S1088x1024.Idx) (j : S2176x1024.Idx)
    (h0 : (j 0).val = t.val / 2 * 1088 + (y 0).val) (h1 : (j 1).val = (y 1).val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; rfl
  | ⟨1, _⟩ => rw [show (j ⟨1, _⟩).val = _ from h1]; simp

theorem iblk1_apply (c : Dev nD) (t : Fin cfg0.N) (y : S1024x512.Idx) (j : S1024x1024.Idx)
    (h0 : (j 0).val = (y 0).val) (h1 : (j 1).val = t.val % 2 * 512 + (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RBranchIdeal.Read.val_main_v2 (F := Ideal) (m ((c : Thread nD τ).loc main_arg0)) (m ((c : Thread nD τ).loc main_arg1))

theorem pay_apply (x0 : Vec Ideal S1088x1024 .bf16) (x1 : Vec Ideal S1024x512 .bf16) (r : Fin 1088) (l : Fin 512) :
    k0_pay2 x0 x1 (ix2 r l) = ∑ k : Fin 1024, x0 (ix2 r k) * x1 (ix2 k l) := by
  pointwise [k0_pay2, k0_pay1]

theorem result_apply (x0 : Vec Ideal S2176x1024 .bf16) (x1 : Vec Ideal S1024x1024 .bf16) (r : Fin 2176) (l : Fin 1024) :
    Cert.RBranchIdeal.Read.val_main_v2 (F := Ideal) x0 x1 (ix2 r l) = ∑ k : Fin 1024, x0 (ix2 r k) * x1 (ix2 k l) := by
  pointwise [Cert.RBranchIdeal.Read.val_main_v2, Cert.RBranchIdeal.Read.val_main_v1, Cert.RBranchIdeal.Read.val_main_v0]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 1088) (l : Fin 512), y = ix2 r l := ⟨y 0, y 1, by pointwise⟩
  show k0_pay2 (iblk m c 0 t) (iblk m c 1 t) (ix2 r l) = result m c ((win0_2.rect t).emb (ix2 r l))
  have ht : t.val < 4 := t.isLt
  have e : ((win0_2.rect t).emb (ix2 r l) : S2176x1024.Idx) = ix2 ⟨t.val / 2 * 1088 + r.val, by omega⟩ ⟨t.val % 2 * 512 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply m c t _ (ix2 ⟨t.val / 2 * 1088 + r.val, by omega⟩ k) rfl rfl, iblk1_apply m c t _ (ix2 k ⟨t.val % 2 * 512 + l.val, by omega⟩) rfl rfl]

theorem final (c : Dev nD) : (dats m 0 c).arrAt 2 cfg0.N = result m c :=
  (dats m 0 c).arrAt_eq_of_cover 2 (result m c) (flushed_eq m c) fun i => by
    change S2176x1024.Idx at i
    have h0 : (i 0).val < 2176 := (i 0).isLt
    have h1 : (i 1).val < 1024 := (i 1).isLt
    have hN : cfg0.N = 4 := by decide
    obtain ⟨t, ht⟩ : ∃ t : Fin cfg0.N, t.val = (i 0).val / 1088 * 2 + (i 1).val / 512 := ⟨⟨(i 0).val / 1088 * 2 + (i 1).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show t.val / 2 * 1088 ≤ (i 0).val ∧ (i 0).val < t.val / 2 * 1088 + 1088
      omega
    | ⟨1, _⟩ =>
      show t.val % 2 * 512 ≤ (i 1).val ∧ (i 1).val < t.val % 2 * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RBranchIdeal := fun m ρ _ =>
  (θ_run _ _ _).mono (fun r h => ⟨fun c => (h c).2, sem_eq_zero_of_no_sems (by decide) r.2⟩) (Cert.RBranchIdeal.Value.run m ρ)

theorem algebraic : Cert.algebraic_KBranchIdeal_RBranchIdeal := by
  intro m g m' g' _ hm
  refine ⟨fun c => result m c, run m g, ?_⟩
  refine (θ_run _ _ _).mono (fun r h c => ⟨?_, (h c).2⟩) (Cert.RBranchIdeal.Value.run m' g')
  rw [(h c).1, (hm c).1, (hm c).2]
  rfl

end Cert.Proof.Branch

end
-- ==== Proof.BranchC.lean ====
/-
  Hand-written, untrusted. The third branch's product, `KBranchCIdeal`, over the extended reals: the array its four blocks
  leave is the reference's `val_main_v2` of the two arguments.
-/
module

public import proofs.«01_k».proof.Defs
public import proofs.«01_k».proof.Proof.Gen.KBranchCIdeal.Value
public import proofs.«01_k».proof.Proof.Gen.RBranchCIdeal.Run
public import proofs.«01_k».proof.Proof.Gen.RBranchCIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.BranchC

open Idealize.ShloMosaic Idealize.SL.Sem Cert.KBranchCIdeal
open Cert.KBranchCIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S1088x2048 .bf16) (h3 : a3.IsWhole)
    (a4 : Memref sig .tc .vmem S2048x512 .bf16) (h4 : a4.IsWhole) (a5 : Memref sig .tc .vmem S1088x512 .f32) (h5 : a5.IsWhole)
    (a6 : Memref sig .tc .vmem S1088x512 .f32) (h6 : a6.IsWhole) (hc0 : cond0_0 i) (hc1 : ¬cond0_1 i) (hc2 : cond0_2 i)
    (x0 : Vec Ideal S1088x2048 .bf16) (x1 : Vec Ideal S2048x512 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S1088x512) hz, View.readCov_unit_zero (S := S1088x512) _ hz]
  simp only [View.readAt_eq_ld, h3.read_unread, h4.read_unread, View.ld_unit_zero (S := S1088x2048) hz, View.ld_unit_zero (S := S2048x512) hz]

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])

theorem iblk0_apply (c : Dev nD) (t : Fin cfg0.N) (y : S1088x2048.Idx) (j : S2176x2048.Idx)
    (h0 : (j 0).val = t.val / 2 * 1088 + (y 0).val) (h1 : (j 1).val = (y 1).val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; rfl
  | ⟨1, _⟩ => rw [show (j ⟨1, _⟩).val = _ from h1]; simp

theorem iblk1_apply (c : Dev nD) (t : Fin cfg0.N) (y : S2048x512.Idx) (j : S2048x1024.Idx)
    (h0 : (j 0).val = (y 0).val) (h1 : (j 1).val = t.val % 2 * 512 + (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RBranchCIdeal.Read.val_main_v2 (F := Ideal) (m ((c : Thread nD τ).loc main_arg0)) (m ((c : Thread nD τ).loc main_arg1))

theorem pay_apply (x0 : Vec Ideal S1088x2048 .bf16) (x1 : Vec Ideal S2048x512 .bf16) (r : Fin 1088) (l : Fin 512) :
    k0_pay2 x0 x1 (ix2 r l) = ∑ k : Fin 2048, x0 (ix2 r k) * x1 (ix2 k l) := by
  pointwise [k0_pay2, k0_pay1]

theorem result_apply (x0 : Vec Ideal S2176x2048 .bf16) (x1 : Vec Ideal S2048x1024 .bf16) (r : Fin 2176) (l : Fin 1024) :
    Cert.RBranchCIdeal.Read.val_main_v2 (F := Ideal) x0 x1 (ix2 r l) = ∑ k : Fin 2048, x0 (ix2 r k) * x1 (ix2 k l) := by
  pointwise [Cert.RBranchCIdeal.Read.val_main_v2, Cert.RBranchCIdeal.Read.val_main_v1, Cert.RBranchCIdeal.Read.val_main_v0]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 1088) (l : Fin 512), y = ix2 r l := ⟨y 0, y 1, by pointwise⟩
  show k0_pay2 (iblk m c 0 t) (iblk m c 1 t) (ix2 r l) = result m c ((win0_2.rect t).emb (ix2 r l))
  have ht : t.val < 4 := t.isLt
  have e : ((win0_2.rect t).emb (ix2 r l) : S2176x1024.Idx) = ix2 ⟨t.val / 2 * 1088 + r.val, by omega⟩ ⟨t.val % 2 * 512 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply m c t _ (ix2 ⟨t.val / 2 * 1088 + r.val, by omega⟩ k) rfl rfl, iblk1_apply m c t _ (ix2 k ⟨t.val % 2 * 512 + l.val, by omega⟩) rfl rfl]

theorem final (c : Dev nD) : (dats m 0 c).arrAt 2 cfg0.N = result m c :=
  (dats m 0 c).arrAt_eq_of_cover 2 (result m c) (flushed_eq m c) fun i => by
    change S2176x1024.Idx at i
    have h0 : (i 0).val < 2176 := (i 0).isLt
    have h1 : (i 1).val < 1024 := (i 1).isLt
    have hN : cfg0.N = 4 := by decide
    obtain ⟨t, ht⟩ : ∃ t : Fin cfg0.N, t.val = (i 0).val / 1088 * 2 + (i 1).val / 512 := ⟨⟨(i 0).val / 1088 * 2 + (i 1).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show t.val / 2 * 1088 ≤ (i 0).val ∧ (i 0).val < t.val / 2 * 1088 + 1088
      omega
    | ⟨1, _⟩ =>
      show t.val % 2 * 512 ≤ (i 1).val ∧ (i 1).val < t.val % 2 * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RBranchCIdeal := fun m ρ _ =>
  (θ_run _ _ _).mono (fun r h => ⟨fun c => (h c).2, sem_eq_zero_of_no_sems (by decide) r.2⟩) (Cert.RBranchCIdeal.Value.run m ρ)

theorem algebraic : Cert.algebraic_KBranchCIdeal_RBranchCIdeal := by
  intro m g m' g' _ hm
  refine ⟨fun c => result m c, run m g, ?_⟩
  refine (θ_run _ _ _).mono (fun r h c => ⟨?_, (h c).2⟩) (Cert.RBranchCIdeal.Value.run m' g')
  rw [(h c).1, (hm c).1, (hm c).2]
  rfl

end Cert.Proof.BranchC

end
-- ==== Proof.GWBranch.lean ====
/-
  Hand-written, untrusted. The gradient of the weight of a branch's product, `KGWBranchIdeal`, over the extended reals: the array its two
  row blocks leave is the reference's `val_main_v5` of the two arguments.
-/
module

public import proofs.«01_k».proof.Defs
public import proofs.«01_k».proof.Proof.Gen.KGWBranchIdeal.Value
public import proofs.«01_k».proof.Proof.Gen.RGWBranchIdeal.Run
public import proofs.«01_k».proof.Proof.Gen.RGWBranchIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GWBranch

open Idealize.ShloMosaic Idealize.SL.Sem Cert.KGWBranchIdeal
open Cert.KGWBranchIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x512 .bf16) (h3 : a3.IsWhole)
    (a4 : Memref sig .tc .vmem S2176x1024 .bf16) (h4 : a4.IsWhole) (a5 : Memref sig .tc .vmem S512x1024 .f32) (h5 : a5.IsWhole)
    (a6 : Memref sig .tc .vmem S512x1024 .f32) (h6 : a6.IsWhole) (hc0 : cond0_0 i) (hc1 : ¬cond0_1 i) (hc2 : cond0_2 i)
    (x0 : Vec Ideal S2176x512 .bf16) (x1 : Vec Ideal S2176x1024 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S2176x1024) hz, View.ld_unit_zero (S := S2176x512) hz]

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem iblk1_apply (c : Dev nD) (t : Fin cfg0.N) (y : S2176x1024.Idx) :
    iblk m c 1 t y = m ((c : Thread nD τ).loc main_arg1) y := by
  show m ((c : Thread nD τ).loc main_arg1) ((win0_1.rect t).emb y) = _
  congr 1
  funext a; apply Fin.ext
  rw [Pipeline.Window.rect_emb_val win0_1 t _ a rfl, index1]
  fin_cases a <;> simp

theorem iblk0_apply (c : Dev nD) (t : Fin cfg0.N) (y : S2176x512.Idx) (j : S2176x1024.Idx)
    (h0 : (j 0).val = (y 0).val) (h1 : (j 1).val = t.val * 512 + (y 1).val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RGWBranchIdeal.Read.val_main_v5 (F := Ideal) (m ((c : Thread nD τ).loc main_arg0)) (m ((c : Thread nD τ).loc main_arg1))

theorem pay_apply (x0 : Vec Ideal S2176x512 .bf16) (x1 : Vec Ideal S2176x1024 .bf16) (r : Fin 512) (l : Fin 1024) :
    k0_pay2 x0 x1 (ix2 r l) = ∑ k : Fin 2176, x0 (ix2 k r) * x1 (ix2 k l) := by
  pointwise [k0_pay2, k0_pay1]

theorem result_apply (x0 : Vec Ideal S2176x1024 .bf16) (x1 : Vec Ideal S2176x1024 .bf16) (r : Fin 1024) (l : Fin 1024) :
    Cert.RGWBranchIdeal.Read.val_main_v5 (F := Ideal) x0 x1 (ix2 r l) = ∑ k : Fin 2176, x1 (ix2 k l) * x0 (ix2 k r) := by
  pointwise [ Cert.RGWBranchIdeal.Read.val_main_v5, Cert.RGWBranchIdeal.Read.val_main_v4, Cert.RGWBranchIdeal.Read.val_main_v3, Cert.RGWBranchIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 512) (l : Fin 1024), y = ix2 r l := ⟨y 0, y 1, by pointwise⟩
  show k0_pay2 (iblk m c 0 t) (iblk m c 1 t) (ix2 r l) = result m c ((win0_2.rect t).emb (ix2 r l))
  have ht : t.val < 2 := t.isLt
  have e : ((win0_2.rect t).emb (ix2 r l) : S1024x1024.Idx) = ix2 ⟨t.val * 512 + r.val, by omega⟩ l := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply m c t _ (ix2 k ⟨t.val * 512 + r.val, by omega⟩) rfl rfl, iblk1_apply, mul_comm]

theorem final (c : Dev nD) : (dats m 0 c).arrAt 2 cfg0.N = result m c :=
  (dats m 0 c).arrAt_eq_of_cover 2 (result m c) (flushed_eq m c) fun i => by
    change S1024x1024.Idx at i
    have h0 : (i 0).val < 1024 := (i 0).isLt
    have h1 : (i 1).val < 1024 := (i 1).isLt
    have hN : cfg0.N = 2 := by decide
    obtain ⟨t, ht⟩ : ∃ t : Fin cfg0.N, t.val = (i 0).val / 512 := ⟨⟨(i 0).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RGWBranchIdeal := fun m ρ _ =>
  (θ_run _ _ _).mono (fun r h => ⟨fun c => (h c).2, sem_eq_zero_of_no_sems (by decide) r.2⟩) (Cert.RGWBranchIdeal.Value.run m ρ)

theorem algebraic : Cert.algebraic_KGWBranchIdeal_RGWBranchIdeal := by
  intro m g m' g' _ hm
  refine ⟨fun c => result m c, run m g, ?_⟩
  refine (θ_run _ _ _).mono (fun r h c => ⟨?_, (h c).2⟩) (Cert.RGWBranchIdeal.Value.run m' g')
  rw [(h c).1, (hm c).1, (hm c).2]
  rfl

end Cert.Proof.GWBranch

end
-- ==== Proof.GWBranchC.lean ====
/-
  Hand-written, untrusted. The gradient of the weight of the third branch's product, `KGWBranchCIdeal`, over the extended reals: the array its four
  row blocks leave is the reference's `val_main_v5` of the two arguments.
-/
module

public import proofs.«01_k».proof.Defs
public import proofs.«01_k».proof.Proof.Gen.KGWBranchCIdeal.Value
public import proofs.«01_k».proof.Proof.Gen.RGWBranchCIdeal.Run
public import proofs.«01_k».proof.Proof.Gen.RGWBranchCIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GWBranchC

open Idealize.ShloMosaic Idealize.SL.Sem Cert.KGWBranchCIdeal
open Cert.KGWBranchCIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x512 .bf16) (h3 : a3.IsWhole)
    (a4 : Memref sig .tc .vmem S2176x1024 .bf16) (h4 : a4.IsWhole) (a5 : Memref sig .tc .vmem S512x1024 .f32) (h5 : a5.IsWhole)
    (a6 : Memref sig .tc .vmem S512x1024 .f32) (h6 : a6.IsWhole) (hc0 : cond0_0 i) (hc1 : ¬cond0_1 i) (hc2 : cond0_2 i)
    (x0 : Vec Ideal S2176x512 .bf16) (x1 : Vec Ideal S2176x1024 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S2176x1024) hz, View.ld_unit_zero (S := S2176x512) hz]

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem iblk1_apply (c : Dev nD) (t : Fin cfg0.N) (y : S2176x1024.Idx) :
    iblk m c 1 t y = m ((c : Thread nD τ).loc main_arg1) y := by
  show m ((c : Thread nD τ).loc main_arg1) ((win0_1.rect t).emb y) = _
  congr 1
  funext a; apply Fin.ext
  rw [Pipeline.Window.rect_emb_val win0_1 t _ a rfl, index1]
  fin_cases a <;> simp

theorem iblk0_apply (c : Dev nD) (t : Fin cfg0.N) (y : S2176x512.Idx) (j : S2176x2048.Idx)
    (h0 : (j 0).val = (y 0).val) (h1 : (j 1).val = t.val * 512 + (y 1).val) :
    iblk m c 0 t y = m ((c : Thread nD τ).loc main_arg0) j := by
  show m ((c : Thread nD τ).loc main_arg0) ((win0_0.rect t).emb y) = _
  congr 1
  funext a; apply Fin.ext
  rw [Pipeline.Window.rect_emb_val win0_0 t _ a rfl, index0]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.RGWBranchCIdeal.Read.val_main_v5 (F := Ideal) (m ((c : Thread nD τ).loc main_arg0)) (m ((c : Thread nD τ).loc main_arg1))

theorem pay_apply (x0 : Vec Ideal S2176x512 .bf16) (x1 : Vec Ideal S2176x1024 .bf16) (r : Fin 512) (l : Fin 1024) :
    k0_pay2 x0 x1 (ix2 r l) = ∑ k : Fin 2176, x0 (ix2 k r) * x1 (ix2 k l) := by
  pointwise [k0_pay2, k0_pay1]

theorem result_apply (x0 : Vec Ideal S2176x2048 .bf16) (x1 : Vec Ideal S2176x1024 .bf16) (r : Fin 2048) (l : Fin 1024) :
    Cert.RGWBranchCIdeal.Read.val_main_v5 (F := Ideal) x0 x1 (ix2 r l) = ∑ k : Fin 2176, x1 (ix2 k l) * x0 (ix2 k r) := by
  pointwise [ Cert.RGWBranchCIdeal.Read.val_main_v5, Cert.RGWBranchCIdeal.Read.val_main_v4, Cert.RGWBranchCIdeal.Read.val_main_v3, Cert.RGWBranchCIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 512) (l : Fin 1024), y = ix2 r l := ⟨y 0, y 1, by pointwise⟩
  show k0_pay2 (iblk m c 0 t) (iblk m c 1 t) (ix2 r l) = result m c ((win0_2.rect t).emb (ix2 r l))
  have ht : t.val < 4 := t.isLt
  have e : ((win0_2.rect t).emb (ix2 r l) : S2048x1024.Idx) = ix2 ⟨t.val * 512 + r.val, by omega⟩ l := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply m c t _ (ix2 k ⟨t.val * 512 + r.val, by omega⟩) rfl rfl, iblk1_apply, mul_comm]

theorem final (c : Dev nD) : (dats m 0 c).arrAt 2 cfg0.N = result m c :=
  (dats m 0 c).arrAt_eq_of_cover 2 (result m c) (flushed_eq m c) fun i => by
    change S2048x1024.Idx at i
    have h0 : (i 0).val < 2048 := (i 0).isLt
    have h1 : (i 1).val < 1024 := (i 1).isLt
    have hN : cfg0.N = 4 := by decide
    obtain ⟨t, ht⟩ : ∃ t : Fin cfg0.N, t.val = (i 0).val / 512 := ⟨⟨(i 0).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show t.val * 512 ≤ (i 0).val ∧ (i 0).val < t.val * 512 + 512
      omega
    | ⟨1, _⟩ =>
      show 0 * 1024 ≤ (i 1).val ∧ (i 1).val < 0 * 1024 + 1024
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RGWBranchCIdeal := fun m ρ _ =>
  (θ_run _ _ _).mono (fun r h => ⟨fun c => (h c).2, sem_eq_zero_of_no_sems (by decide) r.2⟩) (Cert.RGWBranchCIdeal.Value.run m ρ)

theorem algebraic : Cert.algebraic_KGWBranchCIdeal_RGWBranchCIdeal := by
  intro m g m' g' _ hm
  refine ⟨fun c => result m c, run m g, ?_⟩
  refine (θ_run _ _ _).mono (fun r h c => ⟨?_, (h c).2⟩) (Cert.RGWBranchCIdeal.Value.run m' g')
  rw [(h c).1, (hm c).1, (hm c).2]
  rfl

end Cert.Proof.GWBranchC

end
-- ==== Proof.DO.lean ====
/-
  Hand-written, untrusted. The gradient of a branch's rows, `KDOIdeal`, over the extended reals: the array its two
  column blocks leave is the reference's `val_main_v4` of the two arguments.
-/
module

public import proofs.«01_k».proof.Defs
public import proofs.«01_k».proof.Proof.Gen.KDOIdeal.Value
public import proofs.«01_k».proof.Proof.Gen.RDOIdeal.Run
public import proofs.«01_k».proof.Proof.Gen.RDOIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.DO

open Idealize.ShloMosaic Idealize.SL.Sem Cert.KDOIdeal
open Cert.KDOIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x1024 .bf16) (h3 : a3.IsWhole)
    (a4 : Memref sig .tc .vmem S512x1024 .bf16) (h4 : a4.IsWhole) (a5 : Memref sig .tc .vmem S2176x512 .f32) (h5 : a5.IsWhole)
    (a6 : Memref sig .tc .vmem S2176x512 .f32) (h6 : a6.IsWhole) (hc0 : cond0_0 i) (hc1 : ¬cond0_1 i) (hc2 : cond0_2 i)
    (x0 : Vec Ideal S2176x1024 .bf16) (x1 : Vec Ideal S512x1024 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S2176x512) hz, View.readCov_unit_zero (S := S2176x512) _ hz]
  simp only [View.readAt_eq_ld, h3.read_unread, h4.read_unread, View.ld_unit_zero (S := S2176x1024) hz, View.ld_unit_zero (S := S512x1024) hz]

theorem index0 : ∀ t : Fin cfg0.N, win0_0.index t = ![0, 0] :=
  (by decide +kernel : ∀ t : Fin grid0.N, win0_0.index t = ![0, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val] :=
  (by decide +kernel : ∀ t : Fin grid0.N, win0_2.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S512x1024.Idx) (j : S1024x1024.Idx)
    (h0 : (j 0).val = t.val * 512 + (y 0).val) (h1 : (j 1).val = (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; rfl
  | ⟨1, _⟩ => rw [show (j ⟨1, _⟩).val = _ from h1]; simp

/-- The array the run leaves. -/
abbrev result (c : Dev nD) : Buf (Elt Ideal) ((c : Thread nD τ).loc main_v0) :=
  Cert.RDOIdeal.Read.val_main_v4 (F := Ideal) (m ((c : Thread nD τ).loc main_arg0)) (m ((c : Thread nD τ).loc main_arg1))

theorem pay_apply (x0 : Vec Ideal S2176x1024 .bf16) (x1 : Vec Ideal S512x1024 .bf16) (r : Fin 2176) (l : Fin 512) :
    k0_pay2 x0 x1 (ix2 r l) = ∑ k : Fin 1024, x0 (ix2 r k) * x1 (ix2 l k) := by
  pointwise [k0_pay2, k0_pay1]

theorem result_apply (x0 : Vec Ideal S2176x1024 .bf16) (x1 : Vec Ideal S1024x1024 .bf16) (r : Fin 2176) (l : Fin 1024) :
    Cert.RDOIdeal.Read.val_main_v4 (F := Ideal) x0 x1 (ix2 r l) = ∑ k : Fin 1024, x0 (ix2 r k) * x1 (ix2 l k) := by
  pointwise [Cert.RDOIdeal.Read.val_main_v4, Cert.RDOIdeal.Read.val_main_v3, Cert.RDOIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 2176) (l : Fin 512), y = ix2 r l := ⟨y 0, y 1, by pointwise⟩
  show k0_pay2 (iblk m c 0 t) (iblk m c 1 t) (ix2 r l) = result m c ((win0_2.rect t).emb (ix2 r l))
  have ht : t.val < 2 := t.isLt
  have e : ((win0_2.rect t).emb (ix2 r l) : S2176x1024.Idx) = ix2 r ⟨t.val * 512 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply, iblk1_apply m c t _ (ix2 ⟨t.val * 512 + l.val, by omega⟩ k) rfl rfl]

theorem final (c : Dev nD) : (dats m 0 c).arrAt 2 cfg0.N = result m c :=
  (dats m 0 c).arrAt_eq_of_cover 2 (result m c) (flushed_eq m c) fun i => by
    change S2176x1024.Idx at i
    have h0 : (i 0).val < 2176 := (i 0).isLt
    have h1 : (i 1).val < 1024 := (i 1).isLt
    have hN : cfg0.N = 2 := by decide
    obtain ⟨t, ht⟩ : ∃ t : Fin cfg0.N, t.val = (i 1).val / 512 := ⟨⟨(i 1).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show 0 * 2176 ≤ (i 0).val ∧ (i 0).val < 0 * 2176 + 2176
      omega
    | ⟨1, _⟩ =>
      show t.val * 512 ≤ (i 1).val ∧ (i 1).val < t.val * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RDOIdeal := fun m ρ _ =>
  (θ_run _ _ _).mono (fun r h => ⟨fun c => (h c).2, sem_eq_zero_of_no_sems (by decide) r.2⟩) (Cert.RDOIdeal.Value.run m ρ)

theorem algebraic : Cert.algebraic_KDOIdeal_RDOIdeal := by
  intro m g m' g' _ hm
  refine ⟨fun c => result m c, run m g, ?_⟩
  refine (θ_run _ _ _).mono (fun r h c => ⟨?_, (h c).2⟩) (Cert.RDOIdeal.Value.run m' g')
  rw [(h c).1, (hm c).1, (hm c).2]
  rfl

end Cert.Proof.DO

end
-- ==== Proof.DOC.lean ====
/-
  Hand-written, untrusted. The gradient of the third branch's rows, `KDOCIdeal`, over the extended reals: the array its four
  column blocks leave is the reference's `val_main_v4` of the two arguments.
-/
module

public import proofs.«01_k».proof.Defs
public import proofs.«01_k».proof.Proof.Gen.KDOCIdeal.Value
public import proofs.«01_k».proof.Proof.Gen.RDOCIdeal.Run
public import proofs.«01_k».proof.Proof.Gen.RDOCIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.DOC

open Idealize.ShloMosaic Idealize.SL.Sem Cert.KDOCIdeal
open Cert.KDOCIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks, rounded. -/
theorem out_eq (c : Dev nD) (i : grid0.Coords) (a3 : Memref sig .tc .vmem S2176x1024 .bf16) (h3 : a3.IsWhole)
    (a4 : Memref sig .tc .vmem S512x1024 .bf16) (h4 : a4.IsWhole) (a5 : Memref sig .tc .vmem S2176x512 .f32) (h5 : a5.IsWhole)
    (a6 : Memref sig .tc .vmem S2176x512 .f32) (h6 : a6.IsWhole) (hc0 : cond0_0 i) (hc1 : ¬cond0_1 i) (hc2 : cond0_2 i)
    (x0 : Vec Ideal S2176x1024 .bf16) (x1 : Vec Ideal S512x1024 .bf16) :
    out0_A_2 c i a3 h3 a4 h4 a5 h5 a6 h6 hc0 hc1 hc2 x0 x1 = k0_pay2 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_cons_unit_zero (S := S2176x512) hz, View.readCov_unit_zero (S := S2176x512) _ hz]
  simp only [View.readAt_eq_ld, h3.read_unread, h4.read_unread, View.ld_unit_zero (S := S2176x1024) hz, View.ld_unit_zero (S := S512x1024) hz]

theorem index0 : ∀ t : Fin cfg0.N, win0_0.index t = ![0, 0] :=
  (by decide +kernel : ∀ t : Fin grid0.N, win0_0.index t = ![0, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val] :=
  (by decide +kernel : ∀ t : Fin grid0.N, win0_2.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S512x1024.Idx) (j : S2048x1024.Idx)
    (h0 : (j 0).val = t.val * 512 + (y 0).val) (h1 : (j 1).val = (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; rfl
  | ⟨1, _⟩ => rw [show (j ⟨1, _⟩).val = _ from h1]; simp

/-- The array the run leaves. -/
abbrev result (c : Dev nD) : Buf (Elt Ideal) ((c : Thread nD τ).loc main_v0) :=
  Cert.RDOCIdeal.Read.val_main_v4 (F := Ideal) (m ((c : Thread nD τ).loc main_arg0)) (m ((c : Thread nD τ).loc main_arg1))

theorem pay_apply (x0 : Vec Ideal S2176x1024 .bf16) (x1 : Vec Ideal S512x1024 .bf16) (r : Fin 2176) (l : Fin 512) :
    k0_pay2 x0 x1 (ix2 r l) = ∑ k : Fin 1024, x0 (ix2 r k) * x1 (ix2 l k) := by
  pointwise [k0_pay2, k0_pay1]

theorem result_apply (x0 : Vec Ideal S2176x1024 .bf16) (x1 : Vec Ideal S2048x1024 .bf16) (r : Fin 2176) (l : Fin 2048) :
    Cert.RDOCIdeal.Read.val_main_v4 (F := Ideal) x0 x1 (ix2 r l) = ∑ k : Fin 1024, x0 (ix2 r k) * x1 (ix2 l k) := by
  pointwise [Cert.RDOCIdeal.Read.val_main_v4, Cert.RDOCIdeal.Read.val_main_v3, Cert.RDOCIdeal.Read.val_main_v1]

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext y
  obtain ⟨r, l, rfl⟩ : ∃ (r : Fin 2176) (l : Fin 512), y = ix2 r l := ⟨y 0, y 1, by pointwise⟩
  show k0_pay2 (iblk m c 0 t) (iblk m c 1 t) (ix2 r l) = result m c ((win0_2.rect t).emb (ix2 r l))
  have ht : t.val < 4 := t.isLt
  have e : ((win0_2.rect t).emb (ix2 r l) : S2176x2048.Idx) = ix2 r ⟨t.val * 512 + l.val, by omega⟩ := by
    funext a; apply Fin.ext
    rw [Pipeline.Window.rect_emb_val win0_2 t _ a rfl, index2]
    fin_cases a <;> simp <;> rfl
  rw [e, pay_apply, show result m c _ = _ from result_apply _ _ _ _]
  refine Finset.sum_congr rfl fun k _ => ?_
  rw [iblk0_apply, iblk1_apply m c t _ (ix2 ⟨t.val * 512 + l.val, by omega⟩ k) rfl rfl]

theorem final (c : Dev nD) : (dats m 0 c).arrAt 2 cfg0.N = result m c :=
  (dats m 0 c).arrAt_eq_of_cover 2 (result m c) (flushed_eq m c) fun i => by
    change S2176x2048.Idx at i
    have h0 : (i 0).val < 2176 := (i 0).isLt
    have h1 : (i 1).val < 2048 := (i 1).isLt
    have hN : cfg0.N = 4 := by decide
    obtain ⟨t, ht⟩ : ∃ t : Fin cfg0.N, t.val = (i 1).val / 512 := ⟨⟨(i 1).val / 512, by omega⟩, rfl⟩
    refine ⟨t, flush0_2 t, ?_⟩
    show i ∈ ((View.whole main_v0).slice (win0_2.rect t)).set
    rw [View.set_slice_whole, Rect.mem_set_unit]
    intro a
    rw [index2]
    match a with
    | ⟨0, _⟩ =>
      show 0 * 2176 ≤ (i 0).val ∧ (i 0).val < 0 * 2176 + 2176
      omega
    | ⟨1, _⟩ =>
      show t.val * 512 ≤ (i 1).val ∧ (i 1).val < t.val * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RDOCIdeal := fun m ρ _ =>
  (θ_run _ _ _).mono (fun r h => ⟨fun c => (h c).2, sem_eq_zero_of_no_sems (by decide) r.2⟩) (Cert.RDOCIdeal.Value.run m ρ)

theorem algebraic : Cert.algebraic_KDOCIdeal_RDOCIdeal := by
  intro m g m' g' _ hm
  refine ⟨fun c => result m c, run m g, ?_⟩
  refine (θ_run _ _ _).mono (fun r h c => ⟨?_, (h c).2⟩) (Cert.RDOCIdeal.Value.run m' g')
  rw [(h c).1, (hm c).1, (hm c).2]
  rfl

end Cert.Proof.DOC

end
-- ==== Proof.OutProjection.lean ====
/-
  Hand-written, untrusted. The output projection with its residual, `KOutIdeal`, over the extended reals: the array its two column
  blocks leave is the reference's `val_main_v3` of the three arguments.
-/
module

public import proofs.«01_k».proof.Defs
public import proofs.«01_k».proof.Proof.Gen.KOutIdeal.Value
public import proofs.«01_k».proof.Proof.Gen.ROutIdeal.Run
public import proofs.«01_k».proof.Proof.Gen.ROutIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.OutProjection

open Idealize.ShloMosaic Idealize.SL.Sem Cert.KOutIdeal
open Cert.KOutIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the result's staging buffer: the product of its two blocks and the residual's block. -/
theorem out_eq (c : Dev nD) (i : grid0.Coords) (a3 : Memref sig .tc .vmem S2176x1024 .bf16) (h3 : a3.IsWhole)
    (a4 : Memref sig .tc .vmem S1024x512 .bf16) (h4 : a4.IsWhole) (a5 : Memref sig .tc .vmem S2176x512 .f32) (h5 : a5.IsWhole)
    (a6 : Memref sig .tc .vmem S2176x512 .f32) (h6 : a6.IsWhole) (a7 : Memref sig .tc .vmem S2176x512 .f32) (h7 : a7.IsWhole) (hc0 : cond0_0 i) (hc1 : ¬cond0_1 i) (hc2 : cond0_2 i)
    (x0 : Vec Ideal S2176x1024 .bf16) (x1 : Vec Ideal S1024x512 .bf16) (x2 : Vec Ideal S2176x512 .f32) :
    out0_A_3 c i a3 h3 a4 h4 a5 h5 a6 h6 a7 h7 hc0 hc1 hc2 x0 x1 x2 = k0_pay4 (k0_pay2 x0 x1) x2 := by
  unfold out0_A_3
  rw [View.read_writes_eq_canon _ _ _ (cover0_A_3 c i a3 h3 a4 h4 a5 h5 a6 h6 a7 h7 hc0 hc1 hc2 x0 x1 x2)]
  unfold kernelRun0_A
  dsimp only
  sl_unfold_words
  rw [View.canon_cons_unit_zero (S := S2176x512) hz, View.readCov_unit_zero (S := S2176x512) _ hz]
  simp only [View.readAt_eq_ld, h3.read_unread, h4.read_unread, h5.read_unread, View.ld_unit_zero (S := S2176x512) hz, View.ld_unit_zero (S := S2176x1024) hz, View.ld_unit_zero (S := S1024x512) hz]

theorem index0 : ∀ t : Fin cfg0.N, win0_0.index t = ![0, 0] :=
  (by decide +kernel : ∀ t : Fin grid0.N, win0_0.index t = ![0, 0])
theorem index1 : ∀ t : Fin cfg0.N, win0_1.index t = ![0, t.val] :=
  (by decide +kernel : ∀ t : Fin grid0.N, win0_1.index t = ![0, t.val])
theorem index2 : ∀ t : Fin cfg0.N, win0_2.index t = ![0, t.val] :=
  (by decide +kernel : ∀ t : Fin grid0.N, win0_2.index t = ![0, t.val])

theorem index3 : ∀ t : Fin cfg0.N, win0_3.index t = ![0, t.val] :=
  (by decide +kernel : ∀ t : Fin grid0.N, win0_3.index t = ![0, t.val])

theorem iblk0_apply (c : Dev nD) (t : Fin cfg0.N) (y : S2176x1024.Idx) :
    iblk m c 0 t y = m ((c : Thread nD τ).loc main_arg0) y := by
  show m ((c : Thread nD τ).loc main_arg0) ((win0_0.rect t).emb y) = _
  congr 1
  funext a; apply Fin.ext
  rw [Pipeline.Window.rect_emb_val win0_0 t _ a rfl, index0]
  fin_cases a <;> simp

theorem iblk1_apply (c : Dev nD) (t : Fin cfg0.N) (y : S1024x512.Idx) (j : S1024x1024.Idx)
    (h0 : (j 0).val = (y 0).val) (h1 : (j 1).val = t.val * 512 + (y 1).val) :
    iblk m c 1 t y = m ((c : Thread nD τ).loc main_arg1) j := by
  show m ((c : Thread nD τ).loc main_arg1) ((win0_1.rect t).emb y) = _
  congr 1
  funext a; apply Fin.ext
  rw [Pipeline.Window.rect_emb_val win0_1 t _ a rfl, index1]
  match a with
  | ⟨0, _⟩ => rw [show (j ⟨0, _⟩).val = _ from h0]; simp
  | ⟨1, _⟩ => rw [show (j ⟨1, _⟩).val = _ from h1]; rfl

theorem iblk2_apply (c : Dev nD) (t : Fin cfg0.N) (y : S2176x512.Idx) (j : S2176x1024.Idx)
    (h0 : (j 0).val = (y 0).val) (h1 : (j 1).val = t.val * 512 + (y 1).val) :
    iblk m c 2 t y = m ((c : Thread nD τ).loc main_arg2) j := by
  show m ((c : Thread nD τ).loc main_arg2) ((win0_2.rect t).emb y) = _
  congr 1
  funext a; apply Fin.ext
  rw [Pipeline.Window.rect_emb_val win0_2 t _ a rfl, index2]
  match a with
  | ⟨0, _⟩ => rw [show (j ⟨0, _⟩).val = _ from h0]; simp
  | ⟨1, _⟩ => rw [show (j ⟨1, _⟩).val = _ from h1]; rfl

/-- The array the run leaves. -/
abbrev result (c : Dev nD) : Buf (Elt Ideal) ((c : Thread nD τ).loc main_v0) :=
  Cert.ROutIdeal.Read.val_main_v3 (F := Ideal) (m ((c : Thread nD τ).loc main_arg0)) (m ((c : Thread nD τ).loc main_arg1)) (m ((c : Thread nD τ).loc main_arg2))

theorem pay_apply (x0 : Vec Ideal S2176x1024 .bf16) (x1 : Vec Ideal S1024x512 .bf16) (x2 : Vec Ideal S2176x512 .f32) (r : Fin 2176) (l : Fin 512) :
    k0_pay4 (k0_pay2 x0 x1) x2 (ix2 r l) = (∑ k : Fin 1024, x0 (ix2 r k) * x1 (ix2 k l)) + x2 (ix2 r l) := by
  pointwise [k0_pay4, k0_pay2, k0_pay1]

theorem result_apply (x0 : Vec Ideal S2176x1024 .bf16) (x1 : Vec Ideal S1024x1024 .bf16) (x2 : Vec Ideal S2176x1024 .f32) (r : Fin 2176) (l : Fin 1024) :
    Cert.ROutIdeal.Read.val_main_v3 (F := Ideal) x0 x1 x2 (ix2 r l) = x2 (ix2 r l) + ∑ k : Fin 1024, x0 (ix2 r k) * x1 (ix2 k l) := by
  pointwise [Cert.ROutIdeal.Read.val_main_v3, Cert.ROutIdeal.Read.val_main_v2, Cert.ROutIdeal.Read.val_main_v1, Cert.ROutIdeal.Read.val_main_v0]

theorem flushed_eq (c : Dev nD) (t : Fin cfg0.N) (hf : (cfg0.win 3).flush t = true) :
    (dats m 0 c).flushed 3 t = ((cfg0.win 3).blk t).view.read (Elt Ideal) (result m c) := by
  rw [Value.flushed3_A, out_eq]
  funext y
  obtain ⟨r, l, rfl⟩ : ∃ (r : Fin 2176) (l : Fin 512), y = ix2 r l := ⟨y 0, y 1, by pointwise⟩
  show k0_pay4 (k0_pay2 (iblk m c 0 t) (iblk m c 1 t)) (iblk m c 2 t) (ix2 r l) = result m c ((win0_3.rect t).emb (ix2 r l))
  have ht : t.val < 2 := t.isLt
  have e : ((win0_3.rect t).emb (ix2 r l) : S2176x1024.Idx) = ix2 r ⟨t.val * 512 + l.val, by omega⟩ := by
    funext a; apply Fin.ext
    rw [Pipeline.Window.rect_emb_val win0_3 t _ a rfl, index3]
    fin_cases a <;> simp <;> rfl
  rw [e, pay_apply, show result m c _ = _ from result_apply _ _ _ _ _,
    iblk2_apply m c t _ (ix2 r ⟨t.val * 512 + l.val, by omega⟩) rfl rfl, add_comm]
  refine congrArg _ (Finset.sum_congr rfl fun k _ => ?_)
  rw [iblk0_apply, iblk1_apply m c t _ (ix2 k ⟨t.val * 512 + l.val, by omega⟩) rfl rfl]

theorem final (c : Dev nD) : (dats m 0 c).arrAt 3 cfg0.N = result m c :=
  (dats m 0 c).arrAt_eq_of_cover 3 (result m c) (flushed_eq m c) fun i => by
    change S2176x1024.Idx at i
    have h0 : (i 0).val < 2176 := (i 0).isLt
    have h1 : (i 1).val < 1024 := (i 1).isLt
    have hN : cfg0.N = 2 := by decide
    obtain ⟨t, ht⟩ : ∃ t : Fin cfg0.N, t.val = (i 1).val / 512 := ⟨⟨(i 1).val / 512, by omega⟩, rfl⟩
    refine ⟨t, flush0_3 t, ?_⟩
    show i ∈ ((View.whole main_v0).slice (win0_3.rect t)).set
    rw [View.set_slice_whole, Rect.mem_set_unit]
    intro a
    rw [index3]
    match a with
    | ⟨0, _⟩ =>
      show 0 * 2176 ≤ (i 0).val ∧ (i 0).val < 0 * 2176 + 2176
      omega
    | ⟨1, _⟩ =>
      show t.val * 512 ≤ (i 1).val ∧ (i 1).val < t.val * 512 + 512
      omega

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

theorem frame_r : Cert.quiescent_ROutIdeal := fun m ρ _ =>
  (θ_run _ _ _).mono (fun r h => ⟨fun c => (h c).2, sem_eq_zero_of_no_sems (by decide) r.2⟩) (Cert.ROutIdeal.Value.run m ρ)

theorem algebraic : Cert.algebraic_KOutIdeal_ROutIdeal := by
  intro m g m' g' _ hm
  refine ⟨fun c => result m c, run m g, ?_⟩
  refine (θ_run _ _ _).mono (fun r h c => ⟨?_, (h c).2⟩) (Cert.ROutIdeal.Value.run m' g')
  rw [(h c).1, (hm c).1, (hm c).2.1, (hm c).2.2]
  rfl

end Cert.Proof.OutProjection

end
-- ==== Proof.Merge.lean ====
/-
  Hand-written, untrusted. The gradient of the merge of the three projected branches through their sigmoid gates, `KMergeIdeal`, over the
  extended reals: the six arrays its 2 x 4 blocks leave are the reference's `val_main_v46` .. `val_main_v51` of the arguments.
-/
module

public import proofs.«01_k».proof.Defs
public import proofs.«01_k».proof.Proof.Gen.KMergeIdeal.Value
public import proofs.«01_k».proof.Proof.Gen.RMergeIdeal.Run
public import proofs.«01_k».proof.Proof.Gen.RMergeIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Merge

open Idealize.ShloMosaic Idealize.SL.Sem Cert.KMergeIdeal
open Cert.KMergeIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords)
    (a2 : Memref sig .tc .vmem S544x512 .f32) (h2 : a2.IsWhole)
    (a3 : Memref sig .tc .vmem S544x512 .f32) (h3 : a3.IsWhole)
    (a4 : Memref sig .tc .vmem S544x512 .f32) (h4 : a4.IsWhole)
    (a5 : Memref sig .tc .vmem S544x512 .f32) (h5 : a5.IsWhole)
    (a6 : Memref sig .tc .vmem S544x512 .f32) (h6 : a6.IsWhole)
    (a7 : Memref sig .tc .vmem S544x512 .f32) (h7 : a7.IsWhole)
    (a8 : Memref sig .tc .vmem S544x512 .f32) (h8 : a8.IsWhole)
    (a9 : Memref sig .tc .vmem S544x512 .bf16) (h9 : a9.IsWhole)
    (a10 : Memref sig .tc .vmem S544x512 .bf16) (h10 : a10.IsWhole)
    (a11 : Memref sig .tc .vmem S544x512 .bf16) (h11 : a11.IsWhole)
    (a12 : Memref sig .tc .vmem S544x512 .bf16) (h12 : a12.IsWhole)
    (a13 : Memref sig .tc .vmem S544x512 .bf16) (h13 : a13.IsWhole)
    (a14 : Memref sig .tc .vmem S544x512 .bf16) (h14 : a14.IsWhole)
    (x0 x1 x2 x3 x4 x5 x6 : Vec Ideal S544x512 .f32)

/-- What the body leaves for the first branch's gradient. -/
theorem out7 : out0_A_7 c i a2 h2 a3 h3 a4 h4 a5 h5 a6 h6 a7 h7 a8 h8 a9 h9 a10 h10 a11 h11 a12 h12 a13 h13 a14 h14 x0 x1 x2 x3 x4 x5 x6 = k0_pay12 x3 x6 := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

/-- What the body leaves for the second branch's gradient. -/
theorem out8 : out0_A_8 c i a2 h2 a3 h3 a4 h4 a5 h5 a6 h6 a7 h7 a8 h8 a9 h9 a10 h10 a11 h11 a12 h12 a13 h13 a14 h14 x0 x1 x2 x3 x4 x5 x6 = k0_pay13 x4 x6 := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

/-- What the body leaves for the third branch's gradient. -/
theorem out9 : out0_A_9 c i a2 h2 a3 h3 a4 h4 a5 h5 a6 h6 a7 h7 a8 h8 a9 h9 a10 h10 a11 h11 a12 h12 a13 h13 a14 h14 x0 x1 x2 x3 x4 x5 x6 = k0_pay14 x5 x6 := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

/-- What the body leaves for the first gate's gradient. -/
theorem out10 : out0_A_10 c i a2 h2 a3 h3 a4 h4 a5 h5 a6 h6 a7 h7 a8 h8 a9 h9 a10 h10 a11 h11 a12 h12 a13 h13 a14 h14 x0 x1 x2 x3 x4 x5 x6 = k0_pay1 (k0_pay11 x0 x3 x6) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

/-- What the body leaves for the second gate's gradient. -/
theorem out11 : out0_A_11 c i a2 h2 a3 h3 a4 h4 a5 h5 a6 h6 a7 h7 a8 h8 a9 h9 a10 h10 a11 h11 a12 h12 a13 h13 a14 h14 x0 x1 x2 x3 x4 x5 x6 = k0_pay2 (k0_pay10 x1 x4 x6) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

/-- What the body leaves for the third gate's gradient. -/
theorem out12 : out0_A_12 c i a2 h2 a3 h3 a4 h4 a5 h5 a6 h6 a7 h7 a8 h8 a9 h9 a10 h10 a11 h11 a12 h12 a13 h13 a14 h14 x0 x1 x2 x3 x4 x5 x6 = k0_pay3 (k0_pay9 x2 x5 x6) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 x0 x1 x2 x3 x4 x5 x6)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    h8.read_unread, View.ld_unit_zero (S := S544x512) hz]

end Body

/-- The windows of a point's rows and columns: rows block `t % 4`, columns block `t / 4`, the gates' from column block 25, 27 and 29. -/
theorem index_in : ∀ t : Fin cfg0.N, win0_0.index t = ![t.val % 4, t.val / 4] ∧ win0_1.index t = ![t.val % 4, t.val / 4]
    ∧ win0_2.index t = ![t.val % 4, t.val / 4] ∧ win0_3.index t = ![t.val % 4, 25 + t.val / 4]
    ∧ win0_4.index t = ![t.val % 4, 27 + t.val / 4] ∧ win0_5.index t = ![t.val % 4, 29 + t.val / 4]
    ∧ win0_6.index t = ![t.val % 4, t.val / 4] :=
  (by decide +kernel : ∀ t : Fin grid0.N, win0_0.index t = ![t.val % 4, t.val / 4] ∧ win0_1.index t = ![t.val % 4, t.val / 4]
    ∧ win0_2.index t = ![t.val % 4, t.val / 4] ∧ win0_3.index t = ![t.val % 4, 25 + t.val / 4]
    ∧ win0_4.index t = ![t.val % 4, 27 + t.val / 4] ∧ win0_5.index t = ![t.val % 4, 29 + t.val / 4]
    ∧ win0_6.index t = ![t.val % 4, t.val / 4])

theorem index_out : ∀ t : Fin cfg0.N, win0_7.index t = ![t.val % 4, t.val / 4] ∧ win0_8.index t = ![t.val % 4, t.val / 4]
    ∧ win0_9.index t = ![t.val % 4, t.val / 4] ∧ win0_10.index t = ![t.val % 4, t.val / 4]
    ∧ win0_11.index t = ![t.val % 4, t.val / 4] ∧ win0_12.index t = ![t.val % 4, t.val / 4] :=
  (by decide +kernel : ∀ t : Fin grid0.N, win0_7.index t = ![t.val % 4, t.val / 4] ∧ win0_8.index t = ![t.val % 4, t.val / 4]
    ∧ win0_9.index t = ![t.val % 4, t.val / 4] ∧ win0_10.index t = ![t.val % 4, t.val / 4]
    ∧ win0_11.index t = ![t.val % 4, t.val / 4] ∧ win0_12.index t = ![t.val % 4, t.val / 4])

/-- Row `r` of point `t`'s block. -/
abbrev row (t : Fin cfg0.N) (r : Fin 544) : Fin 2176 := ⟨t.val % 4 * 544 + r.val, by omega⟩

theorem col_lt (t : Fin cfg0.N) (l : Fin 512) : t.val / 4 * 512 + l.val < 1024 := by
  have ht : t.val < 8 := t.isLt
  omega

/-- Column `l` of point `t`'s block. -/
abbrev col (t : Fin cfg0.N) (l : Fin 512) : Fin 1024 := ⟨t.val / 4 * 512 + l.val, col_lt t l⟩

/-- A column of the gate whose columns begin at `b`. -/
abbrev gate (b : Nat) (hb : b ≤ 14976) (l : Fin 1024) : Fin 16000 := ⟨b + l.val, by omega⟩

theorem iblk0_apply (c : Dev nD) (t : Fin cfg0.N) (r : Fin 544) (l : Fin 512) :
    iblk m c 0 t (ix2 r l) = m ((c : Thread nD τ).loc main_arg0) (ix2 (row t r) (col t l)) := by
  show m ((c : Thread nD τ).loc main_arg0) ((win0_0.rect t).emb (ix2 r l)) = _
  congr 1
  funext a; apply Fin.ext
  rw [Pipeline.Window.rect_emb_val win0_0 t _ a rfl, (index_in t).1]
  fin_cases a <;> simp <;> rfl

theorem iblk1_apply (c : Dev nD) (t : Fin cfg0.N) (r : Fin 544) (l : Fin 512) :
    iblk m c 1 t (ix2 r l) = m ((c : Thread nD τ).loc main_arg1) (ix2 (row t r) (col t l)) := by
  show m ((c : Thread nD τ).loc main_arg1) ((win0_1.rect t).emb (ix2 r l)) = _
  congr 1
  funext a; apply Fin.ext
  rw [Pipeline.Window.rect_emb_val win0_1 t _ a rfl, (index_in t).2.1]
  fin_cases a <;> simp <;> rfl

theorem iblk2_apply (c : Dev nD) (t : Fin cfg0.N) (r : Fin 544) (l : Fin 512) :
    iblk m c 2 t (ix2 r l) = m ((c : Thread nD τ).loc main_arg2) (ix2 (row t r) (col t l)) := by
  show m ((c : Thread nD τ).loc main_arg2) ((win0_2.rect t).emb (ix2 r l)) = _
  congr 1
  funext a; apply Fin.ext
  rw [Pipeline.Window.rect_emb_val win0_2 t _ a rfl, (index_in t).2.2.1]
  fin_cases a <;> simp <;> rfl

theorem iblk6_apply (c : Dev nD) (t : Fin cfg0.N) (r : Fin 544) (l : Fin 512) :
    iblk m c 6 t (ix2 r l) = m ((c : Thread nD τ).loc main_arg4) (ix2 (row t r) (col t l)) := by
  show m ((c : Thread nD τ).loc main_arg4) ((win0_6.rect t).emb (ix2 r l)) = _
  congr 1
  funext a; apply Fin.ext
  rw [Pipeline.Window.rect_emb_val win0_6 t _ a rfl, (index_in t).2.2.2.2.2.2]
  fin_cases a <;> simp <;> rfl

theorem X3_apply (c : Dev nD) (t : Fin cfg0.N) (r : Fin 544) (l : Fin 512) :
    X0_3 m c t (ix2 r l) = m ((c : Thread nD τ).loc main_arg3) (ix2 (row t r) (gate 12800 (by decide) (col t l))) := by
  unfold X0_3 Pipeline.Window.fill
  rw [dif_pos (moved0_3 t _)]
  show m ((c : Thread nD τ).loc main_arg3) ((win0_3.rect t).emb _) = _
  congr 1
  funext a; apply Fin.ext
  rw [Pipeline.Window.rect_emb_val win0_3 t _ a rfl, (index_in t).2.2.2.1]
  match a with
  | ⟨0, _⟩ => rfl
  | ⟨1, _⟩ => show (25 + t.val / 4) * 512 + l.val = 12800 + (t.val / 4 * 512 + l.val); omega

theorem X4_apply (c : Dev nD) (t : Fin cfg0.N) (r : Fin 544) (l : Fin 512) :
    X0_4 m c t (ix2 r l) = m ((c : Thread nD τ).loc main_arg3) (ix2 (row t r) (gate 13824 (by decide) (col t l))) := by
  unfold X0_4 Pipeline.Window.fill
  rw [dif_pos (moved0_4 t _)]
  show m ((c : Thread nD τ).loc main_arg3) ((win0_4.rect t).emb _) = _
  congr 1
  funext a; apply Fin.ext
  rw [Pipeline.Window.rect_emb_val win0_4 t _ a rfl, (index_in t).2.2.2.2.1]
  match a with
  | ⟨0, _⟩ => rfl
  | ⟨1, _⟩ => show (27 + t.val / 4) * 512 + l.val = 13824 + (t.val / 4 * 512 + l.val); omega

theorem X5_apply (c : Dev nD) (t : Fin cfg0.N) (r : Fin 544) (l : Fin 512) :
    X0_5 m c t (ix2 r l) = m ((c : Thread nD τ).loc main_arg3) (ix2 (row t r) (gate 14848 (by decide) (col t l))) := by
  unfold X0_5 Pipeline.Window.fill
  rw [dif_pos (moved0_5 t _)]
  show m ((c : Thread nD τ).loc main_arg3) ((win0_5.rect t).emb _) = _
  congr 1
  funext a; apply Fin.ext
  rw [Pipeline.Window.rect_emb_val win0_5 t _ a rfl, (index_in t).2.2.2.2.2.1]
  match a with
  | ⟨0, _⟩ => rfl
  | ⟨1, _⟩ => show (29 + t.val / 4) * 512 + l.val = 14848 + (t.val / 4 * 512 + l.val); omega

section Equation

variable (x p d : Vec Ideal S544x512 .f32) (Y D : Vec Ideal S2176x1024 .f32) (P : Vec Ideal S2176x16000 .f32)
    (r : Fin 544) (l : Fin 512) (i : Fin 2176) (j : Fin 1024)

theorem pay7_eq (hp : p (ix2 r l) = P (ix2 i (gate 12800 (by decide) j)))
    (hd : d (ix2 r l) = D (ix2 i j)) :
    k0_pay12 p d (ix2 r l) = Cert.RMergeIdeal.Read.val_main_v46 (F := Ideal) P D (ix2 i j) := by
  pointwise [k0_pay12, k0_pay4, k0_pay7, Cert.RMergeIdeal.Read.val_main_v46, Cert.RMergeIdeal.Read.val_main_v43,
    Cert.RMergeIdeal.Read.val_main_v35, Cert.RMergeIdeal.Read.val_main_v8, Cert.RMergeIdeal.Read.val_main_v6,
    Cert.RMergeIdeal.Read.val_main_v4, Cert.RMergeIdeal.Read.val_main_v3, Cert.RMergeIdeal.Read.val_main_v0,
    Cert.RMergeIdeal.Read.val_main_v5, Cert.RMergeIdeal.Read.val_main_cst, Cert.RMergeIdeal.Read.val_main_v7,
    Cert.RMergeIdeal.Read.val_main_cst_0]
  rw [hp, hd]
  rfl

theorem pay8_eq (hp : p (ix2 r l) = P (ix2 i (gate 13824 (by decide) j)))
    (hd : d (ix2 r l) = D (ix2 i j)) :
    k0_pay13 p d (ix2 r l) = Cert.RMergeIdeal.Read.val_main_v47 (F := Ideal) P D (ix2 i j) := by
  pointwise [k0_pay13, k0_pay5, k0_pay7, Cert.RMergeIdeal.Read.val_main_v47, Cert.RMergeIdeal.Read.val_main_v40,
    Cert.RMergeIdeal.Read.val_main_v35, Cert.RMergeIdeal.Read.val_main_v18, Cert.RMergeIdeal.Read.val_main_v16,
    Cert.RMergeIdeal.Read.val_main_v14, Cert.RMergeIdeal.Read.val_main_v13, Cert.RMergeIdeal.Read.val_main_v1,
    Cert.RMergeIdeal.Read.val_main_v15, Cert.RMergeIdeal.Read.val_main_cst_2, Cert.RMergeIdeal.Read.val_main_v17,
    Cert.RMergeIdeal.Read.val_main_cst_3]
  rw [hp, hd]
  rfl

theorem pay9_eq (hp : p (ix2 r l) = P (ix2 i (gate 14848 (by decide) j)))
    (hd : d (ix2 r l) = D (ix2 i j)) :
    k0_pay14 p d (ix2 r l) = Cert.RMergeIdeal.Read.val_main_v48 (F := Ideal) P D (ix2 i j) := by
  pointwise [k0_pay14, k0_pay6, k0_pay8, Cert.RMergeIdeal.Read.val_main_v48, Cert.RMergeIdeal.Read.val_main_v37,
    Cert.RMergeIdeal.Read.val_main_v36, Cert.RMergeIdeal.Read.val_main_v29, Cert.RMergeIdeal.Read.val_main_v27,
    Cert.RMergeIdeal.Read.val_main_v25, Cert.RMergeIdeal.Read.val_main_v24, Cert.RMergeIdeal.Read.val_main_v2,
    Cert.RMergeIdeal.Read.val_main_v26, Cert.RMergeIdeal.Read.val_main_cst_5, Cert.RMergeIdeal.Read.val_main_v28,
    Cert.RMergeIdeal.Read.val_main_cst_6]
  rw [hp, hd]
  rfl

theorem pay10_eq (hx : x (ix2 r l) = Y (ix2 i j)) (hp : p (ix2 r l) = P (ix2 i (gate 12800 (by decide) j)))
    (hd : d (ix2 r l) = D (ix2 i j)) :
    k0_pay1 (k0_pay11 x p d) (ix2 r l) = Cert.RMergeIdeal.Read.val_main_v49 (F := Ideal) Y P D (ix2 i j) := by
  pointwise [k0_pay1, k0_pay11, k0_pay4, k0_pay7, Cert.RMergeIdeal.Read.val_main_v49, Cert.RMergeIdeal.Read.val_main_v45,
    Cert.RMergeIdeal.Read.val_main_v11, Cert.RMergeIdeal.Read.val_main_v10, Cert.RMergeIdeal.Read.val_main_v8,
    Cert.RMergeIdeal.Read.val_main_v6, Cert.RMergeIdeal.Read.val_main_v4, Cert.RMergeIdeal.Read.val_main_v3,
    Cert.RMergeIdeal.Read.val_main_v0, Cert.RMergeIdeal.Read.val_main_v5, Cert.RMergeIdeal.Read.val_main_cst,
    Cert.RMergeIdeal.Read.val_main_v7, Cert.RMergeIdeal.Read.val_main_cst_0, Cert.RMergeIdeal.Read.val_main_v9,
    Cert.RMergeIdeal.Read.val_main_cst_1, Cert.RMergeIdeal.Read.val_main_v44, Cert.RMergeIdeal.Read.val_main_v35]
  rw [hx, hp, hd]
  rfl

theorem pay11_eq (hx : x (ix2 r l) = Y (ix2 i j)) (hp : p (ix2 r l) = P (ix2 i (gate 13824 (by decide) j)))
    (hd : d (ix2 r l) = D (ix2 i j)) :
    k0_pay2 (k0_pay10 x p d) (ix2 r l) = Cert.RMergeIdeal.Read.val_main_v50 (F := Ideal) Y P D (ix2 i j) := by
  pointwise [k0_pay2, k0_pay10, k0_pay5, k0_pay7, Cert.RMergeIdeal.Read.val_main_v50, Cert.RMergeIdeal.Read.val_main_v42,
    Cert.RMergeIdeal.Read.val_main_v21, Cert.RMergeIdeal.Read.val_main_v20, Cert.RMergeIdeal.Read.val_main_v18,
    Cert.RMergeIdeal.Read.val_main_v16, Cert.RMergeIdeal.Read.val_main_v14, Cert.RMergeIdeal.Read.val_main_v13,
    Cert.RMergeIdeal.Read.val_main_v1, Cert.RMergeIdeal.Read.val_main_v15, Cert.RMergeIdeal.Read.val_main_cst_2,
    Cert.RMergeIdeal.Read.val_main_v17, Cert.RMergeIdeal.Read.val_main_cst_3, Cert.RMergeIdeal.Read.val_main_v19,
    Cert.RMergeIdeal.Read.val_main_cst_4, Cert.RMergeIdeal.Read.val_main_v41, Cert.RMergeIdeal.Read.val_main_v35]
  rw [hx, hp, hd]
  rfl

theorem pay12_eq (hx : x (ix2 r l) = Y (ix2 i j)) (hp : p (ix2 r l) = P (ix2 i (gate 14848 (by decide) j)))
    (hd : d (ix2 r l) = D (ix2 i j)) :
    k0_pay3 (k0_pay9 x p d) (ix2 r l) = Cert.RMergeIdeal.Read.val_main_v51 (F := Ideal) Y P D (ix2 i j) := by
  pointwise [k0_pay3, k0_pay9, k0_pay6, k0_pay8, Cert.RMergeIdeal.Read.val_main_v51, Cert.RMergeIdeal.Read.val_main_v39,
    Cert.RMergeIdeal.Read.val_main_v32, Cert.RMergeIdeal.Read.val_main_v31, Cert.RMergeIdeal.Read.val_main_v29,
    Cert.RMergeIdeal.Read.val_main_v27, Cert.RMergeIdeal.Read.val_main_v25, Cert.RMergeIdeal.Read.val_main_v24,
    Cert.RMergeIdeal.Read.val_main_v2, Cert.RMergeIdeal.Read.val_main_v26, Cert.RMergeIdeal.Read.val_main_cst_5,
    Cert.RMergeIdeal.Read.val_main_v28, Cert.RMergeIdeal.Read.val_main_cst_6, Cert.RMergeIdeal.Read.val_main_v30,
    Cert.RMergeIdeal.Read.val_main_cst_7, Cert.RMergeIdeal.Read.val_main_v38, Cert.RMergeIdeal.Read.val_main_v36]
  rw [hx, hp, hd]
  rfl

end Equation

/-- The arrays the run leaves. -/
abbrev result0 (c : Dev nD) : Buf (Elt Ideal) ((c : Thread nD τ).loc main_v0_0) :=
  Cert.RMergeIdeal.Read.val_main_v46 (F := Ideal) (m ((c : Thread nD τ).loc main_arg3)) (m ((c : Thread nD τ).loc main_arg4))
abbrev result1 (c : Dev nD) : Buf (Elt Ideal) ((c : Thread nD τ).loc main_v0_1) :=
  Cert.RMergeIdeal.Read.val_main_v47 (F := Ideal) (m ((c : Thread nD τ).loc main_arg3)) (m ((c : Thread nD τ).loc main_arg4))
abbrev result2 (c : Dev nD) : Buf (Elt Ideal) ((c : Thread nD τ).loc main_v0_2) :=
  Cert.RMergeIdeal.Read.val_main_v48 (F := Ideal) (m ((c : Thread nD τ).loc main_arg3)) (m ((c : Thread nD τ).loc main_arg4))
abbrev result3 (c : Dev nD) : Buf (Elt Ideal) ((c : Thread nD τ).loc main_v0_3) :=
  Cert.RMergeIdeal.Read.val_main_v49 (F := Ideal) (m ((c : Thread nD τ).loc main_arg0)) (m ((c : Thread nD τ).loc main_arg3)) (m ((c : Thread nD τ).loc main_arg4))
abbrev result4 (c : Dev nD) : Buf (Elt Ideal) ((c : Thread nD τ).loc main_v0_4) :=
  Cert.RMergeIdeal.Read.val_main_v50 (F := Ideal) (m ((c : Thread nD τ).loc main_arg1)) (m ((c : Thread nD τ).loc main_arg3)) (m ((c : Thread nD τ).loc main_arg4))
abbrev result5 (c : Dev nD) : Buf (Elt Ideal) ((c : Thread nD τ).loc main_v0_5) :=
  Cert.RMergeIdeal.Read.val_main_v51 (F := Ideal) (m ((c : Thread nD τ).loc main_arg2)) (m ((c : Thread nD τ).loc main_arg3)) (m ((c : Thread nD τ).loc main_arg4))

theorem emb7 (t : Fin cfg0.N) (r : Fin 544) (l : Fin 512) : ((win0_7.rect t).emb (ix2 r l) : S2176x1024.Idx) = ix2 (row t r) (col t l) := by
  funext a; apply Fin.ext
  rw [Pipeline.Window.rect_emb_val win0_7 t _ a rfl, (index_out t).1]
  fin_cases a <;> simp <;> rfl

theorem emb8 (t : Fin cfg0.N) (r : Fin 544) (l : Fin 512) : ((win0_8.rect t).emb (ix2 r l) : S2176x1024.Idx) = ix2 (row t r) (col t l) := by
  funext a; apply Fin.ext
  rw [Pipeline.Window.rect_emb_val win0_8 t _ a rfl, (index_out t).2.1]
  fin_cases a <;> simp <;> rfl

theorem emb9 (t : Fin cfg0.N) (r : Fin 544) (l : Fin 512) : ((win0_9.rect t).emb (ix2 r l) : S2176x1024.Idx) = ix2 (row t r) (col t l) := by
  funext a; apply Fin.ext
  rw [Pipeline.Window.rect_emb_val win0_9 t _ a rfl, (index_out t).2.2.1]
  fin_cases a <;> simp <;> rfl

theorem emb10 (t : Fin cfg0.N) (r : Fin 544) (l : Fin 512) : ((win0_10.rect t).emb (ix2 r l) : S2176x1024.Idx) = ix2 (row t r) (col t l) := by
  funext a; apply Fin.ext
  rw [Pipeline.Window.rect_emb_val win0_10 t _ a rfl, (index_out t).2.2.2.1]
  fin_cases a <;> simp <;> rfl

theorem emb11 (t : Fin cfg0.N) (r : Fin 544) (l : Fin 512) : ((win0_11.rect t).emb (ix2 r l) : S2176x1024.Idx) = ix2 (row t r) (col t l) := by
  funext a; apply Fin.ext
  rw [Pipeline.Window.rect_emb_val win0_11 t _ a rfl, (index_out t).2.2.2.2.1]
  fin_cases a <;> simp <;> rfl

theorem emb12 (t : Fin cfg0.N) (r : Fin 544) (l : Fin 512) : ((win0_12.rect t).emb (ix2 r l) : S2176x1024.Idx) = ix2 (row t r) (col t l) := by
  funext a; apply Fin.ext
  rw [Pipeline.Window.rect_emb_val win0_12 t _ a rfl, (index_out t).2.2.2.2.2]
  fin_cases a <;> simp <;> rfl

/-- The block of an index and its place there. -/
theorem split_block (i : S2176x1024.Idx) : ∃ (t : Fin cfg0.N) (r : Fin 544) (l : Fin 512), i = ix2 (row t r) (col t l) := by
  have h0 : (i 0).val < 2176 := (i 0).isLt
  have h1 : (i 1).val < 1024 := (i 1).isLt
  refine ⟨(⟨(i 1).val / 512 * 4 + (i 0).val / 544, by show _ < 8; omega⟩ : Fin grid0.N), ⟨(i 0).val % 544, Nat.mod_lt _ (by decide)⟩,
    ⟨(i 1).val % 512, Nat.mod_lt _ (by decide)⟩, ?_⟩
  funext a; apply Fin.ext
  match a with
  | ⟨0, _⟩ => show (i 0).val = ((i 1).val / 512 * 4 + (i 0).val / 544) % 4 * 544 + (i 0).val % 544; omega
  | ⟨1, _⟩ => show (i 1).val = ((i 1).val / 512 * 4 + (i 0).val / 544) / 4 * 512 + (i 1).val % 512; omega

theorem final7 (c : Dev nD) : (dats m 0 c).arrAt 7 cfg0.N = result0 m c := by
  refine (dats m 0 c).arrAt_eq_of_cover 7 (result0 m c) (fun t _ => ?_) fun i => ?_
  · rw [Value.flushed7_A m c t, out7]
    funext y
    obtain ⟨r, l, rfl⟩ : ∃ (r : Fin 544) (l : Fin 512), y = ix2 r l := ⟨y 0, y 1, by pointwise⟩
    show k0_pay12 (X0_3 m c t) (iblk m c 6 t) (ix2 r l) = result0 m c ((win0_7.rect t).emb (ix2 r l))
    rw [emb7]
    exact pay7_eq _ _ _ _ r l (row t r) (col t l) (X3_apply m c t r l) (iblk6_apply m c t r l)
  · obtain ⟨t, r, l, rfl⟩ := split_block i
    refine ⟨t, flush0_7 t, ?_⟩
    rw [← emb7]
    exact View.emb_mem_set _ _

theorem final8 (c : Dev nD) : (dats m 0 c).arrAt 8 cfg0.N = result1 m c := by
  refine (dats m 0 c).arrAt_eq_of_cover 8 (result1 m c) (fun t _ => ?_) fun i => ?_
  · rw [Value.flushed8_A m c t, out8]
    funext y
    obtain ⟨r, l, rfl⟩ : ∃ (r : Fin 544) (l : Fin 512), y = ix2 r l := ⟨y 0, y 1, by pointwise⟩
    show k0_pay13 (X0_4 m c t) (iblk m c 6 t) (ix2 r l) = result1 m c ((win0_8.rect t).emb (ix2 r l))
    rw [emb8]
    exact pay8_eq _ _ _ _ r l (row t r) (col t l) (X4_apply m c t r l) (iblk6_apply m c t r l)
  · obtain ⟨t, r, l, rfl⟩ := split_block i
    refine ⟨t, flush0_8 t, ?_⟩
    rw [← emb8]
    exact View.emb_mem_set _ _

theorem final9 (c : Dev nD) : (dats m 0 c).arrAt 9 cfg0.N = result2 m c := by
  refine (dats m 0 c).arrAt_eq_of_cover 9 (result2 m c) (fun t _ => ?_) fun i => ?_
  · rw [Value.flushed9_A m c t, out9]
    funext y
    obtain ⟨r, l, rfl⟩ : ∃ (r : Fin 544) (l : Fin 512), y = ix2 r l := ⟨y 0, y 1, by pointwise⟩
    show k0_pay14 (X0_5 m c t) (iblk m c 6 t) (ix2 r l) = result2 m c ((win0_9.rect t).emb (ix2 r l))
    rw [emb9]
    exact pay9_eq _ _ _ _ r l (row t r) (col t l) (X5_apply m c t r l) (iblk6_apply m c t r l)
  · obtain ⟨t, r, l, rfl⟩ := split_block i
    refine ⟨t, flush0_9 t, ?_⟩
    rw [← emb9]
    exact View.emb_mem_set _ _

theorem final10 (c : Dev nD) : (dats m 0 c).arrAt 10 cfg0.N = result3 m c := by
  refine (dats m 0 c).arrAt_eq_of_cover 10 (result3 m c) (fun t _ => ?_) fun i => ?_
  · rw [Value.flushed10_A m c t, out10]
    funext y
    obtain ⟨r, l, rfl⟩ : ∃ (r : Fin 544) (l : Fin 512), y = ix2 r l := ⟨y 0, y 1, by pointwise⟩
    show k0_pay1 (k0_pay11 (iblk m c 0 t) (X0_3 m c t) (iblk m c 6 t)) (ix2 r l) = result3 m c ((win0_10.rect t).emb (ix2 r l))
    rw [emb10]
    exact pay10_eq _ _ _ _ _ _ r l (row t r) (col t l) (iblk0_apply m c t r l) (X3_apply m c t r l) (iblk6_apply m c t r l)
  · obtain ⟨t, r, l, rfl⟩ := split_block i
    refine ⟨t, flush0_10 t, ?_⟩
    rw [← emb10]
    exact View.emb_mem_set _ _

theorem final11 (c : Dev nD) : (dats m 0 c).arrAt 11 cfg0.N = result4 m c := by
  refine (dats m 0 c).arrAt_eq_of_cover 11 (result4 m c) (fun t _ => ?_) fun i => ?_
  · rw [Value.flushed11_A m c t, out11]
    funext y
    obtain ⟨r, l, rfl⟩ : ∃ (r : Fin 544) (l : Fin 512), y = ix2 r l := ⟨y 0, y 1, by pointwise⟩
    show k0_pay2 (k0_pay10 (iblk m c 1 t) (X0_4 m c t) (iblk m c 6 t)) (ix2 r l) = result4 m c ((win0_11.rect t).emb (ix2 r l))
    rw [emb11]
    exact pay11_eq _ _ _ _ _ _ r l (row t r) (col t l) (iblk1_apply m c t r l) (X4_apply m c t r l) (iblk6_apply m c t r l)
  · obtain ⟨t, r, l, rfl⟩ := split_block i
    refine ⟨t, flush0_11 t, ?_⟩
    rw [← emb11]
    exact View.emb_mem_set _ _

theorem final12 (c : Dev nD) : (dats m 0 c).arrAt 12 cfg0.N = result5 m c := by
  refine (dats m 0 c).arrAt_eq_of_cover 12 (result5 m c) (fun t _ => ?_) fun i => ?_
  · rw [Value.flushed12_A m c t, out12]
    funext y
    obtain ⟨r, l, rfl⟩ : ∃ (r : Fin 544) (l : Fin 512), y = ix2 r l := ⟨y 0, y 1, by pointwise⟩
    show k0_pay3 (k0_pay9 (iblk m c 2 t) (X0_5 m c t) (iblk m c 6 t)) (ix2 r l) = result5 m c ((win0_12.rect t).emb (ix2 r l))
    rw [emb12]
    exact pay12_eq _ _ _ _ _ _ r l (row t r) (col t l) (iblk2_apply m c t r l) (X5_apply m c t r l) (iblk6_apply m c t r l)
  · obtain ⟨t, r, l, rfl⟩ := split_block i
    refine ⟨t, flush0_12 t, ?_⟩
    rw [← emb12]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_v0_3) = result3 m c
      ∧ r.2.mem ((c : Thread nD τ).loc main_v0_4) = result4 m c
      ∧ r.2.mem ((c : Thread nD τ).loc main_v0_5) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2.1.trans (final12 m c), (h c).2.2.2.2.2.2⟩)
    (Value.run_blocks m ρ)

theorem frame_r : Cert.quiescent_RMergeIdeal := fun m ρ _ =>
  (θ_run _ _ _).mono (fun r h => ⟨fun c => (h c).2.2.2.2.2.2, sem_eq_zero_of_no_sems (by decide) r.2⟩) (Cert.RMergeIdeal.Value.run m ρ)

theorem algebraic : Cert.algebraic_KMergeIdeal_RMergeIdeal := by
  intro m g m' g' _ hm
  refine ⟨fun c => result0 m c, fun c => result1 m c, fun c => result2 m c, fun c => result3 m c, fun c => result4 m c,
    fun c => result5 m c, run m g, ?_⟩
  refine (θ_run _ _ _).mono (fun r h c => ⟨?_, ?_, ?_, ?_, ?_, ?_, (h c).2.2.2.2.2.2⟩) (Cert.RMergeIdeal.Value.run m' g')
  · rw [(h c).1, (hm c).2.2.2.1, (hm c).2.2.2.2]
    rfl
  · rw [(h c).2.1, (hm c).2.2.2.1, (hm c).2.2.2.2]
    rfl
  · rw [(h c).2.2.1, (hm c).2.2.2.1, (hm c).2.2.2.2]
    rfl
  · rw [(h c).2.2.2.1, (hm c).1, (hm c).2.2.2.1, (hm c).2.2.2.2]
    rfl
  · rw [(h c).2.2.2.2.1, (hm c).2.1, (hm c).2.2.2.1, (hm c).2.2.2.2]
    rfl
  · rw [(h c).2.2.2.2.2.1, (hm c).2.2.1, (hm c).2.2.2.1, (hm c).2.2.2.2]
    rfl

end Cert.Proof.Merge

end
-- ==== Proof.GateA.lean ====
/-
  Hand-written, untrusted. The gradient of the attention's output gate, `KGateAIdeal`, over the extended reals: the two arrays its
  four row blocks leave are the reference's `val_main_v4` and `val_main_v6` of the three arguments.
-/
module

public import proofs.«01_k».proof.Defs
public import proofs.«01_k».proof.Proof.Gen.KGateAIdeal.Value
public import proofs.«01_k».proof.Proof.Gen.RGateAIdeal.Run
public import proofs.«01_k».proof.Proof.Gen.RGateAIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateA

open Idealize.ShloMosaic Idealize.SL.Sem Cert.KGateAIdeal
open Cert.KGateAIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords) (a2 : Memref sig .tc .vmem S544x1024 .f32) (h2 : a2.IsWhole)
    (a3 : Memref sig .tc .vmem S544x1024 .f32) (h3 : a3.IsWhole) (a4 : Memref sig .tc .vmem S544x1024 .f32) (h4 : a4.IsWhole)
    (a5 : Memref sig .tc .vmem S544x1024 .f32) (h5 : a5.IsWhole) (a6 : Memref sig .tc .vmem S544x1024 .bf16) (h6 : a6.IsWhole)
    (x0 x1 x2 : Vec Ideal S544x1024 .f32)

/-- What the body leaves for the gated rows' gradient. -/
theorem out3 : out0_A_3 c i a2 h2 a3 h3 a4 h4 a5 h5 a6 h6 x0 x1 x2 = k0_pay2 x1 x2 := by
  unfold out0_A_3
  rw [View.read_writes_eq_canon _ _ _ (cover0_A_3 c i a2 h2 a3 h3 a4 h4 a5 h5 a6 h6 x0 x1 x2)]
  unfold kernelRun0_A
  dsimp only
  sl_unfold_words
  rw [View.canon_cons_unit_zero (S := S544x1024) hz]
  simp only [View.readAt_eq_ld, h2.read_unread, h3.read_unread, h4.read_unread, View.ld_unit_zero (S := S544x1024) hz]

/-- What the body leaves for the gate's gradient. -/
theorem out4 : out0_A_4 c i a2 h2 a3 h3 a4 h4 a5 h5 a6 h6 x0 x1 x2 = k0_pay3 x0 x1 x2 := by
  unfold out0_A_4
  rw [View.read_writes_eq_canon _ _ _ (cover0_A_4 c i a2 h2 a3 h3 a4 h4 a5 h5 a6 h6 x0 x1 x2)]
  unfold kernelRun0_A
  dsimp only
  sl_unfold_words
  rw [View.canon_cons_unit_zero (S := S544x1024) hz]
  simp only [View.readAt_eq_ld, h2.read_unread, h3.read_unread, h4.read_unread, View.ld_unit_zero (S := S544x1024) hz]

end Body

/-- The row windows are at block `t` of the rows; the gate's columns are at block 3. -/
theorem index_rows : ∀ t : Fin cfg0.N, win0_0.index t = ![t.val, 0] ∧ win0_1.index t = ![t.val, 3] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![t.val, 3] ∧ win0_2.index t = ![t.val, 0]
    ∧ win0_3.index t = ![t.val, 0] ∧ win0_4.index t = ![t.val, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) l) := by
  show m ((c : Thread nD τ).loc main_arg0) ((win0_0.rect t).emb (ix2 r l)) = _
  congr 1
  funext a; apply Fin.ext
  rw [Pipeline.Window.rect_emb_val win0_0 t _ a rfl, (index_rows t).1]
  fin_cases a <;> simp <;> rfl

theorem iblk2_apply (c : Dev nD) (t : Fin cfg0.N) (r : Fin 544) (l : Fin 1024) :
    iblk m c 2 t (ix2 r l) = m ((c : Thread nD τ).loc main_arg2) (ix2 (row t r) l) := by
  show m ((c : Thread nD τ).loc main_arg2) ((win0_2.rect t).emb (ix2 r l)) = _
  congr 1
  funext a; apply Fin.ext
  rw [Pipeline.Window.rect_emb_val win0_2 t _ a rfl, (index_rows t).2.2.1]
  fin_cases a <;> simp <;> rfl

theorem X1_apply (c : Dev nD) (t : Fin cfg0.N) (r : Fin 544) (l : Fin 1024) :
    X0_1 m c t (ix2 r l) = m ((c : Thread nD τ).loc main_arg1) (ix2 (row t r) (⟨3072 + l.val, by omega⟩ : Fin 16000)) := by
  unfold X0_1 Pipeline.Window.fill
  rw [dif_pos (moved0_1 t _)]
  show m ((c : Thread nD τ).loc main_arg1) ((win0_1.rect t).emb _) = _
  congr 1
  funext a; apply Fin.ext
  rw [Pipeline.Window.rect_emb_val win0_1 t _ a rfl, (index_rows t).2.1]
  fin_cases a <;> simp <;> rfl

section Equation

variable (x0 x1 x2 : Vec Ideal S544x1024 .f32) (y0 : Vec Ideal S2176x1024 .f32) (y1 : Vec Ideal S2176x16000 .f32) (y2 : Vec Ideal S2176x1024 .f32)
    (r : Fin 544) (R : Fin 2176) (l : Fin 1024)

theorem pay2_eq (h1 : x1 (ix2 r l) = y1 (ix2 R (⟨3072 + l.val, by omega⟩ : Fin 16000))) (h2 : x2 (ix2 r l) = y2 (ix2 R l)) :
    k0_pay2 x1 x2 (ix2 r l) = Cert.RGateAIdeal.Read.val_main_v4 (F := Ideal) y1 y2 (ix2 R l) := by
  pointwise [k0_pay2, k0_pay1, Cert.RGateAIdeal.Read.val_main_v4, Cert.RGateAIdeal.Read.val_main_v1_0, Cert.RGateAIdeal.Read.val_main_v1_2,
    Cert.RGateAIdeal.Read.val_main_call0_v0, Cert.RGateAIdeal.Read.val_main_call0_v1, Cert.RGateAIdeal.Read.val_main_call0_v2,
    Cert.RGateAIdeal.Read.val_main_call0_v3, Cert.RGateAIdeal.Read.val_main_call0_v4, Cert.RGateAIdeal.Read.val_main_call0_cst,
    Cert.RGateAIdeal.Read.val_main_call0_cst_0, Cert.RGateAIdeal.Read.val_main_v0]
  rw [h1, h2]
  rfl

theorem pay3_eq (h0 : x0 (ix2 r l) = y0 (ix2 R l)) (h1 : x1 (ix2 r l) = y1 (ix2 R (⟨3072 + l.val, by omega⟩ : Fin 16000)))
    (h2 : x2 (ix2 r l) = y2 (ix2 R l)) :
    k0_pay3 x0 x1 x2 (ix2 r l) = Cert.RGateAIdeal.Read.val_main_v6 (F := Ideal) y0 y1 y2 (ix2 R l) := by
  pointwise [k0_pay3, k0_pay1, Cert.RGateAIdeal.Read.val_main_v6, Cert.RGateAIdeal.Read.val_main_v5,
    Cert.RGateAIdeal.Read.val_main_call1_v0, Cert.RGateAIdeal.Read.val_main_call1_v1, Cert.RGateAIdeal.Read.val_main_call1_v2,
    Cert.RGateAIdeal.Read.val_main_v3, Cert.RGateAIdeal.Read.val_main_v1_1, Cert.RGateAIdeal.Read.val_main_v1_2,
    Cert.RGateAIdeal.Read.val_main_call0_v7, Cert.RGateAIdeal.Read.val_main_call0_v6, Cert.RGateAIdeal.Read.val_main_call0_cst_1,
    Cert.RGateAIdeal.Read.val_main_call0_v0, Cert.RGateAIdeal.Read.val_main_call0_v1, Cert.RGateAIdeal.Read.val_main_call0_v2,
    Cert.RGateAIdeal.Read.val_main_call0_v3, Cert.RGateAIdeal.Read.val_main_call0_v4, Cert.RGateAIdeal.Read.val_main_call0_cst,
    Cert.RGateAIdeal.Read.val_main_call0_cst_0, Cert.RGateAIdeal.Read.val_main_v0]
  rw [h0, h1, h2]
  rfl

end Equation

/-- The arrays the run leaves. -/
abbrev result0 (c : Dev nD) : Buf (Elt Ideal) ((c : Thread nD τ).loc main_v0_0) :=
  Cert.RGateAIdeal.Read.val_main_v4 (F := Ideal) (m ((c : Thread nD τ).loc main_arg1)) (m ((c : Thread nD τ).loc main_arg2))
abbrev result1 (c : Dev nD) : Buf (Elt Ideal) ((c : Thread nD τ).loc main_v0_1) :=
  Cert.RGateAIdeal.Read.val_main_v6 (F := Ideal) (m ((c : Thread nD τ).loc main_arg0)) (m ((c : Thread nD τ).loc main_arg1))
    (m ((c : Thread nD τ).loc main_arg2))

theorem emb3 (t : Fin cfg0.N) (r : Fin 544) (l : Fin 1024) : ((win0_3.rect t).emb (ix2 r l) : S2176x1024.Idx) = ix2 (row t r) l := by
  funext a; apply Fin.ext
  rw [Pipeline.Window.rect_emb_val win0_3 t _ a rfl, (index_rows t).2.2.2.1]
  fin_cases a <;> simp <;> rfl

theorem emb4 (t : Fin cfg0.N) (r : Fin 544) (l : Fin 1024) : ((win0_4.rect t).emb (ix2 r l) : S2176x1024.Idx) = ix2 (row t r) l := by
  funext a; apply Fin.ext
  rw [Pipeline.Window.rect_emb_val win0_4 t _ a rfl, (index_rows t).2.2.2.2]
  fin_cases a <;> simp <;> rfl

theorem flushed3 (c : Dev nD) (t : Fin cfg0.N) (_ : (cfg0.win 3).flush t = true) :
    (dats m 0 c).flushed 3 t = ((cfg0.win 3).blk t).view.read (Elt Ideal) (result0 m c) := by
  rw [Value.flushed3_A m c t, out3]
  funext y
  obtain ⟨r, l, rfl⟩ : ∃ (r : Fin 544) (l : Fin 1024), y = ix2 r l := ⟨y 0, y 1, by pointwise⟩
  show k0_pay2 (X0_1 m c t) (iblk m c 2 t) (ix2 r l) = result0 m c ((win0_3.rect t).emb (ix2 r l))
  rw [emb3]
  exact pay2_eq _ _ _ _ r (row t r) l (X1_apply m c t r l) (iblk2_apply m c t r l)

theorem flushed4 (c : Dev nD) (t : Fin cfg0.N) (_ : (cfg0.win 4).flush t = true) :
    (dats m 0 c).flushed 4 t = ((cfg0.win 4).blk t).view.read (Elt Ideal) (result1 m c) := by
  rw [Value.flushed4_A m c t, out4]
  funext y
  obtain ⟨r, l, rfl⟩ : ∃ (r : Fin 544) (l : Fin 1024), y = ix2 r l := ⟨y 0, y 1, by pointwise⟩
  show k0_pay3 (iblk m c 0 t) (X0_1 m c t) (iblk m c 2 t) (ix2 r l) = result1 m c ((win0_4.rect t).emb (ix2 r l))
  rw [emb4]
  exact pay3_eq _ _ _ _ _ _ r (row t r) l (iblk0_apply m c t r l) (X1_apply m c t r l) (iblk2_apply m c t r l)

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final3 (c : Dev nD) : (dats m 0 c).arrAt 3 cfg0.N = result0 m c :=
  (dats m 0 c).arrAt_eq_of_cover 3 (result0 m c) (flushed3 m c) fun i => by
    obtain ⟨t, r, l, rfl⟩ := split_row i
    refine ⟨t, flush0_3 t, ?_⟩
    rw [← emb3]
    exact View.emb_mem_set _ _

theorem final4 (c : Dev nD) : (dats m 0 c).arrAt 4 cfg0.N = result1 m c :=
  (dats m 0 c).arrAt_eq_of_cover 4 (result1 m c) (flushed4 m c) fun i => by
    obtain ⟨t, r, l, rfl⟩ := split_row i
    refine ⟨t, flush0_4 t, ?_⟩
    rw [← emb4]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (Value.run_blocks m ρ)

theorem frame_r : Cert.quiescent_RGateAIdeal := fun m ρ _ =>
  (θ_run _ _ _).mono (fun r h => ⟨fun c => (h c).2.2, sem_eq_zero_of_no_sems (by decide) r.2⟩) (Cert.RGateAIdeal.Value.run m ρ)

theorem algebraic : Cert.algebraic_KGateAIdeal_RGateAIdeal := by
  intro m g m' g' _ hm
  refine ⟨fun c => result0 m c, fun c => result1 m c, run m g, ?_⟩
  refine (θ_run _ _ _).mono (fun r h c => ⟨?_, ?_, (h c).2.2⟩) (Cert.RGateAIdeal.Value.run m' g')
  · rw [(h c).1, (hm c).2.1, (hm c).2.2]
    rfl
  · rw [(h c).2.1, (hm c).1, (hm c).2.1, (hm c).2.2]
    rfl

end Cert.Proof.GateA

end
-- ==== Proof.Rms.lean ====
/-
  Hand-written, untrusted. The gradient of the RMS norm before the input projection, `KRmsIdeal`, over the extended reals: the rows'
  gradient its four row blocks leave, with the residual's gradient added, is the reference's `val_main_v36`, and the weight's, added
  up over the four blocks, its `val_main_v37`.
-/
module

public import proofs.«01_k».proof.Defs
public import proofs.«01_k».proof.Proof.Gen.KRmsIdeal.Value
public import proofs.«01_k».proof.Proof.Gen.RRmsIdeal.Run
public import proofs.«01_k».proof.Proof.Gen.RRmsIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Rms

open Idealize.ShloMosaic Idealize.SL.Sem Cert.KRmsIdeal
open Cert.KRmsIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords) (a2 : Memref sig .tc .vmem S544x1024 .f32) (h2 : a2.IsWhole)
    (a3 : Memref sig .tc .vmem S1x1024 .f32) (h3 : a3.IsWhole) (a4 : Memref sig .tc .vmem S544x1024 .f32) (h4 : a4.IsWhole)
    (a5 : Memref sig .tc .vmem S544x1024 .f32) (h5 : a5.IsWhole) (a6 : Memref sig .tc .vmem S544x1024 .f32) (h6 : a6.IsWhole)
    (a7 : Memref sig .tc .vmem S1x1024 .f32) (h7 : a7.IsWhole)
    (x0 : Vec Ideal S544x1024 .f32) (x1 : Vec Ideal S1x1024 .f32) (x2 x3 : Vec Ideal S544x1024 .f32)

/-- The rows' gradient at the first point. -/
theorem outA4 (hc0 : cond0_0 i) (hc1 : ¬cond0_1 i) :
    out0_A_4 c i a2 h2 a3 h3 a4 h4 a5 h5 a6 h6 a7 h7 hc0 hc1 x0 x1 x2 x3 = k0_pay5 x0 x1 x2 x3 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  sl_unfold_words
  rw [View.canon_cons_unit_zero (S := S544x1024) hz]
  simp only [View.readAt_eq_ld, h2.read_unread, h3.read_unread, h4.read_unread, h5.read_unread, h7.read_unread,
    View.ld_unit_zero (S := S544x1024) hz, View.ld_unit_zero (S := S1x1024) hz]

/-- The weight's gradient at the first point. -/
theorem outA5 (hc0 : cond0_0 i) (hc1 : ¬cond0_1 i) :
    out0_A_5 c i a2 h2 a3 h3 a4 h4 a5 h5 a6 h6 a7 h7 hc0 hc1 x0 x1 x2 x3 = k0_pay4 x0 x2 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  sl_unfold_words
  rw [View.canon_cons_unit_zero (S := S1x1024) hz]
  simp only [View.readAt_eq_ld, h2.read_unread, h3.read_unread, h4.read_unread, h5.read_unread, h7.read_unread,
    View.ld_unit_zero (S := S544x1024) hz, View.ld_unit_zero (S := S1x1024) hz]

/-- The rows' gradient at a later point. -/
theorem outB4 (hc0 : ¬cond0_0 i) (hc1 : cond0_1 i) (xo : Vec Ideal S1x1024 .f32) :
    out0_B_4 c i a2 h2 a3 h3 a4 h4 a5 h5 a6 h6 a7 h7 hc0 hc1 x0 x1 x2 x3 xo = k0_pay5 x0 x1 x2 x3 := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  sl_unfold_words
  rw [View.canon_cons_unit_zero (S := S544x1024) hz]
  simp only [View.readAt_eq_ld, h2.read_unread, h3.read_unread, h4.read_unread, h5.read_unread, h7.read_unread,
    View.ld_unit_zero (S := S544x1024) hz, View.ld_unit_zero (S := S1x1024) hz]

/-- The weight's gradient at a later point. -/
theorem outB5 (hc0 : ¬cond0_0 i) (hc1 : cond0_1 i) (xo : Vec Ideal S1x1024 .f32) :
    out0_B_5 c i a2 h2 a3 h3 a4 h4 a5 h5 a6 h6 a7 h7 hc0 hc1 x0 x1 x2 x3 xo = k0_pay1 (k0_pay4 x0 x2) xo := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  sl_unfold_words
  rw [View.canon_cons_unit_zero (S := S1x1024) hz]
  simp only [View.readAt_eq_ld, h2.read_unread, h3.read_unread, h4.read_unread, h5.read_unread, h7.read_unread,
    View.ld_unit_zero (S := S544x1024) hz, View.ld_unit_zero (S := S1x1024) hz]

end Body

/-- The row windows are at block `t` of the rows, the weight's at its only block. -/
theorem index_t : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) l) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> simp <;> rfl

theorem iblk2_apply (c : Dev nD) (t : Fin cfg0.N) (r : Fin 544) (l : Fin 1024) :
    iblk m c 2 t (ix2 r l) = m ((c : Thread nD τ).loc main_arg2) (ix2 (row t r) l) := by
  show V m c main_arg2 ((win0_2.rect t).emb (ix2 r l)) = _
  rw [V_main_arg2]
  congr 1
  funext a; apply Fin.ext
  rw [Pipeline.Window.rect_emb_val win0_2 t _ a rfl, (index_t t).2.2.1]
  fin_cases a <;> simp <;> rfl

theorem iblk3_apply (c : Dev nD) (t : Fin cfg0.N) (r : Fin 544) (l : Fin 1024) :
    iblk m c 3 t (ix2 r l) = m ((c : Thread nD τ).loc main_arg3) (ix2 (row t r) l) := by
  show V m c main_arg3 ((win0_3.rect t).emb (ix2 r l)) = _
  rw [V_main_arg3]
  congr 1
  funext a; apply Fin.ext
  rw [Pipeline.Window.rect_emb_val win0_3 t _ a rfl, (index_t t).2.2.2.1]
  fin_cases a <;> simp <;> rfl

/-- The weight as the region finds it: the host's one row of it. -/
theorem weight_row (c : Dev nD) : V m c main_v0 = broadcastInDim S1x1024 ![1] bcast_S1024_S1x1024_1 (m ((c : Thread nD τ).loc main_arg1)) := by
  unfold_abbrev_sides
  after_results

theorem iblk1_apply (c : Dev nD) (t : Fin cfg0.N) (l : Fin 1024) :
    iblk m c 1 t (ix2 0 l) = m ((c : Thread nD τ).loc main_arg1) (ix1 l) := by
  show V m c main_v0 ((win0_1.rect t).emb (ix2 0 l)) = _
  have e : ((win0_1.rect t).emb (ix2 0 l) : S1x1024.Idx) = ix2 0 l := by
    funext a; apply Fin.ext
    rw [Pipeline.Window.rect_emb_val win0_1 t _ a rfl, (index_t t).2.1]
    fin_cases a <;> simp <;> rfl
  rw [weight_row, e]
  pointwise

section Equation

variable (x0 : Vec Ideal S544x1024 .f32) (x1 : Vec Ideal S1x1024 .f32) (x2 x3 : Vec Ideal S544x1024 .f32)
    (y0 : Vec Ideal S2176x1024 .f32) (y1 : Vec Ideal S1024 .f32) (y2 y3 : Vec Ideal S2176x1024 .f32) (r : Fin 544) (R : Fin 2176) (l : Fin 1024)

theorem pay5_eq (h0 : ∀ k, x0 (ix2 r k) = y0 (ix2 R k)) (h1 : ∀ k, x1 (ix2 0 k) = y1 (ix1 k)) (h2 : ∀ k, x2 (ix2 r k) = y2 (ix2 R k))
    (h3 : x3 (ix2 r l) = y3 (ix2 R l)) :
    k0_pay5 x0 x1 x2 x3 (ix2 r l) = Cert.RRmsIdeal.Read.val_main_v36 (F := Ideal) y0 y1 y2 y3 (ix2 R l) := by
  pointwise [k0_pay5, k0_pay3, k0_pay2, Cert.RRmsIdeal.Read.val_main_v36, Cert.RRmsIdeal.Read.val_main_v35, Cert.RRmsIdeal.Read.val_main_v32,
    Cert.RRmsIdeal.Read.val_main_v31, Cert.RRmsIdeal.Read.val_main_cst_7, Cert.RRmsIdeal.Read.val_main_v30,
    Cert.RRmsIdeal.Read.val_main_v29, Cert.RRmsIdeal.Read.val_main_cst_6, Cert.RRmsIdeal.Read.val_main_v28,
    Cert.RRmsIdeal.Read.val_main_v10, Cert.RRmsIdeal.Read.val_main_v8, Cert.RRmsIdeal.Read.val_main_v6,
    Cert.RRmsIdeal.Read.val_main_v5, Cert.RRmsIdeal.Read.val_main_cst_1, Cert.RRmsIdeal.Read.val_main_v4,
    Cert.RRmsIdeal.Read.val_main_v3, Cert.RRmsIdeal.Read.val_main_cst_0, Cert.RRmsIdeal.Read.val_main_v2,
    Cert.RRmsIdeal.Read.val_main_v1, Cert.RRmsIdeal.Read.val_main_cst, Cert.RRmsIdeal.Read.val_main_v0,
    Cert.RRmsIdeal.Read.val_main_v7, Cert.RRmsIdeal.Read.val_main_v9, Cert.RRmsIdeal.Read.val_main_cst_2,
    Cert.RRmsIdeal.Read.val_main_v24, Cert.RRmsIdeal.Read.val_main_v23, Cert.RRmsIdeal.Read.val_main_cst_5,
    Cert.RRmsIdeal.Read.val_main_v22, Cert.RRmsIdeal.Read.val_main_v20, Cert.RRmsIdeal.Read.val_main_v19,
    Cert.RRmsIdeal.Read.val_main_v13, Cert.RRmsIdeal.Read.val_main_v34, Cert.RRmsIdeal.Read.val_main_v33,
    Cert.RRmsIdeal.Read.val_main_v27, Cert.RRmsIdeal.Read.val_main_v26, Cert.RRmsIdeal.Read.val_main_v25]
  simp only [h0, h1, h2, h3]
  refine (add_comm _ _).trans ?_
  simp only [add_assoc]

theorem pay4_apply : k0_pay4 x0 x2 (ix2 0 l) = ∑ k : Fin 544, x0 (ix2 k l) * k0_pay3 x0 (ix2 k 0) * x2 (ix2 k l) := by
  pointwise [k0_pay4]

theorem pay3_eq (h0 : ∀ k, x0 (ix2 r k) = y0 (ix2 R k)) : k0_pay3 x0 (ix2 r 0) = Cert.RRmsIdeal.Read.val_main_v7 (F := Ideal) y0 (ix2 R 0) := by
  pointwise [k0_pay3, k0_pay2, Cert.RRmsIdeal.Read.val_main_v7, Cert.RRmsIdeal.Read.val_main_v6, Cert.RRmsIdeal.Read.val_main_v5,
    Cert.RRmsIdeal.Read.val_main_cst_1, Cert.RRmsIdeal.Read.val_main_v4, Cert.RRmsIdeal.Read.val_main_v3,
    Cert.RRmsIdeal.Read.val_main_cst_0, Cert.RRmsIdeal.Read.val_main_v2, Cert.RRmsIdeal.Read.val_main_v1,
    Cert.RRmsIdeal.Read.val_main_cst, Cert.RRmsIdeal.Read.val_main_v0]
  simp only [h0]

theorem result1_apply : Cert.RRmsIdeal.Read.val_main_v37 (F := Ideal) y0 y2 (ix2 0 l)
    = ∑ k : Fin 2176, y0 (ix2 k l) * Cert.RRmsIdeal.Read.val_main_v7 (F := Ideal) y0 (ix2 k 0) * y2 (ix2 k l) := by
  pointwise [Cert.RRmsIdeal.Read.val_main_v37, Cert.RRmsIdeal.Read.val_main_v21, Cert.RRmsIdeal.Read.val_main_v18,
    Cert.RRmsIdeal.Read.val_main_v17, Cert.RRmsIdeal.Read.val_main_v16, Cert.RRmsIdeal.Read.val_main_v12,
    Cert.RRmsIdeal.Read.val_main_v11, Cert.RRmsIdeal.Read.val_main_cst_4, Cert.RRmsIdeal.Read.val_main_cst_3]
  simp only [Finset.sum_const, Finset.card_univ, Fintype.card_fin, one_smul]

theorem pay1_apply (v w : Vec Ideal S1x1024 .f32) : k0_pay1 v w (ix2 0 l) = w (ix2 0 l) + v (ix2 0 l) := by
  pointwise [k0_pay1]

end Equation

/-- The arrays the run leaves. -/
abbrev result0 (c : Dev nD) : Buf (Elt Ideal) ((c : Thread nD τ).loc main_v1_0) :=
  Cert.RRmsIdeal.Read.val_main_v36 (F := Ideal) (m ((c : Thread nD τ).loc main_arg0)) (m ((c : Thread nD τ).loc main_arg1))
    (m ((c : Thread nD τ).loc main_arg2)) (m ((c : Thread nD τ).loc main_arg3))
abbrev result1 (c : Dev nD) : Buf (Elt Ideal) ((c : Thread nD τ).loc main_v1_1) :=
  Cert.RRmsIdeal.Read.val_main_v37 (F := Ideal) (m ((c : Thread nD τ).loc main_arg0)) (m ((c : Thread nD τ).loc main_arg2))

theorem emb4 (t : Fin cfg0.N) (r : Fin 544) (l : Fin 1024) : ((win0_4.rect t).emb (ix2 r l) : S2176x1024.Idx) = ix2 (row t r) l := by
  funext a; apply Fin.ext
  rw [Pipeline.Window.rect_emb_val win0_4 t _ a rfl, (index_t t).2.2.2.2.1]
  fin_cases a <;> simp <;> rfl

theorem emb5 (t : Fin cfg0.N) (l : Fin 1024) : ((win0_5.rect t).emb (ix2 0 l) : S1x1024.Idx) = ix2 0 l := by
  funext a; apply Fin.ext
  rw [Pipeline.Window.rect_emb_val win0_5 t _ a rfl, (index_t t).2.2.2.2.2]
  fin_cases a <;> simp <;> rfl

/-- At any point the rows' buffer is left at the gradient of the point's rows. -/
theorem after4 (c : Dev nD) (t : Fin cfg0.N) :
    (outsAt0 m c t.val t.isLt).1 = k0_pay5 (iblk m c 0 t) (iblk m c 1 t) (iblk m c 2 t) (iblk m c 3 t) := by
  have ht : t.val < 4 := t.isLt
  by_cases h : t.val = 0
  · rw [outsAt0_A m c t (by omega) (by omega)]
    dsimp only
    rw [outA4]
  · rw [outsAt0_B m c t (by omega) (by omega)]
    dsimp only
    rw [outB4]

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final4 (c : Dev nD) : (dats m 0 c).arrAt 4 cfg0.N = result0 m c := by
  refine (dats m 0 c).arrAt_eq_of_cover 4 (result0 m c) (fun t _ => ?_) fun i => ?_
  · rw [Value.flushed4 m c t, after4]
    funext y
    obtain ⟨r, l, rfl⟩ : ∃ (r : Fin 544) (l : Fin 1024), y = ix2 r l := ⟨y 0, y 1, by pointwise⟩
    show k0_pay5 (iblk m c 0 t) (iblk m c 1 t) (iblk m c 2 t) (iblk m c 3 t) (ix2 r l) = result0 m c ((win0_4.rect t).emb (ix2 r l))
    rw [emb4]
    exact pay5_eq _ _ _ _ _ _ _ _ r (row t r) l (iblk0_apply m c t r) (iblk1_apply m c t) (iblk2_apply m c t r) (iblk3_apply m c t r l)
  · obtain ⟨t, r, l, rfl⟩ := split_row i
    refine ⟨t, flush0_4 t, ?_⟩
    rw [← emb4]
    exact View.emb_mem_set _ _

/-- A point's part of the weight's gradient. -/
def part (c : Dev nD) (l : Fin 1024) (t : Fin cfg0.N) : EReal := k0_pay4 (iblk m c 0 t) (iblk m c 2 t) (ix2 0 l)

/-- What the weight's buffer holds after point `n`: the sum of the parts so far. -/
theorem after5 (c : Dev nD) (l : Fin 1024) : ∀ (n : ℕ) (hn : n < cfg0.N),
    (outsAt0 m c n hn).2 (ix2 0 l) = ∑ t : Fin (n + 1), part m c l ⟨t.val, lt_of_lt_of_le t.isLt hn⟩
  | 0, hn => by
    rw [outsAt0_A m c ⟨0, hn⟩ (by simp) (by simp)]
    dsimp only
    rw [outA5]
    simp [part]
  | n + 1, hn => by
    have h4 : n + 1 < 4 := hn
    rw [outsAt0_B m c ⟨n + 1, hn⟩ (by simp only; omega) (by simp only; omega)]
    dsimp only
    rw [outB5, pay1_apply, Fin.sum_univ_castSucc]
    exact congrArg (· + _) (after5 c l n (Nat.lt_of_succ_lt hn))

theorem flushed5 (c : Dev nD) (t : Fin cfg0.N) (hf : (cfg0.win 5).flush t = true) :
    (dats m 0 c).flushed 5 t = ((cfg0.win 5).blk t).view.read (Elt Ideal) (result1 m c) := by
  have ht : t.val = 3 := (by decide +kernel : ∀ t : Fin grid0.N, win0_5.flush t = true → t.val = 3) t hf
  obtain rfl : t = ⟨3, by decide⟩ := Fin.ext ht
  rw [Value.flushed5 m c _]
  funext y
  obtain ⟨l, rfl⟩ : ∃ l : Fin 1024, y = ix2 0 l := ⟨y 1, by
    funext a
    match a with
    | ⟨0, _⟩ => exact Subsingleton.elim (α := Fin 1) _ _
    | ⟨1, _⟩ => rfl⟩
  show (outsAt0 m c 3 _).2 (ix2 0 l) = result1 m c ((win0_5.rect ⟨3, _⟩).emb (ix2 0 l))
  rw [emb5, after5 m c l 3 (by decide), show result1 m c _ = _ from result1_apply _ _ _,
    ← Equiv.sum_comp (finProdFinEquiv (m := 4) (n := 544)), Fintype.sum_prod_type]
  refine Finset.sum_congr rfl fun t _ => (pay4_apply _ _ l).trans (Finset.sum_congr rfl fun k _ => ?_)
  have e : finProdFinEquiv (t, k) = row ⟨t.val, t.isLt⟩ k := Fin.ext (by simp [finProdFinEquiv]; omega)
  rw [e, pay3_eq _ _ k (row ⟨t.val, t.isLt⟩ k) (iblk0_apply m c _ k), iblk0_apply, iblk2_apply]

theorem final5 (c : Dev nD) : (dats m 0 c).arrAt 5 cfg0.N = result1 m c :=
  (dats m 0 c).arrAt_eq_of_cover 5 (result1 m c) (flushed5 m c) fun i => by
    obtain ⟨l, rfl⟩ : ∃ l : Fin 1024, i = ix2 0 l := ⟨i 1, by
      funext a
      match a with
      | ⟨0, _⟩ => exact Subsingleton.elim (α := Fin 1) _ _
      | ⟨1, _⟩ => rfl⟩
    obtain ⟨t, ht⟩ : ∃ t : Fin cfg0.N, t = ⟨3, by decide⟩ := ⟨_, rfl⟩
    refine ⟨t, (flush0_5 t).mpr (by subst ht; rfl), ?_⟩
    rw [← emb5 t]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v1_0) = result0 m c
      ∧ r.2.mem ((c : Thread nD τ).loc main_v1_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

theorem frame_r : Cert.quiescent_RRmsIdeal := fun m ρ _ =>
  (θ_run _ _ _).mono (fun r h => ⟨fun c => (h c).2.2, sem_eq_zero_of_no_sems (by decide) r.2⟩) (Cert.RRmsIdeal.Value.run m ρ)

theorem algebraic : Cert.algebraic_KRmsIdeal_RRmsIdeal := by
  intro m g m' g' _ hm
  refine ⟨fun c => result0 m c, fun c => result1 m c, run m g, ?_⟩
  refine (θ_run _ _ _).mono (fun r h c => ⟨?_, ?_, (h c).2.2⟩) (Cert.RRmsIdeal.Value.run m' g')
  · rw [(h c).1, (hm c).1, (hm c).2.1, (hm c).2.2.1, (hm c).2.2.2]
    rfl
  · rw [(h c).2.1, (hm c).1, (hm c).2.2.1]
    rfl

end Cert.Proof.Rms

end
-- ==== Proof.GateB.lean ====
/-
  Hand-written, untrusted. The gradient of the delta rule's output norm and gate, `KGateBIdeal`, over the extended reals. The norm is
  over each head's 128 columns: the kernel cuts its blocks into the eight heads and adds up their gradients padded with zeros, the
  reference reshapes the rows. The results are the reference's `val_main_v45`, `val_main_v46` and, added up over the four row blocks,
  `val_main_v47`.
-/
module

public import proofs.«01_k».proof.Defs
public import proofs.«01_k».proof.Proof.Gen.KGateBIdeal.Value
public import proofs.«01_k».proof.Proof.Gen.RGateBIdeal.Run
public import proofs.«01_k».proof.Proof.Gen.RGateBIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateB

open Idealize.ShloMosaic Idealize.SL.Sem Cert.KGateBIdeal
open Cert.KGateBIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords) (a2 : Memref sig .tc .vmem S544x1024 .f32) (h2 : a2.IsWhole)
    (a3 : Memref sig .tc .vmem S544x1024 .f32) (h3 : a3.IsWhole) (a4 : Memref sig .tc .vmem S1x128 .f32) (h4 : a4.IsWhole)
    (a5 : Memref sig .tc .vmem S544x1024 .f32) (h5 : a5.IsWhole) (a6 : Memref sig .tc .vmem S544x1024 .f32) (h6 : a6.IsWhole)
    (a7 : Memref sig .tc .vmem S544x1024 .bf16) (h7 : a7.IsWhole) (a8 : Memref sig .tc .vmem S1x128 .f32) (h8 : a8.IsWhole)
    (x0 x1 : Vec Ideal S544x1024 .f32) (x2 : Vec Ideal S1x128 .f32) (x3 : Vec Ideal S544x1024 .f32)

/-- What the body stores for the rows' gradient. -/
def dRows : FVec Ideal S544x1024 .f32 :=
  k0_pay1 (k0_pay5 x0) (k0_pay7 x0) (k0_pay8 x0)
      (k0_pay81 (k0_pay4 x2) (k0_pay11 x0) (k0_pay13 x0) (k0_pay14 x0) (k0_pay17 x0) (k0_pay21 (k0_pay18 x0))
        (k0_pay59 (k0_pay55 x1) x3)
        (k0_pay76 (k0_pay4 x2) (k0_pay24 x0) (k0_pay26 x0) (k0_pay27 x0) (k0_pay30 x0) (k0_pay61 (k0_pay55 x1) x3)
          (k0_pay71 (k0_pay4 x2) (k0_pay36 x0) (k0_pay39 (k0_pay37 x0)) (k0_pay40 (k0_pay37 x0)) (k0_pay42 x0)
            (k0_pay63 (k0_pay55 x1) x3)
            (k0_pay66 (k0_pay4 x2) (k0_pay47 x0) (k0_pay49 x0) (k0_pay50 x0) (k0_pay55 x1) x3)
            (k0_pay69 (k0_pay4 x2) (k0_pay44 x0) (k0_pay55 x1) x3)
            (k0_pay70 (k0_pay4 x2) (k0_pay42 x0) (k0_pay45 x0) (k0_pay55 x1) x3))
          (k0_pay74 (k0_pay4 x2) (k0_pay32 x0) (k0_pay62 (k0_pay55 x1) x3))
          (k0_pay75 (k0_pay4 x2) (k0_pay30 x0) (k0_pay33 x0) (k0_pay62 (k0_pay55 x1) x3))
          (FloatOps.ofBits FTy.f32 1124073472#32))
        (k0_pay79 (k0_pay4 x2) (k0_pay17 x0) (k0_pay60 (k0_pay55 x1) x3))
        (k0_pay80 (k0_pay4 x2) (k0_pay20 (k0_pay18 x0)) (k0_pay60 (k0_pay55 x1) x3)))
      (k0_pay83 (k0_pay4 x2) (k0_pay58 (k0_pay55 x1) x3))
      (k0_pay84 (k0_pay4 x2) (k0_pay5 x0) (k0_pay58 (k0_pay55 x1) x3))

/-- What the body stores for the gate's gradient. -/
def dGates : FVec Ideal S544x1024 .bf16 :=
  k0_pay2
      (k0_pay57 x1
        (k0_pay52 x0 (k0_pay4 x2) (k0_pay10 x0 x2) (k0_pay16 x0 x2) (k0_pay23 (k0_pay4 x2) (k0_pay17 x0) (k0_pay18 x0))
          (k0_pay29 x0 (k0_pay4 x2)) (k0_pay35 x0 (k0_pay4 x2)) (k0_pay36 x0) (k0_pay37 x0))
        (k0_pay53 x1) (k0_pay54 x1) x3)

/-- What a point adds to the norm's scale's gradient. -/
def dScale : FVec Ideal S1x128 .f32 :=
  k0_pay82 (k0_pay9 x0) (k0_pay15 x0) (k0_pay58 (k0_pay55 x1) x3) (k0_pay59 (k0_pay55 x1) x3)
      (k0_pay77 (k0_pay22 (k0_pay17 x0) (k0_pay18 x0)) (k0_pay28 x0) (k0_pay60 (k0_pay55 x1) x3)
        (k0_pay61 (k0_pay55 x1) x3)
        (k0_pay72 (k0_pay34 x0) (k0_pay41 (k0_pay36 x0) (k0_pay37 x0)) (k0_pay62 (k0_pay55 x1) x3)
          (k0_pay63 (k0_pay55 x1) x3) (k0_pay67 (k0_pay46 x0) (k0_pay51 x0) (k0_pay55 x1) x3)))

/-- The rows' gradient at the first point. -/
theorem outA4 (hc0 : cond0_0 i) (hc1 : ¬cond0_1 i) :
    out0_A_4 c i a2 h2 a3 h3 a4 h4 a5 h5 a6 h6 a7 h7 a8 h8 hc0 hc1 x0 x1 x2 x3 = dRows x0 x1 x2 x3 := by
  unfold out0_A_4
  rw [View.read_writes_eq_canon _ _ _ (cover0_A_4 c i a2 h2 a3 h3 a4 h4 a5 h5 a6 h6 a7 h7 a8 h8 hc0 hc1 x0 x1 x2 x3)]
  unfold kernelRun0_A
  dsimp only
  sl_unfold_words
  rw [View.canon_cons_unit_zero (S := S544x1024) hz]
  simp only [View.readAt_eq_ld, h2.read_unread, h3.read_unread, h4.read_unread, h5.read_unread, h8.read_unread,
    View.ld_unit_zero (S := S544x1024) hz, View.ld_unit_zero (S := S1x128) hz]
  rfl

/-- The gate's gradient at the first point. -/
theorem outA5 (hc0 : cond0_0 i) (hc1 : ¬cond0_1 i) :
    out0_A_5 c i a2 h2 a3 h3 a4 h4 a5 h5 a6 h6 a7 h7 a8 h8 hc0 hc1 x0 x1 x2 x3 = dGates x0 x1 x2 x3 := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  sl_unfold_words
  rw [View.canon_cons_unit_zero (S := S544x1024) hz]
  simp only [View.readAt_eq_ld, h2.read_unread, h3.read_unread, h4.read_unread, h5.read_unread, h8.read_unread,
    View.ld_unit_zero (S := S544x1024) hz, View.ld_unit_zero (S := S1x128) hz]
  rfl

/-- The scale's gradient at the first point. -/
theorem outA6 (hc0 : cond0_0 i) (hc1 : ¬cond0_1 i) :
    out0_A_6 c i a2 h2 a3 h3 a4 h4 a5 h5 a6 h6 a7 h7 a8 h8 hc0 hc1 x0 x1 x2 x3 = dScale x0 x1 x3 := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_cons_unit_zero (S := S1x128) hz]
  simp only [View.readAt_eq_ld, h2.read_unread, h3.read_unread, h4.read_unread, h5.read_unread, h8.read_unread,
    View.ld_unit_zero (S := S544x1024) hz, View.ld_unit_zero (S := S1x128) hz]
  rfl

/-- The rows' gradient at a later point. -/
theorem outB4 (hc0 : ¬cond0_0 i) (hc1 : cond0_1 i) (xo : Vec Ideal S1x128 .f32) :
    out0_B_4 c i a2 h2 a3 h3 a4 h4 a5 h5 a6 h6 a7 h7 a8 h8 hc0 hc1 x0 x1 x2 x3 xo = dRows x0 x1 x2 x3 := by
  unfold out0_B_4
  rw [View.read_writes_eq_canon _ _ _ (cover0_B_4 c i a2 h2 a3 h3 a4 h4 a5 h5 a6 h6 a7 h7 a8 h8 hc0 hc1 x0 x1 x2 x3 xo)]
  unfold kernelRun0_B
  dsimp only
  sl_unfold_words
  rw [View.canon_cons_unit_zero (S := S544x1024) hz]
  simp only [View.readAt_eq_ld, h2.read_unread, h3.read_unread, h4.read_unread, h5.read_unread, h8.read_unread,
    View.ld_unit_zero (S := S544x1024) hz, View.ld_unit_zero (S := S1x128) hz]
  rfl

/-- The gate's gradient at a later point. -/
theorem outB5 (hc0 : ¬cond0_0 i) (hc1 : cond0_1 i) (xo : Vec Ideal S1x128 .f32) :
    out0_B_5 c i a2 h2 a3 h3 a4 h4 a5 h5 a6 h6 a7 h7 a8 h8 hc0 hc1 x0 x1 x2 x3 xo = dGates x0 x1 x2 x3 := by
  unfold out0_B_5
  rw [View.read_writes_eq_canon _ _ _ (cover0_B_5 c i a2 h2 a3 h3 a4 h4 a5 h5 a6 h6 a7 h7 a8 h8 hc0 hc1 x0 x1 x2 x3 xo)]
  unfold kernelRun0_B
  dsimp only
  sl_unfold_words
  rw [View.canon_cons_unit_zero (S := S544x1024) hz]
  simp only [View.readAt_eq_ld, h2.read_unread, h3.read_unread, h4.read_unread, h5.read_unread, h8.read_unread,
    View.ld_unit_zero (S := S544x1024) hz, View.ld_unit_zero (S := S1x128) hz]
  rfl

/-- The scale's gradient at a later point. -/
theorem outB6 (hc0 : ¬cond0_0 i) (hc1 : cond0_1 i) (xo : Vec Ideal S1x128 .f32) :
    out0_B_6 c i a2 h2 a3 h3 a4 h4 a5 h5 a6 h6 a7 h7 a8 h8 hc0 hc1 x0 x1 x2 x3 xo = k0_pay3 (dScale x0 x1 x3) xo := by
  unfold out0_B_6
  rw [View.read_writes_eq_canon _ _ _ (cover0_B_6 c i a2 h2 a3 h3 a4 h4 a5 h5 a6 h6 a7 h7 a8 h8 hc0 hc1 x0 x1 x2 x3 xo)]
  unfold kernelRun0_B
  dsimp only
  sl_unfold_words
  rw [View.canon_cons_unit_zero (S := S1x128) hz]
  simp only [View.readAt_eq_ld, h2.read_unread, h3.read_unread, h4.read_unread, h5.read_unread, h8.read_unread,
    View.ld_unit_zero (S := S544x1024) hz, View.ld_unit_zero (S := S1x128) hz]
  rfl

end Body

/-! ### One head's row: its values `o`, the gradient `w` of its normed values -/

section Head

variable (o w : Fin 128 → EReal) (n z d : EReal) (k : Fin 128)

def meanSq : EReal := Ideal.div (∑ x, o x * o x) (Ideal.ofBits FTy.f32 1124073472#32) + Ideal.ofBits FTy.f32 897988541#32
def shift : EReal := ∑ _x : Fin 1, Ideal.div ((∑ x, o x * w x) * (Ideal.ofBits FTy.f32 3204448256#32
  * Ideal.div (Ideal.rsqrt (meanSq o)) (meanSq o))) (Ideal.ofBits FTy.f32 1124073472#32)
def normed : EReal := o k * Ideal.rsqrt (meanSq o)
def headRow : EReal := w k * Ideal.rsqrt (meanSq o) + o k * shift o w + shift o w * o k
def silu : EReal := z * Ideal.logistic z
def gateGrad : EReal := n * d * Ideal.logistic z + z * (n * d) * (Ideal.logistic z * (1 - Ideal.logistic z))

end Head

/-- Column `k` of head `h`. -/
abbrev col (h : Fin 8) (k : Fin 128) : Fin 1024 := ⟨128 * h.val + k.val, by omega⟩

theorem split_col (l : Fin 1024) : ∃ (h : Fin 8) (k : Fin 128), l = col h k :=
  ⟨⟨l.val / 128, by omega⟩, ⟨l.val % 128, Nat.mod_lt _ (by decide)⟩, Fin.ext (Nat.div_add_mod l.val 128).symm⟩

/-- The first head's columns. -/
theorem col_zero (k : Fin 128) : col 0 k = ⟨k.val, by omega⟩ := Fin.ext (Nat.zero_add _)

section Kernel

variable (x0 x1 : Vec Ideal S544x1024 .f32) (x2 : Vec Ideal S1x128 .f32) (x3 : Vec Ideal S544x1024 .f32) (r : Fin 544) (h : Fin 8) (k : Fin 128)

theorem dRows_apply : dRows x0 x1 x2 x3 (ix2 r (col h k)) = headRow (fun x => x0 (ix2 r (col h x)))
    (fun x => x3 (ix2 r (col h x)) * silu (x1 (ix2 r (col h x))) * x2 (ix2 0 x)) k := by
  unfold dRows
  fin_cases h
  · show _ = headRow (fun x => x0 (ix2 r (col 0 x))) (fun x => x3 (ix2 r (col 0 x)) * silu (x1 (ix2 r (col 0 x))) * x2 (ix2 0 x)) k
    simp only [col_zero]
    pointwise [
    k0_pay1, k0_pay4, k0_pay5, k0_pay6, k0_pay7, k0_pay8, k0_pay11, k0_pay12, k0_pay13, k0_pay14, k0_pay17, k0_pay18,
    k0_pay19, k0_pay20, k0_pay21, k0_pay24, k0_pay25, k0_pay26, k0_pay27, k0_pay30, k0_pay31, k0_pay32, k0_pay33, k0_pay36,
    k0_pay37, k0_pay38, k0_pay39, k0_pay40, k0_pay42, k0_pay43, k0_pay44, k0_pay45, k0_pay47, k0_pay48, k0_pay49, k0_pay50,
    k0_pay53, k0_pay55, k0_pay56, k0_pay58, k0_pay59, k0_pay60, k0_pay61, k0_pay62, k0_pay63, k0_pay64, k0_pay65, k0_pay66,
    k0_pay68, k0_pay69, k0_pay70, k0_pay71, k0_pay73, k0_pay74, k0_pay75, k0_pay76, k0_pay78, k0_pay79, k0_pay80, k0_pay81,
    k0_pay83, k0_pay84]
    simp (disch := omega) only [dif_pos, dif_neg, zero_add, add_zero]
    rfl
  all_goals
    pointwise [
    k0_pay1, k0_pay4, k0_pay5, k0_pay6, k0_pay7, k0_pay8, k0_pay11, k0_pay12, k0_pay13, k0_pay14, k0_pay17, k0_pay18,
    k0_pay19, k0_pay20, k0_pay21, k0_pay24, k0_pay25, k0_pay26, k0_pay27, k0_pay30, k0_pay31, k0_pay32, k0_pay33, k0_pay36,
    k0_pay37, k0_pay38, k0_pay39, k0_pay40, k0_pay42, k0_pay43, k0_pay44, k0_pay45, k0_pay47, k0_pay48, k0_pay49, k0_pay50,
    k0_pay53, k0_pay55, k0_pay56, k0_pay58, k0_pay59, k0_pay60, k0_pay61, k0_pay62, k0_pay63, k0_pay64, k0_pay65, k0_pay66,
    k0_pay68, k0_pay69, k0_pay70, k0_pay71, k0_pay73, k0_pay74, k0_pay75, k0_pay76, k0_pay78, k0_pay79, k0_pay80, k0_pay81,
    k0_pay83, k0_pay84]
    simp (disch := omega) only [dif_pos, dif_neg, zero_add, add_zero]
    rfl

theorem dGates_apply : dGates x0 x1 x2 x3 (ix2 r (col h k)) = gateGrad (normed (fun x => x0 (ix2 r (col h x))) k * x2 (ix2 0 k))
    (x1 (ix2 r (col h k))) (x3 (ix2 r (col h k))) := by
  fin_cases h
  · show dGates x0 x1 x2 x3 (ix2 r (col 0 k)) = gateGrad (normed (fun x => x0 (ix2 r (col 0 x))) k * x2 (ix2 0 k)) (x1 (ix2 r (col 0 k))) (x3 (ix2 r (col 0 k)))
    simp only [col_zero]
    unfold dGates
    pointwise [
    k0_pay2, k0_pay4, k0_pay5, k0_pay6, k0_pay7, k0_pay9, k0_pay10, k0_pay11, k0_pay12, k0_pay13, k0_pay15, k0_pay16,
    k0_pay17, k0_pay18, k0_pay19, k0_pay20, k0_pay22, k0_pay23, k0_pay24, k0_pay25, k0_pay26, k0_pay28, k0_pay29, k0_pay30,
    k0_pay31, k0_pay32, k0_pay34, k0_pay35, k0_pay36, k0_pay37, k0_pay38, k0_pay39, k0_pay41, k0_pay42, k0_pay43, k0_pay44,
    k0_pay46, k0_pay47, k0_pay48, k0_pay49, k0_pay51, k0_pay52, k0_pay53, k0_pay54, k0_pay57]
    rfl
  all_goals
    unfold dGates
    pointwise [
    k0_pay2, k0_pay4, k0_pay5, k0_pay6, k0_pay7, k0_pay9, k0_pay10, k0_pay11, k0_pay12, k0_pay13, k0_pay15, k0_pay16,
    k0_pay17, k0_pay18, k0_pay19, k0_pay20, k0_pay22, k0_pay23, k0_pay24, k0_pay25, k0_pay26, k0_pay28, k0_pay29, k0_pay30,
    k0_pay31, k0_pay32, k0_pay34, k0_pay35, k0_pay36, k0_pay37, k0_pay38, k0_pay39, k0_pay41, k0_pay42, k0_pay43, k0_pay44,
    k0_pay46, k0_pay47, k0_pay48, k0_pay49, k0_pay51, k0_pay52, k0_pay53, k0_pay54, k0_pay57]
    try simp (disch := omega) only [dif_pos, dif_neg, Nat.sub_sub, Nat.reduceAdd, Nat.add_sub_cancel_left]
    rfl

/-- A head's part of the scale's gradient, from the rows of a block. -/
def headScale : EReal := ∑ r : Fin 544, normed (fun x => x0 (ix2 r (col h x))) k * (x3 (ix2 r (col h k)) * silu (x1 (ix2 r (col h k))))

theorem dScale_apply : dScale x0 x1 x3 (ix2 0 k) = ∑ h : Fin 8, headScale x0 x1 x3 h k := by
  refine Eq.trans (b := headScale x0 x1 x3 7 k + headScale x0 x1 x3 6 k + headScale x0 x1 x3 5 k + headScale x0 x1 x3 4 k
    + headScale x0 x1 x3 3 k + headScale x0 x1 x3 2 k + headScale x0 x1 x3 1 k + headScale x0 x1 x3 0 k) ?_ ?_
  · unfold dScale
    pointwise [
    k0_pay5, k0_pay6, k0_pay7, k0_pay9, k0_pay11, k0_pay12, k0_pay13, k0_pay15, k0_pay17, k0_pay18, k0_pay19, k0_pay20,
    k0_pay22, k0_pay24, k0_pay25, k0_pay26, k0_pay28, k0_pay30, k0_pay31, k0_pay32, k0_pay34, k0_pay36, k0_pay37, k0_pay38,
    k0_pay39, k0_pay41, k0_pay42, k0_pay43, k0_pay44, k0_pay46, k0_pay47, k0_pay48, k0_pay49, k0_pay51, k0_pay53, k0_pay55,
    k0_pay56, k0_pay58, k0_pay59, k0_pay60, k0_pay61, k0_pay62, k0_pay63, k0_pay64, k0_pay65, k0_pay67, k0_pay72, k0_pay77,
    k0_pay82]
    unfold headScale normed silu meanSq
    simp only [col_zero]
    rfl
  · rw [Fin.sum_univ_eight]
    abel

theorem pay3_apply (v w : Vec Ideal S1x128 .f32) : k0_pay3 v w (ix2 0 k) = w (ix2 0 k) + v (ix2 0 k) := by
  pointwise [k0_pay3]

end Kernel

section Reference

variable (y0 : Vec Ideal S2176x1024 .f32) (y1 : Vec Ideal S2176x16000 .f32) (y2 : Vec Ideal S128 .f32) (y3 : Vec Ideal S2176x1024 .f32)
    (R : Fin 2176) (h : Fin 8) (k : Fin 128)

/-- The gate's column of a head. -/
abbrev zcol (h : Fin 8) (k : Fin 128) : Fin 16000 := ⟨7168 + (128 * h.val + k.val), by omega⟩

theorem v1_apply : Cert.RGateBIdeal.Read.val_main_v1 (F := Ideal) y0 (ix3 R h k) = y0 (ix2 R (col h k)) := by
  rw [Cert.RGateBIdeal.Read.val_main_v1_apply]
  congr 1
  funext a; apply Fin.ext
  match a with
  | ⟨0, _⟩ => show ((R.val * 8 + h.val) * 128 + k.val) / 1024 = R.val; omega
  | ⟨1, _⟩ => show ((R.val * 8 + h.val) * 128 + k.val) % 1024 = 128 * h.val + k.val; omega

theorem v24_apply : Cert.RGateBIdeal.Read.val_main_v24 (F := Ideal) y1 y3 (ix3 R h k) = Cert.RGateBIdeal.Read.val_main_v22 (F := Ideal) y1 y3 (ix2 R (col h k)) := by
  rw [Cert.RGateBIdeal.Read.val_main_v24_apply]
  congr 1
  funext a; apply Fin.ext
  match a with
  | ⟨0, _⟩ => show ((R.val * 8 + h.val) * 128 + k.val) / 1024 = R.val; omega
  | ⟨1, _⟩ => show ((R.val * 8 + h.val) * 128 + k.val) % 1024 = 128 * h.val + k.val; omega

theorem v18_apply : Cert.RGateBIdeal.Read.val_main_v18 (F := Ideal) y0 y2 (ix2 R (col h k)) = Cert.RGateBIdeal.Read.val_main_v17 (F := Ideal) y0 y2 (ix3 R h k) := by
  rw [Cert.RGateBIdeal.Read.val_main_v18_apply]
  congr 1
  funext a; apply Fin.ext
  match a with
  | ⟨0, _⟩ => show (R.val * 1024 + (128 * h.val + k.val)) / 1024 = R.val; omega
  | ⟨1, _⟩ => show (R.val * 1024 + (128 * h.val + k.val)) / 128 % 8 = h.val; omega
  | ⟨2, _⟩ => show (R.val * 1024 + (128 * h.val + k.val)) % 128 = k.val; omega

theorem v45_apply : Cert.RGateBIdeal.Read.val_main_v45 (F := Ideal) y0 y1 y2 y3 (ix2 R (col h k)) = Cert.RGateBIdeal.Read.val_main_v44 (F := Ideal) y0 y1 y2 y3 (ix3 R h k) := by
  rw [Cert.RGateBIdeal.Read.val_main_v45_apply]
  congr 1
  funext a; apply Fin.ext
  match a with
  | ⟨0, _⟩ => show (R.val * 1024 + (128 * h.val + k.val)) / 1024 = R.val; omega
  | ⟨1, _⟩ => show (R.val * 1024 + (128 * h.val + k.val)) / 128 % 8 = h.val; omega
  | ⟨2, _⟩ => show (R.val * 1024 + (128 * h.val + k.val)) % 128 = k.val; omega

theorem result0_apply : Cert.RGateBIdeal.Read.val_main_v45 (F := Ideal) y0 y1 y2 y3 (ix2 R (col h k)) = headRow (fun x => y0 (ix2 R (col h x)))
    (fun x => y3 (ix2 R (col h x)) * silu (y1 (ix2 R (zcol h x))) * y2 (ix1 x)) k := by
  rw [v45_apply]
  pointwise [v1_apply, v24_apply,
    Cert.RGateBIdeal.Read.val_main_v44, Cert.RGateBIdeal.Read.val_main_v43, Cert.RGateBIdeal.Read.val_main_v40,
    Cert.RGateBIdeal.Read.val_main_v39, Cert.RGateBIdeal.Read.val_main_cst_7, Cert.RGateBIdeal.Read.val_main_v38,
    Cert.RGateBIdeal.Read.val_main_v37, Cert.RGateBIdeal.Read.val_main_cst_6, Cert.RGateBIdeal.Read.val_main_v36,
    Cert.RGateBIdeal.Read.val_main_v12, Cert.RGateBIdeal.Read.val_main_v10, Cert.RGateBIdeal.Read.val_main_v8,
    Cert.RGateBIdeal.Read.val_main_v7, Cert.RGateBIdeal.Read.val_main_cst_1, Cert.RGateBIdeal.Read.val_main_v6,
    Cert.RGateBIdeal.Read.val_main_v5, Cert.RGateBIdeal.Read.val_main_cst_0, Cert.RGateBIdeal.Read.val_main_v4,
    Cert.RGateBIdeal.Read.val_main_v3, Cert.RGateBIdeal.Read.val_main_cst, Cert.RGateBIdeal.Read.val_main_v2,
    Cert.RGateBIdeal.Read.val_main_v9, Cert.RGateBIdeal.Read.val_main_v11, Cert.RGateBIdeal.Read.val_main_cst_2,
    Cert.RGateBIdeal.Read.val_main_v33, Cert.RGateBIdeal.Read.val_main_v32, Cert.RGateBIdeal.Read.val_main_cst_5,
    Cert.RGateBIdeal.Read.val_main_v31, Cert.RGateBIdeal.Read.val_main_v29, Cert.RGateBIdeal.Read.val_main_v28,
    Cert.RGateBIdeal.Read.val_main_v15, Cert.RGateBIdeal.Read.val_main_v42, Cert.RGateBIdeal.Read.val_main_v41,
    Cert.RGateBIdeal.Read.val_main_v35, Cert.RGateBIdeal.Read.val_main_v34, Cert.RGateBIdeal.Read.val_main_v22,
    Cert.RGateBIdeal.Read.val_main_v19_0, Cert.RGateBIdeal.Read.val_main_v19_2, Cert.RGateBIdeal.Read.val_main_call0_v3,
    Cert.RGateBIdeal.Read.val_main_call0_v1, Cert.RGateBIdeal.Read.val_main_call0_v0, Cert.RGateBIdeal.Read.val_main_v0,
    Cert.RGateBIdeal.Read.val_main_call0_v2, Cert.RGateBIdeal.Read.val_main_call0_cst,
    Cert.RGateBIdeal.Read.val_main_call0_v4, Cert.RGateBIdeal.Read.val_main_call0_cst_0]
  rfl

theorem result1_apply : Cert.RGateBIdeal.Read.val_main_v46 (F := Ideal) y0 y1 y2 y3 (ix2 R (col h k))
    = gateGrad (normed (fun x => y0 (ix2 R (col h x))) k * y2 (ix1 k)) (y1 (ix2 R (zcol h k))) (y3 (ix2 R (col h k))) := by
  pointwise [v18_apply, v1_apply,
    Cert.RGateBIdeal.Read.val_main_v46, Cert.RGateBIdeal.Read.val_main_v23, Cert.RGateBIdeal.Read.val_main_call1_v2,
    Cert.RGateBIdeal.Read.val_main_v19_1, Cert.RGateBIdeal.Read.val_main_call0_v7, Cert.RGateBIdeal.Read.val_main_v19_2,
    Cert.RGateBIdeal.Read.val_main_call0_v3, Cert.RGateBIdeal.Read.val_main_call0_v1,
    Cert.RGateBIdeal.Read.val_main_call0_v0, Cert.RGateBIdeal.Read.val_main_v0, Cert.RGateBIdeal.Read.val_main_call0_v2,
    Cert.RGateBIdeal.Read.val_main_call0_cst, Cert.RGateBIdeal.Read.val_main_call0_v4,
    Cert.RGateBIdeal.Read.val_main_call0_cst_0, Cert.RGateBIdeal.Read.val_main_call0_v6,
    Cert.RGateBIdeal.Read.val_main_call0_cst_1, Cert.RGateBIdeal.Read.val_main_call1_v0, Cert.RGateBIdeal.Read.val_main_v21,
    Cert.RGateBIdeal.Read.val_main_call1_v1, Cert.RGateBIdeal.Read.val_main_v17, Cert.RGateBIdeal.Read.val_main_v16,
    Cert.RGateBIdeal.Read.val_main_v15, Cert.RGateBIdeal.Read.val_main_v14, Cert.RGateBIdeal.Read.val_main_v13,
    Cert.RGateBIdeal.Read.val_main_v9, Cert.RGateBIdeal.Read.val_main_v8, Cert.RGateBIdeal.Read.val_main_v7,
    Cert.RGateBIdeal.Read.val_main_cst_1, Cert.RGateBIdeal.Read.val_main_v6, Cert.RGateBIdeal.Read.val_main_v5,
    Cert.RGateBIdeal.Read.val_main_cst_0, Cert.RGateBIdeal.Read.val_main_v4, Cert.RGateBIdeal.Read.val_main_v3,
    Cert.RGateBIdeal.Read.val_main_cst, Cert.RGateBIdeal.Read.val_main_v2]
  rfl

/-- A sum over the first two axes of three, where a result's index says which place of the last axis it is. -/
theorem sum_at {n0 n1 n2 : Nat} {t : Shape} (hr : (⟨3, ![n0, n1, n2]⟩ : Shape).ReducesTo [0, 1] t)
    (v : (⟨3, ![n0, n1, n2]⟩ : Shape).Idx → EReal) (init : EReal) (j : t.Idx) (q : Fin n2) (hq : ∀ i, hr.drop i = j ↔ i 2 = q) :
    Ideal.hostReduceAdd hr v init j = init + ∑ a : Fin n0, ∑ b : Fin n1, v (ix3 a b q) := by
  refine congrArg (init + ·) ((Finset.sum_filter_eq_sum_of_fiber (fun i => hr.drop i = j) (fun p : Fin n0 × Fin n1 => ix3 p.1 p.2 q)
    (fun _ _ e => Prod.ext (congrFun e 0) (congrFun e 1)) (fun i => (hq i).trans ⟨fun e => ⟨(i 0, i 1), ?_⟩, ?_⟩) v).trans
      (Fintype.sum_prod_type _))
  · funext a
    match a with
    | ⟨0, _⟩ => rfl
    | ⟨1, _⟩ => rfl
    | ⟨2, _⟩ => exact e.symm
  · rintro ⟨p, rfl⟩
    rfl

theorem sum_first_two {n0 n1 n2 : Nat} (hr : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd hr v init j = init + ∑ a : Fin n0, ∑ b : Fin n1, v (ix3 a b (j 0)) :=
  sum_at hr v init j (j 0) fun i => ⟨fun e => congrFun e 0, fun e => funext fun b => by
    match b with
    | ⟨0, _⟩ => exact e⟩

theorem result2_apply : Cert.RGateBIdeal.Read.val_main_v47 (F := Ideal) y0 y1 y3 (ix2 0 k) = ∑ R : Fin 2176, ∑ h : Fin 8,
    normed (fun x => y0 (ix2 R (col h x))) k * (y3 (ix2 R (col h k)) * silu (y1 (ix2 R (zcol h k)))) := by
  pointwise [v1_apply, v24_apply, sum_first_two,
    Cert.RGateBIdeal.Read.val_main_v47, Cert.RGateBIdeal.Read.val_main_v30, Cert.RGateBIdeal.Read.val_main_cst_4,
    Cert.RGateBIdeal.Read.val_main_v27, Cert.RGateBIdeal.Read.val_main_v26, Cert.RGateBIdeal.Read.val_main_cst_3,
    Cert.RGateBIdeal.Read.val_main_v25, Cert.RGateBIdeal.Read.val_main_v14, Cert.RGateBIdeal.Read.val_main_v13,
    Cert.RGateBIdeal.Read.val_main_v9, Cert.RGateBIdeal.Read.val_main_v8, Cert.RGateBIdeal.Read.val_main_v7,
    Cert.RGateBIdeal.Read.val_main_cst_1, Cert.RGateBIdeal.Read.val_main_v6, Cert.RGateBIdeal.Read.val_main_v5,
    Cert.RGateBIdeal.Read.val_main_cst_0, Cert.RGateBIdeal.Read.val_main_v4, Cert.RGateBIdeal.Read.val_main_v3,
    Cert.RGateBIdeal.Read.val_main_cst, Cert.RGateBIdeal.Read.val_main_v2, Cert.RGateBIdeal.Read.val_main_v22,
    Cert.RGateBIdeal.Read.val_main_v19_0, Cert.RGateBIdeal.Read.val_main_v19_2, Cert.RGateBIdeal.Read.val_main_call0_v3,
    Cert.RGateBIdeal.Read.val_main_call0_v1, Cert.RGateBIdeal.Read.val_main_call0_v0, Cert.RGateBIdeal.Read.val_main_v0,
    Cert.RGateBIdeal.Read.val_main_call0_v2, Cert.RGateBIdeal.Read.val_main_call0_cst,
    Cert.RGateBIdeal.Read.val_main_call0_v4, Cert.RGateBIdeal.Read.val_main_call0_cst_0]
  simp only [Finset.sum_const, Finset.card_univ, Fintype.card_fin, one_smul]
  rfl

end Reference

/-- The row windows are at block `t` of the rows, the gate's columns at block 7, the scale at its only block. -/
theorem index_t : ∀ t : Fin cfg0.N, win0_0.index t = ![t.val, 0] ∧ win0_1.index t = ![t.val, 7] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 7] ∧ win0_2.index t = ![0, 0]
    ∧ win0_3.index t = ![t.val, 0] ∧ win0_4.index t = ![t.val, 0] ∧ win0_5.index t = ![t.val, 0] ∧ win0_6.index t = ![0, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) l) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> simp <;> rfl

theorem X1_apply (c : Dev nD) (t : Fin cfg0.N) (r : Fin 544) (h : Fin 8) (k : Fin 128) :
    X0_1 m c t (ix2 r (col h k)) = m ((c : Thread nD τ).loc main_arg1) (ix2 (row t r) (zcol h k)) := by
  unfold X0_1 Pipeline.Window.fill
  rw [dif_pos (moved0_1 t _)]
  show V m c main_arg1 ((win0_1.rect t).emb _) = _
  rw [V_main_arg1]
  congr 1
  funext a; apply Fin.ext
  rw [Pipeline.Window.rect_emb_val win0_1 t _ a rfl, (index_t t).2.1]
  fin_cases a <;> simp <;> rfl

theorem iblk3_apply (c : Dev nD) (t : Fin cfg0.N) (r : Fin 544) (l : Fin 1024) :
    iblk m c 3 t (ix2 r l) = m ((c : Thread nD τ).loc main_arg3) (ix2 (row t r) l) := by
  show V m c main_arg3 ((win0_3.rect t).emb (ix2 r l)) = _
  rw [V_main_arg3]
  congr 1
  funext a; apply Fin.ext
  rw [Pipeline.Window.rect_emb_val win0_3 t _ a rfl, (index_t t).2.2.2.1]
  fin_cases a <;> simp <;> rfl

/-- The scale as the region finds it: the host's one row of it. -/
theorem scale_row (c : Dev nD) : V m c main_v0 = broadcastInDim S1x128 ![1] bcast_S128_S1x128_1 (m ((c : Thread nD τ).loc main_arg2)) := by
  unfold_abbrev_sides
  after_results

theorem iblk2_apply (c : Dev nD) (t : Fin cfg0.N) (k : Fin 128) :
    iblk m c 2 t (ix2 0 k) = m ((c : Thread nD τ).loc main_arg2) (ix1 k) := by
  show V m c main_v0 ((win0_2.rect t).emb (ix2 0 k)) = _
  have e : ((win0_2.rect t).emb (ix2 0 k) : S1x128.Idx) = ix2 0 k := by
    funext a; apply Fin.ext
    rw [Pipeline.Window.rect_emb_val win0_2 t _ a rfl, (index_t t).2.2.1]
    fin_cases a <;> simp <;> rfl
  rw [scale_row, e]
  pointwise

/-- The arrays the run leaves. -/
abbrev result0 (c : Dev nD) : Buf (Elt Ideal) ((c : Thread nD τ).loc main_v1_0) :=
  Cert.RGateBIdeal.Read.val_main_v45 (F := Ideal) (m ((c : Thread nD τ).loc main_arg0)) (m ((c : Thread nD τ).loc main_arg1))
    (m ((c : Thread nD τ).loc main_arg2)) (m ((c : Thread nD τ).loc main_arg3))
abbrev result1 (c : Dev nD) : Buf (Elt Ideal) ((c : Thread nD τ).loc main_v1_1) :=
  Cert.RGateBIdeal.Read.val_main_v46 (F := Ideal) (m ((c : Thread nD τ).loc main_arg0)) (m ((c : Thread nD τ).loc main_arg1))
    (m ((c : Thread nD τ).loc main_arg2)) (m ((c : Thread nD τ).loc main_arg3))
abbrev result2 (c : Dev nD) : Buf (Elt Ideal) ((c : Thread nD τ).loc main_v1_2) :=
  Cert.RGateBIdeal.Read.val_main_v47 (F := Ideal) (m ((c : Thread nD τ).loc main_arg0)) (m ((c : Thread nD τ).loc main_arg1))
    (m ((c : Thread nD τ).loc main_arg3))

theorem emb4 (t : Fin cfg0.N) (r : Fin 544) (l : Fin 1024) : ((win0_4.rect t).emb (ix2 r l) : S2176x1024.Idx) = ix2 (row t r) l := by
  funext a; apply Fin.ext
  rw [Pipeline.Window.rect_emb_val win0_4 t _ a rfl, (index_t t).2.2.2.2.1]
  fin_cases a <;> simp <;> rfl

theorem emb5 (t : Fin cfg0.N) (r : Fin 544) (l : Fin 1024) : ((win0_5.rect t).emb (ix2 r l) : S2176x1024.Idx) = ix2 (row t r) l := by
  funext a; apply Fin.ext
  rw [Pipeline.Window.rect_emb_val win0_5 t _ a rfl, (index_t t).2.2.2.2.2.1]
  fin_cases a <;> simp <;> rfl

theorem emb6 (t : Fin cfg0.N) (k : Fin 128) : ((win0_6.rect t).emb (ix2 0 k) : S1x128.Idx) = ix2 0 k := by
  funext a; apply Fin.ext
  rw [Pipeline.Window.rect_emb_val win0_6 t _ a rfl, (index_t t).2.2.2.2.2.2]
  fin_cases a <;> simp <;> rfl

/-- At any point the rows' buffer is left at the gradient of the point's rows. -/
theorem after4 (c : Dev nD) (t : Fin cfg0.N) :
    (outsAt0 m c t.val t.isLt).1 = dRows (iblk m c 0 t) (X0_1 m c t) (iblk m c 2 t) (iblk m c 3 t) := by
  have ht : t.val < 4 := t.isLt
  by_cases h : t.val = 0
  · rw [outsAt0_A m c t (by omega) (by omega)]
    dsimp only
    rw [outA4]
  · rw [outsAt0_B m c t (by omega) (by omega)]
    dsimp only
    rw [outB4]

/-- At any point the gate's buffer is left at the gradient of the point's rows. -/
theorem after5 (c : Dev nD) (t : Fin cfg0.N) :
    (outsAt0 m c t.val t.isLt).2.1 = dGates (iblk m c 0 t) (X0_1 m c t) (iblk m c 2 t) (iblk m c 3 t) := by
  have ht : t.val < 4 := t.isLt
  by_cases h : t.val = 0
  · rw [outsAt0_A m c t (by omega) (by omega)]
    dsimp only
    rw [outA5]
  · rw [outsAt0_B m c t (by omega) (by omega)]
    dsimp only
    rw [outB5]

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final4 (c : Dev nD) : (dats m 0 c).arrAt 4 cfg0.N = result0 m c := by
  refine (dats m 0 c).arrAt_eq_of_cover 4 (result0 m c) (fun t _ => ?_) fun i => ?_
  · rw [Value.flushed4 m c t, after4]
    funext y
    obtain ⟨r, l, rfl⟩ : ∃ (r : Fin 544) (l : Fin 1024), y = ix2 r l := ⟨y 0, y 1, by pointwise⟩
    obtain ⟨h, k, rfl⟩ := split_col l
    show dRows (iblk m c 0 t) (X0_1 m c t) (iblk m c 2 t) (iblk m c 3 t) (ix2 r (col h k)) = result0 m c ((win0_4.rect t).emb (ix2 r (col h k)))
    rw [emb4, dRows_apply, show result0 m c _ = _ from result0_apply _ _ _ _ _ _ _]
    simp only [iblk0_apply, X1_apply, iblk2_apply, iblk3_apply]
  · obtain ⟨t, r, l, rfl⟩ := split_row i
    refine ⟨t, flush0_4 t, ?_⟩
    rw [← emb4]
    exact View.emb_mem_set _ _

theorem final5 (c : Dev nD) : (dats m 0 c).arrAt 5 cfg0.N = result1 m c := by
  refine (dats m 0 c).arrAt_eq_of_cover 5 (result1 m c) (fun t _ => ?_) fun i => ?_
  · rw [Value.flushed5 m c t, after5]
    funext y
    obtain ⟨r, l, rfl⟩ : ∃ (r : Fin 544) (l : Fin 1024), y = ix2 r l := ⟨y 0, y 1, by pointwise⟩
    obtain ⟨h, k, rfl⟩ := split_col l
    show dGates (iblk m c 0 t) (X0_1 m c t) (iblk m c 2 t) (iblk m c 3 t) (ix2 r (col h k)) = result1 m c ((win0_5.rect t).emb (ix2 r (col h k)))
    rw [emb5, dGates_apply, show result1 m c _ = _ from result1_apply _ _ _ _ _ _ _]
    simp only [iblk0_apply, X1_apply, iblk2_apply, iblk3_apply]
  · obtain ⟨t, r, l, rfl⟩ := split_row i
    refine ⟨t, flush0_5 t, ?_⟩
    rw [← emb5]
    exact View.emb_mem_set _ _

/-- A point's part of the scale's gradient. -/
def part (c : Dev nD) (k : Fin 128) (t : Fin cfg0.N) : EReal := dScale (iblk m c 0 t) (X0_1 m c t) (iblk m c 3 t) (ix2 0 k)

/-- What the scale's buffer holds after point `n`: the sum of the parts so far. -/
theorem after6 (c : Dev nD) (k : Fin 128) : ∀ (n : ℕ) (hn : n < cfg0.N),
    (outsAt0 m c n hn).2.2 (ix2 0 k) = ∑ t : Fin (n + 1), part m c k ⟨t.val, lt_of_lt_of_le t.isLt hn⟩
  | 0, hn => by
    rw [outsAt0_A m c ⟨0, hn⟩ (by simp) (by simp)]
    dsimp only
    rw [outA6]
    simp [part]
  | n + 1, hn => by
    have h4 : n + 1 < 4 := hn
    rw [outsAt0_B m c ⟨n + 1, hn⟩ (by simp only; omega) (by simp only; omega)]
    dsimp only
    rw [outB6, pay3_apply, Fin.sum_univ_castSucc]
    exact congrArg (· + _) (after6 c k n (Nat.lt_of_succ_lt hn))

theorem flushed6 (c : Dev nD) (t : Fin cfg0.N) (hf : (cfg0.win 6).flush t = true) :
    (dats m 0 c).flushed 6 t = ((cfg0.win 6).blk t).view.read (Elt Ideal) (result2 m c) := by
  have ht : t.val = 3 := (by decide +kernel : ∀ t : Fin grid0.N, win0_6.flush t = true → t.val = 3) t hf
  obtain rfl : t = ⟨3, by decide⟩ := Fin.ext ht
  rw [Value.flushed6 m c _]
  funext y
  obtain ⟨k, rfl⟩ : ∃ k : Fin 128, y = ix2 0 k := ⟨y 1, by
    funext a
    match a with
    | ⟨0, _⟩ => exact Subsingleton.elim (α := Fin 1) _ _
    | ⟨1, _⟩ => rfl⟩
  show (outsAt0 m c 3 _).2.2 (ix2 0 k) = result2 m c ((win0_6.rect ⟨3, _⟩).emb (ix2 0 k))
  rw [emb6, after6 m c k 3 (by decide), show result2 m c _ = _ from result2_apply _ _ _ _,
    ← Equiv.sum_comp (finProdFinEquiv (m := 4) (n := 544)), Fintype.sum_prod_type]
  refine Finset.sum_congr rfl fun t _ => (dScale_apply _ _ _ k).trans ?_
  unfold headScale
  rw [Finset.sum_comm]
  refine Finset.sum_congr rfl fun r _ => ?_
  have e : finProdFinEquiv (t, r) = row ⟨t.val, t.isLt⟩ r := Fin.ext (by simp [finProdFinEquiv]; omega)
  rw [e]
  simp only [iblk0_apply, X1_apply, iblk3_apply]

theorem final6 (c : Dev nD) : (dats m 0 c).arrAt 6 cfg0.N = result2 m c :=
  (dats m 0 c).arrAt_eq_of_cover 6 (result2 m c) (flushed6 m c) fun i => by
    obtain ⟨k, rfl⟩ : ∃ k : Fin 128, i = ix2 0 k := ⟨i 1, by
      funext a
      match a with
      | ⟨0, _⟩ => exact Subsingleton.elim (α := Fin 1) _ _
      | ⟨1, _⟩ => rfl⟩
    obtain ⟨t, ht⟩ : ∃ t : Fin cfg0.N, t = ⟨3, by decide⟩ := ⟨_, rfl⟩
    refine ⟨t, (flush0_6 t).mpr (by subst ht; rfl), ?_⟩
    rw [← emb6 t]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v1_0) = result0 m c
      ∧ r.2.mem ((c : Thread nD τ).loc main_v1_1) = result1 m c
      ∧ r.2.mem ((c : Thread nD τ).loc main_v1_2) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2⟩) (Value.run_blocks m ρ)

theorem frame_r : Cert.quiescent_RGateBIdeal := fun m ρ _ =>
  (θ_run _ _ _).mono (fun r h => ⟨fun c => (h c).2.2.2, sem_eq_zero_of_no_sems (by decide) r.2⟩) (Cert.RGateBIdeal.Value.run m ρ)

theorem algebraic : Cert.algebraic_KGateBIdeal_RGateBIdeal := by
  intro m g m' g' _ hm
  refine ⟨fun c => result0 m c, fun c => result1 m c, fun c => result2 m c, run m g, ?_⟩
  refine (θ_run _ _ _).mono (fun r h c => ⟨?_, ?_, ?_, (h c).2.2.2⟩) (Cert.RGateBIdeal.Value.run m' g')
  · rw [(h c).1.trans (Cert.RGateBIdeal.Read.val_main_v45_eq m' c), (hm c).1, (hm c).2.1, (hm c).2.2.1, (hm c).2.2.2]
  · rw [(h c).2.1, (hm c).1, (hm c).2.1, (hm c).2.2.1, (hm c).2.2.2]
    rfl
  · rw [(h c).2.2.1, (hm c).1, (hm c).2.1, (hm c).2.2.2]
    rfl

end Cert.Proof.GateB

end
-- ==== Proof.GateC.lean ====
/-
  Hand-written, untrusted. The gradient of the state space mixer's skip, gate and grouped norm, `KGateCIdeal`, over the extended reals.
  A point of the grid is a block of 544 rows of one of the two groups of 1024 columns, so the norm's mean is over a block's row; the
  reference reshapes the rows into the groups. The results are the reference's `val_main_v51`, `val_main_v54`, `val_main_v59` and,
  added up over the four row blocks, `val_main_v60` and `val_main_v61`.
-/
module

public import proofs.«01_k».proof.Defs
public import proofs.«01_k».proof.Proof.Gen.KGateCIdeal.Value
public import proofs.«01_k».proof.Proof.Gen.RGateCIdeal.Run
public import proofs.«01_k».proof.Proof.Gen.RGateCIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateC

open Idealize.ShloMosaic Idealize.SL.Sem Cert.KGateCIdeal
open Cert.KGateCIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords)
    (a2 : Memref sig .tc .vmem S544x1024 .f32) (h2 : a2.IsWhole)
    (a3 : Memref sig .tc .vmem S544x1024 .f32) (h3 : a3.IsWhole)
    (a4 : Memref sig .tc .vmem S544x1024 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S544x1024 .f32) (h7 : a7.IsWhole)
    (a8 : Memref sig .tc .vmem S544x1024 .f32) (h8 : a8.IsWhole)
    (a9 : Memref sig .tc .vmem S544x1024 .f32) (h9 : a9.IsWhole)
    (a10 : Memref sig .tc .vmem S544x1024 .bf16) (h10 : a10.IsWhole)
    (a11 : Memref sig .tc .vmem S1x1024 .f32) (h11 : a11.IsWhole)
    (a12 : Memref sig .tc .vmem S1x1024 .f32) (h12 : a12.IsWhole)
    (x0 x1 x2 : Vec Ideal S544x1024 .f32) (x3 x4 : Vec Ideal S1x1024 .f32) (x5 : Vec Ideal S544x1024 .f32)

/-- What the body stores for the recurrence's rows' gradient. -/
def dRows : FVec Ideal S544x1024 .f32 :=
  k0_pay16 (k0_pay6 x2) (k0_pay7 x0 x1 x2 x3) (k0_pay10 x0 x1 x2 x3) (k0_pay12 x4 x5)
    (k0_pay13 x0 x1 x2 x3 x4 x5) (k0_pay14 x0 x1 x2 x3)

/-- What the body stores for the convolution's rows' gradient. -/
def dSkipRows : FVec Ideal S544x1024 .f32 :=
  k0_pay17 (k0_pay2 x3) (k0_pay6 x2) (k0_pay7 x0 x1 x2 x3) (k0_pay10 x0 x1 x2 x3) (k0_pay12 x4 x5)
    (k0_pay13 x0 x1 x2 x3 x4 x5) (k0_pay14 x0 x1 x2 x3)

/-- What the body stores for the gate's gradient. -/
def dGates : FVec Ideal S544x1024 .bf16 :=
  k0_pay19 x2 (k0_pay3 x0 x1 x3) (k0_pay4 x2) (k0_pay5 x2) (k0_pay7 x0 x1 x2 x3) (k0_pay10 x0 x1 x2 x3) (k0_pay12 x4 x5)
    (k0_pay13 x0 x1 x2 x3 x4 x5) (k0_pay14 x0 x1 x2 x3)

/-- What a point adds to the skip's gradient. -/
def dSkip : FVec Ideal S1x1024 .f32 :=
  k0_pay18 x1 (k0_pay6 x2) (k0_pay7 x0 x1 x2 x3) (k0_pay10 x0 x1 x2 x3) (k0_pay12 x4 x5)
    (k0_pay13 x0 x1 x2 x3 x4 x5) (k0_pay14 x0 x1 x2 x3)

/-- What a point adds to the scale's gradient. -/
def dScale : FVec Ideal S1x1024 .f32 :=
  k0_pay11 x0 x1 x2 x3 x5

/-- The recurrence's rows' gradient at a column block's first point. -/
theorem outA6 (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 a11 h11 a12 h12 hc0 hc1 hc2 hc3
      x0 x1 x2 x3 x4 x5 = dRows x0 x1 x2 x3 x4 x5 := by
  unfold out0_A_6
  rw [View.read_writes_eq_canon _ _ _ (cover0_A_6 c i a2 h2 a3 h3 a4 h4 a5 h5 a6 h6 a7 h7 a8 h8 a9 h9 a10 h10 a11 h11 a12 h12 hc0 hc1 hc2 hc3
      x0 x1 x2 x3 x4 x5)]
  unfold kernelRun0_A
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The convolution's rows' gradient at a column block's first point. -/
theorem outA7 (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 a11 h11 a12 h12 hc0 hc1 hc2 hc3
      x0 x1 x2 x3 x4 x5 = dSkipRows x0 x1 x2 x3 x4 x5 := by
  unfold out0_A_7
  rw [View.read_writes_eq_canon _ _ _ (cover0_A_7 c i a2 h2 a3 h3 a4 h4 a5 h5 a6 h6 a7 h7 a8 h8 a9 h9 a10 h10 a11 h11 a12 h12 hc0 hc1 hc2 hc3
      x0 x1 x2 x3 x4 x5)]
  unfold kernelRun0_A
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The gate's gradient at a column block's first point. -/
theorem outA8 (hc0 : cond0_0 i) (hc1 : ¬cond0_1 i) (hc2 : cond0_2 i) (hc3 : ¬cond0_3 i) :
    out0_A_8 c i a2 h2 a3 h3 a4 h4 a5 h5 a6 h6 a7 h7 a8 h8 a9 h9 a10 h10 a11 h11 a12 h12 hc0 hc1 hc2 hc3
      x0 x1 x2 x3 x4 x5 = dGates x0 x1 x2 x3 x4 x5 := by
  unfold out0_A_8
  rw [View.read_writes_eq_canon _ _ _ (cover0_A_8 c i a2 h2 a3 h3 a4 h4 a5 h5 a6 h6 a7 h7 a8 h8 a9 h9 a10 h10 a11 h11 a12 h12 hc0 hc1 hc2 hc3
      x0 x1 x2 x3 x4 x5)]
  unfold kernelRun0_A
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The skip's gradient at a column block's first point. -/
theorem outA9 (hc0 : cond0_0 i) (hc1 : ¬cond0_1 i) (hc2 : cond0_2 i) (hc3 : ¬cond0_3 i) :
    out0_A_9 c i a2 h2 a3 h3 a4 h4 a5 h5 a6 h6 a7 h7 a8 h8 a9 h9 a10 h10 a11 h11 a12 h12 hc0 hc1 hc2 hc3
      x0 x1 x2 x3 x4 x5 = dSkip x0 x1 x2 x3 x4 x5 := by
  unfold out0_A_9
  rw [View.read_writes_eq_canon _ _ _ (cover0_A_9 c i a2 h2 a3 h3 a4 h4 a5 h5 a6 h6 a7 h7 a8 h8 a9 h9 a10 h10 a11 h11 a12 h12 hc0 hc1 hc2 hc3
      x0 x1 x2 x3 x4 x5)]
  unfold kernelRun0_A
  dsimp only
  sl_unfold_words
  rw [View.canon_cons_unit_zero (S := S1x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The scale's gradient at a column block's first point. -/
theorem outA10 (hc0 : cond0_0 i) (hc1 : ¬cond0_1 i) (hc2 : cond0_2 i) (hc3 : ¬cond0_3 i) :
    out0_A_10 c i a2 h2 a3 h3 a4 h4 a5 h5 a6 h6 a7 h7 a8 h8 a9 h9 a10 h10 a11 h11 a12 h12 hc0 hc1 hc2 hc3
      x0 x1 x2 x3 x4 x5 = dScale x0 x1 x2 x3 x5 := by
  unfold out0_A_10
  rw [View.read_writes_eq_canon _ _ _ (cover0_A_10 c i a2 h2 a3 h3 a4 h4 a5 h5 a6 h6 a7 h7 a8 h8 a9 h9 a10 h10 a11 h11 a12 h12 hc0 hc1 hc2 hc3
      x0 x1 x2 x3 x4 x5)]
  unfold kernelRun0_A
  dsimp only
  sl_unfold_words
  rw [View.canon_cons_unit_zero (S := S1x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The recurrence's rows' gradient at a later point. -/
theorem outB6 (hc0 : ¬cond0_0 i) (hc1 : cond0_1 i) (hc2 : ¬cond0_2 i) (hc3 : cond0_3 i)
    (xo9 xo10 : Vec Ideal S1x1024 .f32) :
    out0_B_6 c i a2 h2 a3 h3 a4 h4 a5 h5 a6 h6 a7 h7 a8 h8 a9 h9 a10 h10 a11 h11 a12 h12 hc0 hc1 hc2 hc3
      x0 x1 x2 x3 x4 x5 xo9 xo10 = dRows x0 x1 x2 x3 x4 x5 := by
  unfold out0_B_6
  rw [View.read_writes_eq_canon _ _ _ (cover0_B_6 c i a2 h2 a3 h3 a4 h4 a5 h5 a6 h6 a7 h7 a8 h8 a9 h9 a10 h10 a11 h11 a12 h12 hc0 hc1 hc2 hc3
      x0 x1 x2 x3 x4 x5 xo9 xo10)]
  unfold kernelRun0_B
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The convolution's rows' gradient at a later point. -/
theorem outB7 (hc0 : ¬cond0_0 i) (hc1 : cond0_1 i) (hc2 : ¬cond0_2 i) (hc3 : cond0_3 i)
    (xo9 xo10 : Vec Ideal S1x1024 .f32) :
    out0_B_7 c i a2 h2 a3 h3 a4 h4 a5 h5 a6 h6 a7 h7 a8 h8 a9 h9 a10 h10 a11 h11 a12 h12 hc0 hc1 hc2 hc3
      x0 x1 x2 x3 x4 x5 xo9 xo10 = dSkipRows x0 x1 x2 x3 x4 x5 := by
  unfold out0_B_7
  rw [View.read_writes_eq_canon _ _ _ (cover0_B_7 c i a2 h2 a3 h3 a4 h4 a5 h5 a6 h6 a7 h7 a8 h8 a9 h9 a10 h10 a11 h11 a12 h12 hc0 hc1 hc2 hc3
      x0 x1 x2 x3 x4 x5 xo9 xo10)]
  unfold kernelRun0_B
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The gate's gradient at a later point. -/
theorem outB8 (hc0 : ¬cond0_0 i) (hc1 : cond0_1 i) (hc2 : ¬cond0_2 i) (hc3 : cond0_3 i)
    (xo9 xo10 : Vec Ideal S1x1024 .f32) :
    out0_B_8 c i a2 h2 a3 h3 a4 h4 a5 h5 a6 h6 a7 h7 a8 h8 a9 h9 a10 h10 a11 h11 a12 h12 hc0 hc1 hc2 hc3
      x0 x1 x2 x3 x4 x5 xo9 xo10 = dGates x0 x1 x2 x3 x4 x5 := by
  unfold out0_B_8
  rw [View.read_writes_eq_canon _ _ _ (cover0_B_8 c i a2 h2 a3 h3 a4 h4 a5 h5 a6 h6 a7 h7 a8 h8 a9 h9 a10 h10 a11 h11 a12 h12 hc0 hc1 hc2 hc3
      x0 x1 x2 x3 x4 x5 xo9 xo10)]
  unfold kernelRun0_B
  dsimp only
  sl_unfold_words
  rw [View.canon_cons_unit_zero (S := S544x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

/-- The skip's gradient at a later point. -/
theorem outB9 (hc0 : ¬cond0_0 i) (hc1 : cond0_1 i) (hc2 : ¬cond0_2 i) (hc3 : cond0_3 i)
    (xo9 xo10 : Vec Ideal S1x1024 .f32) :
    out0_B_9 c i a2 h2 a3 h3 a4 h4 a5 h5 a6 h6 a7 h7 a8 h8 a9 h9 a10 h10 a11 h11 a12 h12 hc0 hc1 hc2 hc3
      x0 x1 x2 x3 x4 x5 xo9 xo10 = k0_pay20 x1 (k0_pay6 x2) (k0_pay7 x0 x1 x2 x3) (k0_pay10 x0 x1 x2 x3) (k0_pay12 x4 x5)
    (k0_pay13 x0 x1 x2 x3 x4 x5) (k0_pay14 x0 x1 x2 x3) xo9 := by
  unfold out0_B_9
  rw [View.read_writes_eq_canon _ _ _ (cover0_B_9 c i a2 h2 a3 h3 a4 h4 a5 h5 a6 h6 a7 h7 a8 h8 a9 h9 a10 h10 a11 h11 a12 h12 hc0 hc1 hc2 hc3
      x0 x1 x2 x3 x4 x5 xo9 xo10)]
  unfold kernelRun0_B
  dsimp only
  sl_unfold_words
  rw [View.canon_cons_unit_zero (S := S1x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]

/-- The scale's gradient at a later point. -/
theorem outB10 (hc0 : ¬cond0_0 i) (hc1 : cond0_1 i) (hc2 : ¬cond0_2 i) (hc3 : cond0_3 i)
    (xo9 xo10 : Vec Ideal S1x1024 .f32) :
    out0_B_10 c i a2 h2 a3 h3 a4 h4 a5 h5 a6 h6 a7 h7 a8 h8 a9 h9 a10 h10 a11 h11 a12 h12 hc0 hc1 hc2 hc3
      x0 x1 x2 x3 x4 x5 xo9 xo10 = k0_pay1 (dScale x0 x1 x2 x3 x5) xo10 := by
  unfold out0_B_10
  rw [View.read_writes_eq_canon _ _ _ (cover0_B_10 c i a2 h2 a3 h3 a4 h4 a5 h5 a6 h6 a7 h7 a8 h8 a9 h9 a10 h10 a11 h11 a12 h12 hc0 hc1 hc2 hc3
      x0 x1 x2 x3 x4 x5 xo9 xo10)]
  unfold kernelRun0_B
  dsimp only
  sl_unfold_words
  rw [View.canon_cons_unit_zero (S := S1x1024) hz]
  simp only [View.readAt_eq_ld, h2.read_unread, h3.read_unread, h4.read_unread, h5.read_unread, h6.read_unread, h7.read_unread,
    h11.read_unread, h12.read_unread, View.ld_unit_zero (S := S544x1024) hz, View.ld_unit_zero (S := S1x1024) hz]
  rfl

end Body

/-! ### One group's row: a row `t` of 1024 values, the gradient `w` of its normed values -/

section Group

variable (t w : Fin 1024 → EReal) (k : Fin 1024)

def meanSq : EReal := Ideal.div (∑ x, t x * t x) (Ideal.ofBits FTy.f32 1149239296#32) + Ideal.ofBits FTy.f32 897988541#32
def shift : EReal := ∑ _x : Fin 1, Ideal.div ((∑ x, t x * w x) * (Ideal.ofBits FTy.f32 3204448256#32
  * Ideal.div (Ideal.rsqrt (meanSq t)) (meanSq t))) (Ideal.ofBits FTy.f32 1149239296#32)
def normed : EReal := t k * Ideal.rsqrt (meanSq t)
def groupRow : EReal := w k * Ideal.rsqrt (meanSq t) + t k * shift t w + shift t w * t k

end Group

/-! ### The mixer's row: the recurrence's values `y`, the convolution's `x`, the gate's `z`, the gradient `o`, the skip `d`, the scale `n` -/

section Row

variable (y x z o d n : Fin 1024 → EReal) (k : Fin 1024)

def silu (z : EReal) : EReal := z * Ideal.logistic z
def skipped : EReal := y k + d k * x k
def gated : EReal := skipped y x d k * silu (z k)
def gatedGrad : EReal := groupRow (gated y x z d) (fun k => o k * n k) k
def rowGrad : EReal := gatedGrad y x z o d n k * silu (z k)
def gateGrad : EReal := skipped y x d k * gatedGrad y x z o d n k * Ideal.logistic (z k)
  + z k * (skipped y x d k * gatedGrad y x z o d n k) * (Ideal.logistic (z k) * (1 - Ideal.logistic (z k)))

end Row

section Kernel

variable (x0 x1 x2 : Vec Ideal S544x1024 .f32) (x3 x4 : Vec Ideal S1x1024 .f32) (x5 : Vec Ideal S544x1024 .f32) (r : Fin 544) (k : Fin 1024)

theorem dRows_apply : dRows x0 x1 x2 x3 x4 x5 (ix2 r k) = rowGrad (fun k => x0 (ix2 r k)) (fun k => x1 (ix2 r k)) (fun k => x2 (ix2 r k))
    (fun k => x5 (ix2 r k)) (fun k => x3 (ix2 0 k)) (fun k => x4 (ix2 0 k)) k := by
  unfold dRows
  pointwise [
    k0_pay2, k0_pay3, k0_pay4, k0_pay6, k0_pay7, k0_pay8, k0_pay9, k0_pay10, k0_pay12, k0_pay13, k0_pay14, k0_pay15, k0_pay16]
  rfl

theorem dSkipRows_apply : dSkipRows x0 x1 x2 x3 x4 x5 (ix2 r k) = x3 (ix2 0 k) * rowGrad (fun k => x0 (ix2 r k)) (fun k => x1 (ix2 r k)) (fun k => x2 (ix2 r k))
    (fun k => x5 (ix2 r k)) (fun k => x3 (ix2 0 k)) (fun k => x4 (ix2 0 k)) k := by
  unfold dSkipRows
  pointwise [
    k0_pay2, k0_pay3, k0_pay4, k0_pay6, k0_pay7, k0_pay8, k0_pay9, k0_pay10, k0_pay12, k0_pay13, k0_pay14, k0_pay15,
    k0_pay16, k0_pay17]
  rfl

theorem dGates_apply : dGates x0 x1 x2 x3 x4 x5 (ix2 r k) = gateGrad (fun k => x0 (ix2 r k)) (fun k => x1 (ix2 r k)) (fun k => x2 (ix2 r k))
    (fun k => x5 (ix2 r k)) (fun k => x3 (ix2 0 k)) (fun k => x4 (ix2 0 k)) k := by
  unfold dGates
  pointwise [
    k0_pay2, k0_pay3, k0_pay4, k0_pay5, k0_pay6, k0_pay7, k0_pay8, k0_pay9, k0_pay10, k0_pay12, k0_pay13, k0_pay14, k0_pay15,
    k0_pay19]
  rfl

theorem dSkip_apply : dSkip x0 x1 x2 x3 x4 x5 (ix2 0 k) = ∑ r : Fin 544, rowGrad (fun k => x0 (ix2 r k)) (fun k => x1 (ix2 r k)) (fun k => x2 (ix2 r k))
    (fun k => x5 (ix2 r k)) (fun k => x3 (ix2 0 k)) (fun k => x4 (ix2 0 k)) k * x1 (ix2 r k) := by
  unfold dSkip
  pointwise [
    k0_pay2, k0_pay3, k0_pay4, k0_pay6, k0_pay7, k0_pay8, k0_pay9, k0_pay10, k0_pay12, k0_pay13, k0_pay14, k0_pay15,
    k0_pay16, k0_pay18]
  rfl

theorem dScale_apply : dScale x0 x1 x2 x3 x5 (ix2 0 k) = ∑ r : Fin 544, normed
    (gated (fun k => x0 (ix2 r k)) (fun k => x1 (ix2 r k)) (fun k => x2 (ix2 r k)) (fun k => x3 (ix2 0 k))) k * x5 (ix2 r k) := by
  unfold dScale
  pointwise [
    k0_pay2, k0_pay3, k0_pay4, k0_pay6, k0_pay7, k0_pay8, k0_pay9, k0_pay11]
  rfl

theorem pay20_apply (v : Vec Ideal S1x1024 .f32) : k0_pay20 x1 (k0_pay6 x2) (k0_pay7 x0 x1 x2 x3) (k0_pay10 x0 x1 x2 x3) (k0_pay12 x4 x5)
    (k0_pay13 x0 x1 x2 x3 x4 x5) (k0_pay14 x0 x1 x2 x3) v (ix2 0 k)
    = v (ix2 0 k) + dSkip x0 x1 x2 x3 x4 x5 (ix2 0 k) := by
  unfold dSkip
  pointwise [k0_pay20]

theorem pay1_apply (v w : Vec Ideal S1x1024 .f32) : k0_pay1 v w (ix2 0 k) = w (ix2 0 k) + v (ix2 0 k) := by
  pointwise [k0_pay1]

end Kernel

/-- Column `k` of group `g`, of the rows, of the convolution's rows and of the projections. -/
abbrev col (g : Fin 2) (k : Fin 1024) : Fin 2048 := ⟨g.val * 1024 + k.val, by omega⟩
abbrev xcol (g : Fin 2) (k : Fin 1024) : Fin 2560 := ⟨g.val * 1024 + k.val, by omega⟩
abbrev zcol (g : Fin 2) (k : Fin 1024) : Fin 16000 := ⟨8192 + (g.val * 1024 + k.val), by omega⟩

section Reference

variable (y0 : Vec Ideal S2176x2048 .f32) (y1 : Vec Ideal S2176x2560 .f32) (y2 : Vec Ideal S2176x16000 .f32) (y3 y4 : Vec Ideal S2048 .f32)
    (y5 : Vec Ideal S2176x2048 .f32) (R : Fin 2176) (g : Fin 2) (k : Fin 1024)

theorem v8_apply : Cert.RGateCIdeal.Read.val_main_v8 (F := Ideal) y0 y1 y2 y3 (ix3 R g k) = Cert.RGateCIdeal.Read.val_main_v7 (F := Ideal) y0 y1 y2 y3 (ix2 R (col g k)) := by
  rw [Cert.RGateCIdeal.Read.val_main_v8_apply]
  congr 1
  funext a; apply Fin.ext
  match a with
  | ⟨0, _⟩ => show ((R.val * 2 + g.val) * 1024 + k.val) / 2048 = R.val; omega
  | ⟨1, _⟩ => show ((R.val * 2 + g.val) * 1024 + k.val) % 2048 = g.val * 1024 + k.val; omega

theorem v27_apply : Cert.RGateCIdeal.Read.val_main_v27 (F := Ideal) y5 (ix3 R g k) = y5 (ix2 R (col g k)) := by
  rw [Cert.RGateCIdeal.Read.val_main_v27_apply]
  congr 1
  funext a; apply Fin.ext
  match a with
  | ⟨0, _⟩ => show ((R.val * 2 + g.val) * 1024 + k.val) / 2048 = R.val; omega
  | ⟨1, _⟩ => show ((R.val * 2 + g.val) * 1024 + k.val) % 2048 = g.val * 1024 + k.val; omega

theorem v49_apply : Cert.RGateCIdeal.Read.val_main_v49 (F := Ideal) y0 y1 y2 y3 y4 y5 (ix2 R (col g k)) = Cert.RGateCIdeal.Read.val_main_v47 (F := Ideal) y0 y1 y2 y3 y4 y5 (ix3 R g k) := by
  rw [Cert.RGateCIdeal.Read.val_main_v49_apply]
  congr 1
  funext a; apply Fin.ext
  match a with
  | ⟨0, _⟩ => show (R.val * 2048 + (g.val * 1024 + k.val)) / 2048 = R.val; omega
  | ⟨1, _⟩ => show (R.val * 2048 + (g.val * 1024 + k.val)) / 1024 % 2 = g.val; omega
  | ⟨2, _⟩ => show (R.val * 2048 + (g.val * 1024 + k.val)) % 1024 = k.val; omega

theorem v48_apply : Cert.RGateCIdeal.Read.val_main_v48 (F := Ideal) y0 y1 y2 y3 y5 (ix1 (col g k)) = Cert.RGateCIdeal.Read.val_main_v33 (F := Ideal) y0 y1 y2 y3 y5 (ix2 g k) := by
  rw [Cert.RGateCIdeal.Read.val_main_v48_apply]
  congr 1
  funext a; apply Fin.ext
  match a with
  | ⟨0, _⟩ => show (g.val * 1024 + k.val) / 1024 = g.val; omega
  | ⟨1, _⟩ => show (g.val * 1024 + k.val) % 1024 = k.val; omega

theorem v7_apply : Cert.RGateCIdeal.Read.val_main_v7 (F := Ideal) y0 y1 y2 y3 (ix2 R (col g k)) = gated (fun k => y0 (ix2 R (col g k)))
    (fun k => y1 (ix2 R (xcol g k))) (fun k => y2 (ix2 R (zcol g k))) (fun k => y3 (ix1 (col g k))) k := by
  pointwise [
    Cert.RGateCIdeal.Read.val_main_v7, Cert.RGateCIdeal.Read.val_main_v6_0, Cert.RGateCIdeal.Read.val_main_v6_2,
    Cert.RGateCIdeal.Read.val_main_call0_v3, Cert.RGateCIdeal.Read.val_main_call0_v1,
    Cert.RGateCIdeal.Read.val_main_call0_v0, Cert.RGateCIdeal.Read.val_main_v1, Cert.RGateCIdeal.Read.val_main_call0_v2,
    Cert.RGateCIdeal.Read.val_main_call0_cst, Cert.RGateCIdeal.Read.val_main_call0_v4,
    Cert.RGateCIdeal.Read.val_main_call0_cst_0, Cert.RGateCIdeal.Read.val_main_v5, Cert.RGateCIdeal.Read.val_main_v4,
    Cert.RGateCIdeal.Read.val_main_v0, Cert.RGateCIdeal.Read.val_main_v3, Cert.RGateCIdeal.Read.val_main_v2]
  rfl

theorem v47_apply : Cert.RGateCIdeal.Read.val_main_v47 (F := Ideal) y0 y1 y2 y3 y4 y5 (ix3 R g k) = gatedGrad (fun k => y0 (ix2 R (col g k))) (fun k => y1 (ix2 R (xcol g k))) (fun k => y2 (ix2 R (zcol g k)))
    (fun k => y5 (ix2 R (col g k))) (fun k => y3 (ix1 (col g k))) (fun k => y4 (ix1 (col g k))) k := by
  pointwise [v8_apply, v27_apply, v7_apply,
    Cert.RGateCIdeal.Read.val_main_v47, Cert.RGateCIdeal.Read.val_main_v46, Cert.RGateCIdeal.Read.val_main_v43,
    Cert.RGateCIdeal.Read.val_main_v42, Cert.RGateCIdeal.Read.val_main_cst_7, Cert.RGateCIdeal.Read.val_main_v41,
    Cert.RGateCIdeal.Read.val_main_v40, Cert.RGateCIdeal.Read.val_main_cst_6, Cert.RGateCIdeal.Read.val_main_v39,
    Cert.RGateCIdeal.Read.val_main_v20, Cert.RGateCIdeal.Read.val_main_v18, Cert.RGateCIdeal.Read.val_main_v16,
    Cert.RGateCIdeal.Read.val_main_v15, Cert.RGateCIdeal.Read.val_main_cst_1, Cert.RGateCIdeal.Read.val_main_v14,
    Cert.RGateCIdeal.Read.val_main_v13, Cert.RGateCIdeal.Read.val_main_cst_0, Cert.RGateCIdeal.Read.val_main_v12,
    Cert.RGateCIdeal.Read.val_main_v11, Cert.RGateCIdeal.Read.val_main_cst, Cert.RGateCIdeal.Read.val_main_v10,
    Cert.RGateCIdeal.Read.val_main_v17, Cert.RGateCIdeal.Read.val_main_v19, Cert.RGateCIdeal.Read.val_main_cst_2,
    Cert.RGateCIdeal.Read.val_main_v36, Cert.RGateCIdeal.Read.val_main_v35, Cert.RGateCIdeal.Read.val_main_cst_5,
    Cert.RGateCIdeal.Read.val_main_v34, Cert.RGateCIdeal.Read.val_main_v32, Cert.RGateCIdeal.Read.val_main_v31,
    Cert.RGateCIdeal.Read.val_main_v23, Cert.RGateCIdeal.Read.val_main_v9, Cert.RGateCIdeal.Read.val_main_v45,
    Cert.RGateCIdeal.Read.val_main_v44, Cert.RGateCIdeal.Read.val_main_v38, Cert.RGateCIdeal.Read.val_main_v37]
  rfl

theorem result6_apply : Cert.RGateCIdeal.Read.val_main_v51 (F := Ideal) y0 y1 y2 y3 y4 y5 (ix2 R (col g k)) = rowGrad (fun k => y0 (ix2 R (col g k))) (fun k => y1 (ix2 R (xcol g k))) (fun k => y2 (ix2 R (zcol g k)))
    (fun k => y5 (ix2 R (col g k))) (fun k => y3 (ix1 (col g k))) (fun k => y4 (ix1 (col g k))) k := by
  pointwise [v49_apply, v47_apply,
    Cert.RGateCIdeal.Read.val_main_v51, Cert.RGateCIdeal.Read.val_main_v6_0, Cert.RGateCIdeal.Read.val_main_v6_2,
    Cert.RGateCIdeal.Read.val_main_call0_v3, Cert.RGateCIdeal.Read.val_main_call0_v1,
    Cert.RGateCIdeal.Read.val_main_call0_v0, Cert.RGateCIdeal.Read.val_main_v1, Cert.RGateCIdeal.Read.val_main_call0_v2,
    Cert.RGateCIdeal.Read.val_main_call0_cst, Cert.RGateCIdeal.Read.val_main_call0_v4,
    Cert.RGateCIdeal.Read.val_main_call0_cst_0]
  rfl

theorem result7_apply : Cert.RGateCIdeal.Read.val_main_v54 (F := Ideal) y0 y1 y2 y3 y4 y5 (ix2 R (col g k)) = y3 (ix1 (col g k)) * rowGrad (fun k => y0 (ix2 R (col g k))) (fun k => y1 (ix2 R (xcol g k))) (fun k => y2 (ix2 R (zcol g k)))
    (fun k => y5 (ix2 R (col g k))) (fun k => y3 (ix1 (col g k))) (fun k => y4 (ix1 (col g k))) k := by
  pointwise [v49_apply, v47_apply,
    Cert.RGateCIdeal.Read.val_main_v54, Cert.RGateCIdeal.Read.val_main_v51, Cert.RGateCIdeal.Read.val_main_v6_0,
    Cert.RGateCIdeal.Read.val_main_v6_2, Cert.RGateCIdeal.Read.val_main_call0_v3, Cert.RGateCIdeal.Read.val_main_call0_v1,
    Cert.RGateCIdeal.Read.val_main_call0_v0, Cert.RGateCIdeal.Read.val_main_v1, Cert.RGateCIdeal.Read.val_main_call0_v2,
    Cert.RGateCIdeal.Read.val_main_call0_cst, Cert.RGateCIdeal.Read.val_main_call0_v4,
    Cert.RGateCIdeal.Read.val_main_call0_cst_0, Cert.RGateCIdeal.Read.val_main_v53, Cert.RGateCIdeal.Read.val_main_v2]
  rfl

theorem result8_apply : Cert.RGateCIdeal.Read.val_main_v59 (F := Ideal) y0 y1 y2 y3 y4 y5 (ix2 R (col g k)) = gateGrad (fun k => y0 (ix2 R (col g k))) (fun k => y1 (ix2 R (xcol g k))) (fun k => y2 (ix2 R (zcol g k)))
    (fun k => y5 (ix2 R (col g k))) (fun k => y3 (ix1 (col g k))) (fun k => y4 (ix1 (col g k))) k := by
  pointwise [v49_apply, v47_apply,
    Cert.RGateCIdeal.Read.val_main_v59, Cert.RGateCIdeal.Read.val_main_v52, Cert.RGateCIdeal.Read.val_main_call1_v2,
    Cert.RGateCIdeal.Read.val_main_v6_1, Cert.RGateCIdeal.Read.val_main_call0_v7, Cert.RGateCIdeal.Read.val_main_v6_2,
    Cert.RGateCIdeal.Read.val_main_call0_v3, Cert.RGateCIdeal.Read.val_main_call0_v1,
    Cert.RGateCIdeal.Read.val_main_call0_v0, Cert.RGateCIdeal.Read.val_main_v1, Cert.RGateCIdeal.Read.val_main_call0_v2,
    Cert.RGateCIdeal.Read.val_main_call0_cst, Cert.RGateCIdeal.Read.val_main_call0_v4,
    Cert.RGateCIdeal.Read.val_main_call0_cst_0, Cert.RGateCIdeal.Read.val_main_call0_v6,
    Cert.RGateCIdeal.Read.val_main_call0_cst_1, Cert.RGateCIdeal.Read.val_main_call1_v0, Cert.RGateCIdeal.Read.val_main_v50,
    Cert.RGateCIdeal.Read.val_main_v5, Cert.RGateCIdeal.Read.val_main_v4, Cert.RGateCIdeal.Read.val_main_v0,
    Cert.RGateCIdeal.Read.val_main_v3, Cert.RGateCIdeal.Read.val_main_v2, Cert.RGateCIdeal.Read.val_main_call1_v1]
  rfl

theorem result9_apply : Cert.RGateCIdeal.Read.val_main_v60 (F := Ideal) y0 y1 y2 y3 y4 y5 (ix2 0 (col g k)) = ∑ R : Fin 2176, rowGrad (fun k => y0 (ix2 R (col g k))) (fun k => y1 (ix2 R (xcol g k))) (fun k => y2 (ix2 R (zcol g k)))
    (fun k => y5 (ix2 R (col g k))) (fun k => y3 (ix1 (col g k))) (fun k => y4 (ix1 (col g k))) k * y1 (ix2 R (xcol g k)) := by
  pointwise [v49_apply, v47_apply,
    Cert.RGateCIdeal.Read.val_main_v60, Cert.RGateCIdeal.Read.val_main_v58, Cert.RGateCIdeal.Read.val_main_cst_9,
    Cert.RGateCIdeal.Read.val_main_v57, Cert.RGateCIdeal.Read.val_main_v56, Cert.RGateCIdeal.Read.val_main_cst_8,
    Cert.RGateCIdeal.Read.val_main_v55, Cert.RGateCIdeal.Read.val_main_v0, Cert.RGateCIdeal.Read.val_main_v51,
    Cert.RGateCIdeal.Read.val_main_v6_0, Cert.RGateCIdeal.Read.val_main_v6_2, Cert.RGateCIdeal.Read.val_main_call0_v3,
    Cert.RGateCIdeal.Read.val_main_call0_v1, Cert.RGateCIdeal.Read.val_main_call0_v0, Cert.RGateCIdeal.Read.val_main_v1,
    Cert.RGateCIdeal.Read.val_main_call0_v2, Cert.RGateCIdeal.Read.val_main_call0_cst,
    Cert.RGateCIdeal.Read.val_main_call0_v4, Cert.RGateCIdeal.Read.val_main_call0_cst_0]
  simp only [Finset.sum_const, Finset.card_univ, Fintype.card_fin, one_smul]
  rfl

theorem result10_apply : Cert.RGateCIdeal.Read.val_main_v61 (F := Ideal) y0 y1 y2 y3 y5 (ix2 0 (col g k)) = ∑ R : Fin 2176, normed (gated (fun k => y0 (ix2 R (col g k))) (fun k => y1 (ix2 R (xcol g k))) (fun k => y2 (ix2 R (zcol g k)))
    (fun k => y3 (ix1 (col g k)))) k * y5 (ix2 R (col g k)) := by
  pointwise [v48_apply, v8_apply, v7_apply, v27_apply,
    Cert.RGateCIdeal.Read.val_main_v61, Cert.RGateCIdeal.Read.val_main_v33, Cert.RGateCIdeal.Read.val_main_cst_4,
    Cert.RGateCIdeal.Read.val_main_v30, Cert.RGateCIdeal.Read.val_main_v29, Cert.RGateCIdeal.Read.val_main_cst_3,
    Cert.RGateCIdeal.Read.val_main_v28, Cert.RGateCIdeal.Read.val_main_v22, Cert.RGateCIdeal.Read.val_main_v21,
    Cert.RGateCIdeal.Read.val_main_v17, Cert.RGateCIdeal.Read.val_main_v16, Cert.RGateCIdeal.Read.val_main_v15,
    Cert.RGateCIdeal.Read.val_main_cst_1, Cert.RGateCIdeal.Read.val_main_v14, Cert.RGateCIdeal.Read.val_main_v13,
    Cert.RGateCIdeal.Read.val_main_cst_0, Cert.RGateCIdeal.Read.val_main_v12, Cert.RGateCIdeal.Read.val_main_v11,
    Cert.RGateCIdeal.Read.val_main_cst, Cert.RGateCIdeal.Read.val_main_v10]
  simp only [Finset.sum_const, Finset.card_univ, Fintype.card_fin, one_smul]
  rfl

end Reference

/-- The row windows are at row block `t % 4` of group `t / 4`, the gate's columns eight blocks further, the rows of the parameters at the group. -/
theorem index_t : ∀ t : Fin cfg0.N, win0_0.index t = ![t.val % 4, t.val / 4] ∧ win0_1.index t = ![t.val % 4, t.val / 4] ∧ win0_2.index t = ![t.val % 4, 8 + t.val / 4]
    ∧ win0_3.index t = ![0, t.val / 4] ∧ win0_4.index t = ![0, t.val / 4] ∧ win0_5.index t = ![t.val % 4, t.val / 4]
    ∧ win0_6.index t = ![t.val % 4, t.val / 4] ∧ win0_7.index t = ![t.val % 4, t.val / 4] ∧ win0_8.index t = ![t.val % 4, t.val / 4]
    ∧ win0_9.index t = ![0, t.val / 4] ∧ win0_10.index t = ![0, t.val / 4] :=
  (by decide +kernel : ∀ t : Fin grid0.N, win0_0.index t = ![t.val % 4, t.val / 4] ∧ win0_1.index t = ![t.val % 4, t.val / 4] ∧ win0_2.index t = ![t.val % 4, 8 + t.val / 4]
    ∧ win0_3.index t = ![0, t.val / 4] ∧ win0_4.index t = ![0, t.val / 4] ∧ win0_5.index t = ![t.val % 4, t.val / 4]
    ∧ win0_6.index t = ![t.val % 4, t.val / 4] ∧ win0_7.index t = ![t.val % 4, t.val / 4] ∧ win0_8.index t = ![t.val % 4, t.val / 4]
    ∧ win0_9.index t = ![0, t.val / 4] ∧ win0_10.index t = ![0, t.val / 4])

theorem row_lt (t : Fin cfg0.N) (r : Fin 544) : t.val % 4 * 544 + r.val < 2176 := by
  omega

/-- Row `r` of point `t`'s block, and the point's group. -/
abbrev row (t : Fin cfg0.N) (r : Fin 544) : Fin 2176 := ⟨t.val % 4 * 544 + r.val, row_lt t r⟩
abbrev grp (t : Fin cfg0.N) : Fin 2 := ⟨t.val / 4, by
  have ht : t.val < 8 := t.isLt
  omega⟩

theorem iblk0_apply (c : Dev nD) (t : Fin cfg0.N) (r : Fin 544) (k : Fin 1024) :
    iblk m c 0 t (ix2 r k) = m ((c : Thread nD τ).loc main_arg0) (ix2 (row t r) (col (grp t) k)) := by
  show V m c main_arg0 ((win0_0.rect t).emb (ix2 r k)) = _
  rw [V_main_arg0]
  congr 1
  funext a; apply Fin.ext
  rw [Pipeline.Window.rect_emb_val win0_0 t _ a rfl, (index_t t).1]
  fin_cases a <;> rfl

theorem iblk5_apply (c : Dev nD) (t : Fin cfg0.N) (r : Fin 544) (k : Fin 1024) :
    iblk m c 5 t (ix2 r k) = m ((c : Thread nD τ).loc main_arg5) (ix2 (row t r) (col (grp t) k)) := by
  show V m c main_arg5 ((win0_5.rect t).emb (ix2 r k)) = _
  rw [V_main_arg5]
  congr 1
  funext a; apply Fin.ext
  rw [Pipeline.Window.rect_emb_val win0_5 t _ a rfl, (index_t t).2.2.2.2.2.1]
  fin_cases a <;> rfl

theorem X1_apply (c : Dev nD) (t : Fin cfg0.N) (r : Fin 544) (k : Fin 1024) :
    X0_1 m c t (ix2 r k) = m ((c : Thread nD τ).loc main_arg1) (ix2 (row t r) (xcol (grp t) k)) := by
  unfold X0_1 Pipeline.Window.fill
  rw [dif_pos (moved0_1 t _)]
  show V m c main_arg1 ((win0_1.rect t).emb _) = _
  rw [V_main_arg1]
  congr 1
  funext a; apply Fin.ext
  rw [Pipeline.Window.rect_emb_val win0_1 t _ a rfl, (index_t t).2.1]
  fin_cases a <;> rfl

theorem X2_apply (c : Dev nD) (t : Fin cfg0.N) (r : Fin 544) (k : Fin 1024) :
    X0_2 m c t (ix2 r k) = m ((c : Thread nD τ).loc main_arg2) (ix2 (row t r) (zcol (grp t) k)) := by
  unfold X0_2 Pipeline.Window.fill
  rw [dif_pos (moved0_2 t _)]
  show V m c main_arg2 ((win0_2.rect t).emb _) = _
  rw [V_main_arg2]
  congr 1
  funext a; apply Fin.ext
  rw [Pipeline.Window.rect_emb_val win0_2 t _ a rfl, (index_t t).2.2.1]
  match a with
  | ⟨0, _⟩ => rfl
  | ⟨1, _⟩ => show (8 + t.val / 4) * 1024 + k.val = 8192 + (t.val / 4 * 1024 + k.val); omega

/-! The parameters as the region finds them: the host's one row of each. -/

theorem skip_row (c : Dev nD) : V m c main_v0 = broadcastInDim S1x2048 ![1] bcast_S2048_S1x2048_1 (m ((c : Thread nD τ).loc main_arg3)) := by
  unfold_abbrev_sides
  after_results

theorem iblk3_apply (c : Dev nD) (t : Fin cfg0.N) (k : Fin 1024) :
    iblk m c 3 t (ix2 0 k) = m ((c : Thread nD τ).loc main_arg3) (ix1 (col (grp t) k)) := by
  show V m c main_v0 ((win0_3.rect t).emb (ix2 0 k)) = _
  have e : ((win0_3.rect t).emb (ix2 0 k) : S1x2048.Idx) = ix2 0 (col (grp t) k) := by
    funext a; apply Fin.ext
    rw [Pipeline.Window.rect_emb_val win0_3 t _ a rfl, (index_t t).2.2.2.1]
    fin_cases a <;> rfl
  rw [skip_row, e]
  pointwise

theorem scale_row (c : Dev nD) : V m c main_v1 = broadcastInDim S1x2048 ![1] bcast_S2048_S1x2048_1 (m ((c : Thread nD τ).loc main_arg4)) := by
  unfold_abbrev_sides
  after_results

theorem iblk4_apply (c : Dev nD) (t : Fin cfg0.N) (k : Fin 1024) :
    iblk m c 4 t (ix2 0 k) = m ((c : Thread nD τ).loc main_arg4) (ix1 (col (grp t) k)) := by
  show V m c main_v1 ((win0_4.rect t).emb (ix2 0 k)) = _
  have e : ((win0_4.rect t).emb (ix2 0 k) : S1x2048.Idx) = ix2 0 (col (grp t) k) := by
    funext a; apply Fin.ext
    rw [Pipeline.Window.rect_emb_val win0_4 t _ a rfl, (index_t t).2.2.2.2.1]
    fin_cases a <;> rfl
  rw [scale_row, e]
  pointwise

/-- The arrays the run leaves. -/
abbrev result6 (c : Dev nD) : Buf (Elt Ideal) ((c : Thread nD τ).loc main_v2_0) :=
  Cert.RGateCIdeal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev result7 (c : Dev nD) : Buf (Elt Ideal) ((c : Thread nD τ).loc main_v2_1) :=
  Cert.RGateCIdeal.Read.val_main_v54 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev result8 (c : Dev nD) : Buf (Elt Ideal) ((c : Thread nD τ).loc main_v2_2) :=
  Cert.RGateCIdeal.Read.val_main_v59 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev result9 (c : Dev nD) : Buf (Elt Ideal) ((c : Thread nD τ).loc main_v2_3) :=
  Cert.RGateCIdeal.Read.val_main_v60 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev result10 (c : Dev nD) : Buf (Elt Ideal) ((c : Thread nD τ).loc main_v2_4) :=
  Cert.RGateCIdeal.Read.val_main_v61 (F := Ideal) (m ((c : Thread nD τ).loc main_arg0)) (m ((c : Thread nD τ).loc main_arg1)) (m ((c : Thread nD τ).loc main_arg2))
    (m ((c : Thread nD τ).loc main_arg3)) (m ((c : Thread nD τ).loc main_arg5))

theorem emb6 (t : Fin cfg0.N) (r : Fin 544) (k : Fin 1024) :
    ((win0_6.rect t).emb (ix2 r k) : S2176x2048.Idx) = ix2 (row t r) (col (grp t) k) := by
  funext a; apply Fin.ext
  rw [Pipeline.Window.rect_emb_val win0_6 t _ a rfl, (index_t t).2.2.2.2.2.2.1]
  fin_cases a <;> rfl

theorem emb7 (t : Fin cfg0.N) (r : Fin 544) (k : Fin 1024) :
    ((win0_7.rect t).emb (ix2 r k) : S2176x2048.Idx) = ix2 (row t r) (col (grp t) k) := by
  funext a; apply Fin.ext
  rw [Pipeline.Window.rect_emb_val win0_7 t _ a rfl, (index_t t).2.2.2.2.2.2.2.1]
  fin_cases a <;> rfl

theorem emb8 (t : Fin cfg0.N) (r : Fin 544) (k : Fin 1024) :
    ((win0_8.rect t).emb (ix2 r k) : S2176x2048.Idx) = ix2 (row t r) (col (grp t) k) := by
  funext a; apply Fin.ext
  rw [Pipeline.Window.rect_emb_val win0_8 t _ a rfl, (index_t t).2.2.2.2.2.2.2.2.1]
  fin_cases a <;> rfl

theorem emb9 (t : Fin cfg0.N) (k : Fin 1024) : ((win0_9.rect t).emb (ix2 0 k) : S1x2048.Idx) = ix2 0 (col (grp t) k) := by
  funext a; apply Fin.ext
  rw [Pipeline.Window.rect_emb_val win0_9 t _ a rfl, (index_t t).2.2.2.2.2.2.2.2.2.1]
  fin_cases a <;> rfl

theorem emb10 (t : Fin cfg0.N) (k : Fin 1024) : ((win0_10.rect t).emb (ix2 0 k) : S1x2048.Idx) = ix2 0 (col (grp t) k) := by
  funext a; apply Fin.ext
  rw [Pipeline.Window.rect_emb_val win0_10 t _ a rfl, (index_t t).2.2.2.2.2.2.2.2.2.2]
  fin_cases a <;> rfl

/-- The point of an index and its place there. -/
theorem split_idx (i : S2176x2048.Idx) : ∃ (t : Fin cfg0.N) (r : Fin 544) (k : Fin 1024), i = ix2 (row t r) (col (grp t) k) := by
  have h0 : (i 0).val < 2176 := (i 0).isLt
  have h1 : (i 1).val < 2048 := (i 1).isLt
  refine ⟨(⟨4 * ((i 1).val / 1024) + (i 0).val / 544, by show _ < 8; omega⟩ : Fin grid0.N), ⟨(i 0).val % 544, Nat.mod_lt _ (by decide)⟩,
    ⟨(i 1).val % 1024, Nat.mod_lt _ (by decide)⟩, ?_⟩
  funext a; apply Fin.ext
  match a with
  | ⟨0, _⟩ => show (i 0).val = (4 * ((i 1).val / 1024) + (i 0).val / 544) % 4 * 544 + (i 0).val % 544; omega
  | ⟨1, _⟩ => show (i 1).val = (4 * ((i 1).val / 1024) + (i 0).val / 544) / 4 * 1024 + (i 1).val % 1024; omega

/-- At any point the recurrence's rows' gradient is left at the point's own. -/
theorem after6 (c : Dev nD) (t : Fin cfg0.N) : (outsAt0 m c t.val t.isLt).1 = dRows (iblk m c 0 t) (X0_1 m c t) (X0_2 m c t) (iblk m c 3 t) (iblk m c 4 t) (iblk m c 5 t) := by
  by_cases h : t.val % 4 = 0
  · rw [outsAt0_A m c t (by omega) (by omega) (by omega) (by omega)]
    dsimp only
    rw [outA6]
  · rw [outsAt0_B m c t (by omega) (by omega) (by omega) (by omega)]
    dsimp only
    rw [outB6]

theorem final6 (c : Dev nD) : (dats m 0 c).arrAt 6 cfg0.N = result6 m c := by
  refine (dats m 0 c).arrAt_eq_of_cover 6 (result6 m c) (fun t _ => ?_) fun i => ?_
  · rw [Value.flushed6 m c t, after6]
    funext y
    obtain ⟨r, k, rfl⟩ : ∃ (r : Fin 544) (k : Fin 1024), y = ix2 r k := ⟨y 0, y 1, by pointwise⟩
    show dRows (iblk m c 0 t) (X0_1 m c t) (X0_2 m c t) (iblk m c 3 t) (iblk m c 4 t) (iblk m c 5 t) (ix2 r k) = result6 m c ((win0_6.rect t).emb (ix2 r k))
    rw [emb6, dRows_apply, show result6 m c _ = _ from result6_apply _ _ _ _ _ _ _ _ _]
    simp only [iblk0_apply, X1_apply, X2_apply, iblk3_apply, iblk4_apply, iblk5_apply]
  · obtain ⟨t, r, k, rfl⟩ := split_idx i
    refine ⟨t, flush0_6 t, ?_⟩
    rw [← emb6]
    exact View.emb_mem_set _ _

/-- At any point the convolution's rows' gradient is left at the point's own. -/
theorem after7 (c : Dev nD) (t : Fin cfg0.N) : (outsAt0 m c t.val t.isLt).2.1 = dSkipRows (iblk m c 0 t) (X0_1 m c t) (X0_2 m c t) (iblk m c 3 t) (iblk m c 4 t) (iblk m c 5 t) := by
  by_cases h : t.val % 4 = 0
  · rw [outsAt0_A m c t (by omega) (by omega) (by omega) (by omega)]
    dsimp only
    rw [outA7]
  · rw [outsAt0_B m c t (by omega) (by omega) (by omega) (by omega)]
    dsimp only
    rw [outB7]

theorem final7 (c : Dev nD) : (dats m 0 c).arrAt 7 cfg0.N = result7 m c := by
  refine (dats m 0 c).arrAt_eq_of_cover 7 (result7 m c) (fun t _ => ?_) fun i => ?_
  · rw [Value.flushed7 m c t, after7]
    funext y
    obtain ⟨r, k, rfl⟩ : ∃ (r : Fin 544) (k : Fin 1024), y = ix2 r k := ⟨y 0, y 1, by pointwise⟩
    show dSkipRows (iblk m c 0 t) (X0_1 m c t) (X0_2 m c t) (iblk m c 3 t) (iblk m c 4 t) (iblk m c 5 t) (ix2 r k) = result7 m c ((win0_7.rect t).emb (ix2 r k))
    rw [emb7, dSkipRows_apply, show result7 m c _ = _ from result7_apply _ _ _ _ _ _ _ _ _]
    simp only [iblk0_apply, X1_apply, X2_apply, iblk3_apply, iblk4_apply, iblk5_apply]
  · obtain ⟨t, r, k, rfl⟩ := split_idx i
    refine ⟨t, flush0_7 t, ?_⟩
    rw [← emb7]
    exact View.emb_mem_set _ _

/-- At any point the gate's gradient is left at the point's own. -/
theorem after8 (c : Dev nD) (t : Fin cfg0.N) : (outsAt0 m c t.val t.isLt).2.2.1 = dGates (iblk m c 0 t) (X0_1 m c t) (X0_2 m c t) (iblk m c 3 t) (iblk m c 4 t) (iblk m c 5 t) := by
  by_cases h : t.val % 4 = 0
  · rw [outsAt0_A m c t (by omega) (by omega) (by omega) (by omega)]
    dsimp only
    rw [outA8]
  · rw [outsAt0_B m c t (by omega) (by omega) (by omega) (by omega)]
    dsimp only
    rw [outB8]

theorem final8 (c : Dev nD) : (dats m 0 c).arrAt 8 cfg0.N = result8 m c := by
  refine (dats m 0 c).arrAt_eq_of_cover 8 (result8 m c) (fun t _ => ?_) fun i => ?_
  · rw [Value.flushed8 m c t, after8]
    funext y
    obtain ⟨r, k, rfl⟩ : ∃ (r : Fin 544) (k : Fin 1024), y = ix2 r k := ⟨y 0, y 1, by pointwise⟩
    show dGates (iblk m c 0 t) (X0_1 m c t) (X0_2 m c t) (iblk m c 3 t) (iblk m c 4 t) (iblk m c 5 t) (ix2 r k) = result8 m c ((win0_8.rect t).emb (ix2 r k))
    rw [emb8, dGates_apply, show result8 m c _ = _ from result8_apply _ _ _ _ _ _ _ _ _]
    simp only [iblk0_apply, X1_apply, X2_apply, iblk3_apply, iblk4_apply, iblk5_apply]
  · obtain ⟨t, r, k, rfl⟩ := split_idx i
    refine ⟨t, flush0_8 t, ?_⟩
    rw [← emb8]
    exact View.emb_mem_set _ _

/-- The point of row block `n` of group `g`. -/
abbrev pt (g : Fin 2) (n : ℕ) (hn : n < 4) : Fin cfg0.N := ⟨4 * g.val + n, by show _ < 8; omega⟩

theorem split_one {n : ℕ} (y : (⟨2, ![1, n]⟩ : Shape).Idx) : ∃ k : Fin n, y = ix2 0 k := ⟨y 1, by
  funext a
  match a with
  | ⟨0, _⟩ => exact Subsingleton.elim (α := Fin 1) _ _
  | ⟨1, _⟩ => rfl⟩

theorem sum_rows (g : Fin 2) (f : Fin 2176 → EReal) :
    ∑ n : Fin 4, ∑ r : Fin 544, f (row (pt g n.val n.isLt) r) = ∑ R, f R := by
  rw [← Equiv.sum_comp (finProdFinEquiv (m := 4) (n := 544)) f, Fintype.sum_prod_type]
  refine Finset.sum_congr rfl fun n _ => Finset.sum_congr rfl fun r _ => congrArg f (Fin.ext ?_)
  show (4 * g.val + n.val) % 4 * 544 + r.val = r.val + 544 * n.val
  omega

theorem grp_pt (g : Fin 2) (n : ℕ) (hn : n < 4) : grp (pt g n hn) = g := Fin.ext (by show (4 * g.val + n) / 4 = g.val; omega)

/-- A point's part of the skip's gradient. -/
def part9 (c : Dev nD) (k : Fin 1024) (t : Fin cfg0.N) : EReal :=
  dSkip (iblk m c 0 t) (X0_1 m c t) (X0_2 m c t) (iblk m c 3 t) (iblk m c 4 t) (iblk m c 5 t) (ix2 0 k)

/-- What the skip's gradient's buffer holds after row block `n`: the sum of the parts so far. -/
theorem after9 (c : Dev nD) (g : Fin 2) (k : Fin 1024) : ∀ (n : ℕ) (hn : n < 4),
    (outsAt0 m c (4 * g.val + n) (pt g n hn).isLt).2.2.2.1 (ix2 0 k) = ∑ s : Fin (n + 1), part9 m c k (pt g s.val (lt_of_lt_of_le s.isLt hn))
  | 0, hn => by
    rw [outsAt0_A m c (pt g 0 hn) (by simp only; omega) (by simp only; omega) (by simp only; omega) (by simp only; omega)]
    dsimp only
    rw [outA9]
    simp [part9]
  | n + 1, hn => by
    rw [outsAt0_B m c (pt g (n + 1) hn) (by simp only; omega) (by simp only; omega) (by simp only; omega) (by simp only; omega)]
    dsimp only
    rw [outB9, pay20_apply, Fin.sum_univ_castSucc]
    exact congrArg (· + _) (after9 c g k n (Nat.lt_of_succ_lt hn))

theorem flushed9 (c : Dev nD) (t : Fin cfg0.N) (hf : (cfg0.win 9).flush t = true) :
    (dats m 0 c).flushed 9 t = ((cfg0.win 9).blk t).view.read (Elt Ideal) (result9 m c) := by
  have ht : t.val % 4 = 3 := (flush0_9 t).mp hf
  obtain ⟨g, rfl⟩ : ∃ g : Fin 2, t = pt g 3 (by decide) := ⟨grp t, Fin.ext (by show t.val = 4 * (t.val / 4) + 3; omega)⟩
  rw [Value.flushed9 m c _]
  funext y
  obtain ⟨k, rfl⟩ := split_one y
  show (outsAt0 m c (4 * g.val + 3) _).2.2.2.1 (ix2 0 k) = result9 m c ((win0_9.rect (pt g 3 _)).emb (ix2 0 k))
  rw [emb9, grp_pt, after9 m c g k 3 (by decide), show result9 m c _ = _ from result9_apply _ _ _ _ _ _ _ _, ← sum_rows g]
  refine Finset.sum_congr rfl fun n _ => (dSkip_apply _ _ _ _ _ _ _).trans (Finset.sum_congr rfl fun r _ => ?_)
  simp only [iblk0_apply, X1_apply, X2_apply, iblk3_apply, iblk4_apply, iblk5_apply, grp_pt]

theorem final9 (c : Dev nD) : (dats m 0 c).arrAt 9 cfg0.N = result9 m c :=
  (dats m 0 c).arrAt_eq_of_cover 9 (result9 m c) (flushed9 m c) fun i => by
    obtain ⟨l, rfl⟩ := split_one i
    obtain ⟨g, k, rfl⟩ : ∃ (g : Fin 2) (k : Fin 1024), l = col g k :=
      ⟨⟨l.val / 1024, by omega⟩, ⟨l.val % 1024, Nat.mod_lt _ (by decide)⟩, Fin.ext (Nat.div_add_mod' l.val 1024).symm⟩
    refine ⟨pt g 3 (by decide), (flush0_9 _).mpr (by show (4 * g.val + 3) % 4 = 3; omega), ?_⟩
    have e : (ix2 0 (col g k) : S1x2048.Idx) = (win0_9.rect (pt g 3 (by decide))).emb (ix2 0 k) := by rw [emb9, grp_pt]
    rw [e]
    exact View.emb_mem_set _ _

/-- A point's part of the scale's gradient. -/
def part10 (c : Dev nD) (k : Fin 1024) (t : Fin cfg0.N) : EReal :=
  dScale (iblk m c 0 t) (X0_1 m c t) (X0_2 m c t) (iblk m c 3 t) (iblk m c 5 t) (ix2 0 k)

/-- What the scale's gradient's buffer holds after row block `n`: the sum of the parts so far. -/
theorem after10 (c : Dev nD) (g : Fin 2) (k : Fin 1024) : ∀ (n : ℕ) (hn : n < 4),
    (outsAt0 m c (4 * g.val + n) (pt g n hn).isLt).2.2.2.2 (ix2 0 k) = ∑ s : Fin (n + 1), part10 m c k (pt g s.val (lt_of_lt_of_le s.isLt hn))
  | 0, hn => by
    rw [outsAt0_A m c (pt g 0 hn) (by simp only; omega) (by simp only; omega) (by simp only; omega) (by simp only; omega)]
    dsimp only
    rw [outA10]
    simp [part10]
  | n + 1, hn => by
    rw [outsAt0_B m c (pt g (n + 1) hn) (by simp only; omega) (by simp only; omega) (by simp only; omega) (by simp only; omega)]
    dsimp only
    rw [outB10, pay1_apply, Fin.sum_univ_castSucc]
    exact congrArg (· + _) (after10 c g k n (Nat.lt_of_succ_lt hn))

theorem flushed10 (c : Dev nD) (t : Fin cfg0.N) (hf : (cfg0.win 10).flush t = true) :
    (dats m 0 c).flushed 10 t = ((cfg0.win 10).blk t).view.read (Elt Ideal) (result10 m c) := by
  have ht : t.val % 4 = 3 := (flush0_10 t).mp hf
  obtain ⟨g, rfl⟩ : ∃ g : Fin 2, t = pt g 3 (by decide) := ⟨grp t, Fin.ext (by show t.val = 4 * (t.val / 4) + 3; omega)⟩
  rw [Value.flushed10 m c _]
  funext y
  obtain ⟨k, rfl⟩ := split_one y
  show (outsAt0 m c (4 * g.val + 3) _).2.2.2.2 (ix2 0 k) = result10 m c ((win0_10.rect (pt g 3 _)).emb (ix2 0 k))
  rw [emb10, grp_pt, after10 m c g k 3 (by decide), show result10 m c _ = _ from result10_apply _ _ _ _ _ _ _, ← sum_rows g]
  refine Finset.sum_congr rfl fun n _ => (dScale_apply _ _ _ _ _ _).trans (Finset.sum_congr rfl fun r _ => ?_)
  simp only [iblk0_apply, X1_apply, X2_apply, iblk3_apply, iblk4_apply, iblk5_apply, grp_pt]

theorem final10 (c : Dev nD) : (dats m 0 c).arrAt 10 cfg0.N = result10 m c :=
  (dats m 0 c).arrAt_eq_of_cover 10 (result10 m c) (flushed10 m c) fun i => by
    obtain ⟨l, rfl⟩ := split_one i
    obtain ⟨g, k, rfl⟩ : ∃ (g : Fin 2) (k : Fin 1024), l = col g k :=
      ⟨⟨l.val / 1024, by omega⟩, ⟨l.val % 1024, Nat.mod_lt _ (by decide)⟩, Fin.ext (Nat.div_add_mod' l.val 1024).symm⟩
    refine ⟨pt g 3 (by decide), (flush0_10 _).mpr (by show (4 * g.val + 3) % 4 = 3; omega), ?_⟩
    have e : (ix2 0 (col g k) : S1x2048.Idx) = (win0_10.rect (pt g 3 (by decide))).emb (ix2 0 k) := by rw [emb10, grp_pt]
    rw [e]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2_0) = result6 m c
      ∧ r.2.mem ((c : Thread nD τ).loc main_v2_1) = result7 m c
      ∧ r.2.mem ((c : Thread nD τ).loc main_v2_2) = result8 m c
      ∧ r.2.mem ((c : Thread nD τ).loc main_v2_3) = result9 m c
      ∧ r.2.mem ((c : Thread nD τ).loc main_v2_4) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (Value.run_blocks m ρ)

theorem frame_r : Cert.quiescent_RGateCIdeal := fun m ρ _ =>
  (θ_run _ _ _).mono (fun r h => ⟨fun c => (h c).2.2.2.2.2, sem_eq_zero_of_no_sems (by decide) r.2⟩) (Cert.RGateCIdeal.Value.run m ρ)

theorem algebraic : Cert.algebraic_KGateCIdeal_RGateCIdeal := by
  intro m g m' g' _ hm
  refine ⟨fun c => result6 m c, fun c => result7 m c, fun c => result8 m c, fun c => result9 m c, fun c => result10 m c, run m g, ?_⟩
  refine (θ_run _ _ _).mono (fun r h c => ⟨?_, ?_, ?_, ?_, ?_, (h c).2.2.2.2.2⟩) (Cert.RGateCIdeal.Value.run m' g')
  · rw [(h c).1.trans (Cert.RGateCIdeal.Read.val_main_v51_eq m' c), (hm c).1, (hm c).2.1, (hm c).2.2.1, (hm c).2.2.2.1, (hm c).2.2.2.2.1, (hm c).2.2.2.2.2]
  · rw [(h c).2.1.trans (Cert.RGateCIdeal.Read.val_main_v54_eq m' c), (hm c).1, (hm c).2.1, (hm c).2.2.1, (hm c).2.2.2.1, (hm c).2.2.2.2.1, (hm c).2.2.2.2.2]
  · rw [(h c).2.2.1.trans (Cert.RGateCIdeal.Read.val_main_v59_eq m' c), (hm c).1, (hm c).2.1, (hm c).2.2.1, (hm c).2.2.2.1, (hm c).2.2.2.2.1, (hm c).2.2.2.2.2]
  · rw [(h c).2.2.2.1.trans (Cert.RGateCIdeal.Read.val_main_v60_eq m' c), (hm c).1, (hm c).2.1, (hm c).2.2.1, (hm c).2.2.2.1, (hm c).2.2.2.2.1, (hm c).2.2.2.2.2]
  · rw [(h c).2.2.2.2.1, (hm c).1, (hm c).2.1, (hm c).2.2.1, (hm c).2.2.2.1, (hm c).2.2.2.2.2]
    rfl

end Cert.Proof.GateC

end
-- ==== Proof.Conv.lean ====
/-
  Hand-written, untrusted. A column of a convolution of four taps over 2064 rows: its gradients, its rows under 112 rows of zeros,
  and a block's four rows of gradients of the taps, stored one by one.
-/
module

public import Idealize.ShloMosaic.Lib.Pipeline.Value
public import Idealize.ShloMosaic.Lib.Pointwise
public import Idealize.ShloMosaic.Lib.Tactic

@[expose] public section

set_option maxRecDepth 16384

noncomputable section

namespace Cert.Proof.Conv

open Idealize.ShloMosaic Idealize.SL.Sem

/-! ### A column: its 2064 values `x`, the taps `w`, the bias `b`, the gradient `g` before the activation -/

section Column

/-- The value `s` rows before row `n`, and `s` rows after it; a column under 112 rows of zeros. -/
def before (x : Fin 2064 → EReal) (n : Fin 2064) (s : ℕ) : EReal := if h : s ≤ n.val then x ⟨n.val - s, by omega⟩ else 0
def later (x : Fin 2064 → EReal) (n : Fin 2064) (s : ℕ) : EReal := if h : n.val + s < 2064 then x ⟨n.val + s, h⟩ else 0
def padded (x : Fin 2064 → EReal) (R : Fin 2176) : EReal := if h : 112 ≤ R.val then x ⟨R.val - 112, by omega⟩ else 0

theorem before_zero (x : Fin 2064 → EReal) (n : Fin 2064) : before x n 0 = x n := dif_pos (Nat.zero_le _)

/-- The reference's cuts of a column under three rows of zeros, and of a sum of padded columns. -/
theorem before_cut (x : Fin 2064 → EReal) (n : Fin 2064) (s p : ℕ) (e : p + s = n.val + 3) (hl : ¬p < 3 → p - 3 < 2064) :
    (if h : p < 3 then 0 else x ⟨p - 3, hl h⟩) = before x n s := by
  unfold before
  by_cases h : p < 3
  · rw [dif_pos h, dif_neg (by omega)]
  · rw [dif_neg h, dif_pos (by omega)]
    congr 2
    omega

theorem later_cut (x : Fin 2064 → EReal) (a : EReal) (n : Fin 2064) (s p : ℕ) (e : p = n.val + s) :
    (if h : p < 2064 then a * x ⟨p, h⟩ else 0) = a * later x n s := by
  subst e
  unfold later
  by_cases h : n.val + s < 2064
  · rw [dif_pos h, dif_pos h]
  · rw [dif_neg h, dif_neg h, mul_zero]

theorem later_cut_low (x : Fin 2064 → EReal) (a : EReal) (n : Fin 2064) (s q p : ℕ) (e : p = n.val + s + q) :
    (if h : q ≤ p ∧ p - q < 2064 then a * x ⟨p - q, h.2⟩ else 0) = a * later x n s := by
  rw [← later_cut x a n s (p - q) (by omega)]
  by_cases h : p - q < 2064
  · rw [dif_pos ⟨by omega, h⟩, dif_pos h]
  · rw [dif_neg fun c => h c.2, dif_neg h]

theorem padded_before (x : Fin 2064 → EReal) (R : Fin 2176) (h : 112 ≤ R.val) (s : ℕ) (hs : s ≤ 3) (hl : (R.val + 2176 - s) % 2176 < 2176) :
    padded x ⟨(R.val + 2176 - s) % 2176, hl⟩ = before x ⟨R.val - 112, by omega⟩ s := by
  have e : (R.val + 2176 - s) % 2176 = R.val - s := by omega
  unfold padded before
  simp only [e]
  by_cases c : 112 ≤ R.val - s
  · rw [dif_pos c, dif_pos (by omega)]
    congr 2
    omega
  · rw [dif_neg c, dif_neg (by omega)]

theorem padded_later (x : Fin 2064 → EReal) (R : Fin 2176) (h : 112 ≤ R.val) (s : ℕ) (hs : 0 < s) (hs' : s ≤ 3)
    (hl : (R.val + 2176 - (2176 - s)) % 2176 < 2176) :
    padded x ⟨(R.val + 2176 - (2176 - s)) % 2176, hl⟩ = later x ⟨R.val - 112, by omega⟩ s := by
  have hR := R.isLt
  unfold padded later
  by_cases c : R.val + s < 2176
  · have e : (R.val + 2176 - (2176 - s)) % 2176 = R.val + s := by omega
    simp only [e]
    rw [dif_pos (by omega), dif_pos (by omega)]
    congr 2
    omega
  · rw [dif_neg (by simp only; omega), dif_neg (by simp only; omega)]

theorem sum_padded (x : Fin 2064 → EReal) (g : Fin 2176 → EReal) :
    ∑ R, padded x R * g R = ∑ n : Fin 2064, x n * g ⟨112 + n.val, by omega⟩ := by
  show ∑ R : Fin (112 + 2064), padded x R * g R = _
  rw [Fin.sum_univ_add, Finset.sum_eq_zero, zero_add]
  · refine Finset.sum_congr rfl fun n _ => ?_
    unfold padded
    rw [dif_pos (show 112 ≤ (Fin.natAdd 112 n).val from Nat.le_add_right _ _)]
    congr 2
    exact Fin.ext (by show 112 + n.val - 112 = n.val; omega)
  · intro n _
    unfold padded
    rw [dif_neg (show ¬112 ≤ (Fin.castAdd 2064 n).val from Nat.not_le.mpr n.isLt), zero_mul]

theorem sum_padded_one (x : Fin 2064 → EReal) : ∑ R, padded x R = ∑ n, x n := by
  have e := sum_padded x fun _ => 1
  simpa only [mul_one] using e

/-- The gradient through the activation `p * logistic p`. -/
def siluGrad (p d : EReal) : EReal := d * Ideal.logistic p + p * d * (Ideal.logistic p * (1 - Ideal.logistic p))

variable (x : Fin 2064 → EReal) (w : Fin 4 → EReal) (b : EReal) (g : Fin 2064 → EReal)

def conv (n : Fin 2064) : EReal := b + w 0 * before x n 3 + w 1 * before x n 2 + w 2 * before x n 1 + w 3 * x n
def rowGrad (n : Fin 2064) : EReal := w 3 * g n + w 2 * later g n 1 + w 1 * later g n 2 + w 0 * later g n 3
def tapGrad (s : ℕ) : EReal := ∑ n, g n * before x n s

theorem conv_eq (n : Fin 2064) : conv x w b n = w 0 * (if h : n.val < 3 then 0 else x ⟨n.val - 3, by omega⟩)
    + w 1 * (if h : 1 + n.val < 3 then 0 else x ⟨1 + n.val - 3, by omega⟩)
    + w 2 * (if h : 2 + n.val < 3 then 0 else x ⟨2 + n.val - 3, by omega⟩) + w 3 * x n + b := by
  rw [before_cut x n 3 n.val rfl, before_cut x n 2 (1 + n.val) (by omega), before_cut x n 1 (2 + n.val) (by omega)]
  unfold conv
  abel

theorem rowGrad_eq (n : Fin 2064) : rowGrad w g n
    = w 3 * g n
    + (if h : 2 ≤ 3 + n.val ∧ 3 + n.val - 2 < 2064 then w 2 * g ⟨3 + n.val - 2, h.2⟩ else 0)
    + (if h : 1 ≤ 3 + n.val ∧ 3 + n.val - 1 < 2064 then w 1 * g ⟨3 + n.val - 1, h.2⟩ else 0)
    + (if h : 3 + n.val < 2064 then w 0 * g ⟨3 + n.val, h⟩ else 0) := by
  rw [later_cut_low g (w 2) n 1 2 (3 + n.val) (by omega), later_cut_low g (w 1) n 2 1 (3 + n.val) (by omega),
    later_cut g (w 0) n 3 (3 + n.val) (by omega)]
  rfl

/-- The kernel's sum over its rows is the column's. -/
theorem sum_tap (s : ℕ) (hs : s ≤ 3) : ∑ R : Fin 2176, padded g R
      * padded x ⟨(R.val + 2176 - s) % 2176, Nat.mod_lt _ (by decide)⟩ = tapGrad x g s := by
  rw [sum_padded]
  refine Finset.sum_congr rfl fun n _ => congrArg _ ?_
  rw [padded_before x ⟨112 + n.val, by omega⟩ (by show 112 ≤ 112 + n.val; omega) s hs]
  congr 1
  exact Fin.ext (by show 112 + n.val - 112 = n.val; omega)

end Column

section Rows

variable (j' j : Fin 4) (k : Fin 128) (inb : ∀ a, (![j'.val, 0] : Fin 2 → Nat) a + (⟨2, ![1, 128]⟩ : Shape).size a ≤ (⟨2, ![4, 128]⟩ : Shape).size a)
    (w : (⟨2, ![1, 128]⟩ : Shape).Idx → EReal) (L : List (View.Piece (Elt Ideal) (⟨2, ![4, 128]⟩ : Shape) .f32))

/-- A row stored last, and an earlier one under it. -/
theorem canon_row : View.canon ((⟨Rect.unit (s := (⟨2, ![4, 128]⟩ : Shape)) ![j'.val, 0] (⟨2, ![1, 128]⟩ : Shape).size inb, w⟩ : View.Piece (Elt Ideal) (⟨2, ![4, 128]⟩ : Shape) .f32) :: L) (ix2 j' k)
    = w (ix2 0 k) := by
  have e : (Rect.unit (s := (⟨2, ![4, 128]⟩ : Shape)) ![j'.val, 0] (⟨2, ![1, 128]⟩ : Shape).size inb).emb (ix2 0 k) = ix2 j' k := by
    funext a; apply Fin.ext
    match a with
    | ⟨0, _⟩ => show j'.val + 1 * 0 = j'.val; omega
    | ⟨1, _⟩ => show 0 + 1 * k.val = k.val; omega
  rw [← e]
  exact View.canon_cons_emb (Rect.unit (s := (⟨2, ![4, 128]⟩ : Shape)) ![j'.val, 0] (⟨2, ![1, 128]⟩ : Shape).size inb) w L (ix2 0 k)

theorem canon_row_ne (h : j' ≠ j) : View.canon ((⟨Rect.unit (s := (⟨2, ![4, 128]⟩ : Shape)) ![j'.val, 0] (⟨2, ![1, 128]⟩ : Shape).size inb, w⟩ : View.Piece (Elt Ideal) (⟨2, ![4, 128]⟩ : Shape) .f32) :: L)
    (ix2 j k) = View.canon L (ix2 j k) := by
  refine View.canon_cons_of_not_mem _ L fun hm => h (Fin.ext ?_)
  have e := (Rect.mem_set_unit (inb := inb)).mp hm 0
  have e0 : j'.val ≤ j.val := e.1
  have e1 : j.val < j'.val + 1 := e.2
  omega

end Rows

end Cert.Proof.Conv

end
-- ==== Proof.ConvC.lean ====
/-
  Hand-written, untrusted. The gradient of the convolution before the state space mixer, `KConvCIdeal`, over the extended reals.
  A point of the grid is a block of 128 columns, whole: the kernel rotates its rows, under 112 rows of zeros, where the reference
  cuts and pads them. The flag of the kernel's norm is zero at each of its points, and the gradient before the activation is zero on
  the rows of padding. The results are the reference's `val_main_v87`, `val_main_v83` and `val_main_v88`.
-/
module

public import proofs.«01_k».proof.Defs
public import proofs.«01_k».proof.Proof.Gen.KConvCIdeal.Value
public import proofs.«01_k».proof.Proof.Gen.RConvCIdeal.Run
public import proofs.«01_k».proof.Proof.Gen.RConvCIdeal.Read
public import Idealize.ShloMosaic.Lib.Pipeline.Value
public import Idealize.ShloMosaic.Lib.Pointwise
public import Idealize.ShloMosaic.Lib.Tactic
public import Idealize.ShloMosaic.Lib.Quiescent
public import proofs.«01_k».proof.Proof.Conv

@[expose] public section

set_option maxRecDepth 16384

noncomputable section

namespace Cert.Proof.ConvC

open Idealize.ShloMosaic Idealize.SL.Sem Cert.KConvCIdeal
open Cert.KConvCIdeal.Gen Idealize.ShloMosaic.TcCoe Cert.Proof.Conv
open Idealize.ShloMosaic.Pipeline (Dat)

variable (m : (ℓ : Loc nD τ sig) → Buf (Elt Ideal) ℓ)

theorem hz : (![0, 0] : Fin 2 → Nat) = fun _ => 0 := funext fun a => by fin_cases a <;> rfl

def convGrad (x : Fin 2064 → EReal) (w : Fin 4 → EReal) (b : EReal) (d : Fin 2064 → EReal) (n : Fin 2064) : EReal :=
  siluGrad (conv x w b n) (d n)

section Kernel

variable (x0 : Vec Ideal S2176x128 .f32) (x1 : Vec Ideal S4x128 .f32) (x2 : Vec Ideal S1x128 .f32) (x3 : Vec Ideal S2176x128 .f32)
    (i : grid0.Coords) (R : Fin 2176) (k : Fin 128)

theorem flag_apply : k0_pay6 (F := Ideal) i = 0 := by
  unfold k0_pay6
  dsimp only
  rw [(by decide : ∀ j : Fin 20, Scalar.cmpi .slt (BitVec.ofNat 32 j.val) 0#32 = 0#1) (i 0)]
  show ((((0#32 : BitVec 32).toInt : ℤ) : ℝ) : EReal) = 0
  simp

theorem keep_one (h : 112 ≤ R.val) : k0_pay7 (F := Ideal) (ix2 R 0) = 1 := by
  pointwise [k0_pay7]
  rw [(by decide +kernel : ∀ R : Fin 2176, 112 ≤ R.val → IntOp.cmpi .sge (BitVec.ofNat 32 R.val) 112#32 = 1#1) R h]
  show ((((1#32 : BitVec 32).toInt : ℤ) : ℝ) : EReal) = 1
  simp

theorem keep_zero (h : ¬112 ≤ R.val) : k0_pay7 (F := Ideal) (ix2 R 0) = 0 := by
  pointwise [k0_pay7]
  rw [(by decide +kernel : ∀ R : Fin 2176, ¬112 ≤ R.val → IntOp.cmpi .sge (BitVec.ofNat 32 R.val) 112#32 = 0#1) R h]
  show ((((0#32 : BitVec 32).toInt : ℤ) : ℝ) : EReal) = 0
  simp

theorem pay9_apply : k0_pay9 x0 x1 x2 (ix2 R k) = x2 (ix2 0 k) + x1 (ix2 0 k) * x0 (ix2 ⟨(R.val + 2176 - 3) % 2176, Nat.mod_lt _ (by decide)⟩ k)
    + x1 (ix2 1 k) * x0 (ix2 ⟨(R.val + 2176 - 2) % 2176, Nat.mod_lt _ (by decide)⟩ k)
    + x1 (ix2 2 k) * x0 (ix2 ⟨(R.val + 2176 - 1) % 2176, Nat.mod_lt _ (by decide)⟩ k) + x1 (ix2 3 k) * x0 (ix2 R k) := by
  pointwise [k0_pay9, k0_pay8]

/-- With the norm's flag at zero the gradient is the activation's. -/
theorem pay16_apply (kp : FVec Ideal S2176x1 .f32) (p s ss a : FVec Ideal S2176x128 .f32) (n nn : FVec Ideal S2176x1 .f32) :
    k0_pay16 (F := Ideal) 0 kp p s ss a n nn x3 (ix2 R k)
      = x3 (ix2 R k) * kp (ix2 R 0) * s (ix2 R k) + p (ix2 R k) * (x3 (ix2 R k) * kp (ix2 R 0)) * ss (ix2 R k) := by
  pointwise [k0_pay16]
  simp only [zero_mul, mul_zero, Finset.sum_const_zero, sub_zero, one_mul, add_zero]

theorem pay4_apply (kp : FVec Ideal S2176x1 .f32) (p q : FVec Ideal S2176x128 .f32) :
    k0_pay4 (F := Ideal) kp x1 p q (ix2 R k) = (q (ix2 R k)
      + x1 (ix2 2 k) * p (ix2 ⟨(R.val + 2176 - (2176 - 1)) % 2176, Nat.mod_lt _ (by decide)⟩ k) + x1 (ix2 3 k) * p (ix2 R k)) * kp (ix2 R 0) := by
  pointwise [k0_pay4]

theorem pay18_apply (f : EReal) (kp : FVec Ideal S2176x1 .f32) (p s ss a : FVec Ideal S2176x128 .f32) (n nn : FVec Ideal S2176x1 .f32) :
    k0_pay18 (F := Ideal) f kp x1 p s ss a n nn x3 (ix2 R k)
      = x1 (ix2 0 k) * k0_pay16 (F := Ideal) f kp p s ss a n nn x3 (ix2 ⟨(R.val + 2176 - (2176 - 3)) % 2176, Nat.mod_lt _ (by decide)⟩ k)
      + x1 (ix2 1 k) * k0_pay16 (F := Ideal) f kp p s ss a n nn x3 (ix2 ⟨(R.val + 2176 - (2176 - 2)) % 2176, Nat.mod_lt _ (by decide)⟩ k) := by
  pointwise [k0_pay18]

theorem tap0_apply (f : EReal) (kp : FVec Ideal S2176x1 .f32) (p s ss a v : FVec Ideal S2176x128 .f32) (n nn : FVec Ideal S2176x1 .f32) :
    k0_pay17 (F := Ideal) f kp v p s ss a n nn x3 (ix2 0 k) = ∑ R, k0_pay16 (F := Ideal) f kp p s ss a n nn x3 (ix2 R k)
      * v (ix2 ⟨(R.val + 2176 - 3) % 2176, Nat.mod_lt _ (by decide)⟩ k) := by
  pointwise [k0_pay17]

theorem tap1_apply (p v : FVec Ideal S2176x128 .f32) : k0_pay1 (F := Ideal) p (k0_pay19 v) (ix2 0 k) = ∑ R, p (ix2 R k)
      * v (ix2 ⟨(R.val + 2176 - 2) % 2176, Nat.mod_lt _ (by decide)⟩ k) := by
  pointwise [k0_pay1, k0_pay19]

theorem tap2_apply (p v : FVec Ideal S2176x128 .f32) : k0_pay2 (F := Ideal) v p (ix2 0 k) = ∑ R, p (ix2 R k)
      * v (ix2 ⟨(R.val + 2176 - 1) % 2176, Nat.mod_lt _ (by decide)⟩ k) := by
  pointwise [k0_pay2]

theorem tap3_apply (p v : FVec Ideal S2176x128 .f32) : k0_pay3 (F := Ideal) v p (ix2 0 k) = ∑ R, p (ix2 R k) * v (ix2 R k) := by
  pointwise [k0_pay3]

theorem pay5_apply (p : FVec Ideal S2176x128 .f32) : k0_pay5 (F := Ideal) p (ix2 0 k) = ∑ R, p (ix2 R k) := by
  pointwise [k0_pay5]

/-- The column's taps, bias and gradient. -/
abbrev taps : Fin 4 → EReal := fun j => x1 (ix2 j k)
abbrev grads : Fin 2064 → EReal := fun n => x3 (ix2 ⟨112 + n.val, by omega⟩ k)

variable (x : Fin 2064 → EReal)

variable (hx : ∀ R, x0 (ix2 R k) = padded x R)
include hx

/-- The gradient before the activation, zero on the padding. -/
theorem pay28_apply : k0_pay28 i x0 x1 x2 x3 (ix2 R k) = padded (convGrad x (taps x1 k) (x2 (ix2 0 k)) (grads x3 k)) R := by
  unfold k0_pay28
  rw [flag_apply, pay16_apply]
  unfold k0_pay20 k0_pay22 k0_pay23 k0_pay24 padded
  simp only [View.ld_unit_zero (S := S2176x128) hz, View.ld_unit_zero (S := S4x128) hz, View.ld_unit_zero (S := S1x128) hz]
  by_cases h : 112 ≤ R.val
  · rw [dif_pos h, keep_one R h, mul_one]
    have e : k0_pay9 x0 x1 x2 (ix2 R k) = conv x (taps x1 k) (x2 (ix2 0 k)) ⟨R.val - 112, by omega⟩ := by
      rw [pay9_apply]
      simp only [hx]
      rw [padded_before x R h 3 (by decide), padded_before x R h 2 (by decide), padded_before x R h 1 (by decide),
        show padded x R = x ⟨R.val - 112, by omega⟩ from dif_pos h]
      rfl
    have e3 : x3 (ix2 R k) = grads x3 k ⟨R.val - 112, by omega⟩ := by
      show x3 _ = x3 _
      congr 2
      exact Fin.ext (by show R.val = 112 + (R.val - 112); omega)
    unfold convGrad siluGrad
    rw [← e, ← e3]
    pointwise [k0_pay10, k0_pay11]
  · rw [dif_neg h, keep_zero R h]
    simp only [mul_zero, zero_mul, add_zero]

theorem dRows_apply : out0_4 i x0 x1 x2 x3 (ix2 R k) = padded (rowGrad (taps x1 k) (convGrad x (taps x1 k) (x2 (ix2 0 k)) (grads x3 k))) R := by
  unfold out0_4
  rw [View.canon_cons_unit_zero (S := S2176x128) hz]
  simp only [View.ld_unit_zero (S := S4x128) hz]
  rw [pay4_apply, pay18_apply]
  have e (R) : k0_pay16 (k0_pay6 (F := Ideal) i) (k0_pay20 i x0 x1 x2 x3) (k0_pay22 i x0 x1 x2 x3) (k0_pay23 i x0 x1 x2 x3)
      (k0_pay24 i x0 x1 x2 x3) (k0_pay25 i x0 x1 x2 x3) (k0_pay26 i x0 x1 x2 x3) (k0_pay27 i x0 x1 x2 x3) (View.ld x3 r0_0) (ix2 R k)
      = padded (convGrad x (taps x1 k) (x2 (ix2 0 k)) (grads x3 k)) R := pay28_apply x0 x1 x2 x3 i R k x hx
  simp only [e, pay28_apply x0 x1 x2 x3 i _ k x hx]
  show _ * k0_pay7 (F := Ideal) (ix2 R 0) = _
  by_cases h : 112 ≤ R.val
  · rw [keep_one R h, mul_one, padded_later _ R h 3 (by decide) (by decide), padded_later _ R h 2 (by decide) (by decide),
      padded_later _ R h 1 (by decide) (by decide)]
    simp only [padded, dif_pos h, rowGrad]
    abel
  · rw [keep_zero R h, mul_zero]
    unfold padded
    rw [dif_neg h]

theorem dBias_apply : out0_6 i x0 x1 x2 x3 (ix2 0 k) = ∑ n, convGrad x (taps x1 k) (x2 (ix2 0 k)) (grads x3 k) n := by
  unfold out0_6
  rw [View.canon_cons_unit_zero (S := S1x128) hz, pay5_apply]
  simp only [pay28_apply x0 x1 x2 x3 i _ k x hx]
  exact sum_padded_one _

/-- The taps' gradient, stored row by row. -/
theorem dTaps_apply (j : Fin 4) : out0_5 i x0 x1 x2 x3 (ix2 j k) = tapGrad x (convGrad x (taps x1 k) (x2 (ix2 0 k)) (grads x3 k)) (3 - j.val) := by
  have e (R) := pay28_apply x0 x1 x2 x3 i R k x hx
  have e' (R) : k0_pay21 i x0 x1 x2 x3 (ix2 R k) = padded x R := by
    rw [← hx R]
    unfold k0_pay21
    rw [View.ld_unit_zero (S := S2176x128) hz]
    pointwise [k0_pay8]
  unfold out0_5
  fin_cases j
  · refine (canon_row_ne 3 0 k _ _ _ (by decide)).trans ((canon_row_ne 2 0 k _ _ _ (by decide)).trans
      ((canon_row_ne 1 0 k _ _ _ (by decide)).trans ((canon_row 0 k _ _ _).trans ((tap0_apply _ k _ _ _ _ _ _ _ _ _).trans ?_))))
    refine (Finset.sum_congr rfl fun R _ => congrArg₂ (· * ·) (e R) (e' _)).trans (sum_tap x _ 3 (by decide))
  · refine (canon_row_ne 3 1 k _ _ _ (by decide)).trans ((canon_row_ne 2 1 k _ _ _ (by decide)).trans
      ((canon_row 1 k _ _ _).trans ((tap1_apply k _ _).trans ?_)))
    refine (Finset.sum_congr rfl fun R _ => congrArg₂ (· * ·) (e R) (e' _)).trans (sum_tap x _ 2 (by decide))
  · refine (canon_row_ne 3 2 k _ _ _ (by decide)).trans ((canon_row 2 k _ _ _).trans ((tap2_apply k _ _).trans ?_))
    refine (Finset.sum_congr rfl fun R _ => congrArg₂ (· * ·) (e R) (e' _)).trans (sum_tap x _ 1 (by decide))
  · refine (canon_row 3 k _ _ _).trans ((tap3_apply k _ _).trans ?_)
    refine (Finset.sum_congr rfl fun R _ => congrArg₂ (· * ·) (e R) (e' R)).trans ?_
    rw [sum_padded]
    refine Finset.sum_congr rfl fun n _ => congrArg _ ?_
    show _ = before x n 0
    rw [before_zero]
    unfold padded
    rw [dif_pos (show 112 ≤ 112 + n.val from Nat.le_add_right _ _)]
    congr 1
    exact Fin.ext (by show 112 + n.val - 112 = n.val; omega)

end Kernel

section Reference

variable (y0 : Vec Ideal S2064x16000 .f32) (y1 : Vec Ideal S4x2560 .f32) (y2 : Vec Ideal S2560 .f32) (y3 : Vec Ideal S2176x2560 .f32)
    (n : Fin 2064) (q : Fin 2560)

/-- The column of the projections, and of the gradient's rows. -/
abbrev projCol : Fin 2064 → EReal := fun n => y0 (ix2 n ⟨10240 + q.val, by omega⟩)
abbrev tapCol : Fin 4 → EReal := fun j => y1 (ix2 j q)
abbrev gradCol : Fin 2064 → EReal := fun n => y3 (ix2 ⟨112 + n.val, by omega⟩ q)

theorem v35_apply : Cert.RConvCIdeal.Read.val_main_v35 (F := Ideal) y0 y1 y2 (ix2 n q) = conv (projCol y0 q) (tapCol y1 q) (y2 (ix1 q)) n := by
  rw [conv_eq]
  pointwise [
    Cert.RConvCIdeal.Read.val_main_v35, Cert.RConvCIdeal.Read.val_main_v32, Cert.RConvCIdeal.Read.val_main_v25,
    Cert.RConvCIdeal.Read.val_main_v18, Cert.RConvCIdeal.Read.val_main_v11, Cert.RConvCIdeal.Read.val_main_v10,
    Cert.RConvCIdeal.Read.val_main_cst_1, Cert.RConvCIdeal.Read.val_main_v9, Cert.RConvCIdeal.Read.val_main_v8,
    Cert.RConvCIdeal.Read.val_main_v7, Cert.RConvCIdeal.Read.val_main_v5, Cert.RConvCIdeal.Read.val_main_v4,
    Cert.RConvCIdeal.Read.val_main_v6, Cert.RConvCIdeal.Read.val_main_v2, Cert.RConvCIdeal.Read.val_main_v1,
    Cert.RConvCIdeal.Read.val_main_cst, Cert.RConvCIdeal.Read.val_main_v0, Cert.RConvCIdeal.Read.val_main_v17,
    Cert.RConvCIdeal.Read.val_main_v16, Cert.RConvCIdeal.Read.val_main_v15, Cert.RConvCIdeal.Read.val_main_v13,
    Cert.RConvCIdeal.Read.val_main_v12, Cert.RConvCIdeal.Read.val_main_v14, Cert.RConvCIdeal.Read.val_main_v24,
    Cert.RConvCIdeal.Read.val_main_v23, Cert.RConvCIdeal.Read.val_main_v22, Cert.RConvCIdeal.Read.val_main_v20,
    Cert.RConvCIdeal.Read.val_main_v19, Cert.RConvCIdeal.Read.val_main_v21, Cert.RConvCIdeal.Read.val_main_v31,
    Cert.RConvCIdeal.Read.val_main_v30, Cert.RConvCIdeal.Read.val_main_v29, Cert.RConvCIdeal.Read.val_main_v27,
    Cert.RConvCIdeal.Read.val_main_v26, Cert.RConvCIdeal.Read.val_main_v28, Cert.RConvCIdeal.Read.val_main_v34,
    Cert.RConvCIdeal.Read.val_main_v33]

theorem v38_apply : Cert.RConvCIdeal.Read.val_main_v38 (F := Ideal) y0 y1 y2 y3 (ix2 n q)
    = convGrad (projCol y0 q) (tapCol y1 q) (y2 (ix1 q)) (gradCol y3 q) n := by
  pointwise [
    v35_apply, Cert.RConvCIdeal.Read.val_main_v38, Cert.RConvCIdeal.Read.val_main_call1_v1,
    Cert.RConvCIdeal.Read.val_main_v37, Cert.RConvCIdeal.Read.val_main_v36_2, Cert.RConvCIdeal.Read.val_main_call0_v4,
    Cert.RConvCIdeal.Read.val_main_call0_cst_0, Cert.RConvCIdeal.Read.val_main_call0_v3,
    Cert.RConvCIdeal.Read.val_main_call0_v2, Cert.RConvCIdeal.Read.val_main_call0_cst,
    Cert.RConvCIdeal.Read.val_main_call0_v1, Cert.RConvCIdeal.Read.val_main_call0_v0, Cert.RConvCIdeal.Read.val_main_call1_v2,
    Cert.RConvCIdeal.Read.val_main_call1_v0, Cert.RConvCIdeal.Read.val_main_v36_1, Cert.RConvCIdeal.Read.val_main_call0_v7,
    Cert.RConvCIdeal.Read.val_main_call0_v6, Cert.RConvCIdeal.Read.val_main_call0_cst_1]
  rfl

theorem v6_apply : Cert.RConvCIdeal.Read.val_main_v6 (F := Ideal) y0 (ix2 n q) = before (projCol y0 q) n 3 := by
  rw [← before_cut (projCol y0 q) n 3 n.val rfl fun _ => by omega]
  pointwise [
    Cert.RConvCIdeal.Read.val_main_v6, Cert.RConvCIdeal.Read.val_main_v2, Cert.RConvCIdeal.Read.val_main_v1,
    Cert.RConvCIdeal.Read.val_main_cst, Cert.RConvCIdeal.Read.val_main_v0]

theorem v14_apply : Cert.RConvCIdeal.Read.val_main_v14 (F := Ideal) y0 (ix2 n q) = before (projCol y0 q) n 2 := by
  rw [← before_cut (projCol y0 q) n 2 (1 + n.val) (by omega) fun _ => by omega]
  pointwise [
    Cert.RConvCIdeal.Read.val_main_v14, Cert.RConvCIdeal.Read.val_main_v2, Cert.RConvCIdeal.Read.val_main_v1,
    Cert.RConvCIdeal.Read.val_main_cst, Cert.RConvCIdeal.Read.val_main_v0]

theorem v21_apply : Cert.RConvCIdeal.Read.val_main_v21 (F := Ideal) y0 (ix2 n q) = before (projCol y0 q) n 1 := by
  rw [← before_cut (projCol y0 q) n 1 (2 + n.val) (by omega) fun _ => by omega]
  pointwise [
    Cert.RConvCIdeal.Read.val_main_v21, Cert.RConvCIdeal.Read.val_main_v2, Cert.RConvCIdeal.Read.val_main_v1,
    Cert.RConvCIdeal.Read.val_main_cst, Cert.RConvCIdeal.Read.val_main_v0]

theorem v28_apply : Cert.RConvCIdeal.Read.val_main_v28 (F := Ideal) y0 (ix2 n q) = before (projCol y0 q) n 0 := by
  rw [before_zero]
  pointwise [
    Cert.RConvCIdeal.Read.val_main_v28, Cert.RConvCIdeal.Read.val_main_v2, Cert.RConvCIdeal.Read.val_main_v1,
    Cert.RConvCIdeal.Read.val_main_cst, Cert.RConvCIdeal.Read.val_main_v0]

theorem v80_apply (hl : 3 + n.val < 2067) : Cert.RConvCIdeal.Read.val_main_v80 (F := Ideal) y0 y1 y2 y3 (ix2 ⟨3 + n.val, hl⟩ q)
    = rowGrad (tapCol y1 q) (convGrad (projCol y0 q) (tapCol y1 q) (y2 (ix1 q)) (gradCol y3 q)) n := by
  rw [rowGrad_eq]
  pointwise [
    v38_apply, Cert.RConvCIdeal.Read.val_main_v80, Cert.RConvCIdeal.Read.val_main_v69, Cert.RConvCIdeal.Read.val_main_v58,
    Cert.RConvCIdeal.Read.val_main_v48, Cert.RConvCIdeal.Read.val_main_v43, Cert.RConvCIdeal.Read.val_main_v42,
    Cert.RConvCIdeal.Read.val_main_v29, Cert.RConvCIdeal.Read.val_main_v27, Cert.RConvCIdeal.Read.val_main_v26,
    Cert.RConvCIdeal.Read.val_main_cst_6, Cert.RConvCIdeal.Read.val_main_v57, Cert.RConvCIdeal.Read.val_main_v52,
    Cert.RConvCIdeal.Read.val_main_v51, Cert.RConvCIdeal.Read.val_main_v22, Cert.RConvCIdeal.Read.val_main_v20,
    Cert.RConvCIdeal.Read.val_main_v19, Cert.RConvCIdeal.Read.val_main_cst_10, Cert.RConvCIdeal.Read.val_main_v68,
    Cert.RConvCIdeal.Read.val_main_v63, Cert.RConvCIdeal.Read.val_main_v62, Cert.RConvCIdeal.Read.val_main_v15,
    Cert.RConvCIdeal.Read.val_main_v13, Cert.RConvCIdeal.Read.val_main_v12, Cert.RConvCIdeal.Read.val_main_cst_14,
    Cert.RConvCIdeal.Read.val_main_v79, Cert.RConvCIdeal.Read.val_main_v74, Cert.RConvCIdeal.Read.val_main_v73,
    Cert.RConvCIdeal.Read.val_main_v7, Cert.RConvCIdeal.Read.val_main_v5, Cert.RConvCIdeal.Read.val_main_v4,
    Cert.RConvCIdeal.Read.val_main_cst_18]

theorem result4_apply (R : Fin 2176) : Cert.RConvCIdeal.Read.val_main_v87 (F := Ideal) y0 y1 y2 y3 (ix2 R q)
    = padded (rowGrad (tapCol y1 q) (convGrad (projCol y0 q) (tapCol y1 q) (y2 (ix1 q)) (gradCol y3 q))) R := by
  pointwise [
    Cert.RConvCIdeal.Read.val_main_v87, Cert.RConvCIdeal.Read.val_main_v86, Cert.RConvCIdeal.Read.val_main_v85,
    Cert.RConvCIdeal.Read.val_main_call2_v0, Cert.RConvCIdeal.Read.val_main_c]
  unfold padded
  by_cases h : 112 ≤ R.val
  · rw [dif_pos ⟨h, by omega⟩, dif_pos h]
    exact v80_apply y0 y1 y2 y3 ⟨R.val - 112, by omega⟩ q (by show 3 + (R.val - 112) < 2067; omega)
  · rw [dif_neg (fun c => h c.1), dif_neg h]
    show ((((0#32 : BitVec 32).toInt : ℤ) : ℝ) : EReal) = 0
    simp

theorem result5_apply (j : Fin 4) : Cert.RConvCIdeal.Read.val_main_v83 (F := Ideal) y0 y1 y2 y3 (ix2 j q)
    = tapGrad (projCol y0 q) (convGrad (projCol y0 q) (tapCol y1 q) (y2 (ix1 q)) (gradCol y3 q)) (3 - j.val) := by
  pointwise [
    v38_apply, v6_apply, v14_apply, v21_apply, v28_apply, Cert.RConvCIdeal.Read.val_main_v83,
    Cert.RConvCIdeal.Read.val_main_v72, Cert.RConvCIdeal.Read.val_main_v61, Cert.RConvCIdeal.Read.val_main_v50,
    Cert.RConvCIdeal.Read.val_main_v49, Cert.RConvCIdeal.Read.val_main_v47, Cert.RConvCIdeal.Read.val_main_v46,
    Cert.RConvCIdeal.Read.val_main_v45, Cert.RConvCIdeal.Read.val_main_v44, Cert.RConvCIdeal.Read.val_main_cst_4,
    Cert.RConvCIdeal.Read.val_main_cst_5, Cert.RConvCIdeal.Read.val_main_cst_7, Cert.RConvCIdeal.Read.val_main_v60,
    Cert.RConvCIdeal.Read.val_main_v59, Cert.RConvCIdeal.Read.val_main_v56, Cert.RConvCIdeal.Read.val_main_v55,
    Cert.RConvCIdeal.Read.val_main_v54, Cert.RConvCIdeal.Read.val_main_v53, Cert.RConvCIdeal.Read.val_main_cst_8,
    Cert.RConvCIdeal.Read.val_main_cst_9, Cert.RConvCIdeal.Read.val_main_cst_11, Cert.RConvCIdeal.Read.val_main_v71,
    Cert.RConvCIdeal.Read.val_main_v70, Cert.RConvCIdeal.Read.val_main_v67, Cert.RConvCIdeal.Read.val_main_v66,
    Cert.RConvCIdeal.Read.val_main_v65, Cert.RConvCIdeal.Read.val_main_v64, Cert.RConvCIdeal.Read.val_main_cst_12,
    Cert.RConvCIdeal.Read.val_main_cst_13, Cert.RConvCIdeal.Read.val_main_cst_15, Cert.RConvCIdeal.Read.val_main_v82,
    Cert.RConvCIdeal.Read.val_main_v81, Cert.RConvCIdeal.Read.val_main_v78, Cert.RConvCIdeal.Read.val_main_v77,
    Cert.RConvCIdeal.Read.val_main_v76, Cert.RConvCIdeal.Read.val_main_v75, Cert.RConvCIdeal.Read.val_main_cst_16,
    Cert.RConvCIdeal.Read.val_main_cst_17, Cert.RConvCIdeal.Read.val_main_cst_19]
  simp only [Finset.sum_const, Finset.card_univ, Fintype.card_fin, one_smul]
  fin_cases j <;> simp <;> rfl

theorem result6_apply : Cert.RConvCIdeal.Read.val_main_v88 (F := Ideal) y0 y1 y2 y3 (ix2 0 q)
    = ∑ n, convGrad (projCol y0 q) (tapCol y1 q) (y2 (ix1 q)) (gradCol y3 q) n := by
  pointwise [
    v38_apply, Cert.RConvCIdeal.Read.val_main_v88, Cert.RConvCIdeal.Read.val_main_v41, Cert.RConvCIdeal.Read.val_main_v40,
    Cert.RConvCIdeal.Read.val_main_v39, Cert.RConvCIdeal.Read.val_main_cst_2, Cert.RConvCIdeal.Read.val_main_cst_3]
  simp only [Finset.sum_const, Finset.card_univ, Fintype.card_fin, one_smul]

end Reference

/-- Each window is at column block `t`, the projections' 80 blocks further. -/
theorem index_t : ∀ t : Fin cfg0.N, win0_0.index t = ![0, 80 + t.val] ∧ win0_1.index t = ![0, t.val] ∧ win0_2.index t = ![0, t.val] ∧ win0_3.index t = ![0, t.val] ∧ win0_4.index t = ![0, t.val] ∧ win0_5.index t = ![0, t.val] ∧ win0_6.index t = ![0, t.val] :=
  (by decide +kernel : ∀ t : Fin grid0.N, win0_0.index t = ![0, 80 + t.val] ∧ win0_1.index t = ![0, t.val] ∧ win0_2.index t = ![0, t.val] ∧ win0_3.index t = ![0, t.val] ∧ win0_4.index t = ![0, t.val] ∧ win0_5.index t = ![0, t.val] ∧ win0_6.index t = ![0, t.val])

/-- Column `k` of point `t`'s block. -/
abbrev col (t : Fin cfg0.N) (k : Fin 128) : Fin 2560 := ⟨t.val * 128 + k.val, by
  have ht : t.val < 20 := t.isLt
  omega⟩

/-! The arrays as the region finds them: the host's padding of the projections, and its one row of the bias. -/

theorem proj_rows (c : Dev nD) : V m c main_v0 = pad S2176x16000 ![112, 0] ![0, 0] ![0, 0] (m ((c : Thread nD τ).loc main_arg0))
    (sitofp (F := Ideal) .f32 (constantI S_ 32 0#32)) pads_S2064x16000_S2176x16000_11200_000 h_S_ := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem bias_row (c : Dev nD) : V m c main_v1 = broadcastInDim S1x2560 ![1] bcast_S2560_S1x2560_1 (m ((c : Thread nD τ).loc main_arg2)) := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem pad_rows_apply (y : Vec Ideal S2064x16000 .f32) (R : Fin 2176) (q : Fin 16000) : pad S2176x16000 ![112, 0] ![0, 0] ![0, 0] y
    (sitofp (F := Ideal) .f32 (constantI S_ 32 0#32)) pads_S2064x16000_S2176x16000_11200_000 h_S_ (ix2 R q) = padded (fun n => y (ix2 n q)) R := by
  pointwise
  unfold padded
  by_cases h : 112 ≤ R.val
  · rw [dif_pos ⟨h, by omega⟩, dif_pos h]
  · rw [dif_neg (fun c => h c.1), dif_neg h]
    show ((((0#32 : BitVec 32).toInt : ℤ) : ℝ) : EReal) = 0
    simp

theorem iblk0_apply (c : Dev nD) (t : Fin cfg0.N) (R : Fin 2176) (k : Fin 128) :
    iblk m c 0 t (ix2 R k) = padded (projCol (m ((c : Thread nD τ).loc main_arg0)) (col t k)) R := by
  show V m c main_v0 ((win0_0.rect t).emb (ix2 R k)) = _
  have ht : t.val < 20 := t.isLt
  have e : ((win0_0.rect t).emb (ix2 R k) : S2176x16000.Idx) = ix2 R ⟨10240 + (t.val * 128 + k.val), by omega⟩ := by
    funext a; apply Fin.ext
    rw [Pipeline.Window.rect_emb_val win0_0 t _ a rfl, (index_t t).1]
    match a with
    | ⟨0, _⟩ => show 0 * 2176 + R.val = R.val; omega
    | ⟨1, _⟩ => show (80 + t.val) * 128 + k.val = 10240 + (t.val * 128 + k.val); omega
  rw [proj_rows, e]
  exact pad_rows_apply _ _ _

theorem iblk1_apply (c : Dev nD) (t : Fin cfg0.N) (j : Fin 4) (k : Fin 128) :
    iblk m c 1 t (ix2 j k) = m ((c : Thread nD τ).loc main_arg1) (ix2 j (col t k)) := by
  show V m c main_arg1 ((win0_1.rect t).emb (ix2 j k)) = _
  rw [V_main_arg1]
  congr 1
  funext a; apply Fin.ext
  rw [Pipeline.Window.rect_emb_val win0_1 t _ a rfl, (index_t t).2.1]
  match a with
  | ⟨0, _⟩ => show 0 * 4 + j.val = j.val; omega
  | ⟨1, _⟩ => rfl

theorem iblk2_apply (c : Dev nD) (t : Fin cfg0.N) (k : Fin 128) :
    iblk m c 2 t (ix2 0 k) = m ((c : Thread nD τ).loc main_arg2) (ix1 (col t k)) := by
  show V m c main_v1 ((win0_2.rect t).emb (ix2 0 k)) = _
  have e : ((win0_2.rect t).emb (ix2 0 k) : S1x2560.Idx) = ix2 0 (col t k) := by
    funext a; apply Fin.ext
    rw [Pipeline.Window.rect_emb_val win0_2 t _ a rfl, (index_t t).2.2.1]
    fin_cases a <;> rfl
  rw [bias_row, e]
  pointwise

theorem iblk3_apply (c : Dev nD) (t : Fin cfg0.N) (R : Fin 2176) (k : Fin 128) :
    iblk m c 3 t (ix2 R k) = m ((c : Thread nD τ).loc main_arg3) (ix2 R (col t k)) := by
  show V m c main_arg3 ((win0_3.rect t).emb (ix2 R k)) = _
  rw [V_main_arg3]
  congr 1
  funext a; apply Fin.ext
  rw [Pipeline.Window.rect_emb_val win0_3 t _ a rfl, (index_t t).2.2.2.1]
  match a with
  | ⟨0, _⟩ => show 0 * 2176 + R.val = R.val; omega
  | ⟨1, _⟩ => rfl

theorem taps_iblk (c : Dev nD) (t : Fin cfg0.N) (k : Fin 128) : taps (iblk m c 1 t) k = tapCol (m ((c : Thread nD τ).loc main_arg1)) (col t k) :=
  funext fun j => iblk1_apply m c t j k

theorem grads_iblk (c : Dev nD) (t : Fin cfg0.N) (k : Fin 128) : grads (iblk m c 3 t) k = gradCol (m ((c : Thread nD τ).loc main_arg3)) (col t k) :=
  funext fun n => iblk3_apply m c t ⟨112 + n.val, by omega⟩ k

/-- The arrays the run leaves. -/
abbrev result4 (c : Dev nD) : Buf (Elt Ideal) ((c : Thread nD τ).loc main_v2_0) :=
  Cert.RConvCIdeal.Read.val_main_v87 (F := Ideal) (m ((c : Thread nD τ).loc main_arg0)) (m ((c : Thread nD τ).loc main_arg1))
    (m ((c : Thread nD τ).loc main_arg2)) (m ((c : Thread nD τ).loc main_arg3))
abbrev result5 (c : Dev nD) : Buf (Elt Ideal) ((c : Thread nD τ).loc main_v2_1) :=
  Cert.RConvCIdeal.Read.val_main_v83 (F := Ideal) (m ((c : Thread nD τ).loc main_arg0)) (m ((c : Thread nD τ).loc main_arg1))
    (m ((c : Thread nD τ).loc main_arg2)) (m ((c : Thread nD τ).loc main_arg3))
abbrev result6 (c : Dev nD) : Buf (Elt Ideal) ((c : Thread nD τ).loc main_v2_2) :=
  Cert.RConvCIdeal.Read.val_main_v88 (F := Ideal) (m ((c : Thread nD τ).loc main_arg0)) (m ((c : Thread nD τ).loc main_arg1))
    (m ((c : Thread nD τ).loc main_arg2)) (m ((c : Thread nD τ).loc main_arg3))

/-- The point and the place of a column. -/
theorem split_col (l : Fin 2560) : ∃ (t : Fin cfg0.N) (k : Fin 128), l = col t k :=
  ⟨(⟨l.val / 128, by show _ < 20; omega⟩ : Fin grid0.N), ⟨l.val % 128, Nat.mod_lt _ (by decide)⟩, Fin.ext (Nat.div_add_mod' l.val 128).symm⟩

theorem emb4 (t : Fin cfg0.N) (R : Fin 2176) (k : Fin 128) : ((win0_4.rect t).emb (ix2 R k) : S2176x2560.Idx) = ix2 R (col t k) := by
  funext a; apply Fin.ext
  rw [Pipeline.Window.rect_emb_val win0_4 t _ a rfl, (index_t t).2.2.2.2.1]
  match a with
  | ⟨0, _⟩ => show 0 * 2176 + R.val = R.val; omega
  | ⟨1, _⟩ => rfl

theorem final4 (c : Dev nD) : (dats m 0 c).arrAt 4 cfg0.N = result4 m c := by
  refine (dats m 0 c).arrAt_eq_of_cover 4 (result4 m c) (fun t _ => ?_) fun i => ?_
  · rw [Value.flushed4 m c t]
    funext y
    obtain ⟨R, k, rfl⟩ : ∃ (R : Fin 2176) (k : Fin 128), y = ix2 R k := ⟨y 0, y 1, by pointwise⟩
    show out0_4 (grid0.coords t) (iblk m c 0 t) (iblk m c 1 t) (iblk m c 2 t) (iblk m c 3 t) (ix2 R k) = result4 m c ((win0_4.rect t).emb (ix2 R k))
    rw [emb4, show result4 m c _ = _ from result4_apply _ _ _ _ _ _,
      dRows_apply _ _ _ _ _ R k (projCol (m ((c : Thread nD τ).loc main_arg0)) (col t k)) (fun R => iblk0_apply m c t R k)]
    rw [taps_iblk, grads_iblk, iblk2_apply]
  · obtain ⟨R, l, rfl⟩ : ∃ (R : Fin 2176) (l : Fin 2560), i = ix2 R l := ⟨i 0, i 1, by pointwise⟩
    obtain ⟨t, k, rfl⟩ := split_col l
    refine ⟨t, flush0_4 t, ?_⟩
    rw [← emb4]
    exact View.emb_mem_set _ _

theorem emb5 (t : Fin cfg0.N) (j : Fin 4) (k : Fin 128) : ((win0_5.rect t).emb (ix2 j k) : S4x2560.Idx) = ix2 j (col t k) := by
  funext a; apply Fin.ext
  rw [Pipeline.Window.rect_emb_val win0_5 t _ a rfl, (index_t t).2.2.2.2.2.1]
  match a with
  | ⟨0, _⟩ => show 0 * 4 + j.val = j.val; omega
  | ⟨1, _⟩ => rfl

theorem final5 (c : Dev nD) : (dats m 0 c).arrAt 5 cfg0.N = result5 m c := by
  refine (dats m 0 c).arrAt_eq_of_cover 5 (result5 m c) (fun t _ => ?_) fun i => ?_
  · rw [Value.flushed5 m c t]
    funext y
    obtain ⟨j, k, rfl⟩ : ∃ (j : Fin 4) (k : Fin 128), y = ix2 j k := ⟨y 0, y 1, by pointwise⟩
    show out0_5 (grid0.coords t) (iblk m c 0 t) (iblk m c 1 t) (iblk m c 2 t) (iblk m c 3 t) (ix2 j k) = result5 m c ((win0_5.rect t).emb (ix2 j k))
    rw [emb5, show result5 m c _ = _ from result5_apply _ _ _ _ _ _,
      dTaps_apply _ _ _ _ _ k (projCol (m ((c : Thread nD τ).loc main_arg0)) (col t k)) (fun R => iblk0_apply m c t R k) j]
    rw [taps_iblk, grads_iblk, iblk2_apply]
  · obtain ⟨j, l, rfl⟩ : ∃ (j : Fin 4) (l : Fin 2560), i = ix2 j l := ⟨i 0, i 1, by pointwise⟩
    obtain ⟨t, k, rfl⟩ := split_col l
    refine ⟨t, flush0_5 t, ?_⟩
    rw [← emb5]
    exact View.emb_mem_set _ _

theorem split_one {n : ℕ} (y : (⟨2, ![1, n]⟩ : Shape).Idx) : ∃ k : Fin n, y = ix2 0 k := ⟨y 1, by
  funext a
  match a with
  | ⟨0, _⟩ => exact Subsingleton.elim (α := Fin 1) _ _
  | ⟨1, _⟩ => rfl⟩

theorem emb6 (t : Fin cfg0.N) (k : Fin 128) : ((win0_6.rect t).emb (ix2 0 k) : S1x2560.Idx) = ix2 0 (col t k) := by
  funext a; apply Fin.ext
  rw [Pipeline.Window.rect_emb_val win0_6 t _ a rfl, (index_t t).2.2.2.2.2.2]
  fin_cases a <;> rfl

theorem final6 (c : Dev nD) : (dats m 0 c).arrAt 6 cfg0.N = result6 m c := by
  refine (dats m 0 c).arrAt_eq_of_cover 6 (result6 m c) (fun t _ => ?_) fun i => ?_
  · rw [Value.flushed6 m c t]
    funext y
    obtain ⟨k, rfl⟩ := split_one y
    show out0_6 (grid0.coords t) (iblk m c 0 t) (iblk m c 1 t) (iblk m c 2 t) (iblk m c 3 t) (ix2 0 k) = result6 m c ((win0_6.rect t).emb (ix2 0 k))
    rw [emb6, show result6 m c _ = _ from result6_apply _ _ _ _ _,
      dBias_apply _ _ _ _ _ k (projCol (m ((c : Thread nD τ).loc main_arg0)) (col t k)) (fun R => iblk0_apply m c t R k)]
    rw [taps_iblk, grads_iblk, iblk2_apply]
  · obtain ⟨l, rfl⟩ := split_one i
    obtain ⟨t, k, rfl⟩ := split_col l
    refine ⟨t, flush0_6 t, ?_⟩
    rw [← emb6]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2_0) = result4 m c
      ∧ r.2.mem ((c : Thread nD τ).loc main_v2_1) = result5 m c
      ∧ r.2.mem ((c : Thread nD τ).loc main_v2_2) = result6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2⟩) (Value.run_blocks m ρ)

theorem frame_r : Cert.quiescent_RConvCIdeal := fun m ρ _ =>
  (θ_run _ _ _).mono (fun r h => ⟨fun c => (h c).2.2.2, sem_eq_zero_of_no_sems (by decide) r.2⟩) (Cert.RConvCIdeal.Value.run m ρ)

theorem algebraic : Cert.algebraic_KConvCIdeal_RConvCIdeal := by
  intro m g m' g' _ hm
  refine ⟨fun c => result4 m c, fun c => result5 m c, fun c => result6 m c, run m g, ?_⟩
  refine (θ_run _ _ _).mono (fun r h c => ⟨?_, ?_, ?_, (h c).2.2.2⟩) (Cert.RConvCIdeal.Value.run m' g')
  · rw [(h c).1.trans (Cert.RConvCIdeal.Read.val_main_v87_eq m' c), (hm c).1, (hm c).2.1, (hm c).2.2.1, (hm c).2.2.2]
  · rw [(h c).2.1.trans (Cert.RConvCIdeal.Read.val_main_v83_eq m' c), (hm c).1, (hm c).2.1, (hm c).2.2.1, (hm c).2.2.2]
  · rw [(h c).2.2.1.trans (Cert.RConvCIdeal.Read.val_main_v88_eq m' c), (hm c).1, (hm c).2.1, (hm c).2.2.1, (hm c).2.2.2]

end Cert.Proof.ConvC

end
-- ==== Proof.ConvB.lean ====
/-
  Hand-written, untrusted. The gradient of the convolution before the delta rule, `KConvBIdeal`, over the extended reals.
  A point of the grid is a block of 128 columns, whole, which is one head: the kernel's flag is one at the blocks of the queries
  and keys, whose gradient goes through the norm of the head, and zero at the values'. The results are the reference's
  `val_main_v147` and `val_main_v143`.
-/
module

public import proofs.«01_k».proof.Defs
public import proofs.«01_k».proof.Proof.Gen.KConvBIdeal.Value
public import proofs.«01_k».proof.Proof.Gen.RConvBIdeal.Run
public import proofs.«01_k».proof.Proof.Gen.RConvBIdeal.Read
public import Idealize.ShloMosaic.Lib.Pipeline.Value
public import Idealize.ShloMosaic.Lib.Pointwise
public import Idealize.ShloMosaic.Lib.Tactic
public import Idealize.ShloMosaic.Lib.Quiescent
public import proofs.«01_k».proof.Proof.ConvC

@[expose] public section

set_option maxRecDepth 16384

noncomputable section

namespace Cert.Proof.ConvB

open Idealize.ShloMosaic Idealize.SL.Sem Cert.KConvBIdeal
open Cert.KConvBIdeal.Gen Idealize.ShloMosaic.TcCoe Cert.Proof.Conv
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ### A row of a head: its 128 values `p` before the activation, its gradient `d` after the norm -/

section Head

variable (p d : Fin 128 → EReal)

abbrev act : Fin 128 → EReal := fun k => p k * Ideal.logistic (p k)

def sumSq : EReal := (∑ k, act p k * act p k) + Ideal.ofBits .f32 0x358637BD#32
def shift : EReal := ∑ _ : Fin 1, (∑ k, act p k * d k)
  * (Ideal.ofBits .f32 0xBF000000#32 * Ideal.div (Ideal.rsqrt (sumSq p)) (sumSq p))
def headGrad (k : Fin 128) : EReal := d k * Ideal.rsqrt (sumSq p) + act p k * shift p d + shift p d * act p k

end Head

/-- The gradient before the activation of column `k` of block `t`: its columns are `x`, their taps `w`, their gradients `d`. -/
def blockGrad (t : ℕ) (x : Fin 128 → Fin 2064 → EReal) (w : Fin 128 → Fin 4 → EReal) (d : Fin 128 → Fin 2064 → EReal) (k : Fin 128)
    (n : Fin 2064) : EReal :=
  siluGrad (conv (x k) (w k) 0 n) (if t < 16 then headGrad (fun l => conv (x l) (w l) 0 n) (fun l => d l n) k else d k n)

section Kernel

variable (x0 : Vec Ideal S2176x128 .f32) (x1 : Vec Ideal S4x128 .f32) (x2 : Vec Ideal S1x128 .f32) (x3 : Vec Ideal S2176x128 .f32)
    (i : grid0.Coords) (R : Fin 2176) (k : Fin 128)

theorem flag_one (h : (i 0).val < 16) : k0_pay6 (F := Ideal) i = 1 := by
  unfold k0_pay6
  dsimp only
  rw [(by decide : ∀ j : Fin 24, j.val < 16 → Scalar.cmpi .slt (BitVec.ofNat 32 j.val) 16#32 = 1#1) (i 0) h]
  show ((((1#32 : BitVec 32).toInt : ℤ) : ℝ) : EReal) = 1
  simp

theorem flag_zero (h : ¬(i 0).val < 16) : k0_pay6 (F := Ideal) i = 0 := by
  unfold k0_pay6
  dsimp only
  rw [(by decide : ∀ j : Fin 24, ¬j.val < 16 → Scalar.cmpi .slt (BitVec.ofNat 32 j.val) 16#32 = 0#1) (i 0) h]
  show ((((0#32 : BitVec 32).toInt : ℤ) : ℝ) : EReal) = 0
  simp

theorem keep_one (h : 112 ≤ R.val) : k0_pay7 (F := Ideal) (ix2 R 0) = 1 := ConvC.keep_one R h
theorem keep_zero (h : ¬112 ≤ R.val) : k0_pay7 (F := Ideal) (ix2 R 0) = 0 := ConvC.keep_zero R h

/-- With the norm's flag at one the gradient is the norm's, then the activation's. -/
theorem pay16_one (kp : FVec Ideal S2176x1 .f32) (p s ss a : FVec Ideal S2176x128 .f32) (n nn : FVec Ideal S2176x1 .f32) :
    k0_pay16 (F := Ideal) 1 kp p s ss a n nn x3 (ix2 R k)
      = (x3 (ix2 R k) * kp (ix2 R 0) * n (ix2 R 0)
          + a (ix2 R k) * (∑ c : Fin 1, (∑ l, a (ix2 R l) * (x3 (ix2 R l) * kp (ix2 R 0))) * (Ideal.ofBits .f32 0xBF000000#32 * nn (ix2 R c)))
          + (∑ c : Fin 1, (∑ l, a (ix2 R l) * (x3 (ix2 R l) * kp (ix2 R 0))) * (Ideal.ofBits .f32 0xBF000000#32 * nn (ix2 R c))) * a (ix2 R k))
        * s (ix2 R k)
      + p (ix2 R k) * (x3 (ix2 R k) * kp (ix2 R 0) * n (ix2 R 0)
          + a (ix2 R k) * (∑ c : Fin 1, (∑ l, a (ix2 R l) * (x3 (ix2 R l) * kp (ix2 R 0))) * (Ideal.ofBits .f32 0xBF000000#32 * nn (ix2 R c)))
          + (∑ c : Fin 1, (∑ l, a (ix2 R l) * (x3 (ix2 R l) * kp (ix2 R 0))) * (Ideal.ofBits .f32 0xBF000000#32 * nn (ix2 R c))) * a (ix2 R k))
        * ss (ix2 R k) := by
  pointwise [k0_pay16]
  simp only [show (1 : EReal) - 1 = 0 from EReal.sub_self (EReal.coe_ne_top 1) (EReal.coe_ne_bot 1), zero_mul, zero_add]

/-- With the flag at zero it is the activation's. -/
theorem pay16_zero (kp : FVec Ideal S2176x1 .f32) (p s ss a : FVec Ideal S2176x128 .f32) (n nn : FVec Ideal S2176x1 .f32) :
    k0_pay16 (F := Ideal) 0 kp p s ss a n nn x3 (ix2 R k)
      = x3 (ix2 R k) * kp (ix2 R 0) * s (ix2 R k) + p (ix2 R k) * (x3 (ix2 R k) * kp (ix2 R 0)) * ss (ix2 R k) :=
  ConvC.pay16_apply x3 R k kp p s ss a n nn

/-- The columns' taps and gradients. -/
abbrev taps : Fin 128 → Fin 4 → EReal := fun k j => x1 (ix2 j k)
abbrev grads : Fin 128 → Fin 2064 → EReal := fun k n => x3 (ix2 ⟨112 + n.val, by omega⟩ k)

section Gradient

variable (x : Fin 128 → Fin 2064 → EReal) (hx : ∀ R k, x0 (ix2 R k) = padded (x k) R) (hb : ∀ k, x2 (ix2 0 k) = 0)
include hx hb

theorem pre_apply (h : 112 ≤ R.val) : k0_pay9 x0 x1 x2 (ix2 R k) = conv (x k) (taps x1 k) 0 ⟨R.val - 112, by omega⟩ := by
  refine (ConvC.pay9_apply x0 x1 x2 R k).trans ?_
  simp only [hx, hb]
  rw [padded_before (x k) R h 3 (by decide), padded_before (x k) R h 2 (by decide), padded_before (x k) R h 1 (by decide),
    show padded (x k) R = x k ⟨R.val - 112, by omega⟩ from dif_pos h]
  rfl

/-- The gradient before the activation, zero on the padding. -/
theorem pay28_apply : k0_pay28 i x0 x1 x2 x3 (ix2 R k) = padded (blockGrad (i 0).val x (taps x1) (grads x3) k) R := by
  unfold k0_pay28 k0_pay20 k0_pay22 k0_pay23 k0_pay24 k0_pay25 k0_pay26 k0_pay27
  simp only [View.ld_unit_zero (S := S2176x128) hz, View.ld_unit_zero (S := S4x128) hz, View.ld_unit_zero (S := S1x128) hz]
  by_cases h : 112 ≤ R.val
  · unfold padded
    rw [dif_pos h]
    have e (l : Fin 128) := pre_apply x0 x1 x2 R l x hx hb h
    have e3 (l : Fin 128) : x3 (ix2 R l) = grads x3 l ⟨R.val - 112, by omega⟩ := by
      show x3 _ = x3 _
      congr 2
      exact Fin.ext (by show R.val = 112 + (R.val - 112); omega)
    unfold blockGrad siluGrad
    by_cases f : (i 0).val < 16
    · rw [flag_one i f, pay16_one, if_pos f]
      unfold headGrad shift sumSq act
      simp only [← e, ← e3, keep_one R h, mul_one]
      pointwise [k0_pay10, k0_pay11, k0_pay12, k0_pay13, k0_pay14, k0_pay15]
    · rw [flag_zero i f, pay16_zero, if_neg f, keep_one R h, mul_one, ← e, ← e3]
      pointwise [k0_pay10, k0_pay11]
  · unfold padded
    rw [dif_neg h]
    by_cases f : (i 0).val < 16
    · rw [flag_one i f, pay16_one, keep_zero R h]
      simp only [mul_zero, zero_mul, add_zero, Finset.sum_const_zero]
    · rw [flag_zero i f, pay16_zero, keep_zero R h]
      simp only [mul_zero, zero_mul, add_zero]

theorem dRows_apply : out0_4 i x0 x1 x2 x3 (ix2 R k) = padded (rowGrad (taps x1 k) (blockGrad (i 0).val x (taps x1) (grads x3) k)) R := by
  unfold out0_4
  rw [View.canon_cons_unit_zero (S := S2176x128) hz]
  simp only [View.ld_unit_zero (S := S4x128) hz]
  refine (ConvC.pay4_apply x1 R k _ _ _).trans ?_
  have e (R) : k0_pay16 (k0_pay6 (F := Ideal) i) (k0_pay20 i x0 x1 x2 x3) (k0_pay22 i x0 x1 x2 x3) (k0_pay23 i x0 x1 x2 x3)
      (k0_pay24 i x0 x1 x2 x3) (k0_pay25 i x0 x1 x2 x3) (k0_pay26 i x0 x1 x2 x3) (k0_pay27 i x0 x1 x2 x3) (View.ld x3 r0_0) (ix2 R k)
      = padded (blockGrad (i 0).val x (taps x1) (grads x3) k) R := pay28_apply x0 x1 x2 x3 i R k x hx hb
  rw [show k0_pay18 (F := Ideal) _ _ _ _ _ _ _ _ _ _ (ix2 R k) = _ from ConvC.pay18_apply x1 (View.ld x3 r0_0) R k _ _ _ _ _ _ _ _]
  refine (congrArg₂ (· * ·) (congrArg₂ (· + ·) (congrArg₂ (· + ·) (congrArg₂ (· + ·) (congrArg _ (e _)) (congrArg _ (e _)))
    (congrArg _ (e _))) (congrArg _ (e _))) rfl).trans ?_
  show _ * k0_pay7 (F := Ideal) (ix2 R 0) = _
  by_cases h : 112 ≤ R.val
  · rw [keep_one R h, mul_one, padded_later _ R h 3 (by decide) (by decide), padded_later _ R h 2 (by decide) (by decide),
      padded_later _ R h 1 (by decide) (by decide)]
    simp only [padded, dif_pos h, rowGrad]
    abel
  · rw [keep_zero R h, mul_zero]
    unfold padded
    rw [dif_neg h]

/-- The taps' gradient, stored row by row. -/
theorem dTaps_apply (j : Fin 4) : out0_5 i x0 x1 x2 x3 (ix2 j k) = tapGrad (x k) (blockGrad (i 0).val x (taps x1) (grads x3) k) (3 - j.val) := by
  have e (R) := pay28_apply x0 x1 x2 x3 i R k x hx hb
  have e' (R) : k0_pay21 i x0 x1 x2 x3 (ix2 R k) = padded (x k) R := by
    rw [← hx R k]
    unfold k0_pay21
    rw [View.ld_unit_zero (S := S2176x128) hz]
    pointwise [k0_pay8]
  unfold out0_5
  fin_cases j
  · refine (canon_row_ne 3 0 k _ _ _ (by decide)).trans ((canon_row_ne 2 0 k _ _ _ (by decide)).trans
      ((canon_row_ne 1 0 k _ _ _ (by decide)).trans ((canon_row 0 k _ _ _).trans ((ConvC.tap0_apply _ k _ _ _ _ _ _ _ _ _).trans ?_))))
    refine (Finset.sum_congr rfl fun R _ => congrArg₂ (· * ·) (e R) (e' _)).trans (sum_tap (x k) _ 3 (by decide))
  · refine (canon_row_ne 3 1 k _ _ _ (by decide)).trans ((canon_row_ne 2 1 k _ _ _ (by decide)).trans
      ((canon_row 1 k _ _ _).trans ((ConvC.tap1_apply k _ _).trans ?_)))
    refine (Finset.sum_congr rfl fun R _ => congrArg₂ (· * ·) (e R) (e' _)).trans (sum_tap (x k) _ 2 (by decide))
  · refine (canon_row_ne 3 2 k _ _ _ (by decide)).trans ((canon_row 2 k _ _ _).trans ((ConvC.tap2_apply k _ _).trans ?_))
    refine (Finset.sum_congr rfl fun R _ => congrArg₂ (· * ·) (e R) (e' _)).trans (sum_tap (x k) _ 1 (by decide))
  · refine (canon_row 3 k _ _ _).trans ((ConvC.tap3_apply k _ _).trans ?_)
    refine (Finset.sum_congr rfl fun R _ => congrArg₂ (· * ·) (e R) (e' R)).trans ?_
    rw [sum_padded]
    refine Finset.sum_congr rfl fun n _ => congrArg _ ?_
    show _ = before (x k) n 0
    rw [before_zero]
    unfold padded
    rw [dif_pos (show 112 ≤ 112 + n.val from Nat.le_add_right _ _)]
    congr 1
    exact Fin.ext (by show 112 + n.val - 112 = n.val; omega)

end Gradient

end Kernel

section Reference

variable (y0 : Vec Ideal S2064x16000 .f32) (y1 : Vec Ideal S4x3072 .f32) (y2 : Vec Ideal S2176x3072 .f32)
    (n : Fin 2064) (q : Fin 3072)

/-- The column of the projections, and of the gradient's rows. -/
abbrev projCol : Fin 2064 → EReal := fun n => y0 (ix2 n ⟨4096 + q.val, by omega⟩)
abbrev tapCol : Fin 4 → EReal := fun j => y1 (ix2 j q)
abbrev gradCol : Fin 2064 → EReal := fun n => y2 (ix2 ⟨112 + n.val, by omega⟩ q)

theorem v32_apply : Cert.RConvBIdeal.Read.val_main_v32 (F := Ideal) y0 y1 (ix2 n q) = conv (projCol y0 q) (tapCol y1 q) 0 n := by
  rw [conv_eq, add_zero]
  pointwise [
    Cert.RConvBIdeal.Read.val_main_v32, Cert.RConvBIdeal.Read.val_main_v25, Cert.RConvBIdeal.Read.val_main_v18,
    Cert.RConvBIdeal.Read.val_main_v11, Cert.RConvBIdeal.Read.val_main_v10, Cert.RConvBIdeal.Read.val_main_cst_1,
    Cert.RConvBIdeal.Read.val_main_v9, Cert.RConvBIdeal.Read.val_main_v8, Cert.RConvBIdeal.Read.val_main_v7,
    Cert.RConvBIdeal.Read.val_main_v5, Cert.RConvBIdeal.Read.val_main_v4, Cert.RConvBIdeal.Read.val_main_v6,
    Cert.RConvBIdeal.Read.val_main_v2, Cert.RConvBIdeal.Read.val_main_v1, Cert.RConvBIdeal.Read.val_main_cst,
    Cert.RConvBIdeal.Read.val_main_v0, Cert.RConvBIdeal.Read.val_main_v17, Cert.RConvBIdeal.Read.val_main_v16,
    Cert.RConvBIdeal.Read.val_main_v15, Cert.RConvBIdeal.Read.val_main_v13, Cert.RConvBIdeal.Read.val_main_v12,
    Cert.RConvBIdeal.Read.val_main_v14, Cert.RConvBIdeal.Read.val_main_v24, Cert.RConvBIdeal.Read.val_main_v23,
    Cert.RConvBIdeal.Read.val_main_v22, Cert.RConvBIdeal.Read.val_main_v20, Cert.RConvBIdeal.Read.val_main_v19,
    Cert.RConvBIdeal.Read.val_main_v21, Cert.RConvBIdeal.Read.val_main_v31, Cert.RConvBIdeal.Read.val_main_v30,
    Cert.RConvBIdeal.Read.val_main_v29, Cert.RConvBIdeal.Read.val_main_v27, Cert.RConvBIdeal.Read.val_main_v26,
    Cert.RConvBIdeal.Read.val_main_v28]

theorem act_apply : Cert.RConvBIdeal.Read.val_main_v33_0 (F := Ideal) y0 y1 (ix2 n q)
    = conv (projCol y0 q) (tapCol y1 q) 0 n * Ideal.logistic (conv (projCol y0 q) (tapCol y1 q) 0 n) := by
  pointwise [
    v32_apply, Cert.RConvBIdeal.Read.val_main_v33_0, Cert.RConvBIdeal.Read.val_main_v33_2,
    Cert.RConvBIdeal.Read.val_main_call0_v4, Cert.RConvBIdeal.Read.val_main_call0_cst_0,
    Cert.RConvBIdeal.Read.val_main_call0_v3, Cert.RConvBIdeal.Read.val_main_call0_v2,
    Cert.RConvBIdeal.Read.val_main_call0_cst, Cert.RConvBIdeal.Read.val_main_call0_v1, Cert.RConvBIdeal.Read.val_main_call0_v0]
  rfl

theorem v6_apply : Cert.RConvBIdeal.Read.val_main_v6 (F := Ideal) y0 (ix2 n q) = before (projCol y0 q) n 3 := by
  rw [← before_cut (projCol y0 q) n 3 n.val rfl fun _ => by omega]
  pointwise [
    Cert.RConvBIdeal.Read.val_main_v6, Cert.RConvBIdeal.Read.val_main_v2, Cert.RConvBIdeal.Read.val_main_v1,
    Cert.RConvBIdeal.Read.val_main_cst, Cert.RConvBIdeal.Read.val_main_v0]

theorem v14_apply : Cert.RConvBIdeal.Read.val_main_v14 (F := Ideal) y0 (ix2 n q) = before (projCol y0 q) n 2 := by
  rw [← before_cut (projCol y0 q) n 2 (1 + n.val) (by omega) fun _ => by omega]
  pointwise [
    Cert.RConvBIdeal.Read.val_main_v14, Cert.RConvBIdeal.Read.val_main_v2, Cert.RConvBIdeal.Read.val_main_v1,
    Cert.RConvBIdeal.Read.val_main_cst, Cert.RConvBIdeal.Read.val_main_v0]

theorem v21_apply : Cert.RConvBIdeal.Read.val_main_v21 (F := Ideal) y0 (ix2 n q) = before (projCol y0 q) n 1 := by
  rw [← before_cut (projCol y0 q) n 1 (2 + n.val) (by omega) fun _ => by omega]
  pointwise [
    Cert.RConvBIdeal.Read.val_main_v21, Cert.RConvBIdeal.Read.val_main_v2, Cert.RConvBIdeal.Read.val_main_v1,
    Cert.RConvBIdeal.Read.val_main_cst, Cert.RConvBIdeal.Read.val_main_v0]

theorem v28_apply : Cert.RConvBIdeal.Read.val_main_v28 (F := Ideal) y0 (ix2 n q) = before (projCol y0 q) n 0 := by
  rw [before_zero]
  pointwise [
    Cert.RConvBIdeal.Read.val_main_v28, Cert.RConvBIdeal.Read.val_main_v2, Cert.RConvBIdeal.Read.val_main_v1,
    Cert.RConvBIdeal.Read.val_main_cst, Cert.RConvBIdeal.Read.val_main_v0]

/-! The queries and keys by heads: head `h`'s columns start at `128 * h`, the keys' 1024 columns further. -/

variable (h : Fin 8) (k : Fin 128)

abbrev qCol : Fin 3072 := ⟨h.val * 128 + k.val, by omega⟩
abbrev kCol : Fin 3072 := ⟨1024 + (h.val * 128 + k.val), by omega⟩
abbrev headCol : Fin 1024 := ⟨h.val * 128 + k.val, by omega⟩

theorem heads_idx {f : (⟨2, ![2064, 1024]⟩ : Shape).Idx} (e0 : (f 0).val = ((n.val * 8 + h.val) * 128 + k.val) / 1024)
    (e1 : (f 1).val = ((n.val * 8 + h.val) * 128 + k.val) % 1024) : f = ix2 n (headCol h k) := by
  funext a; apply Fin.ext
  match a with
  | ⟨0, _⟩ => exact e0.trans (show _ = n.val by omega)
  | ⟨1, _⟩ => exact e1.trans (show _ = h.val * 128 + k.val by omega)

theorem v35_apply : Cert.RConvBIdeal.Read.val_main_v35 (F := Ideal) y0 y1 (ix3 n h k)
    = act (fun l => conv (projCol y0 (qCol h l)) (tapCol y1 (qCol h l)) 0 n) k := by
  rw [Cert.RConvBIdeal.Read.val_main_v35_apply]
  refine (congrArg (Cert.RConvBIdeal.Read.val_main_v34 (F := Ideal) y0 y1) (heads_idx n h k rfl rfl)).trans ?_
  pointwise [
    act_apply, Cert.RConvBIdeal.Read.val_main_v34]

theorem v37_apply : Cert.RConvBIdeal.Read.val_main_v37 (F := Ideal) y0 y1 (ix3 n h k)
    = act (fun l => conv (projCol y0 (kCol h l)) (tapCol y1 (kCol h l)) 0 n) k := by
  rw [Cert.RConvBIdeal.Read.val_main_v37_apply]
  refine (congrArg (Cert.RConvBIdeal.Read.val_main_v36 (F := Ideal) y0 y1) (heads_idx n h k rfl rfl)).trans ?_
  pointwise [
    act_apply, Cert.RConvBIdeal.Read.val_main_v36]

theorem v81_apply : Cert.RConvBIdeal.Read.val_main_v81 (F := Ideal) y2 (ix3 n h k)
    = gradCol y2 (qCol h k) n := by
  rw [Cert.RConvBIdeal.Read.val_main_v81_apply]
  refine (congrArg (Cert.RConvBIdeal.Read.val_main_v65 (F := Ideal) y2) (heads_idx n h k rfl rfl)).trans ?_
  pointwise [
    Cert.RConvBIdeal.Read.val_main_v65, Cert.RConvBIdeal.Read.val_main_v64]

theorem v68_apply : Cert.RConvBIdeal.Read.val_main_v68 (F := Ideal) y2 (ix3 n h k)
    = gradCol y2 (kCol h k) n := by
  rw [Cert.RConvBIdeal.Read.val_main_v68_apply]
  refine (congrArg (Cert.RConvBIdeal.Read.val_main_v66 (F := Ideal) y2) (heads_idx n h k rfl rfl)).trans ?_
  pointwise [
    Cert.RConvBIdeal.Read.val_main_v66, Cert.RConvBIdeal.Read.val_main_v64]

theorem v93_apply : Cert.RConvBIdeal.Read.val_main_v93 (F := Ideal) y0 y1 y2 (ix3 n h k)
    = headGrad (fun l => conv (projCol y0 (qCol h l)) (tapCol y1 (qCol h l)) 0 n) (fun l => gradCol y2 (qCol h l) n) k := by
  pointwise [
    v35_apply, v81_apply, Cert.RConvBIdeal.Read.val_main_v93, Cert.RConvBIdeal.Read.val_main_v91,
    Cert.RConvBIdeal.Read.val_main_v86, Cert.RConvBIdeal.Read.val_main_v85, Cert.RConvBIdeal.Read.val_main_v44,
    Cert.RConvBIdeal.Read.val_main_v43, Cert.RConvBIdeal.Read.val_main_v41, Cert.RConvBIdeal.Read.val_main_v40,
    Cert.RConvBIdeal.Read.val_main_v39, Cert.RConvBIdeal.Read.val_main_cst_2, Cert.RConvBIdeal.Read.val_main_v42,
    Cert.RConvBIdeal.Read.val_main_cst_3, Cert.RConvBIdeal.Read.val_main_v90, Cert.RConvBIdeal.Read.val_main_v89,
    Cert.RConvBIdeal.Read.val_main_v88, Cert.RConvBIdeal.Read.val_main_v87, Cert.RConvBIdeal.Read.val_main_v84,
    Cert.RConvBIdeal.Read.val_main_v83, Cert.RConvBIdeal.Read.val_main_v82, Cert.RConvBIdeal.Read.val_main_cst_10,
    Cert.RConvBIdeal.Read.val_main_v47, Cert.RConvBIdeal.Read.val_main_v46, Cert.RConvBIdeal.Read.val_main_cst_4,
    Cert.RConvBIdeal.Read.val_main_v45, Cert.RConvBIdeal.Read.val_main_cst_11, Cert.RConvBIdeal.Read.val_main_v92]
  rfl

theorem v80_apply : Cert.RConvBIdeal.Read.val_main_v80 (F := Ideal) y0 y1 y2 (ix3 n h k)
    = headGrad (fun l => conv (projCol y0 (kCol h l)) (tapCol y1 (kCol h l)) 0 n) (fun l => gradCol y2 (kCol h l) n) k := by
  pointwise [
    v37_apply, v68_apply, Cert.RConvBIdeal.Read.val_main_v80, Cert.RConvBIdeal.Read.val_main_v78,
    Cert.RConvBIdeal.Read.val_main_v73, Cert.RConvBIdeal.Read.val_main_v72, Cert.RConvBIdeal.Read.val_main_v56,
    Cert.RConvBIdeal.Read.val_main_v55, Cert.RConvBIdeal.Read.val_main_v53, Cert.RConvBIdeal.Read.val_main_v52,
    Cert.RConvBIdeal.Read.val_main_v51, Cert.RConvBIdeal.Read.val_main_cst_5, Cert.RConvBIdeal.Read.val_main_v54,
    Cert.RConvBIdeal.Read.val_main_cst_6, Cert.RConvBIdeal.Read.val_main_v77, Cert.RConvBIdeal.Read.val_main_v76,
    Cert.RConvBIdeal.Read.val_main_v75, Cert.RConvBIdeal.Read.val_main_v74, Cert.RConvBIdeal.Read.val_main_v71,
    Cert.RConvBIdeal.Read.val_main_v70, Cert.RConvBIdeal.Read.val_main_v69, Cert.RConvBIdeal.Read.val_main_cst_8,
    Cert.RConvBIdeal.Read.val_main_v59, Cert.RConvBIdeal.Read.val_main_v58, Cert.RConvBIdeal.Read.val_main_cst_7,
    Cert.RConvBIdeal.Read.val_main_v57, Cert.RConvBIdeal.Read.val_main_cst_9, Cert.RConvBIdeal.Read.val_main_v79]
  rfl

theorem v98_apply : Cert.RConvBIdeal.Read.val_main_v98 (F := Ideal) y0 y1 y2 (ix2 n (headCol h k))
    = Cert.RConvBIdeal.Read.val_main_v93 (F := Ideal) y0 y1 y2 (ix3 n h k) := by
  rw [Cert.RConvBIdeal.Read.val_main_v98_apply]
  congr 1
  funext a; apply Fin.ext
  match a with
  | ⟨0, _⟩ => show (n.val * 1024 + (h.val * 128 + k.val)) / 1024 = n.val; omega
  | ⟨1, _⟩ => show (n.val * 1024 + (h.val * 128 + k.val)) / 128 % 8 = h.val; omega
  | ⟨2, _⟩ => show (n.val * 1024 + (h.val * 128 + k.val)) % 128 = k.val; omega

theorem v95_apply : Cert.RConvBIdeal.Read.val_main_v95 (F := Ideal) y0 y1 y2 (ix2 n (headCol h k))
    = Cert.RConvBIdeal.Read.val_main_v80 (F := Ideal) y0 y1 y2 (ix3 n h k) := by
  rw [Cert.RConvBIdeal.Read.val_main_v95_apply]
  congr 1
  funext a; apply Fin.ext
  match a with
  | ⟨0, _⟩ => show (n.val * 1024 + (h.val * 128 + k.val)) / 1024 = n.val; omega
  | ⟨1, _⟩ => show (n.val * 1024 + (h.val * 128 + k.val)) / 128 % 8 = h.val; omega
  | ⟨2, _⟩ => show (n.val * 1024 + (h.val * 128 + k.val)) % 128 = k.val; omega

theorem v100_q : Cert.RConvBIdeal.Read.val_main_v100 (F := Ideal) y0 y1 y2 (ix2 n (qCol h k))
    = headGrad (fun l => conv (projCol y0 (qCol h l)) (tapCol y1 (qCol h l)) 0 n) (fun l => gradCol y2 (qCol h l) n) k := by
  pointwise [
    Cert.RConvBIdeal.Read.val_main_v100, Cert.RConvBIdeal.Read.val_main_v97, Cert.RConvBIdeal.Read.val_main_v94,
    Cert.RConvBIdeal.Read.val_main_v67, Cert.RConvBIdeal.Read.val_main_v64, Cert.RConvBIdeal.Read.val_main_cst_12,
    Cert.RConvBIdeal.Read.val_main_v96, Cert.RConvBIdeal.Read.val_main_cst_13, Cert.RConvBIdeal.Read.val_main_v99,
    Cert.RConvBIdeal.Read.val_main_cst_14]
  rw [dif_neg (by omega), dif_neg (by omega), dif_pos (by omega), zero_add, zero_add]
  exact (v98_apply y0 y1 y2 n h k).trans (v93_apply y0 y1 y2 n h k)

theorem v100_k : Cert.RConvBIdeal.Read.val_main_v100 (F := Ideal) y0 y1 y2 (ix2 n (kCol h k))
    = headGrad (fun l => conv (projCol y0 (kCol h l)) (tapCol y1 (kCol h l)) 0 n) (fun l => gradCol y2 (kCol h l) n) k := by
  pointwise [
    Cert.RConvBIdeal.Read.val_main_v100, Cert.RConvBIdeal.Read.val_main_v97, Cert.RConvBIdeal.Read.val_main_v94,
    Cert.RConvBIdeal.Read.val_main_v67, Cert.RConvBIdeal.Read.val_main_v64, Cert.RConvBIdeal.Read.val_main_cst_12,
    Cert.RConvBIdeal.Read.val_main_v96, Cert.RConvBIdeal.Read.val_main_cst_13, Cert.RConvBIdeal.Read.val_main_v99,
    Cert.RConvBIdeal.Read.val_main_cst_14]
  rw [dif_neg (by omega), dif_pos (by omega), zero_add]
  exact (v95_apply y0 y1 y2 n h k).trans (v80_apply y0 y1 y2 n h k)

theorem v100_v (c : 2048 ≤ q.val) : Cert.RConvBIdeal.Read.val_main_v100 (F := Ideal) y0 y1 y2 (ix2 n q) = gradCol y2 q n := by
  pointwise [
    Cert.RConvBIdeal.Read.val_main_v100, Cert.RConvBIdeal.Read.val_main_v97, Cert.RConvBIdeal.Read.val_main_v94,
    Cert.RConvBIdeal.Read.val_main_v67, Cert.RConvBIdeal.Read.val_main_v64, Cert.RConvBIdeal.Read.val_main_cst_12,
    Cert.RConvBIdeal.Read.val_main_v96, Cert.RConvBIdeal.Read.val_main_cst_13, Cert.RConvBIdeal.Read.val_main_v99,
    Cert.RConvBIdeal.Read.val_main_cst_14]
  rw [dif_pos (by omega), dif_neg (by omega), dif_neg (by omega), add_zero, add_zero]
  congr 2
  exact Fin.ext (Nat.add_sub_cancel' c)

/-- Column `k` of point `t`'s block. -/
abbrev col (t : Fin cfg0.N) (k : Fin 128) : Fin 3072 := ⟨t.val * 128 + k.val, by
  have ht : t.val < 24 := t.isLt
  omega⟩

/-- The gradient of column `k` of point `t`'s block. -/
abbrev pointGrad (t : Fin cfg0.N) : Fin 2064 → EReal :=
  blockGrad t.val (fun l => projCol y0 (col t l)) (fun l => tapCol y1 (col t l)) (fun l => gradCol y2 (col t l)) k

theorem v100_apply (t : Fin cfg0.N) : Cert.RConvBIdeal.Read.val_main_v100 (F := Ideal) y0 y1 y2 (ix2 n (col t k))
    = if t.val < 16 then headGrad (fun l => conv (projCol y0 (col t l)) (tapCol y1 (col t l)) 0 n) (fun l => gradCol y2 (col t l) n) k
      else gradCol y2 (col t k) n := by
  by_cases c : t.val < 16
  · rw [if_pos c]
    by_cases c' : t.val < 8
    · exact v100_q y0 y1 y2 n ⟨t.val, c'⟩ k
    · have e (l) : col t l = kCol ⟨t.val - 8, by omega⟩ l := Fin.ext (by show t.val * 128 + l.val = 1024 + ((t.val - 8) * 128 + l.val); omega)
      simp only [e]
      exact v100_k y0 y1 y2 n ⟨t.val - 8, by omega⟩ k
  · rw [if_neg c]
    exact v100_v y0 y1 y2 n (col t k) (by show 2048 ≤ t.val * 128 + k.val; omega)

theorem v101_apply (t : Fin cfg0.N) : Cert.RConvBIdeal.Read.val_main_v101 (F := Ideal) y0 y1 y2 (ix2 n (col t k)) = pointGrad y0 y1 y2 k t n := by
  pointwise [
    v100_apply, v32_apply, Cert.RConvBIdeal.Read.val_main_v101, Cert.RConvBIdeal.Read.val_main_call1_v1,
    Cert.RConvBIdeal.Read.val_main_v33_2, Cert.RConvBIdeal.Read.val_main_call0_v4, Cert.RConvBIdeal.Read.val_main_call0_cst_0,
    Cert.RConvBIdeal.Read.val_main_call0_v3, Cert.RConvBIdeal.Read.val_main_call0_v2,
    Cert.RConvBIdeal.Read.val_main_call0_cst, Cert.RConvBIdeal.Read.val_main_call0_v1,
    Cert.RConvBIdeal.Read.val_main_call0_v0, Cert.RConvBIdeal.Read.val_main_call1_v2, Cert.RConvBIdeal.Read.val_main_call1_v0,
    Cert.RConvBIdeal.Read.val_main_v33_1, Cert.RConvBIdeal.Read.val_main_call0_v7, Cert.RConvBIdeal.Read.val_main_call0_v6,
    Cert.RConvBIdeal.Read.val_main_call0_cst_1]
  rfl

variable (g : Fin 2064 → EReal) (hg : ∀ n, Cert.RConvBIdeal.Read.val_main_v101 (F := Ideal) y0 y1 y2 (ix2 n q) = g n)
include hg

theorem v140_apply (hl : 3 + n.val < 2067) : Cert.RConvBIdeal.Read.val_main_v140 (F := Ideal) y0 y1 y2 (ix2 ⟨3 + n.val, hl⟩ q)
    = rowGrad (tapCol y1 q) g n := by
  rw [rowGrad_eq]
  pointwise [
    hg, Cert.RConvBIdeal.Read.val_main_v140, Cert.RConvBIdeal.Read.val_main_v129, Cert.RConvBIdeal.Read.val_main_v118,
    Cert.RConvBIdeal.Read.val_main_v108, Cert.RConvBIdeal.Read.val_main_v103, Cert.RConvBIdeal.Read.val_main_v102,
    Cert.RConvBIdeal.Read.val_main_v29, Cert.RConvBIdeal.Read.val_main_v27, Cert.RConvBIdeal.Read.val_main_v26,
    Cert.RConvBIdeal.Read.val_main_cst_17, Cert.RConvBIdeal.Read.val_main_v117, Cert.RConvBIdeal.Read.val_main_v112,
    Cert.RConvBIdeal.Read.val_main_v111, Cert.RConvBIdeal.Read.val_main_v22, Cert.RConvBIdeal.Read.val_main_v20,
    Cert.RConvBIdeal.Read.val_main_v19, Cert.RConvBIdeal.Read.val_main_cst_21, Cert.RConvBIdeal.Read.val_main_v128,
    Cert.RConvBIdeal.Read.val_main_v123, Cert.RConvBIdeal.Read.val_main_v122, Cert.RConvBIdeal.Read.val_main_v15,
    Cert.RConvBIdeal.Read.val_main_v13, Cert.RConvBIdeal.Read.val_main_v12, Cert.RConvBIdeal.Read.val_main_cst_25,
    Cert.RConvBIdeal.Read.val_main_v139, Cert.RConvBIdeal.Read.val_main_v134, Cert.RConvBIdeal.Read.val_main_v133,
    Cert.RConvBIdeal.Read.val_main_v7, Cert.RConvBIdeal.Read.val_main_v5, Cert.RConvBIdeal.Read.val_main_v4,
    Cert.RConvBIdeal.Read.val_main_cst_29]

theorem result4_apply (R : Fin 2176) : Cert.RConvBIdeal.Read.val_main_v147 (F := Ideal) y0 y1 y2 (ix2 R q) = padded (rowGrad (tapCol y1 q) g) R := by
  pointwise [
    Cert.RConvBIdeal.Read.val_main_v147, Cert.RConvBIdeal.Read.val_main_v146, Cert.RConvBIdeal.Read.val_main_v145,
    Cert.RConvBIdeal.Read.val_main_call2_v0, Cert.RConvBIdeal.Read.val_main_c]
  unfold padded
  by_cases h : 112 ≤ R.val
  · rw [dif_pos ⟨h, by omega⟩, dif_pos h]
    exact v140_apply y0 y1 y2 ⟨R.val - 112, by omega⟩ q g hg (by show 3 + (R.val - 112) < 2067; omega)
  · rw [dif_neg (fun c => h c.1), dif_neg h]
    show ((((0#32 : BitVec 32).toInt : ℤ) : ℝ) : EReal) = 0
    simp

theorem result5_apply (j : Fin 4) : Cert.RConvBIdeal.Read.val_main_v143 (F := Ideal) y0 y1 y2 (ix2 j q) = tapGrad (projCol y0 q) g (3 - j.val) := by
  pointwise [
    hg, v6_apply, v14_apply, v21_apply, v28_apply, Cert.RConvBIdeal.Read.val_main_v143, Cert.RConvBIdeal.Read.val_main_v132,
    Cert.RConvBIdeal.Read.val_main_v121, Cert.RConvBIdeal.Read.val_main_v110, Cert.RConvBIdeal.Read.val_main_v109,
    Cert.RConvBIdeal.Read.val_main_v107, Cert.RConvBIdeal.Read.val_main_v106, Cert.RConvBIdeal.Read.val_main_v105,
    Cert.RConvBIdeal.Read.val_main_v104, Cert.RConvBIdeal.Read.val_main_cst_15, Cert.RConvBIdeal.Read.val_main_cst_16,
    Cert.RConvBIdeal.Read.val_main_cst_18, Cert.RConvBIdeal.Read.val_main_v120, Cert.RConvBIdeal.Read.val_main_v119,
    Cert.RConvBIdeal.Read.val_main_v116, Cert.RConvBIdeal.Read.val_main_v115, Cert.RConvBIdeal.Read.val_main_v114,
    Cert.RConvBIdeal.Read.val_main_v113, Cert.RConvBIdeal.Read.val_main_cst_19, Cert.RConvBIdeal.Read.val_main_cst_20,
    Cert.RConvBIdeal.Read.val_main_cst_22, Cert.RConvBIdeal.Read.val_main_v131, Cert.RConvBIdeal.Read.val_main_v130,
    Cert.RConvBIdeal.Read.val_main_v127, Cert.RConvBIdeal.Read.val_main_v126, Cert.RConvBIdeal.Read.val_main_v125,
    Cert.RConvBIdeal.Read.val_main_v124, Cert.RConvBIdeal.Read.val_main_cst_23, Cert.RConvBIdeal.Read.val_main_cst_24,
    Cert.RConvBIdeal.Read.val_main_cst_26, Cert.RConvBIdeal.Read.val_main_v142, Cert.RConvBIdeal.Read.val_main_v141,
    Cert.RConvBIdeal.Read.val_main_v138, Cert.RConvBIdeal.Read.val_main_v137, Cert.RConvBIdeal.Read.val_main_v136,
    Cert.RConvBIdeal.Read.val_main_v135, Cert.RConvBIdeal.Read.val_main_cst_27, Cert.RConvBIdeal.Read.val_main_cst_28,
    Cert.RConvBIdeal.Read.val_main_cst_30]
  simp only [Finset.sum_const, Finset.card_univ, Fintype.card_fin, one_smul]
  fin_cases j <;> simp <;> rfl

end Reference

/-- Each window is at column block `t`, the projections' 32 blocks further. -/
theorem index_t : ∀ t : Fin cfg0.N, win0_0.index t = ![0, 32 + t.val] ∧ win0_1.index t = ![0, t.val] ∧ win0_2.index t = ![0, t.val] ∧ win0_3.index t = ![0, t.val] ∧ win0_4.index t = ![0, t.val] ∧ win0_5.index t = ![0, t.val] :=
  (by decide +kernel : ∀ t : Fin grid0.N, win0_0.index t = ![0, 32 + t.val] ∧ win0_1.index t = ![0, t.val] ∧ win0_2.index t = ![0, t.val] ∧ win0_3.index t = ![0, t.val] ∧ win0_4.index t = ![0, t.val] ∧ win0_5.index t = ![0, t.val])

/-- The coordinate of a point. -/
theorem coord_t : ∀ t : Fin cfg0.N, (grid0.coords t 0).val = t.val :=
  (by decide +kernel : ∀ t : Fin grid0.N, (grid0.coords t 0).val = t.val)

/-! The arrays as the region finds them: the host's padding of the projections, and its row of zeros. -/

theorem proj_rows (c : Dev nD) : V m c main_v0 = pad S2176x16000 ![112, 0] ![0, 0] ![0, 0] (m ((c : Thread nD τ).loc main_arg0))
    (sitofp (F := Ideal) .f32 (constantI S_ 32 0#32)) pads_S2064x16000_S2176x16000_11200_000 h_S_ := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem bias_row (c : Dev nD) : V m c main_v1 = broadcastInDim S1x3072 ![] bcast_S_S1x3072 (constant (F := Ideal) S_ .f32 0x00000000#32) := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem iblk0_apply (c : Dev nD) (t : Fin cfg0.N) (R : Fin 2176) (k : Fin 128) :
    iblk m c 0 t (ix2 R k) = padded (projCol (m ((c : Thread nD τ).loc main_arg0)) (col t k)) R := by
  show V m c main_v0 ((win0_0.rect t).emb (ix2 R k)) = _
  have ht : t.val < 24 := t.isLt
  have e : ((win0_0.rect t).emb (ix2 R k) : S2176x16000.Idx) = ix2 R ⟨4096 + (t.val * 128 + k.val), by omega⟩ := by
    funext a; apply Fin.ext
    rw [Pipeline.Window.rect_emb_val win0_0 t _ a rfl, (index_t t).1]
    match a with
    | ⟨0, _⟩ => show 0 * 2176 + R.val = R.val; omega
    | ⟨1, _⟩ => show (32 + t.val) * 128 + k.val = 4096 + (t.val * 128 + k.val); omega
  rw [proj_rows, e]
  exact ConvC.pad_rows_apply _ _ _

theorem iblk1_apply (c : Dev nD) (t : Fin cfg0.N) (j : Fin 4) (k : Fin 128) :
    iblk m c 1 t (ix2 j k) = m ((c : Thread nD τ).loc main_arg1) (ix2 j (col t k)) := by
  show V m c main_arg1 ((win0_1.rect t).emb (ix2 j k)) = _
  rw [V_main_arg1]
  congr 1
  funext a; apply Fin.ext
  rw [Pipeline.Window.rect_emb_val win0_1 t _ a rfl, (index_t t).2.1]
  match a with
  | ⟨0, _⟩ => show 0 * 4 + j.val = j.val; omega
  | ⟨1, _⟩ => rfl

theorem iblk2_apply (c : Dev nD) (t : Fin cfg0.N) (k : Fin 128) : iblk m c 2 t (ix2 0 k) = (0 : EReal) := by
  show V m c main_v1 ((win0_2.rect t).emb (ix2 0 k)) = _
  have e : ((win0_2.rect t).emb (ix2 0 k) : S1x3072.Idx) = ix2 0 (col t k) := by
    funext a; apply Fin.ext
    rw [Pipeline.Window.rect_emb_val win0_2 t _ a rfl, (index_t t).2.2.1]
    fin_cases a <;> rfl
  rw [bias_row, e]
  pointwise

theorem iblk3_apply (c : Dev nD) (t : Fin cfg0.N) (R : Fin 2176) (k : Fin 128) :
    iblk m c 3 t (ix2 R k) = m ((c : Thread nD τ).loc main_arg2) (ix2 R (col t k)) := by
  show V m c main_arg2 ((win0_3.rect t).emb (ix2 R k)) = _
  rw [V_main_arg2]
  congr 1
  funext a; apply Fin.ext
  rw [Pipeline.Window.rect_emb_val win0_3 t _ a rfl, (index_t t).2.2.2.1]
  match a with
  | ⟨0, _⟩ => show 0 * 2176 + R.val = R.val; omega
  | ⟨1, _⟩ => rfl

theorem taps_iblk (c : Dev nD) (t : Fin cfg0.N) : taps (iblk m c 1 t) = fun k => tapCol (m ((c : Thread nD τ).loc main_arg1)) (col t k) :=
  funext fun k => funext fun j => iblk1_apply m c t j k

theorem grads_iblk (c : Dev nD) (t : Fin cfg0.N) : grads (iblk m c 3 t) = fun k => gradCol (m ((c : Thread nD τ).loc main_arg2)) (col t k) :=
  funext fun k => funext fun n => iblk3_apply m c t ⟨112 + n.val, by omega⟩ k

/-- The arrays the run leaves. -/
abbrev result4 (c : Dev nD) : Buf (Elt Ideal) ((c : Thread nD τ).loc main_v2_0) :=
  Cert.RConvBIdeal.Read.val_main_v147 (F := Ideal) (m ((c : Thread nD τ).loc main_arg0)) (m ((c : Thread nD τ).loc main_arg1))
    (m ((c : Thread nD τ).loc main_arg2))
abbrev result5 (c : Dev nD) : Buf (Elt Ideal) ((c : Thread nD τ).loc main_v2_1) :=
  Cert.RConvBIdeal.Read.val_main_v143 (F := Ideal) (m ((c : Thread nD τ).loc main_arg0)) (m ((c : Thread nD τ).loc main_arg1))
    (m ((c : Thread nD τ).loc main_arg2))

/-- The point and the place of a column. -/
theorem split_col (l : Fin 3072) : ∃ (t : Fin cfg0.N) (k : Fin 128), l = col t k :=
  ⟨(⟨l.val / 128, by show _ < 24; omega⟩ : Fin grid0.N), ⟨l.val % 128, Nat.mod_lt _ (by decide)⟩, Fin.ext (Nat.div_add_mod' l.val 128).symm⟩

theorem emb4 (t : Fin cfg0.N) (R : Fin 2176) (k : Fin 128) : ((win0_4.rect t).emb (ix2 R k) : S2176x3072.Idx) = ix2 R (col t k) := by
  funext a; apply Fin.ext
  rw [Pipeline.Window.rect_emb_val win0_4 t _ a rfl, (index_t t).2.2.2.2.1]
  match a with
  | ⟨0, _⟩ => show 0 * 2176 + R.val = R.val; omega
  | ⟨1, _⟩ => rfl

theorem final4 (c : Dev nD) : (dats m 0 c).arrAt 4 cfg0.N = result4 m c := by
  refine (dats m 0 c).arrAt_eq_of_cover 4 (result4 m c) (fun t _ => ?_) fun i => ?_
  · rw [Value.flushed4 m c t]
    funext y
    obtain ⟨R, k, rfl⟩ : ∃ (R : Fin 2176) (k : Fin 128), y = ix2 R k := ⟨y 0, y 1, by pointwise⟩
    show out0_4 (grid0.coords t) (iblk m c 0 t) (iblk m c 1 t) (iblk m c 2 t) (iblk m c 3 t) (ix2 R k) = result4 m c ((win0_4.rect t).emb (ix2 R k))
    rw [emb4, show result4 m c _ = _ from result4_apply _ _ _ (col t k) _ (fun n => v101_apply _ _ _ n k t) _]
    refine (dRows_apply _ _ _ _ _ R k (fun l => projCol (m ((c : Thread nD τ).loc main_arg0)) (col t l))
      (fun R l => iblk0_apply m c t R l) (fun l => iblk2_apply m c t l)).trans ?_
    rw [taps_iblk, grads_iblk, coord_t]
  · obtain ⟨R, l, rfl⟩ : ∃ (R : Fin 2176) (l : Fin 3072), i = ix2 R l := ⟨i 0, i 1, by pointwise⟩
    obtain ⟨t, k, rfl⟩ := split_col l
    refine ⟨t, flush0_4 t, ?_⟩
    rw [← emb4]
    exact View.emb_mem_set _ _

theorem emb5 (t : Fin cfg0.N) (j : Fin 4) (k : Fin 128) : ((win0_5.rect t).emb (ix2 j k) : S4x3072.Idx) = ix2 j (col t k) := by
  funext a; apply Fin.ext
  rw [Pipeline.Window.rect_emb_val win0_5 t _ a rfl, (index_t t).2.2.2.2.2]
  match a with
  | ⟨0, _⟩ => show 0 * 4 + j.val = j.val; omega
  | ⟨1, _⟩ => rfl

theorem final5 (c : Dev nD) : (dats m 0 c).arrAt 5 cfg0.N = result5 m c := by
  refine (dats m 0 c).arrAt_eq_of_cover 5 (result5 m c) (fun t _ => ?_) fun i => ?_
  · rw [Value.flushed5 m c t]
    funext y
    obtain ⟨j, k, rfl⟩ : ∃ (j : Fin 4) (k : Fin 128), y = ix2 j k := ⟨y 0, y 1, by pointwise⟩
    show out0_5 (grid0.coords t) (iblk m c 0 t) (iblk m c 1 t) (iblk m c 2 t) (iblk m c 3 t) (ix2 j k) = result5 m c ((win0_5.rect t).emb (ix2 j k))
    rw [emb5, show result5 m c _ = _ from result5_apply _ _ _ (col t k) _ (fun n => v101_apply _ _ _ n k t) _]
    refine (dTaps_apply _ _ _ _ _ k (fun l => projCol (m ((c : Thread nD τ).loc main_arg0)) (col t l))
      (fun R l => iblk0_apply m c t R l) (fun l => iblk2_apply m c t l) j).trans ?_
    rw [taps_iblk, grads_iblk, coord_t]
  · obtain ⟨j, l, rfl⟩ : ∃ (j : Fin 4) (l : Fin 3072), i = ix2 j l := ⟨i 0, i 1, by pointwise⟩
    obtain ⟨t, k, rfl⟩ := split_col l
    refine ⟨t, flush0_5 t, ?_⟩
    rw [← emb5]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2_0) = result4 m c
      ∧ r.2.mem ((c : Thread nD τ).loc main_v2_1) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2.2⟩) (Value.run_blocks m ρ)

theorem frame_r : Cert.quiescent_RConvBIdeal := fun m ρ _ =>
  (θ_run _ _ _).mono (fun r h => ⟨fun c => (h c).2.2, sem_eq_zero_of_no_sems (by decide) r.2⟩) (Cert.RConvBIdeal.Value.run m ρ)

theorem algebraic : Cert.algebraic_KConvBIdeal_RConvBIdeal := by
  intro m g m' g' _ hm
  refine ⟨fun c => result4 m c, fun c => result5 m c, run m g, ?_⟩
  refine (θ_run _ _ _).mono (fun r h c => ⟨?_, ?_, (h c).2.2⟩) (Cert.RConvBIdeal.Value.run m' g')
  · rw [(h c).1.trans (Cert.RConvBIdeal.Read.val_main_v147_eq (StableHlo.launchContents m' c))]
    show Cert.RConvBIdeal.Read.val_main_v147 (F := Ideal) (m' ((c : Thread Cert.RConvBIdeal.nD Cert.RConvBIdeal.τ).loc Cert.RConvBIdeal.main_arg0))
      (m' ((c : Thread Cert.RConvBIdeal.nD Cert.RConvBIdeal.τ).loc Cert.RConvBIdeal.main_arg1))
      (m' ((c : Thread Cert.RConvBIdeal.nD Cert.RConvBIdeal.τ).loc Cert.RConvBIdeal.main_arg2)) = _
    rw [(hm c).1, (hm c).2.1, (hm c).2.2]
  · rw [(h c).2.1.trans (Cert.RConvBIdeal.Read.val_main_v143_eq (StableHlo.launchContents m' c))]
    show Cert.RConvBIdeal.Read.val_main_v143 (F := Ideal) (m' ((c : Thread Cert.RConvBIdeal.nD Cert.RConvBIdeal.τ).loc Cert.RConvBIdeal.main_arg0))
      (m' ((c : Thread Cert.RConvBIdeal.nD Cert.RConvBIdeal.τ).loc Cert.RConvBIdeal.main_arg1))
      (m' ((c : Thread Cert.RConvBIdeal.nD Cert.RConvBIdeal.τ).loc Cert.RConvBIdeal.main_arg2)) = _
    rw [(hm c).1, (hm c).2.1, (hm c).2.2]

end Cert.Proof.ConvB

end
-- ==== Proof.RmsF.lean ====
/-
  Hand-written, untrusted. The norm of the rows, `KRmsFIdeal`, over the extended reals: the array its four row blocks leave is the reference's
  `val_main_v13` of the two arguments.
-/
module

public import proofs.«01_k».proof.Defs
public import proofs.«01_k».proof.Proof.Gen.KRmsFIdeal.Value
public import proofs.«01_k».proof.Proof.Gen.RRmsFIdeal.Run
public import proofs.«01_k».proof.Proof.Gen.RRmsFIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.RmsF

open Idealize.ShloMosaic Idealize.SL.Sem Cert.KRmsFIdeal
open Cert.KRmsFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves for the result. -/
theorem out_block (x0 : Vec Ideal S544x1024 .f32) (x1 : Vec Ideal S1x1024 .f32) : out0_2 x0 x1 = k0_pay1 x0 x1 := by
  unfold out0_2
  rw [View.canon_cons_unit_zero (S := S544x1024) hz]
  simp only [View.ld_unit_zero (S := S544x1024) hz, View.ld_unit_zero (S := S1x1024) hz]

/-- The row windows are at block `t` of the rows, the weight's at its only block. -/
theorem index_t : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) (l)) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> simp <;> rfl

/-- The weight as the region finds it: the host's one row of it. -/
theorem weight_row (c : Dev nD) : V m c main_v0 = broadcastInDim S1x1024 ![1] bcast_S1024_S1x1024_1 (m ((c : Thread nD τ).loc main_arg1)) := by
  unfold_abbrev_sides
  after_results

theorem iblk1_apply (c : Dev nD) (t : Fin cfg0.N) (l : Fin 1024) :
    iblk m c 1 t (ix2 0 l) = m ((c : Thread nD τ).loc main_arg1) (ix1 l) := by
  show V m c main_v0 ((win0_1.rect t).emb (ix2 0 l)) = _
  have e : ((win0_1.rect t).emb (ix2 0 l) : S1x1024.Idx) = ix2 0 l := by
    funext a; apply Fin.ext
    rw [Pipeline.Window.rect_emb_val win0_1 t _ a rfl, (index_t t).2.1]
    fin_cases a <;> simp <;> rfl
  rw [weight_row, e]
  pointwise

theorem pay1_eq (x0 : Vec Ideal S544x1024 .f32) (x1 : Vec Ideal S1x1024 .f32) (y0 : Vec Ideal S2176x1024 .f32) (y1 : Vec Ideal S1024 .f32)
    (r : Fin 544) (R : Fin 2176) (l : Fin 1024) (h0 : ∀ k, x0 (ix2 r k) = y0 (ix2 R k)) (h1 : x1 (ix2 0 l) = y1 (ix1 l)) :
    k0_pay1 x0 x1 (ix2 r l) = Cert.RRmsFIdeal.Read.val_main_v13 (F := Ideal) y0 y1 (ix2 R l) := by
  pointwise [k0_pay1, Cert.RRmsFIdeal.Read.val_main_v13, Cert.RRmsFIdeal.Read.val_main_v12, Cert.RRmsFIdeal.Read.val_main_v9,
    Cert.RRmsFIdeal.Read.val_main_v8, Cert.RRmsFIdeal.Read.val_main_v7, Cert.RRmsFIdeal.Read.val_main_v6,
    Cert.RRmsFIdeal.Read.val_main_v4, Cert.RRmsFIdeal.Read.val_main_v2, Cert.RRmsFIdeal.Read.val_main_v1,
    Cert.RRmsFIdeal.Read.val_main_v0, Cert.RRmsFIdeal.Read.val_main_cst, Cert.RRmsFIdeal.Read.val_main_v3,
    Cert.RRmsFIdeal.Read.val_main_cst_0, Cert.RRmsFIdeal.Read.val_main_v5, Cert.RRmsFIdeal.Read.val_main_cst_1,
    Cert.RRmsFIdeal.Read.val_main_v11, Cert.RRmsFIdeal.Read.val_main_v10]
  simp only [h0, h1]

/-- The array the run leaves. -/
abbrev result (c : Dev nD) : Buf (Elt Ideal) ((c : Thread nD τ).loc main_v1) :=
  Cert.RRmsFIdeal.Read.val_main_v13 (F := Ideal) (m ((c : Thread nD τ).loc main_arg0)) (m ((c : Thread nD τ).loc main_arg1))

theorem emb_out (t : Fin cfg0.N) (r : Fin 544) (l : Fin 1024) : ((win0_2.rect t).emb (ix2 r l) : S2176x1024.Idx) = ix2 (row t r) (l) := by
  funext a; apply Fin.ext
  rw [Pipeline.Window.rect_emb_val win0_2 t _ a rfl, (index_t t).2.2]
  fin_cases a <;> simp <;> rfl

theorem flushed_out (c : Dev nD) (t : Fin cfg0.N) (_ : (cfg0.win 2).flush t = true) :
    (dats m 0 c).flushed 2 t = ((cfg0.win 2).blk t).view.read (Elt Ideal) (result m c) := by
  rw [Value.flushed2 m c t, out_block]
  funext y
  obtain ⟨r, l, rfl⟩ : ∃ (r : Fin 544) (l : Fin 1024), y = ix2 r l := ⟨y 0, y 1, by pointwise⟩
  show k0_pay1 (iblk m c 0 t) (iblk m c 1 t) (ix2 r l) = result m c ((win0_2.rect t).emb (ix2 r l))
  rw [emb_out]
  exact pay1_eq _ _ _ _ r (row t r) l (iblk0_apply m c t r) (iblk1_apply m c t l)

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final (c : Dev nD) : (dats m 0 c).arrAt 2 cfg0.N = result m c :=
  (dats m 0 c).arrAt_eq_of_cover 2 (result m c) (flushed_out m c) fun i => by
    obtain ⟨t, r, l, rfl⟩ := split_row i
    refine ⟨t, flush0_2 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RRmsFIdeal := fun m ρ _ =>
  (θ_run _ _ _).mono (fun r h => ⟨fun c => (h c).2, sem_eq_zero_of_no_sems (by decide) r.2⟩) (Cert.RRmsFIdeal.Value.run m ρ)

theorem algebraic : Cert.algebraic_KRmsFIdeal_RRmsFIdeal := by
  intro m g m' g' _ hm
  refine ⟨fun c => result m c, run m g, ?_⟩
  refine (θ_run _ _ _).mono (fun r h c => ⟨?_, (h c).2⟩) (Cert.RRmsFIdeal.Value.run m' g')
  rw [(h c).1, (hm c).1, (hm c).2]
  rfl

end Cert.Proof.RmsF

end
-- ==== Proof.GateAF.lean ====
/-
  Hand-written, untrusted. The attention's output gate, `KGateAFIdeal`, over the extended reals: the array its four row blocks leave is the
  reference's `val_main_v3` of the two arguments.
-/
module

public import proofs.«01_k».proof.Defs
public import proofs.«01_k».proof.Proof.Gen.KGateAFIdeal.Value
public import proofs.«01_k».proof.Proof.Gen.RGateAFIdeal.Run
public import proofs.«01_k».proof.Proof.Gen.RGateAFIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateAF

open Idealize.ShloMosaic Idealize.SL.Sem Cert.KGateAFIdeal
open Cert.KGateAFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords)
    (a2 : Memref sig .tc .vmem S544x1024 .f32) (h2 : a2.IsWhole)
    (a3 : Memref sig .tc .vmem S544x1024 .f32) (h3 : a3.IsWhole)
    (a4 : Memref sig .tc .vmem S544x1024 .bf16) (h4 : a4.IsWhole)
    (x0 : Vec Ideal S544x1024 .f32) (x1 : Vec Ideal S544x1024 .f32)

/-- What the body leaves for the result. -/
theorem out_block : out0_A_2 c i a2 h2 a3 h3 a4 h4 x0 x1 = k0_pay1 x0 x1 := by
  unfold out0_A_2
  rw [View.read_writes_eq_canon _ _ _ (cover0_A_2 c i a2 h2 a3 h3 a4 h4 x0 x1)]
  unfold kernelRun0_A
  dsimp only
  sl_unfold_words
  rw [View.canon_cons_unit_zero (S := S544x1024) hz]
  simp only [View.readAt_eq_ld, h2.read_unread, h3.read_unread,
    View.ld_unit_zero (S := S544x1024) hz]

end Body

/-- The row windows are at block `t` of the rows; the gate's columns are at block 3. -/
theorem index_t : ∀ t : Fin cfg0.N, win0_0.index t = ![t.val, 0] ∧ win0_1.index t = ![t.val, 3] ∧ win0_2.index t = ![t.val, 0] :=
  (by decide +kernel : ∀ t : Fin grid0.N, win0_0.index t = ![t.val, 0] ∧ win0_1.index t = ![t.val, 3] ∧ win0_2.index t = ![t.val, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) (l)) := by
  show m ((c : Thread nD τ).loc main_arg0) ((win0_0.rect t).emb (ix2 r l)) = _
  congr 1
  funext a; apply Fin.ext
  rw [Pipeline.Window.rect_emb_val win0_0 t _ a rfl, (index_t t).1]
  fin_cases a <;> simp <;> rfl

theorem X1_apply (c : Dev nD) (t : Fin cfg0.N) (r : Fin 544) (l : Fin 1024) :
    X0_1 m c t (ix2 r l) = m ((c : Thread nD τ).loc main_arg1) (ix2 (row t r) (⟨3072 + l.val, by omega⟩ : Fin 16000)) := by
  unfold X0_1 Pipeline.Window.fill
  rw [dif_pos (moved0_1 t _)]
  show m ((c : Thread nD τ).loc main_arg1) ((win0_1.rect t).emb _) = _
  congr 1
  funext a; apply Fin.ext
  rw [Pipeline.Window.rect_emb_val win0_1 t _ a rfl, (index_t t).2.1]
  fin_cases a <;> simp <;> rfl

theorem pay1_eq (x0 x1 : Vec Ideal S544x1024 .f32) (y0 : Vec Ideal S2176x1024 .f32) (y1 : Vec Ideal S2176x16000 .f32)
    (r : Fin 544) (R : Fin 2176) (l : Fin 1024) (h0 : x0 (ix2 r l) = y0 (ix2 R l))
    (h1 : x1 (ix2 r l) = y1 (ix2 R (⟨3072 + l.val, by omega⟩ : Fin 16000))) :
    k0_pay1 x0 x1 (ix2 r l) = Cert.RGateAFIdeal.Read.val_main_v3 (F := Ideal) y0 y1 (ix2 R l) := by
  pointwise [k0_pay1, Cert.RGateAFIdeal.Read.val_main_v3, Cert.RGateAFIdeal.Read.val_main_v2, Cert.RGateAFIdeal.Read.val_main_v1,
    Cert.RGateAFIdeal.Read.val_main_v0, Cert.RGateAFIdeal.Read.val_main_call0_v5,
    Cert.RGateAFIdeal.Read.val_main_call0_v4, Cert.RGateAFIdeal.Read.val_main_call0_cst_0,
    Cert.RGateAFIdeal.Read.val_main_call0_v3, Cert.RGateAFIdeal.Read.val_main_call0_v2,
    Cert.RGateAFIdeal.Read.val_main_call0_cst, Cert.RGateAFIdeal.Read.val_main_call0_v1,
    Cert.RGateAFIdeal.Read.val_main_call0_v0]
  rw [h0, h1]
  rfl

/-- The array the run leaves. -/
abbrev result (c : Dev nD) : Buf (Elt Ideal) ((c : Thread nD τ).loc main_v0) :=
  Cert.RGateAFIdeal.Read.val_main_v3 (F := Ideal) (m ((c : Thread nD τ).loc main_arg0)) (m ((c : Thread nD τ).loc main_arg1))

theorem emb_out (t : Fin cfg0.N) (r : Fin 544) (l : Fin 1024) : ((win0_2.rect t).emb (ix2 r l) : S2176x1024.Idx) = ix2 (row t r) (l) := by
  funext a; apply Fin.ext
  rw [Pipeline.Window.rect_emb_val win0_2 t _ a rfl, (index_t t).2.2]
  fin_cases a <;> simp <;> rfl

theorem flushed_out (c : Dev nD) (t : Fin cfg0.N) (_ : (cfg0.win 2).flush t = true) :
    (dats m 0 c).flushed 2 t = ((cfg0.win 2).blk t).view.read (Elt Ideal) (result m c) := by
  rw [Value.flushed2_A m c t, out_block]
  funext y
  obtain ⟨r, l, rfl⟩ : ∃ (r : Fin 544) (l : Fin 1024), y = ix2 r l := ⟨y 0, y 1, by pointwise⟩
  show k0_pay1 (iblk m c 0 t) (X0_1 m c t) (ix2 r l) = result m c ((win0_2.rect t).emb (ix2 r l))
  rw [emb_out]
  exact pay1_eq _ _ _ _ r (row t r) l (iblk0_apply m c t r l) (X1_apply m c t r l)

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final (c : Dev nD) : (dats m 0 c).arrAt 2 cfg0.N = result m c :=
  (dats m 0 c).arrAt_eq_of_cover 2 (result m c) (flushed_out m c) fun i => by
    obtain ⟨t, r, l, rfl⟩ := split_row i
    refine ⟨t, flush0_2 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RGateAFIdeal := fun m ρ _ =>
  (θ_run _ _ _).mono (fun r h => ⟨fun c => (h c).2, sem_eq_zero_of_no_sems (by decide) r.2⟩) (Cert.RGateAFIdeal.Value.run m ρ)

theorem algebraic : Cert.algebraic_KGateAFIdeal_RGateAFIdeal := by
  intro m g m' g' _ hm
  refine ⟨fun c => result m c, run m g, ?_⟩
  refine (θ_run _ _ _).mono (fun r h c => ⟨?_, (h c).2⟩) (Cert.RGateAFIdeal.Value.run m' g')
  rw [(h c).1, (hm c).1, (hm c).2]
  rfl

end Cert.Proof.GateAF

end
-- ==== Proof.GateBF.lean ====
/-
  Hand-written, untrusted. The delta rule's head norm and output gate, `KGateBFIdeal`, over the extended reals: the array its four row blocks
  leave is the reference's `val_main_v18` of the three arguments.
-/
module

public import proofs.«01_k».proof.Defs
public import proofs.«01_k».proof.Proof.Gen.KGateBFIdeal.Value
public import proofs.«01_k».proof.Proof.Gen.RGateBFIdeal.Run
public import proofs.«01_k».proof.Proof.Gen.RGateBFIdeal.Read
public import proofs.«01_k».proof.Proof.GateB
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateBF

open Idealize.ShloMosaic Idealize.SL.Sem Cert.KGateBFIdeal
open Cert.KGateBFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

open Cert.Proof.GateB (silu normed col split_col col_zero zcol)

/-- What the body stores for the result. -/
def gatedRows (x0 x1 : Vec Ideal S544x1024 .f32) (x2 : Vec Ideal S1x128 .f32) : FVec Ideal S544x1024 .bf16 :=
  k0_pay1 x0 x1 (k0_pay2 x2) (k0_pay3 x0 x2) (k0_pay4 x0 x2) (k0_pay5 x0 x2) (k0_pay6 x0 (k0_pay2 x2)) (k0_pay7 x0 (k0_pay2 x2))
    (k0_pay8 x0 (k0_pay2 x2)) (k0_pay9 x0) (k0_pay10 x0)

section Body

variable (c : Dev nD) (i : grid0.Coords)
    (a2 : Memref sig .tc .vmem S544x1024 .f32) (h2 : a2.IsWhole)
    (a3 : Memref sig .tc .vmem S544x1024 .f32) (h3 : a3.IsWhole)
    (a4 : Memref sig .tc .vmem S1x128 .f32) (h4 : a4.IsWhole)
    (a5 : Memref sig .tc .vmem S544x1024 .bf16) (h5 : a5.IsWhole)
    (x0 : Vec Ideal S544x1024 .f32) (x1 : Vec Ideal S544x1024 .f32) (x2 : Vec Ideal S1x128 .f32)

/-- What the body leaves for the result. -/
theorem out_block : out0_A_3 c i a2 h2 a3 h3 a4 h4 a5 h5 x0 x1 x2 = gatedRows x0 x1 x2 := by
  unfold out0_A_3
  rw [View.read_writes_eq_canon _ _ _ (cover0_A_3 c i a2 h2 a3 h3 a4 h4 a5 h5 x0 x1 x2)]
  unfold kernelRun0_A
  dsimp only
  sl_unfold_words
  rw [View.canon_cons_unit_zero (S := S544x1024) hz]
  simp only [View.readAt_eq_ld, h2.read_unread, h3.read_unread, h4.read_unread,
    View.ld_unit_zero (S := S544x1024) hz, View.ld_unit_zero (S := S1x128) hz]
  rfl

end Body

/-- The row windows are at block `t` of the rows, the gate's columns at block 7, the scale at its only block. -/
theorem index_t : ∀ t : Fin cfg0.N, win0_0.index t = ![t.val, 0] ∧ win0_1.index t = ![t.val, 7] ∧ win0_2.index t = ![0, 0] ∧ win0_3.index t = ![t.val, 0] :=
  (by decide +kernel : ∀ t : Fin grid0.N, win0_0.index t = ![t.val, 0] ∧ win0_1.index t = ![t.val, 7] ∧ win0_2.index t = ![0, 0] ∧ win0_3.index t = ![t.val, 0])

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

theorem iblk0_apply (c : Dev nD) (t : Fin cfg0.N) (r : Fin 544) (l : Fin 1024) :
    iblk m c 0 t (ix2 r l) = m ((c : Thread nD τ).loc main_arg0) (ix2 (row t r) (l)) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> simp <;> rfl

theorem X1_apply (c : Dev nD) (t : Fin cfg0.N) (r : Fin 544) (l : Fin 1024) :
    X0_1 m c t (ix2 r l) = m ((c : Thread nD τ).loc main_arg1) (ix2 (row t r) (⟨7168 + l.val, by omega⟩ : Fin 16000)) := by
  unfold X0_1 Pipeline.Window.fill
  rw [dif_pos (moved0_1 t _)]
  show V m c main_arg1 ((win0_1.rect t).emb _) = _
  rw [V_main_arg1]
  congr 1
  funext a; apply Fin.ext
  rw [Pipeline.Window.rect_emb_val win0_1 t _ a rfl, (index_t t).2.1]
  fin_cases a <;> simp <;> rfl

/-- The scale as the region finds it: the host's one row of it. -/
theorem scale_row (c : Dev nD) : V m c main_v0 = broadcastInDim S1x128 ![1] bcast_S128_S1x128_1 (m ((c : Thread nD τ).loc main_arg2)) := by
  unfold_abbrev_sides
  after_results

theorem iblk2_apply (c : Dev nD) (t : Fin cfg0.N) (l : Fin 128) :
    iblk m c 2 t (ix2 0 l) = m ((c : Thread nD τ).loc main_arg2) (ix1 l) := by
  show V m c main_v0 ((win0_2.rect t).emb (ix2 0 l)) = _
  have e : ((win0_2.rect t).emb (ix2 0 l) : S1x128.Idx) = ix2 0 l := by
    funext a; apply Fin.ext
    rw [Pipeline.Window.rect_emb_val win0_2 t _ a rfl, (index_t t).2.2.1]
    fin_cases a <;> simp <;> rfl
  rw [scale_row, e]
  pointwise

theorem gatedRows_apply (x0 x1 : Vec Ideal S544x1024 .f32) (x2 : Vec Ideal S1x128 .f32) (r : Fin 544) (h : Fin 8) (k : Fin 128) :
    gatedRows x0 x1 x2 (ix2 r (col h k)) = normed (fun x => x0 (ix2 r (col h x))) k * x2 (ix2 0 k) * silu (x1 (ix2 r (col h k))) := by
  fin_cases h
  · show gatedRows x0 x1 x2 (ix2 r (col 0 k)) = normed (fun x => x0 (ix2 r (col 0 x))) k * x2 (ix2 0 k) * silu (x1 (ix2 r (col 0 k)))
    simp only [col_zero]
    unfold gatedRows
    pointwise [k0_pay1, k0_pay2, k0_pay3, k0_pay4, k0_pay5, k0_pay6, k0_pay7, k0_pay8, k0_pay9, k0_pay10]
    rfl
  all_goals
    unfold gatedRows
    pointwise [k0_pay1, k0_pay2, k0_pay3, k0_pay4, k0_pay5, k0_pay6, k0_pay7, k0_pay8, k0_pay9, k0_pay10]
    try simp (disch := omega) only [dif_pos, dif_neg, Nat.sub_sub, Nat.reduceAdd, Nat.add_sub_cancel_left]
    rfl

section Reference

variable (y0 : Vec Ideal S2176x1024 .f32) (y1 : Vec Ideal S2176x16000 .f32) (y2 : Vec Ideal S128 .f32) (R : Fin 2176) (h : Fin 8) (k : Fin 128)

theorem v1_apply : Cert.RGateBFIdeal.Read.val_main_v1 (F := Ideal) y0 (ix3 R h k) = y0 (ix2 R (col h k)) := by
  rw [Cert.RGateBFIdeal.Read.val_main_v1_apply]
  congr 1
  funext a; apply Fin.ext
  match a with
  | ⟨0, _⟩ => show ((R.val * 8 + h.val) * 128 + k.val) / 1024 = R.val; omega
  | ⟨1, _⟩ => show ((R.val * 8 + h.val) * 128 + k.val) % 1024 = 128 * h.val + k.val; omega

theorem v15_apply : Cert.RGateBFIdeal.Read.val_main_v15 (F := Ideal) y0 y2 (ix2 R (col h k)) = Cert.RGateBFIdeal.Read.val_main_v14 (F := Ideal) y0 y2 (ix3 R h k) := by
  rw [Cert.RGateBFIdeal.Read.val_main_v15_apply]
  congr 1
  funext a; apply Fin.ext
  match a with
  | ⟨0, _⟩ => show (R.val * 1024 + (128 * h.val + k.val)) / 1024 = R.val; omega
  | ⟨1, _⟩ => show (R.val * 1024 + (128 * h.val + k.val)) / 128 % 8 = h.val; omega
  | ⟨2, _⟩ => show (R.val * 1024 + (128 * h.val + k.val)) % 128 = k.val; omega

theorem v18_apply : Cert.RGateBFIdeal.Read.val_main_v18 (F := Ideal) y0 y1 y2 (ix2 R (col h k))
    = normed (fun x => y0 (ix2 R (col h x))) k * y2 (ix1 k) * silu (y1 (ix2 R (zcol h k))) := by
  pointwise [v15_apply, v1_apply, Cert.RGateBFIdeal.Read.val_main_v18, Cert.RGateBFIdeal.Read.val_main_v17,
    Cert.RGateBFIdeal.Read.val_main_v14, Cert.RGateBFIdeal.Read.val_main_v11,
    Cert.RGateBFIdeal.Read.val_main_v10, Cert.RGateBFIdeal.Read.val_main_v9, Cert.RGateBFIdeal.Read.val_main_v8,
    Cert.RGateBFIdeal.Read.val_main_v6, Cert.RGateBFIdeal.Read.val_main_v4, Cert.RGateBFIdeal.Read.val_main_v3,
    Cert.RGateBFIdeal.Read.val_main_v2, Cert.RGateBFIdeal.Read.val_main_cst, Cert.RGateBFIdeal.Read.val_main_v5,
    Cert.RGateBFIdeal.Read.val_main_cst_0, Cert.RGateBFIdeal.Read.val_main_v7, Cert.RGateBFIdeal.Read.val_main_cst_1,
    Cert.RGateBFIdeal.Read.val_main_v13, Cert.RGateBFIdeal.Read.val_main_v12, Cert.RGateBFIdeal.Read.val_main_v16,
    Cert.RGateBFIdeal.Read.val_main_v0, Cert.RGateBFIdeal.Read.val_main_call0_v5,
    Cert.RGateBFIdeal.Read.val_main_call0_v4, Cert.RGateBFIdeal.Read.val_main_call0_cst_0,
    Cert.RGateBFIdeal.Read.val_main_call0_v3, Cert.RGateBFIdeal.Read.val_main_call0_v2,
    Cert.RGateBFIdeal.Read.val_main_call0_cst, Cert.RGateBFIdeal.Read.val_main_call0_v1,
    Cert.RGateBFIdeal.Read.val_main_call0_v0]
  rfl

end Reference

/-- The array the run leaves. -/
abbrev result (c : Dev nD) : Buf (Elt Ideal) ((c : Thread nD τ).loc main_v1) :=
  Cert.RGateBFIdeal.Read.val_main_v18 (F := Ideal) (m ((c : Thread nD τ).loc main_arg0)) (m ((c : Thread nD τ).loc main_arg1)) (m ((c : Thread nD τ).loc main_arg2))

theorem emb_out (t : Fin cfg0.N) (r : Fin 544) (l : Fin 1024) : ((win0_3.rect t).emb (ix2 r l) : S2176x1024.Idx) = ix2 (row t r) (l) := by
  funext a; apply Fin.ext
  rw [Pipeline.Window.rect_emb_val win0_3 t _ a rfl, (index_t t).2.2.2]
  fin_cases a <;> simp <;> rfl

theorem flushed_out (c : Dev nD) (t : Fin cfg0.N) (_ : (cfg0.win 3).flush t = true) :
    (dats m 0 c).flushed 3 t = ((cfg0.win 3).blk t).view.read (Elt Ideal) (result m c) := by
  rw [Value.flushed3_A m c t, out_block]
  funext y
  obtain ⟨r, l, rfl⟩ : ∃ (r : Fin 544) (l : Fin 1024), y = ix2 r l := ⟨y 0, y 1, by pointwise⟩
  show gatedRows (iblk m c 0 t) (X0_1 m c t) (iblk m c 2 t) (ix2 r l) = result m c ((win0_3.rect t).emb (ix2 r l))
  rw [emb_out]
  obtain ⟨h, k, rfl⟩ := split_col l
  rw [gatedRows_apply, show result m c _ = _ from v18_apply _ _ _ (row t r) h k]
  simp only [iblk0_apply, X1_apply, iblk2_apply]

/-- The row block of an index and its place there. -/
theorem split_row (i : S2176x1024.Idx) : ∃ (t : Fin cfg0.N) (r : Fin 544) (l : Fin 1024), i = ix2 (row t r) l := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final (c : Dev nD) : (dats m 0 c).arrAt 3 cfg0.N = result m c :=
  (dats m 0 c).arrAt_eq_of_cover 3 (result m c) (flushed_out m c) fun i => by
    obtain ⟨t, r, l, rfl⟩ := split_row i
    refine ⟨t, flush0_3 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

theorem frame_r : Cert.quiescent_RGateBFIdeal := fun m ρ _ =>
  (θ_run _ _ _).mono (fun r h => ⟨fun c => (h c).2, sem_eq_zero_of_no_sems (by decide) r.2⟩) (Cert.RGateBFIdeal.Value.run m ρ)

theorem algebraic : Cert.algebraic_KGateBFIdeal_RGateBFIdeal := by
  intro m g m' g' _ hm
  refine ⟨fun c => result m c, run m g, ?_⟩
  refine (θ_run _ _ _).mono (fun r h c => ⟨?_, (h c).2⟩) (Cert.RGateBFIdeal.Value.run m' g')
  rw [(h c).1, (hm c).1, (hm c).2.1, (hm c).2.2]
  rfl

end Cert.Proof.GateBF

end
-- ==== Proof.GateCF.lean ====
/-
  Hand-written, untrusted. The state space block's skip, gate and group norm, `KGateCFIdeal`, over the extended reals: the array its eight blocks
  leave is the reference's `val_main_v24` of the five arguments.
-/
module

public import proofs.«01_k».proof.Defs
public import proofs.«01_k».proof.Proof.Gen.KGateCFIdeal.Value
public import proofs.«01_k».proof.Proof.Gen.RGateCFIdeal.Run
public import proofs.«01_k».proof.Proof.Gen.RGateCFIdeal.Read
public import proofs.«01_k».proof.Proof.GateC
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GateCF

open Idealize.ShloMosaic Idealize.SL.Sem Cert.KGateCFIdeal
open Cert.KGateCFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

open Cert.Proof.GateC (gated normed col xcol zcol)

section Body

variable (c : Dev nD) (i : grid0.Coords)
    (a2 : Memref sig .tc .vmem S544x1024 .f32) (h2 : a2.IsWhole)
    (a3 : Memref sig .tc .vmem S544x1024 .f32) (h3 : a3.IsWhole)
    (a4 : Memref sig .tc .vmem S544x1024 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S544x1024 .bf16) (h7 : a7.IsWhole)
    (x0 : Vec Ideal S544x1024 .f32) (x1 : Vec Ideal S544x1024 .f32) (x2 : Vec Ideal S544x1024 .f32) (x3 : Vec Ideal S1x1024 .f32) (x4 : Vec Ideal S1x1024 .f32)

/-- What the body leaves for the result. -/
theorem out_block : out0_A_5 c i a2 h2 a3 h3 a4 h4 a5 h5 a6 h6 a7 h7 x0 x1 x2 x3 x4 = k0_pay1 x0 x1 x2 x3 x4 := by
  unfold out0_A_5
  rw [View.read_writes_eq_canon _ _ _ (cover0_A_5 c i a2 h2 a3 h3 a4 h4 a5 h5 a6 h6 a7 h7 x0 x1 x2 x3 x4)]
  unfold kernelRun0_A
  dsimp only
  sl_unfold_words
  rw [View.canon_cons_unit_zero (S := S544x1024) hz]
  simp only [View.readAt_eq_ld, h2.read_unread, h3.read_unread, h4.read_unread, h5.read_unread, h6.read_unread,
    View.ld_unit_zero (S := S544x1024) hz, View.ld_unit_zero (S := S1x1024) hz]

end Body

/-- The row windows are at row block `t % 4` of group `t / 4`, the gate's columns eight blocks further, the rows of the parameters at the group. -/
theorem index_t : ∀ t : Fin cfg0.N, win0_0.index t = ![t.val % 4, t.val / 4] ∧ win0_1.index t = ![t.val % 4, t.val / 4] ∧ win0_2.index t = ![t.val % 4, 8 + t.val / 4] ∧ win0_3.index t = ![0, t.val / 4] ∧ win0_4.index t = ![0, t.val / 4] ∧ win0_5.index t = ![t.val % 4, t.val / 4] :=
  (by decide +kernel : ∀ t : Fin grid0.N, win0_0.index t = ![t.val % 4, t.val / 4] ∧ win0_1.index t = ![t.val % 4, t.val / 4] ∧ win0_2.index t = ![t.val % 4, 8 + t.val / 4] ∧ win0_3.index t = ![0, t.val / 4] ∧ win0_4.index t = ![0, t.val / 4] ∧ win0_5.index t = ![t.val % 4, t.val / 4])

/-- Row `r` of point `t`'s block. -/
abbrev row (t : Fin cfg0.N) (r : Fin 544) : Fin 2176 := ⟨t.val % 4 * 544 + r.val, by omega⟩

theorem grp_lt (t : Fin cfg0.N) : t.val / 4 < 2 := by
  have ht : t.val < 8 := t.isLt
  omega

/-- The group of a point. -/
abbrev grp (t : Fin cfg0.N) : Fin 2 := ⟨t.val / 4, grp_lt t⟩

theorem iblk0_apply (c : Dev nD) (t : Fin cfg0.N) (r : Fin 544) (l : Fin 1024) :
    iblk m c 0 t (ix2 r l) = m ((c : Thread nD τ).loc main_arg0) (ix2 (row t r) (col (grp t) l)) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> rfl

theorem X1_apply (c : Dev nD) (t : Fin cfg0.N) (r : Fin 544) (l : Fin 1024) :
    X0_1 m c t (ix2 r l) = m ((c : Thread nD τ).loc main_arg1) (ix2 (row t r) (xcol (grp t) l)) := by
  unfold X0_1 Pipeline.Window.fill
  rw [dif_pos (moved0_1 t _)]
  show V m c main_arg1 ((win0_1.rect t).emb _) = _
  rw [V_main_arg1]
  congr 1
  funext a; apply Fin.ext
  rw [Pipeline.Window.rect_emb_val win0_1 t _ a rfl, (index_t t).2.1]
  fin_cases a <;> rfl

theorem X2_apply (c : Dev nD) (t : Fin cfg0.N) (r : Fin 544) (l : Fin 1024) :
    X0_2 m c t (ix2 r l) = m ((c : Thread nD τ).loc main_arg2) (ix2 (row t r) (zcol (grp t) l)) := by
  unfold X0_2 Pipeline.Window.fill
  rw [dif_pos (moved0_2 t _)]
  show V m c main_arg2 ((win0_2.rect t).emb _) = _
  rw [V_main_arg2]
  congr 1
  funext a; apply Fin.ext
  rw [Pipeline.Window.rect_emb_val win0_2 t _ a rfl, (index_t t).2.2.1]
  match a with
  | ⟨0, _⟩ => rfl
  | ⟨1, _⟩ => show (8 + t.val / 4) * 1024 + l.val = 8192 + (t.val / 4 * 1024 + l.val); omega

theorem skip_row (c : Dev nD) : V m c main_v0 = broadcastInDim S1x2048 ![1] bcast_S2048_S1x2048_1 (m ((c : Thread nD τ).loc main_arg3)) := by
  unfold_abbrev_sides
  after_results

theorem iblk3_apply (c : Dev nD) (t : Fin cfg0.N) (l : Fin 1024) :
    iblk m c 3 t (ix2 0 l) = m ((c : Thread nD τ).loc main_arg3) (ix1 (col (grp t) l)) := by
  show V m c main_v0 ((win0_3.rect t).emb (ix2 0 l)) = _
  have e : ((win0_3.rect t).emb (ix2 0 l) : S1x2048.Idx) = ix2 0 (col (grp t) l) := by
    funext a; apply Fin.ext
    rw [Pipeline.Window.rect_emb_val win0_3 t _ a rfl, (index_t t).2.2.2.1]
    fin_cases a <;> rfl
  rw [skip_row, e]
  pointwise

theorem scale_row (c : Dev nD) : V m c main_v1 = broadcastInDim S1x2048 ![1] bcast_S2048_S1x2048_1 (m ((c : Thread nD τ).loc main_arg4)) := by
  unfold_abbrev_sides
  after_results

theorem iblk4_apply (c : Dev nD) (t : Fin cfg0.N) (l : Fin 1024) :
    iblk m c 4 t (ix2 0 l) = m ((c : Thread nD τ).loc main_arg4) (ix1 (col (grp t) l)) := by
  show V m c main_v1 ((win0_4.rect t).emb (ix2 0 l)) = _
  have e : ((win0_4.rect t).emb (ix2 0 l) : S1x2048.Idx) = ix2 0 (col (grp t) l) := by
    funext a; apply Fin.ext
    rw [Pipeline.Window.rect_emb_val win0_4 t _ a rfl, (index_t t).2.2.2.2.1]
    fin_cases a <;> rfl
  rw [scale_row, e]
  pointwise

theorem pay1_apply (x0 x1 x2 : Vec Ideal S544x1024 .f32) (x3 x4 : Vec Ideal S1x1024 .f32) (r : Fin 544) (k : Fin 1024) :
    k0_pay1 x0 x1 x2 x3 x4 (ix2 r k) = normed (gated (fun k => x0 (ix2 r k)) (fun k => x1 (ix2 r k)) (fun k => x2 (ix2 r k))
      (fun k => x3 (ix2 0 k))) k * x4 (ix2 0 k) := by
  pointwise [k0_pay1]
  rfl

section Reference

variable (y0 : Vec Ideal S2176x2048 .f32) (y1 : Vec Ideal S2176x2560 .f32) (y2 : Vec Ideal S2176x16000 .f32) (y3 y4 : Vec Ideal S2048 .f32)
    (R : Fin 2176) (g : Fin 2) (k : Fin 1024)

theorem v8_apply : Cert.RGateCFIdeal.Read.val_main_v8 (F := Ideal) y0 y1 y2 y3 (ix3 R g k) = Cert.RGateCFIdeal.Read.val_main_v7 (F := Ideal) y0 y1 y2 y3 (ix2 R (col g k)) := by
  rw [Cert.RGateCFIdeal.Read.val_main_v8_apply]
  congr 1
  funext a; apply Fin.ext
  match a with
  | ⟨0, _⟩ => show ((R.val * 2 + g.val) * 1024 + k.val) / 2048 = R.val; omega
  | ⟨1, _⟩ => show ((R.val * 2 + g.val) * 1024 + k.val) % 2048 = g.val * 1024 + k.val; omega

theorem v9_apply : Cert.RGateCFIdeal.Read.val_main_v9 (F := Ideal) y4 (ix2 g k) = y4 (ix1 (col g k)) := by
  rw [Cert.RGateCFIdeal.Read.val_main_v9_apply]
  congr 1
  funext a; apply Fin.ext
  match a with
  | ⟨0, _⟩ => show g.val * 1024 + k.val = g.val * 1024 + k.val; rfl

theorem v23_apply : Cert.RGateCFIdeal.Read.val_main_v23 (F := Ideal) y0 y1 y2 y3 y4 (ix2 R (col g k)) = Cert.RGateCFIdeal.Read.val_main_v22 (F := Ideal) y0 y1 y2 y3 y4 (ix3 R g k) := by
  rw [Cert.RGateCFIdeal.Read.val_main_v23_apply]
  congr 1
  funext a; apply Fin.ext
  match a with
  | ⟨0, _⟩ => show (R.val * 2048 + (g.val * 1024 + k.val)) / 2048 = R.val; omega
  | ⟨1, _⟩ => show (R.val * 2048 + (g.val * 1024 + k.val)) / 1024 % 2 = g.val; omega
  | ⟨2, _⟩ => show (R.val * 2048 + (g.val * 1024 + k.val)) % 1024 = k.val; omega

theorem v7_apply : Cert.RGateCFIdeal.Read.val_main_v7 (F := Ideal) y0 y1 y2 y3 (ix2 R (col g k)) = gated (fun k => y0 (ix2 R (col g k)))
    (fun k => y1 (ix2 R (xcol g k))) (fun k => y2 (ix2 R (zcol g k))) (fun k => y3 (ix1 (col g k))) k := by
  pointwise [Cert.RGateCFIdeal.Read.val_main_v7, Cert.RGateCFIdeal.Read.val_main_v4, Cert.RGateCFIdeal.Read.val_main_v3,
    Cert.RGateCFIdeal.Read.val_main_v2, Cert.RGateCFIdeal.Read.val_main_v1, Cert.RGateCFIdeal.Read.val_main_v0,
    Cert.RGateCFIdeal.Read.val_main_v6, Cert.RGateCFIdeal.Read.val_main_v5, Cert.RGateCFIdeal.Read.val_main_call0_v5,
    Cert.RGateCFIdeal.Read.val_main_call0_v4, Cert.RGateCFIdeal.Read.val_main_call0_cst_0,
    Cert.RGateCFIdeal.Read.val_main_call0_v3, Cert.RGateCFIdeal.Read.val_main_call0_v2,
    Cert.RGateCFIdeal.Read.val_main_call0_cst, Cert.RGateCFIdeal.Read.val_main_call0_v1,
    Cert.RGateCFIdeal.Read.val_main_call0_v0]
  rfl

theorem v24_apply : Cert.RGateCFIdeal.Read.val_main_v24 (F := Ideal) y0 y1 y2 y3 y4 (ix2 R (col g k)) = normed (gated (fun k => y0 (ix2 R (col g k)))
    (fun k => y1 (ix2 R (xcol g k))) (fun k => y2 (ix2 R (zcol g k))) (fun k => y3 (ix1 (col g k)))) k * y4 (ix1 (col g k)) := by
  refine (v23_apply y0 y1 y2 y3 y4 R g k).trans ?_
  pointwise [v8_apply, v9_apply, v7_apply, Cert.RGateCFIdeal.Read.val_main_v22, Cert.RGateCFIdeal.Read.val_main_v19,
    Cert.RGateCFIdeal.Read.val_main_v18, Cert.RGateCFIdeal.Read.val_main_v17, Cert.RGateCFIdeal.Read.val_main_v16,
    Cert.RGateCFIdeal.Read.val_main_v14, Cert.RGateCFIdeal.Read.val_main_v12, Cert.RGateCFIdeal.Read.val_main_v11,
    Cert.RGateCFIdeal.Read.val_main_v10, Cert.RGateCFIdeal.Read.val_main_cst, Cert.RGateCFIdeal.Read.val_main_v13,
    Cert.RGateCFIdeal.Read.val_main_cst_0, Cert.RGateCFIdeal.Read.val_main_v15, Cert.RGateCFIdeal.Read.val_main_cst_1,
    Cert.RGateCFIdeal.Read.val_main_v21, Cert.RGateCFIdeal.Read.val_main_v20]
  rfl

end Reference

/-- The array the run leaves. -/
abbrev result (c : Dev nD) : Buf (Elt Ideal) ((c : Thread nD τ).loc main_v2) :=
  Cert.RGateCFIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem emb_out (t : Fin cfg0.N) (r : Fin 544) (l : Fin 1024) : ((win0_5.rect t).emb (ix2 r l) : S2176x2048.Idx) = ix2 (row t r) (col (grp t) l) := by
  funext a; apply Fin.ext
  rw [Pipeline.Window.rect_emb_val win0_5 t _ a rfl, (index_t t).2.2.2.2.2]
  fin_cases a <;> rfl

theorem flushed_out (c : Dev nD) (t : Fin cfg0.N) (_ : (cfg0.win 5).flush t = true) :
    (dats m 0 c).flushed 5 t = ((cfg0.win 5).blk t).view.read (Elt Ideal) (result m c) := by
  rw [Value.flushed5_A m c t, out_block]
  funext y
  obtain ⟨r, l, rfl⟩ : ∃ (r : Fin 544) (l : Fin 1024), y = ix2 r l := ⟨y 0, y 1, by pointwise⟩
  show k0_pay1 (iblk m c 0 t) (X0_1 m c t) (X0_2 m c t) (iblk m c 3 t) (iblk m c 4 t) (ix2 r l) = result m c ((win0_5.rect t).emb (ix2 r l))
  rw [emb_out]
  rw [pay1_apply, show result m c _ = _ from v24_apply _ _ _ _ _ (row t r) (grp t) l]
  simp only [iblk0_apply, X1_apply, X2_apply, iblk3_apply, iblk4_apply]

/-- The block of an index and its place there. -/
theorem split_block (i : S2176x2048.Idx) : ∃ (t : Fin cfg0.N) (r : Fin 544) (k : Fin 1024), i = ix2 (row t r) (col (grp t) k) := by
  have h0 : (i 0).val < 2176 := (i 0).isLt
  have h1 : (i 1).val < 2048 := (i 1).isLt
  refine ⟨(⟨4 * ((i 1).val / 1024) + (i 0).val / 544, by show _ < 8; omega⟩ : Fin grid0.N), ⟨(i 0).val % 544, Nat.mod_lt _ (by decide)⟩,
    ⟨(i 1).val % 1024, Nat.mod_lt _ (by decide)⟩, ?_⟩
  funext a; apply Fin.ext
  match a with
  | ⟨0, _⟩ => show (i 0).val = (4 * ((i 1).val / 1024) + (i 0).val / 544) % 4 * 544 + (i 0).val % 544; omega
  | ⟨1, _⟩ => show (i 1).val = (4 * ((i 1).val / 1024) + (i 0).val / 544) / 4 * 1024 + (i 1).val % 1024; omega

theorem final (c : Dev nD) : (dats m 0 c).arrAt 5 cfg0.N = result m c :=
  (dats m 0 c).arrAt_eq_of_cover 5 (result m c) (flushed_out m c) fun i => by
    obtain ⟨t, r, l, rfl⟩ := split_block i
    refine ⟨t, flush0_5 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

theorem frame_r : Cert.quiescent_RGateCFIdeal := fun m ρ _ =>
  (θ_run _ _ _).mono (fun r h => ⟨fun c => (h c).2, sem_eq_zero_of_no_sems (by decide) r.2⟩) (Cert.RGateCFIdeal.Value.run m ρ)

theorem algebraic : Cert.algebraic_KGateCFIdeal_RGateCFIdeal := by
  intro m g m' g' _ hm
  refine ⟨fun c => result m c, run m g, ?_⟩
  refine (θ_run _ _ _).mono (fun r h c => ⟨?_, (h c).2⟩) (Cert.RGateCFIdeal.Value.run m' g')
  rw [(h c).1, (hm c).1, (hm c).2.1, (hm c).2.2.1, (hm c).2.2.2.1, (hm c).2.2.2.2]
  rfl

end Cert.Proof.GateCF

end
-- ==== Proof.MergeF.lean ====
/-
  Hand-written, untrusted. The merge of the three branches, `KMergeFIdeal`, over the extended reals: the array its eight blocks leave is the
  reference's `val_main_v26` of the four arguments.
-/
module

public import proofs.«01_k».proof.Defs
public import proofs.«01_k».proof.Proof.Gen.KMergeFIdeal.Value
public import proofs.«01_k».proof.Proof.Gen.RMergeFIdeal.Run
public import proofs.«01_k».proof.Proof.Gen.RMergeFIdeal.Read
public import proofs.«01_k».proof.Proof.Merge
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.MergeF

open Idealize.ShloMosaic Idealize.SL.Sem Cert.KMergeFIdeal
open Cert.KMergeFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords)
    (a2 : Memref sig .tc .vmem S544x512 .f32) (h2 : a2.IsWhole)
    (a3 : Memref sig .tc .vmem S544x512 .f32) (h3 : a3.IsWhole)
    (a4 : Memref sig .tc .vmem S544x512 .f32) (h4 : a4.IsWhole)
    (a5 : Memref sig .tc .vmem S544x512 .f32) (h5 : a5.IsWhole)
    (a6 : Memref sig .tc .vmem S544x512 .f32) (h6 : a6.IsWhole)
    (a7 : Memref sig .tc .vmem S544x512 .f32) (h7 : a7.IsWhole)
    (a8 : Memref sig .tc .vmem S544x512 .bf16) (h8 : a8.IsWhole)
    (x0 : Vec Ideal S544x512 .f32) (x1 : Vec Ideal S544x512 .f32) (x2 : Vec Ideal S544x512 .f32) (x3 : Vec Ideal S544x512 .f32) (x4 : Vec Ideal S544x512 .f32) (x5 : Vec Ideal S544x512 .f32)

/-- What the body leaves for the result. -/
theorem out_block : out0_A_6 c i a2 h2 a3 h3 a4 h4 a5 h5 a6 h6 a7 h7 a8 h8 x0 x1 x2 x3 x4 x5 = k0_pay1 x0 x1 x2 x3 x4 x5 := by
  unfold out0_A_6
  rw [View.read_writes_eq_canon _ _ _ (cover0_A_6 c i a2 h2 a3 h3 a4 h4 a5 h5 a6 h6 a7 h7 a8 h8 x0 x1 x2 x3 x4 x5)]
  unfold kernelRun0_A
  dsimp only
  sl_unfold_words
  rw [View.canon_cons_unit_zero (S := S544x512) hz]
  simp only [View.readAt_eq_ld, h2.read_unread, h3.read_unread, h4.read_unread, h5.read_unread, h6.read_unread, h7.read_unread,
    View.ld_unit_zero (S := S544x512) hz]

end Body

/-- The windows of a point's rows and columns: rows block `t % 4`, columns block `t / 4`, the gates' from column block 25, 27 and 29. -/
theorem index_t : ∀ t : Fin cfg0.N, win0_0.index t = ![t.val % 4, t.val / 4] ∧ win0_1.index t = ![t.val % 4, t.val / 4] ∧ win0_2.index t = ![t.val % 4, t.val / 4] ∧ win0_3.index t = ![t.val % 4, 25 + t.val / 4] ∧ win0_4.index t = ![t.val % 4, 27 + t.val / 4] ∧ win0_5.index t = ![t.val % 4, 29 + t.val / 4] ∧ win0_6.index t = ![t.val % 4, t.val / 4] :=
  (by decide +kernel : ∀ t : Fin grid0.N, win0_0.index t = ![t.val % 4, t.val / 4] ∧ win0_1.index t = ![t.val % 4, t.val / 4] ∧ win0_2.index t = ![t.val % 4, t.val / 4] ∧ win0_3.index t = ![t.val % 4, 25 + t.val / 4] ∧ win0_4.index t = ![t.val % 4, 27 + t.val / 4] ∧ win0_5.index t = ![t.val % 4, 29 + t.val / 4] ∧ win0_6.index t = ![t.val % 4, t.val / 4])

/-- Row `r` of point `t`'s block. -/
abbrev row (t : Fin cfg0.N) (r : Fin 544) : Fin 2176 := ⟨t.val % 4 * 544 + r.val, by omega⟩

theorem col_lt (t : Fin cfg0.N) (l : Fin 512) : t.val / 4 * 512 + l.val < 1024 := by
  have ht : t.val < 8 := t.isLt
  omega

/-- Column `l` of point `t`'s block. -/
abbrev col (t : Fin cfg0.N) (l : Fin 512) : Fin 1024 := ⟨t.val / 4 * 512 + l.val, col_lt t l⟩

open Cert.Proof.Merge (gate)

theorem iblk0_apply (c : Dev nD) (t : Fin cfg0.N) (r : Fin 544) (l : Fin 512) :
    iblk m c 0 t (ix2 r l) = m ((c : Thread nD τ).loc main_arg0) (ix2 (row t r) (col t l)) := by
  show m ((c : Thread nD τ).loc main_arg0) ((win0_0.rect t).emb (ix2 r l)) = _
  congr 1
  funext a; apply Fin.ext
  rw [Pipeline.Window.rect_emb_val win0_0 t _ a rfl, (index_t t).1]
  fin_cases a <;> simp <;> rfl

theorem iblk1_apply (c : Dev nD) (t : Fin cfg0.N) (r : Fin 544) (l : Fin 512) :
    iblk m c 1 t (ix2 r l) = m ((c : Thread nD τ).loc main_arg1) (ix2 (row t r) (col t l)) := by
  show m ((c : Thread nD τ).loc main_arg1) ((win0_1.rect t).emb (ix2 r l)) = _
  congr 1
  funext a; apply Fin.ext
  rw [Pipeline.Window.rect_emb_val win0_1 t _ a rfl, (index_t t).2.1]
  fin_cases a <;> simp <;> rfl

theorem iblk2_apply (c : Dev nD) (t : Fin cfg0.N) (r : Fin 544) (l : Fin 512) :
    iblk m c 2 t (ix2 r l) = m ((c : Thread nD τ).loc main_arg2) (ix2 (row t r) (col t l)) := by
  show m ((c : Thread nD τ).loc main_arg2) ((win0_2.rect t).emb (ix2 r l)) = _
  congr 1
  funext a; apply Fin.ext
  rw [Pipeline.Window.rect_emb_val win0_2 t _ a rfl, (index_t t).2.2.1]
  fin_cases a <;> simp <;> rfl

theorem X3_apply (c : Dev nD) (t : Fin cfg0.N) (r : Fin 544) (l : Fin 512) :
    X0_3 m c t (ix2 r l) = m ((c : Thread nD τ).loc main_arg3) (ix2 (row t r) (gate 12800 (by decide) (col t l))) := by
  unfold X0_3 Pipeline.Window.fill
  rw [dif_pos (moved0_3 t _)]
  show m ((c : Thread nD τ).loc main_arg3) ((win0_3.rect t).emb _) = _
  congr 1
  funext a; apply Fin.ext
  rw [Pipeline.Window.rect_emb_val win0_3 t _ a rfl, (index_t t).2.2.2.1]
  match a with
  | ⟨0, _⟩ => rfl
  | ⟨1, _⟩ => show (25 + t.val / 4) * 512 + l.val = 12800 + (t.val / 4 * 512 + l.val); omega

theorem X4_apply (c : Dev nD) (t : Fin cfg0.N) (r : Fin 544) (l : Fin 512) :
    X0_4 m c t (ix2 r l) = m ((c : Thread nD τ).loc main_arg3) (ix2 (row t r) (gate 13824 (by decide) (col t l))) := by
  unfold X0_4 Pipeline.Window.fill
  rw [dif_pos (moved0_4 t _)]
  show m ((c : Thread nD τ).loc main_arg3) ((win0_4.rect t).emb _) = _
  congr 1
  funext a; apply Fin.ext
  rw [Pipeline.Window.rect_emb_val win0_4 t _ a rfl, (index_t t).2.2.2.2.1]
  match a with
  | ⟨0, _⟩ => rfl
  | ⟨1, _⟩ => show (27 + t.val / 4) * 512 + l.val = 13824 + (t.val / 4 * 512 + l.val); omega

theorem X5_apply (c : Dev nD) (t : Fin cfg0.N) (r : Fin 544) (l : Fin 512) :
    X0_5 m c t (ix2 r l) = m ((c : Thread nD τ).loc main_arg3) (ix2 (row t r) (gate 14848 (by decide) (col t l))) := by
  unfold X0_5 Pipeline.Window.fill
  rw [dif_pos (moved0_5 t _)]
  show m ((c : Thread nD τ).loc main_arg3) ((win0_5.rect t).emb _) = _
  congr 1
  funext a; apply Fin.ext
  rw [Pipeline.Window.rect_emb_val win0_5 t _ a rfl, (index_t t).2.2.2.2.2.1]
  match a with
  | ⟨0, _⟩ => rfl
  | ⟨1, _⟩ => show (29 + t.val / 4) * 512 + l.val = 14848 + (t.val / 4 * 512 + l.val); omega

theorem pay1_eq (x0 x1 x2 x3 x4 x5 : Vec Ideal S544x512 .f32) (y0 y1 y2 : Vec Ideal S2176x1024 .f32) (y3 : Vec Ideal S2176x16000 .f32)
    (r : Fin 544) (l : Fin 512) (i : Fin 2176) (j : Fin 1024) (h0 : x0 (ix2 r l) = y0 (ix2 i j)) (h1 : x1 (ix2 r l) = y1 (ix2 i j))
    (h2 : x2 (ix2 r l) = y2 (ix2 i j)) (h3 : x3 (ix2 r l) = y3 (ix2 i (gate 12800 (by decide) j)))
    (h4 : x4 (ix2 r l) = y3 (ix2 i (gate 13824 (by decide) j))) (h5 : x5 (ix2 r l) = y3 (ix2 i (gate 14848 (by decide) j))) :
    k0_pay1 x0 x1 x2 x3 x4 x5 (ix2 r l) = Cert.RMergeFIdeal.Read.val_main_v26 (F := Ideal) y0 y1 y2 y3 (ix2 i j) := by
  pointwise [k0_pay1, Cert.RMergeFIdeal.Read.val_main_v26, Cert.RMergeFIdeal.Read.val_main_v25,
    Cert.RMergeFIdeal.Read.val_main_v17, Cert.RMergeFIdeal.Read.val_main_v9, Cert.RMergeFIdeal.Read.val_main_v8,
    Cert.RMergeFIdeal.Read.val_main_v7, Cert.RMergeFIdeal.Read.val_main_cst_0, Cert.RMergeFIdeal.Read.val_main_v6,
    Cert.RMergeFIdeal.Read.val_main_v5, Cert.RMergeFIdeal.Read.val_main_cst, Cert.RMergeFIdeal.Read.val_main_v4,
    Cert.RMergeFIdeal.Read.val_main_v3, Cert.RMergeFIdeal.Read.val_main_v0, Cert.RMergeFIdeal.Read.val_main_v16,
    Cert.RMergeFIdeal.Read.val_main_v15, Cert.RMergeFIdeal.Read.val_main_v14, Cert.RMergeFIdeal.Read.val_main_cst_2,
    Cert.RMergeFIdeal.Read.val_main_v13, Cert.RMergeFIdeal.Read.val_main_v12, Cert.RMergeFIdeal.Read.val_main_cst_1,
    Cert.RMergeFIdeal.Read.val_main_v11, Cert.RMergeFIdeal.Read.val_main_v10, Cert.RMergeFIdeal.Read.val_main_v1,
    Cert.RMergeFIdeal.Read.val_main_v24, Cert.RMergeFIdeal.Read.val_main_v23, Cert.RMergeFIdeal.Read.val_main_v22,
    Cert.RMergeFIdeal.Read.val_main_cst_4, Cert.RMergeFIdeal.Read.val_main_v21, Cert.RMergeFIdeal.Read.val_main_v20,
    Cert.RMergeFIdeal.Read.val_main_cst_3, Cert.RMergeFIdeal.Read.val_main_v19, Cert.RMergeFIdeal.Read.val_main_v18,
    Cert.RMergeFIdeal.Read.val_main_v2]
  rw [h0, h1, h2, h3, h4, h5]
  rfl

/-- The array the run leaves. -/
abbrev result (c : Dev nD) : Buf (Elt Ideal) ((c : Thread nD τ).loc main_v0) :=
  Cert.RMergeFIdeal.Read.val_main_v26 (F := Ideal) (m ((c : Thread nD τ).loc main_arg0)) (m ((c : Thread nD τ).loc main_arg1)) (m ((c : Thread nD τ).loc main_arg2)) (m ((c : Thread nD τ).loc main_arg3))

theorem emb_out (t : Fin cfg0.N) (r : Fin 544) (l : Fin 512) : ((win0_6.rect t).emb (ix2 r l) : S2176x1024.Idx) = ix2 (row t r) (col t l) := by
  funext a; apply Fin.ext
  rw [Pipeline.Window.rect_emb_val win0_6 t _ a rfl, (index_t t).2.2.2.2.2.2]
  fin_cases a <;> simp <;> rfl

theorem flushed_out (c : Dev nD) (t : Fin cfg0.N) (_ : (cfg0.win 6).flush t = true) :
    (dats m 0 c).flushed 6 t = ((cfg0.win 6).blk t).view.read (Elt Ideal) (result m c) := by
  rw [Value.flushed6_A m c t, out_block]
  funext y
  obtain ⟨r, l, rfl⟩ : ∃ (r : Fin 544) (l : Fin 512), y = ix2 r l := ⟨y 0, y 1, by pointwise⟩
  show k0_pay1 (iblk m c 0 t) (iblk m c 1 t) (iblk m c 2 t) (X0_3 m c t) (X0_4 m c t) (X0_5 m c t) (ix2 r l) = result m c ((win0_6.rect t).emb (ix2 r l))
  rw [emb_out]
  exact pay1_eq _ _ _ _ _ _ _ _ _ _ r l (row t r) (col t l) (iblk0_apply m c t r l) (iblk1_apply m c t r l) (iblk2_apply m c t r l)
    (X3_apply m c t r l) (X4_apply m c t r l) (X5_apply m c t r l)

/-- The block of an index and its place there. -/
theorem split_block (i : S2176x1024.Idx) : ∃ (t : Fin cfg0.N) (r : Fin 544) (l : Fin 512), i = ix2 (row t r) (col t l) := by
  have h0 : (i 0).val < 2176 := (i 0).isLt
  have h1 : (i 1).val < 1024 := (i 1).isLt
  refine ⟨(⟨4 * ((i 1).val / 512) + (i 0).val / 544, by show _ < 8; omega⟩ : Fin grid0.N), ⟨(i 0).val % 544, Nat.mod_lt _ (by decide)⟩,
    ⟨(i 1).val % 512, Nat.mod_lt _ (by decide)⟩, ?_⟩
  funext a; apply Fin.ext
  match a with
  | ⟨0, _⟩ => show (i 0).val = (4 * ((i 1).val / 512) + (i 0).val / 544) % 4 * 544 + (i 0).val % 544; omega
  | ⟨1, _⟩ => show (i 1).val = (4 * ((i 1).val / 512) + (i 0).val / 544) / 4 * 512 + (i 1).val % 512; omega

theorem final (c : Dev nD) : (dats m 0 c).arrAt 6 cfg0.N = result m c :=
  (dats m 0 c).arrAt_eq_of_cover 6 (result m c) (flushed_out m c) fun i => by
    obtain ⟨t, r, l, rfl⟩ := split_block i
    refine ⟨t, flush0_6 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

theorem frame_r : Cert.quiescent_RMergeFIdeal := fun m ρ _ =>
  (θ_run _ _ _).mono (fun r h => ⟨fun c => (h c).2, sem_eq_zero_of_no_sems (by decide) r.2⟩) (Cert.RMergeFIdeal.Value.run m ρ)

theorem algebraic : Cert.algebraic_KMergeFIdeal_RMergeFIdeal := by
  intro m g m' g' _ hm
  refine ⟨fun c => result m c, run m g, ?_⟩
  refine (θ_run _ _ _).mono (fun r h c => ⟨?_, (h c).2⟩) (Cert.RMergeFIdeal.Value.run m' g')
  rw [(h c).1, (hm c).1, (hm c).2.1, (hm c).2.2.1, (hm c).2.2.2]
  rfl

end Cert.Proof.MergeF

end
-- ==== Proof.ConvCF.lean ====
/-
  Hand-written, untrusted. The convolution before the state space mixer, `KConvCFIdeal`, over the extended reals. A point of the grid is a block
  of 128 columns, whole: the kernel rotates its rows, under 112 rows of zeros, where the reference cuts and pads them. The flag of the
  kernel's norm is zero at each of its points. The result is the reference's `val_main_v36`.
-/
module

public import proofs.«01_k».proof.Defs
public import proofs.«01_k».proof.Proof.Gen.KConvCFIdeal.Value
public import proofs.«01_k».proof.Proof.Gen.RConvCFIdeal.Run
public import proofs.«01_k».proof.Proof.Gen.RConvCFIdeal.Read
public import proofs.«01_k».proof.Proof.ConvC
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.ConvCF

open Idealize.ShloMosaic Idealize.SL.Sem Cert.KConvCFIdeal
open Cert.KConvCFIdeal.Gen Idealize.ShloMosaic.TcCoe
open Cert.Proof.Conv
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The activation `p * logistic p` of a column's convolution. -/
def convSilu (x : Fin 2064 → EReal) (w : Fin 4 → EReal) (b : EReal) (n : Fin 2064) : EReal := conv x w b n * Ideal.logistic (conv x w b n)

section Kernel

variable (x0 : Vec Ideal S2176x128 .f32) (x1 : Vec Ideal S4x128 .f32) (x2 : Vec Ideal S1x128 .f32) (i : grid0.Coords) (R : Fin 2176) (k : Fin 128)

theorem flag_apply : k0_pay2 (F := Ideal) i = 0 := ConvC.flag_apply i
theorem keep_one (h : 112 ≤ R.val) : k0_pay3 (F := Ideal) (ix2 R 0) = 1 := ConvC.keep_one R h
theorem keep_zero (h : ¬112 ≤ R.val) : k0_pay3 (F := Ideal) (ix2 R 0) = 0 := ConvC.keep_zero R h

/-- The convolution by rotations. -/
def rotated : EReal := x2 (ix2 0 k) + x1 (ix2 0 k) * x0 (ix2 ⟨(R.val + 2176 - 3) % 2176, Nat.mod_lt _ (by decide)⟩ k)
    + x1 (ix2 1 k) * x0 (ix2 ⟨(R.val + 2176 - 2) % 2176, Nat.mod_lt _ (by decide)⟩ k)
    + x1 (ix2 2 k) * x0 (ix2 ⟨(R.val + 2176 - 1) % 2176, Nat.mod_lt _ (by decide)⟩ k) + x1 (ix2 3 k) * x0 (ix2 R k)

theorem pay4_apply : k0_pay4 x0 x1 x2 (ix2 R k) = rotated x0 x1 x2 R k * Ideal.logistic (rotated x0 x1 x2 R k) := by
  unfold rotated
  pointwise [k0_pay4]

theorem pay1_apply (f : EReal) (kp : FVec Ideal S2176x1 .f32) (a b : FVec Ideal S2176x128 .f32) :
    k0_pay1 (F := Ideal) f kp a b (Scalar.ofBits .f32 0x3F800000#32) (ix2 R k) = (b (ix2 R k) + (1 - f) * a (ix2 R k)) * kp (ix2 R 0) := by
  pointwise [k0_pay1]

theorem pay5_apply : k0_pay5 i x0 x1 x2 (ix2 R k) = k0_pay2 (F := Ideal) i * (k0_pay4 x0 x1 x2 (ix2 R k)
    * Ideal.rsqrt ((∑ l, k0_pay4 x0 x1 x2 (ix2 R l) * k0_pay4 x0 x1 x2 (ix2 R l)) + Ideal.ofBits .f32 0x358637BD#32)) := by
  pointwise [k0_pay5]

/-- The column's taps. -/
abbrev taps : Fin 4 → EReal := fun j => x1 (ix2 j k)

theorem rotated_eq (x : Fin 2064 → EReal) (hx : ∀ R, x0 (ix2 R k) = padded x R) (h : 112 ≤ R.val) :
    rotated x0 x1 x2 R k = conv x (taps x1 k) (x2 (ix2 0 k)) ⟨R.val - 112, by omega⟩ := by
  unfold rotated
  simp only [hx]
  rw [padded_before x R h 3 (by decide), padded_before x R h 2 (by decide), padded_before x R h 1 (by decide),
    show padded x R = x ⟨R.val - 112, by omega⟩ from dif_pos h]
  rfl

/-- What the body leaves for the result. -/
theorem out_apply (x : Fin 2064 → EReal) (hx : ∀ R, x0 (ix2 R k) = padded x R) :
    out0_3 i x0 x1 x2 (ix2 R k) = padded (convSilu x (taps x1 k) (x2 (ix2 0 k))) R := by
  unfold out0_3
  rw [View.canon_cons_unit_zero (S := S2176x128) hz]
  simp only [View.ld_unit_zero (S := S2176x128) hz, View.ld_unit_zero (S := S4x128) hz, View.ld_unit_zero (S := S1x128) hz]
  rw [pay1_apply, pay5_apply, flag_apply, zero_mul, zero_add, sub_zero, one_mul]
  unfold padded
  by_cases h : 112 ≤ R.val
  · rw [dif_pos h, keep_one R h, mul_one, pay4_apply, rotated_eq x0 x1 x2 R k x hx h]
    rfl
  · rw [dif_neg h, keep_zero R h, mul_zero]

end Kernel

section Reference

variable (y0 : Vec Ideal S2064x16000 .f32) (y1 : Vec Ideal S4x2560 .f32) (y2 : Vec Ideal S2560 .f32) (n : Fin 2064) (q : Fin 2560)

abbrev projCol : Fin 2064 → EReal := fun n => y0 (ix2 n ⟨10240 + q.val, by omega⟩)
abbrev tapCol : Fin 4 → EReal := fun j => y1 (ix2 j q)

theorem v34_apply : Cert.RConvCFIdeal.Read.val_main_v34 (F := Ideal) y0 y1 y2 (ix2 n q) = conv (projCol y0 q) (tapCol y1 q) (y2 (ix1 q)) n := by
  rw [conv_eq]
  pointwise [Cert.RConvCFIdeal.Read.val_main_v34, Cert.RConvCFIdeal.Read.val_main_v31, Cert.RConvCFIdeal.Read.val_main_v24,
    Cert.RConvCFIdeal.Read.val_main_v17, Cert.RConvCFIdeal.Read.val_main_v10, Cert.RConvCFIdeal.Read.val_main_v9,
    Cert.RConvCFIdeal.Read.val_main_cst_0, Cert.RConvCFIdeal.Read.val_main_v8, Cert.RConvCFIdeal.Read.val_main_v7,
    Cert.RConvCFIdeal.Read.val_main_v6, Cert.RConvCFIdeal.Read.val_main_v4, Cert.RConvCFIdeal.Read.val_main_v3,
    Cert.RConvCFIdeal.Read.val_main_v5, Cert.RConvCFIdeal.Read.val_main_v2, Cert.RConvCFIdeal.Read.val_main_v1,
    Cert.RConvCFIdeal.Read.val_main_cst, Cert.RConvCFIdeal.Read.val_main_v0, Cert.RConvCFIdeal.Read.val_main_v16,
    Cert.RConvCFIdeal.Read.val_main_v15, Cert.RConvCFIdeal.Read.val_main_v14, Cert.RConvCFIdeal.Read.val_main_v12,
    Cert.RConvCFIdeal.Read.val_main_v11, Cert.RConvCFIdeal.Read.val_main_v13, Cert.RConvCFIdeal.Read.val_main_v23,
    Cert.RConvCFIdeal.Read.val_main_v22, Cert.RConvCFIdeal.Read.val_main_v21, Cert.RConvCFIdeal.Read.val_main_v19,
    Cert.RConvCFIdeal.Read.val_main_v18, Cert.RConvCFIdeal.Read.val_main_v20, Cert.RConvCFIdeal.Read.val_main_v30,
    Cert.RConvCFIdeal.Read.val_main_v29, Cert.RConvCFIdeal.Read.val_main_v28, Cert.RConvCFIdeal.Read.val_main_v26,
    Cert.RConvCFIdeal.Read.val_main_v25, Cert.RConvCFIdeal.Read.val_main_v27, Cert.RConvCFIdeal.Read.val_main_v33,
    Cert.RConvCFIdeal.Read.val_main_v32]

theorem v35_apply : Cert.RConvCFIdeal.Read.val_main_v35 (F := Ideal) y0 y1 y2 (ix2 n q)
    = convSilu (projCol y0 q) (tapCol y1 q) (y2 (ix1 q)) n := by
  pointwise [v34_apply, Cert.RConvCFIdeal.Read.val_main_v35, Cert.RConvCFIdeal.Read.val_main_call0_v5,
    Cert.RConvCFIdeal.Read.val_main_call0_v4, Cert.RConvCFIdeal.Read.val_main_call0_cst_0,
    Cert.RConvCFIdeal.Read.val_main_call0_v3, Cert.RConvCFIdeal.Read.val_main_call0_v2,
    Cert.RConvCFIdeal.Read.val_main_call0_cst, Cert.RConvCFIdeal.Read.val_main_call0_v1,
    Cert.RConvCFIdeal.Read.val_main_call0_v0]
  rfl

theorem result_apply (R : Fin 2176) : Cert.RConvCFIdeal.Read.val_main_v36 (F := Ideal) y0 y1 y2 (ix2 R q)
    = padded (convSilu (projCol y0 q) (tapCol y1 q) (y2 (ix1 q))) R := by
  pointwise [Cert.RConvCFIdeal.Read.val_main_v36, Cert.RConvCFIdeal.Read.val_main_call1_v0, Cert.RConvCFIdeal.Read.val_main_c]
  unfold padded
  by_cases h : 112 ≤ R.val
  · rw [dif_pos ⟨h, by omega⟩, dif_pos h]
    exact v35_apply y0 y1 y2 ⟨R.val - 112, by omega⟩ q
  · rw [dif_neg (fun c => h c.1), dif_neg h]
    show ((((0#32 : BitVec 32).toInt : ℤ) : ℝ) : EReal) = 0
    simp

end Reference

/-- Column `k` of point `t`'s block. -/
abbrev col (t : Fin cfg0.N) (k : Fin 128) : Fin 2560 := ⟨t.val * 128 + k.val, by
  have ht : t.val < 20 := t.isLt
  omega⟩

/-- Each window is at column block `t`, the projections' 80 blocks further. -/
theorem index_t : ∀ t : Fin cfg0.N, win0_0.index t = ![0, 80 + t.val] ∧ win0_1.index t = ![0, t.val] ∧ win0_2.index t = ![0, t.val] ∧ win0_3.index t = ![0, t.val] :=
  (by decide +kernel : ∀ t : Fin grid0.N, win0_0.index t = ![0, 80 + t.val] ∧ win0_1.index t = ![0, t.val] ∧ win0_2.index t = ![0, t.val] ∧ win0_3.index t = ![0, t.val])

/-! The arrays as the region finds them: the host's padding of the projections, and its row of the bias. -/

theorem proj_rows (c : Dev nD) : V m c main_v0 = pad S2176x16000 ![112, 0] ![0, 0] ![0, 0] (m ((c : Thread nD τ).loc main_arg0))
    (sitofp (F := Ideal) .f32 (constantI S_ 32 0#32)) pads_S2064x16000_S2176x16000_11200_000 h_S_ := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem bias_row (c : Dev nD) : V m c main_v1 = broadcastInDim S1x2560 ![1] bcast_S2560_S1x2560_1 (m ((c : Thread nD τ).loc main_arg2)) := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem iblk0_apply (c : Dev nD) (t : Fin cfg0.N) (R : Fin 2176) (k : Fin 128) :
    iblk m c 0 t (ix2 R k) = padded (projCol (m ((c : Thread nD τ).loc main_arg0)) (col t k)) R := by
  show V m c main_v0 ((win0_0.rect t).emb (ix2 R k)) = _
  have ht : t.val < 20 := t.isLt
  have e : ((win0_0.rect t).emb (ix2 R k) : S2176x16000.Idx) = ix2 R ⟨10240 + (t.val * 128 + k.val), by omega⟩ := by
    funext a; apply Fin.ext
    rw [Pipeline.Window.rect_emb_val win0_0 t _ a rfl, (index_t t).1]
    match a with
    | ⟨0, _⟩ => show 0 * 2176 + R.val = R.val; omega
    | ⟨1, _⟩ => show (80 + t.val) * 128 + k.val = 10240 + (t.val * 128 + k.val); omega
  rw [proj_rows, e]
  exact ConvC.pad_rows_apply _ _ _

theorem iblk1_apply (c : Dev nD) (t : Fin cfg0.N) (j : Fin 4) (k : Fin 128) :
    iblk m c 1 t (ix2 j k) = m ((c : Thread nD τ).loc main_arg1) (ix2 j (col t k)) := by
  show V m c main_arg1 ((win0_1.rect t).emb (ix2 j k)) = _
  rw [V_main_arg1]
  congr 1
  funext a; apply Fin.ext
  rw [Pipeline.Window.rect_emb_val win0_1 t _ a rfl, (index_t t).2.1]
  match a with
  | ⟨0, _⟩ => show 0 * 4 + j.val = j.val; omega
  | ⟨1, _⟩ => rfl

theorem iblk2_apply (c : Dev nD) (t : Fin cfg0.N) (k : Fin 128) : iblk m c 2 t (ix2 0 k) = m ((c : Thread nD τ).loc main_arg2) (ix1 (col t k)) := by
  show V m c main_v1 ((win0_2.rect t).emb (ix2 0 k)) = _
  have e : ((win0_2.rect t).emb (ix2 0 k) : S1x2560.Idx) = ix2 0 (col t k) := by
    funext a; apply Fin.ext
    rw [Pipeline.Window.rect_emb_val win0_2 t _ a rfl, (index_t t).2.2.1]
    fin_cases a <;> rfl
  rw [bias_row, e]
  pointwise

/-- The array the run leaves. -/
abbrev result (c : Dev nD) : Buf (Elt Ideal) ((c : Thread nD τ).loc main_v2) :=
  Cert.RConvCFIdeal.Read.val_main_v36 (F := Ideal) (m ((c : Thread nD τ).loc main_arg0)) (m ((c : Thread nD τ).loc main_arg1)) (m ((c : Thread nD τ).loc main_arg2))

theorem taps_iblk (c : Dev nD) (t : Fin cfg0.N) (k : Fin 128) : taps (iblk m c 1 t) k = tapCol (m ((c : Thread nD τ).loc main_arg1)) (col t k) :=
  funext fun j => iblk1_apply m c t j k

/-- The point and the place of a column. -/
theorem split_col (l : Fin 2560) : ∃ (t : Fin cfg0.N) (k : Fin 128), l = col t k :=
  ⟨(⟨l.val / 128, by show _ < 20; omega⟩ : Fin grid0.N), ⟨l.val % 128, Nat.mod_lt _ (by decide)⟩, Fin.ext (Nat.div_add_mod' l.val 128).symm⟩

theorem emb_out (t : Fin cfg0.N) (R : Fin 2176) (k : Fin 128) : ((win0_3.rect t).emb (ix2 R k) : S2176x2560.Idx) = ix2 R (col t k) := by
  funext a; apply Fin.ext
  rw [Pipeline.Window.rect_emb_val win0_3 t _ a rfl, (index_t t).2.2.2]
  match a with
  | ⟨0, _⟩ => show 0 * 2176 + R.val = R.val; omega
  | ⟨1, _⟩ => rfl

theorem final (c : Dev nD) : (dats m 0 c).arrAt 3 cfg0.N = result m c := by
  refine (dats m 0 c).arrAt_eq_of_cover 3 (result m c) (fun t _ => ?_) fun i => ?_
  · rw [Value.flushed3 m c t]
    funext y
    obtain ⟨R, k, rfl⟩ : ∃ (R : Fin 2176) (k : Fin 128), y = ix2 R k := ⟨y 0, y 1, by pointwise⟩
    show out0_3 (grid0.coords t) (iblk m c 0 t) (iblk m c 1 t) (iblk m c 2 t) (ix2 R k) = result m c ((win0_3.rect t).emb (ix2 R k))
    rw [emb_out]
    rw [show result m c _ = _ from result_apply _ _ _ _ _,
      out_apply _ _ _ _ R k (projCol (m ((c : Thread nD τ).loc main_arg0)) (col t k)) (fun R => iblk0_apply m c t R k)]
    rw [taps_iblk, iblk2_apply]
  · obtain ⟨R, l, rfl⟩ : ∃ (R : Fin 2176) (l : Fin 2560), i = ix2 R l := ⟨i 0, i 1, by pointwise⟩
    obtain ⟨t, k, rfl⟩ := split_col l
    refine ⟨t, flush0_3 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

theorem frame_r : Cert.quiescent_RConvCFIdeal := fun m ρ _ =>
  (θ_run _ _ _).mono (fun r h => ⟨fun c => (h c).2, sem_eq_zero_of_no_sems (by decide) r.2⟩) (Cert.RConvCFIdeal.Value.run m ρ)

theorem algebraic : Cert.algebraic_KConvCFIdeal_RConvCFIdeal := by
  intro m g m' g' _ hm
  refine ⟨fun c => result m c, run m g, ?_⟩
  refine (θ_run _ _ _).mono (fun r h c => ⟨?_, (h c).2⟩) (Cert.RConvCFIdeal.Value.run m' g')
  rw [(h c).1.trans (Cert.RConvCFIdeal.Read.val_main_v36_eq m' c), (hm c).1, (hm c).2.1, (hm c).2.2]

end Cert.Proof.ConvCF

end
-- ==== Proof.ConvBF.lean ====
/-
  Hand-written, untrusted. The convolution before the delta rule, `KConvBFIdeal`, over the extended reals. A point of the grid is a block of 128
  columns, whole, which is one head: the kernel's flag is one at the blocks of the queries and keys, which go through the norm of the
  head, and zero at the values'. The result is the reference's `val_main_v57`.
-/
module

public import proofs.«01_k».proof.Defs
public import proofs.«01_k».proof.Proof.Gen.KConvBFIdeal.Value
public import proofs.«01_k».proof.Proof.Gen.RConvBFIdeal.Run
public import proofs.«01_k».proof.Proof.Gen.RConvBFIdeal.Read
public import proofs.«01_k».proof.Proof.ConvB
public import proofs.«01_k».proof.Proof.ConvCF
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.ConvBF

open Idealize.ShloMosaic Idealize.SL.Sem Cert.KConvBFIdeal
open Cert.KConvBFIdeal.Gen Idealize.ShloMosaic.TcCoe
open Cert.Proof.Conv
open Idealize.ShloMosaic.Pipeline (Dat)

variable (m : (ℓ : Loc nD τ sig) → Buf (Elt Ideal) ℓ)

theorem hz : (![0, 0] : Fin 2 → Nat) = fun _ => 0 := funext fun a => by fin_cases a <;> rfl

open Cert.Proof.ConvB (act sumSq projCol tapCol qCol kCol headCol heads_idx)

/-- Column `k` of block `t` after the activation, with the norm of the head where it is a query's or a key's. -/
def blockValue (t : ℕ) (x : Fin 128 → Fin 2064 → EReal) (w : Fin 128 → Fin 4 → EReal) (k : Fin 128) (n : Fin 2064) : EReal :=
  if t < 16 then act (fun l => conv (x l) (w l) 0 n) k * Ideal.rsqrt (sumSq fun l => conv (x l) (w l) 0 n)
  else act (fun l => conv (x l) (w l) 0 n) k

section Kernel

variable (x0 : Vec Ideal S2176x128 .f32) (x1 : Vec Ideal S4x128 .f32) (x2 : Vec Ideal S1x128 .f32) (i : grid0.Coords) (R : Fin 2176) (k : Fin 128)

theorem flag_one (h : (i 0).val < 16) : k0_pay2 (F := Ideal) i = 1 := ConvB.flag_one i h
theorem flag_zero (h : ¬(i 0).val < 16) : k0_pay2 (F := Ideal) i = 0 := ConvB.flag_zero i h
theorem keep_one (h : 112 ≤ R.val) : k0_pay3 (F := Ideal) (ix2 R 0) = 1 := ConvC.keep_one R h
theorem keep_zero (h : ¬112 ≤ R.val) : k0_pay3 (F := Ideal) (ix2 R 0) = 0 := ConvC.keep_zero R h

theorem pay5_apply : k0_pay5 i x0 x1 x2 (ix2 R k) = k0_pay2 (F := Ideal) i * (k0_pay4 x0 x1 x2 (ix2 R k)
    * Ideal.rsqrt ((∑ l, k0_pay4 x0 x1 x2 (ix2 R l) * k0_pay4 x0 x1 x2 (ix2 R l)) + Ideal.ofBits .f32 0x358637BD#32)) := by
  pointwise [k0_pay5]

/-- The columns' taps. -/
abbrev taps : Fin 128 → Fin 4 → EReal := fun k j => x1 (ix2 j k)

variable (x : Fin 128 → Fin 2064 → EReal) (hx : ∀ R k, x0 (ix2 R k) = padded (x k) R) (hb : ∀ k, x2 (ix2 0 k) = 0)
include hx hb

theorem act_apply (h : 112 ≤ R.val) : k0_pay4 x0 x1 x2 (ix2 R k) = act (fun l => conv (x l) (taps x1 l) 0 ⟨R.val - 112, by omega⟩) k := by
  refine (ConvCF.pay4_apply x0 x1 x2 R k).trans ?_
  rw [ConvCF.rotated_eq x0 x1 x2 R k (x k) (fun R => hx R k) h, hb]

/-- What the body leaves for the result. -/
theorem out_apply : out0_3 i x0 x1 x2 (ix2 R k) = padded (blockValue (i 0).val x (taps x1) k) R := by
  unfold out0_3
  rw [View.canon_cons_unit_zero (S := S2176x128) hz]
  simp only [View.ld_unit_zero (S := S2176x128) hz, View.ld_unit_zero (S := S4x128) hz, View.ld_unit_zero (S := S1x128) hz]
  refine (ConvCF.pay1_apply R k (k0_pay2 (F := Ideal) i) k0_pay3 (k0_pay4 x0 x1 x2) (k0_pay5 i x0 x1 x2)).trans ?_
  unfold padded
  by_cases h : 112 ≤ R.val
  · rw [dif_pos h, keep_one R h, mul_one, pay5_apply]
    simp only [act_apply x0 x1 x2 R _ x hx hb h]
    unfold blockValue
    by_cases f : (i 0).val < 16
    · rw [flag_one i f, if_pos f, one_mul, show (1 : EReal) - 1 = 0 from EReal.sub_self (EReal.coe_ne_top 1) (EReal.coe_ne_bot 1), zero_mul, add_zero]
      rfl
    · rw [flag_zero i f, if_neg f, zero_mul, zero_add, sub_zero, one_mul]
  · rw [dif_neg h, keep_zero R h, mul_zero]

end Kernel

section Reference

variable (y0 : Vec Ideal S2064x16000 .f32) (y1 : Vec Ideal S4x3072 .f32) (n : Fin 2064) (q : Fin 3072)

theorem v31_apply : Cert.RConvBFIdeal.Read.val_main_v31 (F := Ideal) y0 y1 (ix2 n q) = conv (projCol y0 q) (tapCol y1 q) 0 n := by
  rw [conv_eq, add_zero]
  pointwise [Cert.RConvBFIdeal.Read.val_main_v31, Cert.RConvBFIdeal.Read.val_main_v24, Cert.RConvBFIdeal.Read.val_main_v17,
    Cert.RConvBFIdeal.Read.val_main_v10, Cert.RConvBFIdeal.Read.val_main_v9, Cert.RConvBFIdeal.Read.val_main_cst_0,
    Cert.RConvBFIdeal.Read.val_main_v8, Cert.RConvBFIdeal.Read.val_main_v7, Cert.RConvBFIdeal.Read.val_main_v6,
    Cert.RConvBFIdeal.Read.val_main_v4, Cert.RConvBFIdeal.Read.val_main_v3, Cert.RConvBFIdeal.Read.val_main_v5,
    Cert.RConvBFIdeal.Read.val_main_v2, Cert.RConvBFIdeal.Read.val_main_v1, Cert.RConvBFIdeal.Read.val_main_cst,
    Cert.RConvBFIdeal.Read.val_main_v0, Cert.RConvBFIdeal.Read.val_main_v16, Cert.RConvBFIdeal.Read.val_main_v15,
    Cert.RConvBFIdeal.Read.val_main_v14, Cert.RConvBFIdeal.Read.val_main_v12, Cert.RConvBFIdeal.Read.val_main_v11,
    Cert.RConvBFIdeal.Read.val_main_v13, Cert.RConvBFIdeal.Read.val_main_v23, Cert.RConvBFIdeal.Read.val_main_v22,
    Cert.RConvBFIdeal.Read.val_main_v21, Cert.RConvBFIdeal.Read.val_main_v19, Cert.RConvBFIdeal.Read.val_main_v18,
    Cert.RConvBFIdeal.Read.val_main_v20, Cert.RConvBFIdeal.Read.val_main_v30, Cert.RConvBFIdeal.Read.val_main_v29,
    Cert.RConvBFIdeal.Read.val_main_v28, Cert.RConvBFIdeal.Read.val_main_v26, Cert.RConvBFIdeal.Read.val_main_v25,
    Cert.RConvBFIdeal.Read.val_main_v27]

theorem v32_apply : Cert.RConvBFIdeal.Read.val_main_v32 (F := Ideal) y0 y1 (ix2 n q)
    = conv (projCol y0 q) (tapCol y1 q) 0 n * Ideal.logistic (conv (projCol y0 q) (tapCol y1 q) 0 n) := by
  pointwise [v31_apply, Cert.RConvBFIdeal.Read.val_main_v32, Cert.RConvBFIdeal.Read.val_main_call0_v5,
    Cert.RConvBFIdeal.Read.val_main_call0_v4, Cert.RConvBFIdeal.Read.val_main_call0_cst_0,
    Cert.RConvBFIdeal.Read.val_main_call0_v3, Cert.RConvBFIdeal.Read.val_main_call0_v2,
    Cert.RConvBFIdeal.Read.val_main_call0_cst, Cert.RConvBFIdeal.Read.val_main_call0_v1,
    Cert.RConvBFIdeal.Read.val_main_call0_v0]
  rfl

variable (h : Fin 8) (k : Fin 128)

/-- Row `n` of a head of queries and of a head of keys, before the activation. -/
abbrev qRow : Fin 128 → EReal := fun l => conv (projCol y0 (qCol h l)) (tapCol y1 (qCol h l)) 0 n
abbrev kRow : Fin 128 → EReal := fun l => conv (projCol y0 (kCol h l)) (tapCol y1 (kCol h l)) 0 n

theorem v34_apply : Cert.RConvBFIdeal.Read.val_main_v34 (F := Ideal) y0 y1 (ix3 n h k) = act (qRow y0 y1 n h) k := by
  rw [Cert.RConvBFIdeal.Read.val_main_v34_apply]
  refine (congrArg (Cert.RConvBFIdeal.Read.val_main_v33 (F := Ideal) y0 y1) (heads_idx n h k rfl rfl)).trans ?_
  pointwise [v32_apply, Cert.RConvBFIdeal.Read.val_main_v33]

theorem v36_apply : Cert.RConvBFIdeal.Read.val_main_v36 (F := Ideal) y0 y1 (ix3 n h k) = act (kRow y0 y1 n h) k := by
  rw [Cert.RConvBFIdeal.Read.val_main_v36_apply]
  refine (congrArg (Cert.RConvBFIdeal.Read.val_main_v35 (F := Ideal) y0 y1) (heads_idx n h k rfl rfl)).trans ?_
  pointwise [v32_apply, Cert.RConvBFIdeal.Read.val_main_v35]

theorem v45_apply : Cert.RConvBFIdeal.Read.val_main_v45 (F := Ideal) y0 y1 (ix3 n h k)
    = act (qRow y0 y1 n h) k * Ideal.rsqrt (sumSq (qRow y0 y1 n h)) := by
  pointwise [v34_apply, Cert.RConvBFIdeal.Read.val_main_v45, Cert.RConvBFIdeal.Read.val_main_v44,
    Cert.RConvBFIdeal.Read.val_main_v43, Cert.RConvBFIdeal.Read.val_main_v42, Cert.RConvBFIdeal.Read.val_main_v40,
    Cert.RConvBFIdeal.Read.val_main_v39, Cert.RConvBFIdeal.Read.val_main_v38, Cert.RConvBFIdeal.Read.val_main_cst_1,
    Cert.RConvBFIdeal.Read.val_main_v41, Cert.RConvBFIdeal.Read.val_main_cst_2]
  rfl

theorem v54_apply : Cert.RConvBFIdeal.Read.val_main_v54 (F := Ideal) y0 y1 (ix3 n h k)
    = act (kRow y0 y1 n h) k * Ideal.rsqrt (sumSq (kRow y0 y1 n h)) := by
  pointwise [v36_apply, Cert.RConvBFIdeal.Read.val_main_v54, Cert.RConvBFIdeal.Read.val_main_v53,
    Cert.RConvBFIdeal.Read.val_main_v52, Cert.RConvBFIdeal.Read.val_main_v51, Cert.RConvBFIdeal.Read.val_main_v49,
    Cert.RConvBFIdeal.Read.val_main_v48, Cert.RConvBFIdeal.Read.val_main_v47, Cert.RConvBFIdeal.Read.val_main_cst_3,
    Cert.RConvBFIdeal.Read.val_main_v50, Cert.RConvBFIdeal.Read.val_main_cst_4]
  rfl

/-- The reshape of the heads back to columns. -/
theorem cols_idx {f : (⟨3, ![2064, 8, 128]⟩ : Shape).Idx} (e0 : (f 0).val = (n.val * 1024 + (h.val * 128 + k.val)) / 1024)
    (e1 : (f 1).val = (n.val * 1024 + (h.val * 128 + k.val)) / 128 % 8) (e2 : (f 2).val = (n.val * 1024 + (h.val * 128 + k.val)) % 128) :
    f = ix3 n h k := by
  funext a; apply Fin.ext
  match a with
  | ⟨0, _⟩ => exact e0.trans (show _ = n.val by omega)
  | ⟨1, _⟩ => exact e1.trans (show _ = h.val by omega)
  | ⟨2, _⟩ => exact e2.trans (show _ = k.val by omega)

theorem v46_apply : Cert.RConvBFIdeal.Read.val_main_v46 (F := Ideal) y0 y1 (ix2 n (headCol h k))
    = Cert.RConvBFIdeal.Read.val_main_v45 (F := Ideal) y0 y1 (ix3 n h k) := by
  rw [Cert.RConvBFIdeal.Read.val_main_v46_apply]
  exact congrArg (Cert.RConvBFIdeal.Read.val_main_v45 (F := Ideal) y0 y1) (cols_idx n h k rfl rfl rfl)

theorem v55_apply : Cert.RConvBFIdeal.Read.val_main_v55 (F := Ideal) y0 y1 (ix2 n (headCol h k))
    = Cert.RConvBFIdeal.Read.val_main_v54 (F := Ideal) y0 y1 (ix3 n h k) := by
  rw [Cert.RConvBFIdeal.Read.val_main_v55_apply]
  exact congrArg (Cert.RConvBFIdeal.Read.val_main_v54 (F := Ideal) y0 y1) (cols_idx n h k rfl rfl rfl)

theorem v56_q : Cert.RConvBFIdeal.Read.val_main_v56 (F := Ideal) y0 y1 (ix2 n (qCol h k))
    = act (qRow y0 y1 n h) k * Ideal.rsqrt (sumSq (qRow y0 y1 n h)) := by
  pointwise [Cert.RConvBFIdeal.Read.val_main_v56]
  rw [dif_pos (by omega)]
  exact (v46_apply y0 y1 n h k).trans (v45_apply y0 y1 n h k)

theorem v56_k : Cert.RConvBFIdeal.Read.val_main_v56 (F := Ideal) y0 y1 (ix2 n (kCol h k))
    = act (kRow y0 y1 n h) k * Ideal.rsqrt (sumSq (kRow y0 y1 n h)) := by
  pointwise [Cert.RConvBFIdeal.Read.val_main_v56]
  rw [dif_pos (by omega)]
  exact (v55_apply y0 y1 n h k).trans (v54_apply y0 y1 n h k)

theorem v56_v (c : 2048 ≤ q.val) : Cert.RConvBFIdeal.Read.val_main_v56 (F := Ideal) y0 y1 (ix2 n q)
    = conv (projCol y0 q) (tapCol y1 q) 0 n * Ideal.logistic (conv (projCol y0 q) (tapCol y1 q) 0 n) := by
  rw [← v32_apply]
  pointwise [Cert.RConvBFIdeal.Read.val_main_v56, Cert.RConvBFIdeal.Read.val_main_v37]
  rw [dif_neg (by omega), dif_neg (by omega)]
  congr 2
  exact Fin.ext (Nat.add_sub_cancel' c)

/-- Column `k` of point `t`'s block. -/
abbrev col (t : Fin cfg0.N) (k : Fin 128) : Fin 3072 := ⟨t.val * 128 + k.val, by
  have ht : t.val < 24 := t.isLt
  omega⟩

/-- Column `k` of point `t`'s block of the result. -/
abbrev pointValue (t : Fin cfg0.N) : Fin 2064 → EReal := blockValue t.val (fun l => projCol y0 (col t l)) (fun l => tapCol y1 (col t l)) k

theorem v56_apply (t : Fin cfg0.N) : Cert.RConvBFIdeal.Read.val_main_v56 (F := Ideal) y0 y1 (ix2 n (col t k)) = pointValue y0 y1 k t n := by
  show _ = blockValue _ _ _ k n
  unfold blockValue
  by_cases c : t.val < 16
  · rw [if_pos c]
    by_cases c' : t.val < 8
    · exact v56_q y0 y1 n ⟨t.val, c'⟩ k
    · have e (l) : col t l = kCol ⟨t.val - 8, by omega⟩ l := Fin.ext (by show t.val * 128 + l.val = 1024 + ((t.val - 8) * 128 + l.val); omega)
      simp only [e]
      exact v56_k y0 y1 n ⟨t.val - 8, by omega⟩ k
  · rw [if_neg c]
    exact v56_v y0 y1 n (col t k) (by show 2048 ≤ t.val * 128 + k.val; omega)

theorem result_apply (g : Fin 2064 → EReal) (hg : ∀ n, Cert.RConvBFIdeal.Read.val_main_v56 (F := Ideal) y0 y1 (ix2 n q) = g n) (R : Fin 2176) :
    Cert.RConvBFIdeal.Read.val_main_v57 (F := Ideal) y0 y1 (ix2 R q) = padded g R := by
  pointwise [Cert.RConvBFIdeal.Read.val_main_v57, Cert.RConvBFIdeal.Read.val_main_call1_v0, Cert.RConvBFIdeal.Read.val_main_c]
  unfold padded
  by_cases h : 112 ≤ R.val
  · rw [dif_pos ⟨h, by omega⟩, dif_pos h]
    exact hg ⟨R.val - 112, by omega⟩
  · rw [dif_neg (fun c => h c.1), dif_neg h]
    show ((((0#32 : BitVec 32).toInt : ℤ) : ℝ) : EReal) = 0
    simp

end Reference

/-- The coordinate of a point. -/
theorem coord_t : ∀ t : Fin cfg0.N, (grid0.coords t 0).val = t.val :=
  (by decide +kernel : ∀ t : Fin grid0.N, (grid0.coords t 0).val = t.val)

/-- Each window is at column block `t`, the projections' 32 blocks further. -/
theorem index_t : ∀ t : Fin cfg0.N, win0_0.index t = ![0, 32 + t.val] ∧ win0_1.index t = ![0, t.val] ∧ win0_2.index t = ![0, t.val] ∧ win0_3.index t = ![0, t.val] :=
  (by decide +kernel : ∀ t : Fin grid0.N, win0_0.index t = ![0, 32 + t.val] ∧ win0_1.index t = ![0, t.val] ∧ win0_2.index t = ![0, t.val] ∧ win0_3.index t = ![0, t.val])

/-! The arrays as the region finds them: the host's padding of the projections, and its row of the bias. -/

theorem proj_rows (c : Dev nD) : V m c main_v0 = pad S2176x16000 ![112, 0] ![0, 0] ![0, 0] (m ((c : Thread nD τ).loc main_arg0))
    (sitofp (F := Ideal) .f32 (constantI S_ 32 0#32)) pads_S2064x16000_S2176x16000_11200_000 h_S_ := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem bias_row (c : Dev nD) : V m c main_v1 = broadcastInDim S1x3072 ![] bcast_S_S1x3072 (constant (F := Ideal) S_ .f32 0x00000000#32) := by
  unfold_abbrev_sides
  simp only [hostOps0, hostOps0_1, hostOps0_2, StableHlo.TRef.unary, StableHlo.TRef.binary, StableHlo.TRef.toBuf, StableHlo.TRef.ofBuf, cast_eq,
    List.flatten_cons, List.flatten_nil, List.append_nil, List.cons_append, List.nil_append]
  after_results

theorem iblk0_apply (c : Dev nD) (t : Fin cfg0.N) (R : Fin 2176) (k : Fin 128) :
    iblk m c 0 t (ix2 R k) = padded (projCol (m ((c : Thread nD τ).loc main_arg0)) (col t k)) R := by
  show V m c main_v0 ((win0_0.rect t).emb (ix2 R k)) = _
  have ht : t.val < 24 := t.isLt
  have e : ((win0_0.rect t).emb (ix2 R k) : S2176x16000.Idx) = ix2 R ⟨4096 + (t.val * 128 + k.val), by omega⟩ := by
    funext a; apply Fin.ext
    rw [Pipeline.Window.rect_emb_val win0_0 t _ a rfl, (index_t t).1]
    match a with
    | ⟨0, _⟩ => show 0 * 2176 + R.val = R.val; omega
    | ⟨1, _⟩ => show (32 + t.val) * 128 + k.val = 4096 + (t.val * 128 + k.val); omega
  rw [proj_rows, e]
  exact ConvC.pad_rows_apply _ _ _

theorem iblk1_apply (c : Dev nD) (t : Fin cfg0.N) (j : Fin 4) (k : Fin 128) :
    iblk m c 1 t (ix2 j k) = m ((c : Thread nD τ).loc main_arg1) (ix2 j (col t k)) := by
  show V m c main_arg1 ((win0_1.rect t).emb (ix2 j k)) = _
  rw [V_main_arg1]
  congr 1
  funext a; apply Fin.ext
  rw [Pipeline.Window.rect_emb_val win0_1 t _ a rfl, (index_t t).2.1]
  match a with
  | ⟨0, _⟩ => show 0 * 4 + j.val = j.val; omega
  | ⟨1, _⟩ => rfl

theorem iblk2_apply (c : Dev nD) (t : Fin cfg0.N) (k : Fin 128) : iblk m c 2 t (ix2 0 k) = (0 : EReal) := by
  show V m c main_v1 ((win0_2.rect t).emb (ix2 0 k)) = _
  have e : ((win0_2.rect t).emb (ix2 0 k) : S1x3072.Idx) = ix2 0 (col t k) := by
    funext a; apply Fin.ext
    rw [Pipeline.Window.rect_emb_val win0_2 t _ a rfl, (index_t t).2.2.1]
    fin_cases a <;> rfl
  rw [bias_row, e]
  pointwise

/-- The array the run leaves. -/
abbrev result (c : Dev nD) : Buf (Elt Ideal) ((c : Thread nD τ).loc main_v2) :=
  Cert.RConvBFIdeal.Read.val_main_v57 (F := Ideal) (m ((c : Thread nD τ).loc main_arg0)) (m ((c : Thread nD τ).loc main_arg1))

theorem taps_iblk (c : Dev nD) (t : Fin cfg0.N) : taps (iblk m c 1 t) = fun k => tapCol (m ((c : Thread nD τ).loc main_arg1)) (col t k) :=
  funext fun k => funext fun j => iblk1_apply m c t j k

/-- The point and the place of a column. -/
theorem split_col (l : Fin 3072) : ∃ (t : Fin cfg0.N) (k : Fin 128), l = col t k :=
  ⟨(⟨l.val / 128, by show _ < 24; omega⟩ : Fin grid0.N), ⟨l.val % 128, Nat.mod_lt _ (by decide)⟩, Fin.ext (Nat.div_add_mod' l.val 128).symm⟩

theorem emb_out (t : Fin cfg0.N) (R : Fin 2176) (k : Fin 128) : ((win0_3.rect t).emb (ix2 R k) : S2176x3072.Idx) = ix2 R (col t k) := by
  funext a; apply Fin.ext
  rw [Pipeline.Window.rect_emb_val win0_3 t _ a rfl, (index_t t).2.2.2]
  match a with
  | ⟨0, _⟩ => show 0 * 2176 + R.val = R.val; omega
  | ⟨1, _⟩ => rfl

theorem final (c : Dev nD) : (dats m 0 c).arrAt 3 cfg0.N = result m c := by
  refine (dats m 0 c).arrAt_eq_of_cover 3 (result m c) (fun t _ => ?_) fun i => ?_
  · rw [Value.flushed3 m c t]
    funext y
    obtain ⟨R, k, rfl⟩ : ∃ (R : Fin 2176) (k : Fin 128), y = ix2 R k := ⟨y 0, y 1, by pointwise⟩
    show out0_3 (grid0.coords t) (iblk m c 0 t) (iblk m c 1 t) (iblk m c 2 t) (ix2 R k) = result m c ((win0_3.rect t).emb (ix2 R k))
    rw [emb_out]
    rw [show result m c _ = _ from result_apply _ _ (col t k) _ (fun n => v56_apply _ _ n k t) R]
    refine (out_apply _ _ _ _ R k (fun l => projCol (m ((c : Thread nD τ).loc main_arg0)) (col t l))
      (fun R l => iblk0_apply m c t R l) (fun l => iblk2_apply m c t l)).trans ?_
    rw [taps_iblk, coord_t]
  · obtain ⟨R, l, rfl⟩ : ∃ (R : Fin 2176) (l : Fin 3072), i = ix2 R l := ⟨i 0, i 1, by pointwise⟩
    obtain ⟨t, k, rfl⟩ := split_col l
    refine ⟨t, flush0_3 t, ?_⟩
    rw [← emb_out]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_r : Cert.quiescent_RConvBFIdeal := fun m ρ _ =>
  (θ_run _ _ _).mono (fun r h => ⟨fun c => (h c).2, sem_eq_zero_of_no_sems (by decide) r.2⟩) (Cert.RConvBFIdeal.Value.run m ρ)

theorem algebraic : Cert.algebraic_KConvBFIdeal_RConvBFIdeal := by
  intro m g m' g' _ hm
  refine ⟨fun c => result m c, run m g, ?_⟩
  refine (θ_run _ _ _).mono (fun r h c => ⟨?_, (h c).2⟩) (Cert.RConvBFIdeal.Value.run m' g')
  rw [(h c).1.trans (Cert.RConvBFIdeal.Read.val_main_v57_eq m' c), (hm c).1, (hm c).2]

end Cert.Proof.ConvBF

end
-- ==== Proof.GatesF.lean ====
/-
  Hand-written, untrusted. The small gates, `KGatesFIdeal`, over the extended reals: the arrays its four row blocks leave are the reference's
  `val_main_v32` and `val_main_v33`. One block of 128 columns holds the step sizes and decays of both recurrences; the kernel selects
  by the column and clears the padding's rows by a factor, where the reference lays its slices side by side and pads.
-/
module

public import proofs.«01_k».proof.Defs
public import proofs.«01_k».proof.Proof.Gen.KGatesFIdeal.Value
public import proofs.«01_k».proof.Proof.Gen.RGatesFIdeal.Run
public import proofs.«01_k».proof.Proof.Gen.RGatesFIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.GatesF

open Idealize.ShloMosaic Idealize.SL.Sem Cert.KGatesFIdeal
open Cert.KGatesFIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The smooth maximum of `t` and zero. -/
def softplus (t : EReal) : EReal := max t 0 + Ideal.log (1 + Ideal.exp (-FloatOps.absf (F := Ideal) (φ := .f32) t))

/-- The first result at column `k`, from the projection, the bias and the scale there. -/
def firstValue (x b a : EReal) (k : ℕ) : EReal :=
  if k < 8 then Ideal.logistic (x + b) else if k < 16 then -Ideal.exp a * softplus (x + b) else if k < 48 then softplus (x + b) else 0

/-- The second. -/
def secondValue (x b a : EReal) (k : ℕ) : EReal := if 8 ≤ k ∧ k < 48 then -Ideal.exp a * softplus (x + b) else 0

/-- Eight and thirty-two values at their columns of 128. -/
def lane (y : Vec Ideal S8 .f32) (z : Vec Ideal S32 .f32) (k : Fin 128) : EReal :=
  if h : 8 ≤ k.val ∧ k.val < 16 then y (ix1 ⟨k.val - 8, by omega⟩) else if h : 16 ≤ k.val ∧ k.val < 48 then z (ix1 ⟨k.val - 16, by omega⟩) else 0

section Kernel

variable (i : grid0.Coords) (x0 : Vec Ideal S544x128 .f32) (x1 x2 : Vec Ideal S1x128 .f32) (r : Fin 544) (k : Fin 128)

theorem pay4_apply : k0_pay4 x0 x1 (ix2 r k) = softplus (x0 (ix2 r k) + x1 (ix2 0 k)) := by
  pointwise [k0_pay4, k0_pay3]
  rw [softplus, zero_sub]

theorem pay5_apply : k0_pay5 x2 (ix2 0 k) = -Ideal.exp (x2 (ix2 0 k)) := by
  pointwise [k0_pay5]
  exact zero_sub _

/-- A comparison of the column with a constant. -/
theorem slt_col : (IntOp.cmpi .slt (BitVec.ofNat 32 k.val) 8#32 = if k.val < 8 then 1#1 else 0#1)
    ∧ (IntOp.cmpi .slt (BitVec.ofNat 32 k.val) 16#32 = if k.val < 16 then 1#1 else 0#1)
    ∧ (IntOp.cmpi .slt (BitVec.ofNat 32 k.val) 48#32 = if k.val < 48 then 1#1 else 0#1)
    ∧ (IntOp.cmpi .sge (BitVec.ofNat 32 k.val) 8#32 = if 8 ≤ k.val then 1#1 else 0#1) :=
  (by decide +kernel : ∀ k : Fin 128, (IntOp.cmpi .slt (BitVec.ofNat 32 k.val) 8#32 = if k.val < 8 then 1#1 else 0#1)
    ∧ (IntOp.cmpi .slt (BitVec.ofNat 32 k.val) 16#32 = if k.val < 16 then 1#1 else 0#1)
    ∧ (IntOp.cmpi .slt (BitVec.ofNat 32 k.val) 48#32 = if k.val < 48 then 1#1 else 0#1)
    ∧ (IntOp.cmpi .sge (BitVec.ofNat 32 k.val) 8#32 = if 8 ≤ k.val then 1#1 else 0#1)) k

theorem pay7_apply : k0_pay7 x0 x1 x2 (ix2 r k) = firstValue (x0 (ix2 r k)) (x1 (ix2 0 k)) (x2 (ix2 0 k)) k.val := by
  pointwise [k0_pay7, k0_pay3, pay4_apply, pay5_apply]
  rw [(slt_col k).1, (slt_col k).2.1, (slt_col k).2.2.1, firstValue]
  by_cases h1 : k.val < 8 <;> by_cases h2 : k.val < 16 <;> by_cases h3 : k.val < 48 <;> simp [h1, h2, h3, Scalar.select]

theorem pay2_apply (f : FVec Ideal S544x1 .f32) : k0_pay2 (iota .tc S544x128 32 [1] iota_S544x128_d1_w32) (k0_pay4 x0 x1) (k0_pay5 x2) f (ix2 r k)
    = secondValue (x0 (ix2 r k)) (x1 (ix2 0 k)) (x2 (ix2 0 k)) k.val * f (ix2 r 0) := by
  pointwise [k0_pay2, pay4_apply, pay5_apply]
  rw [(slt_col k).2.2.1, (slt_col k).2.2.2, secondValue]
  by_cases h1 : 8 ≤ k.val <;> by_cases h2 : k.val < 48 <;> simp [h1, h2, Scalar.select, IntOp.andi]

theorem pay1_apply (f : FVec Ideal S544x1 .f32) (v : FVec Ideal S544x128 .f32) : k0_pay1 f v (ix2 r k) = v (ix2 r k) * f (ix2 r 0) := by
  pointwise [k0_pay1]

/-- The factor that clears the padding's rows. -/
theorem keep_apply : k0_pay6 (F := Ideal) i (ix2 r 0) = if 112 ≤ (i 1).val * 544 + r.val then 1 else 0 := by
  pointwise [k0_pay6]
  have e : IntOp.cmpi .sge (IntOp.addi (Scalar.muli (BitVec.ofNat 32 (i 1).val) 544#32) (BitVec.ofNat 32 r.val)) 112#32
      = if 112 ≤ (i 1).val * 544 + r.val then 1#1 else 0#1 :=
    (by decide +kernel : ∀ (b : Fin 4) (r : Fin 544), IntOp.cmpi .sge (IntOp.addi (Scalar.muli (BitVec.ofNat 32 b.val) 544#32) (BitVec.ofNat 32 r.val)) 112#32
      = if 112 ≤ b.val * 544 + r.val then 1#1 else 0#1) (i 1) r
  rw [e]
  by_cases h : 112 ≤ (i 1).val * 544 + r.val
  · rw [if_pos h, if_pos h]
    show ((((1#32 : BitVec 32).toInt : ℤ) : ℝ) : EReal) = 1
    simp
  · rw [if_neg h, if_neg h]
    show ((((0#32 : BitVec 32).toInt : ℤ) : ℝ) : EReal) = 0
    simp

theorem out3_apply : out0_3 i x0 x1 x2 (ix2 r k)
    = firstValue (x0 (ix2 r k)) (x1 (ix2 0 k)) (x2 (ix2 0 k)) k.val * if 112 ≤ (i 1).val * 544 + r.val then 1 else 0 := by
  unfold_out out0_3
  rw [View.canon_cons_unit_zero (S := S544x128) hz]
  simp only [View.ld_unit_zero (S := S544x128) hz, View.ld_unit_zero (S := S1x128) hz]
  rw [pay1_apply, pay7_apply, keep_apply]

theorem out4_apply : out0_4 i x0 x1 x2 (ix2 r k)
    = secondValue (x0 (ix2 r k)) (x1 (ix2 0 k)) (x2 (ix2 0 k)) k.val * if 112 ≤ (i 1).val * 544 + r.val then 1 else 0 := by
  unfold_out out0_4
  rw [View.canon_cons_unit_zero (S := S544x128) hz]
  simp only [View.ld_unit_zero (S := S544x128) hz, View.ld_unit_zero (S := S1x128) hz]
  rw [pay2_apply, keep_apply]

end Kernel

/-- The row windows are at row block `t`, the projection's at column block 124. -/
theorem index_t : ∀ t : Fin cfg0.N, win0_0.index t = ![t.val, 124] ∧ win0_1.index t = ![0, 0] ∧ win0_2.index t = ![0, 0]
    ∧ win0_3.index t = ![t.val, 0] ∧ win0_4.index t = ![t.val, 0] ∧ (grid0.coords t 1).val = t.val :=
  (by decide +kernel : ∀ t : Fin grid0.N, win0_0.index t = ![t.val, 124] ∧ win0_1.index t = ![0, 0] ∧ win0_2.index t = ![0, 0]
    ∧ win0_3.index t = ![t.val, 0] ∧ win0_4.index t = ![t.val, 0] ∧ (grid0.coords t 1).val = t.val)

theorem row_lt (t : Fin cfg0.N) (r : Fin 544) : t.val * 544 + r.val < 2176 := by
  have ht : t.val < 4 := t.isLt
  omega

/-- Row `r` of block `t`. -/
abbrev row (t : Fin cfg0.N) (r : Fin 544) : Fin 2176 := ⟨t.val * 544 + r.val, row_lt t r⟩

/-- Column `k` of the small gates' block. -/
abbrev col (k : Fin 128) : Fin 16000 := ⟨15872 + k.val, by omega⟩

theorem iblk0_apply (c : Dev nD) (t : Fin cfg0.N) (r : Fin 544) (k : Fin 128) :
    iblk m c 0 t (ix2 r k) = m ((c : Thread nD τ).loc main_arg0) (ix2 (row t r) (col k)) := by
  show V m c main_arg0 ((win0_0.rect t).emb (ix2 r k)) = _
  rw [V_main_arg0]
  congr 1
  funext a; apply Fin.ext
  rw [Pipeline.Window.rect_emb_val win0_0 t _ a rfl, (index_t t).1]
  fin_cases a <;> rfl

/-- The host's row of eight and thirty-two values, each padded to 128 columns. -/
theorem lanes_apply (y : Vec Ideal S8 .f32) (z : Vec Ideal S32 .f32) (k : Fin 128) : addf (F := Ideal)
      (broadcastInDim S1x128 ![1] bcast_S128_S1x128_1 (pad S128 ![8] ![112] ![0] y (sitofp (F := Ideal) .f32 (constantI S_ 32 0#32)) pads_S8_S128_81120 h_S_))
      (broadcastInDim S1x128 ![1] bcast_S128_S1x128_1 (pad S128 ![16] ![80] ![0] z (sitofp (F := Ideal) .f32 (constantI S_ 32 0#32)) pads_S32_S128_16800 h_S_)) (ix2 0 k)
    = lane y z k := by
  pointwise
  have z0 : FloatOps.sitofp (F := Ideal) .f32 0#32 = 0 := by
    show ((((0#32 : BitVec 32).toInt : ℤ) : ℝ) : EReal) = 0
    simp
  rw [z0, lane]
  by_cases h1 : 8 ≤ k.val ∧ k.val < 16
  · rw [dif_pos h1, dif_pos (by omega), dif_neg (by omega), add_zero]
  · rw [dif_neg h1, dif_neg (by omega), zero_add]
    by_cases h2 : 16 ≤ k.val ∧ k.val < 48
    · rw [dif_pos h2, dif_pos (by omega)]
    · rw [dif_neg h2, dif_neg (by omega)]

theorem bias_row (c : Dev nD) (k : Fin 128) : V m c main_v4 (ix2 0 k) = lane (m ((c : Thread nD τ).loc main_arg1)) (m ((c : Thread nD τ).loc main_arg2)) k := by
  have e : V m c main_v4 = addf (F := Ideal)
      (broadcastInDim S1x128 ![1] bcast_S128_S1x128_1 (pad S128 ![8] ![112] ![0] (m ((c : Thread nD τ).loc main_arg1)) (sitofp (F := Ideal) .f32 (constantI S_ 32 0#32)) pads_S8_S128_81120 h_S_))
      (broadcastInDim S1x128 ![1] bcast_S128_S1x128_1 (pad S128 ![16] ![80] ![0] (m ((c : Thread nD τ).loc main_arg2)) (sitofp (F := Ideal) .f32 (constantI S_ 32 0#32)) pads_S32_S128_16800 h_S_)) := by
    unfold_abbrev_sides
    simp only [hostOps0, hostOps0_1, hostOps0_2, hostOps0_3, hostOps0_4, StableHlo.TRef.unary, StableHlo.TRef.binary, StableHlo.TRef.toBuf, StableHlo.TRef.ofBuf, cast_eq,
      List.flatten_cons, List.flatten_nil, List.append_nil, List.cons_append, List.nil_append]
    after_results
  rw [e]
  exact lanes_apply _ _ k

theorem scale_row (c : Dev nD) (k : Fin 128) : V m c main_v9 (ix2 0 k) = lane (m ((c : Thread nD τ).loc main_arg3)) (m ((c : Thread nD τ).loc main_arg4)) k := by
  have e : V m c main_v9 = addf (F := Ideal)
      (broadcastInDim S1x128 ![1] bcast_S128_S1x128_1 (pad S128 ![8] ![112] ![0] (m ((c : Thread nD τ).loc main_arg3)) (sitofp (F := Ideal) .f32 (constantI S_ 32 0#32)) pads_S8_S128_81120 h_S_))
      (broadcastInDim S1x128 ![1] bcast_S128_S1x128_1 (pad S128 ![16] ![80] ![0] (m ((c : Thread nD τ).loc main_arg4)) (sitofp (F := Ideal) .f32 (constantI S_ 32 0#32)) pads_S32_S128_16800 h_S_)) := by
    unfold_abbrev_sides
    simp only [hostOps0, hostOps0_1, hostOps0_2, hostOps0_3, hostOps0_4, StableHlo.TRef.unary, StableHlo.TRef.binary, StableHlo.TRef.toBuf, StableHlo.TRef.ofBuf, cast_eq,
      List.flatten_cons, List.flatten_nil, List.append_nil, List.cons_append, List.nil_append]
    after_results
  rw [e]
  exact lanes_apply _ _ k

theorem iblk1_apply (c : Dev nD) (t : Fin cfg0.N) (k : Fin 128) :
    iblk m c 1 t (ix2 0 k) = lane (m ((c : Thread nD τ).loc main_arg1)) (m ((c : Thread nD τ).loc main_arg2)) k := by
  show V m c main_v4 ((win0_1.rect t).emb (ix2 0 k)) = _
  have e : ((win0_1.rect t).emb (ix2 0 k) : S1x128.Idx) = ix2 0 k := by
    funext a; apply Fin.ext
    rw [Pipeline.Window.rect_emb_val win0_1 t _ a rfl, (index_t t).2.1]
    fin_cases a <;> simp <;> rfl
  rw [e, bias_row]

theorem iblk2_apply (c : Dev nD) (t : Fin cfg0.N) (k : Fin 128) :
    iblk m c 2 t (ix2 0 k) = lane (m ((c : Thread nD τ).loc main_arg3)) (m ((c : Thread nD τ).loc main_arg4)) k := by
  show V m c main_v9 ((win0_2.rect t).emb (ix2 0 k)) = _
  have e : ((win0_2.rect t).emb (ix2 0 k) : S1x128.Idx) = ix2 0 k := by
    funext a; apply Fin.ext
    rw [Pipeline.Window.rect_emb_val win0_2 t _ a rfl, (index_t t).2.2.1]
    fin_cases a <;> simp <;> rfl
  rw [e, scale_row]

section Reference

variable (y0 : Vec Ideal S2176x16000 .f32) (y1 y3 : Vec Ideal S8 .f32) (y2 y4 : Vec Ideal S32 .f32) (r : Fin 2064) (R : Fin 2176) (k : Fin 128)

theorem v14_apply (k : Fin 8) : Cert.RGatesFIdeal.Read.val_main_v14 (F := Ideal) y0 y1 (ix2 r k)
    = softplus (y0 (ix2 ⟨112 + r.val, by omega⟩ ⟨15880 + k.val, by omega⟩) + y1 (ix1 k)) := by
  pointwise [Cert.RGatesFIdeal.Read.val_main_v14, Cert.RGatesFIdeal.Read.val_main_call0_v4,
    Cert.RGatesFIdeal.Read.val_main_call0_v3, Cert.RGatesFIdeal.Read.val_main_v13,
    Cert.RGatesFIdeal.Read.val_main_v1, Cert.RGatesFIdeal.Read.val_main_v12, Cert.RGatesFIdeal.Read.val_main_v11,
    Cert.RGatesFIdeal.Read.val_main_call0_v2, Cert.RGatesFIdeal.Read.val_main_call0_cst,
    Cert.RGatesFIdeal.Read.val_main_call0_v6, Cert.RGatesFIdeal.Read.val_main_call0_v5,
    Cert.RGatesFIdeal.Read.val_main_call0_v11, Cert.RGatesFIdeal.Read.val_main_call0_v1,
    Cert.RGatesFIdeal.Read.val_main_call0_v0, Cert.RGatesFIdeal.Read.val_main_call0_v10,
    Cert.RGatesFIdeal.Read.val_main_call0_v9, Cert.RGatesFIdeal.Read.val_main_call0_v8,
    Cert.RGatesFIdeal.Read.val_main_call0_v7]
  rw [if_neg (by simp)]
  rfl

theorem v21_apply (k : Fin 32) : Cert.RGatesFIdeal.Read.val_main_v21 (F := Ideal) y0 y2 (ix2 r k)
    = softplus (y0 (ix2 ⟨112 + r.val, by omega⟩ ⟨15888 + k.val, by omega⟩) + y2 (ix1 k)) := by
  pointwise [Cert.RGatesFIdeal.Read.val_main_v21, Cert.RGatesFIdeal.Read.val_main_call1_v4,
    Cert.RGatesFIdeal.Read.val_main_call1_v3, Cert.RGatesFIdeal.Read.val_main_v20,
    Cert.RGatesFIdeal.Read.val_main_v2, Cert.RGatesFIdeal.Read.val_main_v19, Cert.RGatesFIdeal.Read.val_main_v18,
    Cert.RGatesFIdeal.Read.val_main_call1_v2, Cert.RGatesFIdeal.Read.val_main_call1_cst,
    Cert.RGatesFIdeal.Read.val_main_call1_v6, Cert.RGatesFIdeal.Read.val_main_call1_v5,
    Cert.RGatesFIdeal.Read.val_main_call1_v11, Cert.RGatesFIdeal.Read.val_main_call1_v1,
    Cert.RGatesFIdeal.Read.val_main_call1_v0, Cert.RGatesFIdeal.Read.val_main_call1_v10,
    Cert.RGatesFIdeal.Read.val_main_call1_v9, Cert.RGatesFIdeal.Read.val_main_call1_v8,
    Cert.RGatesFIdeal.Read.val_main_call1_v7]
  rw [if_neg (by simp)]
  rfl

theorem v8_apply (k : Fin 8) : Cert.RGatesFIdeal.Read.val_main_v8 (F := Ideal) y0 (ix2 r k)
    = Ideal.logistic (y0 (ix2 ⟨112 + r.val, by omega⟩ ⟨15872 + k.val, by omega⟩)) := by
  pointwise [Cert.RGatesFIdeal.Read.val_main_v8, Cert.RGatesFIdeal.Read.val_main_v7, Cert.RGatesFIdeal.Read.val_main_cst_0,
    Cert.RGatesFIdeal.Read.val_main_v6, Cert.RGatesFIdeal.Read.val_main_v5, Cert.RGatesFIdeal.Read.val_main_cst,
    Cert.RGatesFIdeal.Read.val_main_v4, Cert.RGatesFIdeal.Read.val_main_v3, Cert.RGatesFIdeal.Read.val_main_v0]
  rfl

theorem v32_apply : Cert.RGatesFIdeal.Read.val_main_v32 (F := Ideal) y0 y1 y2 y3 (ix2 R k)
    = firstValue (y0 (ix2 R (col k))) (lane y1 y2 k) (lane y3 y4 k) k.val * if 112 ≤ R.val then 1 else 0 := by
  pointwise [v14_apply, v21_apply, v8_apply, Cert.RGatesFIdeal.Read.val_main_v32, Cert.RGatesFIdeal.Read.val_main_v25,
    Cert.RGatesFIdeal.Read.val_main_v17, Cert.RGatesFIdeal.Read.val_main_v16, Cert.RGatesFIdeal.Read.val_main_v15,
    Cert.RGatesFIdeal.Read.val_main_v10, Cert.RGatesFIdeal.Read.val_main_v9, Cert.RGatesFIdeal.Read.val_main_v24,
    Cert.RGatesFIdeal.Read.val_main_cst_1, Cert.RGatesFIdeal.Read.val_main_call2_v0,
    Cert.RGatesFIdeal.Read.val_main_c]
  by_cases hR : 112 ≤ R.val
  · have e : 112 + (R.val - 112) = R.val := by omega
    rw [dif_pos (by omega), if_pos hR, mul_one]
    by_cases h1 : k.val < 8
    · rw [dif_pos h1]
      simp [e, h1, firstValue, lane, show ¬8 ≤ k.val by omega, show ¬16 ≤ k.val by omega]
    · by_cases h2 : k.val < 16
      · rw [dif_neg h1, dif_pos (by omega)]
        simp [e, h1, h2, firstValue, lane, show 8 ≤ k.val by omega, show 15880 + (k.val - 8) = 15872 + k.val by omega]
      · by_cases h3 : k.val < 48
        · rw [dif_neg h1, dif_neg (by omega), dif_pos (by omega)]
          simp [e, h1, h2, h3, firstValue, lane, show 16 ≤ k.val by omega,
            show 8 ≤ k.val by omega, show 15888 + (k.val - 16) = 15872 + k.val by omega,
            show k.val - 8 - 8 = k.val - 16 by omega]
        · rw [dif_neg h1, dif_neg (by omega), dif_neg (by omega)]
          simp [h1, h2, h3, firstValue]
  · rw [dif_neg (by omega), if_neg hR, mul_zero]
    show ((((0#32 : BitVec 32).toInt : ℤ) : ℝ) : EReal) = 0
    simp

theorem v33_apply : Cert.RGatesFIdeal.Read.val_main_v33 (F := Ideal) y0 y1 y2 y3 y4 (ix2 R k)
    = secondValue (y0 (ix2 R (col k))) (lane y1 y2 k) (lane y3 y4 k) k.val * if 112 ≤ R.val then 1 else 0 := by
  pointwise [v14_apply, v21_apply, v8_apply, Cert.RGatesFIdeal.Read.val_main_v33, Cert.RGatesFIdeal.Read.val_main_v31,
    Cert.RGatesFIdeal.Read.val_main_v26, Cert.RGatesFIdeal.Read.val_main_cst_2,
    Cert.RGatesFIdeal.Read.val_main_v17, Cert.RGatesFIdeal.Read.val_main_v16, Cert.RGatesFIdeal.Read.val_main_v15,
    Cert.RGatesFIdeal.Read.val_main_v10, Cert.RGatesFIdeal.Read.val_main_v9, Cert.RGatesFIdeal.Read.val_main_v29,
    Cert.RGatesFIdeal.Read.val_main_v28, Cert.RGatesFIdeal.Read.val_main_v27, Cert.RGatesFIdeal.Read.val_main_v23,
    Cert.RGatesFIdeal.Read.val_main_v22, Cert.RGatesFIdeal.Read.val_main_v30,
    Cert.RGatesFIdeal.Read.val_main_cst_3, Cert.RGatesFIdeal.Read.val_main_call3_v0,
    Cert.RGatesFIdeal.Read.val_main_c_4]
  by_cases hR : 112 ≤ R.val
  · have e : 112 + (R.val - 112) = R.val := by omega
    rw [dif_pos (by omega), if_pos hR, mul_one]
    by_cases h1 : k.val < 8
    · rw [dif_pos h1]
      simp [e, h1, secondValue, lane, show ¬8 ≤ k.val by omega, show ¬16 ≤ k.val by omega]
    · by_cases h2 : k.val < 16
      · rw [dif_neg h1, dif_pos (by omega)]
        simp [e, h1, h2, secondValue, lane, show k.val < 48 by omega, show 8 ≤ k.val by omega, show 15880 + (k.val - 8) = 15872 + k.val by omega]
      · by_cases h3 : k.val < 48
        · rw [dif_neg h1, dif_neg (by omega), dif_pos (by omega)]
          simp [e, h1, h2, h3, secondValue, lane, show 16 ≤ k.val by omega,
            show 8 ≤ k.val by omega, show 15888 + (k.val - 16) = 15872 + k.val by omega,
            show k.val - 8 - 8 = k.val - 16 by omega]
        · rw [dif_neg h1, dif_neg (by omega), dif_neg (by omega)]
          simp [h1, h2, h3, secondValue]
  · rw [dif_neg (by omega), if_neg hR, mul_zero]
    show ((((0#32 : BitVec 32).toInt : ℤ) : ℝ) : EReal) = 0
    simp

end Reference

/-- The arrays the run leaves. -/
abbrev result0 (c : Dev nD) : Buf (Elt Ideal) ((c : Thread nD τ).loc main_v10_0) :=
  Cert.RGatesFIdeal.Read.val_main_v32 (F := Ideal) (m ((c : Thread nD τ).loc main_arg0)) (m ((c : Thread nD τ).loc main_arg1))
    (m ((c : Thread nD τ).loc main_arg2)) (m ((c : Thread nD τ).loc main_arg3))
abbrev result1 (c : Dev nD) : Buf (Elt Ideal) ((c : Thread nD τ).loc main_v10_1) :=
  Cert.RGatesFIdeal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem emb3 (t : Fin cfg0.N) (r : Fin 544) (k : Fin 128) : ((win0_3.rect t).emb (ix2 r k) : S2176x128.Idx) = ix2 (row t r) k := by
  funext a; apply Fin.ext
  rw [Pipeline.Window.rect_emb_val win0_3 t _ a rfl, (index_t t).2.2.2.1]
  fin_cases a <;> simp <;> rfl

theorem emb4 (t : Fin cfg0.N) (r : Fin 544) (k : Fin 128) : ((win0_4.rect t).emb (ix2 r k) : S2176x128.Idx) = ix2 (row t r) k := by
  funext a; apply Fin.ext
  rw [Pipeline.Window.rect_emb_val win0_4 t _ a rfl, (index_t t).2.2.2.2.1]
  fin_cases a <;> simp <;> rfl

/-- The row block of an index and its place there. -/
theorem split_row (i : S2176x128.Idx) : ∃ (t : Fin cfg0.N) (r : Fin 544) (k : Fin 128), i = ix2 (row t r) k := by
  have h0 : (i 0).val < 2176 := (i 0).isLt
  refine ⟨(⟨(i 0).val / 544, by show _ < 4; omega⟩ : Fin grid0.N), ⟨(i 0).val % 544, Nat.mod_lt _ (by decide)⟩, i 1, ?_⟩
  funext a; apply Fin.ext
  match a with
  | ⟨0, _⟩ => exact (Nat.div_add_mod' (i 0).val 544).symm
  | ⟨1, _⟩ => rfl

theorem final3 (c : Dev nD) : (dats m 0 c).arrAt 3 cfg0.N = result0 m c := by
  refine (dats m 0 c).arrAt_eq_of_cover 3 (result0 m c) (fun t _ => ?_) fun i => ?_
  · rw [Value.flushed3 m c t]
    funext y
    obtain ⟨r, k, rfl⟩ : ∃ (r : Fin 544) (k : Fin 128), y = ix2 r k := ⟨y 0, y 1, by pointwise⟩
    show out0_3 (grid0.coords t) (iblk m c 0 t) (iblk m c 1 t) (iblk m c 2 t) (ix2 r k) = result0 m c ((win0_3.rect t).emb (ix2 r k))
    rw [emb3, out3_apply, show result0 m c _ = _ from v32_apply _ _ _ _ (m ((c : Thread nD τ).loc main_arg4)) (row t r) k, iblk0_apply, iblk1_apply, iblk2_apply, (index_t t).2.2.2.2.2]
  · obtain ⟨t, r, k, rfl⟩ := split_row i
    refine ⟨t, flush0_3 t, ?_⟩
    rw [← emb3]
    exact View.emb_mem_set _ _

theorem final4 (c : Dev nD) : (dats m 0 c).arrAt 4 cfg0.N = result1 m c := by
  refine (dats m 0 c).arrAt_eq_of_cover 4 (result1 m c) (fun t _ => ?_) fun i => ?_
  · rw [Value.flushed4 m c t]
    funext y
    obtain ⟨r, k, rfl⟩ : ∃ (r : Fin 544) (k : Fin 128), y = ix2 r k := ⟨y 0, y 1, by pointwise⟩
    show out0_4 (grid0.coords t) (iblk m c 0 t) (iblk m c 1 t) (iblk m c 2 t) (ix2 r k) = result1 m c ((win0_4.rect t).emb (ix2 r k))
    rw [emb4, out4_apply, show result1 m c _ = _ from v33_apply _ _ _ _ _ (row t r) k, iblk0_apply, iblk1_apply, iblk2_apply, (index_t t).2.2.2.2.2]
  · obtain ⟨t, r, k, rfl⟩ := split_row i
    refine ⟨t, flush0_4 t, ?_⟩
    rw [← emb4]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v10_0) = result0 m c
      ∧ r.2.mem ((c : Thread nD τ).loc main_v10_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final3 m c), (h c).2.1.trans (final4 m c), (h c).2.2⟩) (Value.run_blocks m ρ)

theorem frame_r : Cert.quiescent_RGatesFIdeal := fun m ρ _ =>
  (θ_run _ _ _).mono (fun r h => ⟨fun c => (h c).2.2, sem_eq_zero_of_no_sems (by decide) r.2⟩) (Cert.RGatesFIdeal.Value.run m ρ)

theorem algebraic : Cert.algebraic_KGatesFIdeal_RGatesFIdeal := by
  intro m g m' g' _ hm
  refine ⟨fun c => result0 m c, fun c => result1 m c, run m g, ?_⟩
  refine (θ_run _ _ _).mono (fun r h c => ⟨?_, ?_, (h c).2.2⟩) (Cert.RGatesFIdeal.Value.run m' g')
  · rw [(h c).1]
    show Cert.RGatesFIdeal.Read.val_main_v32 (F := Ideal) _ _ _ _ = _
    rw [(hm c).1, (hm c).2.1, (hm c).2.2.1, (hm c).2.2.2.1]
  · rw [(h c).2.1]
    show Cert.RGatesFIdeal.Read.val_main_v33 (F := Ideal) _ _ _ _ _ = _
    rw [(hm c).1, (hm c).2.1, (hm c).2.2.1, (hm c).2.2.2.1, (hm c).2.2.2.2]

end Cert.Proof.GatesF

end
-- ==== Proof.Loss.lean ====
/-
  Hand-written, untrusted. The loss and its gradients at the last norm, `KLossIdeal`, over the extended reals: the loss its seventeen row
  blocks add up is the reference's `val_main_v53`, the rows' gradient they leave its `val_main_v52` and the weight's, added up over the
  blocks, its `val_main_v54`. The kernel clears the meta tokens' block by a factor, where the reference slices before and pads after.
-/
module

public import proofs.«01_k».proof.Defs
public import proofs.«01_k».proof.Proof.Gen.KLossIdeal.Value
public import proofs.«01_k».proof.Proof.Gen.RLossIdeal.Run
public import proofs.«01_k».proof.Proof.Gen.RLossIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Loss

open Idealize.ShloMosaic Idealize.SL.Sem Cert.KLossIdeal
open Cert.KLossIdeal.Gen Idealize.ShloMosaic.TcCoe
open Idealize.ShloMosaic.Pipeline (Dat)

variable (m : (ℓ : Loc nD τ sig) → Buf (Elt Ideal) ℓ)

theorem hz : (![0, 0] : Fin 2 → Nat) = fun _ => 0 := funext fun a => by fin_cases a <;> rfl

section Body

variable (c : Dev nD) (i : grid0.Coords) (a1 : Memref sig .tc .vmem S128x1024 .f32) (h1 : a1.IsWhole)
    (a2 : Memref sig .tc .vmem S128x1024 .f32) (h2 : a2.IsWhole) (a3 : Memref sig .tc .vmem S1x1024 .f32) (h3 : a3.IsWhole)
    (a4 : Memref sig .tc .vmem S1x1 .f32) (h4 : a4.IsWhole) (a5 : Memref sig .tc .vmem S128x1024 .f32) (h5 : a5.IsWhole)
    (a6 : Memref sig .tc .vmem S1x1024 .f32) (h6 : a6.IsWhole)
    (x0 x1 : Vec Ideal S128x1024 .f32) (x2 : Vec Ideal S1x1024 .f32)

/-- The loss at the first point. -/
theorem outA3 (hc0 : cond0_0 i) (hc1 : ¬cond0_1 i) :
    out0_A_3 c i a1 h1 a2 h2 a3 h3 a4 h4 a5 h5 a6 h6 hc0 hc1 x0 x1 x2 = k0_pay13 i x0 x2 x1 := by
  unfold out0_A_3
  rw [View.read_writes_eq_canon _ _ _ (cover0_A_3 c i a1 h1 a2 h2 a3 h3 a4 h4 a5 h5 a6 h6 hc0 hc1 x0 x1 x2)]
  unfold kernelRun0_A
  dsimp only
  sl_unfold_words
  rw [View.canon_cons_unit_zero (S := S1x1) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

/-- The rows' gradient at the first point. -/
theorem outA4 (hc0 : cond0_0 i) (hc1 : ¬cond0_1 i) :
    out0_A_4 c i a1 h1 a2 h2 a3 h3 a4 h4 a5 h5 a6 h6 hc0 hc1 x0 x1 x2 = k0_pay3 x0 (k0_pay7 x2) (k0_pay9 x0) (k0_pay10 x0) (k0_pay12 x0 x2 x1) (k0_pay14 i) := by
  unfold out0_A_4
  rw [View.read_writes_eq_canon _ _ _ (cover0_A_4 c i a1 h1 a2 h2 a3 h3 a4 h4 a5 h5 a6 h6 hc0 hc1 x0 x1 x2)]
  unfold kernelRun0_A
  dsimp only
  sl_unfold_words
  rw [View.canon_cons_unit_zero (S := S128x1024) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

/-- The weight's gradient at the first point. -/
theorem outA5 (hc0 : cond0_0 i) (hc1 : ¬cond0_1 i) :
    out0_A_5 c i a1 h1 a2 h2 a3 h3 a4 h4 a5 h5 a6 h6 hc0 hc1 x0 x1 x2 = k0_pay2 (k0_pay11 x0) (k0_pay12 x0 x2 x1) (k0_pay14 i) := by
  unfold out0_A_5
  rw [View.read_writes_eq_canon _ _ _ (cover0_A_5 c i a1 h1 a2 h2 a3 h3 a4 h4 a5 h5 a6 h6 hc0 hc1 x0 x1 x2)]
  unfold kernelRun0_A
  dsimp only
  sl_unfold_words
  rw [View.canon_cons_unit_zero (S := S1x1024) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

/-- The loss at a later point. -/
theorem outB3 (hc0 : ¬cond0_0 i) (hc1 : cond0_1 i) (xo3 : Vec Ideal S1x1 .f32) (xo5 : Vec Ideal S1x1024 .f32) :
    out0_B_3 c i a1 h1 a2 h2 a3 h3 a4 h4 a5 h5 a6 h6 hc0 hc1 x0 x1 x2 xo3 xo5 = k0_pay4 (k0_pay13 i x0 x2 x1) xo3 := by
  unfold out0_B_3
  rw [View.read_writes_eq_canon _ _ _ (cover0_B_3 c i a1 h1 a2 h2 a3 h3 a4 h4 a5 h5 a6 h6 hc0 hc1 x0 x1 x2 xo3 xo5)]
  unfold kernelRun0_B
  dsimp only
  sl_unfold_words
  rw [View.canon_cons_unit_zero (S := S1x1) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

/-- The rows' gradient at a later point. -/
theorem outB4 (hc0 : ¬cond0_0 i) (hc1 : cond0_1 i) (xo3 : Vec Ideal S1x1 .f32) (xo5 : Vec Ideal S1x1024 .f32) :
    out0_B_4 c i a1 h1 a2 h2 a3 h3 a4 h4 a5 h5 a6 h6 hc0 hc1 x0 x1 x2 xo3 xo5 = k0_pay3 x0 (k0_pay7 x2) (k0_pay9 x0) (k0_pay10 x0) (k0_pay12 x0 x2 x1) (k0_pay14 i) := by
  unfold out0_B_4
  rw [View.read_writes_eq_canon _ _ _ (cover0_B_4 c i a1 h1 a2 h2 a3 h3 a4 h4 a5 h5 a6 h6 hc0 hc1 x0 x1 x2 xo3 xo5)]
  unfold kernelRun0_B
  dsimp only
  sl_unfold_words
  rw [View.canon_cons_unit_zero (S := S128x1024) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

/-- The weight's gradient at a later point. -/
theorem outB5 (hc0 : ¬cond0_0 i) (hc1 : cond0_1 i) (xo3 : Vec Ideal S1x1 .f32) (xo5 : Vec Ideal S1x1024 .f32) :
    out0_B_5 c i a1 h1 a2 h2 a3 h3 a4 h4 a5 h5 a6 h6 hc0 hc1 x0 x1 x2 xo3 xo5 = k0_pay5 (k0_pay11 x0) (k0_pay12 x0 x2 x1) (k0_pay14 i) xo5 := by
  unfold out0_B_5
  rw [View.read_writes_eq_canon _ _ _ (cover0_B_5 c i a1 h1 a2 h2 a3 h3 a4 h4 a5 h5 a6 h6 hc0 hc1 x0 x1 x2 xo3 xo5)]
  unfold kernelRun0_B
  dsimp only
  sl_unfold_words
  rw [View.canon_cons_unit_zero (S := S1x1024) hz]
  simp only [View.readAt_eq_ld, h1.read_unread, h2.read_unread, h3.read_unread, h4.read_unread, h6.read_unread,
    View.ld_unit_zero (S := S128x1024) hz, View.ld_unit_zero (S := S1x1024) hz, View.ld_unit_zero (S := S1x1) hz]

end Body

theorem two_eq : Ideal.ofBits .f32 0x40000000#32 = 2 := by
  rw [show (2 : EReal) = ((2 : ℝ) : EReal) by norm_cast]
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem double (x : EReal) : 2 * x = x + x := by
  rw [show (2 : EReal) = 1 + 1 by norm_num, EReal.right_distrib_of_nonneg zero_le_one zero_le_one, one_mul]

/-- A half, being finite and not negative, goes into a sum. -/
theorem half_sum {n : ℕ} (f : Fin n → EReal) : Ideal.ofBits .f32 0x3F000000#32 * ∑ t, f t = ∑ t, Ideal.ofBits .f32 0x3F000000#32 * f t := by
  have h0 : (0 : EReal) ≤ Ideal.ofBits .f32 0x3F000000#32 := by
    rw [half_eq]
    exact EReal.coe_nonneg.mpr (by norm_num)
  have h1 : Ideal.ofBits .f32 0x3F000000#32 ≠ (⊤ : EReal) := by
    rw [half_eq]
    exact EReal.coe_ne_top _
  induction n with
  | zero => simp
  | succ n ih => rw [Fin.sum_univ_succ, Fin.sum_univ_succ, EReal.left_distrib_of_nonneg_of_ne_top h0 h1, ih]

section Payloads

variable (i : grid0.Coords) (x0 x1 : Vec Ideal S128x1024 .f32) (x2 : Vec Ideal S1x1024 .f32) (e : FVec Ideal S128x1024 .f32) (ct : FVec Ideal S1 .f32)
    (r : Fin 128) (l : Fin 1024)

/-- The factor that clears the meta tokens' block. -/
theorem keep_eq : k0_pay6 (F := Ideal) i = if 1 ≤ (i 0).val then 1 else 0 := by
  have e : IntOp.cmpi .sge (BitVec.ofNat 32 (i 0).val) 1#32 = if 1 ≤ (i 0).val then 1#1 else 0#1 :=
    (by decide +kernel : ∀ b : Fin 17, IntOp.cmpi .sge (BitVec.ofNat 32 b.val) 1#32 = if 1 ≤ b.val then 1#1 else 0#1) (i 0)
  show FloatOps.sitofp (F := Ideal) .f32 (BitVec.setWidth 32 (IntOp.cmpi .sge (BitVec.ofNat 32 (i 0).val) 1#32)) = _
  rw [e]
  by_cases h : 1 ≤ (i 0).val
  · rw [if_pos h, if_pos h]
    show ((((1#32 : BitVec 32).toInt : ℤ) : ℝ) : EReal) = 1
    simp
  · rw [if_neg h, if_neg h]
    show ((((0#32 : BitVec 32).toInt : ℤ) : ℝ) : EReal) = 0
    simp

theorem pay14_apply : k0_pay14 (F := Ideal) i (ix1 0) = Ideal.ofBits .f32 0x3F000000#32 * (1 * k0_pay6 (F := Ideal) i) := by
  pointwise [k0_pay14]
  simp

theorem pay1_apply : k0_pay1 e ct (ix2 r l) = e (ix2 r l) * Ideal.div (ct (ix1 0)) (Ideal.ofBits .f32 0x44800000#32)
    + Ideal.div (ct (ix1 0)) (Ideal.ofBits .f32 0x44800000#32) * e (ix2 r l) := by
  pointwise [k0_pay1]
  simp

theorem pay2_apply : k0_pay2 (k0_pay11 x0) e ct (ix2 0 l) = ∑ k : Fin 128, x0 (ix2 k l) * k0_pay9 x0 (ix2 k 0) * k0_pay1 e ct (ix2 k l) := by
  pointwise [k0_pay2, k0_pay11]

theorem pay13_apply : k0_pay13 i x0 x2 x1 (ix2 0 0) = Ideal.ofBits .f32 0x3F000000#32 * (∑ r : Fin 128,
    Ideal.div (∑ l : Fin 1024, k0_pay12 x0 x2 x1 (ix2 r l) * k0_pay12 x0 x2 x1 (ix2 r l)) (Ideal.ofBits .f32 0x44800000#32)) * k0_pay6 (F := Ideal) i := by
  pointwise [k0_pay13]

theorem pay4_apply (v w : Vec Ideal S1x1 .f32) : k0_pay4 v w (ix2 0 0) = w (ix2 0 0) + v (ix2 0 0) := by
  pointwise [k0_pay4]

theorem pay5_apply (v : Vec Ideal S1x1024 .f32) : k0_pay5 (k0_pay11 x0) e ct v (ix2 0 l) = v (ix2 0 l) + k0_pay2 (k0_pay11 x0) e ct (ix2 0 l) := by
  pointwise [k0_pay5]

end Payloads

section Equation

variable (i : grid0.Coords) (x0 x1 : Vec Ideal S128x1024 .f32) (x2 : Vec Ideal S1x1024 .f32) (e : FVec Ideal S128x1024 .f32) (ct : FVec Ideal S1 .f32)
    (y0 : Vec Ideal S2176x1024 .f32) (y1 : Vec Ideal S2048x1024 .f32) (y2 : Vec Ideal S1024 .f32) (r : Fin 128) (R : Fin 2176) (n : Fin 2048) (l : Fin 1024)

theorem pay9_eq (h0 : ∀ k, x0 (ix2 r k) = y0 (ix2 R k)) : k0_pay9 x0 (ix2 r 0) = Cert.RLossIdeal.Read.val_main_v7 (F := Ideal) y0 (ix2 R 0) := by
  pointwise [k0_pay9, k0_pay8, Cert.RLossIdeal.Read.val_main_v7, Cert.RLossIdeal.Read.val_main_v6, Cert.RLossIdeal.Read.val_main_v4,
    Cert.RLossIdeal.Read.val_main_v2, Cert.RLossIdeal.Read.val_main_v1, Cert.RLossIdeal.Read.val_main_v0,
    Cert.RLossIdeal.Read.val_main_cst, Cert.RLossIdeal.Read.val_main_v3, Cert.RLossIdeal.Read.val_main_cst_0,
    Cert.RLossIdeal.Read.val_main_v5, Cert.RLossIdeal.Read.val_main_cst_1]
  simp only [h0]

theorem pay12_eq (h0 : ∀ k, x0 (ix2 r k) = y0 (ix2 ⟨128 + n.val, by omega⟩ k)) (h2 : x2 (ix2 0 l) = y2 (ix1 l)) (h1 : x1 (ix2 r l) = y1 (ix2 n l)) :
    k0_pay12 x0 x2 x1 (ix2 r l) = Cert.RLossIdeal.Read.val_main_v17 (F := Ideal) y0 y1 y2 (ix2 n l) := by
  pointwise [k0_pay12, k0_pay11, k0_pay7, Cert.RLossIdeal.Read.val_main_v17, Cert.RLossIdeal.Read.val_main_v16, Cert.RLossIdeal.Read.val_main_v15,
    Cert.RLossIdeal.Read.val_main_v12, Cert.RLossIdeal.Read.val_main_v11, Cert.RLossIdeal.Read.val_main_v14,
    Cert.RLossIdeal.Read.val_main_v13]
  rw [pay9_eq x0 y0 r _ h0, h0, h1, h2]

theorem v32_lo (h : R.val < 128) : Cert.RLossIdeal.Read.val_main_v32 (F := Ideal) y0 y1 y2 (ix2 R l) = 0 := by
  pointwise [Cert.RLossIdeal.Read.val_main_v32, Cert.RLossIdeal.Read.val_main_cst_11]
  rw [dif_neg (by omega)]

theorem v32_hi : Cert.RLossIdeal.Read.val_main_v32 (F := Ideal) y0 y1 y2 (ix2 ⟨128 + n.val, by omega⟩ l)
    = Ideal.div (Ideal.ofBits .f32 0x3F000000#32) (Ideal.ofBits .f32 0x44800000#32)
      * (2 * Cert.RLossIdeal.Read.val_main_v17 (F := Ideal) y0 y1 y2 (ix2 n l)) := by
  pointwise [Cert.RLossIdeal.Read.val_main_v32, Cert.RLossIdeal.Read.val_main_v31, Cert.RLossIdeal.Read.val_main_v30,
    Cert.RLossIdeal.Read.val_main_v29, Cert.RLossIdeal.Read.val_main_v27, Cert.RLossIdeal.Read.val_main_v26,
    Cert.RLossIdeal.Read.val_main_cst_8, Cert.RLossIdeal.Read.val_main_cst_9, Cert.RLossIdeal.Read.val_main_v28,
    Cert.RLossIdeal.Read.val_main_cst_10, Cert.RLossIdeal.Read.val_main_v20, Cert.RLossIdeal.Read.val_main_v19,
    Cert.RLossIdeal.Read.val_main_cst_3, Cert.RLossIdeal.Read.val_main_cst_11]
  rw [two_eq]

theorem pay3_eq (h0 : ∀ k, x0 (ix2 r k) = y0 (ix2 R k)) (h2 : ∀ k, x2 (ix2 0 k) = y2 (ix1 k))
    (hd : ∀ k, k0_pay1 e ct (ix2 r k) = Cert.RLossIdeal.Read.val_main_v32 (F := Ideal) y0 y1 y2 (ix2 R k)) :
    k0_pay3 x0 (k0_pay7 x2) (k0_pay9 x0) (k0_pay10 x0) e ct (ix2 r l) = Cert.RLossIdeal.Read.val_main_v52 (F := Ideal) y0 y1 y2 (ix2 R l) := by
  pointwise [k0_pay3, k0_pay7, k0_pay10, k0_pay9, k0_pay8, Cert.RLossIdeal.Read.val_main_v52, Cert.RLossIdeal.Read.val_main_v50, Cert.RLossIdeal.Read.val_main_v43,
    Cert.RLossIdeal.Read.val_main_v37, Cert.RLossIdeal.Read.val_main_v36, Cert.RLossIdeal.Read.val_main_v13,
    Cert.RLossIdeal.Read.val_main_v42, Cert.RLossIdeal.Read.val_main_v7, Cert.RLossIdeal.Read.val_main_v6,
    Cert.RLossIdeal.Read.val_main_v4, Cert.RLossIdeal.Read.val_main_v2, Cert.RLossIdeal.Read.val_main_v1,
    Cert.RLossIdeal.Read.val_main_v0, Cert.RLossIdeal.Read.val_main_cst, Cert.RLossIdeal.Read.val_main_v3,
    Cert.RLossIdeal.Read.val_main_cst_0, Cert.RLossIdeal.Read.val_main_v5, Cert.RLossIdeal.Read.val_main_cst_1,
    Cert.RLossIdeal.Read.val_main_v49, Cert.RLossIdeal.Read.val_main_v48, Cert.RLossIdeal.Read.val_main_v47,
    Cert.RLossIdeal.Read.val_main_v46, Cert.RLossIdeal.Read.val_main_v44, Cert.RLossIdeal.Read.val_main_v41,
    Cert.RLossIdeal.Read.val_main_v40, Cert.RLossIdeal.Read.val_main_v39, Cert.RLossIdeal.Read.val_main_cst_14,
    Cert.RLossIdeal.Read.val_main_v10, Cert.RLossIdeal.Read.val_main_v9, Cert.RLossIdeal.Read.val_main_cst_2,
    Cert.RLossIdeal.Read.val_main_v8, Cert.RLossIdeal.Read.val_main_v45, Cert.RLossIdeal.Read.val_main_cst_15,
    Cert.RLossIdeal.Read.val_main_cst_16, Cert.RLossIdeal.Read.val_main_v51]
  simp only [h0, h2, hd]

theorem result2_apply : Cert.RLossIdeal.Read.val_main_v54 (F := Ideal) y0 y1 y2 (ix2 0 l)
    = ∑ k : Fin 2176, y0 (ix2 k l) * Cert.RLossIdeal.Read.val_main_v7 (F := Ideal) y0 (ix2 k 0) * Cert.RLossIdeal.Read.val_main_v32 (F := Ideal) y0 y1 y2 (ix2 k l) := by
  pointwise [Cert.RLossIdeal.Read.val_main_v54, Cert.RLossIdeal.Read.val_main_v38, Cert.RLossIdeal.Read.val_main_v35,
    Cert.RLossIdeal.Read.val_main_v34, Cert.RLossIdeal.Read.val_main_v33, Cert.RLossIdeal.Read.val_main_v12,
    Cert.RLossIdeal.Read.val_main_v11, Cert.RLossIdeal.Read.val_main_cst_12, Cert.RLossIdeal.Read.val_main_cst_13]
  simp only [Finset.sum_const, Finset.card_univ, Fintype.card_fin, one_smul]

theorem result0_apply : Cert.RLossIdeal.Read.val_main_v53 (F := Ideal) y0 y1 y2 (ix2 0 0)
    = Ideal.ofBits .f32 0x3F000000#32 * ∑ n : Fin 2048, Ideal.div (∑ l : Fin 1024, Cert.RLossIdeal.Read.val_main_v17 (F := Ideal) y0 y1 y2 (ix2 n l)
      * Cert.RLossIdeal.Read.val_main_v17 (F := Ideal) y0 y1 y2 (ix2 n l)) (Ideal.ofBits .f32 0x44800000#32) := by
  pointwise [Cert.RLossIdeal.Read.val_main_v53, Cert.RLossIdeal.Read.val_main_v25, Cert.RLossIdeal.Read.val_main_cst_7,
    Cert.RLossIdeal.Read.val_main_v24, Cert.RLossIdeal.Read.val_main_v23, Cert.RLossIdeal.Read.val_main_v21,
    Cert.RLossIdeal.Read.val_main_v18, Cert.RLossIdeal.Read.val_main_cst_4, Cert.RLossIdeal.Read.val_main_v22,
    Cert.RLossIdeal.Read.val_main_cst_5, Cert.RLossIdeal.Read.val_main_cst_6]

end Equation

/-- The row windows are at block `t` of the rows, the target's one block before, where there is one. -/
theorem index_t : ∀ t : Fin cfg0.N, win0_0.index t = ![t.val, 0] ∧ win0_1.index t = ![t.val - 1, 0] ∧ win0_2.index t = ![0, 0]
    ∧ win0_3.index t = ![0, 0] ∧ win0_4.index t = ![t.val, 0] ∧ win0_5.index t = ![0, 0] ∧ (grid0.coords t 0).val = t.val :=
  (by decide +kernel : ∀ t : Fin grid0.N, win0_0.index t = ![t.val, 0] ∧ win0_1.index t = ![t.val - 1, 0] ∧ win0_2.index t = ![0, 0]
    ∧ win0_3.index t = ![0, 0] ∧ win0_4.index t = ![t.val, 0] ∧ win0_5.index t = ![0, 0] ∧ (grid0.coords t 0).val = t.val)

theorem row_lt (t : Fin cfg0.N) (r : Fin 128) : t.val * 128 + r.val < 2176 := by
  have ht : t.val < 17 := t.isLt
  omega

theorem tok_lt (t : Fin cfg0.N) (r : Fin 128) : (t.val - 1) * 128 + r.val < 2048 := by
  have ht : t.val < 17 := t.isLt
  omega

/-- Row `r` of block `t`. -/
abbrev row (t : Fin cfg0.N) (r : Fin 128) : Fin 2176 := ⟨t.val * 128 + r.val, row_lt t r⟩

/-- The target's row. -/
abbrev tok (t : Fin cfg0.N) (r : Fin 128) : Fin 2048 := ⟨(t.val - 1) * 128 + r.val, tok_lt t r⟩

theorem row_tok (t : Fin cfg0.N) (ht : 1 ≤ t.val) (r : Fin 128) : row t r = ⟨128 + (tok t r).val, by omega⟩ :=
  Fin.ext (show t.val * 128 + r.val = 128 + ((t.val - 1) * 128 + r.val) by omega)

theorem iblk0_apply (c : Dev nD) (t : Fin cfg0.N) (r : Fin 128) (l : Fin 1024) :
    iblk m c 0 t (ix2 r l) = m ((c : Thread nD τ).loc main_arg0) (ix2 (row t r) l) := by
  show V m c main_arg0 ((win0_0.rect t).emb (ix2 r l)) = _
  rw [V_main_arg0]
  congr 1
  funext a; apply Fin.ext
  rw [Pipeline.Window.rect_emb_val win0_0 t _ a rfl, (index_t t).1]
  fin_cases a <;> simp <;> rfl

theorem iblk1_apply (c : Dev nD) (t : Fin cfg0.N) (r : Fin 128) (l : Fin 1024) :
    iblk m c 1 t (ix2 r l) = m ((c : Thread nD τ).loc main_arg1) (ix2 (tok t r) l) := by
  show V m c main_arg1 ((win0_1.rect t).emb (ix2 r l)) = _
  rw [V_main_arg1]
  congr 1
  funext a; apply Fin.ext
  rw [Pipeline.Window.rect_emb_val win0_1 t _ a rfl, (index_t t).2.1]
  fin_cases a <;> simp <;> rfl

/-- The weight as the region finds it: the host's one row of it. -/
theorem weight_row (c : Dev nD) : V m c main_v0 = broadcastInDim S1x1024 ![1] bcast_S1024_S1x1024_1 (m ((c : Thread nD τ).loc main_arg2)) := by
  unfold_abbrev_sides
  after_results

theorem iblk2_apply (c : Dev nD) (t : Fin cfg0.N) (l : Fin 1024) :
    iblk m c 2 t (ix2 0 l) = m ((c : Thread nD τ).loc main_arg2) (ix1 l) := by
  show V m c main_v0 ((win0_2.rect t).emb (ix2 0 l)) = _
  have e : ((win0_2.rect t).emb (ix2 0 l) : S1x1024.Idx) = ix2 0 l := by
    funext a; apply Fin.ext
    rw [Pipeline.Window.rect_emb_val win0_2 t _ a rfl, (index_t t).2.2.1]
    fin_cases a <;> simp <;> rfl
  rw [weight_row, e]
  pointwise

/-- The arrays the run leaves. -/
abbrev result0 (c : Dev nD) : Buf (Elt Ideal) ((c : Thread nD τ).loc main_v1_0) :=
  Cert.RLossIdeal.Read.val_main_v53 (F := Ideal) (m ((c : Thread nD τ).loc main_arg0)) (m ((c : Thread nD τ).loc main_arg1)) (m ((c : Thread nD τ).loc main_arg2))
abbrev result1 (c : Dev nD) : Buf (Elt Ideal) ((c : Thread nD τ).loc main_v1_1) :=
  Cert.RLossIdeal.Read.val_main_v52 (F := Ideal) (m ((c : Thread nD τ).loc main_arg0)) (m ((c : Thread nD τ).loc main_arg1)) (m ((c : Thread nD τ).loc main_arg2))
abbrev result2 (c : Dev nD) : Buf (Elt Ideal) ((c : Thread nD τ).loc main_v1_2) :=
  Cert.RLossIdeal.Read.val_main_v54 (F := Ideal) (m ((c : Thread nD τ).loc main_arg0)) (m ((c : Thread nD τ).loc main_arg1)) (m ((c : Thread nD τ).loc main_arg2))

/-- The error of a point's rows. -/
abbrev err (c : Dev nD) (t : Fin cfg0.N) : FVec Ideal S128x1024 .f32 := k0_pay12 (iblk m c 0 t) (iblk m c 2 t) (iblk m c 1 t)

theorem err_apply (c : Dev nD) (t : Fin cfg0.N) (ht : 1 ≤ t.val) (r : Fin 128) (l : Fin 1024) : err m c t (ix2 r l)
    = Cert.RLossIdeal.Read.val_main_v17 (F := Ideal) (m ((c : Thread nD τ).loc main_arg0)) (m ((c : Thread nD τ).loc main_arg1))
      (m ((c : Thread nD τ).loc main_arg2)) (ix2 (tok t r) l) := by
  refine pay12_eq _ _ _ _ _ _ r (tok t r) l (fun k => ?_) (iblk2_apply m c t l) (iblk1_apply m c t r l)
  rw [iblk0_apply, row_tok t ht]

theorem keep_t (t : Fin cfg0.N) : k0_pay6 (F := Ideal) (grid0.coords t) = if 1 ≤ t.val then 1 else 0 := by
  rw [keep_eq, (index_t t).2.2.2.2.2.2]

/-- The loss's gradient at a point's rows. -/
theorem grad_apply (c : Dev nD) (t : Fin cfg0.N) (r : Fin 128) (l : Fin 1024) : k0_pay1 (err m c t) (k0_pay14 (grid0.coords t)) (ix2 r l)
    = Cert.RLossIdeal.Read.val_main_v32 (F := Ideal) (m ((c : Thread nD τ).loc main_arg0)) (m ((c : Thread nD τ).loc main_arg1))
      (m ((c : Thread nD τ).loc main_arg2)) (ix2 (row t r) l) := by
  rw [pay1_apply, pay14_apply, keep_t]
  by_cases ht : 1 ≤ t.val
  · rw [if_pos ht, mul_one, mul_one, row_tok t ht, v32_hi, err_apply m c t ht, mul_left_comm, double, mul_comm]
  · rw [if_neg ht, mul_zero, mul_zero, v32_lo _ _ _ _ _ (show t.val * 128 + r.val < 128 by omega)]
    have e : Ideal.div 0 (Ideal.ofBits .f32 0x44800000#32) = 0 := by
      have h : Ideal.ofBits .f32 0x44800000#32 = ((1024 : ℝ) : EReal) := by
        simp [Ideal.ofBits, Ideal.ieee, -EReal.coe_mul]; norm_num
      rw [h, Ideal.div, if_neg (by rw [← EReal.coe_zero, EReal.coe_eq_coe_iff]; norm_num), zero_mul]
    rw [e, mul_zero, zero_mul, add_zero]

theorem emb4 (t : Fin cfg0.N) (r : Fin 128) (l : Fin 1024) : ((win0_4.rect t).emb (ix2 r l) : S2176x1024.Idx) = ix2 (row t r) l := by
  funext a; apply Fin.ext
  rw [Pipeline.Window.rect_emb_val win0_4 t _ a rfl, (index_t t).2.2.2.2.1]
  fin_cases a <;> simp <;> rfl

theorem emb5 (t : Fin cfg0.N) (l : Fin 1024) : ((win0_5.rect t).emb (ix2 0 l) : S1x1024.Idx) = ix2 0 l := by
  funext a; apply Fin.ext
  rw [Pipeline.Window.rect_emb_val win0_5 t _ a rfl, (index_t t).2.2.2.2.2.1]
  fin_cases a <;> simp <;> rfl

theorem one_idx (y : S1x1.Idx) : y = ix2 0 0 := by
  funext a
  match a with
  | ⟨0, _⟩ => exact Subsingleton.elim (α := Fin 1) _ _
  | ⟨1, _⟩ => exact Subsingleton.elim (α := Fin 1) _ _

theorem row_idx (y : S1x1024.Idx) : ∃ l : Fin 1024, y = ix2 0 l := ⟨y 1, by
  funext a
  match a with
  | ⟨0, _⟩ => exact Subsingleton.elim (α := Fin 1) _ _
  | ⟨1, _⟩ => rfl⟩

/-- At any point the rows' buffer is left at the gradient of the point's rows. -/
theorem after4 (c : Dev nD) (t : Fin cfg0.N) :
    (outsAt0 m c t.val t.isLt).2.1 = k0_pay3 (iblk m c 0 t) (k0_pay7 (iblk m c 2 t)) (k0_pay9 (iblk m c 0 t)) (k0_pay10 (iblk m c 0 t))
      (err m c t) (k0_pay14 (grid0.coords t)) := by
  have ht : t.val < 17 := t.isLt
  by_cases h : t.val = 0
  · rw [outsAt0_A m c t (by omega) (by omega)]
    dsimp only
    rw [outA4]
  · rw [outsAt0_B m c t (by omega) (by omega)]
    dsimp only
    rw [outB4]

/-- The row block of an index and its place there. -/
theorem split_row (i : S2176x1024.Idx) : ∃ (t : Fin cfg0.N) (r : Fin 128) (l : Fin 1024), i = ix2 (row t r) l := by
  have h0 : (i 0).val < 2176 := (i 0).isLt
  refine ⟨(⟨(i 0).val / 128, by show _ < 17; omega⟩ : Fin grid0.N), ⟨(i 0).val % 128, Nat.mod_lt _ (by decide)⟩, i 1, ?_⟩
  funext a; apply Fin.ext
  match a with
  | ⟨0, _⟩ => exact (Nat.div_add_mod' (i 0).val 128).symm
  | ⟨1, _⟩ => rfl

theorem final4 (c : Dev nD) : (dats m 0 c).arrAt 4 cfg0.N = result1 m c := by
  refine (dats m 0 c).arrAt_eq_of_cover 4 (result1 m c) (fun t _ => ?_) fun i => ?_
  · rw [Value.flushed4 m c t, after4]
    funext y
    obtain ⟨r, l, rfl⟩ : ∃ (r : Fin 128) (l : Fin 1024), y = ix2 r l := ⟨y 0, y 1, by pointwise⟩
    show k0_pay3 (iblk m c 0 t) (k0_pay7 (iblk m c 2 t)) (k0_pay9 (iblk m c 0 t)) (k0_pay10 (iblk m c 0 t)) (err m c t) (k0_pay14 (grid0.coords t)) (ix2 r l)
      = result1 m c ((win0_4.rect t).emb (ix2 r l))
    rw [emb4]
    exact pay3_eq _ _ _ _ _ _ _ r (row t r) l (iblk0_apply m c t r) (iblk2_apply m c t) (grad_apply m c t r)
  · obtain ⟨t, r, l, rfl⟩ := split_row i
    refine ⟨t, flush0_4 t, ?_⟩
    rw [← emb4]
    exact View.emb_mem_set _ _

/-- A point's part of the loss, and of the weight's gradient. -/
def part3 (c : Dev nD) (t : Fin cfg0.N) : EReal := k0_pay13 (grid0.coords t) (iblk m c 0 t) (iblk m c 2 t) (iblk m c 1 t) (ix2 0 0)
def part5 (c : Dev nD) (l : Fin 1024) (t : Fin cfg0.N) : EReal :=
  k0_pay2 (k0_pay11 (iblk m c 0 t)) (err m c t) (k0_pay14 (grid0.coords t)) (ix2 0 l)

/-- What the loss's buffer holds after point `n`: the sum of the parts so far. -/
theorem after3 (c : Dev nD) : ∀ (n : ℕ) (hn : n < cfg0.N),
    (outsAt0 m c n hn).1 (ix2 0 0) = ∑ t : Fin (n + 1), part3 m c ⟨t.val, lt_of_lt_of_le t.isLt hn⟩
  | 0, hn => by
    rw [outsAt0_A m c ⟨0, hn⟩ (by simp) (by simp)]
    dsimp only
    rw [outA3]
    simp [part3]
  | n + 1, hn => by
    have h17 : n + 1 < 17 := hn
    rw [outsAt0_B m c ⟨n + 1, hn⟩ (by simp only; omega) (by simp only; omega)]
    dsimp only
    rw [outB3, pay4_apply, Fin.sum_univ_castSucc]
    exact congrArg (· + _) (after3 c n (Nat.lt_of_succ_lt hn))

/-- What the weight's buffer holds after point `n`. -/
theorem after5 (c : Dev nD) (l : Fin 1024) : ∀ (n : ℕ) (hn : n < cfg0.N),
    (outsAt0 m c n hn).2.2 (ix2 0 l) = ∑ t : Fin (n + 1), part5 m c l ⟨t.val, lt_of_lt_of_le t.isLt hn⟩
  | 0, hn => by
    rw [outsAt0_A m c ⟨0, hn⟩ (by simp) (by simp)]
    dsimp only
    rw [outA5]
    simp [part5]
  | n + 1, hn => by
    have h17 : n + 1 < 17 := hn
    rw [outsAt0_B m c ⟨n + 1, hn⟩ (by simp only; omega) (by simp only; omega)]
    dsimp only
    rw [outB5, pay5_apply, Fin.sum_univ_castSucc]
    exact congrArg (· + _) (after5 c l n (Nat.lt_of_succ_lt hn))

theorem flushed3 (c : Dev nD) (t : Fin cfg0.N) (hf : (cfg0.win 3).flush t = true) :
    (dats m 0 c).flushed 3 t = ((cfg0.win 3).blk t).view.read (Elt Ideal) (result0 m c) := by
  have ht : t.val = 16 := (by decide +kernel : ∀ t : Fin grid0.N, win0_3.flush t = true → t.val = 16) t hf
  obtain rfl : t = ⟨16, by decide⟩ := Fin.ext ht
  rw [Value.flushed3 m c _]
  funext y
  obtain rfl : y = ix2 0 0 := one_idx y
  show (outsAt0 m c 16 _).1 (ix2 0 0) = result0 m c ((win0_3.rect ⟨16, _⟩).emb (ix2 0 0))
  rw [one_idx ((win0_3.rect ⟨16, _⟩).emb (ix2 0 0)), after3 m c 16 (by decide), show result0 m c _ = _ from result0_apply _ _ _,
    Fin.sum_univ_succ, ← Equiv.sum_comp (finProdFinEquiv (m := 16) (n := 128)), Fintype.sum_prod_type, half_sum]
  have e0 : part3 m c ⟨0, by decide⟩ = 0 := by
    rw [part3, pay13_apply, keep_t, if_neg (by simp), mul_zero]
  refine (congrArg (· + _) e0).trans ((zero_add _).trans (Finset.sum_congr rfl fun t _ => ?_))
  have ht : 1 ≤ (⟨t.succ.val, by have := t.isLt; show _ < 17; simp; omega⟩ : Fin cfg0.N).val := by simp
  show part3 m c ⟨t.succ.val, _⟩ = _
  rw [part3, pay13_apply, keep_t, if_pos ht, mul_one]
  refine congrArg _ (Finset.sum_congr rfl fun r _ => ?_)
  have e : tok ⟨t.succ.val, by have := t.isLt; show _ < 17; simp; omega⟩ r = finProdFinEquiv (t, r) := Fin.ext (by simp [finProdFinEquiv]; omega)
  refine congrArg (Ideal.div · _) (Finset.sum_congr rfl fun l _ => ?_)
  have e' := err_apply m c _ ht r l
  rw [e] at e'
  exact congrArg₂ (· * ·) e' e'

theorem flushed5 (c : Dev nD) (t : Fin cfg0.N) (hf : (cfg0.win 5).flush t = true) :
    (dats m 0 c).flushed 5 t = ((cfg0.win 5).blk t).view.read (Elt Ideal) (result2 m c) := by
  have ht : t.val = 16 := (by decide +kernel : ∀ t : Fin grid0.N, win0_5.flush t = true → t.val = 16) t hf
  obtain rfl : t = ⟨16, by decide⟩ := Fin.ext ht
  rw [Value.flushed5 m c _]
  funext y
  obtain ⟨l, rfl⟩ := row_idx y
  show (outsAt0 m c 16 _).2.2 (ix2 0 l) = result2 m c ((win0_5.rect ⟨16, _⟩).emb (ix2 0 l))
  rw [emb5, after5 m c l 16 (by decide), show result2 m c _ = _ from result2_apply _ _ _ _,
    ← Equiv.sum_comp (finProdFinEquiv (m := 17) (n := 128)), Fintype.sum_prod_type]
  refine Finset.sum_congr rfl fun t _ => (pay2_apply _ _ _ l).trans (Finset.sum_congr rfl fun k _ => ?_)
  have e : finProdFinEquiv (t, k) = row ⟨t.val, t.isLt⟩ k := Fin.ext (by simp [finProdFinEquiv]; omega)
  rw [e, pay9_eq _ _ k (row ⟨t.val, t.isLt⟩ k) (iblk0_apply m c _ k), iblk0_apply, grad_apply]

theorem final3 (c : Dev nD) : (dats m 0 c).arrAt 3 cfg0.N = result0 m c :=
  (dats m 0 c).arrAt_eq_of_cover 3 (result0 m c) (flushed3 m c) fun i => by
    obtain ⟨t, ht⟩ : ∃ t : Fin cfg0.N, t = ⟨16, by decide⟩ := ⟨_, rfl⟩
    refine ⟨t, (flush0_3 t).mpr (by subst ht; rfl), ?_⟩
    rw [one_idx i, ← one_idx ((win0_3.rect t).emb (ix2 0 0))]
    exact View.emb_mem_set _ _

theorem final5 (c : Dev nD) : (dats m 0 c).arrAt 5 cfg0.N = result2 m c :=
  (dats m 0 c).arrAt_eq_of_cover 5 (result2 m c) (flushed5 m c) fun i => by
    obtain ⟨l, rfl⟩ := row_idx i
    obtain ⟨t, ht⟩ : ∃ t : Fin cfg0.N, t = ⟨16, by decide⟩ := ⟨_, rfl⟩
    refine ⟨t, (flush0_5 t).mpr (by subst ht; rfl), ?_⟩
    rw [← emb5 t]
    exact View.emb_mem_set _ _

theorem run (ρ : Dev nD → PrngReg) : θ_run defs (onTc (τ := τ) (main (F := Ideal))) ⟨m, fun _ => 0, ρ⟩ fun r => ∀ c : Dev nD,
      r.2.mem ((c : Thread nD τ).loc main_v1_0) = result0 m c
      ∧ r.2.mem ((c : Thread nD τ).loc main_v1_1) = result1 m c
      ∧ r.2.mem ((c : Thread nD τ).loc main_v1_2) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩)
    (Value.run_blocks m ρ)

theorem frame_r : Cert.quiescent_RLossIdeal := fun m ρ _ =>
  (θ_run _ _ _).mono (fun r h => ⟨fun c => (h c).2.2.2, sem_eq_zero_of_no_sems (by decide) r.2⟩) (Cert.RLossIdeal.Value.run m ρ)

theorem algebraic : Cert.algebraic_KLossIdeal_RLossIdeal := by
  intro m g m' g' _ hm
  refine ⟨fun c => result0 m c, fun c => result1 m c, fun c => result2 m c, run m g, ?_⟩
  refine (θ_run _ _ _).mono (fun r h c => ⟨?_, ?_, ?_, (h c).2.2.2⟩) (Cert.RLossIdeal.Value.run m' g')
  · rw [(h c).1, (hm c).1, (hm c).2.1, (hm c).2.2]
    rfl
  · rw [(h c).2.1]
    show Cert.RLossIdeal.Read.val_main_v52 (F := Ideal) _ _ _ = _
    rw [(hm c).1, (hm c).2.1, (hm c).2.2]
  · rw [(h c).2.2.1, (hm c).1, (hm c).2.1, (hm c).2.2]
    rfl

end Cert.Proof.Loss

end
-- ==== Proof.AdamStep.lean ====
/-
  Hand-written, untrusted. One weight's optimiser step, as the programs that walk an array in blocks and their
  reference both compute it.
-/
module

public import Idealize.ShloMosaic.PureOps

@[expose] public section

noncomputable section

namespace Cert.Proof.AdamStep

open Idealize.ShloMosaic

variable {F : FTy → Type} [FloatOps F]

/-- The first moment after the step, of the gradient `g` and the moment before. -/
abbrev moment (g m : F .f32) : F .f32 :=
  FloatOps.addf (FloatOps.mulf (Scalar.ofBits .f32 0x3F666666#32) m) (FloatOps.mulf (Scalar.ofBits .f32 0x3DCCCCCD#32) g)

/-- The second moment after the step. -/
abbrev square (g v : F .f32) : F .f32 :=
  FloatOps.addf (FloatOps.mulf (Scalar.ofBits .f32 0x3F7FBE77#32) v) (FloatOps.mulf (Scalar.ofBits .f32 0x3A83126F#32) (FloatOps.mulf g g))

/-- The weight's change. -/
abbrev change (w g m v : F .f32) : F .f32 :=
  FloatOps.mulf (Scalar.ofBits .f32 0xBA83126F#32)
    (FloatOps.addf
      (FloatOps.divf (FloatOps.divf (moment g m) (Scalar.ofBits .f32 0x3F26BD02#32))
        (FloatOps.addf (FloatOps.sqrt (FloatOps.divf (square g v) (Scalar.ofBits .f32 0x3C231ACC#32))) (Scalar.ofBits .f32 0x322BCC77#32)))
      (FloatOps.mulf (Scalar.ofBits .f32 0x3C23D70A#32) w))

end Cert.Proof.AdamStep

end
-- ==== Proof.Adam.lean ====
/-
  Hand-written, untrusted. The optimiser step of a branch's or the output projection's weights, `KAdamIdeal`, over the extended reals: the
  three arrays its blocks leave are the reference's change, first moment and second moment. Every window moves alike, so a block is the
  step of the arrays where the block lies.
-/
module

public import proofs.«01_k».proof.Defs
public import proofs.«01_k».proof.Proof.AdamStep
public import proofs.«01_k».proof.Proof.Gen.KAdamIdeal.Value
public import proofs.«01_k».proof.Proof.Gen.RAdamIdeal.Run
public import proofs.«01_k».proof.Proof.Gen.RAdamIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.Adam

open Idealize.ShloMosaic Idealize.SL.Sem Cert.KAdamIdeal
open Cert.KAdamIdeal.Gen Idealize.ShloMosaic.TcCoe
open Idealize.ShloMosaic.Pipeline (Dat)
open Cert.Proof.AdamStep

variable (m : (ℓ : Loc nD τ sig) → Buf (Elt Ideal) ℓ)

theorem hz : (![0, 0, 0] : Fin 3 → Nat) = fun _ => 0 := by funext a; fin_cases a <;> rfl

/-- Where the expressions read is the index itself. -/
theorem at_self (y : S1x128x1024.Idx) : Value.ix4_0 y = y := by
  funext a; apply Fin.ext
  match a with
  | ⟨0, _⟩ => have h : (y 0).val < 1 := (y 0).isLt; show 0 = (y 0).val; omega
  | ⟨1, _⟩ => rfl
  | ⟨2, _⟩ => rfl

section Blocks
variable (x0 x1 x2 x3 : Vec Ideal S1x128x1024 .f32) (y : S1x128x1024.Idx)

theorem out4_apply : out0_4 (F := Ideal) x0 x1 x2 x3 y = change (F := Ideal) (x0 y) (x1 y) (x2 y) (x3 y) := by
  unfold out0_4
  simp only [View.ld_unit_zero (S := S1x128x1024) hz]
  rw [Value.canon4_eq]
  show change (F := Ideal) (x0 (Value.ix4_0 y)) (x1 (Value.ix4_0 y)) (x2 (Value.ix4_0 y)) (x3 (Value.ix4_0 y)) = _
  rw [at_self]

theorem out5_apply : out0_5 (F := Ideal) x0 x1 x2 x3 y = moment (F := Ideal) (x1 y) (x2 y) := by
  unfold out0_5
  simp only [View.ld_unit_zero (S := S1x128x1024) hz]
  rw [Value.canon5_eq]
  show moment (F := Ideal) (x1 (Value.ix4_0 y)) (x2 (Value.ix4_0 y)) = _
  rw [at_self]

theorem out6_apply : out0_6 (F := Ideal) x0 x1 x2 x3 y = square (F := Ideal) (x1 y) (x3 y) := by
  unfold out0_6
  simp only [View.ld_unit_zero (S := S1x128x1024) hz]
  rw [Value.canon6_eq]
  show square (F := Ideal) (x1 (Value.ix4_0 y)) (x3 (Value.ix4_0 y)) = _
  rw [at_self]

end Blocks

/-- The block's place in the arrays. -/
abbrev place (t : Fin cfg0.N) (y : S1x128x1024.Idx) : S4x256x1024.Idx := (win0_0.rect t).emb y

theorem emb1 (t : Fin cfg0.N) (y : S1x128x1024.Idx) : ((win0_1.rect t).emb y : S4x256x1024.Idx) = place t y := rfl
theorem emb2 (t : Fin cfg0.N) (y : S1x128x1024.Idx) : ((win0_2.rect t).emb y : S4x256x1024.Idx) = place t y := rfl
theorem emb3 (t : Fin cfg0.N) (y : S1x128x1024.Idx) : ((win0_3.rect t).emb y : S4x256x1024.Idx) = place t y := rfl
theorem emb4 (t : Fin cfg0.N) (y : S1x128x1024.Idx) : ((win0_4.rect t).emb y : S4x256x1024.Idx) = place t y := rfl
theorem emb5 (t : Fin cfg0.N) (y : S1x128x1024.Idx) : ((win0_5.rect t).emb y : S4x256x1024.Idx) = place t y := rfl
theorem emb6 (t : Fin cfg0.N) (y : S1x128x1024.Idx) : ((win0_6.rect t).emb y : S4x256x1024.Idx) = place t y := rfl

theorem index_t : ∀ t : Fin cfg0.N, win0_0.index t = ![t.val / 2, t.val % 2, 0] :=
  (by decide +kernel : ∀ t : Fin grid0.N, win0_0.index t = ![t.val / 2, t.val % 2, 0])

/-- Every index lies in some block. -/
theorem split (i : S4x256x1024.Idx) : ∃ (t : Fin cfg0.N) (y : S1x128x1024.Idx), i = place t y := by
  have h0 : (i 0).val < 4 := (i 0).isLt
  have h1 : (i 1).val < 256 := (i 1).isLt
  refine ⟨(⟨(i 0).val * 2 + (i 1).val / 128, by show _ < 8; omega⟩ : Fin grid0.N),
    ix3 0 ⟨(i 1).val % 128, Nat.mod_lt _ (by decide)⟩ (i 2), ?_⟩
  funext a; apply Fin.ext
  rw [Pipeline.Window.rect_emb_val win0_0 _ _ a rfl, index_t]
  match a with
  | ⟨0, _⟩ => show (i 0).val = ((i 0).val * 2 + (i 1).val / 128) / 2 * 1 + 0; omega
  | ⟨1, _⟩ => show (i 1).val = ((i 0).val * 2 + (i 1).val / 128) % 2 * 128 + (i 1).val % 128; omega
  | ⟨2, _⟩ => show (i 2).val = 0 * 1024 + (i 2).val; omega

section Results
variable (w g a b : FVec Ideal S4x256x1024 .f32)

abbrev changes : FVec Ideal S4x256x1024 .f32 := Cert.RAdamIdeal.Read.val_main_v23 (F := Ideal) w g a b
abbrev moments : FVec Ideal S4x256x1024 .f32 := Cert.RAdamIdeal.Read.val_main_v4 (F := Ideal) g a
abbrev squares : FVec Ideal S4x256x1024 .f32 := Cert.RAdamIdeal.Read.val_main_v10 (F := Ideal) g b

end Results

abbrev result0 (c : Dev nD) : Buf (Elt Ideal) ((c : Thread nD τ).loc main_v0_0) :=
  changes (m ((c : Thread nD τ).loc main_arg0)) (m ((c : Thread nD τ).loc main_arg1)) (m ((c : Thread nD τ).loc main_arg2)) (m ((c : Thread nD τ).loc main_arg3))
abbrev result1 (c : Dev nD) : Buf (Elt Ideal) ((c : Thread nD τ).loc main_v0_1) :=
  moments (m ((c : Thread nD τ).loc main_arg1)) (m ((c : Thread nD τ).loc main_arg2))
abbrev result2 (c : Dev nD) : Buf (Elt Ideal) ((c : Thread nD τ).loc main_v0_2) :=
  squares (m ((c : Thread nD τ).loc main_arg1)) (m ((c : Thread nD τ).loc main_arg3))

theorem final4 (c : Dev nD) : (dats m 0 c).arrAt 4 cfg0.N = result0 m c := by
  refine (dats m 0 c).arrAt_eq_of_cover 4 (result0 m c) (fun t _ => ?_) fun i => ?_
  · rw [Value.flushed4 m c t]
    funext y
    exact out4_apply _ _ _ _ y
  · obtain ⟨t, y, rfl⟩ := split i
    refine ⟨t, flush0_4 t, ?_⟩
    rw [← emb4]
    exact View.emb_mem_set _ _

theorem final5 (c : Dev nD) : (dats m 0 c).arrAt 5 cfg0.N = result1 m c := by
  refine (dats m 0 c).arrAt_eq_of_cover 5 (result1 m c) (fun t _ => ?_) fun i => ?_
  · rw [Value.flushed5 m c t]
    funext y
    exact out5_apply _ _ _ _ y
  · obtain ⟨t, y, rfl⟩ := split i
    refine ⟨t, flush0_5 t, ?_⟩
    rw [← emb5]
    exact View.emb_mem_set _ _

theorem final6 (c : Dev nD) : (dats m 0 c).arrAt 6 cfg0.N = result2 m c := by
  refine (dats m 0 c).arrAt_eq_of_cover 6 (result2 m c) (fun t _ => ?_) fun i => ?_
  · rw [Value.flushed6 m c t]
    funext y
    exact out6_apply _ _ _ _ y
  · obtain ⟨t, y, rfl⟩ := split i
    refine ⟨t, flush0_6 t, ?_⟩
    rw [← emb6]
    exact View.emb_mem_set _ _

theorem frame_r : Cert.quiescent_RAdamIdeal := fun m ρ _ =>
  (θ_run _ _ _).mono (fun r h => ⟨fun c => (h c).2.2.2, sem_eq_zero_of_no_sems (by decide) r.2⟩) (Cert.RAdamIdeal.Value.run m ρ)

theorem algebraic : Cert.algebraic_KAdamIdeal_RAdamIdeal := by
  intro m g m' g' _ hm
  refine ⟨fun c => result0 m c, fun c => result1 m c, fun c => result2 m c, (θ_run _ _ _).mono (fun r h c =>
    ⟨(h c).1.trans (final4 m c), (h c).2.1.trans (final5 m c), (h c).2.2.1.trans (final6 m c), (h c).2.2.2⟩) (Value.run_blocks m g), ?_⟩
  refine (θ_run _ _ _).mono (fun r h c => ⟨?_, ?_, ?_, (h c).2.2.2⟩) (Cert.RAdamIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.Adam

end
-- ==== Proof.AdamC.lean ====
/-
  Hand-written, untrusted. The optimiser step of the last branch's weights, `KAdamCIdeal`, over the extended reals: the
  three arrays its blocks leave are the reference's change, first moment and second moment. Every window moves alike, so a block is the
  step of the arrays where the block lies.
-/
module

public import proofs.«01_k».proof.Defs
public import proofs.«01_k».proof.Proof.AdamStep
public import proofs.«01_k».proof.Proof.Gen.KAdamCIdeal.Value
public import proofs.«01_k».proof.Proof.Gen.RAdamCIdeal.Run
public import proofs.«01_k».proof.Proof.Gen.RAdamCIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.AdamC

open Idealize.ShloMosaic Idealize.SL.Sem Cert.KAdamCIdeal
open Cert.KAdamCIdeal.Gen Idealize.ShloMosaic.TcCoe
open Idealize.ShloMosaic.Pipeline (Dat)
open Cert.Proof.AdamStep

variable (m : (ℓ : Loc nD τ sig) → Buf (Elt Ideal) ℓ)

theorem hz : (![0, 0, 0] : Fin 3 → Nat) = fun _ => 0 := by funext a; fin_cases a <;> rfl

/-- Where the expressions read is the index itself. -/
theorem at_self (y : S1x128x1024.Idx) : Value.ix4_0 y = y := by
  funext a; apply Fin.ext
  match a with
  | ⟨0, _⟩ => have h : (y 0).val < 1 := (y 0).isLt; show 0 = (y 0).val; omega
  | ⟨1, _⟩ => rfl
  | ⟨2, _⟩ => rfl

section Blocks
variable (x0 x1 x2 x3 : Vec Ideal S1x128x1024 .f32) (y : S1x128x1024.Idx)

theorem out4_apply : out0_4 (F := Ideal) x0 x1 x2 x3 y = change (F := Ideal) (x0 y) (x1 y) (x2 y) (x3 y) := by
  unfold out0_4
  simp only [View.ld_unit_zero (S := S1x128x1024) hz]
  rw [Value.canon4_eq]
  show change (F := Ideal) (x0 (Value.ix4_0 y)) (x1 (Value.ix4_0 y)) (x2 (Value.ix4_0 y)) (x3 (Value.ix4_0 y)) = _
  rw [at_self]

theorem out5_apply : out0_5 (F := Ideal) x0 x1 x2 x3 y = moment (F := Ideal) (x1 y) (x2 y) := by
  unfold out0_5
  simp only [View.ld_unit_zero (S := S1x128x1024) hz]
  rw [Value.canon5_eq]
  show moment (F := Ideal) (x1 (Value.ix4_0 y)) (x2 (Value.ix4_0 y)) = _
  rw [at_self]

theorem out6_apply : out0_6 (F := Ideal) x0 x1 x2 x3 y = square (F := Ideal) (x1 y) (x3 y) := by
  unfold out0_6
  simp only [View.ld_unit_zero (S := S1x128x1024) hz]
  rw [Value.canon6_eq]
  show square (F := Ideal) (x1 (Value.ix4_0 y)) (x3 (Value.ix4_0 y)) = _
  rw [at_self]

end Blocks

/-- The block's place in the arrays. -/
abbrev place (t : Fin cfg0.N) (y : S1x128x1024.Idx) : S4x512x1024.Idx := (win0_0.rect t).emb y

theorem emb1 (t : Fin cfg0.N) (y : S1x128x1024.Idx) : ((win0_1.rect t).emb y : S4x512x1024.Idx) = place t y := rfl
theorem emb2 (t : Fin cfg0.N) (y : S1x128x1024.Idx) : ((win0_2.rect t).emb y : S4x512x1024.Idx) = place t y := rfl
theorem emb3 (t : Fin cfg0.N) (y : S1x128x1024.Idx) : ((win0_3.rect t).emb y : S4x512x1024.Idx) = place t y := rfl
theorem emb4 (t : Fin cfg0.N) (y : S1x128x1024.Idx) : ((win0_4.rect t).emb y : S4x512x1024.Idx) = place t y := rfl
theorem emb5 (t : Fin cfg0.N) (y : S1x128x1024.Idx) : ((win0_5.rect t).emb y : S4x512x1024.Idx) = place t y := rfl
theorem emb6 (t : Fin cfg0.N) (y : S1x128x1024.Idx) : ((win0_6.rect t).emb y : S4x512x1024.Idx) = place t y := rfl

theorem index_t : ∀ t : Fin cfg0.N, win0_0.index t = ![t.val / 4, t.val % 4, 0] :=
  (by decide +kernel : ∀ t : Fin grid0.N, win0_0.index t = ![t.val / 4, t.val % 4, 0])

/-- Every index lies in some block. -/
theorem split (i : S4x512x1024.Idx) : ∃ (t : Fin cfg0.N) (y : S1x128x1024.Idx), i = place t y := by
  have h0 : (i 0).val < 4 := (i 0).isLt
  have h1 : (i 1).val < 512 := (i 1).isLt
  refine ⟨(⟨(i 0).val * 4 + (i 1).val / 128, by show _ < 16; omega⟩ : Fin grid0.N),
    ix3 0 ⟨(i 1).val % 128, Nat.mod_lt _ (by decide)⟩ (i 2), ?_⟩
  funext a; apply Fin.ext
  rw [Pipeline.Window.rect_emb_val win0_0 _ _ a rfl, index_t]
  match a with
  | ⟨0, _⟩ => show (i 0).val = ((i 0).val * 4 + (i 1).val / 128) / 4 * 1 + 0; omega
  | ⟨1, _⟩ => show (i 1).val = ((i 0).val * 4 + (i 1).val / 128) % 4 * 128 + (i 1).val % 128; omega
  | ⟨2, _⟩ => show (i 2).val = 0 * 1024 + (i 2).val; omega

section Results
variable (w g a b : FVec Ideal S4x512x1024 .f32)

abbrev changes : FVec Ideal S4x512x1024 .f32 := Cert.RAdamCIdeal.Read.val_main_v23 (F := Ideal) w g a b
abbrev moments : FVec Ideal S4x512x1024 .f32 := Cert.RAdamCIdeal.Read.val_main_v4 (F := Ideal) g a
abbrev squares : FVec Ideal S4x512x1024 .f32 := Cert.RAdamCIdeal.Read.val_main_v10 (F := Ideal) g b

end Results

abbrev result0 (c : Dev nD) : Buf (Elt Ideal) ((c : Thread nD τ).loc main_v0_0) :=
  changes (m ((c : Thread nD τ).loc main_arg0)) (m ((c : Thread nD τ).loc main_arg1)) (m ((c : Thread nD τ).loc main_arg2)) (m ((c : Thread nD τ).loc main_arg3))
abbrev result1 (c : Dev nD) : Buf (Elt Ideal) ((c : Thread nD τ).loc main_v0_1) :=
  moments (m ((c : Thread nD τ).loc main_arg1)) (m ((c : Thread nD τ).loc main_arg2))
abbrev result2 (c : Dev nD) : Buf (Elt Ideal) ((c : Thread nD τ).loc main_v0_2) :=
  squares (m ((c : Thread nD τ).loc main_arg1)) (m ((c : Thread nD τ).loc main_arg3))

theorem final4 (c : Dev nD) : (dats m 0 c).arrAt 4 cfg0.N = result0 m c := by
  refine (dats m 0 c).arrAt_eq_of_cover 4 (result0 m c) (fun t _ => ?_) fun i => ?_
  · rw [Value.flushed4 m c t]
    funext y
    exact out4_apply _ _ _ _ y
  · obtain ⟨t, y, rfl⟩ := split i
    refine ⟨t, flush0_4 t, ?_⟩
    rw [← emb4]
    exact View.emb_mem_set _ _

theorem final5 (c : Dev nD) : (dats m 0 c).arrAt 5 cfg0.N = result1 m c := by
  refine (dats m 0 c).arrAt_eq_of_cover 5 (result1 m c) (fun t _ => ?_) fun i => ?_
  · rw [Value.flushed5 m c t]
    funext y
    exact out5_apply _ _ _ _ y
  · obtain ⟨t, y, rfl⟩ := split i
    refine ⟨t, flush0_5 t, ?_⟩
    rw [← emb5]
    exact View.emb_mem_set _ _

theorem final6 (c : Dev nD) : (dats m 0 c).arrAt 6 cfg0.N = result2 m c := by
  refine (dats m 0 c).arrAt_eq_of_cover 6 (result2 m c) (fun t _ => ?_) fun i => ?_
  · rw [Value.flushed6 m c t]
    funext y
    exact out6_apply _ _ _ _ y
  · obtain ⟨t, y, rfl⟩ := split i
    refine ⟨t, flush0_6 t, ?_⟩
    rw [← emb6]
    exact View.emb_mem_set _ _

theorem frame_r : Cert.quiescent_RAdamCIdeal := fun m ρ _ =>
  (θ_run _ _ _).mono (fun r h => ⟨fun c => (h c).2.2.2, sem_eq_zero_of_no_sems (by decide) r.2⟩) (Cert.RAdamCIdeal.Value.run m ρ)

theorem algebraic : Cert.algebraic_KAdamCIdeal_RAdamCIdeal := by
  intro m g m' g' _ hm
  refine ⟨fun c => result0 m c, fun c => result1 m c, fun c => result2 m c, (θ_run _ _ _).mono (fun r h c =>
    ⟨(h c).1.trans (final4 m c), (h c).2.1.trans (final5 m c), (h c).2.2.1.trans (final6 m c), (h c).2.2.2⟩) (Value.run_blocks m g), ?_⟩
  refine (θ_run _ _ _).mono (fun r h c => ⟨?_, ?_, ?_, (h c).2.2.2⟩) (Cert.RAdamCIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.AdamC

end
-- ==== Proof.AdamIn.lean ====
/-
  Hand-written, untrusted. The optimiser step of the input projection's weights, `KAdamInIdeal`, over the extended reals: the four arrays
  its 199 blocks leave are the reference's change, moments and gradient, each with the last axis in front. Every window moves alike, so a
  block is the step of the permuted arrays where the block lies.
-/
module

public import proofs.«01_k».proof.Defs
public import proofs.«01_k».proof.Proof.AdamStep
public import proofs.«01_k».proof.Proof.Gen.KAdamInIdeal.Value
public import proofs.«01_k».proof.Proof.Gen.RAdamInIdeal.Run
public import proofs.«01_k».proof.Proof.Gen.RAdamInIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

namespace Cert.Proof.AdamIn

open Idealize.ShloMosaic Idealize.SL.Sem Cert.KAdamInIdeal
open Cert.KAdamInIdeal.Gen Idealize.ShloMosaic.TcCoe
open Idealize.ShloMosaic.Pipeline (Dat)
open Cert.Proof.AdamStep

variable (m : (ℓ : Loc nD τ sig) → Buf (Elt Ideal) ℓ)

theorem hz : (![0, 0, 0] : Fin 3 → Nat) = fun _ => 0 := by funext a; fin_cases a <;> rfl

/-- Where the expressions read is the index itself. -/
theorem at_self (y : S20x4x1024.Idx) : Value.ix4_0 y = y := by
  funext a
  fin_cases a <;> rfl

section Blocks
variable (x0 x1 x2 x3 : Vec Ideal S20x4x1024 .f32) (y : S20x4x1024.Idx)

theorem out4_apply : out0_4 (F := Ideal) x0 x1 x2 x3 y = change (F := Ideal) (x0 y) (x1 y) (x2 y) (x3 y) := by
  unfold out0_4
  simp only [View.ld_unit_zero (S := S20x4x1024) hz]
  rw [Value.canon4_eq]
  show change (F := Ideal) (x0 (Value.ix4_0 y)) (x1 (Value.ix4_0 y)) (x2 (Value.ix4_0 y)) (x3 (Value.ix4_0 y)) = _
  rw [at_self]

theorem out5_apply : out0_5 (F := Ideal) x0 x1 x2 x3 y = moment (F := Ideal) (x1 y) (x2 y) := by
  unfold out0_5
  simp only [View.ld_unit_zero (S := S20x4x1024) hz]
  rw [Value.canon5_eq]
  show moment (F := Ideal) (x1 (Value.ix4_0 y)) (x2 (Value.ix4_0 y)) = _
  rw [at_self]

theorem out6_apply : out0_6 (F := Ideal) x0 x1 x2 x3 y = square (F := Ideal) (x1 y) (x3 y) := by
  unfold out0_6
  simp only [View.ld_unit_zero (S := S20x4x1024) hz]
  rw [Value.canon6_eq]
  show square (F := Ideal) (x1 (Value.ix4_0 y)) (x3 (Value.ix4_0 y)) = _
  rw [at_self]

theorem out7_apply : out0_7 (F := Ideal) x0 x1 x2 x3 y = x1 y := by
  unfold out0_7
  simp only [View.ld_unit_zero (S := S20x4x1024) hz]
  rw [Value.canon7_eq]
  show x1 (Value.ix4_0 y) = _
  rw [at_self]

end Blocks

/-- The block's place in the arrays. -/
abbrev place (t : Fin cfg0.N) (y : S20x4x1024.Idx) : S3980x4x1024.Idx := (win0_0.rect t).emb y

theorem emb1 (t : Fin cfg0.N) (y : S20x4x1024.Idx) : ((win0_1.rect t).emb y : S3980x4x1024.Idx) = place t y := rfl
theorem emb2 (t : Fin cfg0.N) (y : S20x4x1024.Idx) : ((win0_2.rect t).emb y : S3980x4x1024.Idx) = place t y := rfl
theorem emb3 (t : Fin cfg0.N) (y : S20x4x1024.Idx) : ((win0_3.rect t).emb y : S3980x4x1024.Idx) = place t y := rfl
theorem emb4 (t : Fin cfg0.N) (y : S20x4x1024.Idx) : ((win0_4.rect t).emb y : S3980x4x1024.Idx) = place t y := rfl
theorem emb5 (t : Fin cfg0.N) (y : S20x4x1024.Idx) : ((win0_5.rect t).emb y : S3980x4x1024.Idx) = place t y := rfl
theorem emb6 (t : Fin cfg0.N) (y : S20x4x1024.Idx) : ((win0_6.rect t).emb y : S3980x4x1024.Idx) = place t y := rfl

theorem emb7 (t : Fin cfg0.N) (y : S20x4x1024.Idx) : ((win0_7.rect t).emb y : S3980x4x1024.Idx) = place t y := rfl

theorem index_t : ∀ t : Fin cfg0.N, win0_0.index t = ![t.val, 0, 0] :=
  (by decide +kernel : ∀ t : Fin grid0.N, win0_0.index t = ![t.val, 0, 0])

/-- Every index lies in some block. -/
theorem split (i : S3980x4x1024.Idx) : ∃ (t : Fin cfg0.N) (y : S20x4x1024.Idx), i = place t y := by
  have h0 : (i 0).val < 3980 := (i 0).isLt
  refine ⟨(⟨(i 0).val / 20, by show _ < 199; omega⟩ : Fin grid0.N), ix3 ⟨(i 0).val % 20, Nat.mod_lt _ (by decide)⟩ (i 1) (i 2), ?_⟩
  funext a; apply Fin.ext
  rw [Pipeline.Window.rect_emb_val win0_0 _ _ a rfl, index_t]
  match a with
  | ⟨0, _⟩ => exact (Nat.div_add_mod' (i 0).val 20).symm
  | ⟨1, _⟩ => show (i 1).val = 0 * 4 + (i 1).val; omega
  | ⟨2, _⟩ => show (i 2).val = 0 * 1024 + (i 2).val; omega

/-- An array with its last axis in front, as the kernel's host lays its arguments. -/
abbrev front (x : FVec Ideal S4x1024x3980 .f32) : FVec Ideal S3980x4x1024 .f32 :=
  transpose S3980x4x1024 [2, 0, 1] x transposes_S4x1024x3980_S3980x4x1024_2_0_1

theorem host0 (c : Dev nD) : V m c main_v0 = front (m ((c : Thread nD τ).loc main_arg0)) := by
  unfold_abbrev_sides
  after_results
theorem host1 (c : Dev nD) : V m c main_v1 = front (m ((c : Thread nD τ).loc main_arg1)) := by
  unfold_abbrev_sides
  after_results
theorem host2 (c : Dev nD) : V m c main_v2 = front (m ((c : Thread nD τ).loc main_arg2)) := by
  unfold_abbrev_sides
  after_results
theorem host3 (c : Dev nD) : V m c main_v3 = front (m ((c : Thread nD τ).loc main_arg3)) := by
  unfold_abbrev_sides
  after_results

abbrev result0 (c : Dev nD) : Buf (Elt Ideal) ((c : Thread nD τ).loc main_v4_0) :=
  Cert.RAdamInIdeal.Read.val_main_v24 (F := Ideal) (m ((c : Thread nD τ).loc main_arg0)) (m ((c : Thread nD τ).loc main_arg1)) (m ((c : Thread nD τ).loc main_arg2)) (m ((c : Thread nD τ).loc main_arg3))
abbrev result1 (c : Dev nD) : Buf (Elt Ideal) ((c : Thread nD τ).loc main_v4_1) :=
  Cert.RAdamInIdeal.Read.val_main_v25 (F := Ideal) (m ((c : Thread nD τ).loc main_arg1)) (m ((c : Thread nD τ).loc main_arg2))
abbrev result2 (c : Dev nD) : Buf (Elt Ideal) ((c : Thread nD τ).loc main_v4_2) :=
  Cert.RAdamInIdeal.Read.val_main_v26 (F := Ideal) (m ((c : Thread nD τ).loc main_arg1)) (m ((c : Thread nD τ).loc main_arg3))
abbrev result3 (c : Dev nD) : Buf (Elt Ideal) ((c : Thread nD τ).loc main_v4_3) :=
  Cert.RAdamInIdeal.Read.val_main_v27 (F := Ideal) (m ((c : Thread nD τ).loc main_arg1))

/-- The unpermuted step, read through the axis order, is the step of the permuted arrays. -/
theorem front_step (w g a b : FVec Ideal S4x1024x3980 .f32) (i : S3980x4x1024.Idx) :
    Cert.RAdamInIdeal.Read.val_main_v24 (F := Ideal) w g a b i = change (F := Ideal) (front w i) (front g i) (front a i) (front b i)
    ∧ Cert.RAdamInIdeal.Read.val_main_v25 (F := Ideal) g a i = moment (F := Ideal) (front g i) (front a i)
    ∧ Cert.RAdamInIdeal.Read.val_main_v26 (F := Ideal) g b i = square (F := Ideal) (front g i) (front b i)
    ∧ Cert.RAdamInIdeal.Read.val_main_v27 (F := Ideal) g i = front g i :=
  ⟨rfl, rfl, rfl, rfl⟩

theorem final4 (c : Dev nD) : (dats m 0 c).arrAt 4 cfg0.N = result0 m c := by
  refine (dats m 0 c).arrAt_eq_of_cover 4 (result0 m c) (fun t _ => ?_) fun i => ?_
  · rw [Value.flushed4 m c t]
    funext y
    refine (out4_apply _ _ _ _ y).trans ?_
    show change (F := Ideal) (V m c main_v0 (place t y)) (V m c main_v1 (place t y)) (V m c main_v2 (place t y)) (V m c main_v3 (place t y)) = result0 m c (place t y)
    rw [host0, host1, host2, host3]
    exact (front_step (m ((c : Thread nD τ).loc main_arg0)) (m ((c : Thread nD τ).loc main_arg1)) (m ((c : Thread nD τ).loc main_arg2)) (m ((c : Thread nD τ).loc main_arg3)) (place t y)).1.symm
  · obtain ⟨t, y, rfl⟩ := split i
    refine ⟨t, flush0_4 t, ?_⟩
    rw [← emb4]
    exact View.emb_mem_set _ _

theorem final5 (c : Dev nD) : (dats m 0 c).arrAt 5 cfg0.N = result1 m c := by
  refine (dats m 0 c).arrAt_eq_of_cover 5 (result1 m c) (fun t _ => ?_) fun i => ?_
  · rw [Value.flushed5 m c t]
    funext y
    refine (out5_apply _ _ _ _ y).trans ?_
    show moment (F := Ideal) (V m c main_v1 (place t y)) (V m c main_v2 (place t y)) = result1 m c (place t y)
    rw [host1, host2]
    exact (front_step (m ((c : Thread nD τ).loc main_arg0)) (m ((c : Thread nD τ).loc main_arg1)) (m ((c : Thread nD τ).loc main_arg2)) (m ((c : Thread nD τ).loc main_arg3)) (place t y)).2.1.symm
  · obtain ⟨t, y, rfl⟩ := split i
    refine ⟨t, flush0_5 t, ?_⟩
    rw [← emb5]
    exact View.emb_mem_set _ _

theorem final6 (c : Dev nD) : (dats m 0 c).arrAt 6 cfg0.N = result2 m c := by
  refine (dats m 0 c).arrAt_eq_of_cover 6 (result2 m c) (fun t _ => ?_) fun i => ?_
  · rw [Value.flushed6 m c t]
    funext y
    refine (out6_apply _ _ _ _ y).trans ?_
    show square (F := Ideal) (V m c main_v1 (place t y)) (V m c main_v3 (place t y)) = result2 m c (place t y)
    rw [host1, host3]
    exact (front_step (m ((c : Thread nD τ).loc main_arg0)) (m ((c : Thread nD τ).loc main_arg1)) (m ((c : Thread nD τ).loc main_arg2)) (m ((c : Thread nD τ).loc main_arg3)) (place t y)).2.2.1.symm
  · obtain ⟨t, y, rfl⟩ := split i
    refine ⟨t, flush0_6 t, ?_⟩
    rw [← emb6]
    exact View.emb_mem_set _ _

theorem final7 (c : Dev nD) : (dats m 0 c).arrAt 7 cfg0.N = result3 m c := by
  refine (dats m 0 c).arrAt_eq_of_cover 7 (result3 m c) (fun t _ => ?_) fun i => ?_
  · rw [Value.flushed7 m c t]
    funext y
    refine (out7_apply _ _ _ _ y).trans ?_
    show V m c main_v1 (place t y) = result3 m c (place t y)
    rw [host1]
    exact (front_step (m ((c : Thread nD τ).loc main_arg0)) (m ((c : Thread nD τ).loc main_arg1)) (m ((c : Thread nD τ).loc main_arg2)) (m ((c : Thread nD τ).loc main_arg3)) (place t y)).2.2.2.symm
  · obtain ⟨t, y, rfl⟩ := split i
    refine ⟨t, flush0_7 t, ?_⟩
    rw [← emb7]
    exact View.emb_mem_set _ _

theorem frame_r : Cert.quiescent_RAdamInIdeal := fun m ρ _ =>
  (θ_run _ _ _).mono (fun r h => ⟨fun c => (h c).2.2.2.2, sem_eq_zero_of_no_sems (by decide) r.2⟩) (Cert.RAdamInIdeal.Value.run m ρ)

theorem algebraic : Cert.algebraic_KAdamInIdeal_RAdamInIdeal := by
  intro m g m' g' _ hm
  refine ⟨fun c => result0 m c, fun c => result1 m c, fun c => result2 m c, fun c => result3 m c, (θ_run _ _ _).mono (fun r h c =>
    ⟨(h c).1.trans (final4 m c), (h c).2.1.trans (final5 m c), (h c).2.2.1.trans (final6 m c), (h c).2.2.2.1.trans (final7 m c),
      (h c).2.2.2.2⟩) (Value.run_blocks m g), ?_⟩
  refine (θ_run _ _ _).mono (fun r h c => ⟨?_, ?_, ?_, ?_, (h c).2.2.2.2⟩) (Cert.RAdamInIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl
  · rw [(h c).2.2.2.1, (hm c).2.1]; rfl

end Cert.Proof.AdamIn

end
-- ==== Proof.AdamConvB.lean ====
/-
  Hand-written, untrusted. The optimiser step of the first recurrence's convolution weights, `KAdamConvBIdeal`, over the extended reals: the three
  arrays the kernel leaves are the reference's change, first moment and second moment, operation for operation.
-/
module

public import proofs.«01_k».proof.Defs
public import proofs.«01_k».proof.Proof.Gen.KAdamConvBIdeal.Value
public import proofs.«01_k».proof.Proof.Gen.RAdamConvBIdeal.Run
public import Idealize.ShloMosaic.Lib.Quiescent

@[expose] public section

noncomputable section

namespace Cert.Proof.AdamConvB

open Idealize.ShloMosaic Idealize.SL.Sem Cert.KAdamConvBIdeal

theorem frame_r : Cert.quiescent_RAdamConvBIdeal := fun m ρ _ =>
  (θ_run _ _ _).mono (fun r h => ⟨fun c => (h c).2.2.2, sem_eq_zero_of_no_sems (by decide) r.2⟩) (Cert.RAdamConvBIdeal.Value.run m ρ)

theorem algebraic : Cert.algebraic_KAdamConvBIdeal_RAdamConvBIdeal := by
  intro m g m' g' _ hm
  refine ⟨_, _, _, Value.run m g, ?_⟩
  refine (θ_run _ _ _).mono (fun r h c => ⟨?_, ?_, ?_, (h c).2.2.2⟩) (Cert.RAdamConvBIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.AdamConvB

end
-- ==== Proof.AdamConvC.lean ====
/-
  Hand-written, untrusted. The optimiser step of the second recurrence's convolution weights, `KAdamConvCIdeal`, over the extended reals: the three
  arrays the kernel leaves are the reference's change, first moment and second moment, operation for operation.
-/
module

public import proofs.«01_k».proof.Defs
public import proofs.«01_k».proof.Proof.Gen.KAdamConvCIdeal.Value
public import proofs.«01_k».proof.Proof.Gen.RAdamConvCIdeal.Run
public import Idealize.ShloMosaic.Lib.Quiescent

@[expose] public section

noncomputable section

namespace Cert.Proof.AdamConvC

open Idealize.ShloMosaic Idealize.SL.Sem Cert.KAdamConvCIdeal

theorem frame_r : Cert.quiescent_RAdamConvCIdeal := fun m ρ _ =>
  (θ_run _ _ _).mono (fun r h => ⟨fun c => (h c).2.2.2, sem_eq_zero_of_no_sems (by decide) r.2⟩) (Cert.RAdamConvCIdeal.Value.run m ρ)

theorem algebraic : Cert.algebraic_KAdamConvCIdeal_RAdamConvCIdeal := by
  intro m g m' g' _ hm
  refine ⟨_, _, _, Value.run m g, ?_⟩
  refine (θ_run _ _ _).mono (fun r h c => ⟨?_, ?_, ?_, (h c).2.2.2⟩) (Cert.RAdamConvCIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.AdamConvC

end
-- ==== Proof.AdamMeta.lean ====
/-
  Hand-written, untrusted. The optimiser step of the meta tokens, `KAdamMetaIdeal`, over the extended reals: the three arrays the kernel
  leaves are the reference's change, first moment and second moment, operation for operation.
-/
module

public import proofs.«01_k».proof.Defs
public import proofs.«01_k».proof.Proof.Gen.KAdamMetaIdeal.Value
public import proofs.«01_k».proof.Proof.Gen.RAdamMetaIdeal.Run
public import Idealize.ShloMosaic.Lib.Quiescent

@[expose] public section

noncomputable section

namespace Cert.Proof.AdamMeta

open Idealize.ShloMosaic Idealize.SL.Sem Cert.KAdamMetaIdeal

theorem frame_r : Cert.quiescent_RAdamMetaIdeal := fun m ρ _ =>
  (θ_run _ _ _).mono (fun r h => ⟨fun c => (h c).2.2.2, sem_eq_zero_of_no_sems (by decide) r.2⟩) (Cert.RAdamMetaIdeal.Value.run m ρ)

theorem algebraic : Cert.algebraic_KAdamMetaIdeal_RAdamMetaIdeal := by
  intro m g m' g' _ hm
  refine ⟨_, _, _, Value.run m g, ?_⟩
  refine (θ_run _ _ _).mono (fun r h c => ⟨?_, ?_, ?_, (h c).2.2.2⟩) (Cert.RAdamMetaIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.AdamMeta

end
-- ==== Proof.AdamSmall.lean ====
/-
  Hand-written, untrusted. The optimiser step of the packed replicated weights, `KAdamSmallIdeal`, over the extended reals: the three arrays the kernel
  leaves are the reference's change, first moment and second moment, operation for operation.
-/
module

public import proofs.«01_k».proof.Defs
public import proofs.«01_k».proof.Proof.Gen.KAdamSmallIdeal.Value
public import proofs.«01_k».proof.Proof.Gen.RAdamSmallIdeal.Run
public import Idealize.ShloMosaic.Lib.Quiescent

@[expose] public section

noncomputable section

namespace Cert.Proof.AdamSmall

open Idealize.ShloMosaic Idealize.SL.Sem Cert.KAdamSmallIdeal

theorem frame_r : Cert.quiescent_RAdamSmallIdeal := fun m ρ _ =>
  (θ_run _ _ _).mono (fun r h => ⟨fun c => (h c).2.2.2, sem_eq_zero_of_no_sems (by decide) r.2⟩) (Cert.RAdamSmallIdeal.Value.run m ρ)

theorem algebraic : Cert.algebraic_KAdamSmallIdeal_RAdamSmallIdeal := by
  intro m g m' g' _ hm
  refine ⟨_, _, _, Value.run m g, ?_⟩
  refine (θ_run _ _ _).mono (fun r h c => ⟨?_, ?_, ?_, (h c).2.2.2⟩) (Cert.RAdamSmallIdeal.Value.run m' g')
  · rw [(h c).1, (hm c).1, (hm c).2.1, (hm c).2.2.1, (hm c).2.2.2]; rfl
  · rw [(h c).2.1, (hm c).2.1, (hm c).2.2.1]; rfl
  · rw [(h c).2.2.1, (hm c).2.1, (hm c).2.2.2]; rfl

end Cert.Proof.AdamSmall

end
-- ==== Proof.lean ====
/- Hand-written, untrusted. The proof of `Cert.Claim` (Defs.lean): the frames are the generated ones, each `preserves` is of a
   program the ideal pass rewrote nothing in, and each product's value claim is its module's under Proof/. -/
module

public import proofs.«01_k».proof.Defs
public import proofs.«01_k».proof.Proof.Gen.Kernel
public import proofs.«01_k».proof.Proof.Gen.KernelIdeal
public import proofs.«01_k».proof.Proof.Gen.KGWin
public import proofs.«01_k».proof.Proof.Gen.KGWinIdeal
public import proofs.«01_k».proof.Proof.Gen.RGWinIdeal
public import proofs.«01_k».proof.Proof.Gen.KDMerged
public import proofs.«01_k».proof.Proof.Gen.KDMergedIdeal
public import proofs.«01_k».proof.Proof.Gen.RDMergedIdeal
public import proofs.«01_k».proof.Proof.Gen.KGWout
public import proofs.«01_k».proof.Proof.Gen.KGWoutIdeal
public import proofs.«01_k».proof.Proof.Gen.RGWoutIdeal
public import proofs.«01_k».proof.Proof.Gen.KProj
public import proofs.«01_k».proof.Proof.Gen.KProjIdeal
public import proofs.«01_k».proof.Proof.Gen.RProjIdeal
public import proofs.«01_k».proof.Proof.Gen.Kernel.Frame
public import proofs.«01_k».proof.Proof.Gen.KernelIdeal.Frame
public import proofs.«01_k».proof.Proof.Gen.KGWin.Frame
public import proofs.«01_k».proof.Proof.Gen.KGWinIdeal.Frame
public import proofs.«01_k».proof.Proof.Gen.KDMerged.Frame
public import proofs.«01_k».proof.Proof.Gen.KDMergedIdeal.Frame
public import proofs.«01_k».proof.Proof.Gen.KGWout.Frame
public import proofs.«01_k».proof.Proof.Gen.KGWoutIdeal.Frame
public import proofs.«01_k».proof.Proof.Gen.KProj.Frame
public import proofs.«01_k».proof.Proof.Gen.KProjIdeal.Frame
public import proofs.«01_k».proof.Proof.Gen.KDU
public import proofs.«01_k».proof.Proof.Gen.KDUIdeal
public import proofs.«01_k».proof.Proof.Gen.RDUIdeal
public import proofs.«01_k».proof.Proof.Gen.KDU.Frame
public import proofs.«01_k».proof.Proof.Gen.KDUIdeal.Value
public import proofs.«01_k».proof.Proof.Gen.RDUIdeal.Run
public import proofs.«01_k».proof.Proof.Gen.RDUIdeal.Read
public import proofs.«01_k».proof.Proof.Gen.KBranch
public import proofs.«01_k».proof.Proof.Gen.KBranchIdeal
public import proofs.«01_k».proof.Proof.Gen.RBranchIdeal
public import proofs.«01_k».proof.Proof.Gen.KBranch.Frame
public import proofs.«01_k».proof.Proof.Gen.KBranchIdeal.Value
public import proofs.«01_k».proof.Proof.Gen.RBranchIdeal.Run
public import proofs.«01_k».proof.Proof.Gen.RBranchIdeal.Read
public import proofs.«01_k».proof.Proof.Gen.KBranchC
public import proofs.«01_k».proof.Proof.Gen.KBranchCIdeal
public import proofs.«01_k».proof.Proof.Gen.RBranchCIdeal
public import proofs.«01_k».proof.Proof.Gen.KBranchC.Frame
public import proofs.«01_k».proof.Proof.Gen.KBranchCIdeal.Value
public import proofs.«01_k».proof.Proof.Gen.RBranchCIdeal.Run
public import proofs.«01_k».proof.Proof.Gen.RBranchCIdeal.Read
public import proofs.«01_k».proof.Proof.Gen.KGWBranch
public import proofs.«01_k».proof.Proof.Gen.KGWBranchIdeal
public import proofs.«01_k».proof.Proof.Gen.RGWBranchIdeal
public import proofs.«01_k».proof.Proof.Gen.KGWBranch.Frame
public import proofs.«01_k».proof.Proof.Gen.KGWBranchIdeal.Value
public import proofs.«01_k».proof.Proof.Gen.RGWBranchIdeal.Run
public import proofs.«01_k».proof.Proof.Gen.RGWBranchIdeal.Read
public import proofs.«01_k».proof.Proof.Gen.KGWBranchC
public import proofs.«01_k».proof.Proof.Gen.KGWBranchCIdeal
public import proofs.«01_k».proof.Proof.Gen.RGWBranchCIdeal
public import proofs.«01_k».proof.Proof.Gen.KGWBranchC.Frame
public import proofs.«01_k».proof.Proof.Gen.KGWBranchCIdeal.Value
public import proofs.«01_k».proof.Proof.Gen.RGWBranchCIdeal.Run
public import proofs.«01_k».proof.Proof.Gen.RGWBranchCIdeal.Read
public import proofs.«01_k».proof.Proof.Gen.KDO
public import proofs.«01_k».proof.Proof.Gen.KDOIdeal
public import proofs.«01_k».proof.Proof.Gen.RDOIdeal
public import proofs.«01_k».proof.Proof.Gen.KDO.Frame
public import proofs.«01_k».proof.Proof.Gen.KDOIdeal.Value
public import proofs.«01_k».proof.Proof.Gen.RDOIdeal.Run
public import proofs.«01_k».proof.Proof.Gen.RDOIdeal.Read
public import proofs.«01_k».proof.Proof.Gen.KDOC
public import proofs.«01_k».proof.Proof.Gen.KDOCIdeal
public import proofs.«01_k».proof.Proof.Gen.RDOCIdeal
public import proofs.«01_k».proof.Proof.Gen.KDOC.Frame
public import proofs.«01_k».proof.Proof.Gen.KDOCIdeal.Value
public import proofs.«01_k».proof.Proof.Gen.RDOCIdeal.Run
public import proofs.«01_k».proof.Proof.Gen.RDOCIdeal.Read
public import proofs.«01_k».proof.Proof.Gen.KOut
public import proofs.«01_k».proof.Proof.Gen.KOutIdeal
public import proofs.«01_k».proof.Proof.Gen.ROutIdeal
public import proofs.«01_k».proof.Proof.Gen.KOut.Frame
public import proofs.«01_k».proof.Proof.Gen.KOutIdeal.Value
public import proofs.«01_k».proof.Proof.Gen.ROutIdeal.Run
public import proofs.«01_k».proof.Proof.Gen.ROutIdeal.Read
public import proofs.«01_k».proof.Proof.GWin
public import proofs.«01_k».proof.Proof.DMerged
public import proofs.«01_k».proof.Proof.GWout
public import proofs.«01_k».proof.Proof.Projection
public import proofs.«01_k».proof.Proof.DU
public import proofs.«01_k».proof.Proof.Branch
public import proofs.«01_k».proof.Proof.BranchC
public import proofs.«01_k».proof.Proof.GWBranch
public import proofs.«01_k».proof.Proof.GWBranchC
public import proofs.«01_k».proof.Proof.DO
public import proofs.«01_k».proof.Proof.DOC
public import proofs.«01_k».proof.Proof.OutProjection
public import proofs.«01_k».proof.Proof.Gen.KMerge
public import proofs.«01_k».proof.Proof.Gen.KMergeIdeal
public import proofs.«01_k».proof.Proof.Gen.RMergeIdeal
public import proofs.«01_k».proof.Proof.Gen.KMerge.Frame
public import proofs.«01_k».proof.Proof.Gen.KMergeIdeal.Value
public import proofs.«01_k».proof.Proof.Gen.RMergeIdeal.Run
public import proofs.«01_k».proof.Proof.Gen.RMergeIdeal.Read
public import proofs.«01_k».proof.Proof.Gen.KGateA
public import proofs.«01_k».proof.Proof.Gen.KGateAIdeal
public import proofs.«01_k».proof.Proof.Gen.RGateAIdeal
public import proofs.«01_k».proof.Proof.Gen.KGateA.Frame
public import proofs.«01_k».proof.Proof.Gen.KGateAIdeal.Value
public import proofs.«01_k».proof.Proof.Gen.RGateAIdeal.Run
public import proofs.«01_k».proof.Proof.Gen.RGateAIdeal.Read
public import proofs.«01_k».proof.Proof.Gen.KRms
public import proofs.«01_k».proof.Proof.Gen.KRmsIdeal
public import proofs.«01_k».proof.Proof.Gen.RRmsIdeal
public import proofs.«01_k».proof.Proof.Gen.KRms.Frame
public import proofs.«01_k».proof.Proof.Gen.KRmsIdeal.Value
public import proofs.«01_k».proof.Proof.Gen.RRmsIdeal.Run
public import proofs.«01_k».proof.Proof.Gen.RRmsIdeal.Read
public import proofs.«01_k».proof.Proof.Gen.KGateB
public import proofs.«01_k».proof.Proof.Gen.KGateBIdeal
public import proofs.«01_k».proof.Proof.Gen.RGateBIdeal
public import proofs.«01_k».proof.Proof.Gen.KGateB.Frame
public import proofs.«01_k».proof.Proof.Gen.KGateBIdeal.Value
public import proofs.«01_k».proof.Proof.Gen.RGateBIdeal.Run
public import proofs.«01_k».proof.Proof.Gen.RGateBIdeal.Read
public import proofs.«01_k».proof.Proof.Gen.KGateC
public import proofs.«01_k».proof.Proof.Gen.KGateCIdeal
public import proofs.«01_k».proof.Proof.Gen.RGateCIdeal
public import proofs.«01_k».proof.Proof.Gen.KGateC.Frame
public import proofs.«01_k».proof.Proof.Gen.KGateCIdeal.Value
public import proofs.«01_k».proof.Proof.Gen.RGateCIdeal.Run
public import proofs.«01_k».proof.Proof.Gen.RGateCIdeal.Read
public import proofs.«01_k».proof.Proof.Gen.KConvC
public import proofs.«01_k».proof.Proof.Gen.KConvCIdeal
public import proofs.«01_k».proof.Proof.Gen.RConvCIdeal
public import proofs.«01_k».proof.Proof.Gen.KConvC.Frame
public import proofs.«01_k».proof.Proof.Gen.KConvCIdeal.Value
public import proofs.«01_k».proof.Proof.Gen.RConvCIdeal.Run
public import proofs.«01_k».proof.Proof.Gen.RConvCIdeal.Read
public import proofs.«01_k».proof.Proof.Gen.KConvB
public import proofs.«01_k».proof.Proof.Gen.KConvBIdeal
public import proofs.«01_k».proof.Proof.Gen.RConvBIdeal
public import proofs.«01_k».proof.Proof.Gen.KConvB.Frame
public import proofs.«01_k».proof.Proof.Gen.KConvBIdeal.Value
public import proofs.«01_k».proof.Proof.Gen.RConvBIdeal.Run
public import proofs.«01_k».proof.Proof.Gen.RConvBIdeal.Read
public import proofs.«01_k».proof.Proof.Gen.KRmsF
public import proofs.«01_k».proof.Proof.Gen.KRmsFIdeal
public import proofs.«01_k».proof.Proof.Gen.RRmsFIdeal
public import proofs.«01_k».proof.Proof.Gen.KRmsF.Frame
public import proofs.«01_k».proof.Proof.Gen.KRmsFIdeal.Value
public import proofs.«01_k».proof.Proof.Gen.RRmsFIdeal.Run
public import proofs.«01_k».proof.Proof.Gen.RRmsFIdeal.Read
public import proofs.«01_k».proof.Proof.Gen.KGateAF
public import proofs.«01_k».proof.Proof.Gen.KGateAFIdeal
public import proofs.«01_k».proof.Proof.Gen.RGateAFIdeal
public import proofs.«01_k».proof.Proof.Gen.KGateAF.Frame
public import proofs.«01_k».proof.Proof.Gen.KGateAFIdeal.Value
public import proofs.«01_k».proof.Proof.Gen.RGateAFIdeal.Run
public import proofs.«01_k».proof.Proof.Gen.RGateAFIdeal.Read
public import proofs.«01_k».proof.Proof.Gen.KGateBF
public import proofs.«01_k».proof.Proof.Gen.KGateBFIdeal
public import proofs.«01_k».proof.Proof.Gen.RGateBFIdeal
public import proofs.«01_k».proof.Proof.Gen.KGateBF.Frame
public import proofs.«01_k».proof.Proof.Gen.KGateBFIdeal.Value
public import proofs.«01_k».proof.Proof.Gen.RGateBFIdeal.Run
public import proofs.«01_k».proof.Proof.Gen.RGateBFIdeal.Read
public import proofs.«01_k».proof.Proof.Gen.KGateCF
public import proofs.«01_k».proof.Proof.Gen.KGateCFIdeal
public import proofs.«01_k».proof.Proof.Gen.RGateCFIdeal
public import proofs.«01_k».proof.Proof.Gen.KGateCF.Frame
public import proofs.«01_k».proof.Proof.Gen.KGateCFIdeal.Value
public import proofs.«01_k».proof.Proof.Gen.RGateCFIdeal.Run
public import proofs.«01_k».proof.Proof.Gen.RGateCFIdeal.Read
public import proofs.«01_k».proof.Proof.Gen.KMergeF
public import proofs.«01_k».proof.Proof.Gen.KMergeFIdeal
public import proofs.«01_k».proof.Proof.Gen.RMergeFIdeal
public import proofs.«01_k».proof.Proof.Gen.KMergeF.Frame
public import proofs.«01_k».proof.Proof.Gen.KMergeFIdeal.Value
public import proofs.«01_k».proof.Proof.Gen.RMergeFIdeal.Run
public import proofs.«01_k».proof.Proof.Gen.RMergeFIdeal.Read
public import proofs.«01_k».proof.Proof.Gen.KConvCF
public import proofs.«01_k».proof.Proof.Gen.KConvCFIdeal
public import proofs.«01_k».proof.Proof.Gen.RConvCFIdeal
public import proofs.«01_k».proof.Proof.Gen.KConvCF.Frame
public import proofs.«01_k».proof.Proof.Gen.KConvCFIdeal.Value
public import proofs.«01_k».proof.Proof.Gen.RConvCFIdeal.Run
public import proofs.«01_k».proof.Proof.Gen.RConvCFIdeal.Read
public import proofs.«01_k».proof.Proof.Gen.KConvBF
public import proofs.«01_k».proof.Proof.Gen.KConvBFIdeal
public import proofs.«01_k».proof.Proof.Gen.RConvBFIdeal
public import proofs.«01_k».proof.Proof.Gen.KConvBF.Frame
public import proofs.«01_k».proof.Proof.Gen.KConvBFIdeal.Value
public import proofs.«01_k».proof.Proof.Gen.RConvBFIdeal.Run
public import proofs.«01_k».proof.Proof.Gen.RConvBFIdeal.Read
public import proofs.«01_k».proof.Proof.Merge
public import proofs.«01_k».proof.Proof.GateA
public import proofs.«01_k».proof.Proof.Rms
public import proofs.«01_k».proof.Proof.GateB
public import proofs.«01_k».proof.Proof.GateC
public import proofs.«01_k».proof.Proof.ConvC
public import proofs.«01_k».proof.Proof.ConvB
public import proofs.«01_k».proof.Proof.RmsF
public import proofs.«01_k».proof.Proof.GateAF
public import proofs.«01_k».proof.Proof.GateBF
public import proofs.«01_k».proof.Proof.GateCF
public import proofs.«01_k».proof.Proof.MergeF
public import proofs.«01_k».proof.Proof.ConvCF
public import proofs.«01_k».proof.Proof.ConvBF
public import proofs.«01_k».proof.Proof.Gen.KGatesF
public import proofs.«01_k».proof.Proof.Gen.KGatesFIdeal
public import proofs.«01_k».proof.Proof.Gen.RGatesFIdeal
public import proofs.«01_k».proof.Proof.Gen.KGatesF.Frame
public import proofs.«01_k».proof.Proof.Gen.KGatesFIdeal.Value
public import proofs.«01_k».proof.Proof.Gen.RGatesFIdeal.Run
public import proofs.«01_k».proof.Proof.Gen.RGatesFIdeal.Read
public import proofs.«01_k».proof.Proof.GatesF
public import proofs.«01_k».proof.Proof.Gen.KLoss
public import proofs.«01_k».proof.Proof.Gen.KLossIdeal
public import proofs.«01_k».proof.Proof.Gen.RLossIdeal
public import proofs.«01_k».proof.Proof.Gen.KLoss.Frame
public import proofs.«01_k».proof.Proof.Gen.KLossIdeal.Value
public import proofs.«01_k».proof.Proof.Gen.RLossIdeal.Run
public import proofs.«01_k».proof.Proof.Gen.RLossIdeal.Read
public import proofs.«01_k».proof.Proof.Loss
public import proofs.«01_k».proof.Proof.Gen.KAdam
public import proofs.«01_k».proof.Proof.Gen.KAdamIdeal
public import proofs.«01_k».proof.Proof.Gen.RAdamIdeal
public import proofs.«01_k».proof.Proof.Gen.KAdam.Frame
public import proofs.«01_k».proof.Proof.Gen.KAdamIdeal.Value
public import proofs.«01_k».proof.Proof.Gen.RAdamIdeal.Run
public import proofs.«01_k».proof.Proof.Gen.RAdamIdeal.Read
public import proofs.«01_k».proof.Proof.Adam
public import proofs.«01_k».proof.Proof.Gen.KAdamC
public import proofs.«01_k».proof.Proof.Gen.KAdamCIdeal
public import proofs.«01_k».proof.Proof.Gen.RAdamCIdeal
public import proofs.«01_k».proof.Proof.Gen.KAdamC.Frame
public import proofs.«01_k».proof.Proof.Gen.KAdamCIdeal.Value
public import proofs.«01_k».proof.Proof.Gen.RAdamCIdeal.Run
public import proofs.«01_k».proof.Proof.Gen.RAdamCIdeal.Read
public import proofs.«01_k».proof.Proof.AdamC
public import proofs.«01_k».proof.Proof.Gen.KAdamIn
public import proofs.«01_k».proof.Proof.Gen.KAdamInIdeal
public import proofs.«01_k».proof.Proof.Gen.RAdamInIdeal
public import proofs.«01_k».proof.Proof.Gen.KAdamIn.Frame
public import proofs.«01_k».proof.Proof.Gen.KAdamInIdeal.Value
public import proofs.«01_k».proof.Proof.Gen.RAdamInIdeal.Run
public import proofs.«01_k».proof.Proof.Gen.RAdamInIdeal.Read
public import proofs.«01_k».proof.Proof.AdamIn
public import proofs.«01_k».proof.Proof.Gen.KAdamConvB
public import proofs.«01_k».proof.Proof.Gen.KAdamConvBIdeal
public import proofs.«01_k».proof.Proof.Gen.RAdamConvBIdeal
public import proofs.«01_k».proof.Proof.Gen.KAdamConvB.Frame
public import proofs.«01_k».proof.Proof.Gen.KAdamConvBIdeal.Value
public import proofs.«01_k».proof.Proof.Gen.RAdamConvBIdeal.Run
public import proofs.«01_k».proof.Proof.Gen.RAdamConvBIdeal.Read
public import proofs.«01_k».proof.Proof.AdamConvB
public import proofs.«01_k».proof.Proof.Gen.KAdamConvC
public import proofs.«01_k».proof.Proof.Gen.KAdamConvCIdeal
public import proofs.«01_k».proof.Proof.Gen.RAdamConvCIdeal
public import proofs.«01_k».proof.Proof.Gen.KAdamConvC.Frame
public import proofs.«01_k».proof.Proof.Gen.KAdamConvCIdeal.Value
public import proofs.«01_k».proof.Proof.Gen.RAdamConvCIdeal.Run
public import proofs.«01_k».proof.Proof.Gen.RAdamConvCIdeal.Read
public import proofs.«01_k».proof.Proof.AdamConvC
public import proofs.«01_k».proof.Proof.Gen.KAdamMeta
public import proofs.«01_k».proof.Proof.Gen.KAdamMetaIdeal
public import proofs.«01_k».proof.Proof.Gen.RAdamMetaIdeal
public import proofs.«01_k».proof.Proof.Gen.KAdamMeta.Frame
public import proofs.«01_k».proof.Proof.Gen.KAdamMetaIdeal.Value
public import proofs.«01_k».proof.Proof.Gen.RAdamMetaIdeal.Run
public import proofs.«01_k».proof.Proof.Gen.RAdamMetaIdeal.Read
public import proofs.«01_k».proof.Proof.AdamMeta
public import proofs.«01_k».proof.Proof.Gen.KAdamSmall
public import proofs.«01_k».proof.Proof.Gen.KAdamSmallIdeal
public import proofs.«01_k».proof.Proof.Gen.RAdamSmallIdeal
public import proofs.«01_k».proof.Proof.Gen.KAdamSmall.Frame
public import proofs.«01_k».proof.Proof.Gen.KAdamSmallIdeal.Value
public import proofs.«01_k».proof.Proof.Gen.RAdamSmallIdeal.Run
public import proofs.«01_k».proof.Proof.Gen.RAdamSmallIdeal.Read
public import proofs.«01_k».proof.Proof.AdamSmall
public import proofs.«01_k».proof.Proof.Gen.KSsdBwd
public import proofs.«01_k».proof.Proof.Gen.KSsdBwdIdeal
public import proofs.«01_k».proof.Proof.Gen.KSsdBwd.Frame
public import proofs.«01_k».proof.Proof.Gen.KSsdBwdIdeal.Frame
public import proofs.«01_k».proof.Proof.Gen.KGdnFwd
public import proofs.«01_k».proof.Proof.Gen.KGdnFwdIdeal
public import proofs.«01_k».proof.Proof.Gen.KGdnFwd.Frame
public import proofs.«01_k».proof.Proof.Gen.KGdnFwdIdeal.Frame
public import proofs.«01_k».proof.Proof.Gen.KSsdFwd
public import proofs.«01_k».proof.Proof.Gen.KSsdFwdIdeal
public import proofs.«01_k».proof.Proof.Gen.KSsdFwd.Frame
public import proofs.«01_k».proof.Proof.Gen.KSsdFwdIdeal.Frame

@[expose] public section

noncomputable section

namespace Cert.Proof

open Idealize.ShloMosaic Idealize.SL.Sem

theorem claim : Cert.Claim := ⟨Cert.Kernel.Gen.facts,
  Cert.KernelIdeal.Gen.facts,
  Cert.KGWin.Gen.facts,
  Cert.KGWinIdeal.Gen.facts,
  Cert.RGWinIdeal.Gen.facts,
  Cert.KDMerged.Gen.facts,
  Cert.KDMergedIdeal.Gen.facts,
  Cert.RDMergedIdeal.Gen.facts,
  Cert.KGWout.Gen.facts,
  Cert.KGWoutIdeal.Gen.facts,
  Cert.RGWoutIdeal.Gen.facts,
  Cert.KProj.Gen.facts,
  Cert.KProjIdeal.Gen.facts,
  Cert.RProjIdeal.Gen.facts,
  Cert.KDU.Gen.facts,
  Cert.KDUIdeal.Gen.facts,
  Cert.RDUIdeal.Gen.facts,
  Cert.KBranch.Gen.facts,
  Cert.KBranchIdeal.Gen.facts,
  Cert.RBranchIdeal.Gen.facts,
  Cert.KBranchC.Gen.facts,
  Cert.KBranchCIdeal.Gen.facts,
  Cert.RBranchCIdeal.Gen.facts,
  Cert.KGWBranch.Gen.facts,
  Cert.KGWBranchIdeal.Gen.facts,
  Cert.RGWBranchIdeal.Gen.facts,
  Cert.KGWBranchC.Gen.facts,
  Cert.KGWBranchCIdeal.Gen.facts,
  Cert.RGWBranchCIdeal.Gen.facts,
  Cert.KDO.Gen.facts,
  Cert.KDOIdeal.Gen.facts,
  Cert.RDOIdeal.Gen.facts,
  Cert.KDOC.Gen.facts,
  Cert.KDOCIdeal.Gen.facts,
  Cert.RDOCIdeal.Gen.facts,
  Cert.KOut.Gen.facts,
  Cert.KOutIdeal.Gen.facts,
  Cert.ROutIdeal.Gen.facts,
  Cert.KMerge.Gen.facts,
  Cert.KMergeIdeal.Gen.facts,
  Cert.RMergeIdeal.Gen.facts,
  Cert.KGateA.Gen.facts,
  Cert.KGateAIdeal.Gen.facts,
  Cert.RGateAIdeal.Gen.facts,
  Cert.KRms.Gen.facts,
  Cert.KRmsIdeal.Gen.facts,
  Cert.RRmsIdeal.Gen.facts,
  Cert.KGateB.Gen.facts,
  Cert.KGateBIdeal.Gen.facts,
  Cert.RGateBIdeal.Gen.facts,
  Cert.KGateC.Gen.facts,
  Cert.KGateCIdeal.Gen.facts,
  Cert.RGateCIdeal.Gen.facts,
  Cert.KConvC.Gen.facts,
  Cert.KConvCIdeal.Gen.facts,
  Cert.RConvCIdeal.Gen.facts,
  Cert.KConvB.Gen.facts,
  Cert.KConvBIdeal.Gen.facts,
  Cert.RConvBIdeal.Gen.facts,
  Cert.KRmsF.Gen.facts,
  Cert.KRmsFIdeal.Gen.facts,
  Cert.RRmsFIdeal.Gen.facts,
  Cert.KGateAF.Gen.facts,
  Cert.KGateAFIdeal.Gen.facts,
  Cert.RGateAFIdeal.Gen.facts,
  Cert.KGateBF.Gen.facts,
  Cert.KGateBFIdeal.Gen.facts,
  Cert.RGateBFIdeal.Gen.facts,
  Cert.KGateCF.Gen.facts,
  Cert.KGateCFIdeal.Gen.facts,
  Cert.RGateCFIdeal.Gen.facts,
  Cert.KMergeF.Gen.facts,
  Cert.KMergeFIdeal.Gen.facts,
  Cert.RMergeFIdeal.Gen.facts,
  Cert.KConvCF.Gen.facts,
  Cert.KConvCFIdeal.Gen.facts,
  Cert.RConvCFIdeal.Gen.facts,
  Cert.KConvBF.Gen.facts,
  Cert.KConvBFIdeal.Gen.facts,
  Cert.RConvBFIdeal.Gen.facts,
  Cert.KGatesF.Gen.facts,
  Cert.KGatesFIdeal.Gen.facts,
  Cert.RGatesFIdeal.Gen.facts,
  Cert.KLoss.Gen.facts,
  Cert.KLossIdeal.Gen.facts,
  Cert.RLossIdeal.Gen.facts,
  Cert.KAdam.Gen.facts,
  Cert.KAdamIdeal.Gen.facts,
  Cert.RAdamIdeal.Gen.facts,
  Cert.KAdamC.Gen.facts,
  Cert.KAdamCIdeal.Gen.facts,
  Cert.RAdamCIdeal.Gen.facts,
  Cert.KAdamIn.Gen.facts,
  Cert.KAdamInIdeal.Gen.facts,
  Cert.RAdamInIdeal.Gen.facts,
  Cert.KAdamConvB.Gen.facts,
  Cert.KAdamConvBIdeal.Gen.facts,
  Cert.RAdamConvBIdeal.Gen.facts,
  Cert.KAdamConvC.Gen.facts,
  Cert.KAdamConvCIdeal.Gen.facts,
  Cert.RAdamConvCIdeal.Gen.facts,
  Cert.KAdamMeta.Gen.facts,
  Cert.KAdamMetaIdeal.Gen.facts,
  Cert.RAdamMetaIdeal.Gen.facts,
  Cert.KAdamSmall.Gen.facts,
  Cert.KAdamSmallIdeal.Gen.facts,
  Cert.RAdamSmallIdeal.Gen.facts,
  Cert.KSsdBwd.Gen.facts,
  Cert.KSsdBwdIdeal.Gen.facts,
  Cert.KGdnFwd.Gen.facts,
  Cert.KGdnFwdIdeal.Gen.facts,
  Cert.KSsdFwd.Gen.facts,
  Cert.KSsdFwdIdeal.Gen.facts,
  fun m ρ _ => Cert.Kernel.Gen.frame m ρ,
  fun m ρ _ => Cert.KernelIdeal.Gen.frame m ρ,
  fun m ρ _ => Cert.KGWin.Gen.frame m ρ,
  fun m ρ _ => Cert.KGWinIdeal.Gen.frame m ρ,
  GWin.frame_r,
  fun m ρ _ => Cert.KDMerged.Gen.frame m ρ,
  fun m ρ _ => Cert.KDMergedIdeal.Gen.frame m ρ,
  DMerged.frame_r,
  fun m ρ _ => Cert.KGWout.Gen.frame m ρ,
  fun m ρ _ => Cert.KGWoutIdeal.Gen.frame m ρ,
  GWout.frame_r,
  fun m ρ _ => Cert.KProj.Gen.frame m ρ,
  fun m ρ _ => Cert.KProjIdeal.Gen.frame m ρ,
  Projection.frame_r,
  fun m ρ _ => Cert.KDU.Gen.frame m ρ,
  fun m ρ _ => Cert.KDUIdeal.Gen.frame m ρ,
  DU.frame_r,
  fun m ρ _ => Cert.KBranch.Gen.frame m ρ,
  fun m ρ _ => Cert.KBranchIdeal.Gen.frame m ρ,
  Branch.frame_r,
  fun m ρ _ => Cert.KBranchC.Gen.frame m ρ,
  fun m ρ _ => Cert.KBranchCIdeal.Gen.frame m ρ,
  BranchC.frame_r,
  fun m ρ _ => Cert.KGWBranch.Gen.frame m ρ,
  fun m ρ _ => Cert.KGWBranchIdeal.Gen.frame m ρ,
  GWBranch.frame_r,
  fun m ρ _ => Cert.KGWBranchC.Gen.frame m ρ,
  fun m ρ _ => Cert.KGWBranchCIdeal.Gen.frame m ρ,
  GWBranchC.frame_r,
  fun m ρ _ => Cert.KDO.Gen.frame m ρ,
  fun m ρ _ => Cert.KDOIdeal.Gen.frame m ρ,
  DO.frame_r,
  fun m ρ _ => Cert.KDOC.Gen.frame m ρ,
  fun m ρ _ => Cert.KDOCIdeal.Gen.frame m ρ,
  DOC.frame_r,
  fun m ρ _ => Cert.KOut.Gen.frame m ρ,
  fun m ρ _ => Cert.KOutIdeal.Gen.frame m ρ,
  OutProjection.frame_r,
  fun m ρ _ => Cert.KMerge.Gen.frame m ρ,
  fun m ρ _ => Cert.KMergeIdeal.Gen.frame m ρ,
  Merge.frame_r,
  fun m ρ _ => Cert.KGateA.Gen.frame m ρ,
  fun m ρ _ => Cert.KGateAIdeal.Gen.frame m ρ,
  GateA.frame_r,
  fun m ρ _ => Cert.KRms.Gen.frame m ρ,
  fun m ρ _ => Cert.KRmsIdeal.Gen.frame m ρ,
  Rms.frame_r,
  fun m ρ _ => Cert.KGateB.Gen.frame m ρ,
  fun m ρ _ => Cert.KGateBIdeal.Gen.frame m ρ,
  GateB.frame_r,
  fun m ρ _ => Cert.KGateC.Gen.frame m ρ,
  fun m ρ _ => Cert.KGateCIdeal.Gen.frame m ρ,
  GateC.frame_r,
  fun m ρ _ => Cert.KConvC.Gen.frame m ρ,
  fun m ρ _ => Cert.KConvCIdeal.Gen.frame m ρ,
  ConvC.frame_r,
  fun m ρ _ => Cert.KConvB.Gen.frame m ρ,
  fun m ρ _ => Cert.KConvBIdeal.Gen.frame m ρ,
  ConvB.frame_r,
  fun m ρ _ => Cert.KRmsF.Gen.frame m ρ,
  fun m ρ _ => Cert.KRmsFIdeal.Gen.frame m ρ,
  RmsF.frame_r,
  fun m ρ _ => Cert.KGateAF.Gen.frame m ρ,
  fun m ρ _ => Cert.KGateAFIdeal.Gen.frame m ρ,
  GateAF.frame_r,
  fun m ρ _ => Cert.KGateBF.Gen.frame m ρ,
  fun m ρ _ => Cert.KGateBFIdeal.Gen.frame m ρ,
  GateBF.frame_r,
  fun m ρ _ => Cert.KGateCF.Gen.frame m ρ,
  fun m ρ _ => Cert.KGateCFIdeal.Gen.frame m ρ,
  GateCF.frame_r,
  fun m ρ _ => Cert.KMergeF.Gen.frame m ρ,
  fun m ρ _ => Cert.KMergeFIdeal.Gen.frame m ρ,
  MergeF.frame_r,
  fun m ρ _ => Cert.KConvCF.Gen.frame m ρ,
  fun m ρ _ => Cert.KConvCFIdeal.Gen.frame m ρ,
  ConvCF.frame_r,
  fun m ρ _ => Cert.KConvBF.Gen.frame m ρ,
  fun m ρ _ => Cert.KConvBFIdeal.Gen.frame m ρ,
  ConvBF.frame_r,
  fun m ρ _ => Cert.KGatesF.Gen.frame m ρ,
  fun m ρ _ => Cert.KGatesFIdeal.Gen.frame m ρ,
  GatesF.frame_r,
  fun m ρ _ => Cert.KLoss.Gen.frame m ρ,
  fun m ρ _ => Cert.KLossIdeal.Gen.frame m ρ,
  Loss.frame_r,
  fun m ρ _ => Cert.KAdam.Gen.frame m ρ,
  fun m ρ _ => Cert.KAdamIdeal.Gen.frame m ρ,
  Adam.frame_r,
  fun m ρ _ => Cert.KAdamC.Gen.frame m ρ,
  fun m ρ _ => Cert.KAdamCIdeal.Gen.frame m ρ,
  AdamC.frame_r,
  fun m ρ _ => Cert.KAdamIn.Gen.frame m ρ,
  fun m ρ _ => Cert.KAdamInIdeal.Gen.frame m ρ,
  AdamIn.frame_r,
  fun m ρ _ => Cert.KAdamConvB.Gen.frame m ρ,
  fun m ρ _ => Cert.KAdamConvBIdeal.Gen.frame m ρ,
  AdamConvB.frame_r,
  fun m ρ _ => Cert.KAdamConvC.Gen.frame m ρ,
  fun m ρ _ => Cert.KAdamConvCIdeal.Gen.frame m ρ,
  AdamConvC.frame_r,
  fun m ρ _ => Cert.KAdamMeta.Gen.frame m ρ,
  fun m ρ _ => Cert.KAdamMetaIdeal.Gen.frame m ρ,
  AdamMeta.frame_r,
  fun m ρ _ => Cert.KAdamSmall.Gen.frame m ρ,
  fun m ρ _ => Cert.KAdamSmallIdeal.Gen.frame m ρ,
  AdamSmall.frame_r,
  fun m ρ _ => Cert.KSsdBwd.Gen.frame m ρ,
  fun m ρ _ => Cert.KSsdBwdIdeal.Gen.frame m ρ,
  fun m ρ _ => Cert.KGdnFwd.Gen.frame m ρ,
  fun m ρ _ => Cert.KGdnFwdIdeal.Gen.frame m ρ,
  fun m ρ _ => Cert.KSsdFwd.Gen.frame m ρ,
  fun m ρ _ => Cert.KSsdFwdIdeal.Gen.frame m ρ,
  trivial,
  trivial,
  GWin.algebraic,
  trivial,
  DMerged.algebraic,
  trivial,
  GWout.algebraic,
  trivial,
  Projection.algebraic,
  trivial,
  DU.algebraic,
  trivial,
  Branch.algebraic,
  trivial,
  BranchC.algebraic,
  trivial,
  GWBranch.algebraic,
  trivial,
  GWBranchC.algebraic,
  trivial,
  DO.algebraic,
  trivial,
  DOC.algebraic,
  trivial,
  OutProjection.algebraic,
  trivial,
  Merge.algebraic,
  trivial,
  GateA.algebraic,
  trivial,
  Rms.algebraic,
  trivial,
  GateB.algebraic,
  trivial,
  GateC.algebraic,
  trivial,
  ConvC.algebraic,
  trivial,
  ConvB.algebraic,
  trivial,
  RmsF.algebraic,
  trivial,
  GateAF.algebraic,
  trivial,
  GateBF.algebraic,
  trivial,
  GateCF.algebraic,
  trivial,
  MergeF.algebraic,
  trivial,
  ConvCF.algebraic,
  trivial,
  ConvBF.algebraic,
  trivial,
  GatesF.algebraic,
  trivial,
  Loss.algebraic,
  trivial,
  Adam.algebraic,
  trivial,
  AdamC.algebraic,
  trivial,
  AdamIn.algebraic,
  trivial,
  AdamConvB.algebraic,
  trivial,
  AdamConvC.algebraic,
  trivial,
  AdamMeta.algebraic,
  trivial,
  AdamSmall.algebraic,
  trivial,
  trivial,
  trivial⟩

end Cert.Proof

end
